-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quantized [hPre_quantized : Cert.Pre_quantized.Facts] (m : (ℓ : Loc Cert.KernelIdeal.nD Cert.KernelIdeal.τ Cert.KernelIdeal.sig) → Buf (Elt Ideal) ℓ) : Prop :=
  ∀ c : Dev Cert.KernelIdeal.nD,
    (Cert.Pre_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_quantized.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quantized [hPre_quantized : Cert.Pre_quantized.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quantized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_quantized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_quantized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_quantized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_quantized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_quantized.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_quantized [hKernelIdeal : Cert.KernelIdeal.Facts] [hPre_quantized : Cert.Pre_quantized.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quantized m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_quantized [hReferenceIdeal : Cert.ReferenceIdeal.Facts] [hPre_quantized : Cert.Pre_quantized.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quantized m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_quantized [hKernelIdeal : Cert.KernelIdeal.Facts] [hReferenceIdeal : Cert.ReferenceIdeal.Facts] [hPre_quantized : Cert.Pre_quantized.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quantized m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_quantized : Cert.Pre_quantized.Facts),
    quiescent_Kernel (hKernel := hKernel)
    ∧ quiescent_KernelIdeal (hKernelIdeal := hKernelIdeal)
    ∧ quiescent_KernelIdeal_pre_quantized (hKernelIdeal := hKernelIdeal) (hPre_quantized := hPre_quantized)
    ∧ quiescent_ReferenceIdeal (hReferenceIdeal := hReferenceIdeal)
    ∧ quiescent_ReferenceIdeal_pre_quantized (hReferenceIdeal := hReferenceIdeal) (hPre_quantized := hPre_quantized)
    ∧ preserves_Kernel_KernelIdeal
    ∧ algebraic_KernelIdeal_ReferenceIdeal_pre_quantized (hKernelIdeal := hKernelIdeal) (hReferenceIdeal := hReferenceIdeal) (hPre_quantized := hPre_quantized)
-- ==== Pre_quantized.lean ====
abbrev S4x512x640x64 : Shape := ⟨4, ![4, 512, 640, 64]⟩
abbrev S_ : Shape := ⟨0, ![]⟩
abbrev S3x3x128 : Shape := ⟨3, ![3, 3, 128]⟩
abbrev S128 : Shape := ⟨1, ![128]⟩

class Facts : Prop where
  bcast_S_S128 : S_.BroadcastsInDim S128 (![] : Fin 0 → Fin S128.rank)

variable [Facts]

def fn_part1 {F : FTy → Type} [FloatOps F] (main_arg8 : IVec S_ 32) (main_v2 : IVec S_ 1) (main_v4 : IVec S128 1) (main_v9 : IVec S128 1) (main_v12 : IVec S_ 1) (main_v13 : IVec S_ 1) (main_v14 : IVec S_ 1) : IVec S_ 1 × IVec S128 1 × IVec S128 1 × IVec S_ 1 × IVec S_ 1 × IVec S_ 1 :=
  let main_v15 : IVec S_ 1 := andi main_v13 main_v14
  let main_c_8 : IVec S_ 32 := constantI S_ 32 3758096384#32
  let main_v16 : IVec S_ 1 := cmpi .sge main_arg8 main_c_8
  let main_c_9 : IVec S_ 32 := constantI S_ 32 536870912#32
  let main_v17 : IVec S_ 1 := cmpi .sle main_arg8 main_c_9
  let main_v18 : IVec S_ 1 := andi main_v16 main_v17
  (main_v2, main_v4, main_v9, main_v12, main_v15, main_v18)

def fn {F : FTy → Type} [FloatOps F] (main_arg0 : IVec S4x512x640x64 8) (main_arg1 : IVec S_ 32) (main_arg2 : IVec S3x3x128 8) (main_arg3 : IVec S128 32) (main_arg4 : IVec S128 32) (main_arg5 : IVec S128 32) (main_arg6 : IVec S_ 32) (main_arg7 : IVec S_ 32) (main_arg8 : IVec S_ 32) : IVec S_ 1 × IVec S128 1 × IVec S128 1 × IVec S_ 1 × IVec S_ 1 × IVec S_ 1 :=
  let main_c : IVec S_ 32 := constantI S_ 32 4294967168#32
  let main_v0 : IVec S_ 1 := cmpi .sge main_arg1 main_c
  let main_c_0 : IVec S_ 32 := constantI S_ 32 127#32
  let main_v1 : IVec S_ 1 := cmpi .sle main_arg1 main_c_0
  let main_v2 : IVec S_ 1 := andi main_v0 main_v1
  let main_c_1 : IVec S_ 32 := constantI S_ 32 0#32
  let main_v3 : IVec S128 32 := broadcastInDim S128 ![] bcast_S_S128 main_c_1
  let main_v4 : IVec S128 1 := cmpi .sge main_arg4 main_v3
  let main_c_2 : IVec S_ 32 := constantI S_ 32 4294967265#32
  let main_v5 : IVec S128 32 := broadcastInDim S128 ![] bcast_S_S128 main_c_2
  let main_v6 : IVec S128 1 := cmpi .sge main_arg5 main_v5
  let main_c_3 : IVec S_ 32 := constantI S_ 32 0#32
  let main_v7 : IVec S128 32 := broadcastInDim S128 ![] bcast_S_S128 main_c_3
  let main_v8 : IVec S128 1 := cmpi .sle main_arg5 main_v7
  let main_v9 : IVec S128 1 := andi main_v6 main_v8
  let main_c_4 : IVec S_ 32 := constantI S_ 32 3758096384#32
  let main_v10 : IVec S_ 1 := cmpi .sge main_arg6 main_c_4
  let main_c_5 : IVec S_ 32 := constantI S_ 32 536870912#32
  let main_v11 : IVec S_ 1 := cmpi .sle main_arg6 main_c_5
  let main_v12 : IVec S_ 1 := andi main_v10 main_v11
  let main_c_6 : IVec S_ 32 := constantI S_ 32 3758096384#32
  let main_v13 : IVec S_ 1 := cmpi .sge main_arg7 main_c_6
  let main_c_7 : IVec S_ 32 := constantI S_ 32 536870912#32
  let main_v14 : IVec S_ 1 := cmpi .sle main_arg7 main_c_7
  fn_part1 (F := F) main_arg8 main_v2 main_v4 main_v9 main_v12 main_v13 main_v14
-- ==== Kernel.lean ====
abbrev S4x512x640x64 : Shape := ⟨4, ![4, 512, 640, 64]⟩
abbrev S_ : Shape := ⟨0, ![]⟩
abbrev S3x3x128 : Shape := ⟨3, ![3, 3, 128]⟩
abbrev S128 : Shape := ⟨1, ![128]⟩
abbrev S4x512x64x640 : Shape := ⟨4, ![4, 512, 64, 640]⟩
abbrev S1 : Shape := ⟨1, ![1]⟩
abbrev S9x128 : Shape := ⟨2, ![9, 128]⟩
abbrev S1x128 : Shape := ⟨2, ![1, 128]⟩
abbrev S4x256x320x128 : Shape := ⟨4, ![4, 256, 320, 128]⟩
abbrev S1x64x64x640 : Shape := ⟨4, ![1, 64, 64, 640]⟩
abbrev S1x1x64x640 : Shape := ⟨4, ![1, 1, 64, 640]⟩
abbrev S1x32x320x128 : Shape := ⟨4, ![1, 32, 320, 128]⟩
abbrev S2x128x512 : Shape := ⟨3, ![2, 128, 512]⟩
abbrev S5x128x128 : Shape := ⟨3, ![5, 128, 128]⟩
abbrev S3x128x128 : Shape := ⟨3, ![3, 128, 128]⟩
abbrev S2x2x864x640 : Shape := ⟨4, ![2, 2, 864, 640]⟩
abbrev S128x128 : Shape := ⟨2, ![128, 128]⟩
abbrev S1x128x128 : Shape := ⟨3, ![1, 128, 128]⟩
abbrev S1x1x1 : Shape := ⟨3, ![1, 1, 1]⟩
abbrev S64x128 : Shape := ⟨2, ![64, 128]⟩
abbrev S1x64x128 : Shape := ⟨3, ![1, 64, 128]⟩
abbrev S8x128 : Shape := ⟨2, ![8, 128]⟩
abbrev S16x256 : Shape := ⟨2, ![16, 256]⟩
abbrev S1x1x32x128 : Shape := ⟨4, ![1, 1, 32, 128]⟩
abbrev S32x128 : Shape := ⟨2, ![32, 128]⟩
abbrev S8x128x1 : Shape := ⟨3, ![8, 128, 1]⟩
abbrev S1x1x480x256 : Shape := ⟨4, ![1, 1, 480, 256]⟩
abbrev S480x256 : Shape := ⟨2, ![480, 256]⟩
abbrev S496x256 : Shape := ⟨2, ![496, 256]⟩
abbrev S1x128x496 : Shape := ⟨3, ![1, 128, 496]⟩
abbrev S128x496 : Shape := ⟨2, ![128, 496]⟩
abbrev S128x256 : Shape := ⟨2, ![128, 256]⟩
abbrev S64x256 : Shape := ⟨2, ![64, 256]⟩
abbrev S1x1x128x128 : Shape := ⟨4, ![1, 1, 128, 128]⟩
abbrev S1x1x64x128 : Shape := ⟨4, ![1, 1, 64, 128]⟩
abbrev S1x1x480x128 : Shape := ⟨4, ![1, 1, 480, 128]⟩
abbrev S480x128 : Shape := ⟨2, ![480, 128]⟩

abbrev nBuf : Space → Nat
  | .hbm => 20
  | .vmem => 14
  | .smem => 5
  | _ => 0

abbrev bufTy : (tb : Table) → Fin (tcTables nBuf tb) → BufTy
  | .hbm, ⟨0, _⟩ => ⟨S4x512x640x64, .i8⟩
  | .hbm, ⟨1, _⟩ => ⟨S_, .i32⟩
  | .hbm, ⟨2, _⟩ => ⟨S3x3x128, .i8⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4x512x64x640, .i8⟩
  | .hbm, ⟨10, _⟩ => ⟨S1, .i32⟩
  | .hbm, ⟨11, _⟩ => ⟨S1, .i32⟩
  | .hbm, ⟨12, _⟩ => ⟨S1, .i32⟩
  | .hbm, ⟨13, _⟩ => ⟨S1, .i32⟩
  | .hbm, ⟨14, _⟩ => ⟨S9x128, .i8⟩
  | .hbm, ⟨15, _⟩ => ⟨S9x128, .i32⟩
  | .hbm, ⟨16, _⟩ => ⟨S1x128, .i32⟩
  | .hbm, ⟨17, _⟩ => ⟨S1x128, .i32⟩
  | .hbm, ⟨18, _⟩ => ⟨S1x128, .i32⟩
  | .hbm, ⟨19, _⟩ => ⟨S4x256x320x128, .i8⟩
  | .local _ .vmem, ⟨0, _⟩ => ⟨S1x64x64x640, .i8⟩
  | .local _ .vmem, ⟨1, _⟩ => ⟨S1x64x64x640, .i8⟩
  | .local _ .vmem, ⟨2, _⟩ => ⟨S1x1x64x640, .i8⟩
  | .local _ .vmem, ⟨3, _⟩ => ⟨S1x1x64x640, .i8⟩
  | .local _ .vmem, ⟨4, _⟩ => ⟨S9x128, .i32⟩
  | .local _ .vmem, ⟨5, _⟩ => ⟨S1x128, .i32⟩
  | .local _ .vmem, ⟨6, _⟩ => ⟨S1x128, .i32⟩
  | .local _ .vmem, ⟨7, _⟩ => ⟨S1x128, .i32⟩
  | .local _ .vmem, ⟨8, _⟩ => ⟨S1x32x320x128, .i8⟩
  | .local _ .vmem, ⟨9, _⟩ => ⟨S1x32x320x128, .i8⟩
  | .local _ .vmem, ⟨10, _⟩ => ⟨S2x128x512, .bf16⟩
  | .local _ .vmem, ⟨11, _⟩ => ⟨S5x128x128, .f32⟩
  | .local _ .vmem, ⟨12, _⟩ => ⟨S3x128x128, .i32⟩
  | .local _ .vmem, ⟨13, _⟩ => ⟨S2x2x864x640, .bf16⟩
  | .local _ .smem, ⟨0, _⟩ => ⟨S1, .i32⟩
  | .local _ .smem, ⟨1, _⟩ => ⟨S1, .i32⟩
  | .local _ .smem, ⟨2, _⟩ => ⟨S1, .i32⟩
  | .local _ .smem, ⟨3, _⟩ => ⟨S1, .i32⟩
  | .local _ .smem, ⟨4, _⟩ => ⟨S1, .i32⟩
  | _, _ => ⟨S4x512x640x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg10_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_scratch4 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_17 : BitVec 32 := 0#32
  let c2_i32_18 : BitVec 32 := 2#32
  let v53 : BitVec 32 := Scalar.addi c0_i32_17 c2_i32_18
  let c1_i32_19 : BitVec 32 := 1#32
  ⟨c0_i32_17, v53, c1_i32_19⟩
def k0_mult1 (k0_t1 : Fin k0_t1_loop.trips) : BitVec 32 :=
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  v55
def k0_mult2 : BitVec 32 :=
  let c0_i32_24 : BitVec 32 := 0#32
  c0_i32_24
def k0_off1 (k0_t1 : Fin k0_t1_loop.trips) : Fin 4 → Nat :=
  let c0_25 : Index := 0#32
  let c0_26 : Index := 0#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v58 : Index := Scalar.indexCast v56
  let c0_27 : Index := 0#32
  ![0, 0, v58.toNat, 0]
def k0_off2 (k0_t1 : Fin k0_t1_loop.trips) : Fin 4 → Nat :=
  let c0_28 : Index := 0#32
  let c0_29 : Index := 0#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v62 : Index := Scalar.indexCast v56
  let c128 : Index := 128#32
  ![0, 0, v62.toNat, 128]
def k0_off3 (k0_t1 : Fin k0_t1_loop.trips) : Fin 4 → Nat :=
  let c0_30 : Index := 0#32
  let c0_31 : Index := 0#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v66 : Index := Scalar.indexCast v56
  let c256 : Index := 256#32
  ![0, 0, v66.toNat, 256]
def k0_off4 (k0_t1 : Fin k0_t1_loop.trips) : Fin 4 → Nat :=
  let c0_32 : Index := 0#32
  let c0_33 : Index := 0#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v70 : Index := Scalar.indexCast v56
  let c384 : Index := 384#32
  ![0, 0, v70.toNat, 384]
def k0_off5 (k0_t1 : Fin k0_t1_loop.trips) : Fin 4 → Nat :=
  let c0_34 : Index := 0#32
  let c0_35 : Index := 0#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v74 : Index := Scalar.indexCast v56
  let c512 : Index := 512#32
  ![0, 0, v74.toNat, 512]
def k0_off6 (k0_t1 : Fin k0_t1_loop.trips) : Fin 4 → Nat :=
  let c0_36 : Index := 0#32
  let c32 : Index := 32#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v78 : Index := Scalar.indexCast v56
  let c0_37 : Index := 0#32
  ![0, 32, v78.toNat, 0]
def k0_off7 (k0_t1 : Fin k0_t1_loop.trips) : Fin 4 → Nat :=
  let c0_38 : Index := 0#32
  let c32_39 : Index := 32#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v82 : Index := Scalar.indexCast v56
  let c128_40 : Index := 128#32
  ![0, 32, v82.toNat, 128]
def k0_off8 (k0_t1 : Fin k0_t1_loop.trips) : Fin 4 → Nat :=
  let c0_41 : Index := 0#32
  let c32_42 : Index := 32#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v86 : Index := Scalar.indexCast v56
  let c256_43 : Index := 256#32
  ![0, 32, v86.toNat, 256]
def k0_off9 (k0_t1 : Fin k0_t1_loop.trips) : Fin 4 → Nat :=
  let c0_44 : Index := 0#32
  let c32_45 : Index := 32#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v90 : Index := Scalar.indexCast v56
  let c384_46 : Index := 384#32
  ![0, 32, v90.toNat, 384]
def k0_off10 (k0_t1 : Fin k0_t1_loop.trips) : Fin 4 → Nat :=
  let c0_47 : Index := 0#32
  let c32_48 : Index := 32#32
  let c0_i32_17 : BitVec 32 := 0#32
  let c1_i32_19 : BitVec 32 := 1#32
  let arg18 : BitVec 32 := Scf.iv c0_i32_17 c1_i32_19 k0_t1
  let c32_i32 : BitVec 32 := 32#32
  let v55 : BitVec 32 := Scalar.muli arg18 c32_i32
  let v56 : BitVec 32 := v55
  let v94 : Index := Scalar.indexCast v56
  let c512_49 : Index := 512#32
  ![0, 32, v94.toNat, 512]
def k0_off11 (k0_t1 : Fin k0_t1_loop.trips) (c0_i32_79 : BitVec 32) : Fin 4 → Nat :=
  let c0_80 : Index := 0#32
  let c0_i32_17 : BitVec 32 := 0#32
  let c1_i32_19 : BitVec 32 := 1#32
  let arg18 : BitVec 32 := Scf.iv c0_i32_17 c1_i32_19 k0_t1
  let v210 : Index := Scalar.indexCast arg18
  let c0_i32_24 : BitVec 32 := 0#32
  let v57 : BitVec 32 := c0_i32_24
  let v209 : BitVec 32 := Scalar.addi v57 c0_i32_79
  let v211 : Index := Scalar.indexCast v209
  let c0_81 : Index := 0#32
  ![0, v210.toNat, v211.toNat, 0]
def k0_off12 (k0_t1 : Fin k0_t1_loop.trips) (c0_i32_82 : BitVec 32) : Fin 4 → Nat :=
  let c0_83 : Index := 0#32
  let c0_i32_17 : BitVec 32 := 0#32
  let c1_i32_19 : BitVec 32 := 1#32
  let arg18 : BitVec 32 := Scf.iv c0_i32_17 c1_i32_19 k0_t1
  let v218 : Index := Scalar.indexCast arg18
  let c0_i32_24 : BitVec 32 := 0#32
  let v57 : BitVec 32 := c0_i32_24
  let v217 : BitVec 32 := Scalar.addi v57 c0_i32_82
  let v219 : Index := Scalar.indexCast v217
  let c128_84 : Index := 128#32
  ![0, v218.toNat, v219.toNat, 128]
def k0_off13 (k0_t1 : Fin k0_t1_loop.trips) (c0_i32_85 : BitVec 32) : Fin 4 → Nat :=
  let c0_86 : Index := 0#32
  let c0_i32_17 : BitVec 32 := 0#32
  let c1_i32_19 : BitVec 32 := 1#32
  let arg18 : BitVec 32 := Scf.iv c0_i32_17 c1_i32_19 k0_t1
  let v226 : Index := Scalar.indexCast arg18
  let c0_i32_24 : BitVec 32 := 0#32
  let v57 : BitVec 32 := c0_i32_24
  let v225 : BitVec 32 := Scalar.addi v57 c0_i32_85
  let v227 : Index := Scalar.indexCast v225
  let c256_87 : Index := 256#32
  ![0, v226.toNat, v227.toNat, 256]
def k0_off14 (k0_t1 : Fin k0_t1_loop.trips) (c0_i32_88 : BitVec 32) : Fin 4 → Nat :=
  let c0_89 : Index := 0#32
  let c0_i32_17 : BitVec 32 := 0#32
  let c1_i32_19 : BitVec 32 := 1#32
  let arg18 : BitVec 32 := Scf.iv c0_i32_17 c1_i32_19 k0_t1
  let v234 : Index := Scalar.indexCast arg18
  let c0_i32_24 : BitVec 32 := 0#32
  let v57 : BitVec 32 := c0_i32_24
  let v233 : BitVec 32 := Scalar.addi v57 c0_i32_88
  let v235 : Index := Scalar.indexCast v233
  let c384_90 : Index := 384#32
  ![0, v234.toNat, v235.toNat, 384]
def k0_off15 (k0_t1 : Fin k0_t1_loop.trips) (c0_i32_91 : BitVec 32) : Fin 4 → Nat :=
  let c0_92 : Index := 0#32
  let c0_i32_17 : BitVec 32 := 0#32
  let c1_i32_19 : BitVec 32 := 1#32
  let arg18 : BitVec 32 := Scf.iv c0_i32_17 c1_i32_19 k0_t1
  let v242 : Index := Scalar.indexCast arg18
  let c0_i32_24 : BitVec 32 := 0#32
  let v57 : BitVec 32 := c0_i32_24
  let v241 : BitVec 32 := Scalar.addi v57 c0_i32_91
  let v243 : Index := Scalar.indexCast v241
  let c512_93 : Index := 512#32
  ![0, v242.toNat, v243.toNat, 512]
@[reducible] def k0_t2_loop : Scf.Loop 32 :=
  let c0_i32_21 : BitVec 32 := 0#32
  let c4_i32 : BitVec 32 := 4#32
  let v54 : BitVec 32 := Scalar.addi c0_i32_21 c4_i32
  let c1_i32_22 : BitVec 32 := 1#32
  ⟨c0_i32_21, v54, c1_i32_22⟩
@[reducible] def k0_t3_loop : Scf.Loop 32 :=
  let c0_i32_26 : BitVec 32 := 0#32
  let c14_i32 : BitVec 32 := 14#32
  let v57 : BitVec 32 := Scalar.addi c0_i32_26 c14_i32
  let c1_i32_27 : BitVec 32 := 1#32
  ⟨c0_i32_26, v57, c1_i32_27⟩
def k0_mult3 (k0_t3 : Fin k0_t3_loop.trips) : BitVec 32 :=
  let c0_i32_26 : BitVec 32 := 0#32
  let c1_i32_27 : BitVec 32 := 1#32
  let arg19 : BitVec 32 := Scf.iv c0_i32_26 c1_i32_27 k0_t3
  let c2_i32_162 : BitVec 32 := 2#32
  let v303 : BitVec 32 := Scalar.remsi arg19 c2_i32_162
  let c32_i32_164 : BitVec 32 := 32#32
  let v307 : BitVec 32 := Scalar.muli v303 c32_i32_164
  v307
def k0_mult4 (k0_t3 : Fin k0_t3_loop.trips) : BitVec 32 :=
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let c96_i32 : BitVec 32 := 96#32
  let v309 : BitVec 32 := Scalar.muli v302 c96_i32
  v309
def k0_off16 (k0_t2 : Fin k0_t2_loop.trips) (k0_t3 : Fin k0_t3_loop.trips) : Fin 4 → Nat :=
  let c0_165 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v304 : BitVec 32 := Scalar.addi v56 v302
  let v311 : Index := Scalar.indexCast v304
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v312 : Index := Scalar.indexCast v308
  let c0_166 : Index := 0#32
  ![0, v311.toNat, v312.toNat, 0]
def k0_off17 (k0_t2 : Fin k0_t2_loop.trips) (k0_t3 : Fin k0_t3_loop.trips) : Fin 4 → Nat :=
  let c0_167 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v304 : BitVec 32 := Scalar.addi v56 v302
  let v316 : Index := Scalar.indexCast v304
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v317 : Index := Scalar.indexCast v308
  let c128 : Index := 128#32
  ![0, v316.toNat, v317.toNat, 128]
def k0_off18 (k0_t2 : Fin k0_t2_loop.trips) (k0_t3 : Fin k0_t3_loop.trips) : Fin 4 → Nat :=
  let c0_168 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v304 : BitVec 32 := Scalar.addi v56 v302
  let v321 : Index := Scalar.indexCast v304
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v322 : Index := Scalar.indexCast v308
  let c256 : Index := 256#32
  ![0, v321.toNat, v322.toNat, 256]
def k0_off19 (k0_t2 : Fin k0_t2_loop.trips) (k0_t3 : Fin k0_t3_loop.trips) : Fin 4 → Nat :=
  let c0_169 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v304 : BitVec 32 := Scalar.addi v56 v302
  let v326 : Index := Scalar.indexCast v304
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v327 : Index := Scalar.indexCast v308
  let c384 : Index := 384#32
  ![0, v326.toNat, v327.toNat, 384]
def k0_off20 (k0_t2 : Fin k0_t2_loop.trips) (k0_t3 : Fin k0_t3_loop.trips) : Fin 4 → Nat :=
  let c0_170 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v304 : BitVec 32 := Scalar.addi v56 v302
  let v331 : Index := Scalar.indexCast v304
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v332 : Index := Scalar.indexCast v308
  let c512_171 : Index := 512#32
  ![0, v331.toNat, v332.toNat, 512]
def k0_off21 (k0_t2 : Fin k0_t2_loop.trips) (k0_t3 : Fin k0_t3_loop.trips) : Fin 4 → Nat :=
  let c0_172 : Index := 0#32
  let c32_i32_163 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let v305 : BitVec 32 := Scalar.addi c32_i32_163 v56
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v306 : BitVec 32 := Scalar.addi v305 v302
  let v336 : Index := Scalar.indexCast v306
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v337 : Index := Scalar.indexCast v308
  let c0_173 : Index := 0#32
  ![0, v336.toNat, v337.toNat, 0]
def k0_off22 (k0_t2 : Fin k0_t2_loop.trips) (k0_t3 : Fin k0_t3_loop.trips) : Fin 4 → Nat :=
  let c0_174 : Index := 0#32
  let c32_i32_163 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let v305 : BitVec 32 := Scalar.addi c32_i32_163 v56
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v306 : BitVec 32 := Scalar.addi v305 v302
  let v341 : Index := Scalar.indexCast v306
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v342 : Index := Scalar.indexCast v308
  let c128_175 : Index := 128#32
  ![0, v341.toNat, v342.toNat, 128]
def k0_off23 (k0_t2 : Fin k0_t2_loop.trips) (k0_t3 : Fin k0_t3_loop.trips) : Fin 4 → Nat :=
  let c0_176 : Index := 0#32
  let c32_i32_163 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let v305 : BitVec 32 := Scalar.addi c32_i32_163 v56
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v306 : BitVec 32 := Scalar.addi v305 v302
  let v346 : Index := Scalar.indexCast v306
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v347 : Index := Scalar.indexCast v308
  let c256_177 : Index := 256#32
  ![0, v346.toNat, v347.toNat, 256]
def k0_off24 (k0_t2 : Fin k0_t2_loop.trips) (k0_t3 : Fin k0_t3_loop.trips) : Fin 4 → Nat :=
  let c0_178 : Index := 0#32
  let c32_i32_163 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let v305 : BitVec 32 := Scalar.addi c32_i32_163 v56
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v306 : BitVec 32 := Scalar.addi v305 v302
  let v351 : Index := Scalar.indexCast v306
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v352 : Index := Scalar.indexCast v308
  let c384_179 : Index := 384#32
  ![0, v351.toNat, v352.toNat, 384]
def k0_off25 (k0_t2 : Fin k0_t2_loop.trips) (k0_t3 : Fin k0_t3_loop.trips) : Fin 4 → Nat :=
  let c0_180 : Index := 0#32
  let c32_i32_163 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let v305 : BitVec 32 := Scalar.addi c32_i32_163 v56
  let c1_i32_161 : BitVec 32 := 1#32
  let c0_i32_26 : BitVec 32 := 0#32
  let c1_i32_27 : BitVec 32 := 1#32
  let arg19 : BitVec 32 := Scf.iv c0_i32_26 c1_i32_27 k0_t3
  let c2_i32_160 : BitVec 32 := 2#32
  let v301 : BitVec 32 := Scalar.divsi arg19 c2_i32_160
  let v302 : BitVec 32 := Scalar.addi c1_i32_161 v301
  let v306 : BitVec 32 := Scalar.addi v305 v302
  let v356 : Index := Scalar.indexCast v306
  let c2_i32_162 : BitVec 32 := 2#32
  let v303 : BitVec 32 := Scalar.remsi arg19 c2_i32_162
  let c32_i32_164 : BitVec 32 := 32#32
  let v307 : BitVec 32 := Scalar.muli v303 c32_i32_164
  let v308 : BitVec 32 := v307
  let v357 : Index := Scalar.indexCast v308
  let c512_181 : Index := 512#32
  ![0, v356.toNat, v357.toNat, 512]
def k0_off26 (k0_t2 : Fin k0_t2_loop.trips) (k0_t3 : Fin k0_t3_loop.trips) (c0_i32_212 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v473 : Index := Scalar.indexCast v55
  let c0_i32_26 : BitVec 32 := 0#32
  let c1_i32_27 : BitVec 32 := 1#32
  let arg19 : BitVec 32 := Scf.iv c0_i32_26 c1_i32_27 k0_t3
  let c2_i32_162 : BitVec 32 := 2#32
  let v303 : BitVec 32 := Scalar.remsi arg19 c2_i32_162
  let v474 : Index := Scalar.indexCast v303
  let c1_i32_161 : BitVec 32 := 1#32
  let c2_i32_160 : BitVec 32 := 2#32
  let v301 : BitVec 32 := Scalar.divsi arg19 c2_i32_160
  let v302 : BitVec 32 := Scalar.addi c1_i32_161 v301
  let c96_i32 : BitVec 32 := 96#32
  let v309 : BitVec 32 := Scalar.muli v302 c96_i32
  let v310 : BitVec 32 := v309
  let v472 : BitVec 32 := Scalar.addi v310 c0_i32_212
  let v475 : Index := Scalar.indexCast v472
  let c0_213 : Index := 0#32
  ![v473.toNat, v474.toNat, v475.toNat, 0]
def k0_off27 (k0_t2 : Fin k0_t2_loop.trips) (k0_t3 : Fin k0_t3_loop.trips) (c0_i32_214 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v482 : Index := Scalar.indexCast v55
  let c0_i32_26 : BitVec 32 := 0#32
  let c1_i32_27 : BitVec 32 := 1#32
  let arg19 : BitVec 32 := Scf.iv c0_i32_26 c1_i32_27 k0_t3
  let c2_i32_162 : BitVec 32 := 2#32
  let v303 : BitVec 32 := Scalar.remsi arg19 c2_i32_162
  let v483 : Index := Scalar.indexCast v303
  let c1_i32_161 : BitVec 32 := 1#32
  let c2_i32_160 : BitVec 32 := 2#32
  let v301 : BitVec 32 := Scalar.divsi arg19 c2_i32_160
  let v302 : BitVec 32 := Scalar.addi c1_i32_161 v301
  let c96_i32 : BitVec 32 := 96#32
  let v309 : BitVec 32 := Scalar.muli v302 c96_i32
  let v310 : BitVec 32 := v309
  let v481 : BitVec 32 := Scalar.addi v310 c0_i32_214
  let v484 : Index := Scalar.indexCast v481
  let c128_215 : Index := 128#32
  ![v482.toNat, v483.toNat, v484.toNat, 128]
def k0_off28 (k0_t2 : Fin k0_t2_loop.trips) (k0_t3 : Fin k0_t3_loop.trips) (c0_i32_216 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v491 : Index := Scalar.indexCast v55
  let c0_i32_26 : BitVec 32 := 0#32
  let c1_i32_27 : BitVec 32 := 1#32
  let arg19 : BitVec 32 := Scf.iv c0_i32_26 c1_i32_27 k0_t3
  let c2_i32_162 : BitVec 32 := 2#32
  let v303 : BitVec 32 := Scalar.remsi arg19 c2_i32_162
  let v492 : Index := Scalar.indexCast v303
  let c1_i32_161 : BitVec 32 := 1#32
  let c2_i32_160 : BitVec 32 := 2#32
  let v301 : BitVec 32 := Scalar.divsi arg19 c2_i32_160
  let v302 : BitVec 32 := Scalar.addi c1_i32_161 v301
  let c96_i32 : BitVec 32 := 96#32
  let v309 : BitVec 32 := Scalar.muli v302 c96_i32
  let v310 : BitVec 32 := v309
  let v490 : BitVec 32 := Scalar.addi v310 c0_i32_216
  let v493 : Index := Scalar.indexCast v490
  let c256_217 : Index := 256#32
  ![v491.toNat, v492.toNat, v493.toNat, 256]
def k0_off29 (k0_t2 : Fin k0_t2_loop.trips) (k0_t3 : Fin k0_t3_loop.trips) (c0_i32_218 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v500 : Index := Scalar.indexCast v55
  let c0_i32_26 : BitVec 32 := 0#32
  let c1_i32_27 : BitVec 32 := 1#32
  let arg19 : BitVec 32 := Scf.iv c0_i32_26 c1_i32_27 k0_t3
  let c2_i32_162 : BitVec 32 := 2#32
  let v303 : BitVec 32 := Scalar.remsi arg19 c2_i32_162
  let v501 : Index := Scalar.indexCast v303
  let c1_i32_161 : BitVec 32 := 1#32
  let c2_i32_160 : BitVec 32 := 2#32
  let v301 : BitVec 32 := Scalar.divsi arg19 c2_i32_160
  let v302 : BitVec 32 := Scalar.addi c1_i32_161 v301
  let c96_i32 : BitVec 32 := 96#32
  let v309 : BitVec 32 := Scalar.muli v302 c96_i32
  let v310 : BitVec 32 := v309
  let v499 : BitVec 32 := Scalar.addi v310 c0_i32_218
  let v502 : Index := Scalar.indexCast v499
  let c384_219 : Index := 384#32
  ![v500.toNat, v501.toNat, v502.toNat, 384]
def k0_off30 (k0_t2 : Fin k0_t2_loop.trips) (k0_t3 : Fin k0_t3_loop.trips) (c0_i32_220 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v509 : Index := Scalar.indexCast v55
  let c0_i32_26 : BitVec 32 := 0#32
  let c1_i32_27 : BitVec 32 := 1#32
  let arg19 : BitVec 32 := Scf.iv c0_i32_26 c1_i32_27 k0_t3
  let c2_i32_162 : BitVec 32 := 2#32
  let v303 : BitVec 32 := Scalar.remsi arg19 c2_i32_162
  let v510 : Index := Scalar.indexCast v303
  let c1_i32_161 : BitVec 32 := 1#32
  let c2_i32_160 : BitVec 32 := 2#32
  let v301 : BitVec 32 := Scalar.divsi arg19 c2_i32_160
  let v302 : BitVec 32 := Scalar.addi c1_i32_161 v301
  let c96_i32 : BitVec 32 := 96#32
  let v309 : BitVec 32 := Scalar.muli v302 c96_i32
  let v310 : BitVec 32 := v309
  let v508 : BitVec 32 := Scalar.addi v310 c0_i32_220
  let v511 : Index := Scalar.indexCast v508
  let c512_221 : Index := 512#32
  ![v509.toNat, v510.toNat, v511.toNat, 512]
@[reducible] def k0_t4_loop : Scf.Loop 32 :=
  let c0_i32_30 : BitVec 32 := 0#32
  let c2_i32_31 : BitVec 32 := 2#32
  let v61 : BitVec 32 := Scalar.addi c0_i32_30 c2_i32_31
  let c1_i32_32 : BitVec 32 := 1#32
  ⟨c0_i32_30, v61, c1_i32_32⟩
def k0_mult5 (k0_t4 : Fin k0_t4_loop.trips) : BitVec 32 :=
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  v303
def k0_mult6 : BitVec 32 :=
  let c768_i32 : BitVec 32 := 768#32
  c768_i32
def k0_mult7 : BitVec 32 :=
  let c0_i32_162 : BitVec 32 := 0#32
  c0_i32_162
def k0_off31 (k0_t2 : Fin k0_t2_loop.trips) (k0_t4 : Fin k0_t4_loop.trips) : Fin 4 → Nat :=
  let c0_163 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v307 : Index := Scalar.indexCast v58
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v308 : Index := Scalar.indexCast v304
  let c0_164 : Index := 0#32
  ![0, v307.toNat, v308.toNat, 0]
def k0_off32 (k0_t2 : Fin k0_t2_loop.trips) (k0_t4 : Fin k0_t4_loop.trips) : Fin 4 → Nat :=
  let c0_165 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v312 : Index := Scalar.indexCast v58
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v313 : Index := Scalar.indexCast v304
  let c128 : Index := 128#32
  ![0, v312.toNat, v313.toNat, 128]
def k0_off33 (k0_t2 : Fin k0_t2_loop.trips) (k0_t4 : Fin k0_t4_loop.trips) : Fin 4 → Nat :=
  let c0_166 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v317 : Index := Scalar.indexCast v58
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v318 : Index := Scalar.indexCast v304
  let c256 : Index := 256#32
  ![0, v317.toNat, v318.toNat, 256]
def k0_off34 (k0_t2 : Fin k0_t2_loop.trips) (k0_t4 : Fin k0_t4_loop.trips) : Fin 4 → Nat :=
  let c0_167 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v322 : Index := Scalar.indexCast v58
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v323 : Index := Scalar.indexCast v304
  let c384 : Index := 384#32
  ![0, v322.toNat, v323.toNat, 384]
def k0_off35 (k0_t2 : Fin k0_t2_loop.trips) (k0_t4 : Fin k0_t4_loop.trips) : Fin 4 → Nat :=
  let c0_168 : Index := 0#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v327 : Index := Scalar.indexCast v58
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v328 : Index := Scalar.indexCast v304
  let c512_169 : Index := 512#32
  ![0, v327.toNat, v328.toNat, 512]
def k0_off36 (k0_t2 : Fin k0_t2_loop.trips) (k0_t4 : Fin k0_t4_loop.trips) : Fin 4 → Nat :=
  let c0_170 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v332 : Index := Scalar.indexCast v60
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v333 : Index := Scalar.indexCast v304
  let c0_171 : Index := 0#32
  ![0, v332.toNat, v333.toNat, 0]
def k0_off37 (k0_t4 : Fin k0_t4_loop.trips) : Fin 4 → Nat :=
  let c0_172 : Index := 0#32
  let c0_173 : Index := 0#32
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v337 : Index := Scalar.indexCast v304
  let c0_174 : Index := 0#32
  ![0, 0, v337.toNat, 0]
def k0_off38 (k0_t2 : Fin k0_t2_loop.trips) (k0_t4 : Fin k0_t4_loop.trips) : Fin 4 → Nat :=
  let c0_175 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v343 : Index := Scalar.indexCast v60
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v344 : Index := Scalar.indexCast v304
  let c128_176 : Index := 128#32
  ![0, v343.toNat, v344.toNat, 128]
def k0_off39 (k0_t4 : Fin k0_t4_loop.trips) : Fin 4 → Nat :=
  let c0_177 : Index := 0#32
  let c0_178 : Index := 0#32
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v348 : Index := Scalar.indexCast v304
  let c128_179 : Index := 128#32
  ![0, 0, v348.toNat, 128]
def k0_off40 (k0_t2 : Fin k0_t2_loop.trips) (k0_t4 : Fin k0_t4_loop.trips) : Fin 4 → Nat :=
  let c0_180 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v354 : Index := Scalar.indexCast v60
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v355 : Index := Scalar.indexCast v304
  let c256_181 : Index := 256#32
  ![0, v354.toNat, v355.toNat, 256]
def k0_off41 (k0_t4 : Fin k0_t4_loop.trips) : Fin 4 → Nat :=
  let c0_182 : Index := 0#32
  let c0_183 : Index := 0#32
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v359 : Index := Scalar.indexCast v304
  let c256_184 : Index := 256#32
  ![0, 0, v359.toNat, 256]
def k0_off42 (k0_t2 : Fin k0_t2_loop.trips) (k0_t4 : Fin k0_t4_loop.trips) : Fin 4 → Nat :=
  let c0_185 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v365 : Index := Scalar.indexCast v60
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v366 : Index := Scalar.indexCast v304
  let c384_186 : Index := 384#32
  ![0, v365.toNat, v366.toNat, 384]
def k0_off43 (k0_t4 : Fin k0_t4_loop.trips) : Fin 4 → Nat :=
  let c0_187 : Index := 0#32
  let c0_188 : Index := 0#32
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v370 : Index := Scalar.indexCast v304
  let c384_189 : Index := 384#32
  ![0, 0, v370.toNat, 384]
def k0_off44 (k0_t2 : Fin k0_t2_loop.trips) (k0_t4 : Fin k0_t4_loop.trips) : Fin 4 → Nat :=
  let c0_190 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t2
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v376 : Index := Scalar.indexCast v60
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v377 : Index := Scalar.indexCast v304
  let c512_191 : Index := 512#32
  ![0, v376.toNat, v377.toNat, 512]
def k0_off45 (k0_t4 : Fin k0_t4_loop.trips) : Fin 4 → Nat :=
  let c0_192 : Index := 0#32
  let c0_193 : Index := 0#32
  let c0_i32_30 : BitVec 32 := 0#32
  let c1_i32_32 : BitVec 32 := 1#32
  let arg19 : BitVec 32 := Scf.iv c0_i32_30 c1_i32_32 k0_t4
  let c32_i32_161 : BitVec 32 := 32#32
  let v303 : BitVec 32 := Scalar.muli arg19 c32_i32_161
  let v304 : BitVec 32 := v303
  let v381 : Index := Scalar.indexCast v304
  let c512_194 : Index := 512#32
  ![0, 0, v381.toNat, 512]
def k0_off46 (k0_t2 : Fin k0_t2_loop.trips) (k0_t4 : Fin k0_t4_loop.trips) (c0_i32_225 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v499 : Index := Scalar.indexCast v55
  let c0_i32_30 : BitVec 32 := 0#32
  let c1_i32_32 : BitVec 32 := 1#32
  let arg19 : BitVec 32 := Scf.iv c0_i32_30 c1_i32_32 k0_t4
  let v500 : Index := Scalar.indexCast arg19
  let c768_i32 : BitVec 32 := 768#32
  let v305 : BitVec 32 := c768_i32
  let v498 : BitVec 32 := Scalar.addi v305 c0_i32_225
  let v501 : Index := Scalar.indexCast v498
  let c0_226 : Index := 0#32
  ![v499.toNat, v500.toNat, v501.toNat, 0]
def k0_off47 (k0_t2 : Fin k0_t2_loop.trips) (k0_t4 : Fin k0_t4_loop.trips) (c0_i32_227 : BitVec 32) : Fin 4 → Nat :=
  let c1_i32_160 : BitVec 32 := 1#32
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v301 : BitVec 32 := Scalar.subi c1_i32_160 v55
  let v506 : Index := Scalar.indexCast v301
  let c0_i32_30 : BitVec 32 := 0#32
  let c1_i32_32 : BitVec 32 := 1#32
  let arg19 : BitVec 32 := Scf.iv c0_i32_30 c1_i32_32 k0_t4
  let v507 : Index := Scalar.indexCast arg19
  let c0_i32_162 : BitVec 32 := 0#32
  let v306 : BitVec 32 := c0_i32_162
  let v505 : BitVec 32 := Scalar.addi v306 c0_i32_227
  let v508 : Index := Scalar.indexCast v505
  let c0_228 : Index := 0#32
  ![v506.toNat, v507.toNat, v508.toNat, 0]
def k0_off48 (k0_t2 : Fin k0_t2_loop.trips) (k0_t4 : Fin k0_t4_loop.trips) (c0_i32_229 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v515 : Index := Scalar.indexCast v55
  let c0_i32_30 : BitVec 32 := 0#32
  let c1_i32_32 : BitVec 32 := 1#32
  let arg19 : BitVec 32 := Scf.iv c0_i32_30 c1_i32_32 k0_t4
  let v516 : Index := Scalar.indexCast arg19
  let c768_i32 : BitVec 32 := 768#32
  let v305 : BitVec 32 := c768_i32
  let v514 : BitVec 32 := Scalar.addi v305 c0_i32_229
  let v517 : Index := Scalar.indexCast v514
  let c128_230 : Index := 128#32
  ![v515.toNat, v516.toNat, v517.toNat, 128]
def k0_off49 (k0_t2 : Fin k0_t2_loop.trips) (k0_t4 : Fin k0_t4_loop.trips) (c0_i32_231 : BitVec 32) : Fin 4 → Nat :=
  let c1_i32_160 : BitVec 32 := 1#32
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v301 : BitVec 32 := Scalar.subi c1_i32_160 v55
  let v522 : Index := Scalar.indexCast v301
  let c0_i32_30 : BitVec 32 := 0#32
  let c1_i32_32 : BitVec 32 := 1#32
  let arg19 : BitVec 32 := Scf.iv c0_i32_30 c1_i32_32 k0_t4
  let v523 : Index := Scalar.indexCast arg19
  let c0_i32_162 : BitVec 32 := 0#32
  let v306 : BitVec 32 := c0_i32_162
  let v521 : BitVec 32 := Scalar.addi v306 c0_i32_231
  let v524 : Index := Scalar.indexCast v521
  let c128_232 : Index := 128#32
  ![v522.toNat, v523.toNat, v524.toNat, 128]
def k0_off50 (k0_t2 : Fin k0_t2_loop.trips) (k0_t4 : Fin k0_t4_loop.trips) (c0_i32_233 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v531 : Index := Scalar.indexCast v55
  let c0_i32_30 : BitVec 32 := 0#32
  let c1_i32_32 : BitVec 32 := 1#32
  let arg19 : BitVec 32 := Scf.iv c0_i32_30 c1_i32_32 k0_t4
  let v532 : Index := Scalar.indexCast arg19
  let c768_i32 : BitVec 32 := 768#32
  let v305 : BitVec 32 := c768_i32
  let v530 : BitVec 32 := Scalar.addi v305 c0_i32_233
  let v533 : Index := Scalar.indexCast v530
  let c256_234 : Index := 256#32
  ![v531.toNat, v532.toNat, v533.toNat, 256]
def k0_off51 (k0_t2 : Fin k0_t2_loop.trips) (k0_t4 : Fin k0_t4_loop.trips) (c0_i32_235 : BitVec 32) : Fin 4 → Nat :=
  let c1_i32_160 : BitVec 32 := 1#32
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v301 : BitVec 32 := Scalar.subi c1_i32_160 v55
  let v538 : Index := Scalar.indexCast v301
  let c0_i32_30 : BitVec 32 := 0#32
  let c1_i32_32 : BitVec 32 := 1#32
  let arg19 : BitVec 32 := Scf.iv c0_i32_30 c1_i32_32 k0_t4
  let v539 : Index := Scalar.indexCast arg19
  let c0_i32_162 : BitVec 32 := 0#32
  let v306 : BitVec 32 := c0_i32_162
  let v537 : BitVec 32 := Scalar.addi v306 c0_i32_235
  let v540 : Index := Scalar.indexCast v537
  let c256_236 : Index := 256#32
  ![v538.toNat, v539.toNat, v540.toNat, 256]
def k0_off52 (k0_t2 : Fin k0_t2_loop.trips) (k0_t4 : Fin k0_t4_loop.trips) (c0_i32_237 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v547 : Index := Scalar.indexCast v55
  let c0_i32_30 : BitVec 32 := 0#32
  let c1_i32_32 : BitVec 32 := 1#32
  let arg19 : BitVec 32 := Scf.iv c0_i32_30 c1_i32_32 k0_t4
  let v548 : Index := Scalar.indexCast arg19
  let c768_i32 : BitVec 32 := 768#32
  let v305 : BitVec 32 := c768_i32
  let v546 : BitVec 32 := Scalar.addi v305 c0_i32_237
  let v549 : Index := Scalar.indexCast v546
  let c384_238 : Index := 384#32
  ![v547.toNat, v548.toNat, v549.toNat, 384]
def k0_off53 (k0_t2 : Fin k0_t2_loop.trips) (k0_t4 : Fin k0_t4_loop.trips) (c0_i32_239 : BitVec 32) : Fin 4 → Nat :=
  let c1_i32_160 : BitVec 32 := 1#32
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v301 : BitVec 32 := Scalar.subi c1_i32_160 v55
  let v554 : Index := Scalar.indexCast v301
  let c0_i32_30 : BitVec 32 := 0#32
  let c1_i32_32 : BitVec 32 := 1#32
  let arg19 : BitVec 32 := Scf.iv c0_i32_30 c1_i32_32 k0_t4
  let v555 : Index := Scalar.indexCast arg19
  let c0_i32_162 : BitVec 32 := 0#32
  let v306 : BitVec 32 := c0_i32_162
  let v553 : BitVec 32 := Scalar.addi v306 c0_i32_239
  let v556 : Index := Scalar.indexCast v553
  let c384_240 : Index := 384#32
  ![v554.toNat, v555.toNat, v556.toNat, 384]
def k0_off54 (k0_t2 : Fin k0_t2_loop.trips) (k0_t4 : Fin k0_t4_loop.trips) (c0_i32_241 : BitVec 32) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v563 : Index := Scalar.indexCast v55
  let c0_i32_30 : BitVec 32 := 0#32
  let c1_i32_32 : BitVec 32 := 1#32
  let arg19 : BitVec 32 := Scf.iv c0_i32_30 c1_i32_32 k0_t4
  let v564 : Index := Scalar.indexCast arg19
  let c768_i32 : BitVec 32 := 768#32
  let v305 : BitVec 32 := c768_i32
  let v562 : BitVec 32 := Scalar.addi v305 c0_i32_241
  let v565 : Index := Scalar.indexCast v562
  let c512_242 : Index := 512#32
  ![v563.toNat, v564.toNat, v565.toNat, 512]
def k0_off55 (k0_t2 : Fin k0_t2_loop.trips) (k0_t4 : Fin k0_t4_loop.trips) (c0_i32_243 : BitVec 32) : Fin 4 → Nat :=
  let c1_i32_160 : BitVec 32 := 1#32
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v301 : BitVec 32 := Scalar.subi c1_i32_160 v55
  let v570 : Index := Scalar.indexCast v301
  let c0_i32_30 : BitVec 32 := 0#32
  let c1_i32_32 : BitVec 32 := 1#32
  let arg19 : BitVec 32 := Scf.iv c0_i32_30 c1_i32_32 k0_t4
  let v571 : Index := Scalar.indexCast arg19
  let c0_i32_162 : BitVec 32 := 0#32
  let v306 : BitVec 32 := c0_i32_162
  let v569 : BitVec 32 := Scalar.addi v306 c0_i32_243
  let v572 : Index := Scalar.indexCast v569
  let c512_244 : Index := 512#32
  ![v570.toNat, v571.toNat, v572.toNat, 512]
@[reducible] def k0_t5_loop : Scf.Loop 32 :=
  let c0_i32_34 : BitVec 32 := 0#32
  let c2_i32_35 : BitVec 32 := 2#32
  let v62 : BitVec 32 := Scalar.addi c0_i32_34 c2_i32_35
  let c1_i32_36 : BitVec 32 := 1#32
  ⟨c0_i32_34, v62, c1_i32_36⟩
def k0_mult8 (k0_t5 : Fin k0_t5_loop.trips) : BitVec 32 :=
  let c4_i32_160 : BitVec 32 := 4#32
  let c0_i32_34 : BitVec 32 := 0#32
  let c1_i32_36 : BitVec 32 := 1#32
  let arg19 : BitVec 32 := Scf.iv c0_i32_34 c1_i32_36 k0_t5
  let v301 : BitVec 32 := Scalar.muli c4_i32_160 arg19
  let c96_i32 : BitVec 32 := 96#32
  let v302 : BitVec 32 := Scalar.muli v301 c96_i32
  v302
def k0_off56 (k0_t2 : Fin k0_t2_loop.trips) (k0_t5 : Fin k0_t5_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v304 : Index := Scalar.indexCast v55
  let c0_161 : Index := 0#32
  let c4_i32_160 : BitVec 32 := 4#32
  let c0_i32_34 : BitVec 32 := 0#32
  let c1_i32_36 : BitVec 32 := 1#32
  let arg19 : BitVec 32 := Scf.iv c0_i32_34 c1_i32_36 k0_t5
  let v301 : BitVec 32 := Scalar.muli c4_i32_160 arg19
  let c96_i32 : BitVec 32 := 96#32
  let v302 : BitVec 32 := Scalar.muli v301 c96_i32
  let v303 : BitVec 32 := v302
  let v305 : Index := Scalar.indexCast v303
  let c0_162 : Index := 0#32
  ![v304.toNat, 0, v305.toNat, 0]
def k0_mult9 (k0_t5 : Fin k0_t5_loop.trips) : BitVec 32 :=
  let c4_i32_167 : BitVec 32 := 4#32
  let c0_i32_34 : BitVec 32 := 0#32
  let c1_i32_36 : BitVec 32 := 1#32
  let arg19 : BitVec 32 := Scf.iv c0_i32_34 c1_i32_36 k0_t5
  let v312 : BitVec 32 := Scalar.muli c4_i32_167 arg19
  let c96_i32_168 : BitVec 32 := 96#32
  let v313 : BitVec 32 := Scalar.muli v312 c96_i32_168
  v313
def k0_off57 (k0_t2 : Fin k0_t2_loop.trips) (k0_t5 : Fin k0_t5_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v315 : Index := Scalar.indexCast v55
  let c1_169 : Index := 1#32
  let c4_i32_167 : BitVec 32 := 4#32
  let c0_i32_34 : BitVec 32 := 0#32
  let c1_i32_36 : BitVec 32 := 1#32
  let arg19 : BitVec 32 := Scf.iv c0_i32_34 c1_i32_36 k0_t5
  let v312 : BitVec 32 := Scalar.muli c4_i32_167 arg19
  let c96_i32_168 : BitVec 32 := 96#32
  let v313 : BitVec 32 := Scalar.muli v312 c96_i32_168
  let v314 : BitVec 32 := v313
  let v316 : Index := Scalar.indexCast v314
  let c0_170 : Index := 0#32
  ![v315.toNat, 1, v316.toNat, 0]
def k0_off58 (k0_t2 : Fin k0_t2_loop.trips) (k0_t5 : Fin k0_t5_loop.trips) (c0_i32_219 : BitVec 32) : Fin 4 → Nat :=
  let c0_220 : Index := 0#32
  let c4_i32_217 : BitVec 32 := 4#32
  let c0_i32_21 : BitVec 32 := 0#32
  let c1_i32_22 : BitVec 32 := 1#32
  let arg18 : BitVec 32 := Scf.iv c0_i32_21 c1_i32_22 k0_t2
  let v406 : BitVec 32 := Scalar.muli c4_i32_217 arg18
  let c2_i32_218 : BitVec 32 := 2#32
  let c0_i32_34 : BitVec 32 := 0#32
  let c1_i32_36 : BitVec 32 := 1#32
  let arg19 : BitVec 32 := Scf.iv c0_i32_34 c1_i32_36 k0_t5
  let v407 : BitVec 32 := Scalar.muli c2_i32_218 arg19
  let v408 : BitVec 32 := Scalar.addi v406 v407
  let v409 : BitVec 32 := Scalar.addi v408 c0_i32_219
  let v410 : Index := Scalar.indexCast v409
  let c0_221 : Index := 0#32
  let c0_222 : Index := 0#32
  ![0, v410.toNat, 0, 0]
def k0_off59 (k0_t2 : Fin k0_t2_loop.trips) (k0_t5 : Fin k0_t5_loop.trips) (c0_i32_225 : BitVec 32) : Fin 4 → Nat :=
  let c0_226 : Index := 0#32
  let c4_i32_223 : BitVec 32 := 4#32
  let c0_i32_21 : BitVec 32 := 0#32
  let c1_i32_22 : BitVec 32 := 1#32
  let arg18 : BitVec 32 := Scf.iv c0_i32_21 c1_i32_22 k0_t2
  let v419 : BitVec 32 := Scalar.muli c4_i32_223 arg18
  let c2_i32_224 : BitVec 32 := 2#32
  let c0_i32_34 : BitVec 32 := 0#32
  let c1_i32_36 : BitVec 32 := 1#32
  let arg19 : BitVec 32 := Scf.iv c0_i32_34 c1_i32_36 k0_t5
  let v420 : BitVec 32 := Scalar.muli c2_i32_224 arg19
  let v421 : BitVec 32 := Scalar.addi v419 v420
  let v422 : BitVec 32 := Scalar.addi v421 c0_i32_225
  let v423 : Index := Scalar.indexCast v422
  let c128 : Index := 128#32
  let c0_227 : Index := 0#32
  ![0, v423.toNat, 128, 0]
def k0_mult10 (k0_t5 : Fin k0_t5_loop.trips) : BitVec 32 :=
  let c4_i32_282 : BitVec 32 := 4#32
  let c0_i32_34 : BitVec 32 := 0#32
  let c1_i32_36 : BitVec 32 := 1#32
  let arg19 : BitVec 32 := Scf.iv c0_i32_34 c1_i32_36 k0_t5
  let v531 : BitVec 32 := Scalar.muli c4_i32_282 arg19
  let c96_i32_283 : BitVec 32 := 96#32
  let v532 : BitVec 32 := Scalar.muli v531 c96_i32_283
  v532
def k0_off60 (k0_t2 : Fin k0_t2_loop.trips) (k0_t5 : Fin k0_t5_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v534 : Index := Scalar.indexCast v55
  let c0_284 : Index := 0#32
  let c4_i32_282 : BitVec 32 := 4#32
  let c0_i32_34 : BitVec 32 := 0#32
  let c1_i32_36 : BitVec 32 := 1#32
  let arg19 : BitVec 32 := Scf.iv c0_i32_34 c1_i32_36 k0_t5
  let v531 : BitVec 32 := Scalar.muli c4_i32_282 arg19
  let c96_i32_283 : BitVec 32 := 96#32
  let v532 : BitVec 32 := Scalar.muli v531 c96_i32_283
  let v533 : BitVec 32 := v532
  let v535 : Index := Scalar.indexCast v533
  let c256 : Index := 256#32
  ![v534.toNat, 0, v535.toNat, 256]
def k0_mult11 (k0_t5 : Fin k0_t5_loop.trips) : BitVec 32 :=
  let c4_i32_289 : BitVec 32 := 4#32
  let c0_i32_34 : BitVec 32 := 0#32
  let c1_i32_36 : BitVec 32 := 1#32
  let arg19 : BitVec 32 := Scf.iv c0_i32_34 c1_i32_36 k0_t5
  let v542 : BitVec 32 := Scalar.muli c4_i32_289 arg19
  let c96_i32_290 : BitVec 32 := 96#32
  let v543 : BitVec 32 := Scalar.muli v542 c96_i32_290
  v543
def k0_off61 (k0_t2 : Fin k0_t2_loop.trips) (k0_t5 : Fin k0_t5_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v545 : Index := Scalar.indexCast v55
  let c1_291 : Index := 1#32
  let c4_i32_289 : BitVec 32 := 4#32
  let c0_i32_34 : BitVec 32 := 0#32
  let c1_i32_36 : BitVec 32 := 1#32
  let arg19 : BitVec 32 := Scf.iv c0_i32_34 c1_i32_36 k0_t5
  let v542 : BitVec 32 := Scalar.muli c4_i32_289 arg19
  let c96_i32_290 : BitVec 32 := 96#32
  let v543 : BitVec 32 := Scalar.muli v542 c96_i32_290
  let v544 : BitVec 32 := v543
  let v546 : Index := Scalar.indexCast v544
  let c256_292 : Index := 256#32
  ![v545.toNat, 1, v546.toNat, 256]
def k0_off62 (k0_t2 : Fin k0_t2_loop.trips) (k0_t5 : Fin k0_t5_loop.trips) (c0_i32_341 : BitVec 32) : Fin 4 → Nat :=
  let c0_342 : Index := 0#32
  let c4_i32_339 : BitVec 32 := 4#32
  let c0_i32_21 : BitVec 32 := 0#32
  let c1_i32_22 : BitVec 32 := 1#32
  let arg18 : BitVec 32 := Scf.iv c0_i32_21 c1_i32_22 k0_t2
  let v636 : BitVec 32 := Scalar.muli c4_i32_339 arg18
  let c2_i32_340 : BitVec 32 := 2#32
  let c0_i32_34 : BitVec 32 := 0#32
  let c1_i32_36 : BitVec 32 := 1#32
  let arg19 : BitVec 32 := Scf.iv c0_i32_34 c1_i32_36 k0_t5
  let v637 : BitVec 32 := Scalar.muli c2_i32_340 arg19
  let v638 : BitVec 32 := Scalar.addi v636 v637
  let v639 : BitVec 32 := Scalar.addi v638 c0_i32_341
  let v641 : Index := Scalar.indexCast v639
  let c256_343 : Index := 256#32
  let c0_344 : Index := 0#32
  ![0, v641.toNat, 256, 0]
def k0_off63 (k0_t2 : Fin k0_t2_loop.trips) (k0_t5 : Fin k0_t5_loop.trips) (c0_i32_341 : BitVec 32) : Fin 4 → Nat :=
  let c0_346 : Index := 0#32
  let c4_i32_339 : BitVec 32 := 4#32
  let c0_i32_21 : BitVec 32 := 0#32
  let c1_i32_22 : BitVec 32 := 1#32
  let arg18 : BitVec 32 := Scf.iv c0_i32_21 c1_i32_22 k0_t2
  let v636 : BitVec 32 := Scalar.muli c4_i32_339 arg18
  let c2_i32_340 : BitVec 32 := 2#32
  let c0_i32_34 : BitVec 32 := 0#32
  let c1_i32_36 : BitVec 32 := 1#32
  let arg19 : BitVec 32 := Scf.iv c0_i32_34 c1_i32_36 k0_t5
  let v637 : BitVec 32 := Scalar.muli c2_i32_340 arg19
  let v638 : BitVec 32 := Scalar.addi v636 v637
  let v639 : BitVec 32 := Scalar.addi v638 c0_i32_341
  let c16_i32_345 : BitVec 32 := 16#32
  let v646 : BitVec 32 := Scalar.addi v639 c16_i32_345
  let v647 : Index := Scalar.indexCast v646
  let c0_347 : Index := 0#32
  let c0_348 : Index := 0#32
  ![0, v647.toNat, 0, 0]
def k0_off64 (k0_t2 : Fin k0_t2_loop.trips) (k0_t5 : Fin k0_t5_loop.trips) (c0_i32_351 : BitVec 32) : Fin 4 → Nat :=
  let c0_353 : Index := 0#32
  let c4_i32_349 : BitVec 32 := 4#32
  let c0_i32_21 : BitVec 32 := 0#32
  let c1_i32_22 : BitVec 32 := 1#32
  let arg18 : BitVec 32 := Scf.iv c0_i32_21 c1_i32_22 k0_t2
  let v656 : BitVec 32 := Scalar.muli c4_i32_349 arg18
  let c2_i32_350 : BitVec 32 := 2#32
  let c0_i32_34 : BitVec 32 := 0#32
  let c1_i32_36 : BitVec 32 := 1#32
  let arg19 : BitVec 32 := Scf.iv c0_i32_34 c1_i32_36 k0_t5
  let v657 : BitVec 32 := Scalar.muli c2_i32_350 arg19
  let v658 : BitVec 32 := Scalar.addi v656 v657
  let v659 : BitVec 32 := Scalar.addi v658 c0_i32_351
  let c16_i32_352 : BitVec 32 := 16#32
  let v660 : BitVec 32 := Scalar.addi v659 c16_i32_352
  let v661 : Index := Scalar.indexCast v660
  let c64_354 : Index := 64#32
  let c0_355 : Index := 0#32
  ![0, v661.toNat, 64, 0]
def k0_mult12 : BitVec 32 :=
  let c0_i32_38 : BitVec 32 := 0#32
  c0_i32_38
def k0_off65 (k0_t2 : Fin k0_t2_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v64 : Index := Scalar.indexCast v55
  let c0_39 : Index := 0#32
  let c0_i32_38 : BitVec 32 := 0#32
  let v63 : BitVec 32 := c0_i32_38
  let v65 : Index := Scalar.indexCast v63
  let c512 : Index := 512#32
  ![v64.toNat, 0, 0, 512]
def k0_mult13 : BitVec 32 :=
  let c384_i32 : BitVec 32 := 384#32
  c384_i32
def k0_off66 (k0_t2 : Fin k0_t2_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v69 : Index := Scalar.indexCast v55
  let c0_40 : Index := 0#32
  let c384_i32 : BitVec 32 := 384#32
  let v68 : BitVec 32 := c384_i32
  let v70 : Index := Scalar.indexCast v68
  let c512_41 : Index := 512#32
  ![v69.toNat, 0, 384, 512]
def k0_mult14 : BitVec 32 :=
  let c0_i32_46 : BitVec 32 := 0#32
  c0_i32_46
def k0_off67 (k0_t2 : Fin k0_t2_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v79 : Index := Scalar.indexCast v55
  let c1 : Index := 1#32
  let c0_i32_46 : BitVec 32 := 0#32
  let v78 : BitVec 32 := c0_i32_46
  let v80 : Index := Scalar.indexCast v78
  let c512_47 : Index := 512#32
  ![v79.toNat, 1, 0, 512]
def k0_mult15 : BitVec 32 :=
  let c384_i32_48 : BitVec 32 := 384#32
  c384_i32_48
def k0_off68 (k0_t2 : Fin k0_t2_loop.trips) : Fin 4 → Nat :=
  let c0_i32_21 : BitVec 32 := 0#32
  let c1_i32_22 : BitVec 32 := 1#32
  let arg18 : BitVec 32 := Scf.iv c0_i32_21 c1_i32_22 k0_t2
  let c2_i32_24 : BitVec 32 := 2#32
  let v55 : BitVec 32 := Scalar.remsi arg18 c2_i32_24
  let v84 : Index := Scalar.indexCast v55
  let c1_49 : Index := 1#32
  let c384_i32_48 : BitVec 32 := 384#32
  let v83 : BitVec 32 := c384_i32_48
  let v85 : Index := Scalar.indexCast v83
  let c512_50 : Index := 512#32
  ![v84.toNat, 1, 384, 512]
def k0_off69 (k0_t2 : Fin k0_t2_loop.trips) (c0_i32_92 : BitVec 32) (c0_i32_93 : BitVec 32) : Fin 4 → Nat :=
  let c0_95 : Index := 0#32
  let c4_i32_91 : BitVec 32 := 4#32
  let c0_i32_21 : BitVec 32 := 0#32
  let c1_i32_22 : BitVec 32 := 1#32
  let arg18 : BitVec 32 := Scf.iv c0_i32_21 c1_i32_22 k0_t2
  let v176 : BitVec 32 := Scalar.muli c4_i32_91 arg18
  let v177 : BitVec 32 := Scalar.addi v176 c0_i32_92
  let v178 : BitVec 32 := Scalar.addi v177 c0_i32_93
  let c16_i32_94 : BitVec 32 := 16#32
  let v179 : BitVec 32 := Scalar.addi v178 c16_i32_94
  let v180 : Index := Scalar.indexCast v179
  let c192 : Index := 192#32
  let c0_96 : Index := 0#32
  ![0, v180.toNat, 192, 0]
@[reducible] def k0_t6_loop : Scf.Loop 32 :=
  let c0_i32_17 : BitVec 32 := 0#32
  let c2_i32_18 : BitVec 32 := 2#32
  let v53 : BitVec 32 := Scalar.addi c0_i32_17 c2_i32_18
  let c1_i32_19 : BitVec 32 := 1#32
  ⟨c0_i32_17, v53, c1_i32_19⟩
def k0_mult16 (k0_t6 : Fin k0_t6_loop.trips) : BitVec 32 :=
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  v55
def k0_mult17 : BitVec 32 :=
  let c0_i32_24 : BitVec 32 := 0#32
  c0_i32_24
def k0_off70 (k0_t6 : Fin k0_t6_loop.trips) : Fin 4 → Nat :=
  let c0_25 : Index := 0#32
  let c0_26 : Index := 0#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v58 : Index := Scalar.indexCast v56
  let c0_27 : Index := 0#32
  ![0, 0, v58.toNat, 0]
def k0_off71 (k0_t6 : Fin k0_t6_loop.trips) : Fin 4 → Nat :=
  let c0_28 : Index := 0#32
  let c0_29 : Index := 0#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v62 : Index := Scalar.indexCast v56
  let c128 : Index := 128#32
  ![0, 0, v62.toNat, 128]
def k0_off72 (k0_t6 : Fin k0_t6_loop.trips) : Fin 4 → Nat :=
  let c0_30 : Index := 0#32
  let c0_31 : Index := 0#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v66 : Index := Scalar.indexCast v56
  let c256 : Index := 256#32
  ![0, 0, v66.toNat, 256]
def k0_off73 (k0_t6 : Fin k0_t6_loop.trips) : Fin 4 → Nat :=
  let c0_32 : Index := 0#32
  let c0_33 : Index := 0#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v70 : Index := Scalar.indexCast v56
  let c384 : Index := 384#32
  ![0, 0, v70.toNat, 384]
def k0_off74 (k0_t6 : Fin k0_t6_loop.trips) : Fin 4 → Nat :=
  let c0_34 : Index := 0#32
  let c0_35 : Index := 0#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v74 : Index := Scalar.indexCast v56
  let c512 : Index := 512#32
  ![0, 0, v74.toNat, 512]
def k0_off75 (k0_t6 : Fin k0_t6_loop.trips) : Fin 4 → Nat :=
  let c0_36 : Index := 0#32
  let c32 : Index := 32#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v78 : Index := Scalar.indexCast v56
  let c0_37 : Index := 0#32
  ![0, 32, v78.toNat, 0]
def k0_off76 (k0_t6 : Fin k0_t6_loop.trips) : Fin 4 → Nat :=
  let c0_38 : Index := 0#32
  let c32_39 : Index := 32#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v82 : Index := Scalar.indexCast v56
  let c128_40 : Index := 128#32
  ![0, 32, v82.toNat, 128]
def k0_off77 (k0_t6 : Fin k0_t6_loop.trips) : Fin 4 → Nat :=
  let c0_41 : Index := 0#32
  let c32_42 : Index := 32#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v86 : Index := Scalar.indexCast v56
  let c256_43 : Index := 256#32
  ![0, 32, v86.toNat, 256]
def k0_off78 (k0_t6 : Fin k0_t6_loop.trips) : Fin 4 → Nat :=
  let c0_44 : Index := 0#32
  let c32_45 : Index := 32#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v90 : Index := Scalar.indexCast v56
  let c384_46 : Index := 384#32
  ![0, 32, v90.toNat, 384]
def k0_off79 (k0_t6 : Fin k0_t6_loop.trips) : Fin 4 → Nat :=
  let c0_47 : Index := 0#32
  let c32_48 : Index := 32#32
  let c0_i32_17 : BitVec 32 := 0#32
  let c1_i32_19 : BitVec 32 := 1#32
  let arg18 : BitVec 32 := Scf.iv c0_i32_17 c1_i32_19 k0_t6
  let c32_i32 : BitVec 32 := 32#32
  let v55 : BitVec 32 := Scalar.muli arg18 c32_i32
  let v56 : BitVec 32 := v55
  let v94 : Index := Scalar.indexCast v56
  let c512_49 : Index := 512#32
  ![0, 32, v94.toNat, 512]
def k0_off80 (k0_t6 : Fin k0_t6_loop.trips) (c0_i32_79 : BitVec 32) : Fin 4 → Nat :=
  let c0_80 : Index := 0#32
  let c0_i32_17 : BitVec 32 := 0#32
  let c1_i32_19 : BitVec 32 := 1#32
  let arg18 : BitVec 32 := Scf.iv c0_i32_17 c1_i32_19 k0_t6
  let v210 : Index := Scalar.indexCast arg18
  let c0_i32_24 : BitVec 32 := 0#32
  let v57 : BitVec 32 := c0_i32_24
  let v209 : BitVec 32 := Scalar.addi v57 c0_i32_79
  let v211 : Index := Scalar.indexCast v209
  let c0_81 : Index := 0#32
  ![0, v210.toNat, v211.toNat, 0]
def k0_off81 (k0_t6 : Fin k0_t6_loop.trips) (c0_i32_82 : BitVec 32) : Fin 4 → Nat :=
  let c0_83 : Index := 0#32
  let c0_i32_17 : BitVec 32 := 0#32
  let c1_i32_19 : BitVec 32 := 1#32
  let arg18 : BitVec 32 := Scf.iv c0_i32_17 c1_i32_19 k0_t6
  let v218 : Index := Scalar.indexCast arg18
  let c0_i32_24 : BitVec 32 := 0#32
  let v57 : BitVec 32 := c0_i32_24
  let v217 : BitVec 32 := Scalar.addi v57 c0_i32_82
  let v219 : Index := Scalar.indexCast v217
  let c128_84 : Index := 128#32
  ![0, v218.toNat, v219.toNat, 128]
def k0_off82 (k0_t6 : Fin k0_t6_loop.trips) (c0_i32_85 : BitVec 32) : Fin 4 → Nat :=
  let c0_86 : Index := 0#32
  let c0_i32_17 : BitVec 32 := 0#32
  let c1_i32_19 : BitVec 32 := 1#32
  let arg18 : BitVec 32 := Scf.iv c0_i32_17 c1_i32_19 k0_t6
  let v226 : Index := Scalar.indexCast arg18
  let c0_i32_24 : BitVec 32 := 0#32
  let v57 : BitVec 32 := c0_i32_24
  let v225 : BitVec 32 := Scalar.addi v57 c0_i32_85
  let v227 : Index := Scalar.indexCast v225
  let c256_87 : Index := 256#32
  ![0, v226.toNat, v227.toNat, 256]
def k0_off83 (k0_t6 : Fin k0_t6_loop.trips) (c0_i32_88 : BitVec 32) : Fin 4 → Nat :=
  let c0_89 : Index := 0#32
  let c0_i32_17 : BitVec 32 := 0#32
  let c1_i32_19 : BitVec 32 := 1#32
  let arg18 : BitVec 32 := Scf.iv c0_i32_17 c1_i32_19 k0_t6
  let v234 : Index := Scalar.indexCast arg18
  let c0_i32_24 : BitVec 32 := 0#32
  let v57 : BitVec 32 := c0_i32_24
  let v233 : BitVec 32 := Scalar.addi v57 c0_i32_88
  let v235 : Index := Scalar.indexCast v233
  let c384_90 : Index := 384#32
  ![0, v234.toNat, v235.toNat, 384]
def k0_off84 (k0_t6 : Fin k0_t6_loop.trips) (c0_i32_91 : BitVec 32) : Fin 4 → Nat :=
  let c0_92 : Index := 0#32
  let c0_i32_17 : BitVec 32 := 0#32
  let c1_i32_19 : BitVec 32 := 1#32
  let arg18 : BitVec 32 := Scf.iv c0_i32_17 c1_i32_19 k0_t6
  let v242 : Index := Scalar.indexCast arg18
  let c0_i32_24 : BitVec 32 := 0#32
  let v57 : BitVec 32 := c0_i32_24
  let v241 : BitVec 32 := Scalar.addi v57 c0_i32_91
  let v243 : Index := Scalar.indexCast v241
  let c512_93 : Index := 512#32
  ![0, v242.toNat, v243.toNat, 512]
@[reducible] def k0_t7_loop : Scf.Loop 32 :=
  let c0_i32_21 : BitVec 32 := 0#32
  let c4_i32 : BitVec 32 := 4#32
  let v54 : BitVec 32 := Scalar.addi c0_i32_21 c4_i32
  let c1_i32_22 : BitVec 32 := 1#32
  ⟨c0_i32_21, v54, c1_i32_22⟩
@[reducible] def k0_t8_loop : Scf.Loop 32 :=
  let c0_i32_26 : BitVec 32 := 0#32
  let c14_i32 : BitVec 32 := 14#32
  let v57 : BitVec 32 := Scalar.addi c0_i32_26 c14_i32
  let c1_i32_27 : BitVec 32 := 1#32
  ⟨c0_i32_26, v57, c1_i32_27⟩
def k0_mult18 (k0_t8 : Fin k0_t8_loop.trips) : BitVec 32 :=
  let c0_i32_26 : BitVec 32 := 0#32
  let c1_i32_27 : BitVec 32 := 1#32
  let arg19 : BitVec 32 := Scf.iv c0_i32_26 c1_i32_27 k0_t8
  let c2_i32_209 : BitVec 32 := 2#32
  let v523 : BitVec 32 := Scalar.remsi arg19 c2_i32_209
  let c32_i32_211 : BitVec 32 := 32#32
  let v527 : BitVec 32 := Scalar.muli v523 c32_i32_211
  v527
def k0_mult19 (k0_t8 : Fin k0_t8_loop.trips) : BitVec 32 :=
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let c96_i32 : BitVec 32 := 96#32
  let v529 : BitVec 32 := Scalar.muli v522 c96_i32
  v529
def k0_off85 (k0_t7 : Fin k0_t7_loop.trips) (k0_t8 : Fin k0_t8_loop.trips) : Fin 4 → Nat :=
  let c0_212 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v524 : BitVec 32 := Scalar.addi v56 v522
  let v531 : Index := Scalar.indexCast v524
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v532 : Index := Scalar.indexCast v528
  let c0_213 : Index := 0#32
  ![0, v531.toNat, v532.toNat, 0]
def k0_off86 (k0_t7 : Fin k0_t7_loop.trips) (k0_t8 : Fin k0_t8_loop.trips) : Fin 4 → Nat :=
  let c0_214 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v524 : BitVec 32 := Scalar.addi v56 v522
  let v536 : Index := Scalar.indexCast v524
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v537 : Index := Scalar.indexCast v528
  let c128 : Index := 128#32
  ![0, v536.toNat, v537.toNat, 128]
def k0_off87 (k0_t7 : Fin k0_t7_loop.trips) (k0_t8 : Fin k0_t8_loop.trips) : Fin 4 → Nat :=
  let c0_215 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v524 : BitVec 32 := Scalar.addi v56 v522
  let v541 : Index := Scalar.indexCast v524
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v542 : Index := Scalar.indexCast v528
  let c256 : Index := 256#32
  ![0, v541.toNat, v542.toNat, 256]
def k0_off88 (k0_t7 : Fin k0_t7_loop.trips) (k0_t8 : Fin k0_t8_loop.trips) : Fin 4 → Nat :=
  let c0_216 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v524 : BitVec 32 := Scalar.addi v56 v522
  let v546 : Index := Scalar.indexCast v524
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v547 : Index := Scalar.indexCast v528
  let c384 : Index := 384#32
  ![0, v546.toNat, v547.toNat, 384]
def k0_off89 (k0_t7 : Fin k0_t7_loop.trips) (k0_t8 : Fin k0_t8_loop.trips) : Fin 4 → Nat :=
  let c0_217 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v524 : BitVec 32 := Scalar.addi v56 v522
  let v551 : Index := Scalar.indexCast v524
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v552 : Index := Scalar.indexCast v528
  let c512_218 : Index := 512#32
  ![0, v551.toNat, v552.toNat, 512]
def k0_off90 (k0_t7 : Fin k0_t7_loop.trips) (k0_t8 : Fin k0_t8_loop.trips) : Fin 4 → Nat :=
  let c0_219 : Index := 0#32
  let c32_i32_210 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let v525 : BitVec 32 := Scalar.addi c32_i32_210 v56
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v526 : BitVec 32 := Scalar.addi v525 v522
  let v556 : Index := Scalar.indexCast v526
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v557 : Index := Scalar.indexCast v528
  let c0_220 : Index := 0#32
  ![0, v556.toNat, v557.toNat, 0]
def k0_off91 (k0_t7 : Fin k0_t7_loop.trips) (k0_t8 : Fin k0_t8_loop.trips) : Fin 4 → Nat :=
  let c0_221 : Index := 0#32
  let c32_i32_210 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let v525 : BitVec 32 := Scalar.addi c32_i32_210 v56
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v526 : BitVec 32 := Scalar.addi v525 v522
  let v561 : Index := Scalar.indexCast v526
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v562 : Index := Scalar.indexCast v528
  let c128_222 : Index := 128#32
  ![0, v561.toNat, v562.toNat, 128]
def k0_off92 (k0_t7 : Fin k0_t7_loop.trips) (k0_t8 : Fin k0_t8_loop.trips) : Fin 4 → Nat :=
  let c0_223 : Index := 0#32
  let c32_i32_210 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let v525 : BitVec 32 := Scalar.addi c32_i32_210 v56
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v526 : BitVec 32 := Scalar.addi v525 v522
  let v566 : Index := Scalar.indexCast v526
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v567 : Index := Scalar.indexCast v528
  let c256_224 : Index := 256#32
  ![0, v566.toNat, v567.toNat, 256]
def k0_off93 (k0_t7 : Fin k0_t7_loop.trips) (k0_t8 : Fin k0_t8_loop.trips) : Fin 4 → Nat :=
  let c0_225 : Index := 0#32
  let c32_i32_210 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let v525 : BitVec 32 := Scalar.addi c32_i32_210 v56
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v526 : BitVec 32 := Scalar.addi v525 v522
  let v571 : Index := Scalar.indexCast v526
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v572 : Index := Scalar.indexCast v528
  let c384_226 : Index := 384#32
  ![0, v571.toNat, v572.toNat, 384]
def k0_off94 (k0_t7 : Fin k0_t7_loop.trips) (k0_t8 : Fin k0_t8_loop.trips) : Fin 4 → Nat :=
  let c0_227 : Index := 0#32
  let c32_i32_210 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let v525 : BitVec 32 := Scalar.addi c32_i32_210 v56
  let c1_i32_208 : BitVec 32 := 1#32
  let c0_i32_26 : BitVec 32 := 0#32
  let c1_i32_27 : BitVec 32 := 1#32
  let arg19 : BitVec 32 := Scf.iv c0_i32_26 c1_i32_27 k0_t8
  let c2_i32_207 : BitVec 32 := 2#32
  let v521 : BitVec 32 := Scalar.divsi arg19 c2_i32_207
  let v522 : BitVec 32 := Scalar.addi c1_i32_208 v521
  let v526 : BitVec 32 := Scalar.addi v525 v522
  let v576 : Index := Scalar.indexCast v526
  let c2_i32_209 : BitVec 32 := 2#32
  let v523 : BitVec 32 := Scalar.remsi arg19 c2_i32_209
  let c32_i32_211 : BitVec 32 := 32#32
  let v527 : BitVec 32 := Scalar.muli v523 c32_i32_211
  let v528 : BitVec 32 := v527
  let v577 : Index := Scalar.indexCast v528
  let c512_228 : Index := 512#32
  ![0, v576.toNat, v577.toNat, 512]
def k0_off95 (k0_t7 : Fin k0_t7_loop.trips) (k0_t8 : Fin k0_t8_loop.trips) (c0_i32_259 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v693 : Index := Scalar.indexCast v55
  let c0_i32_26 : BitVec 32 := 0#32
  let c1_i32_27 : BitVec 32 := 1#32
  let arg19 : BitVec 32 := Scf.iv c0_i32_26 c1_i32_27 k0_t8
  let c2_i32_209 : BitVec 32 := 2#32
  let v523 : BitVec 32 := Scalar.remsi arg19 c2_i32_209
  let v694 : Index := Scalar.indexCast v523
  let c1_i32_208 : BitVec 32 := 1#32
  let c2_i32_207 : BitVec 32 := 2#32
  let v521 : BitVec 32 := Scalar.divsi arg19 c2_i32_207
  let v522 : BitVec 32 := Scalar.addi c1_i32_208 v521
  let c96_i32 : BitVec 32 := 96#32
  let v529 : BitVec 32 := Scalar.muli v522 c96_i32
  let v530 : BitVec 32 := v529
  let v692 : BitVec 32 := Scalar.addi v530 c0_i32_259
  let v695 : Index := Scalar.indexCast v692
  let c0_260 : Index := 0#32
  ![v693.toNat, v694.toNat, v695.toNat, 0]
def k0_off96 (k0_t7 : Fin k0_t7_loop.trips) (k0_t8 : Fin k0_t8_loop.trips) (c0_i32_261 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v702 : Index := Scalar.indexCast v55
  let c0_i32_26 : BitVec 32 := 0#32
  let c1_i32_27 : BitVec 32 := 1#32
  let arg19 : BitVec 32 := Scf.iv c0_i32_26 c1_i32_27 k0_t8
  let c2_i32_209 : BitVec 32 := 2#32
  let v523 : BitVec 32 := Scalar.remsi arg19 c2_i32_209
  let v703 : Index := Scalar.indexCast v523
  let c1_i32_208 : BitVec 32 := 1#32
  let c2_i32_207 : BitVec 32 := 2#32
  let v521 : BitVec 32 := Scalar.divsi arg19 c2_i32_207
  let v522 : BitVec 32 := Scalar.addi c1_i32_208 v521
  let c96_i32 : BitVec 32 := 96#32
  let v529 : BitVec 32 := Scalar.muli v522 c96_i32
  let v530 : BitVec 32 := v529
  let v701 : BitVec 32 := Scalar.addi v530 c0_i32_261
  let v704 : Index := Scalar.indexCast v701
  let c128_262 : Index := 128#32
  ![v702.toNat, v703.toNat, v704.toNat, 128]
def k0_off97 (k0_t7 : Fin k0_t7_loop.trips) (k0_t8 : Fin k0_t8_loop.trips) (c0_i32_263 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v711 : Index := Scalar.indexCast v55
  let c0_i32_26 : BitVec 32 := 0#32
  let c1_i32_27 : BitVec 32 := 1#32
  let arg19 : BitVec 32 := Scf.iv c0_i32_26 c1_i32_27 k0_t8
  let c2_i32_209 : BitVec 32 := 2#32
  let v523 : BitVec 32 := Scalar.remsi arg19 c2_i32_209
  let v712 : Index := Scalar.indexCast v523
  let c1_i32_208 : BitVec 32 := 1#32
  let c2_i32_207 : BitVec 32 := 2#32
  let v521 : BitVec 32 := Scalar.divsi arg19 c2_i32_207
  let v522 : BitVec 32 := Scalar.addi c1_i32_208 v521
  let c96_i32 : BitVec 32 := 96#32
  let v529 : BitVec 32 := Scalar.muli v522 c96_i32
  let v530 : BitVec 32 := v529
  let v710 : BitVec 32 := Scalar.addi v530 c0_i32_263
  let v713 : Index := Scalar.indexCast v710
  let c256_264 : Index := 256#32
  ![v711.toNat, v712.toNat, v713.toNat, 256]
def k0_off98 (k0_t7 : Fin k0_t7_loop.trips) (k0_t8 : Fin k0_t8_loop.trips) (c0_i32_265 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v720 : Index := Scalar.indexCast v55
  let c0_i32_26 : BitVec 32 := 0#32
  let c1_i32_27 : BitVec 32 := 1#32
  let arg19 : BitVec 32 := Scf.iv c0_i32_26 c1_i32_27 k0_t8
  let c2_i32_209 : BitVec 32 := 2#32
  let v523 : BitVec 32 := Scalar.remsi arg19 c2_i32_209
  let v721 : Index := Scalar.indexCast v523
  let c1_i32_208 : BitVec 32 := 1#32
  let c2_i32_207 : BitVec 32 := 2#32
  let v521 : BitVec 32 := Scalar.divsi arg19 c2_i32_207
  let v522 : BitVec 32 := Scalar.addi c1_i32_208 v521
  let c96_i32 : BitVec 32 := 96#32
  let v529 : BitVec 32 := Scalar.muli v522 c96_i32
  let v530 : BitVec 32 := v529
  let v719 : BitVec 32 := Scalar.addi v530 c0_i32_265
  let v722 : Index := Scalar.indexCast v719
  let c384_266 : Index := 384#32
  ![v720.toNat, v721.toNat, v722.toNat, 384]
def k0_off99 (k0_t7 : Fin k0_t7_loop.trips) (k0_t8 : Fin k0_t8_loop.trips) (c0_i32_267 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v729 : Index := Scalar.indexCast v55
  let c0_i32_26 : BitVec 32 := 0#32
  let c1_i32_27 : BitVec 32 := 1#32
  let arg19 : BitVec 32 := Scf.iv c0_i32_26 c1_i32_27 k0_t8
  let c2_i32_209 : BitVec 32 := 2#32
  let v523 : BitVec 32 := Scalar.remsi arg19 c2_i32_209
  let v730 : Index := Scalar.indexCast v523
  let c1_i32_208 : BitVec 32 := 1#32
  let c2_i32_207 : BitVec 32 := 2#32
  let v521 : BitVec 32 := Scalar.divsi arg19 c2_i32_207
  let v522 : BitVec 32 := Scalar.addi c1_i32_208 v521
  let c96_i32 : BitVec 32 := 96#32
  let v529 : BitVec 32 := Scalar.muli v522 c96_i32
  let v530 : BitVec 32 := v529
  let v728 : BitVec 32 := Scalar.addi v530 c0_i32_267
  let v731 : Index := Scalar.indexCast v728
  let c512_268 : Index := 512#32
  ![v729.toNat, v730.toNat, v731.toNat, 512]
@[reducible] def k0_t9_loop : Scf.Loop 32 :=
  let c0_i32_30 : BitVec 32 := 0#32
  let c2_i32_31 : BitVec 32 := 2#32
  let v61 : BitVec 32 := Scalar.addi c0_i32_30 c2_i32_31
  let c1_i32_32 : BitVec 32 := 1#32
  ⟨c0_i32_30, v61, c1_i32_32⟩
def k0_mult20 (k0_t9 : Fin k0_t9_loop.trips) : BitVec 32 :=
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  v523
def k0_mult21 : BitVec 32 :=
  let c768_i32 : BitVec 32 := 768#32
  c768_i32
def k0_mult22 : BitVec 32 :=
  let c0_i32_209 : BitVec 32 := 0#32
  c0_i32_209
def k0_off100 (k0_t7 : Fin k0_t7_loop.trips) (k0_t9 : Fin k0_t9_loop.trips) : Fin 4 → Nat :=
  let c0_210 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v527 : Index := Scalar.indexCast v58
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v528 : Index := Scalar.indexCast v524
  let c0_211 : Index := 0#32
  ![0, v527.toNat, v528.toNat, 0]
def k0_off101 (k0_t7 : Fin k0_t7_loop.trips) (k0_t9 : Fin k0_t9_loop.trips) : Fin 4 → Nat :=
  let c0_212 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v532 : Index := Scalar.indexCast v58
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v533 : Index := Scalar.indexCast v524
  let c128 : Index := 128#32
  ![0, v532.toNat, v533.toNat, 128]
def k0_off102 (k0_t7 : Fin k0_t7_loop.trips) (k0_t9 : Fin k0_t9_loop.trips) : Fin 4 → Nat :=
  let c0_213 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v537 : Index := Scalar.indexCast v58
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v538 : Index := Scalar.indexCast v524
  let c256 : Index := 256#32
  ![0, v537.toNat, v538.toNat, 256]
def k0_off103 (k0_t7 : Fin k0_t7_loop.trips) (k0_t9 : Fin k0_t9_loop.trips) : Fin 4 → Nat :=
  let c0_214 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v542 : Index := Scalar.indexCast v58
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v543 : Index := Scalar.indexCast v524
  let c384 : Index := 384#32
  ![0, v542.toNat, v543.toNat, 384]
def k0_off104 (k0_t7 : Fin k0_t7_loop.trips) (k0_t9 : Fin k0_t9_loop.trips) : Fin 4 → Nat :=
  let c0_215 : Index := 0#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v547 : Index := Scalar.indexCast v58
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v548 : Index := Scalar.indexCast v524
  let c512_216 : Index := 512#32
  ![0, v547.toNat, v548.toNat, 512]
def k0_off105 (k0_t7 : Fin k0_t7_loop.trips) (k0_t9 : Fin k0_t9_loop.trips) : Fin 4 → Nat :=
  let c0_217 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v552 : Index := Scalar.indexCast v60
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v553 : Index := Scalar.indexCast v524
  let c0_218 : Index := 0#32
  ![0, v552.toNat, v553.toNat, 0]
def k0_off106 (k0_t9 : Fin k0_t9_loop.trips) : Fin 4 → Nat :=
  let c0_219 : Index := 0#32
  let c0_220 : Index := 0#32
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v557 : Index := Scalar.indexCast v524
  let c0_221 : Index := 0#32
  ![0, 0, v557.toNat, 0]
def k0_off107 (k0_t7 : Fin k0_t7_loop.trips) (k0_t9 : Fin k0_t9_loop.trips) : Fin 4 → Nat :=
  let c0_222 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v563 : Index := Scalar.indexCast v60
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v564 : Index := Scalar.indexCast v524
  let c128_223 : Index := 128#32
  ![0, v563.toNat, v564.toNat, 128]
def k0_off108 (k0_t9 : Fin k0_t9_loop.trips) : Fin 4 → Nat :=
  let c0_224 : Index := 0#32
  let c0_225 : Index := 0#32
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v568 : Index := Scalar.indexCast v524
  let c128_226 : Index := 128#32
  ![0, 0, v568.toNat, 128]
def k0_off109 (k0_t7 : Fin k0_t7_loop.trips) (k0_t9 : Fin k0_t9_loop.trips) : Fin 4 → Nat :=
  let c0_227 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v574 : Index := Scalar.indexCast v60
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v575 : Index := Scalar.indexCast v524
  let c256_228 : Index := 256#32
  ![0, v574.toNat, v575.toNat, 256]
def k0_off110 (k0_t9 : Fin k0_t9_loop.trips) : Fin 4 → Nat :=
  let c0_229 : Index := 0#32
  let c0_230 : Index := 0#32
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v579 : Index := Scalar.indexCast v524
  let c256_231 : Index := 256#32
  ![0, 0, v579.toNat, 256]
def k0_off111 (k0_t7 : Fin k0_t7_loop.trips) (k0_t9 : Fin k0_t9_loop.trips) : Fin 4 → Nat :=
  let c0_232 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v585 : Index := Scalar.indexCast v60
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v586 : Index := Scalar.indexCast v524
  let c384_233 : Index := 384#32
  ![0, v585.toNat, v586.toNat, 384]
def k0_off112 (k0_t9 : Fin k0_t9_loop.trips) : Fin 4 → Nat :=
  let c0_234 : Index := 0#32
  let c0_235 : Index := 0#32
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v590 : Index := Scalar.indexCast v524
  let c384_236 : Index := 384#32
  ![0, 0, v590.toNat, 384]
def k0_off113 (k0_t7 : Fin k0_t7_loop.trips) (k0_t9 : Fin k0_t9_loop.trips) : Fin 4 → Nat :=
  let c0_237 : Index := 0#32
  let c32_i32 : BitVec 32 := 32#32
  let c8_i32_25 : BitVec 32 := 8#32
  let c0_i32_21 : BitVec 32 := 0#32
  let c1_i32_22 : BitVec 32 := 1#32
  let arg18 : BitVec 32 := Scf.iv c0_i32_21 c1_i32_22 k0_t7
  let v56 : BitVec 32 := Scalar.muli c8_i32_25 arg18
  let c8_i32_29 : BitVec 32 := 8#32
  let v58 : BitVec 32 := Scalar.addi v56 c8_i32_29
  let v59 : BitVec 32 := Scalar.addi c32_i32 v58
  let c63_i32 : BitVec 32 := 63#32
  let v60 : BitVec 32 := Scalar.minsi v59 c63_i32
  let v596 : Index := Scalar.indexCast v60
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v597 : Index := Scalar.indexCast v524
  let c512_238 : Index := 512#32
  ![0, v596.toNat, v597.toNat, 512]
def k0_off114 (k0_t9 : Fin k0_t9_loop.trips) : Fin 4 → Nat :=
  let c0_239 : Index := 0#32
  let c0_240 : Index := 0#32
  let c0_i32_30 : BitVec 32 := 0#32
  let c1_i32_32 : BitVec 32 := 1#32
  let arg19 : BitVec 32 := Scf.iv c0_i32_30 c1_i32_32 k0_t9
  let c32_i32_208 : BitVec 32 := 32#32
  let v523 : BitVec 32 := Scalar.muli arg19 c32_i32_208
  let v524 : BitVec 32 := v523
  let v601 : Index := Scalar.indexCast v524
  let c512_241 : Index := 512#32
  ![0, 0, v601.toNat, 512]
def k0_off115 (k0_t7 : Fin k0_t7_loop.trips) (k0_t9 : Fin k0_t9_loop.trips) (c0_i32_272 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v719 : Index := Scalar.indexCast v55
  let c0_i32_30 : BitVec 32 := 0#32
  let c1_i32_32 : BitVec 32 := 1#32
  let arg19 : BitVec 32 := Scf.iv c0_i32_30 c1_i32_32 k0_t9
  let v720 : Index := Scalar.indexCast arg19
  let c768_i32 : BitVec 32 := 768#32
  let v525 : BitVec 32 := c768_i32
  let v718 : BitVec 32 := Scalar.addi v525 c0_i32_272
  let v721 : Index := Scalar.indexCast v718
  let c0_273 : Index := 0#32
  ![v719.toNat, v720.toNat, v721.toNat, 0]
def k0_off116 (k0_t7 : Fin k0_t7_loop.trips) (k0_t9 : Fin k0_t9_loop.trips) (c0_i32_274 : BitVec 32) : Fin 4 → Nat :=
  let c1_i32_207 : BitVec 32 := 1#32
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v521 : BitVec 32 := Scalar.subi c1_i32_207 v55
  let v726 : Index := Scalar.indexCast v521
  let c0_i32_30 : BitVec 32 := 0#32
  let c1_i32_32 : BitVec 32 := 1#32
  let arg19 : BitVec 32 := Scf.iv c0_i32_30 c1_i32_32 k0_t9
  let v727 : Index := Scalar.indexCast arg19
  let c0_i32_209 : BitVec 32 := 0#32
  let v526 : BitVec 32 := c0_i32_209
  let v725 : BitVec 32 := Scalar.addi v526 c0_i32_274
  let v728 : Index := Scalar.indexCast v725
  let c0_275 : Index := 0#32
  ![v726.toNat, v727.toNat, v728.toNat, 0]
def k0_off117 (k0_t7 : Fin k0_t7_loop.trips) (k0_t9 : Fin k0_t9_loop.trips) (c0_i32_276 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v735 : Index := Scalar.indexCast v55
  let c0_i32_30 : BitVec 32 := 0#32
  let c1_i32_32 : BitVec 32 := 1#32
  let arg19 : BitVec 32 := Scf.iv c0_i32_30 c1_i32_32 k0_t9
  let v736 : Index := Scalar.indexCast arg19
  let c768_i32 : BitVec 32 := 768#32
  let v525 : BitVec 32 := c768_i32
  let v734 : BitVec 32 := Scalar.addi v525 c0_i32_276
  let v737 : Index := Scalar.indexCast v734
  let c128_277 : Index := 128#32
  ![v735.toNat, v736.toNat, v737.toNat, 128]
def k0_off118 (k0_t7 : Fin k0_t7_loop.trips) (k0_t9 : Fin k0_t9_loop.trips) (c0_i32_278 : BitVec 32) : Fin 4 → Nat :=
  let c1_i32_207 : BitVec 32 := 1#32
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v521 : BitVec 32 := Scalar.subi c1_i32_207 v55
  let v742 : Index := Scalar.indexCast v521
  let c0_i32_30 : BitVec 32 := 0#32
  let c1_i32_32 : BitVec 32 := 1#32
  let arg19 : BitVec 32 := Scf.iv c0_i32_30 c1_i32_32 k0_t9
  let v743 : Index := Scalar.indexCast arg19
  let c0_i32_209 : BitVec 32 := 0#32
  let v526 : BitVec 32 := c0_i32_209
  let v741 : BitVec 32 := Scalar.addi v526 c0_i32_278
  let v744 : Index := Scalar.indexCast v741
  let c128_279 : Index := 128#32
  ![v742.toNat, v743.toNat, v744.toNat, 128]
def k0_off119 (k0_t7 : Fin k0_t7_loop.trips) (k0_t9 : Fin k0_t9_loop.trips) (c0_i32_280 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v751 : Index := Scalar.indexCast v55
  let c0_i32_30 : BitVec 32 := 0#32
  let c1_i32_32 : BitVec 32 := 1#32
  let arg19 : BitVec 32 := Scf.iv c0_i32_30 c1_i32_32 k0_t9
  let v752 : Index := Scalar.indexCast arg19
  let c768_i32 : BitVec 32 := 768#32
  let v525 : BitVec 32 := c768_i32
  let v750 : BitVec 32 := Scalar.addi v525 c0_i32_280
  let v753 : Index := Scalar.indexCast v750
  let c256_281 : Index := 256#32
  ![v751.toNat, v752.toNat, v753.toNat, 256]
def k0_off120 (k0_t7 : Fin k0_t7_loop.trips) (k0_t9 : Fin k0_t9_loop.trips) (c0_i32_282 : BitVec 32) : Fin 4 → Nat :=
  let c1_i32_207 : BitVec 32 := 1#32
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v521 : BitVec 32 := Scalar.subi c1_i32_207 v55
  let v758 : Index := Scalar.indexCast v521
  let c0_i32_30 : BitVec 32 := 0#32
  let c1_i32_32 : BitVec 32 := 1#32
  let arg19 : BitVec 32 := Scf.iv c0_i32_30 c1_i32_32 k0_t9
  let v759 : Index := Scalar.indexCast arg19
  let c0_i32_209 : BitVec 32 := 0#32
  let v526 : BitVec 32 := c0_i32_209
  let v757 : BitVec 32 := Scalar.addi v526 c0_i32_282
  let v760 : Index := Scalar.indexCast v757
  let c256_283 : Index := 256#32
  ![v758.toNat, v759.toNat, v760.toNat, 256]
def k0_off121 (k0_t7 : Fin k0_t7_loop.trips) (k0_t9 : Fin k0_t9_loop.trips) (c0_i32_284 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v767 : Index := Scalar.indexCast v55
  let c0_i32_30 : BitVec 32 := 0#32
  let c1_i32_32 : BitVec 32 := 1#32
  let arg19 : BitVec 32 := Scf.iv c0_i32_30 c1_i32_32 k0_t9
  let v768 : Index := Scalar.indexCast arg19
  let c768_i32 : BitVec 32 := 768#32
  let v525 : BitVec 32 := c768_i32
  let v766 : BitVec 32 := Scalar.addi v525 c0_i32_284
  let v769 : Index := Scalar.indexCast v766
  let c384_285 : Index := 384#32
  ![v767.toNat, v768.toNat, v769.toNat, 384]
def k0_off122 (k0_t7 : Fin k0_t7_loop.trips) (k0_t9 : Fin k0_t9_loop.trips) (c0_i32_286 : BitVec 32) : Fin 4 → Nat :=
  let c1_i32_207 : BitVec 32 := 1#32
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v521 : BitVec 32 := Scalar.subi c1_i32_207 v55
  let v774 : Index := Scalar.indexCast v521
  let c0_i32_30 : BitVec 32 := 0#32
  let c1_i32_32 : BitVec 32 := 1#32
  let arg19 : BitVec 32 := Scf.iv c0_i32_30 c1_i32_32 k0_t9
  let v775 : Index := Scalar.indexCast arg19
  let c0_i32_209 : BitVec 32 := 0#32
  let v526 : BitVec 32 := c0_i32_209
  let v773 : BitVec 32 := Scalar.addi v526 c0_i32_286
  let v776 : Index := Scalar.indexCast v773
  let c384_287 : Index := 384#32
  ![v774.toNat, v775.toNat, v776.toNat, 384]
def k0_off123 (k0_t7 : Fin k0_t7_loop.trips) (k0_t9 : Fin k0_t9_loop.trips) (c0_i32_288 : BitVec 32) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v783 : Index := Scalar.indexCast v55
  let c0_i32_30 : BitVec 32 := 0#32
  let c1_i32_32 : BitVec 32 := 1#32
  let arg19 : BitVec 32 := Scf.iv c0_i32_30 c1_i32_32 k0_t9
  let v784 : Index := Scalar.indexCast arg19
  let c768_i32 : BitVec 32 := 768#32
  let v525 : BitVec 32 := c768_i32
  let v782 : BitVec 32 := Scalar.addi v525 c0_i32_288
  let v785 : Index := Scalar.indexCast v782
  let c512_289 : Index := 512#32
  ![v783.toNat, v784.toNat, v785.toNat, 512]
def k0_off124 (k0_t7 : Fin k0_t7_loop.trips) (k0_t9 : Fin k0_t9_loop.trips) (c0_i32_290 : BitVec 32) : Fin 4 → Nat :=
  let c1_i32_207 : BitVec 32 := 1#32
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v521 : BitVec 32 := Scalar.subi c1_i32_207 v55
  let v790 : Index := Scalar.indexCast v521
  let c0_i32_30 : BitVec 32 := 0#32
  let c1_i32_32 : BitVec 32 := 1#32
  let arg19 : BitVec 32 := Scf.iv c0_i32_30 c1_i32_32 k0_t9
  let v791 : Index := Scalar.indexCast arg19
  let c0_i32_209 : BitVec 32 := 0#32
  let v526 : BitVec 32 := c0_i32_209
  let v789 : BitVec 32 := Scalar.addi v526 c0_i32_290
  let v792 : Index := Scalar.indexCast v789
  let c512_291 : Index := 512#32
  ![v790.toNat, v791.toNat, v792.toNat, 512]
@[reducible] def k0_t10_loop : Scf.Loop 32 :=
  let c0_i32_34 : BitVec 32 := 0#32
  let c2_i32_35 : BitVec 32 := 2#32
  let v62 : BitVec 32 := Scalar.addi c0_i32_34 c2_i32_35
  let c1_i32_36 : BitVec 32 := 1#32
  ⟨c0_i32_34, v62, c1_i32_36⟩
def k0_mult23 (k0_t10 : Fin k0_t10_loop.trips) : BitVec 32 :=
  let c4_i32_207 : BitVec 32 := 4#32
  let c0_i32_34 : BitVec 32 := 0#32
  let c1_i32_36 : BitVec 32 := 1#32
  let arg19 : BitVec 32 := Scf.iv c0_i32_34 c1_i32_36 k0_t10
  let v521 : BitVec 32 := Scalar.muli c4_i32_207 arg19
  let c96_i32 : BitVec 32 := 96#32
  let v522 : BitVec 32 := Scalar.muli v521 c96_i32
  v522
def k0_off125 (k0_t7 : Fin k0_t7_loop.trips) (k0_t10 : Fin k0_t10_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v524 : Index := Scalar.indexCast v55
  let c0_208 : Index := 0#32
  let c4_i32_207 : BitVec 32 := 4#32
  let c0_i32_34 : BitVec 32 := 0#32
  let c1_i32_36 : BitVec 32 := 1#32
  let arg19 : BitVec 32 := Scf.iv c0_i32_34 c1_i32_36 k0_t10
  let v521 : BitVec 32 := Scalar.muli c4_i32_207 arg19
  let c96_i32 : BitVec 32 := 96#32
  let v522 : BitVec 32 := Scalar.muli v521 c96_i32
  let v523 : BitVec 32 := v522
  let v525 : Index := Scalar.indexCast v523
  let c0_209 : Index := 0#32
  ![v524.toNat, 0, v525.toNat, 0]
def k0_mult24 (k0_t10 : Fin k0_t10_loop.trips) : BitVec 32 :=
  let c4_i32_214 : BitVec 32 := 4#32
  let c0_i32_34 : BitVec 32 := 0#32
  let c1_i32_36 : BitVec 32 := 1#32
  let arg19 : BitVec 32 := Scf.iv c0_i32_34 c1_i32_36 k0_t10
  let v532 : BitVec 32 := Scalar.muli c4_i32_214 arg19
  let c96_i32_215 : BitVec 32 := 96#32
  let v533 : BitVec 32 := Scalar.muli v532 c96_i32_215
  v533
def k0_off126 (k0_t7 : Fin k0_t7_loop.trips) (k0_t10 : Fin k0_t10_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v535 : Index := Scalar.indexCast v55
  let c1_216 : Index := 1#32
  let c4_i32_214 : BitVec 32 := 4#32
  let c0_i32_34 : BitVec 32 := 0#32
  let c1_i32_36 : BitVec 32 := 1#32
  let arg19 : BitVec 32 := Scf.iv c0_i32_34 c1_i32_36 k0_t10
  let v532 : BitVec 32 := Scalar.muli c4_i32_214 arg19
  let c96_i32_215 : BitVec 32 := 96#32
  let v533 : BitVec 32 := Scalar.muli v532 c96_i32_215
  let v534 : BitVec 32 := v533
  let v536 : Index := Scalar.indexCast v534
  let c0_217 : Index := 0#32
  ![v535.toNat, 1, v536.toNat, 0]
def k0_off127 (k0_t7 : Fin k0_t7_loop.trips) (k0_t10 : Fin k0_t10_loop.trips) (c0_i32_290 : BitVec 32) : Fin 4 → Nat :=
  let c0_291 : Index := 0#32
  let c4_i32_288 : BitVec 32 := 4#32
  let c0_i32_21 : BitVec 32 := 0#32
  let c1_i32_22 : BitVec 32 := 1#32
  let arg18 : BitVec 32 := Scf.iv c0_i32_21 c1_i32_22 k0_t7
  let v736 : BitVec 32 := Scalar.muli c4_i32_288 arg18
  let c2_i32_289 : BitVec 32 := 2#32
  let c0_i32_34 : BitVec 32 := 0#32
  let c1_i32_36 : BitVec 32 := 1#32
  let arg19 : BitVec 32 := Scf.iv c0_i32_34 c1_i32_36 k0_t10
  let v737 : BitVec 32 := Scalar.muli c2_i32_289 arg19
  let v738 : BitVec 32 := Scalar.addi v736 v737
  let v739 : BitVec 32 := Scalar.addi v738 c0_i32_290
  let v740 : Index := Scalar.indexCast v739
  let c0_292 : Index := 0#32
  let c0_293 : Index := 0#32
  ![0, v740.toNat, 0, 0]
def k0_off128 (k0_t7 : Fin k0_t7_loop.trips) (k0_t10 : Fin k0_t10_loop.trips) (c0_i32_296 : BitVec 32) : Fin 4 → Nat :=
  let c0_297 : Index := 0#32
  let c4_i32_294 : BitVec 32 := 4#32
  let c0_i32_21 : BitVec 32 := 0#32
  let c1_i32_22 : BitVec 32 := 1#32
  let arg18 : BitVec 32 := Scf.iv c0_i32_21 c1_i32_22 k0_t7
  let v749 : BitVec 32 := Scalar.muli c4_i32_294 arg18
  let c2_i32_295 : BitVec 32 := 2#32
  let c0_i32_34 : BitVec 32 := 0#32
  let c1_i32_36 : BitVec 32 := 1#32
  let arg19 : BitVec 32 := Scf.iv c0_i32_34 c1_i32_36 k0_t10
  let v750 : BitVec 32 := Scalar.muli c2_i32_295 arg19
  let v751 : BitVec 32 := Scalar.addi v749 v750
  let v752 : BitVec 32 := Scalar.addi v751 c0_i32_296
  let v753 : Index := Scalar.indexCast v752
  let c128 : Index := 128#32
  let c0_298 : Index := 0#32
  ![0, v753.toNat, 128, 0]
def k0_mult25 (k0_t10 : Fin k0_t10_loop.trips) : BitVec 32 :=
  let c4_i32_377 : BitVec 32 := 4#32
  let c0_i32_34 : BitVec 32 := 0#32
  let c1_i32_36 : BitVec 32 := 1#32
  let arg19 : BitVec 32 := Scf.iv c0_i32_34 c1_i32_36 k0_t10
  let v971 : BitVec 32 := Scalar.muli c4_i32_377 arg19
  let c96_i32_378 : BitVec 32 := 96#32
  let v972 : BitVec 32 := Scalar.muli v971 c96_i32_378
  v972
def k0_off129 (k0_t7 : Fin k0_t7_loop.trips) (k0_t10 : Fin k0_t10_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v974 : Index := Scalar.indexCast v55
  let c0_379 : Index := 0#32
  let c4_i32_377 : BitVec 32 := 4#32
  let c0_i32_34 : BitVec 32 := 0#32
  let c1_i32_36 : BitVec 32 := 1#32
  let arg19 : BitVec 32 := Scf.iv c0_i32_34 c1_i32_36 k0_t10
  let v971 : BitVec 32 := Scalar.muli c4_i32_377 arg19
  let c96_i32_378 : BitVec 32 := 96#32
  let v972 : BitVec 32 := Scalar.muli v971 c96_i32_378
  let v973 : BitVec 32 := v972
  let v975 : Index := Scalar.indexCast v973
  let c256 : Index := 256#32
  ![v974.toNat, 0, v975.toNat, 256]
def k0_mult26 (k0_t10 : Fin k0_t10_loop.trips) : BitVec 32 :=
  let c4_i32_384 : BitVec 32 := 4#32
  let c0_i32_34 : BitVec 32 := 0#32
  let c1_i32_36 : BitVec 32 := 1#32
  let arg19 : BitVec 32 := Scf.iv c0_i32_34 c1_i32_36 k0_t10
  let v982 : BitVec 32 := Scalar.muli c4_i32_384 arg19
  let c96_i32_385 : BitVec 32 := 96#32
  let v983 : BitVec 32 := Scalar.muli v982 c96_i32_385
  v983
def k0_off130 (k0_t7 : Fin k0_t7_loop.trips) (k0_t10 : Fin k0_t10_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v985 : Index := Scalar.indexCast v55
  let c1_386 : Index := 1#32
  let c4_i32_384 : BitVec 32 := 4#32
  let c0_i32_34 : BitVec 32 := 0#32
  let c1_i32_36 : BitVec 32 := 1#32
  let arg19 : BitVec 32 := Scf.iv c0_i32_34 c1_i32_36 k0_t10
  let v982 : BitVec 32 := Scalar.muli c4_i32_384 arg19
  let c96_i32_385 : BitVec 32 := 96#32
  let v983 : BitVec 32 := Scalar.muli v982 c96_i32_385
  let v984 : BitVec 32 := v983
  let v986 : Index := Scalar.indexCast v984
  let c256_387 : Index := 256#32
  ![v985.toNat, 1, v986.toNat, 256]
def k0_off131 (k0_t7 : Fin k0_t7_loop.trips) (k0_t10 : Fin k0_t10_loop.trips) (c0_i32_460 : BitVec 32) : Fin 4 → Nat :=
  let c0_461 : Index := 0#32
  let c4_i32_458 : BitVec 32 := 4#32
  let c0_i32_21 : BitVec 32 := 0#32
  let c1_i32_22 : BitVec 32 := 1#32
  let arg18 : BitVec 32 := Scf.iv c0_i32_21 c1_i32_22 k0_t7
  let v1186 : BitVec 32 := Scalar.muli c4_i32_458 arg18
  let c2_i32_459 : BitVec 32 := 2#32
  let c0_i32_34 : BitVec 32 := 0#32
  let c1_i32_36 : BitVec 32 := 1#32
  let arg19 : BitVec 32 := Scf.iv c0_i32_34 c1_i32_36 k0_t10
  let v1187 : BitVec 32 := Scalar.muli c2_i32_459 arg19
  let v1188 : BitVec 32 := Scalar.addi v1186 v1187
  let v1189 : BitVec 32 := Scalar.addi v1188 c0_i32_460
  let v1191 : Index := Scalar.indexCast v1189
  let c256_462 : Index := 256#32
  let c0_463 : Index := 0#32
  ![0, v1191.toNat, 256, 0]
def k0_off132 (k0_t7 : Fin k0_t7_loop.trips) (k0_t10 : Fin k0_t10_loop.trips) (c0_i32_460 : BitVec 32) : Fin 4 → Nat :=
  let c0_465 : Index := 0#32
  let c4_i32_458 : BitVec 32 := 4#32
  let c0_i32_21 : BitVec 32 := 0#32
  let c1_i32_22 : BitVec 32 := 1#32
  let arg18 : BitVec 32 := Scf.iv c0_i32_21 c1_i32_22 k0_t7
  let v1186 : BitVec 32 := Scalar.muli c4_i32_458 arg18
  let c2_i32_459 : BitVec 32 := 2#32
  let c0_i32_34 : BitVec 32 := 0#32
  let c1_i32_36 : BitVec 32 := 1#32
  let arg19 : BitVec 32 := Scf.iv c0_i32_34 c1_i32_36 k0_t10
  let v1187 : BitVec 32 := Scalar.muli c2_i32_459 arg19
  let v1188 : BitVec 32 := Scalar.addi v1186 v1187
  let v1189 : BitVec 32 := Scalar.addi v1188 c0_i32_460
  let c16_i32_464 : BitVec 32 := 16#32
  let v1196 : BitVec 32 := Scalar.addi v1189 c16_i32_464
  let v1197 : Index := Scalar.indexCast v1196
  let c0_466 : Index := 0#32
  let c0_467 : Index := 0#32
  ![0, v1197.toNat, 0, 0]
def k0_off133 (k0_t7 : Fin k0_t7_loop.trips) (k0_t10 : Fin k0_t10_loop.trips) (c0_i32_470 : BitVec 32) : Fin 4 → Nat :=
  let c0_472 : Index := 0#32
  let c4_i32_468 : BitVec 32 := 4#32
  let c0_i32_21 : BitVec 32 := 0#32
  let c1_i32_22 : BitVec 32 := 1#32
  let arg18 : BitVec 32 := Scf.iv c0_i32_21 c1_i32_22 k0_t7
  let v1206 : BitVec 32 := Scalar.muli c4_i32_468 arg18
  let c2_i32_469 : BitVec 32 := 2#32
  let c0_i32_34 : BitVec 32 := 0#32
  let c1_i32_36 : BitVec 32 := 1#32
  let arg19 : BitVec 32 := Scf.iv c0_i32_34 c1_i32_36 k0_t10
  let v1207 : BitVec 32 := Scalar.muli c2_i32_469 arg19
  let v1208 : BitVec 32 := Scalar.addi v1206 v1207
  let v1209 : BitVec 32 := Scalar.addi v1208 c0_i32_470
  let c16_i32_471 : BitVec 32 := 16#32
  let v1210 : BitVec 32 := Scalar.addi v1209 c16_i32_471
  let v1211 : Index := Scalar.indexCast v1210
  let c64_473 : Index := 64#32
  let c0_474 : Index := 0#32
  ![0, v1211.toNat, 64, 0]
def k0_mult27 : BitVec 32 :=
  let c0_i32_38 : BitVec 32 := 0#32
  c0_i32_38
def k0_off134 (k0_t7 : Fin k0_t7_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v64 : Index := Scalar.indexCast v55
  let c0_39 : Index := 0#32
  let c0_i32_38 : BitVec 32 := 0#32
  let v63 : BitVec 32 := c0_i32_38
  let v65 : Index := Scalar.indexCast v63
  let c512 : Index := 512#32
  ![v64.toNat, 0, 0, 512]
def k0_mult28 : BitVec 32 :=
  let c384_i32 : BitVec 32 := 384#32
  c384_i32
def k0_off135 (k0_t7 : Fin k0_t7_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v69 : Index := Scalar.indexCast v55
  let c0_40 : Index := 0#32
  let c384_i32 : BitVec 32 := 384#32
  let v68 : BitVec 32 := c384_i32
  let v70 : Index := Scalar.indexCast v68
  let c512_41 : Index := 512#32
  ![v69.toNat, 0, 384, 512]
def k0_mult29 : BitVec 32 :=
  let c0_i32_46 : BitVec 32 := 0#32
  c0_i32_46
def k0_off136 (k0_t7 : Fin k0_t7_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v79 : Index := Scalar.indexCast v55
  let c1 : Index := 1#32
  let c0_i32_46 : BitVec 32 := 0#32
  let v78 : BitVec 32 := c0_i32_46
  let v80 : Index := Scalar.indexCast v78
  let c512_47 : Index := 512#32
  ![v79.toNat, 1, 0, 512]
def k0_mult30 : BitVec 32 :=
  let c384_i32_48 : BitVec 32 := 384#32
  c384_i32_48
def k0_off137 (k0_t7 : Fin k0_t7_loop.trips) : Fin 4 → Nat :=
  let c0_i32_21 : BitVec 32 := 0#32
  let c1_i32_22 : BitVec 32 := 1#32
  let arg18 : BitVec 32 := Scf.iv c0_i32_21 c1_i32_22 k0_t7
  let c2_i32_24 : BitVec 32 := 2#32
  let v55 : BitVec 32 := Scalar.remsi arg18 c2_i32_24
  let v84 : Index := Scalar.indexCast v55
  let c1_49 : Index := 1#32
  let c384_i32_48 : BitVec 32 := 384#32
  let v83 : BitVec 32 := c384_i32_48
  let v85 : Index := Scalar.indexCast v83
  let c512_50 : Index := 512#32
  ![v84.toNat, 1, 384, 512]
def k0_off138 (k0_t7 : Fin k0_t7_loop.trips) (c0_i32_115 : BitVec 32) (c0_i32_116 : BitVec 32) : Fin 4 → Nat :=
  let c0_118 : Index := 0#32
  let c4_i32_114 : BitVec 32 := 4#32
  let c0_i32_21 : BitVec 32 := 0#32
  let c1_i32_22 : BitVec 32 := 1#32
  let arg18 : BitVec 32 := Scf.iv c0_i32_21 c1_i32_22 k0_t7
  let v286 : BitVec 32 := Scalar.muli c4_i32_114 arg18
  let v287 : BitVec 32 := Scalar.addi v286 c0_i32_115
  let v288 : BitVec 32 := Scalar.addi v287 c0_i32_116
  let c16_i32_117 : BitVec 32 := 16#32
  let v289 : BitVec 32 := Scalar.addi v288 c16_i32_117
  let v290 : Index := Scalar.indexCast v289
  let c192 : Index := 192#32
  let c0_119 : Index := 0#32
  ![0, v290.toNat, 192, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli c64_i32 v0
  let c511_i32 : BitVec 32 := 511#32
  let v2 : BitVec 32 := Scalar.minsi v1 c511_i32
  let c0_i32 : BitVec 32 := 0#32
  let c0_i32_0 : BitVec 32 := 0#32
  let c0_i32_1 : BitVec 32 := 0#32
  ![arg0.toNat, v2.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x64x640 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x640 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S9x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x32x320x128 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x512x640x64 : Shape := ⟨4, ![4, 512, 640, 64]⟩
abbrev S_ : Shape := ⟨0, ![]⟩
abbrev S3x3x128 : Shape := ⟨3, ![3, 3, 128]⟩
abbrev S128 : Shape := ⟨1, ![128]⟩
abbrev S4x513x641x64 : Shape := ⟨4, ![4, 513, 641, 64]⟩
abbrev S4x256x320x128 : Shape := ⟨4, ![4, 256, 320, 128]⟩
abbrev S4x256x320x64 : Shape := ⟨4, ![4, 256, 320, 64]⟩
abbrev S4x256x320x64x1 : Shape := ⟨5, ![4, 256, 320, 64, 1]⟩
abbrev S4x256x320x64x2 : Shape := ⟨5, ![4, 256, 320, 64, 2]⟩
abbrev S1x1x128 : Shape := ⟨3, ![1, 1, 128]⟩
abbrev S1x1x1x128 : Shape := ⟨4, ![1, 1, 1, 128]⟩

abbrev nBuf : Space → Nat
  | .hbm => 218
  | .vmem => 0
  | .smem => 0
  | _ => 0

abbrev hbmTy0_0 (i : Nat) : BufTy := match i % 128 with
  | 0 => ⟨S4x512x640x64, .i8⟩
  | 1 => ⟨S_, .i32⟩
  | 2 => ⟨S3x3x128, .i8⟩
  | 3 => ⟨S128, .i32⟩
  | 4 => ⟨S128, .i32⟩
  | 5 => ⟨S128, .i32⟩
  | 6 => ⟨S_, .i32⟩
  | 7 => ⟨S_, .i32⟩
  | 8 => ⟨S_, .i32⟩
  | 9 => ⟨S4x512x640x64, .i32⟩
  | 10 => ⟨S4x512x640x64, .f32⟩
  | 11 => ⟨S_, .f32⟩
  | 12 => ⟨S4x512x640x64, .f32⟩
  | 13 => ⟨S4x512x640x64, .f32⟩
  | 14 => ⟨S3x3x128, .i32⟩
  | 15 => ⟨S3x3x128, .f32⟩
  | 16 => ⟨S_, .i32⟩
  | 17 => ⟨S_, .f32⟩
  | 18 => ⟨S4x513x641x64, .f32⟩
  | 19 => ⟨S_, .f32⟩
  | 20 => ⟨S4x256x320x128, .f32⟩
  | 21 => ⟨S4x256x320x64, .f32⟩
  | 22 => ⟨S4x256x320x64x1, .f32⟩
  | 23 => ⟨S4x256x320x64x2, .f32⟩
  | 24 => ⟨S4x256x320x128, .f32⟩
  | 25 => ⟨S1x1x128, .f32⟩
  | 26 => ⟨S128, .f32⟩
  | 27 => ⟨S1x1x1x128, .f32⟩
  | 28 => ⟨S4x256x320x128, .f32⟩
  | 29 => ⟨S4x256x320x128, .f32⟩
  | 30 => ⟨S4x256x320x128, .f32⟩
  | 31 => ⟨S4x256x320x64, .f32⟩
  | 32 => ⟨S4x256x320x64x1, .f32⟩
  | 33 => ⟨S4x256x320x64x2, .f32⟩
  | 34 => ⟨S4x256x320x128, .f32⟩
  | 35 => ⟨S1x1x128, .f32⟩
  | 36 => ⟨S128, .f32⟩
  | 37 => ⟨S1x1x1x128, .f32⟩
  | 38 => ⟨S4x256x320x128, .f32⟩
  | 39 => ⟨S4x256x320x128, .f32⟩
  | 40 => ⟨S4x256x320x128, .f32⟩
  | 41 => ⟨S4x256x320x64, .f32⟩
  | 42 => ⟨S4x256x320x64x1, .f32⟩
  | 43 => ⟨S4x256x320x64x2, .f32⟩
  | 44 => ⟨S4x256x320x128, .f32⟩
  | 45 => ⟨S1x1x128, .f32⟩
  | 46 => ⟨S128, .f32⟩
  | 47 => ⟨S1x1x1x128, .f32⟩
  | 48 => ⟨S4x256x320x128, .f32⟩
  | 49 => ⟨S4x256x320x128, .f32⟩
  | 50 => ⟨S4x256x320x128, .f32⟩
  | 51 => ⟨S4x256x320x64, .f32⟩
  | 52 => ⟨S4x256x320x64x1, .f32⟩
  | 53 => ⟨S4x256x320x64x2, .f32⟩
  | 54 => ⟨S4x256x320x128, .f32⟩
  | 55 => ⟨S1x1x128, .f32⟩
  | 56 => ⟨S128, .f32⟩
  | 57 => ⟨S1x1x1x128, .f32⟩
  | 58 => ⟨S4x256x320x128, .f32⟩
  | 59 => ⟨S4x256x320x128, .f32⟩
  | 60 => ⟨S4x256x320x128, .f32⟩
  | 61 => ⟨S4x256x320x64, .f32⟩
  | 62 => ⟨S4x256x320x64x1, .f32⟩
  | 63 => ⟨S4x256x320x64x2, .f32⟩
  | 64 => ⟨S4x256x320x128, .f32⟩
  | 65 => ⟨S1x1x128, .f32⟩
  | 66 => ⟨S128, .f32⟩
  | 67 => ⟨S1x1x1x128, .f32⟩
  | 68 => ⟨S4x256x320x128, .f32⟩
  | 69 => ⟨S4x256x320x128, .f32⟩
  | 70 => ⟨S4x256x320x128, .f32⟩
  | 71 => ⟨S4x256x320x64, .f32⟩
  | 72 => ⟨S4x256x320x64x1, .f32⟩
  | 73 => ⟨S4x256x320x64x2, .f32⟩
  | 74 => ⟨S4x256x320x128, .f32⟩
  | 75 => ⟨S1x1x128, .f32⟩
  | 76 => ⟨S128, .f32⟩
  | 77 => ⟨S1x1x1x128, .f32⟩
  | 78 => ⟨S4x256x320x128, .f32⟩
  | 79 => ⟨S4x256x320x128, .f32⟩
  | 80 => ⟨S4x256x320x128, .f32⟩
  | 81 => ⟨S4x256x320x64, .f32⟩
  | 82 => ⟨S4x256x320x64x1, .f32⟩
  | 83 => ⟨S4x256x320x64x2, .f32⟩
  | 84 => ⟨S4x256x320x128, .f32⟩
  | 85 => ⟨S1x1x128, .f32⟩
  | 86 => ⟨S128, .f32⟩
  | 87 => ⟨S1x1x1x128, .f32⟩
  | 88 => ⟨S4x256x320x128, .f32⟩
  | 89 => ⟨S4x256x320x128, .f32⟩
  | 90 => ⟨S4x256x320x128, .f32⟩
  | 91 => ⟨S4x256x320x64, .f32⟩
  | 92 => ⟨S4x256x320x64x1, .f32⟩
  | 93 => ⟨S4x256x320x64x2, .f32⟩
  | 94 => ⟨S4x256x320x128, .f32⟩
  | 95 => ⟨S1x1x128, .f32⟩
  | 96 => ⟨S128, .f32⟩
  | 97 => ⟨S1x1x1x128, .f32⟩
  | 98 => ⟨S4x256x320x128, .f32⟩
  | 99 => ⟨S4x256x320x128, .f32⟩
  | 100 => ⟨S4x256x320x128, .f32⟩
  | 101 => ⟨S4x256x320x64, .f32⟩
  | 102 => ⟨S4x256x320x64x1, .f32⟩
  | 103 => ⟨S4x256x320x64x2, .f32⟩
  | 104 => ⟨S4x256x320x128, .f32⟩
  | 105 => ⟨S1x1x128, .f32⟩
  | 106 => ⟨S128, .f32⟩
  | 107 => ⟨S1x1x1x128, .f32⟩
  | 108 => ⟨S4x256x320x128, .f32⟩
  | 109 => ⟨S4x256x320x128, .f32⟩
  | 110 => ⟨S4x256x320x128, .f32⟩
  | 111 => ⟨S4x256x320x128, .i32⟩
  | 112 => ⟨S1x1x1x128, .i32⟩
  | 113 => ⟨S4x256x320x128, .i32⟩
  | 114 => ⟨S4x256x320x128, .i32⟩
  | 115 => ⟨S_, .i32⟩
  | 116 => ⟨S4x256x320x128, .i32⟩
  | 117 => ⟨S4x256x320x128, .i1⟩
  | 118 => ⟨S4x256x320x128, .i32⟩
  | 119 => ⟨S_, .i32⟩
  | 120 => ⟨S4x256x320x128, .i32⟩
  | 121 => ⟨S4x256x320x128, .i32⟩
  | 122 => ⟨S4x256x320x128, .i32⟩
  | 123 => ⟨S128, .i32⟩
  | 124 => ⟨S_, .i32⟩
  | 125 => ⟨S4x256x320x128, .i32⟩
  | 126 => ⟨S4x256x320x128, .i32⟩
  | 127 => ⟨S_, .i32⟩
  | _ => ⟨S4x512x640x64, .i8⟩

abbrev hbmTy0_1 (i : Nat) : BufTy := match i % 128 with
  | 0 => ⟨S4x256x320x128, .i32⟩
  | 1 => ⟨S4x256x320x128, .i32⟩
  | 2 => ⟨S_, .i32⟩
  | 3 => ⟨S128, .i32⟩
  | 4 => ⟨S128, .i32⟩
  | 5 => ⟨S_, .i32⟩
  | 6 => ⟨S128, .i32⟩
  | 7 => ⟨S128, .i32⟩
  | 8 => ⟨S1x1x1x128, .i32⟩
  | 9 => ⟨S4x256x320x128, .i32⟩
  | 10 => ⟨S4x256x320x128, .i32⟩
  | 11 => ⟨S1x1x1x128, .i32⟩
  | 12 => ⟨S4x256x320x128, .i32⟩
  | 13 => ⟨S4x256x320x128, .i32⟩
  | 14 => ⟨S1x1x1x128, .i32⟩
  | 15 => ⟨S4x256x320x128, .i32⟩
  | 16 => ⟨S4x256x320x128, .i32⟩
  | 17 => ⟨S4x256x320x128, .i32⟩
  | 18 => ⟨S4x256x320x128, .i1⟩
  | 19 => ⟨S4x256x320x128, .i32⟩
  | 20 => ⟨S_, .i32⟩
  | 21 => ⟨S4x256x320x128, .i32⟩
  | 22 => ⟨S4x256x320x128, .i32⟩
  | 23 => ⟨S4x256x320x128, .i32⟩
  | 24 => ⟨S4x256x320x128, .i1⟩
  | 25 => ⟨S4x256x320x128, .i32⟩
  | 26 => ⟨S1x1x1x128, .i32⟩
  | 27 => ⟨S4x256x320x128, .i32⟩
  | 28 => ⟨S4x256x320x128, .i32⟩
  | 29 => ⟨S_, .i32⟩
  | 30 => ⟨S4x256x320x128, .i32⟩
  | 31 => ⟨S4x256x320x128, .i32⟩
  | 32 => ⟨S4x256x320x128, .i32⟩
  | 33 => ⟨S_, .i32⟩
  | 34 => ⟨S4x256x320x128, .i32⟩
  | 35 => ⟨S4x256x320x128, .i32⟩
  | 36 => ⟨S4x256x320x128, .i32⟩
  | 37 => ⟨S4x256x320x128, .i32⟩
  | 38 => ⟨S_, .i32⟩
  | 39 => ⟨S_, .i32⟩
  | 40 => ⟨S4x256x320x128, .i32⟩
  | 41 => ⟨S4x256x320x128, .i32⟩
  | 42 => ⟨S4x256x320x128, .i32⟩
  | 43 => ⟨S4x256x320x128, .i32⟩
  | 44 => ⟨S4x256x320x128, .i1⟩
  | 45 => ⟨S4x256x320x128, .i32⟩
  | 46 => ⟨S4x256x320x128, .i32⟩
  | 47 => ⟨S_, .i32⟩
  | 48 => ⟨S4x256x320x128, .i32⟩
  | 49 => ⟨S4x256x320x128, .i32⟩
  | 50 => ⟨S_, .i32⟩
  | 51 => ⟨S4x256x320x128, .i32⟩
  | 52 => ⟨S4x256x320x128, .i32⟩
  | 53 => ⟨S4x256x320x128, .i32⟩
  | 54 => ⟨S4x256x320x128, .i32⟩
  | 55 => ⟨S4x256x320x128, .i32⟩
  | 56 => ⟨S4x256x320x128, .i32⟩
  | 57 => ⟨S128, .i32⟩
  | 58 => ⟨S_, .i32⟩
  | 59 => ⟨S128, .i32⟩
  | 60 => ⟨S128, .i32⟩
  | 61 => ⟨S_, .i32⟩
  | 62 => ⟨S128, .i32⟩
  | 63 => ⟨S128, .i32⟩
  | 64 => ⟨S1x1x1x128, .i32⟩
  | 65 => ⟨S4x256x320x128, .i32⟩
  | 66 => ⟨S4x256x320x128, .i32⟩
  | 67 => ⟨S_, .i32⟩
  | 68 => ⟨S128, .i32⟩
  | 69 => ⟨S128, .i32⟩
  | 70 => ⟨S_, .i32⟩
  | 71 => ⟨S4x256x320x128, .i32⟩
  | 72 => ⟨S4x256x320x128, .i1⟩
  | 73 => ⟨S4x256x320x128, .i32⟩
  | 74 => ⟨S1x1x1x128, .i32⟩
  | 75 => ⟨S4x256x320x128, .i32⟩
  | 76 => ⟨S4x256x320x128, .i32⟩
  | 77 => ⟨S1x1x1x128, .i32⟩
  | 78 => ⟨S4x256x320x128, .i32⟩
  | 79 => ⟨S4x256x320x128, .i32⟩
  | 80 => ⟨S4x256x320x128, .i1⟩
  | 81 => ⟨S4x256x320x128, .i32⟩
  | 82 => ⟨S4x256x320x128, .i32⟩
  | 83 => ⟨S4x256x320x128, .i32⟩
  | 84 => ⟨S4x256x320x128, .i32⟩
  | 85 => ⟨S4x256x320x128, .i32⟩
  | 86 => ⟨S4x256x320x128, .i32⟩
  | 87 => ⟨S4x256x320x128, .i32⟩
  | 88 => ⟨S4x256x320x128, .i32⟩
  | 89 => ⟨S4x256x320x128, .i8⟩
  | _ => ⟨S4x512x640x64, .i8⟩

abbrev hbmTy (i : Nat) : BufTy := match i / 128 with
  | 0 => hbmTy0_0 i
  | 1 => hbmTy0_1 i
  | _ => ⟨S4x512x640x64, .i8⟩

abbrev bufTy : (tb : Table) → Fin (tcTables nBuf tb) → BufTy
  | .hbm, ⟨i, _⟩ => hbmTy i
  | _, _ => ⟨S4x512x640x64, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_c_0 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_c_1 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_c_2 : Ref sig .tc := ⟨.hbm, 124, rfl⟩
abbrev main_v110 : Ref sig .tc := ⟨.hbm, 125, rfl⟩
abbrev main_v111 : Ref sig .tc := ⟨.hbm, 126, rfl⟩
abbrev main_c_3 : Ref sig .tc := ⟨.hbm, 127, rfl⟩
abbrev main_v112 : Ref sig .tc := ⟨.hbm, 128, rfl⟩
abbrev main_v113 : Ref sig .tc := ⟨.hbm, 129, rfl⟩
abbrev main_c_4 : Ref sig .tc := ⟨.hbm, 130, rfl⟩
abbrev main_v114 : Ref sig .tc := ⟨.hbm, 131, rfl⟩
abbrev main_v115 : Ref sig .tc := ⟨.hbm, 132, rfl⟩
abbrev main_c_5 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_c_6 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_c_7 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_c_8 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_c_9 : Ref sig .tc := ⟨.hbm, 166, rfl⟩
abbrev main_c_10 : Ref sig .tc := ⟨.hbm, 167, rfl⟩
abbrev main_call2_v0 : Ref sig .tc := ⟨.hbm, 168, rfl⟩
abbrev main_call2_v1 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_c_11 : Ref sig .tc := ⟨.hbm, 175, rfl⟩
abbrev main_v150 : Ref sig .tc := ⟨.hbm, 176, rfl⟩
abbrev main_v151 : Ref sig .tc := ⟨.hbm, 177, rfl⟩
abbrev main_c_12 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_c_13 : Ref sig .tc := ⟨.hbm, 186, rfl⟩
abbrev main_v159 : Ref sig .tc := ⟨.hbm, 187, rfl⟩
abbrev main_v160 : Ref sig .tc := ⟨.hbm, 188, rfl⟩
abbrev main_c_14 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_c_15 : Ref sig .tc := ⟨.hbm, 195, rfl⟩
abbrev main_v166 : Ref sig .tc := ⟨.hbm, 196, rfl⟩
abbrev main_v167 : Ref sig .tc := ⟨.hbm, 197, rfl⟩
abbrev main_c_16 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_call4_v0 : Ref sig .tc := ⟨.hbm, 213, rfl⟩
abbrev main_call4_v1 : Ref sig .tc := ⟨.hbm, 214, rfl⟩
abbrev main_call4_v2 : Ref sig .tc := ⟨.hbm, 215, rfl⟩
abbrev main_v182 : Ref sig .tc := ⟨.hbm, 216, rfl⟩
abbrev main_v183 : Ref sig .tc := ⟨.hbm, 217, rfl⟩

abbrev nD : Nat := 1
abbrev τ : Topo := Topo.v7x

variable {F : FTy → Type} [FloatOps F]
-- ==== Proof.LoopsKernel.lean ====
module

public import proofs.«01_k».proof.Proof.Gen.Kernel.Frame
public import proofs.«01_k».proof.Proof.Gen.Kernel.Loops
public import proofs.«01_k».proof.Proof.Gen.Kernel.Skeleton
public import Idealize.ShloMosaic.Lib.Tactic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

abbrev 𝒱₀ : Variants := Variants.none

/-- The loop `k0_t2` keeps what it reads and leaves what it writes at some contents. -/
@[sl_loop, instance_reducible] def loopInv_k0_t2 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 where
  inv := fun _ _ => iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg12.view.loc (c : Thread nD τ) ↦[arg12.view.set]{fullShare} f)) ∗ (∃ f, (arg16.view.loc (c : Thread nD τ) ↦[arg16.view.set]{fullShare} f)))
  step := fun k acc => by
    iintro ⟨HR_arg6, HR_arg7, HR_arg13, HR_arg14, HR_arg15, ⟨%f_arg12, HW_arg12⟩, ⟨%f_arg16, HW_arg16⟩⟩
    unfold k0_t2_body
    sl_exec
    sl_step
    isplitl [HR_arg6]; · iexact HR_arg6
    isplitl [HR_arg7]; · iexact HR_arg7
    isplitl [HR_arg13]; · iexact HR_arg13
    isplitl [HR_arg14]; · iexact HR_arg14
    isplitl [HR_arg15]; · iexact HR_arg15
    isplitl [HW_arg12]; · (iexists _; iexact HW_arg12)
    (iexists _; iexact HW_arg16)

/-- The loop `k0_t7` keeps what it reads and leaves what it writes at some contents. -/
@[sl_loop, instance_reducible] def loopInv_k0_t7 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) :
    LoopInvTy_k0_t7 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 where
  inv := fun _ _ => iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg15.view.loc (c : Thread nD τ) ↦[arg15.view.set]{fullShare} X_arg15) ∗ (∃ f, (arg12.view.loc (c : Thread nD τ) ↦[arg12.view.set]{fullShare} f)) ∗ (∃ f, (arg16.view.loc (c : Thread nD τ) ↦[arg16.view.set]{fullShare} f)))
  step := fun k acc => by
    iintro ⟨HR_arg6, HR_arg7, HR_arg13, HR_arg15, ⟨%f_arg12, HW_arg12⟩, ⟨%f_arg16, HW_arg16⟩⟩
    unfold k0_t7_body
    sl_exec
    sl_step
    isplitl [HR_arg6]; · iexact HR_arg6
    isplitl [HR_arg7]; · iexact HR_arg7
    isplitl [HR_arg13]; · iexact HR_arg13
    isplitl [HR_arg15]; · iexact HR_arg15
    isplitl [HW_arg12]; · (iexists _; iexact HW_arg12)
    (iexists _; iexact HW_arg16)

end Cert.Kernel.Body

end
-- ==== Proof.RunKernel.lean ====
module

public import proofs.«01_k».proof.Proof.Gen.Kernel.Frame
public import proofs.«01_k».proof.Proof.LoopsKernel
public import proofs.«01_k».proof.Proof.Gen.Kernel.Skeleton
public import Idealize.ShloMosaic.Lib.Tactic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

set_option maxHeartbeats 4000000 in
/-- The body's triple: from the staged inputs at any blocks, the result block and the scratch at anything, the kernel
    runs to its return with the inputs as they were and the rest at some contents. -/
theorem kernelRun (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec F S1 .i32) (x_arg3 : Vec F S1 .i32) (x_arg4 : Vec F S1 .i32) (x_arg5 : Vec F S1 .i32) (x_arg6 : Vec F S1x64x64x640 .i8) (x_arg7 : Vec F S1x1x64x640 .i8) (x_arg8 : Vec F S9x128 .i32) (x_arg9 : Vec F S1x128 .i32) (x_arg10 : Vec F S1x128 .i32) (x_arg11 : Vec F S1x128 .i32) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, ⟨%d_arg12, %f_arg12, -, H_arg12⟩, ⟨%d_arg13, %f_arg13, -, H_arg13⟩, ⟨%d_arg14, %f_arg14, -, H_arg14⟩, ⟨%d_arg15, %f_arg15, -, H_arg15⟩, ⟨%d_arg16, %f_arg16, -, H_arg16⟩, ⟨%d_arg17, %f_arg17, -, H_arg17⟩, Hk⟩
  obtain rfl := harg2.eq_unread hf_arg2
  obtain rfl := harg3.eq_unread hf_arg3
  obtain rfl := harg4.eq_unread hf_arg4
  obtain rfl := harg5.eq_unread hf_arg5
  obtain rfl := harg6.eq_unread hf_arg6
  obtain rfl := harg7.eq_unread hf_arg7
  obtain rfl := harg8.eq_unread hf_arg8
  obtain rfl := harg9.eq_unread hf_arg9
  obtain rfl := harg10.eq_unread hf_arg10
  obtain rfl := harg11.eq_unread hf_arg11
  sl_unfold [cc0_depthwise_requant]
  sl_exec
  by_cases hc : kernelRun.sl.v49 c i arg2 harg2 arg8 harg8 arg9 harg9 arg17 x_arg2 x_arg8 x_arg9 f_arg17 = 1#1
  · sl_exec (disch := sl_exact hc)
    by_cases hd : kernelRun.sl.v52 c i arg2 harg2 arg8 harg8 arg9 harg9 arg17 x_arg2 x_arg8 x_arg9 f_arg17 = 1#1
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
  · sl_exec (disch := sl_exact hc)
    by_cases hd : kernelRun.sl.v52_1 c i arg2 harg2 arg8 harg8 arg9 harg9 arg17 x_arg2 x_arg8 x_arg9 f_arg17 = 1#1
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
end Cert.Kernel.Body

end
-- ==== Proof.FrameKernel.lean ====
module

public import proofs.«01_k».proof.Proof.Gen.Kernel.Frame
public import proofs.«01_k».proof.Proof.Gen.Kernel.Launch
public import proofs.«01_k».proof.Proof.RunKernel
public import proofs.«01_k».proof.Proof.Gen.Kernel.Skeleton
public import Idealize.ShloMosaic.Lib.Tactic

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The proof data: the arrays as the region finds them, each input's buffer at its block after the body, the result's
    unnamed, the scratch at some contents between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The result's window, the only one nothing is said of. -/
def forgets0 : Fin 11 → Bool := fun w => w == 10

theorem fgt_0 : forgets0 0 = false := rfl
theorem fgt_1 : forgets0 1 = false := rfl
theorem fgt_2 : forgets0 2 = false := rfl
theorem fgt_3 : forgets0 3 = false := rfl
theorem fgt_4 : forgets0 4 = false := rfl
theorem fgt_5 : forgets0 5 = false := rfl
theorem fgt_6 : forgets0 6 = false := rfl
theorem fgt_7 : forgets0 7 = false := rfl
theorem fgt_8 : forgets0 8 = false := rfl
theorem fgt_9 : forgets0 9 = false := rfl
theorem fgt_10 : forgets0 10 = true := rfl

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA
  rw [scopedRest0_eq]; simp only [owns_whole]; try rfl

/-- The library's body obligation with the result forgotten. -/
theorem body_obligation (c : Dev nD) : BodyObligation (dats (F := F) m 0 c) (defs₀ (F := F)) 𝒱₀ () Set.univ forgets0 := fun t => by
  rw [bigSep_W0, bigSep_W0]
  sl_whnfR [defs₀, Defs.onTc]
  simp only [fgt_0, fgt_1, fgt_2, fgt_3, fgt_4, fgt_5, fgt_6, fgt_7, fgt_8, fgt_9, fgt_10, before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, PhiA_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

-- the launch theorem's implicit arguments are found by unifying its conclusion with this one
set_option backward.isDefEq.respectTransparency.types false in
/-- Every weakly fair execution terminates with every array that is no window's at what the region found and every
    semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ 𝒱₀ forgets0 m ρ main
    (hbody := fun c => (body_obligation m c).loose) (hq := fun _ _ _ => rfl)
    (howed := fun _ _ => rfl) (V := V m) (hmain := hmain m 𝒱₀) (hA := fun _ _ => rfl) (hΦ := fun _ _ => rfl)

/-- The arguments end as they were launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.Kernel.Body

end
-- ==== Proof.LoopsKernelIdeal.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

abbrev 𝒱₀ : Variants := Variants.none

/-- The loop `k0_t2` keeps what it reads and leaves what it writes at some contents. -/
@[sl_loop, instance_reducible] def loopInv_k0_t2 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 where
  inv := fun _ _ => iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg12.view.loc (c : Thread nD τ) ↦[arg12.view.set]{fullShare} f)) ∗ (∃ f, (arg16.view.loc (c : Thread nD τ) ↦[arg16.view.set]{fullShare} f)))
  step := fun k acc => by
    iintro ⟨HR_arg6, HR_arg7, HR_arg13, HR_arg14, HR_arg15, ⟨%f_arg12, HW_arg12⟩, ⟨%f_arg16, HW_arg16⟩⟩
    unfold k0_t2_body
    sl_exec
    sl_step
    isplitl [HR_arg6]; · iexact HR_arg6
    isplitl [HR_arg7]; · iexact HR_arg7
    isplitl [HR_arg13]; · iexact HR_arg13
    isplitl [HR_arg14]; · iexact HR_arg14
    isplitl [HR_arg15]; · iexact HR_arg15
    isplitl [HW_arg12]; · (iexists _; iexact HW_arg12)
    (iexists _; iexact HW_arg16)

/-- The loop `k0_t7` keeps what it reads and leaves what it writes at some contents. -/
@[sl_loop, instance_reducible] def loopInv_k0_t7 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) :
    LoopInvTy_k0_t7 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 where
  inv := fun _ _ => iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg15.view.loc (c : Thread nD τ) ↦[arg15.view.set]{fullShare} X_arg15) ∗ (∃ f, (arg12.view.loc (c : Thread nD τ) ↦[arg12.view.set]{fullShare} f)) ∗ (∃ f, (arg16.view.loc (c : Thread nD τ) ↦[arg16.view.set]{fullShare} f)))
  step := fun k acc => by
    iintro ⟨HR_arg6, HR_arg7, HR_arg13, HR_arg15, ⟨%f_arg12, HW_arg12⟩, ⟨%f_arg16, HW_arg16⟩⟩
    unfold k0_t7_body
    sl_exec
    sl_step
    isplitl [HR_arg6]; · iexact HR_arg6
    isplitl [HR_arg7]; · iexact HR_arg7
    isplitl [HR_arg13]; · iexact HR_arg13
    isplitl [HR_arg15]; · iexact HR_arg15
    isplitl [HW_arg12]; · (iexists _; iexact HW_arg12)
    (iexists _; iexact HW_arg16)

end Cert.KernelIdeal.Body

end
-- ==== Proof.RunKernelIdeal.lean ====
module

public import proofs.«01_k».proof.Proof.Gen.KernelIdeal.Frame
public import proofs.«01_k».proof.Proof.LoopsKernelIdeal
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

set_option maxHeartbeats 4000000 in
/-- The body's triple: from the staged inputs at any blocks, the result block and the scratch at anything, the kernel
    runs to its return with the inputs as they were and the rest at some contents. -/
theorem kernelRun (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec F S1 .i32) (x_arg3 : Vec F S1 .i32) (x_arg4 : Vec F S1 .i32) (x_arg5 : Vec F S1 .i32) (x_arg6 : Vec F S1x64x64x640 .i8) (x_arg7 : Vec F S1x1x64x640 .i8) (x_arg8 : Vec F S9x128 .i32) (x_arg9 : Vec F S1x128 .i32) (x_arg10 : Vec F S1x128 .i32) (x_arg11 : Vec F S1x128 .i32) (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, ⟨%d_arg12, %f_arg12, -, H_arg12⟩, ⟨%d_arg13, %f_arg13, -, H_arg13⟩, ⟨%d_arg14, %f_arg14, -, H_arg14⟩, ⟨%d_arg15, %f_arg15, -, H_arg15⟩, ⟨%d_arg16, %f_arg16, -, H_arg16⟩, ⟨%d_arg17, %f_arg17, -, H_arg17⟩, Hk⟩
  obtain rfl := harg2.eq_unread hf_arg2
  obtain rfl := harg3.eq_unread hf_arg3
  obtain rfl := harg4.eq_unread hf_arg4
  obtain rfl := harg5.eq_unread hf_arg5
  obtain rfl := harg6.eq_unread hf_arg6
  obtain rfl := harg7.eq_unread hf_arg7
  obtain rfl := harg8.eq_unread hf_arg8
  obtain rfl := harg9.eq_unread hf_arg9
  obtain rfl := harg10.eq_unread hf_arg10
  obtain rfl := harg11.eq_unread hf_arg11
  sl_unfold [cc0_depthwise_requant]
  sl_exec
  by_cases hc : kernelRun.sl.v49 c i arg2 harg2 arg8 harg8 arg9 harg9 arg17 x_arg2 x_arg8 x_arg9 f_arg17 = 1#1
  · sl_exec (disch := sl_exact hc)
    by_cases hd : kernelRun.sl.v52 c i arg2 harg2 arg8 harg8 arg9 harg9 arg17 x_arg2 x_arg8 x_arg9 f_arg17 = 1#1
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
  · sl_exec (disch := sl_exact hc)
    by_cases hd : kernelRun.sl.v52_1 c i arg2 harg2 arg8 harg8 arg9 harg9 arg17 x_arg2 x_arg8 x_arg9 f_arg17 = 1#1
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
    · sl_exec (disch := sl_exact hd)
      sl_step
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _, _; isplitr; swap; · iexact H_arg12
        ipureintro; rfl
      isplitl [H_arg13]
      · iexists _, _; isplitr; swap; · iexact H_arg13
        ipureintro; rfl
      isplitl [H_arg14]
      · iexists _, _; isplitr; swap; · iexact H_arg14
        ipureintro; rfl
      isplitl [H_arg15]
      · iexists _, _; isplitr; swap; · iexact H_arg15
        ipureintro; rfl
      isplitl [H_arg16]
      · iexists _, _; isplitr; swap; · iexact H_arg16
        ipureintro; rfl
      iexists _, _; isplitr; swap; · iexact H_arg17
      ipureintro; rfl
end Cert.KernelIdeal.Body

end
-- ==== Proof.FrameKernelIdeal.lean ====
module

public import proofs.«01_k».proof.Proof.Gen.KernelIdeal.Frame
public import proofs.«01_k».proof.Proof.Gen.KernelIdeal.Launch
public import proofs.«01_k».proof.Proof.RunKernelIdeal
public import proofs.«01_k».proof.Proof.Gen.KernelIdeal.Skeleton
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The proof data: the arrays as the region finds them, each input's buffer at its block after the body, the result's
    unnamed, the scratch at some contents between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The result's window, the only one nothing is said of. -/
def forgets0 : Fin 11 → Bool := fun w => w == 10

theorem fgt_0 : forgets0 0 = false := rfl
theorem fgt_1 : forgets0 1 = false := rfl
theorem fgt_2 : forgets0 2 = false := rfl
theorem fgt_3 : forgets0 3 = false := rfl
theorem fgt_4 : forgets0 4 = false := rfl
theorem fgt_5 : forgets0 5 = false := rfl
theorem fgt_6 : forgets0 6 = false := rfl
theorem fgt_7 : forgets0 7 = false := rfl
theorem fgt_8 : forgets0 8 = false := rfl
theorem fgt_9 : forgets0 9 = false := rfl
theorem fgt_10 : forgets0 10 = true := rfl

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA
  rw [scopedRest0_eq]; simp only [owns_whole]; try rfl

/-- The library's body obligation with the result forgotten. -/
theorem body_obligation (c : Dev nD) : BodyObligation (dats (F := F) m 0 c) (defs₀ (F := F)) 𝒱₀ () Set.univ forgets0 := fun t => by
  rw [bigSep_W0, bigSep_W0]
  sl_whnfR [defs₀, Defs.onTc]
  simp only [fgt_0, fgt_1, fgt_2, fgt_3, fgt_4, fgt_5, fgt_6, fgt_7, fgt_8, fgt_9, fgt_10, before0_0, before0_1, before0_2, before0_3, before0_4, before0_5, before0_6, before0_7, before0_8, before0_9]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9, PhiA_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (kernelRun c _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

-- the launch theorem's implicit arguments are found by unifying its conclusion with this one
set_option backward.isDefEq.respectTransparency.types false in
/-- Every weakly fair execution terminates with every array that is no window's at what the region found and every
    semaphore counter at zero. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ 𝒱₀ forgets0 m ρ main
    (hbody := fun c => (body_obligation m c).loose) (hq := fun _ _ _ => rfl)
    (howed := fun _ _ => rfl) (V := V m) (hmain := hmain m 𝒱₀) (hA := fun _ _ => rfl) (hΦ := fun _ _ => rfl)

/-- The arguments end as they were launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩) (run_main m ρ)

end Cert.KernelIdeal.Body

end
-- ==== Proof.Words.lean ====
module

public import proofs.«01_k».proof.Proof.Gen.KernelIdeal.Skeleton
public import Idealize.ShloMosaic.Lib.Pointwise
public import Idealize.ShloMosaic.Lib.BitcastFour

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

/-- A lane permutation of a tile of words. -/
def gat (v x : IVec S8x128 32) : IVec S8x128 32 :=
  dynamicGather 1 x (shapeCast S8x128 (shapeCast S8x128x1
    (select (cmpi .slt v (broadcast S8x128 0#32)) (addi v (broadcast S8x128 128#32)) v) shapeCasts_S8x128_S8x128x1) shapeCasts_S8x128x1_S8x128)

/-- Every second lane of two tiles of words, from the first. -/
def mT0 (ev od : IVec S8x128 32) (lo : IVec S8x128 1) (a b : IVec S8x128 32) : IVec S8x128 32 :=
  select lo (gat ev a) (gat od b)
/-- Every second lane of two tiles of words, from the second. -/
def mT1 (ev od : IVec S8x128 32) (lo : IVec S8x128 1) (a b : IVec S8x128 32) : IVec S8x128 32 :=
  dynamicRotate 1 64#32 none (select lo (gat od b) (gat ev a)) rotates_S8x128_d1
def rot (x : IVec S8x128 32) : IVec S8x128 32 := dynamicRotate 1 127#32 none x rotates_S8x128_d1
/-- The tile whose lanes are one further on. -/
def mT2 (la : IVec S8x128 1) (t n : IVec S8x128 32) : IVec S8x128 32 := select la (rot n) (rot t)
/-- The same, with the padding's word in the lane that ends an image row. -/
def mT2m (zw : IVec S8x128 32) (la : IVec S8x128 1) (t n : IVec S8x128 32) : IVec S8x128 32 :=
  select (cmpi .eq (iota .tc S8x128 32 [1] iota_S8x128_d1_w32) (broadcast S8x128 63#32)) zw (mT2 la t n)
/-- The same, for the last tile. -/
def mT2e (zw : IVec S8x128 32) (la : IVec S8x128 1) (t : IVec S8x128 32) : IVec S8x128 32 := select la zw (rot t)

/-- The words' bytes as a tile of the scratch. -/
def outV (w : IVec S8x128 32) : FVec Ideal S1x1x32x128 .bf16 :=
  shapeCast S1x1x32x128 (sitofp (F := Ideal) .bf16 (bitcast S32x128 8 w bitcasts_S8x128_w32_S32x128_w8)) shapeCasts_S32x128_S1x1x32x128

/-- A tile's words. -/
def tileW (v : Vec Ideal S1x1x32x128 .i8) : IVec S8x128 32 :=
  bitcast S8x128 32 (shapeCast S32x128 v shapeCasts_S1x1x32x128_S32x128) bitcasts_S32x128_w8_S8x128_w32

/-- What the four lane vectors hold. -/
structure Lanes (ev od : IVec S8x128 32) (lo la : IVec S8x128 1) : Prop where
  ev : ∀ (s : Fin 8) (l : Fin 128), (ev (ix2 s l)).toNat = if l.val < 64 then 2 * l.val else 2 * (l.val - 64) + 1
  od : ∀ (s : Fin 8) (l : Fin 128), (od (ix2 s l)).toNat = if l.val < 64 then 2 * l.val + 1 else 2 * (l.val - 64)
  lo : ∀ (s : Fin 8) (l : Fin 128), lo (ix2 s l) = if l.val < 64 then 1#1 else 0#1
  la : ∀ (s : Fin 8) (l : Fin 128), la (ix2 s l) = if l.val = 127 then 1#1 else 0#1

theorem gat_apply (v x : IVec S8x128 32) (s : Fin 8) (l l' : Fin 128) (h : (v (ix2 s l)).toNat = l'.val) :
    gat v x (ix2 s l) = x (ix2 s l') := by
  have hns : ¬ (v (ix2 s l)).slt 0#32 := by
    simp only [BitVec.slt, BitVec.toInt_eq_toNat_cond, h]; have := l'.isLt; simp; omega
  have hc : (shapeCast S8x128 (shapeCast S8x128x1
    (select (cmpi .slt v (broadcast S8x128 0#32)) (addi v (broadcast S8x128 128#32)) v) shapeCasts_S8x128_S8x128x1) shapeCasts_S8x128x1_S8x128) (ix2 s l) = v (ix2 s l) := by
    rw [show (shapeCast S8x128 (shapeCast S8x128x1
      (select (cmpi .slt v (broadcast S8x128 0#32)) (addi v (broadcast S8x128 128#32)) v) shapeCasts_S8x128_S8x128x1) shapeCasts_S8x128x1_S8x128) (ix2 s l)
      = (select (cmpi .slt v (broadcast S8x128 0#32)) (addi v (broadcast S8x128 128#32)) v) (ix2 s l) by pointwise []]
    show Scalar.select (BitVec.ofBool ((v (ix2 s l)).slt 0#32)) _ _ = _
    simp only [hns]; rfl
  unfold gat dynamicGather
  simp only [hc]
  congr 1
  funext b
  match b with
  | ⟨0, _⟩ => rfl
  | ⟨1, _⟩ => exact Fin.ext (by show (v (ix2 s l)).toNat % 128 = l'.val; rw [h]; exact Nat.mod_eq_of_lt l'.isLt)

theorem rotate_apply (n : BitVec 32) (x : IVec S8x128 32) (s : Fin 8) (l l' : Fin 128) (h : (l.val + 128 - n.toNat % 128) % 128 = l'.val) :
    dynamicRotate 1 n none x rotates_S8x128_d1 (ix2 s l) = x (ix2 s l') := by
  unfold dynamicRotate
  simp only
  congr 1
  funext b
  match b with
  | ⟨0, _⟩ => rfl
  | ⟨1, _⟩ => exact Fin.ext h

variable {ev od : IVec S8x128 32} {lo la : IVec S8x128 1} (L : Lanes ev od lo la)

theorem sel_if {α : Type} (p : Prop) [Decidable p] (x y : α) : Scalar.select (if p then 1#1 else 0#1) x y = if p then x else y := by
  split <;> rfl

include L in
theorem mT0_apply (a b : IVec S8x128 32) (s : Fin 8) (l : Fin 128) :
    mT0 ev od lo a b (ix2 s l) = if l.val < 64 then a (ix2 s ⟨2 * l.val % 128, by omega⟩) else b (ix2 s ⟨2 * l.val % 128, by omega⟩) := by
  show Scalar.select (lo (ix2 s l)) _ _ = _
  rw [L.lo, sel_if]
  split
  · rename_i h
    exact gat_apply _ _ _ _ _ (by rw [L.ev, if_pos h]; show _ = 2 * l.val % 128; omega)
  · rename_i h
    exact gat_apply _ _ _ _ _ (by rw [L.od, if_neg h]; show _ = 2 * l.val % 128; omega)

include L in
theorem mT1_apply (a b : IVec S8x128 32) (s : Fin 8) (l : Fin 128) :
    mT1 ev od lo a b (ix2 s l) = if l.val < 64 then a (ix2 s ⟨(2 * l.val + 1) % 128, by omega⟩) else b (ix2 s ⟨(2 * l.val + 1) % 128, by omega⟩) := by
  unfold mT1
  rw [rotate_apply _ _ s l ⟨(l.val + 64) % 128, by omega⟩ (by show (l.val + 128 - 64) % 128 = (l.val + 64) % 128; omega)]
  show Scalar.select (lo (ix2 s _)) _ _ = _
  rw [L.lo, sel_if]
  by_cases h : l.val < 64
  · rw [if_pos h, if_neg (by simp; omega)]
    refine gat_apply _ _ _ _ _ ?_
    rw [L.ev, if_neg (by simp; omega)]; simp; omega
  · rw [if_neg h, if_pos (by simp; omega)]
    refine gat_apply _ _ _ _ _ ?_
    rw [L.od, if_pos (by simp; omega)]; simp; omega

theorem rot_apply (x : IVec S8x128 32) (s : Fin 8) (l : Fin 128) : rot x (ix2 s l) = x (ix2 s ⟨(l.val + 1) % 128, by omega⟩) :=
  rotate_apply _ _ s l _ (by show (l.val + 128 - 127 % 128) % 128 = (l.val + 1) % 128; omega)

include L in
theorem mT2_apply (t n : IVec S8x128 32) (s : Fin 8) (l : Fin 128) :
    mT2 la t n (ix2 s l) = if l.val = 127 then n (ix2 s ⟨(l.val + 1) % 128, by omega⟩) else t (ix2 s ⟨(l.val + 1) % 128, by omega⟩) := by
  show Scalar.select (la (ix2 s l)) _ _ = _
  rw [L.la, sel_if, rot_apply, rot_apply]

include L in
theorem mT2m_apply (zw t n : IVec S8x128 32) (s : Fin 8) (l : Fin 128) :
    mT2m zw la t n (ix2 s l) = if l.val = 63 then zw (ix2 s l) else mT2 la t n (ix2 s l) := by
  show Scalar.select (IntOp.cmpi .eq (iota .tc S8x128 32 [1] iota_S8x128_d1_w32 (ix2 s l)) 63#32) _ _ = _
  have : IntOp.cmpi .eq (iota .tc S8x128 32 [1] iota_S8x128_d1_w32 (ix2 s l)) 63#32 = if l.val = 63 then 1#1 else 0#1 := by
    have e : iota .tc S8x128 32 [1] iota_S8x128_d1_w32 (ix2 s l) = BitVec.ofNat 32 l.val := by pointwise []
    rw [e]
    show BitVec.ofBool (BitVec.ofNat 32 l.val == 63#32) = _
    by_cases h : l.val = 63
    · rw [h]; rfl
    · have : (BitVec.ofNat 32 l.val == 63#32) = false := by
        rw [beq_eq_false_iff_ne]; intro he
        have := congrArg BitVec.toNat he; simp at this; omega
      rw [this, if_neg h]; rfl
  rw [this, sel_if]

include L in
theorem mT2e_apply (zw t : IVec S8x128 32) (s : Fin 8) (l : Fin 128) :
    mT2e zw la t (ix2 s l) = if l.val = 127 then zw (ix2 s l) else t (ix2 s ⟨(l.val + 1) % 128, by omega⟩) := by
  show Scalar.select (la (ix2 s l)) _ _ = _
  rw [L.la, sel_if, rot_apply]

/-- The taps' words of a pair of image rows cut in ten tiles. -/
def mW (ev od : IVec S8x128 32) (lo la : IVec S8x128 1) (zw : IVec S8x128 32) (T : Fin 10 → IVec S8x128 32) : Fin 3 → Fin 5 → IVec S8x128 32
  | 0, j => mT0 ev od lo (T ⟨2 * j.val, by omega⟩) (T ⟨2 * j.val + 1, by omega⟩)
  | 1, j => mT1 ev od lo (T ⟨2 * j.val, by omega⟩) (T ⟨2 * j.val + 1, by omega⟩)
  | 2, 0 => mT2 la (mT0 ev od lo (T 0) (T 1)) (mT0 ev od lo (T 2) (T 3))
  | 2, 1 => mT2 la (mT0 ev od lo (T 2) (T 3)) (mT0 ev od lo (T 4) (T 5))
  | 2, 2 => mT2m zw la (mT0 ev od lo (T 4) (T 5)) (mT0 ev od lo (T 6) (T 7))
  | 2, 3 => mT2 la (mT0 ev od lo (T 6) (T 7)) (mT0 ev od lo (T 8) (T 9))
  | 2, 4 => mT2e zw la (mT0 ev od lo (T 8) (T 9))

include L in
theorem mW_apply (zw : IVec S8x128 32) (T : Fin 10 → IVec S8x128 32) (t : Fin 3) (j : Fin 5) (s : Fin 8) (l : Fin 128) :
    mW ev od lo la zw T t j (ix2 s l) =
      if h : t = 2 ∧ (128 * j.val + l.val = 319 ∨ 128 * j.val + l.val = 639) then zw (ix2 s l)
      else T ⟨(256 * j.val + 2 * l.val + t.val) / 128, by omega⟩ (ix2 s ⟨(256 * j.val + 2 * l.val + t.val) % 128, by omega⟩) := by
  have hT : ∀ (p p' : Fin 10) (q q' : Fin 128), p.val = p'.val → q.val = q'.val → T p (ix2 s q) = T p' (ix2 s q') := by
    intro p p' q q' h h'; rw [Fin.ext h, Fin.ext h']
  match t, j with
  | 0, j =>
    rw [dif_neg (by simp)]
    show mT0 ev od lo _ _ _ = _
    rw [mT0_apply L]
    split <;> apply hT <;> simp <;> omega
  | 1, j =>
    rw [dif_neg (by simp)]
    show mT1 ev od lo _ _ _ = _
    rw [mT1_apply L]
    split <;> apply hT <;> simp <;> omega
  | 2, 0 =>
    rw [dif_neg (by simp; omega)]
    show mT2 la _ _ _ = _
    rw [mT2_apply L]; simp only [mT0_apply L]
    split <;> split <;> apply hT <;> simp at * <;> omega
  | 2, 1 =>
    rw [dif_neg (by simp; omega)]
    show mT2 la _ _ _ = _
    rw [mT2_apply L]; simp only [mT0_apply L]
    split <;> split <;> apply hT <;> simp at * <;> omega
  | 2, 2 =>
    show mT2m zw la _ _ _ = _
    rw [mT2m_apply L, mT2_apply L]; simp only [mT0_apply L]
    by_cases h : l.val = 63
    · rw [if_pos h, dif_pos (by simp; omega)]
    · rw [if_neg h, dif_neg (by simp; omega)]
      split <;> split <;> apply hT <;> simp at * <;> omega
  | 2, 3 =>
    rw [dif_neg (by simp; omega)]
    show mT2 la _ _ _ = _
    rw [mT2_apply L]; simp only [mT0_apply L]
    split <;> split <;> apply hT <;> simp at * <;> omega
  | 2, 4 =>
    show mT2e zw la _ _ = _
    rw [mT2e_apply L]; simp only [mT0_apply L]
    by_cases h : l.val = 127
    · rw [if_pos h, dif_pos (by simp; omega)]
    · rw [if_neg h, dif_neg (by simp; omega)]
      split <;> apply hT <;> simp at * <;> omega

/-- Words whose bytes are `b`. -/
def HasBytes (w : IVec S8x128 32) (b : Fin 32 → Fin 128 → BitVec 8) : Prop :=
  ∀ (s : Fin 8) (l : Fin 128) (q : ℕ) (hq : q < 32), (w (ix2 s l)).getLsbD q = (b ⟨4 * s.val + q / 8, by omega⟩ l).getLsbD (q % 8)

theorem tileW_bytes (v : Vec Ideal S1x1x32x128 .i8) : HasBytes (tileW v) fun c l => v (ix4 0 0 c l) := by
  intro s l q hq
  have := bitcast_8_32_getLsbD_ix2 (shapeCast S32x128 v shapeCasts_S1x1x32x128_S32x128) bitcasts_S32x128_w8_S8x128_w32 s l q hq ⟨4 * s.val + q / 8, by omega⟩ rfl
  refine this.trans ?_
  congr 1
  pointwise []

theorem back_apply (w : IVec S8x128 32) (b : Fin 32 → Fin 128 → BitVec 8) (ch : Fin 32) (l : Fin 128)
    (h : ∀ (q : ℕ) (hq : q < 32), q / 8 = ch.val % 4 → (w (ix2 ⟨ch.val / 4, by omega⟩ l)).getLsbD q = (b ch l).getLsbD (q % 8)) :
    outV w (ix4 0 0 ch l) = (((b ch l).toInt : ℝ) : EReal) := by
  have e1 : outV w (ix4 0 0 ch l) = (((bitcast S32x128 8 w bitcasts_S8x128_w32_S32x128_w8 (ix2 ch l)).toInt : ℝ) : EReal) := by
    unfold outV; pointwise []; rfl
  rw [e1]
  congr 3
  apply BitVec.eq_of_getLsbD_eq
  intro i hi
  rw [bitcast_getLsbD w _ _ i hi (by decide)]
  have hr : (S32x128.row (ix2 ch l) * 8 + i) / 32 = ch.val / 4 := by
    show (ch.val * 8 + i) / 32 = _; omega
  have hm : (S32x128.row (ix2 ch l) * 8 + i) % 32 = 8 * (ch.val % 4) + i := by
    show (ch.val * 8 + i) % 32 = _; omega
  rw [hm, Shape.Bitcasts.srcIdx_congr _ _ hr _ (fun a ha => by
    have : a = ⟨0, by decide⟩ := Fin.ext (by have h2 : a.val + 2 = 2 := ha; show a.val = 0; omega)
    subst this; show ch.val / 4 < 8; omega)]
  have := h (8 * (ch.val % 4) + i) (by omega) (by omega)
  rw [show (8 * (ch.val % 4) + i) % 8 = i by omega] at this
  rw [← this]
  congr 2
  funext c
  match c with
  | ⟨0, _⟩ => exact Fin.ext (Shape.Bitcasts.srcIdx_row _ _ _ _ ⟨0, Nat.zero_lt_two⟩ rfl)
  | ⟨1, _⟩ => exact Fin.ext (Shape.Bitcasts.srcIdx_other _ _ _ _ ⟨1, Nat.one_lt_two⟩ (by show ¬ 1 + 2 = 2; omega))

include L in
/-- The taps' bytes. -/
theorem mW_bytes (zw : IVec S8x128 32) (z : BitVec 8) (hz : HasBytes zw fun _ _ => z) (T : Fin 10 → IVec S8x128 32)
    (xb : Fin 10 → Fin 32 → Fin 128 → BitVec 8) (hT : ∀ p, HasBytes (T p) (xb p)) (t : Fin 3) (j : Fin 5) (ch : Fin 32) (l : Fin 128) :
    outV (mW ev od lo la zw T t j) (ix4 0 0 ch l) =
      (((if h : t = 2 ∧ (128 * j.val + l.val = 319 ∨ 128 * j.val + l.val = 639) then z
        else xb ⟨(256 * j.val + 2 * l.val + t.val) / 128, by omega⟩ ch ⟨(256 * j.val + 2 * l.val + t.val) % 128, by omega⟩ : BitVec 8).toInt : ℝ) : EReal) := by
  refine back_apply _ (fun ch l => if h : t = 2 ∧ (128 * j.val + l.val = 319 ∨ 128 * j.val + l.val = 639) then z
        else xb ⟨(256 * j.val + 2 * l.val + t.val) / 128, by omega⟩ ch ⟨(256 * j.val + 2 * l.val + t.val) % 128, by omega⟩) ch l ?_
  intro q hq hc
  rw [mW_apply L]
  split
  · exact hz _ _ q hq
  · rw [hT _ _ _ q hq]
    congr 2
    exact Fin.ext (by show 4 * (ch.val / 4) + q / 8 = ch.val; omega)

end Cert.KernelIdeal.Val
end
-- ==== Proof.Requant.lean ====
module

public import Idealize.ShloMosaic.Lib.Pointwise

@[expose] public section

set_option maxRecDepth 16384

noncomputable section

namespace Cert.Requant

open Idealize.ShloMosaic

/-- The reference's product with a quantized multiplier, one element. -/
def refH (a m : BitVec 32) : BitVec 32 :=
  let neg := IntOp.cmpi .slt a 0#32
  let au := Scalar.select neg (IntOp.subi 0#32 a) a
  let a0 := IntOp.andi au 65535#32
  let a1 := IntOp.shrui .host au 16#32
  let m0 := IntOp.andi m 65535#32
  let m1 := IntOp.shrui .host m 16#32
  let ll := IntOp.muli a0 m0
  let mid1 := IntOp.muli a1 m0
  let mid2 := IntOp.muli a0 m1
  let mid := IntOp.addi mid1 mid2
  let cmid := (IntOp.cmpi .ult mid mid1).setWidth 32
  let lo := IntOp.addi ll (IntOp.shli .host mid 16#32)
  let clo := (IntOp.cmpi .ult lo ll).setWidth 32
  let hi := IntOp.addi (IntOp.addi (IntOp.addi (IntOp.muli a1 m1) (IntOp.shrui .host mid 16#32)) (IntOp.shli .host cmid 16#32)) clo
  let lon := IntOp.addi lo (Scalar.select neg 1073741823#32 1073741824#32)
  let hin := IntOp.addi hi ((IntOp.cmpi .ult lon lo).setWidth 32)
  let q := IntOp.ori (IntOp.shli .host hin 1#32) (IntOp.shrui .host lon 31#32)
  Scalar.select neg (-q) q

/-- The reference's rounding right shift, one element. -/
def refS (h r : BitVec 32) : BitVec 32 :=
  let mask := IntOp.subi (IntOp.shli .host 1#32 r) 1#32
  let rem := IntOp.andi h mask
  let thr := IntOp.addi (IntOp.shrsi .host mask 1#32) ((IntOp.cmpi .slt h 0#32).setWidth 32)
  IntOp.addi (IntOp.shrsi .host h r) ((IntOp.cmpi .sgt rem thr).setWidth 32)

/-- The reference's result, one element. -/
def refY (a m r ozp lo hi : BitVec 32) : BitVec 8 :=
  (IntOp.minsi hi (IntOp.maxsi lo (IntOp.addi (refS (refH a m) r) ozp))).setWidth 8

/-- The kernel's exact form of the product, one element. -/
def slowH (a m : BitVec 32) : BitVec 32 :=
  let neg := IntOp.cmpi .slt a 0#32
  let au := Scalar.select neg (IntOp.subi 0#32 a) a
  let a0 := IntOp.andi au 65535#32
  let a1 := IntOp.shrui .vector au 16#32
  let m0 := IntOp.andi m 65535#32
  let m1 := IntOp.shrui .vector m 16#32
  let ll := IntOp.muli a0 m0
  let mid1 := IntOp.muli a1 m0
  let mid2 := IntOp.muli a0 m1
  let mid := IntOp.addi mid1 mid2
  let lo := IntOp.addi ll (IntOp.shli .vector mid 16#32)
  let hi := IntOp.addi (IntOp.addi (IntOp.addi (IntOp.muli a1 m1) (IntOp.shrui .vector mid 16#32))
    (IntOp.shli .vector ((IntOp.cmpi .slt (IntOp.xori mid 2147483648#32) (IntOp.xori mid1 2147483648#32)).setWidth 32) 16#32))
    ((IntOp.cmpi .slt (IntOp.xori lo 2147483648#32) (IntOp.xori ll 2147483648#32)).setWidth 32)
  let lon := IntOp.addi lo (Scalar.select neg 1073741823#32 1073741824#32)
  let hin := IntOp.addi hi ((IntOp.cmpi .slt (IntOp.xori lon 2147483648#32) (IntOp.xori lo 2147483648#32)).setWidth 32)
  let q := IntOp.ori (IntOp.shli .vector hin 1#32) (IntOp.shrui .vector lon 31#32)
  Scalar.select neg (IntOp.subi 0#32 q) q

/-- The kernel's rounding right shift in its exact form, one element. -/
def slowS (h r : BitVec 32) : BitVec 32 :=
  let mask := IntOp.subi (IntOp.shli .vector 1#32 r) 1#32
  let rem := IntOp.andi h mask
  let thr := IntOp.addi (IntOp.shrsi .vector mask 1#32) ((IntOp.cmpi .slt h 0#32).setWidth 32)
  IntOp.addi (IntOp.shrsi .vector h r) ((IntOp.cmpi .sgt rem thr).setWidth 32)

/-- The kernel's exact form, one element. -/
def slowY (a m r ozp lo hi : BitVec 32) : BitVec 8 :=
  ((IntOp.minsi (IntOp.maxsi (IntOp.addi (slowS (slowH a m) r) ozp) lo) hi).setWidth 16).setWidth 8

theorem toNat_xor_top (z : BitVec 32) : (z ^^^ 2147483648#32).toInt = (z.toNat : ℤ) - 2 ^ 31 := by
  have hz := z.isLt
  have e : (z ^^^ 2147483648#32).toNat = z.toNat ^^^ 2 ^ 31 := by simp [BitVec.toNat_xor]
  have h1 : (z.toNat ^^^ 2 ^ 31) % 2 ^ 31 = z.toNat % 2 ^ 31 := by
    rw [Nat.xor_mod_two_pow]; simp
  have h2 : (z.toNat ^^^ 2 ^ 31) / 2 ^ 31 = (z.toNat / 2 ^ 31) ^^^ 1 := by
    rw [Nat.xor_div_two_pow]; rfl
  have h3 : z.toNat / 2 ^ 31 = 0 ∨ z.toNat / 2 ^ 31 = 1 := by omega
  rw [BitVec.toInt_eq_toNat_cond, e]
  generalize z.toNat ^^^ 2 ^ 31 = c at *
  have h4 : (0 ^^^ 1 : ℕ) = 1 := by decide
  have h5 : (1 ^^^ 1 : ℕ) = 0 := by decide
  rcases h3 with h3 | h3 <;> rw [h3] at h2 <;> first | rw [h4] at h2 | rw [h5] at h2
  all_goals split <;> omega

/-- An unsigned comparison, made with a signed one. -/
theorem slt_xor (x y : BitVec 32) : (x ^^^ 2147483648#32).slt (y ^^^ 2147483648#32) = x.ult y := by
  rw [BitVec.slt, BitVec.ult, toNat_xor_top, toNat_xor_top]
  by_cases h : x.toNat < y.toNat <;> simp [h]

theorem maxsi_comm (x y : BitVec 32) : IntOp.maxsi x y = IntOp.maxsi y x := by
  unfold IntOp.maxsi
  simp only [BitVec.slt]
  by_cases h : y.toInt < x.toInt
  · have : ¬ x.toInt < y.toInt := by omega
    simp [h, this]
  · by_cases h' : x.toInt < y.toInt
    · simp [h, h']
    · have : x.toInt = y.toInt := by omega
      simp [BitVec.eq_of_toInt_eq this]

theorem minsi_comm (x y : BitVec 32) : IntOp.minsi x y = IntOp.minsi y x := by
  unfold IntOp.minsi
  simp only [BitVec.slt]
  by_cases h : y.toInt < x.toInt
  · have : ¬ x.toInt < y.toInt := by omega
    simp [h, this]
  · by_cases h' : x.toInt < y.toInt
    · simp [h, h']
    · have : x.toInt = y.toInt := by omega
      simp [BitVec.eq_of_toInt_eq this]

theorem shli_unit (x y : BitVec 32) (h : y.toNat < 32) : IntOp.shli .vector x y = IntOp.shli .host x y := by
  simp only [IntOp.shli, h, if_true]
theorem shrui_unit (x y : BitVec 32) (h : y.toNat < 32) : IntOp.shrui .vector x y = IntOp.shrui .host x y := by
  simp only [IntOp.shrui, h, if_true]
theorem cmp_xor (x y : BitVec 32) :
    IntOp.cmpi .slt (IntOp.xori x 2147483648#32) (IntOp.xori y 2147483648#32) = IntOp.cmpi .ult x y := by
  simp only [IntOp.cmpi, IntOp.xori, slt_xor]
theorem subi_zero (x : BitVec 32) : IntOp.subi 0#32 x = -x := by
  show 0#32 - x = -x
  exact BitVec.zero_sub x

theorem slowH_eq (a m : BitVec 32) : slowH a m = refH a m := by
  have h16 : (16#32).toNat < 32 := by decide
  have h1 : (1#32).toNat < 32 := by decide
  have h31 : (31#32).toNat < 32 := by decide
  unfold slowH refH
  simp only [cmp_xor, shli_unit _ _ h16, shrui_unit _ _ h16, shli_unit _ _ h1, shrui_unit _ _ h31, subi_zero]

theorem slowS_eq (h r : BitVec 32) (hr : r.toNat < 32) : slowS h r = refS h r := by
  simp only [slowS, refS, IntOp.shrsi, IntOp.shli, hr, if_true]
  simp

theorem slowY_eq (a m r ozp lo hi : BitVec 32) (hr : r.toNat < 32) :
    slowY a m r ozp lo hi = refY a m r ozp lo hi := by
  simp only [slowY, refY, slowH_eq, slowS_eq _ _ hr]
  rw [maxsi_comm _ lo, minsi_comm _ hi, BitVec.setWidth_setWidth_of_le _ (by omega)]

/-- The rounded half product of two words, by limbs. -/
def qOf (au m nud : BitVec 32) : BitVec 32 :=
  let a0 := IntOp.andi au 65535#32
  let a1 := IntOp.shrui .host au 16#32
  let m0 := IntOp.andi m 65535#32
  let m1 := IntOp.shrui .host m 16#32
  let ll := IntOp.muli a0 m0
  let mid1 := IntOp.muli a1 m0
  let mid2 := IntOp.muli a0 m1
  let mid := IntOp.addi mid1 mid2
  let cmid := (IntOp.cmpi .ult mid mid1).setWidth 32
  let lo := IntOp.addi ll (IntOp.shli .host mid 16#32)
  let clo := (IntOp.cmpi .ult lo ll).setWidth 32
  let hi := IntOp.addi (IntOp.addi (IntOp.addi (IntOp.muli a1 m1) (IntOp.shrui .host mid 16#32)) (IntOp.shli .host cmid 16#32)) clo
  let lon := IntOp.addi lo nud
  let hin := IntOp.addi hi ((IntOp.cmpi .ult lon lo).setWidth 32)
  IntOp.ori (IntOp.shli .host hin 1#32) (IntOp.shrui .host lon 31#32)

theorem refH_qOf (a m : BitVec 32) : refH a m =
    Scalar.select (IntOp.cmpi .slt a 0#32)
      (-(qOf (Scalar.select (IntOp.cmpi .slt a 0#32) (IntOp.subi 0#32 a) a) m
        (Scalar.select (IntOp.cmpi .slt a 0#32) 1073741823#32 1073741824#32)))
      (qOf (Scalar.select (IntOp.cmpi .slt a 0#32) (IntOp.subi 0#32 a) a) m
        (Scalar.select (IntOp.cmpi .slt a 0#32) 1073741823#32 1073741824#32)) := rfl

theorem toNat_ult (x y : BitVec 32) :
    ((IntOp.cmpi .ult x y).setWidth 32).toNat = if x.toNat < y.toNat then 1 else 0 := by
  show ((BitVec.ofBool (x.ult y)).setWidth 32).toNat = _
  unfold BitVec.ult
  by_cases h : x.toNat < y.toNat <;> simp [h]

theorem toNat_lo (x : BitVec 32) : (IntOp.andi x 65535#32).toNat = x.toNat % 65536 := by
  show (x &&& 65535#32).toNat = _
  rw [BitVec.toNat_and]
  exact Nat.and_two_pow_sub_one_eq_mod x.toNat 16
theorem toNat_hi (x : BitVec 32) : (IntOp.shrui .host x 16#32).toNat = x.toNat / 65536 := by
  show (x >>> (16#32)).toNat = _
  simp [Nat.shiftRight_eq_div_pow]
theorem toNat_shr31 (x : BitVec 32) : (IntOp.shrui .host x 31#32).toNat = x.toNat / 2147483648 := by
  show (x >>> (31#32)).toNat = _
  simp [Nat.shiftRight_eq_div_pow]
theorem toNat_shl16 (x : BitVec 32) : (IntOp.shli .host x 16#32).toNat = x.toNat * 65536 % 4294967296 := by
  show (x <<< (16#32)).toNat = _
  simp [Nat.shiftLeft_eq]
theorem toNat_shl1 (x : BitVec 32) : (IntOp.shli .host x 1#32).toNat = x.toNat * 2 % 4294967296 := by
  show (x <<< (1#32)).toNat = _
  simp [Nat.shiftLeft_eq]
theorem toNat_addi (x y : BitVec 32) : (IntOp.addi x y).toNat = (x.toNat + y.toNat) % 4294967296 := BitVec.toNat_add x y
theorem toNat_muli (x y : BitVec 32) : (IntOp.muli x y).toNat = (x.toNat * y.toNat) % 4294967296 := BitVec.toNat_mul x y

theorem toNat_qOf (au m nud : BitVec 32) (ha : au.toNat < 2 ^ 20) (hm : m.toNat < 2 ^ 31) (hn : nud.toNat ≤ 2 ^ 30) :
    (qOf au m nud).toNat = (au.toNat * m.toNat + nud.toNat) / 2 ^ 31 := by
  have hA : au.toNat / 65536 < 16 := by omega
  have hA0 : au.toNat % 65536 < 65536 := by omega
  have hM : m.toNat / 65536 < 32768 := by omega
  have hM0 : m.toNat % 65536 < 65536 := by omega
  have eN : au.toNat * m.toNat = au.toNat % 65536 * (m.toNat % 65536)
      + (au.toNat / 65536 * (m.toNat % 65536) + au.toNat % 65536 * (m.toNat / 65536)) * 65536
      + au.toNat / 65536 * (m.toNat / 65536) * 4294967296 := by
    conv_lhs => rw [← Nat.div_add_mod au.toNat 65536, ← Nat.div_add_mod m.toNat 65536]
    ring
  have b0 : au.toNat % 65536 * (m.toNat % 65536) ≤ 65535 * 65535 := Nat.mul_le_mul (by omega) (by omega)
  have b1 : au.toNat / 65536 * (m.toNat % 65536) ≤ 15 * 65535 := Nat.mul_le_mul (by omega) (by omega)
  have b2 : au.toNat % 65536 * (m.toNat / 65536) ≤ 65535 * 32767 := Nat.mul_le_mul (by omega) (by omega)
  have b3 : au.toNat / 65536 * (m.toNat / 65536) ≤ 15 * 32767 := Nat.mul_le_mul (by omega) (by omega)
  rw [eN]
  unfold qOf
  extract_lets a0 a1 m0 m1 ll mid1 mid2 mid cmid lo clo hi lon hin
  have e0 : ll.toNat = au.toNat % 65536 * (m.toNat % 65536) := by
    simp only [ll, a0, m0, toNat_muli, toNat_lo]; omega
  have e1 : mid1.toNat = au.toNat / 65536 * (m.toNat % 65536) := by
    simp only [mid1, a1, m0, toNat_muli, toNat_lo, toNat_hi]; omega
  have e2 : mid2.toNat = au.toNat % 65536 * (m.toNat / 65536) := by
    simp only [mid2, a0, m1, toNat_muli, toNat_lo, toNat_hi]; omega
  have e3 : (IntOp.muli a1 m1).toNat = au.toNat / 65536 * (m.toNat / 65536) := by
    simp only [a1, m1, toNat_muli, toNat_hi]; omega
  have e4 : mid.toNat = mid1.toNat + mid2.toNat := by simp only [mid, toNat_addi]; omega
  have e5 : cmid.toNat = 0 := by simp only [cmid, toNat_ult]; split <;> omega
  have e6 : lo.toNat = (ll.toNat + mid.toNat * 65536 % 4294967296) % 4294967296 := by
    simp only [lo, toNat_addi, toNat_shl16]
  have e7 : clo.toNat = (ll.toNat + mid.toNat * 65536 % 4294967296) / 4294967296 := by
    simp only [clo, toNat_ult]; rw [e6]; split <;> omega
  have e8 : hi.toNat = (IntOp.muli a1 m1).toNat + mid.toNat / 65536 + clo.toNat := by
    simp only [hi, toNat_addi, toNat_hi, toNat_shl16, e5]; omega
  have e9 : lon.toNat = (lo.toNat + nud.toNat) % 4294967296 := by simp only [lon, toNat_addi]
  have e10 : hin.toNat = hi.toNat + (lo.toNat + nud.toNat) / 4294967296 := by
    simp only [hin, toNat_addi, toNat_ult]; rw [e9]; split <;> omega
  have e11 : (IntOp.ori (IntOp.shli .host hin 1#32) (IntOp.shrui .host lon 31#32)).toNat
      = hin.toNat * 2 + lon.toNat / 2147483648 := by
    have hl : lon.toNat / 2147483648 < 2 := by have := lon.isLt; omega
    show (_ ||| _ : BitVec 32).toNat = _
    rw [BitVec.toNat_or, toNat_shl1, toNat_shr31, Nat.mod_eq_of_lt (by omega)]
    have := Nat.two_pow_add_eq_or_of_lt (i := 1) (b := lon.toNat / 2147483648) (by omega) hin.toNat
    rw [mul_comm, show (2 : ℕ) = 2 ^ 1 from rfl, ← this]
  rw [e11]
  omega

theorem refH_toInt (a m : BitVec 32) (ha : -(2 ^ 20) < a.toInt ∧ a.toInt < 2 ^ 20) (hm : 0 ≤ m.toInt) :
    (refH a m).toInt = (a.toInt * m.toInt + 2 ^ 30) / 2 ^ 31 := by
  have hm' : (m.toNat : ℤ) = m.toInt ∧ m.toNat < 2 ^ 31 := by
    rw [BitVec.toInt_eq_toNat_cond] at hm ⊢; have := m.isLt; split at hm <;> constructor <;> first | omega | (split <;> omega)
  have key : ∀ b : ℕ, b < 2 ^ 20 → b * m.toNat ≤ 2 ^ 20 * 2 ^ 31 := fun b hb => Nat.mul_le_mul (by omega) (by omega)
  rw [refH_qOf]
  by_cases h : a.toInt < 0
  · have hc : IntOp.cmpi .slt a 0#32 = 1#1 := by
      show BitVec.ofBool (a.slt 0#32) = _
      simp [BitVec.slt, h]
    rw [hc]
    show (-(qOf (0#32 - a) m 1073741823#32)).toInt = _
    have e : ((0#32 - a).toNat : ℤ) = -a.toInt := by
      rw [BitVec.toInt_eq_toNat_cond] at *; rw [BitVec.toNat_sub]; have := a.isLt
      simp only [BitVec.toNat_ofNat]
      split at h <;> rename_i h' <;> simp only [h', if_true, if_false] at ha <;> omega
    have hb : (0#32 - a).toNat < 2 ^ 20 := by omega
    have hq := toNat_qOf (0#32 - a) m 1073741823#32 hb hm'.2 (by decide)
    have hk := key _ hb
    have hN : (((0#32 - a).toNat * m.toNat : ℕ) : ℤ) = -(a.toInt * m.toInt) := by
      push_cast; rw [e, hm'.1]; ring
    generalize (0#32 - a).toNat * m.toNat = N at *
    generalize a.toInt * m.toInt = K at *
    have hn : (1073741823#32).toNat = 1073741823 := by decide
    rw [hn] at hq
    rw [BitVec.toInt_eq_toNat_cond, BitVec.toNat_neg]
    split <;> omega
  · have hc : IntOp.cmpi .slt a 0#32 = 0#1 := by
      show BitVec.ofBool (a.slt 0#32) = _
      simp [BitVec.slt, h]
    rw [hc]
    show (qOf a m 1073741824#32).toInt = _
    have e : (a.toNat : ℤ) = a.toInt := by
      rw [BitVec.toInt_eq_toNat_cond] at h ⊢; have := a.isLt
      split <;> omega
    have hb : a.toNat < 2 ^ 20 := by omega
    have hq := toNat_qOf a m 1073741824#32 hb hm'.2 (by decide)
    have hk := key _ hb
    have hN : ((a.toNat * m.toNat : ℕ) : ℤ) = a.toInt * m.toInt := by
      push_cast; rw [e, hm'.1]
    generalize a.toNat * m.toNat = N at *
    generalize a.toInt * m.toInt = K at *
    have hn : (1073741824#32).toNat = 1073741824 := by decide
    rw [hn] at hq
    rw [BitVec.toInt_eq_toNat_cond]
    split <;> omega

/-- The rounding right shift, as an integer. -/
def shiftV (h : ℤ) (r : ℕ) : ℤ :=
  h / 2 ^ r + if (2 ^ r - 1) / 2 + (if h < 0 then 1 else 0) < h % 2 ^ r then 1 else 0

theorem refS_toInt (h r : BitVec 32) (hh : -(2 ^ 22) ≤ h.toInt ∧ h.toInt ≤ 2 ^ 22) (hr : r.toNat < 32) :
    (refS h r).toInt = shiftV h.toInt r.toNat := by
  obtain ⟨n, hn⟩ : ∃ n, r.toNat = n := ⟨_, rfl⟩
  have hn' : n < 32 := hn ▸ hr
  have hp : (2 : ℕ) ^ n ≤ 2 ^ 31 := Nat.pow_le_pow_right (by decide) (by omega)
  have hp1 : 0 < (2 : ℕ) ^ n := Nat.pow_pos (by decide)
  have hd : (2 : ℕ) ^ n ∣ 2 ^ 32 := Nat.pow_dvd_pow 2 (by omega)
  unfold refS
  extract_lets mask rem thr
  have e1 : mask.toNat = 2 ^ n - 1 := by
    show (IntOp.shli .host 1#32 r - 1#32).toNat = _
    have : (IntOp.shli .host 1#32 r).toNat = 2 ^ n := by
      simp only [IntOp.shli, hr, if_true]
      rw [BitVec.shiftLeft_eq', BitVec.toNat_shiftLeft, hn, Nat.shiftLeft_eq]
      simp only [BitVec.toNat_ofNat]
      rw [Nat.mod_eq_of_lt (by omega)]; omega
    rw [BitVec.toNat_sub, this]; simp only [BitVec.toNat_ofNat]; omega
  have e2 : rem.toNat = h.toNat % 2 ^ n := by
    show (h &&& mask).toNat = _
    rw [BitVec.toNat_and, e1]; exact Nat.and_two_pow_sub_one_eq_mod h.toNat n
  have e2' : (rem.toNat : ℤ) = h.toInt % 2 ^ n := by
    rw [e2, BitVec.toInt_eq_toNat_bmod]
    have hd' : ((2 : ℤ) ^ n) ∣ ((2 ^ 32 : ℕ) : ℤ) := by exact_mod_cast hd
    rw [Int.bmod_def]
    obtain ⟨c, hc⟩ := hd'
    have : ((h.toNat : ℤ) % ((2 ^ 32 : ℕ) : ℤ)) = h.toNat := by
      have := h.isLt; omega
    rw [this]
    push_cast
    split
    · rfl
    · have : (4294967296 : ℤ) = 2 ^ n * c := by exact_mod_cast hc
      rw [this, Int.sub_mul_emod_self_left]
  have hmi : mask.toInt = ((2 ^ n - 1 : ℕ) : ℤ) := by
    rw [BitVec.toInt_eq_toNat_cond, e1]; split <;> omega
  have e3 : thr.toInt = ((2 ^ n - 1 : ℕ) : ℤ) / 2 + (if h.toInt < 0 then 1 else 0) := by
    have ha : (IntOp.shrsi .host mask 1#32).toInt = ((2 ^ n - 1 : ℕ) : ℤ) / 2 := by
      show (mask.sshiftRight (1#32).toNat).toInt = _
      rw [BitVec.toInt_sshiftRight, hmi, Int.shiftRight_eq_div_pow]; rfl
    have hb : ((IntOp.cmpi .slt h 0#32).setWidth 32).toInt = if h.toInt < 0 then 1 else 0 := by
      show ((BitVec.ofBool (h.slt 0#32)).setWidth 32).toInt = _
      unfold BitVec.slt
      by_cases hc : h.toInt < 0 <;> simp [hc]
    show (_ + _ : BitVec 32).toInt = _
    rw [BitVec.toInt_add, ha, hb, Int.bmod_def]
    split <;> split <;> omega
  have e4 : rem.toInt = h.toInt % 2 ^ n := by
    have := Nat.mod_lt h.toNat hp1
    rw [← e2', BitVec.toInt_eq_toNat_cond]; split <;> omega
  have e5 : (IntOp.shrsi .host h r).toInt = h.toInt / 2 ^ n := by
    have : IntOp.shrsi .host h r = h.sshiftRight r.toNat := by
      simp only [IntOp.shrsi, hr, if_true]; rfl
    rw [this, BitVec.toInt_sshiftRight, Int.shiftRight_eq_div_pow, hn]; norm_cast
  have e6 : ((IntOp.cmpi .sgt rem thr).setWidth 32).toInt = if thr.toInt < rem.toInt then 1 else 0 := by
    show ((BitVec.ofBool (thr.slt rem)).setWidth 32).toInt = _
    unfold BitVec.slt
    by_cases hc : thr.toInt < rem.toInt <;> simp [hc]
  have e7 : -(2 ^ 22) ≤ h.toInt / 2 ^ n ∧ h.toInt / 2 ^ n ≤ 2 ^ 22 := by
    have h1 : (1 : ℤ) ≤ 2 ^ n := by exact_mod_cast hp1
    constructor
    · rw [Int.le_ediv_iff_mul_le (by omega)]; nlinarith
    · rw [Int.ediv_le_iff_le_mul (by omega)]; nlinarith
  show (_ + _ : BitVec 32).toInt = _
  rw [BitVec.toInt_add, e5, e6, e3, e4, hn, Int.bmod_def]
  unfold shiftV
  have e8 : ((2 ^ n - 1 : ℕ) : ℤ) = 2 ^ n - 1 := by push_cast [Nat.cast_sub hp1]; rfl
  rw [e8]
  generalize (2 : ℤ) ^ n - 1 = M at *
  generalize h.toInt % 2 ^ n = R at *
  generalize h.toInt / 2 ^ n = Q at *
  split <;> omega

end Cert.Requant
end
-- ==== Proof.Fast.lean ====
module

public import proofs.«01_k».proof.Proof.Requant

@[expose] public section

set_option maxRecDepth 16384

noncomputable section

namespace Cert.Requant

open Idealize.ShloMosaic

/-- The unit of the scaled values: a power of two made from its exponent. -/
def unitOf (r : BitVec 32) : EReal := Ideal.ofBits .f32 (IntOp.shli .vector (IntOp.addi 159#32 r) 23#32)
/-- Its inverse. -/
def invOf (r : BitVec 32) : EReal := Ideal.ofBits .f32 (IntOp.shli .vector (IntOp.subi 95#32 r) 23#32)
/-- The multiplier, slightly enlarged. -/
def fastC (m : BitVec 32) : EReal := ((m.toInt : ℝ) : EReal) * Ideal.ofBits .f32 0x40000000#32 * Ideal.ofBits .f32 0x3F800006#32
/-- A bound of the output in the scaled unit. -/
def fastP (b ozp r : BitVec 32) : EReal := (((IntOp.subi b ozp).toInt : ℝ) : EReal) * unitOf r
/-- The output's zero point and the rounding constant, in the scaled unit. -/
def fastZ (ozp r : BitVec 32) : EReal := (((ozp.toInt : ℝ) : EReal) + Ideal.ofBits .f32 0x4B400000#32) * unitOf r

/-- The kernel's short form, one element. -/
def fastW (A c0 p2 p3 p4 : EReal) (m r : BitVec 32) : BitVec 16 :=
  (Ideal.fptosi 32 (Ideal.liftRound Ideal.roundHalfEven
    ((min (max (A * c0 - (((IntOp.muli (Ideal.fptosi 32 (Ideal.liftRound Ideal.roundHalfEven A)) (IntOp.muli m 2#32)).toInt : ℝ) : EReal)) p2) p3 + p4)
      * invOf r))).setWidth 16

theorem round_near (z : ℝ) (n : ℤ) (h : |z - n| < 1 / 2) : Ideal.roundHalfEven z = n := by
  obtain ⟨h1, h2⟩ := abs_lt.1 h
  unfold Ideal.roundHalfEven
  rcases le_or_gt (n : ℝ) z with hz | hz
  · have hf : ⌊z⌋ = n := by rw [Int.floor_eq_iff]; constructor <;> linarith
    simp only [hf]; rw [if_pos (by linarith)]
  · have hf : ⌊z⌋ = n - 1 := by rw [Int.floor_eq_iff]; push_cast; constructor <;> linarith
    simp only [hf]; push_cast
    rw [if_neg (by linarith), if_pos (by linarith)]; ring

theorem round_int (n : ℤ) : Ideal.roundHalfEven (n : ℝ) = n := round_near _ _ (by simp)

theorem abs_clamp (y v lo hi : ℝ) : |min (max y lo) hi - min (max v lo) hi| ≤ |y - v| :=
  ((abs_min_sub_min_le_max _ _ _ _).trans (by simp)).trans (abs_max_sub_max_le_abs y v lo)

theorem fptosi_int (n : ℤ) (h : -(2 ^ 31) ≤ n ∧ n < 2 ^ 31) : Ideal.fptosi 32 ((n : ℝ) : EReal) = BitVec.ofInt 32 n := by
  unfold Ideal.fptosi
  rw [Ideal.toIntClamped_coe]
  congr 1
  rw [Int.floor_intCast, Int.ceil_intCast]
  norm_num
  omega

/-- The scaled value and the rounded integer differ by less than one half. -/
theorem shift_near (h : ℤ) (δ : ℝ) (r : ℕ) (hd : |δ| < 1 / 2) (hn : h < 0 → δ < 0) (hp : 1 ≤ h → 0 < δ) :
    |((h : ℝ) + δ) / 2 ^ r - shiftV h r| < 1 / 2 := by
  obtain ⟨d1, d2⟩ := abs_lt.1 hd
  rcases r with _ | r
  · have : shiftV h 0 = h := by unfold shiftV; simp; split <;> simp
    rw [this]; simpa using hd
  · have hK : (1 : ℤ) ≤ 2 ^ r := by exact_mod_cast Nat.one_le_two_pow
    have hM : (2 : ℤ) ^ (r + 1) = 2 * 2 ^ r := by ring
    have hMR : (2 : ℝ) ^ (r + 1) = 2 * ((2 ^ r : ℤ) : ℝ) := by push_cast; ring
    unfold shiftV
    rw [hM, hMR]
    generalize (2 : ℤ) ^ r = K at *
    have e := Int.mul_ediv_add_emod h (2 * K)
    have r0 := Int.emod_nonneg h (b := 2 * K) (by omega)
    have r1 := Int.emod_lt_of_pos h (b := 2 * K) (by omega)
    generalize h % (2 * K) = R at *
    generalize h / (2 * K) = Q at *
    have hKR : (1 : ℝ) ≤ (K : ℝ) := by exact_mod_cast hK
    have eR : (h : ℝ) = 2 * K * Q + R := by rw [← e]; push_cast; ring
    have t : (2 * K - 1) / 2 = K - 1 := by omega
    rw [t, eR]
    by_cases hc : K - 1 + (if h < 0 then 1 else 0) < R
    · rw [if_pos hc]
      have hc' : (K : ℝ) < R + δ := by
        by_cases h0 : h < 0
        · rw [if_pos h0] at hc
          have : (K : ℝ) + 1 ≤ R := by exact_mod_cast (show K + 1 ≤ R by omega)
          linarith
        · rw [if_neg h0] at hc
          have h1 : (K : ℝ) ≤ R := by exact_mod_cast (show K ≤ R by omega)
          have h2 : 1 ≤ h := by
            by_contra h3
            have h4 : h = 0 := by omega
            rw [h4] at e
            have : Q = 0 ∨ Q ≤ -1 ∨ 1 ≤ Q := by omega
            rcases this with q | q | q
            · subst q; omega
            · nlinarith
            · nlinarith
          linarith [hp h2]
      have hR : (R : ℝ) + 1 ≤ 2 * K := by exact_mod_cast (show R + 1 ≤ 2 * K by omega)
      have : (2 * (K : ℝ) * Q + R + δ) / (2 * (K : ℝ)) - ((Q + 1 : ℤ) : ℝ) = (R + δ - 2 * K) / (2 * K) := by
        push_cast; field_simp; ring
      rw [this, abs_lt, lt_div_iff₀ (by linarith), div_lt_iff₀ (by linarith)]
      constructor <;> linarith
    · rw [if_neg hc]
      have hc' : (R : ℝ) + δ < K := by
        by_cases h0 : h < 0
        · rw [if_pos h0] at hc
          have : (R : ℝ) ≤ K := by exact_mod_cast (show R ≤ K by omega)
          linarith [hn h0]
        · rw [if_neg h0] at hc
          have : (R : ℝ) + 1 ≤ K := by exact_mod_cast (show R + 1 ≤ K by omega)
          linarith
      have hR : (0 : ℝ) ≤ R := by exact_mod_cast r0
      have : (2 * (K : ℝ) * Q + R + δ) / (2 * K) - ((Q + 0 : ℤ) : ℝ) = (R + δ) / (2 * K) := by
        push_cast; field_simp; ring
      rw [this, abs_lt, lt_div_iff₀ (by linarith), div_lt_iff₀ (by linarith)]
      constructor <;> linarith

theorem ieee_norm (b : BitVec 32) (ex fr : ℕ) (h1 : (b.extractLsb' 31 1 == 1#1) = false)
    (h2 : (b.extractLsb' 23 8).toNat = ex) (h3 : (b.extractLsb' 0 23).toNat = fr) (h4 : 0 < ex) (h5 : ex < 255) :
    Ideal.ofBits .f32 b = (((8388608 + fr : ℕ) * 2 ^ ((ex : ℤ) - 150) : ℝ) : EReal) := by
  show Ideal.ieee 8 23 b = _
  unfold Ideal.ieee
  simp only [Nat.reduceAdd, h1, h2, h3]
  rw [if_neg (by omega), if_neg (by omega)]
  congr 1
  rw [show (ex : ℤ) - (2 ^ (8 - 1) - 1) - ((23 : ℕ) : ℤ) = (ex : ℤ) - 150 by norm_num; ring]
  norm_num

theorem ofBits_two : Ideal.ofBits .f32 0x40000000#32 = ((2 : ℝ) : EReal) := by
  rw [ieee_norm _ 128 0 (by decide) (by decide) (by decide) (by decide) (by decide)]
  congr 1; norm_num
theorem ofBits_c : Ideal.ofBits .f32 0x3F800006#32 = ((1 + 3 * 2 ^ (-22 : ℤ) : ℝ) : EReal) := by
  rw [ieee_norm _ 127 6 (by decide) (by decide) (by decide) (by decide) (by decide)]
  congr 1; norm_num
theorem ofBits_magic : Ideal.ofBits .f32 0x4B400000#32 = ((12582912 : ℝ) : EReal) := by
  rw [ieee_norm _ 150 4194304 (by decide) (by decide) (by decide) (by decide) (by decide)]
  congr 1; norm_num

theorem ecoe_max (x y : ℝ) : ((max x y : ℝ) : EReal) = max (x : EReal) y := EReal.coe_strictMono.monotone.map_max
theorem ecoe_min (x y : ℝ) : ((min x y : ℝ) : EReal) = min (x : EReal) y := EReal.coe_strictMono.monotone.map_min

theorem unit_word (n : Fin 32) : ((IntOp.shli .vector (IntOp.addi 159#32 (BitVec.ofNat 32 n.val)) 23#32).extractLsb' 31 1 == 1#1) = false
    ∧ ((IntOp.shli .vector (IntOp.addi 159#32 (BitVec.ofNat 32 n.val)) 23#32).extractLsb' 23 8).toNat = 159 + n.val
    ∧ ((IntOp.shli .vector (IntOp.addi 159#32 (BitVec.ofNat 32 n.val)) 23#32).extractLsb' 0 23).toNat = 0 := by
  revert n; decide

theorem inv_word (n : Fin 32) : ((IntOp.shli .vector (IntOp.subi 95#32 (BitVec.ofNat 32 n.val)) 23#32).extractLsb' 31 1 == 1#1) = false
    ∧ ((IntOp.shli .vector (IntOp.subi 95#32 (BitVec.ofNat 32 n.val)) 23#32).extractLsb' 23 8).toNat = 95 - n.val
    ∧ ((IntOp.shli .vector (IntOp.subi 95#32 (BitVec.ofNat 32 n.val)) 23#32).extractLsb' 0 23).toNat = 0 := by
  revert n; decide

theorem unitOf_eq (r : BitVec 32) (hr : r.toNat < 32) : unitOf r = ((2 ^ 32 * 2 ^ r.toNat : ℝ) : EReal) := by
  obtain ⟨n, hn⟩ : ∃ n : ℕ, r.toNat = n := ⟨_, rfl⟩
  have hlt : n < 32 := hn ▸ hr
  have hw := unit_word ⟨n, hlt⟩
  have hr' : BitVec.ofNat 32 (⟨n, hlt⟩ : Fin 32).val = r := by
    show BitVec.ofNat 32 n = r
    rw [← hn]; simp
  rw [hr'] at hw
  obtain ⟨h1, h2, h3⟩ := hw
  unfold unitOf
  generalize IntOp.shli _ _ _ = b at *
  rw [ieee_norm _ (159 + n) 0 h1 h2 h3 (by omega) (by omega), hn]
  rw [EReal.coe_eq_coe_iff]
  push_cast
  rw [show ((159 : ℤ) + n - 150) = 9 + n by ring, zpow_add₀ (by norm_num), zpow_natCast]
  norm_num
  ring

theorem invOf_eq (r : BitVec 32) (hr : r.toNat < 32) : invOf r = (((2 ^ 32 * 2 ^ r.toNat)⁻¹ : ℝ) : EReal) := by
  obtain ⟨n, hn⟩ : ∃ n : ℕ, r.toNat = n := ⟨_, rfl⟩
  have hlt : n < 32 := hn ▸ hr
  have hw := inv_word ⟨n, hlt⟩
  have hr' : BitVec.ofNat 32 (⟨n, hlt⟩ : Fin 32).val = r := by
    show BitVec.ofNat 32 n = r
    rw [← hn]; simp
  rw [hr'] at hw
  obtain ⟨h1, h2, h3⟩ := hw
  unfold invOf
  generalize IntOp.shli _ _ _ = b at *
  rw [ieee_norm _ (95 - n) 0 h1 h2 h3 (by omega) (by omega), hn]
  rw [EReal.coe_eq_coe_iff]
  rw [Nat.cast_sub (by omega)]
  push_cast
  rw [show ((95 : ℤ) - n - 150) = -(55 + n) by ring, zpow_neg, zpow_add₀ (by norm_num), zpow_natCast]
  have : (0 : ℝ) < 2 ^ n := by positivity
  field_simp
  norm_num

/-- The reference's result as an integer. -/
theorem refY_int (a m r ozp lo hi : BitVec 32) (ha : -(2 ^ 20) < a.toInt ∧ a.toInt < 2 ^ 20) (hm : 0 ≤ m.toInt)
    (hr : r.toNat < 32) (ho : -(2 ^ 29) ≤ ozp.toInt ∧ ozp.toInt ≤ 2 ^ 29) :
    refY a m r ozp lo hi
      = BitVec.ofInt 8 (min (max (shiftV ((a.toInt * m.toInt + 2 ^ 30) / 2 ^ 31) r.toNat + ozp.toInt) lo.toInt) hi.toInt) := by
  have hmlt : m.toInt < 2 ^ 31 := by have := BitVec.toInt_lt (x := m); simpa using this
  have b1 : a.toInt * m.toInt ≤ 2 ^ 20 * 2 ^ 31 := by nlinarith
  have b2 : -(2 ^ 20 * 2 ^ 31) ≤ a.toInt * m.toInt := by nlinarith
  have hh := refH_toInt a m ha hm
  have hS := refS_toInt (refH a m) r (by rw [hh]; omega) hr
  rw [hh] at hS
  have hV : -(2 ^ 23) ≤ shiftV ((a.toInt * m.toInt + 2 ^ 30) / 2 ^ 31) r.toNat ∧ shiftV ((a.toInt * m.toInt + 2 ^ 30) / 2 ^ 31) r.toNat ≤ 2 ^ 23 := by
    have hp1 : (1 : ℤ) ≤ 2 ^ r.toNat := by exact_mod_cast Nat.one_le_two_pow
    have hH : -(2 ^ 21) ≤ (a.toInt * m.toInt + 2 ^ 30) / 2 ^ 31 ∧ (a.toInt * m.toInt + 2 ^ 30) / 2 ^ 31 ≤ 2 ^ 21 := by omega
    generalize (a.toInt * m.toInt + 2 ^ 30) / 2 ^ 31 = H at *
    have h1 : -(2 ^ 21) ≤ H / 2 ^ r.toNat := by rw [Int.le_ediv_iff_mul_le (by omega)]; nlinarith
    have h2 : H / 2 ^ r.toNat ≤ 2 ^ 21 := by rw [Int.ediv_le_iff_le_mul (by omega)]; nlinarith
    unfold shiftV
    generalize H / 2 ^ r.toNat = Q at *
    split <;> omega
  unfold refY
  generalize shiftV ((a.toInt * m.toInt + 2 ^ 30) / 2 ^ 31) r.toNat = V at *
  have hA : (IntOp.addi (refS (refH a m) r) ozp).toInt = V + ozp.toInt := by
    show (_ + _ : BitVec 32).toInt = _
    rw [BitVec.toInt_add, hS, Int.bmod_def]; omega
  have hR : (IntOp.minsi hi (IntOp.maxsi lo (IntOp.addi (refS (refH a m) r) ozp))).toInt
      = min (max (V + ozp.toInt) lo.toInt) hi.toInt := by
    rw [maxsi_comm, minsi_comm]
    unfold IntOp.minsi IntOp.maxsi BitVec.slt
    rw [hA]
    by_cases c1 : lo.toInt < V + ozp.toInt
    · simp only [c1, decide_true, if_true, hA]
      by_cases c2 : V + ozp.toInt < hi.toInt
      · simp only [c2, decide_true, if_true, hA]; omega
      · simp only [c2, decide_false]; simp; omega
    · simp only [c1, decide_false]; simp only [Bool.false_eq_true, if_false]
      by_cases c2 : lo.toInt < hi.toInt
      · simp only [c2, decide_true, if_true]; omega
      · simp only [c2, decide_false]; simp; omega
  generalize IntOp.minsi hi (IntOp.maxsi lo (IntOp.addi (refS (refH a m) r) ozp)) = Z at *
  rw [← hR]
  apply BitVec.eq_of_toInt_eq
  rw [BitVec.toInt_setWidth, BitVec.toInt_ofInt, BitVec.toInt_eq_toNat_bmod, Int.bmod_bmod_of_dvd (by norm_num)]

theorem fast_eq (a m r ozp lo hi : BitVec 32) (A : EReal) (hA : A = ((a.toInt : ℝ) : EReal))
    (ha : -671744 ≤ a.toInt ∧ a.toInt ≤ 671744) (hm : 0 ≤ m.toInt)
    (hr : r.toNat < 32) (ho : -(2 ^ 29) ≤ ozp.toInt ∧ ozp.toInt ≤ 2 ^ 29)
    (hl : -(2 ^ 29) ≤ lo.toInt ∧ lo.toInt ≤ 2 ^ 29) (hh : -(2 ^ 29) ≤ hi.toInt ∧ hi.toInt ≤ 2 ^ 29) :
    (fastW A (fastC m) (fastP lo ozp r) (fastP hi ozp r) (fastZ ozp r) m r).setWidth 8 = refY a m r ozp lo hi := by
  have hmlt : m.toInt < 2 ^ 31 := by have := BitVec.toInt_lt (x := m); simpa using this
  rw [refY_int a m r ozp lo hi (by omega) hm hr ho]
  have b1 : a.toInt * m.toInt ≤ 671744 * 2 ^ 31 := by nlinarith
  have b2 : -(671744 * 2 ^ 31) ≤ a.toInt * m.toInt := by nlinarith
  have eA : Ideal.fptosi 32 (Ideal.liftRound Ideal.roundHalfEven A) = a := by
    rw [hA, Ideal.liftRound_coe, round_int, fptosi_int _ (by omega), BitVec.ofInt_toInt]
  have eF : (IntOp.muli a (IntOp.muli m 2#32)).toInt
      = 2 * (a.toInt * m.toInt) - 2 ^ 32 * ((a.toInt * m.toInt + 2 ^ 30) / 2 ^ 31) := by
    have e1 : (IntOp.muli a (IntOp.muli m 2#32)) = BitVec.ofInt 32 (a.toInt * (m.toInt * 2)) := by
      show a * (m * 2#32) = _
      rw [BitVec.ofInt_mul, BitVec.ofInt_mul, BitVec.ofInt_toInt, BitVec.ofInt_toInt]; rfl
    rw [e1, BitVec.toInt_ofInt, show a.toInt * (m.toInt * 2) = 2 * (a.toInt * m.toInt) by ring]
    generalize a.toInt * m.toInt = K at *
    rw [Int.bmod_def]; split <;> omega
  have esub : ∀ b : BitVec 32, -(2 ^ 29) ≤ b.toInt ∧ b.toInt ≤ 2 ^ 29 → (IntOp.subi b ozp).toInt = b.toInt - ozp.toInt := by
    intro b hb
    show (b - ozp).toInt = _
    rw [BitVec.toInt_sub, Int.bmod_def]; omega
  obtain ⟨h, hH⟩ : ∃ h, h = (a.toInt * m.toInt + 2 ^ 30) / 2 ^ 31 := ⟨_, rfl⟩
  rw [← hH] at eF ⊢
  unfold fastW fastC fastP fastZ
  rw [eA, eF, esub lo hl, esub hi hh, unitOf_eq r hr, invOf_eq r hr, ofBits_two, ofBits_c, ofBits_magic, hA]
  have key := shift_near h ((a.toInt * m.toInt : ℤ) * (3 * 2 ^ (-53 : ℤ))) r.toNat (by
      have c1 : ((a.toInt * m.toInt : ℤ) : ℝ) ≤ 671744 * 2 ^ 31 := by exact_mod_cast b1
      have c2 : -(671744 * 2 ^ 31) ≤ ((a.toInt * m.toInt : ℤ) : ℝ) := by exact_mod_cast b2
      rw [abs_lt]
      constructor <;> norm_num <;> norm_num at c1 c2 <;> linarith) (by
      intro hneg
      have : a.toInt * m.toInt < 0 := by omega
      have : ((a.toInt * m.toInt : ℤ) : ℝ) < 0 := by exact_mod_cast this
      have h3 : (0 : ℝ) < 3 * 2 ^ (-53 : ℤ) := by positivity
      exact mul_neg_of_neg_of_pos this h3) (by
      intro hpos
      have : 0 < a.toInt * m.toInt := by omega
      have : (0 : ℝ) < ((a.toInt * m.toInt : ℤ) : ℝ) := by exact_mod_cast this
      positivity)
  generalize hV : shiftV h r.toNat = V at *
  have hVb : -(2 ^ 23) ≤ V ∧ V ≤ 2 ^ 23 := by
    have hp1 : (1 : ℤ) ≤ 2 ^ r.toNat := by exact_mod_cast Nat.one_le_two_pow
    have hHb : -(2 ^ 21) ≤ h ∧ h ≤ 2 ^ 21 := by omega
    have h1 : -(2 ^ 21) ≤ h / 2 ^ r.toNat := by rw [Int.le_ediv_iff_mul_le (by omega)]; nlinarith
    have h2 : h / 2 ^ r.toNat ≤ 2 ^ 21 := by rw [Int.ediv_le_iff_le_mul (by omega)]; nlinarith
    rw [← hV]
    unfold shiftV
    generalize h / 2 ^ r.toNat = Q at *
    split <;> omega
  have hU : (0 : ℝ) < 2 ^ r.toNat := by positivity
  generalize (2 : ℝ) ^ r.toNat = U at *
  generalize hy : ((h : ℝ) + (a.toInt * m.toInt : ℤ) * (3 * 2 ^ (-53 : ℤ))) / U = y at *
  have eR : (min (max ((a.toInt : ℝ) * ((m.toInt : ℝ) * 2 * (1 + 3 * 2 ^ (-22 : ℤ))) - ((2 * (a.toInt * m.toInt) - 2 ^ 32 * h : ℤ) : ℝ))
        (((lo.toInt - ozp.toInt : ℤ) : ℝ) * (2 ^ 32 * U))) (((hi.toInt - ozp.toInt : ℤ) : ℝ) * (2 ^ 32 * U))
        + ((ozp.toInt : ℝ) + 12582912) * (2 ^ 32 * U)) * (2 ^ 32 * U)⁻¹
      = min (max y ((lo.toInt - ozp.toInt : ℤ) : ℝ)) ((hi.toInt - ozp.toInt : ℤ) : ℝ) + ((ozp.toInt + 12582912 : ℤ) : ℝ) := by
    have hU2 : (0 : ℝ) < 2 ^ 32 * U := by positivity
    have e1 : (a.toInt : ℝ) * ((m.toInt : ℝ) * 2 * (1 + 3 * 2 ^ (-22 : ℤ))) - ((2 * (a.toInt * m.toInt) - 2 ^ 32 * h : ℤ) : ℝ)
        = y * (2 ^ 32 * U) := by
      rw [← hy]; push_cast; field_simp; norm_num; ring
    rw [e1, ← max_mul_of_nonneg _ _ hU2.le, ← min_mul_of_nonneg _ _ hU2.le, ← add_mul, mul_assoc, mul_inv_cancel₀ hU2.ne', mul_one]
    push_cast; ring
  have hN : Ideal.roundHalfEven (min (max y ((lo.toInt - ozp.toInt : ℤ) : ℝ)) ((hi.toInt - ozp.toInt : ℤ) : ℝ) + ((ozp.toInt + 12582912 : ℤ) : ℝ))
      = min (max V (lo.toInt - ozp.toInt)) (hi.toInt - ozp.toInt) + (ozp.toInt + 12582912) := by
    apply round_near
    have := abs_clamp y V ((lo.toInt - ozp.toInt : ℤ) : ℝ) ((hi.toInt - ozp.toInt : ℤ) : ℝ)
    push_cast at this ⊢
    rw [add_sub_add_right_eq_sub]
    exact lt_of_le_of_lt this key
  have eE : Ideal.liftRound Ideal.roundHalfEven ((min (max (((a.toInt : ℝ) : EReal) * (((m.toInt : ℝ) : EReal) * ((2 : ℝ) : EReal) * ((1 + 3 * 2 ^ (-22 : ℤ) : ℝ) : EReal))
        - (((2 * (a.toInt * m.toInt) - 2 ^ 32 * h : ℤ) : ℝ) : EReal)) ((((lo.toInt - ozp.toInt : ℤ) : ℝ) : EReal) * ((2 ^ 32 * U : ℝ) : EReal)))
        ((((hi.toInt - ozp.toInt : ℤ) : ℝ) : EReal) * ((2 ^ 32 * U : ℝ) : EReal))
        + (((ozp.toInt : ℝ) : EReal) + ((12582912 : ℝ) : EReal)) * ((2 ^ 32 * U : ℝ) : EReal)) * (((2 ^ 32 * U)⁻¹ : ℝ) : EReal))
      = (((min (max V (lo.toInt - ozp.toInt)) (hi.toInt - ozp.toInt) + (ozp.toInt + 12582912) : ℤ) : ℝ) : EReal) := by
    simp only [← EReal.coe_mul, ← EReal.coe_add, ← EReal.coe_sub, ← ecoe_max, ← ecoe_min]
    rw [Ideal.liftRound_coe, eR, hN]
  rw [eE, fptosi_int _ (by omega), BitVec.setWidth_setWidth_of_le _ (by omega)]
  apply BitVec.eq_of_toInt_eq
  rw [BitVec.toInt_setWidth, BitVec.toInt_ofInt, BitVec.toNat_ofInt]
  rw [Int.bmod_def, Int.bmod_def]
  have : min (max V (lo.toInt - ozp.toInt)) (hi.toInt - ozp.toInt) + ozp.toInt = min (max (V + ozp.toInt) lo.toInt) hi.toInt := by omega
  generalize min (max (V + ozp.toInt) lo.toInt) hi.toInt = X at *
  generalize min (max V (lo.toInt - ozp.toInt)) (hi.toInt - ozp.toInt) = Y at *
  norm_num
  omega

end Cert.Requant
-- ==== Proof.Tiles.lean ====
module

public import proofs.«01_k».proof.Proof.Words
public import proofs.«01_k».proof.Proof.Fast
public import proofs.«01_k».proof.Proof.Requant

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Cert.Requant

/-- A column of constants over two lane blocks. -/
def cat2 {α : Type} (v : S1x64x128.Idx → α) : S64x256.Idx → α :=
  concatenate S64x256 1 [⟨S64x128, shapeCast S64x128 v shapeCasts_S1x64x128_S64x128⟩, ⟨S64x128, shapeCast S64x128 v shapeCasts_S1x64x128_S64x128⟩] concatenates_S64x128_S64x128_S64x256_d1

/-- The product of the filters' matrix with a tile of taps and the row of ones. -/
def mAcc (l : Vec Ideal S1x128x496 .bf16) (r : FVec Ideal S480x256 .bf16) (on : FVec Ideal S16x256 .bf16) : FVec Ideal S128x256 .f32 :=
  matmul dot_S128x496_S496x256_S128x256_1_0_0_1_n_n none (shapeCast S128x496 l shapeCasts_S1x128x496_S128x496 : FVec Ideal S128x496 .bf16)
    (concatenate S496x256 0 [⟨S480x256, r⟩, ⟨S16x256, on⟩] concatenates_S480x256_S16x256_S496x256_d0) (constant S128x256 .f32 0x00000000#32)

/-- The quick requantization of a half tile. -/
def mFast (A : FVec Ideal S64x256 .f32) (c0 p2 p3 p4 : Vec Ideal S1x64x128 .f32) (m r : Vec Ideal S1x64x128 .i32) : IVec S64x256 16 :=
  trunci 16 (fptosi 32 (roundeven (mulf (addf (minimumf (maximumf (subf (mulf A (cat2 c0)) (sitofp .f32 (muli (fptosi 32 (roundeven A)) (muli (cat2 m) (broadcast S64x256 2#32)))))
    (cat2 p2)) (cat2 p3)) (cat2 p4)) (bitcastToFloat .f32 (shli (subi (broadcast S64x256 95#32) (cat2 r)) (broadcast S64x256 23#32))))))

theorem cat2_apply {α : Type} (v : S1x64x128.Idx → α) (o : Fin 64) (n : Fin 256) :
    cat2 v (ix2 o n) = v (ix3 0 o ⟨n.val % 128, by omega⟩) := by
  unfold cat2
  pointwise []
  have e1 : ∀ h : ¬ n.val < 128, (⟨n.val - 128, by omega⟩ : Fin 128) = ⟨n.val % 128, by omega⟩ := fun h => Fin.ext (by simp; omega)
  have e2 : ∀ h : n.val < 128, (⟨n.val, h⟩ : Fin 128) = ⟨n.val % 128, by omega⟩ := fun h => Fin.ext (by simp; omega)
  split_ifs with h
  · rw [← e2 h]
  all_goals first | rw [← e1 h] | simp_all

theorem mFast_apply (A : FVec Ideal S64x256 .f32) (c0 p2 p3 p4 m r) (o : Fin 64) (n : Fin 256) :
    mFast A c0 p2 p3 p4 m r (ix2 o n) = fastW (A (ix2 o n)) (c0 (ix3 0 o ⟨n.val % 128, by omega⟩)) (p2 (ix3 0 o ⟨n.val % 128, by omega⟩))
      (p3 (ix3 0 o ⟨n.val % 128, by omega⟩)) (p4 (ix3 0 o ⟨n.val % 128, by omega⟩)) (m (ix3 0 o ⟨n.val % 128, by omega⟩)) (r (ix3 0 o ⟨n.val % 128, by omega⟩)) := by
  simp only [← cat2_apply]
  rfl

theorem mAcc_apply (l r on) (i : Fin 128) (n : Fin 256) : mAcc l r on (ix2 i n) =
    ∑ k : Fin 496, l (ix3 0 i k) * (if h : k.val < 480 then r (ix2 ⟨k.val, h⟩ n) else on (ix2 ⟨k.val - 480, by omega⟩ n)) := by
  unfold mAcc
  pointwise []

/-- The stored tile of lanes from `i`. -/
def mOut (i : Fin 2 → ℕ) (hi : S64x256.Slices i S64x128) (h0 h1 : IVec S64x256 16) : IVec S128x128 8 :=
  trunci 8 (transpose S128x128 [1, 0] (concatenate S128x128 0 [⟨S64x128, extractStridedSlice S64x128 i h0 hi⟩, ⟨S64x128, extractStridedSlice S64x128 i h1 hi⟩] concatenates_S64x128_S64x128_S128x128_d0) transposes_S128x128_p1_0_S128x128)

theorem mOut_apply (i : ℕ) (hi h0 h1) (n c : Fin 128) (hn : i + n.val < 256) :
    mOut ![0, i] hi h0 h1 (ix2 n c) = ((if h : c.val < 64 then h0 (ix2 ⟨c.val, h⟩ ⟨i + n.val, hn⟩) else h1 (ix2 ⟨c.val - 64, by omega⟩ ⟨i + n.val, hn⟩))).setWidth 8 := by
  unfold mOut
  pointwise []

end Cert.KernelIdeal.Val
end
-- ==== Proof.Taps.lean ====
module

public import proofs.«01_k».proof.Proof.Words
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

abbrev XPiece := View.Piece (Elt Ideal) S2x2x864x640 .bf16

/-- A piece holds block `j` of tap `t` at slot `s` of buffer `b`, group `g`. -/
def IsTap (W : Fin 3 → Fin 5 → IVec S8x128 32) (g : ℕ) (p : XPiece) (k : ℕ × ℕ × Fin 3 × Fin 5) : Prop :=
  ∃ h, p = ⟨Rect.unit (s := S2x2x864x640) ![k.1, g, 96 * k.2.1 + 32 * k.2.2.1.val, 128 * k.2.2.2.val] S1x1x32x128.size h, outV (W k.2.2.1 k.2.2.2)⟩

theorem isTap_of (W : Fin 3 → Fin 5 → IVec S8x128 32) (g b s : ℕ) (t : Fin 3) (j : Fin 5) (o : Fin 4 → ℕ) (ho) (v : FVec Ideal S1x1x32x128 .bf16)
    (e : o = ![b, g, 96 * s + 32 * t.val, 128 * j.val]) (hv : v = outV (W t j)) :
    IsTap W g ⟨Rect.unit (s := S2x2x864x640) o S1x1x32x128.size ho, v⟩ (b, s, t, j) := by
  subst e hv; exact ⟨ho, rfl⟩

/-- The value the scratch holds at channel-and-tap row `k` of a slot of image row `a`, lane `n`. -/
def tapV (xv : ℕ → ℕ → ℕ → BitVec 8) (a g k n : ℕ) : BitVec 8 :=
  xv (if n < 320 then a else a + 32) (32 * g + k % 32) (2 * (n % 320) + k / 32)

/-- What iteration `q` wants in the scratch. -/
def wantX (xv : ℕ → ℕ → ℕ → BitVec 8) (q : ℕ) (y : S2x2x864x640.Idx) : EReal :=
  (((tapV xv (if (y 0).val = q % 2 then 8 * q + (y 2).val / 96 else 8 * q + 8) (y 1).val ((y 2).val % 96) (y 3).val).toInt : ℝ) : EReal)

/-- The ten tiles of a pair of image rows. -/
def IsTiles (xv : ℕ → ℕ → ℕ → BitVec 8) (a g : ℕ) (T : Fin 10 → IVec S8x128 32) : Prop :=
  ∀ p, HasBytes (T p) fun c l => xv (if p.val < 5 then a else a + 32) (32 * g + c.val) (128 * (p.val % 5) + l.val)

section
variable {ev od : IVec S8x128 32} {lo la : IVec S8x128 1} (L : Lanes ev od lo la)
variable {zw : IVec S8x128 32} {z : BitVec 8} (hz : HasBytes zw fun _ _ => z)
variable {xv : ℕ → ℕ → ℕ → BitVec 8} (hxv : ∀ r c, xv r c 640 = z)

include L hz hxv in
theorem tap_value {a g : ℕ} {T : Fin 10 → IVec S8x128 32} (hT : IsTiles xv a g T) (t : Fin 3) (j : Fin 5) (ch : Fin 32) (l : Fin 128) :
    outV (mW ev od lo la zw T t j) (ix4 0 0 ch l) = (((tapV xv a g (32 * t.val + ch.val) (128 * j.val + l.val)).toInt : ℝ) : EReal) := by
  rw [mW_bytes L zw z hz T _ hT]
  congr 3
  unfold tapV
  rw [show (32 * t.val + ch.val) % 32 = ch.val by omega, show (32 * t.val + ch.val) / 32 = t.val by omega]
  split
  · rename_i h
    obtain ⟨h1, h2⟩ := h
    rw [show 2 * ((128 * j.val + l.val) % 320) + t.val = 640 by rw [h1]; show _ + 2 = 640; omega, hxv]
  · rename_i h
    have h' : ¬ (t.val = 2 ∧ (128 * j.val + l.val = 319 ∨ 128 * j.val + l.val = 639)) := fun hh => h ⟨Fin.ext hh.1, hh.2⟩
    have ht := t.isLt
    simp only
    congr 1
    · by_cases hc : 128 * j.val + l.val < 320
      · rw [if_pos hc, if_pos (by omega)]
      · rw [if_neg hc, if_neg (by omega)]
    · omega

include L hz hxv in
theorem isTap_good {a g q : ℕ} {T : Fin 10 → IVec S8x128 32} (hT : IsTiles xv a g T) (p : XPiece) (k : ℕ × ℕ × Fin 3 × Fin 5)
    (hp : IsTap (mW ev od lo la zw T) g p k) (ha : (if k.1 = q % 2 then 8 * q + k.2.1 else 8 * q + 8) = a) (y : p.1.shape.Idx) :
    p.2 y = wantX xv q (p.1.emb y) := by
  obtain ⟨b, s, t, j⟩ := k
  obtain ⟨h, rfl⟩ := hp
  have hy : ∃ ch l, y = ix4 0 0 ch l := ⟨y 2, y 3, by
    funext a
    match a with
    | ⟨0, _⟩ => exact Fin.ext (by have : (y 0).val < 1 := (y 0).isLt; show (y 0).val = 0; omega)
    | ⟨1, _⟩ => exact Fin.ext (by have : (y 1).val < 1 := (y 1).isLt; show (y 1).val = 0; omega)
    | ⟨2, _⟩ => rfl
    | ⟨3, _⟩ => rfl⟩
  obtain ⟨ch, l, rfl⟩ := hy
  refine (tap_value L hz hxv hT t j ch l).trans ?_
  have e0 : ((Rect.unit (s := S2x2x864x640) ![b, g, 96 * s + 32 * t.val, 128 * j.val] S1x1x32x128.size h).emb (ix4 0 0 ch l) 0).val = b := by
    rw [Rect.emb_apply]; show b + 1 * 0 = b; omega
  have e1 : ((Rect.unit (s := S2x2x864x640) ![b, g, 96 * s + 32 * t.val, 128 * j.val] S1x1x32x128.size h).emb (ix4 0 0 ch l) 1).val = g := by
    rw [Rect.emb_apply]; show g + 1 * 0 = g; omega
  have e2 : ((Rect.unit (s := S2x2x864x640) ![b, g, 96 * s + 32 * t.val, 128 * j.val] S1x1x32x128.size h).emb (ix4 0 0 ch l) 2).val = 96 * s + 32 * t.val + ch.val := by
    rw [Rect.emb_apply]; show (96 * s + 32 * t.val) + 1 * ch.val = _; omega
  have e3 : ((Rect.unit (s := S2x2x864x640) ![b, g, 96 * s + 32 * t.val, 128 * j.val] S1x1x32x128.size h).emb (ix4 0 0 ch l) 3).val = 128 * j.val + l.val := by
    rw [Rect.emb_apply]; show (128 * j.val) + 1 * l.val = _; omega
  show _ = wantX xv q ((Rect.unit (s := S2x2x864x640) ![b, g, 96 * s + 32 * t.val, 128 * j.val] S1x1x32x128.size h).emb (ix4 0 0 ch l))
  unfold wantX
  rw [e0, e1, e2, e3]
  have ht := t.isLt
  have hc := ch.isLt
  rw [show (96 * s + 32 * t.val + ch.val) / 96 = s by omega, show (96 * s + 32 * t.val + ch.val) % 96 = 32 * t.val + ch.val by omega]
  simp only at ha
  rw [ha]

/-- A trip's pieces bring the slots `sl` of group `g` to what iteration `q` wants, and leave what is as wanted. -/
def Puts (P : List XPiece) (want : S2x2x864x640.Idx → EReal) (S : S2x2x864x640.Idx → Prop) : Prop :=
  (∀ p ∈ P, ∀ y, p.2 y = want (p.1.emb y)) ∧ ∀ y, S y → ∃ p ∈ P, y ∈ p.1.set

theorem Puts.read {P : List XPiece} {want S} (h : Puts P want S) {sig : RefSig} {κ : Kind} {sp : Space} (v : View sig κ sp S2x2x864x640 .bf16)
    (f : v.ty.Contents (Elt Ideal)) (y : S2x2x864x640.Idx) (hy : S y ∨ v.read (Elt Ideal) f y = want y) :
    v.read (Elt Ideal) (v.writes (Elt Ideal) f P) y = want y := by
  by_cases hm : ∃ p ∈ P, y ∈ p.1.set
  · exact View.read_writes_apply_of_pieces v f want P h.1 y hm
  · rcases hy with hy | hy
    · exact absurd (h.2 y hy) hm
    · rw [View.read_writes_apply_of_forall_not_mem v f y P fun p hp hh => hm ⟨p, hp, hh⟩]; exact hy

include L hz hxv in
theorem trip_puts {a g q : ℕ} {T : Fin 10 → IVec S8x128 32} (hT : IsTiles xv a g T) (P : List XPiece) (K : List (ℕ × ℕ × Fin 3 × Fin 5))
    (h : List.Forall₂ (IsTap (mW ev od lo la zw T) g) P K) (ha : ∀ k ∈ K, (if k.1 = q % 2 then 8 * q + k.2.1 else 8 * q + 8) = a)
    (S : S2x2x864x640.Idx → Prop) (hS : ∀ y, S y → (y 1).val = g ∧
      ((y 0).val, (y 2).val / 96, (⟨(y 2).val % 96 / 32, by omega⟩ : Fin 3), (⟨(y 3).val / 128, by have : (y 3).val < 640 := (y 3).isLt; omega⟩ : Fin 5)) ∈ K) :
    Puts P (wantX xv q) S := by
  constructor
  · intro p hp y
    obtain ⟨i, hi, rfl⟩ := List.getElem_of_mem hp
    have hi' : i < K.length := by rw [← h.length_eq]; exact hi
    have := (List.forall₂_iff_get.1 h).2 i hi hi'
    exact isTap_good L hz hxv hT _ _ this (ha _ (List.getElem_mem _)) y
  · intro y hy
    obtain ⟨h1, hk⟩ := hS y hy
    obtain ⟨i, hi, he⟩ := List.getElem_of_mem hk
    have hi' : i < P.length := by rw [h.length_eq]; exact hi
    have := (List.forall₂_iff_get.1 h).2 i hi' hi
    refine ⟨P[i], List.getElem_mem _, ?_⟩
    have hP : IsTap (mW ev od lo la zw T) g P[i] K[i] := this
    rw [he] at hP
    obtain ⟨hb, e⟩ := hP
    rw [e]
    rw [Rect.mem_set_unit]
    intro a
    have y3 : (y 3).val < 640 := (y 3).isLt
    match a with
    | ⟨0, _⟩ => exact ⟨le_refl _, by show (y 0).val < (y 0).val + 1; omega⟩
    | ⟨1, _⟩ => exact ⟨by show g ≤ (y 1).val; omega, by show (y 1).val < g + 1; omega⟩
    | ⟨2, _⟩ => exact ⟨by show 96 * ((y 2).val / 96) + 32 * ((y 2).val % 96 / 32) ≤ (y 2).val; omega, by show (y 2).val < 96 * ((y 2).val / 96) + 32 * ((y 2).val % 96 / 32) + 32; omega⟩
    | ⟨3, _⟩ => exact ⟨by show 128 * ((y 3).val / 128) ≤ (y 3).val; omega, by show (y 3).val < 128 * ((y 3).val / 128) + 128; omega⟩
end

/-- The trips of a loop together. -/
theorem loop_puts {N : ℕ} (tr : Fin N → List XPiece) (pb : ℕ → List XPiece) (h0 : pb 0 = []) (hs : ∀ k : Fin N, pb (k.val + 1) = tr k ++ pb k.val)
    (want : S2x2x864x640.Idx → EReal) (S : Fin N → S2x2x864x640.Idx → Prop) (h : ∀ k, Puts (tr k) want (S k)) :
    Puts (pb N) want (fun y => ∃ k, S k y) := by
  have key : ∀ n, n ≤ N → Puts (pb n) want (fun y => ∃ k : Fin N, k.val < n ∧ S k y) := by
    intro n
    induction n with
    | zero => intro _; rw [h0]; exact ⟨fun p hp => (List.not_mem_nil hp).elim, fun y ⟨k, hk, _⟩ => (Nat.not_lt_zero _ hk).elim⟩
    | succ n ih =>
      intro hn
      have hp := ih (by omega)
      rw [hs ⟨n, hn⟩]
      constructor
      · intro p hm y
        rcases List.mem_append.1 hm with hm | hm
        · exact (h ⟨n, hn⟩).1 p hm y
        · exact hp.1 p hm y
      · rintro y ⟨k, hk, hy⟩
        by_cases hkn : k.val = n
        · obtain ⟨p, hm, hh⟩ := (h k).2 y hy
          have e : k = ⟨n, hn⟩ := Fin.ext hkn
          subst e
          exact ⟨p, List.mem_append_left _ hm, hh⟩
        · obtain ⟨p, hm, hh⟩ := hp.2 y ⟨k, by omega, hy⟩
          exact ⟨p, List.mem_append_right _ hm, hh⟩
  have := key N (le_refl _)
  exact ⟨this.1, fun y ⟨k, hk⟩ => this.2 y ⟨k, k.isLt, hk⟩⟩

/-- A tile read from the input. -/
theorem tile_read {sig : RefSig} {κ : Kind} {sp : Space} (v : View sig κ sp S1x64x64x640 .i8) (X : v.ty.Contents (Elt Ideal)) (o : Fin 4 → ℕ) (ho) (r c n : ℕ)
    (e : o = ![0, r, c, n]) (hr : r < 64) (hc : c + 32 ≤ 64) (hn : n + 128 ≤ 640) (b : Fin 32 → Fin 128 → BitVec 8)
    (hb : ∀ (ch : Fin 32) (l : Fin 128), (v.read (Elt Ideal) X (ix4 0 ⟨r, hr⟩ ⟨c + ch.val, by omega⟩ ⟨n + l.val, by omega⟩) : BitVec 8) = b ch l) :
    HasBytes (tileW (v.readAt (Elt Ideal) (Rect.unit (s := S1x64x64x640) o S1x1x32x128.size ho).toLoadRect X)) b := by
  subst e
  have := tileW_bytes (v.readAt (Elt Ideal) (Rect.unit (s := S1x64x64x640) ![0, r, c, n] S1x1x32x128.size ho).toLoadRect X)
  intro s l q hq
  rw [this s l q hq, ← hb]
  congr 1
  show v.read (Elt Ideal) X ((Rect.unit (s := S1x64x64x640) ![0, r, c, n] S1x1x32x128.size ho).emb (ix4 0 0 _ l)) = _
  congr 1
  funext a
  apply Fin.ext
  rw [Rect.emb_apply]
  match a with
  | ⟨0, _⟩ => rfl
  | ⟨1, _⟩ => show r + 1 * 0 = r; omega
  | ⟨2, _⟩ => show c + 1 * (4 * s.val + q / 8) = c + (4 * s.val + q / 8); omega
  | ⟨3, _⟩ => show n + 1 * l.val = n + l.val; omega

/-- A tile read from the halo row. -/
theorem halo_read {sig : RefSig} {κ : Kind} {sp : Space} (v : View sig κ sp S1x1x64x640 .i8) (X : v.ty.Contents (Elt Ideal)) (o : Fin 4 → ℕ) (ho) (c n : ℕ)
    (e : o = ![0, 0, c, n]) (hc : c + 32 ≤ 64) (hn : n + 128 ≤ 640) (b : Fin 32 → Fin 128 → BitVec 8)
    (hb : ∀ (ch : Fin 32) (l : Fin 128), (v.read (Elt Ideal) X (ix4 0 0 ⟨c + ch.val, by omega⟩ ⟨n + l.val, by omega⟩) : BitVec 8) = b ch l) :
    HasBytes (tileW (v.readAt (Elt Ideal) (Rect.unit (s := S1x1x64x640) o S1x1x32x128.size ho).toLoadRect X)) b := by
  subst e
  have := tileW_bytes (v.readAt (Elt Ideal) (Rect.unit (s := S1x1x64x640) ![0, 0, c, n] S1x1x32x128.size ho).toLoadRect X)
  intro s l q hq
  rw [this s l q hq, ← hb]
  congr 1
  show v.read (Elt Ideal) X ((Rect.unit (s := S1x1x64x640) ![0, 0, c, n] S1x1x32x128.size ho).emb (ix4 0 0 _ l)) = _
  congr 1
  funext a
  apply Fin.ext
  rw [Rect.emb_apply]
  match a with
  | ⟨0, _⟩ => rfl
  | ⟨1, _⟩ => rfl
  | ⟨2, _⟩ => show c + 1 * (4 * s.val + q / 8) = c + (4 * s.val + q / 8); omega
  | ⟨3, _⟩ => show n + 1 * l.val = n + l.val; omega

/-- The padded input, rows counted from the block's first. -/
def xvOf (X6 : S1x64x64x640.Idx → BitVec 8) (X7 : S1x1x64x640.Idx → BitVec 8) (last : Bool) (z : BitVec 8) (r ch c : ℕ) : BitVec 8 :=
  if c = 640 then z
  else if r < 64 then X6 (ix4 0 ⟨r % 64, by omega⟩ ⟨ch % 64, by omega⟩ ⟨c % 640, by omega⟩)
  else if last then z else X7 (ix4 0 0 ⟨ch % 64, by omega⟩ ⟨c % 640, by omega⟩)

theorem xvOf_last (X6 X7 last z) (r ch : ℕ) : xvOf X6 X7 last z r ch 640 = z := by unfold xvOf; rw [if_pos rfl]

theorem xvOf_row (X6 X7 last z) (r ch c : ℕ) (hr : r < 64) (hch : ch < 64) (hc : c < 640) :
    xvOf X6 X7 last z r ch c = X6 (ix4 0 ⟨r, hr⟩ ⟨ch, hch⟩ ⟨c, hc⟩) := by
  unfold xvOf
  rw [if_neg (by omega), if_pos hr]
  congr 2 <;> simp only [Fin.mk.injEq] <;> omega

theorem xvOf_halo (X6 X7 last z) (r ch c : ℕ) (hr : 64 ≤ r) (hch : ch < 64) (hc : c < 640) :
    xvOf X6 X7 last z r ch c = if last then z else X7 (ix4 0 0 ⟨ch, hch⟩ ⟨c, hc⟩) := by
  unfold xvOf
  rw [if_neg (by omega), if_neg (by omega)]
  congr 3 <;> simp only [Fin.mk.injEq] <;> omega

/-- Ten tiles in order. -/
def tilesOf (a0 a1 a2 a3 a4 a5 a6 a7 a8 a9 : IVec S8x128 32) : Fin 10 → IVec S8x128 32
  | 0 => a0 | 1 => a1 | 2 => a2 | 3 => a3 | 4 => a4 | 5 => a5 | 6 => a6 | 7 => a7 | 8 => a8 | 9 => a9

section
variable (ev od : IVec S8x128 32) (lo la : IVec S8x128 1) (zw a0 a1 a2 a3 a4 a5 a6 a7 a8 a9 : IVec S8x128 32)
theorem mW_0_0 : mW ev od lo la zw (tilesOf a0 a1 a2 a3 a4 a5 a6 a7 a8 a9) 0 0 = mT0 ev od lo a0 a1 := rfl
theorem mW_0_1 : mW ev od lo la zw (tilesOf a0 a1 a2 a3 a4 a5 a6 a7 a8 a9) 0 1 = mT0 ev od lo a2 a3 := rfl
theorem mW_0_2 : mW ev od lo la zw (tilesOf a0 a1 a2 a3 a4 a5 a6 a7 a8 a9) 0 2 = mT0 ev od lo a4 a5 := rfl
theorem mW_0_3 : mW ev od lo la zw (tilesOf a0 a1 a2 a3 a4 a5 a6 a7 a8 a9) 0 3 = mT0 ev od lo a6 a7 := rfl
theorem mW_0_4 : mW ev od lo la zw (tilesOf a0 a1 a2 a3 a4 a5 a6 a7 a8 a9) 0 4 = mT0 ev od lo a8 a9 := rfl
theorem mW_1_0 : mW ev od lo la zw (tilesOf a0 a1 a2 a3 a4 a5 a6 a7 a8 a9) 1 0 = mT1 ev od lo a0 a1 := rfl
theorem mW_1_1 : mW ev od lo la zw (tilesOf a0 a1 a2 a3 a4 a5 a6 a7 a8 a9) 1 1 = mT1 ev od lo a2 a3 := rfl
theorem mW_1_2 : mW ev od lo la zw (tilesOf a0 a1 a2 a3 a4 a5 a6 a7 a8 a9) 1 2 = mT1 ev od lo a4 a5 := rfl
theorem mW_1_3 : mW ev od lo la zw (tilesOf a0 a1 a2 a3 a4 a5 a6 a7 a8 a9) 1 3 = mT1 ev od lo a6 a7 := rfl
theorem mW_1_4 : mW ev od lo la zw (tilesOf a0 a1 a2 a3 a4 a5 a6 a7 a8 a9) 1 4 = mT1 ev od lo a8 a9 := rfl
theorem mW_2_0 : mW ev od lo la zw (tilesOf a0 a1 a2 a3 a4 a5 a6 a7 a8 a9) 2 0 = mT2 la (mT0 ev od lo a0 a1) (mT0 ev od lo a2 a3) := rfl
theorem mW_2_1 : mW ev od lo la zw (tilesOf a0 a1 a2 a3 a4 a5 a6 a7 a8 a9) 2 1 = mT2 la (mT0 ev od lo a2 a3) (mT0 ev od lo a4 a5) := rfl
theorem mW_2_2 : mW ev od lo la zw (tilesOf a0 a1 a2 a3 a4 a5 a6 a7 a8 a9) 2 2 = mT2m zw la (mT0 ev od lo a4 a5) (mT0 ev od lo a6 a7) := rfl
theorem mW_2_3 : mW ev od lo la zw (tilesOf a0 a1 a2 a3 a4 a5 a6 a7 a8 a9) 2 3 = mT2 la (mT0 ev od lo a6 a7) (mT0 ev od lo a8 a9) := rfl
theorem mW_2_4 : mW ev od lo la zw (tilesOf a0 a1 a2 a3 a4 a5 a6 a7 a8 a9) 2 4 = mT2e zw la (mT0 ev od lo a8 a9) := rfl
theorem isTap_0_0 (g b s : ℕ) (o : Fin 4 → ℕ) (ho) (v : FVec Ideal S1x1x32x128 .bf16)
    (e : o = ![b, g, 96 * s + 0, 0]) (hv : v = outV (mT0 ev od lo a0 a1)) :
    IsTap (mW ev od lo la zw (tilesOf a0 a1 a2 a3 a4 a5 a6 a7 a8 a9)) g ⟨Rect.unit (s := S2x2x864x640) o S1x1x32x128.size ho, v⟩ (b, s, 0, 0) :=
  isTap_of _ g b s 0 0 o ho v e (hv.trans (congrArg outV (mW_0_0 ev od lo la zw a0 a1 a2 a3 a4 a5 a6 a7 a8 a9).symm))
theorem isTap_0_1 (g b s : ℕ) (o : Fin 4 → ℕ) (ho) (v : FVec Ideal S1x1x32x128 .bf16)
    (e : o = ![b, g, 96 * s + 0, 128]) (hv : v = outV (mT0 ev od lo a2 a3)) :
    IsTap (mW ev od lo la zw (tilesOf a0 a1 a2 a3 a4 a5 a6 a7 a8 a9)) g ⟨Rect.unit (s := S2x2x864x640) o S1x1x32x128.size ho, v⟩ (b, s, 0, 1) :=
  isTap_of _ g b s 0 1 o ho v e (hv.trans (congrArg outV (mW_0_1 ev od lo la zw a0 a1 a2 a3 a4 a5 a6 a7 a8 a9).symm))
theorem isTap_0_2 (g b s : ℕ) (o : Fin 4 → ℕ) (ho) (v : FVec Ideal S1x1x32x128 .bf16)
    (e : o = ![b, g, 96 * s + 0, 256]) (hv : v = outV (mT0 ev od lo a4 a5)) :
    IsTap (mW ev od lo la zw (tilesOf a0 a1 a2 a3 a4 a5 a6 a7 a8 a9)) g ⟨Rect.unit (s := S2x2x864x640) o S1x1x32x128.size ho, v⟩ (b, s, 0, 2) :=
  isTap_of _ g b s 0 2 o ho v e (hv.trans (congrArg outV (mW_0_2 ev od lo la zw a0 a1 a2 a3 a4 a5 a6 a7 a8 a9).symm))
theorem isTap_0_3 (g b s : ℕ) (o : Fin 4 → ℕ) (ho) (v : FVec Ideal S1x1x32x128 .bf16)
    (e : o = ![b, g, 96 * s + 0, 384]) (hv : v = outV (mT0 ev od lo a6 a7)) :
    IsTap (mW ev od lo la zw (tilesOf a0 a1 a2 a3 a4 a5 a6 a7 a8 a9)) g ⟨Rect.unit (s := S2x2x864x640) o S1x1x32x128.size ho, v⟩ (b, s, 0, 3) :=
  isTap_of _ g b s 0 3 o ho v e (hv.trans (congrArg outV (mW_0_3 ev od lo la zw a0 a1 a2 a3 a4 a5 a6 a7 a8 a9).symm))
theorem isTap_0_4 (g b s : ℕ) (o : Fin 4 → ℕ) (ho) (v : FVec Ideal S1x1x32x128 .bf16)
    (e : o = ![b, g, 96 * s + 0, 512]) (hv : v = outV (mT0 ev od lo a8 a9)) :
    IsTap (mW ev od lo la zw (tilesOf a0 a1 a2 a3 a4 a5 a6 a7 a8 a9)) g ⟨Rect.unit (s := S2x2x864x640) o S1x1x32x128.size ho, v⟩ (b, s, 0, 4) :=
  isTap_of _ g b s 0 4 o ho v e (hv.trans (congrArg outV (mW_0_4 ev od lo la zw a0 a1 a2 a3 a4 a5 a6 a7 a8 a9).symm))
theorem isTap_1_0 (g b s : ℕ) (o : Fin 4 → ℕ) (ho) (v : FVec Ideal S1x1x32x128 .bf16)
    (e : o = ![b, g, 96 * s + 32, 0]) (hv : v = outV (mT1 ev od lo a0 a1)) :
    IsTap (mW ev od lo la zw (tilesOf a0 a1 a2 a3 a4 a5 a6 a7 a8 a9)) g ⟨Rect.unit (s := S2x2x864x640) o S1x1x32x128.size ho, v⟩ (b, s, 1, 0) :=
  isTap_of _ g b s 1 0 o ho v e (hv.trans (congrArg outV (mW_1_0 ev od lo la zw a0 a1 a2 a3 a4 a5 a6 a7 a8 a9).symm))
theorem isTap_1_1 (g b s : ℕ) (o : Fin 4 → ℕ) (ho) (v : FVec Ideal S1x1x32x128 .bf16)
    (e : o = ![b, g, 96 * s + 32, 128]) (hv : v = outV (mT1 ev od lo a2 a3)) :
    IsTap (mW ev od lo la zw (tilesOf a0 a1 a2 a3 a4 a5 a6 a7 a8 a9)) g ⟨Rect.unit (s := S2x2x864x640) o S1x1x32x128.size ho, v⟩ (b, s, 1, 1) :=
  isTap_of _ g b s 1 1 o ho v e (hv.trans (congrArg outV (mW_1_1 ev od lo la zw a0 a1 a2 a3 a4 a5 a6 a7 a8 a9).symm))
theorem isTap_1_2 (g b s : ℕ) (o : Fin 4 → ℕ) (ho) (v : FVec Ideal S1x1x32x128 .bf16)
    (e : o = ![b, g, 96 * s + 32, 256]) (hv : v = outV (mT1 ev od lo a4 a5)) :
    IsTap (mW ev od lo la zw (tilesOf a0 a1 a2 a3 a4 a5 a6 a7 a8 a9)) g ⟨Rect.unit (s := S2x2x864x640) o S1x1x32x128.size ho, v⟩ (b, s, 1, 2) :=
  isTap_of _ g b s 1 2 o ho v e (hv.trans (congrArg outV (mW_1_2 ev od lo la zw a0 a1 a2 a3 a4 a5 a6 a7 a8 a9).symm))
theorem isTap_1_3 (g b s : ℕ) (o : Fin 4 → ℕ) (ho) (v : FVec Ideal S1x1x32x128 .bf16)
    (e : o = ![b, g, 96 * s + 32, 384]) (hv : v = outV (mT1 ev od lo a6 a7)) :
    IsTap (mW ev od lo la zw (tilesOf a0 a1 a2 a3 a4 a5 a6 a7 a8 a9)) g ⟨Rect.unit (s := S2x2x864x640) o S1x1x32x128.size ho, v⟩ (b, s, 1, 3) :=
  isTap_of _ g b s 1 3 o ho v e (hv.trans (congrArg outV (mW_1_3 ev od lo la zw a0 a1 a2 a3 a4 a5 a6 a7 a8 a9).symm))
theorem isTap_1_4 (g b s : ℕ) (o : Fin 4 → ℕ) (ho) (v : FVec Ideal S1x1x32x128 .bf16)
    (e : o = ![b, g, 96 * s + 32, 512]) (hv : v = outV (mT1 ev od lo a8 a9)) :
    IsTap (mW ev od lo la zw (tilesOf a0 a1 a2 a3 a4 a5 a6 a7 a8 a9)) g ⟨Rect.unit (s := S2x2x864x640) o S1x1x32x128.size ho, v⟩ (b, s, 1, 4) :=
  isTap_of _ g b s 1 4 o ho v e (hv.trans (congrArg outV (mW_1_4 ev od lo la zw a0 a1 a2 a3 a4 a5 a6 a7 a8 a9).symm))
theorem isTap_2_0 (g b s : ℕ) (o : Fin 4 → ℕ) (ho) (v : FVec Ideal S1x1x32x128 .bf16)
    (e : o = ![b, g, 96 * s + 64, 0]) (hv : v = outV (mT2 la (mT0 ev od lo a0 a1) (mT0 ev od lo a2 a3))) :
    IsTap (mW ev od lo la zw (tilesOf a0 a1 a2 a3 a4 a5 a6 a7 a8 a9)) g ⟨Rect.unit (s := S2x2x864x640) o S1x1x32x128.size ho, v⟩ (b, s, 2, 0) :=
  isTap_of _ g b s 2 0 o ho v e (hv.trans (congrArg outV (mW_2_0 ev od lo la zw a0 a1 a2 a3 a4 a5 a6 a7 a8 a9).symm))
theorem isTap_2_1 (g b s : ℕ) (o : Fin 4 → ℕ) (ho) (v : FVec Ideal S1x1x32x128 .bf16)
    (e : o = ![b, g, 96 * s + 64, 128]) (hv : v = outV (mT2 la (mT0 ev od lo a2 a3) (mT0 ev od lo a4 a5))) :
    IsTap (mW ev od lo la zw (tilesOf a0 a1 a2 a3 a4 a5 a6 a7 a8 a9)) g ⟨Rect.unit (s := S2x2x864x640) o S1x1x32x128.size ho, v⟩ (b, s, 2, 1) :=
  isTap_of _ g b s 2 1 o ho v e (hv.trans (congrArg outV (mW_2_1 ev od lo la zw a0 a1 a2 a3 a4 a5 a6 a7 a8 a9).symm))
theorem isTap_2_2 (g b s : ℕ) (o : Fin 4 → ℕ) (ho) (v : FVec Ideal S1x1x32x128 .bf16)
    (e : o = ![b, g, 96 * s + 64, 256]) (hv : v = outV (mT2m zw la (mT0 ev od lo a4 a5) (mT0 ev od lo a6 a7))) :
    IsTap (mW ev od lo la zw (tilesOf a0 a1 a2 a3 a4 a5 a6 a7 a8 a9)) g ⟨Rect.unit (s := S2x2x864x640) o S1x1x32x128.size ho, v⟩ (b, s, 2, 2) :=
  isTap_of _ g b s 2 2 o ho v e (hv.trans (congrArg outV (mW_2_2 ev od lo la zw a0 a1 a2 a3 a4 a5 a6 a7 a8 a9).symm))
theorem isTap_2_3 (g b s : ℕ) (o : Fin 4 → ℕ) (ho) (v : FVec Ideal S1x1x32x128 .bf16)
    (e : o = ![b, g, 96 * s + 64, 384]) (hv : v = outV (mT2 la (mT0 ev od lo a6 a7) (mT0 ev od lo a8 a9))) :
    IsTap (mW ev od lo la zw (tilesOf a0 a1 a2 a3 a4 a5 a6 a7 a8 a9)) g ⟨Rect.unit (s := S2x2x864x640) o S1x1x32x128.size ho, v⟩ (b, s, 2, 3) :=
  isTap_of _ g b s 2 3 o ho v e (hv.trans (congrArg outV (mW_2_3 ev od lo la zw a0 a1 a2 a3 a4 a5 a6 a7 a8 a9).symm))
theorem isTap_2_4 (g b s : ℕ) (o : Fin 4 → ℕ) (ho) (v : FVec Ideal S1x1x32x128 .bf16)
    (e : o = ![b, g, 96 * s + 64, 512]) (hv : v = outV (mT2e zw la (mT0 ev od lo a8 a9))) :
    IsTap (mW ev od lo la zw (tilesOf a0 a1 a2 a3 a4 a5 a6 a7 a8 a9)) g ⟨Rect.unit (s := S2x2x864x640) o S1x1x32x128.size ho, v⟩ (b, s, 2, 4) :=
  isTap_of _ g b s 2 4 o ho v e (hv.trans (congrArg outV (mW_2_4 ev od lo la zw a0 a1 a2 a3 a4 a5 a6 a7 a8 a9).symm))
end

end Cert.KernelIdeal.Val
end
-- ==== Proof.Outs.lean ====
module

public import proofs.«01_k».proof.Proof.Tiles
public import proofs.«01_k».proof.Proof.Taps

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Cert.Requant

/-- One tap's value, as the scratch holds it. -/
def tapE (xv : ℕ → ℕ → ℕ → BitVec 8) (q g kk lane : ℕ) : EReal :=
  (((tapV xv (8 * q + kk / 96) g (kk % 96) lane).toInt : ℝ) : EReal)

/-- The product's element: iteration `q`, row pair `p`, row `ho`, group `g`, channel `o`, lane. -/
def accN (lh : ℕ → ℕ → ℕ → EReal) (xv : ℕ → ℕ → ℕ → BitVec 8) (q p ho g o lane : ℕ) : EReal :=
  ∑ k : Fin 496, lh g (64 * ho + o) k.val * (if k.val < 480 then tapE xv q g (384 * p + k.val) lane else 1)

/-- What the result's block is to hold. -/
def wantO (rq : ℕ → EReal → BitVec 8) (lh : ℕ → ℕ → ℕ → EReal) (xv : ℕ → ℕ → ℕ → BitVec 8) (y : S1x32x320x128.Idx) : BitVec 8 :=
  rq (y 3).val (accN lh xv ((y 1).val % 16 / 4) ((y 1).val % 4 / 2) ((y 1).val % 2) ((y 3).val / 64) ((y 3).val % 64) ((y 2).val + 320 * ((y 1).val / 16)))

def IsHalf (rq : ℕ → EReal → BitVec 8) (lh : ℕ → ℕ → ℕ → EReal) (xv : ℕ → ℕ → ℕ → BitVec 8) (q ho g : ℕ) (pf lf : ℕ → ℕ) (H : IVec S64x256 16) : Prop :=
  ∀ (o : Fin 64) (n : Fin 256), (H (ix2 o n)).setWidth 8 = rq (64 * g + o.val) (accN lh xv q (pf n.val) ho g o.val (lf n.val))

def IsAcc (lh : ℕ → ℕ → ℕ → EReal) (xv : ℕ → ℕ → ℕ → BitVec 8) (q g : ℕ) (pf lf : ℕ → ℕ) (A : FVec Ideal S128x256 .f32) : Prop :=
  ∀ (ho : Fin 2) (o : Fin 64) (n : Fin 256), A (ix2 ⟨64 * ho.val + o.val, by omega⟩ n) = accN lh xv q (pf n.val) ho.val g o.val (lf n.val)

abbrev OPiece := View.Piece (Elt Ideal) S1x32x320x128 .i8

def OGood (rq : ℕ → EReal → BitVec 8) (lh : ℕ → ℕ → ℕ → EReal) (xv : ℕ → ℕ → ℕ → BitVec 8) (p : OPiece) : Prop := ∀ y, p.2 y = wantO rq lh xv (p.1.emb y)

section
variable {rq : ℕ → EReal → BitVec 8} {lh : ℕ → ℕ → ℕ → EReal} {xv : ℕ → ℕ → ℕ → BitVec 8} {q ho : ℕ} {pf lf : ℕ → ℕ} {h0 h1 : IVec S64x256 16}

theorem mOut_half (H0 : IsHalf rq lh xv q ho 0 pf lf h0) (H1 : IsHalf rq lh xv q ho 1 pf lf h1) (i : ℕ) (hi) (n c : Fin 128) (hn : i + n.val < 256) :
    mOut ![0, i] hi h0 h1 (ix2 n c) = rq c.val (accN lh xv q (pf (i + n.val)) ho (c.val / 64) (c.val % 64) (lf (i + n.val))) := by
  rw [mOut_apply _ _ _ _ _ _ hn]
  split_ifs with h
  · rw [H0]
    simp only [Nat.mul_zero, Nat.zero_add, Nat.div_eq_of_lt h, Nat.mod_eq_of_lt h]
  · rw [H1]
    have := c.isLt
    have e1 : c.val / 64 = 1 := by omega
    have e2 : c.val % 64 = c.val - 64 := by omega
    have e3 : 64 * 1 + (c.val - 64) = c.val := by omega
    simp only [e1, e2, e3]

/-- A stored block of 128 columns. -/
theorem out_128 (H0 : IsHalf rq lh xv q ho 0 pf lf h0) (H1 : IsHalf rq lh xv q ho 1 pf lf h1) (i row w0 : ℕ) (hi) (hii : i ≤ 128) (off : Fin 4 → ℕ) (hoff)
    (e : off = ![0, row, w0, 0]) (v : Vec Ideal S1x1x128x128 .i8) (hv : v = shapeCast S1x1x128x128 (mOut ![0, i] hi h0 h1) shapeCasts_S128x128_S1x1x128x128)
    (hq : row % 16 / 4 = q) (hh : row % 2 = ho) (hp : ∀ n, n < 128 → pf (i + n) = row % 4 / 2) (hl : ∀ n, n < 128 → lf (i + n) = w0 + n + 320 * (row / 16)) :
    OGood rq lh xv ⟨Rect.unit (s := S1x32x320x128) off S1x1x128x128.size hoff, v⟩ := by
  subst e hv
  intro (y : S1x1x128x128.Idx)
  have y0 : (y 0).val < 1 := (y 0).isLt
  have y1 : (y 1).val < 1 := (y 1).isLt
  have y2 : (y 2).val < 128 := (y 2).isLt
  have y3 : (y 3).val < 128 := (y 3).isLt
  have : (shapeCast S1x1x128x128 (mOut ![0, i] hi h0 h1) shapeCasts_S128x128_S1x1x128x128) y = mOut ![0, i] hi h0 h1 (ix2 ⟨(y 2).val, y2⟩ ⟨(y 3).val, y3⟩) := by
    pointwise []
  show (shapeCast S1x1x128x128 (mOut ![0, i] hi h0 h1) shapeCasts_S128x128_S1x1x128x128) y = _
  rw [this, mOut_half H0 H1 i hi _ _ (by simp only []; omega), hp _ y2, hl _ y2]
  unfold wantO
  have e1 : ((Rect.unit (s := S1x32x320x128) ![0, row, w0, 0] S1x1x128x128.size hoff).emb y 1).val = row := by
    rw [Rect.emb_apply]; show row + 1 * (y 1).val = row; omega
  have e2 : ((Rect.unit (s := S1x32x320x128) ![0, row, w0, 0] S1x1x128x128.size hoff).emb y 2).val = w0 + (y 2).val := by
    rw [Rect.emb_apply]; show w0 + 1 * (y 2).val = _; omega
  have e3 : ((Rect.unit (s := S1x32x320x128) ![0, row, w0, 0] S1x1x128x128.size hoff).emb y 3).val = (y 3).val := by
    rw [Rect.emb_apply]; show 0 + 1 * (y 3).val = _; omega
  simp only [e1, e2, e3, hq, hh]

/-- A stored block of 64 columns. -/
theorem out_64 (H0 : IsHalf rq lh xv q ho 0 pf lf h0) (H1 : IsHalf rq lh xv q ho 1 pf lf h1) (i j row w0 : ℕ) (hi) (hj) (hii : i ≤ 128) (hjj : j ≤ 64) (off : Fin 4 → ℕ) (hoff)
    (e : off = ![0, row, w0, 0]) (v : Vec Ideal S1x1x64x128 .i8)
    (hv : v = shapeCast S1x1x64x128 (extractStridedSlice S64x128 ![j, 0] (mOut ![0, i] hi h0 h1) hj) shapeCasts_S64x128_S1x1x64x128)
    (hq : row % 16 / 4 = q) (hh : row % 2 = ho) (hp : ∀ n, n < 64 → pf (i + (j + n)) = row % 4 / 2) (hl : ∀ n, n < 64 → lf (i + (j + n)) = w0 + n + 320 * (row / 16)) :
    OGood rq lh xv ⟨Rect.unit (s := S1x32x320x128) off S1x1x64x128.size hoff, v⟩ := by
  subst e hv
  intro (y : S1x1x64x128.Idx)
  have y0 : (y 0).val < 1 := (y 0).isLt
  have y1 : (y 1).val < 1 := (y 1).isLt
  have y2 : (y 2).val < 64 := (y 2).isLt
  have y3 : (y 3).val < 128 := (y 3).isLt
  have : (shapeCast S1x1x64x128 (extractStridedSlice S64x128 ![j, 0] (mOut ![0, i] hi h0 h1) hj) shapeCasts_S64x128_S1x1x64x128) y = mOut ![0, i] hi h0 h1 (ix2 ⟨j + (y 2).val, by omega⟩ ⟨(y 3).val, y3⟩) := by
    pointwise []
  show (shapeCast S1x1x64x128 (extractStridedSlice S64x128 ![j, 0] (mOut ![0, i] hi h0 h1) hj) shapeCasts_S64x128_S1x1x64x128) y = _
  rw [this, mOut_half H0 H1 i hi _ _ (by simp only []; omega)]
  show rq _ (accN lh xv q (pf (i + (j + (y 2).val))) _ _ _ (lf (i + (j + (y 2).val)))) = _
  rw [hp _ y2, hl _ y2]
  unfold wantO
  have e1 : ((Rect.unit (s := S1x32x320x128) ![0, row, w0, 0] S1x1x64x128.size hoff).emb y 1).val = row := by
    rw [Rect.emb_apply]; show row + 1 * (y 1).val = row; omega
  have e2 : ((Rect.unit (s := S1x32x320x128) ![0, row, w0, 0] S1x1x64x128.size hoff).emb y 2).val = w0 + (y 2).val := by
    rw [Rect.emb_apply]; show w0 + 1 * (y 2).val = _; omega
  have e3 : ((Rect.unit (s := S1x32x320x128) ![0, row, w0, 0] S1x1x64x128.size hoff).emb y 3).val = (y 3).val := by
    rw [Rect.emb_apply]; show 0 + 1 * (y 3).val = _; omega
  simp only [e1, e2, e3, hq, hh]
end

section
variable {sig' : RefSig} {κ : Kind} {sp13 sp14 sp15 sp16 : Space}
variable (v13 : View sig' κ sp13 S2x128x512 .bf16) (X13 : v13.ty.Contents (Elt Ideal)) (v14 : View sig' κ sp14 S5x128x128 .f32) (X14 : v14.ty.Contents (Elt Ideal))
  (v15 : View sig' κ sp15 S3x128x128 .i32) (X15 : v15.ty.Contents (Elt Ideal)) (v16 : View sig' κ sp16 S2x2x864x640 .bf16) (X16 : v16.ty.Contents (Elt Ideal))

def ldL (g : ℕ) (hg : g < 2) : Vec Ideal S1x128x496 .bf16 :=
  v13.readAt (Elt Ideal) (Rect.unit (s := S2x128x512) ![g, 0, 0] S1x128x496.size (by intro a; match a with | 0 => simp [S2x128x512, S1x128x496]; omega | 1 => simp [S2x128x512, S1x128x496] | 2 => simp [S2x128x512, S1x128x496])).toLoadRect X13
def ldP (j g : ℕ) (hj : j < 5) (hg : g < 2) : Vec Ideal S1x64x128 .f32 :=
  v14.readAt (Elt Ideal) (Rect.unit (s := S5x128x128) ![j, 64 * g, 0] S1x64x128.size (by intro a; match a with | 0 => simp [S5x128x128, S1x64x128]; omega | 1 => simp [S5x128x128, S1x64x128]; omega | 2 => simp [S5x128x128, S1x64x128])).toLoadRect X14
def ldR (j g : ℕ) (hj : j < 3) (hg : g < 2) : Vec Ideal S1x64x128 .i32 :=
  v15.readAt (Elt Ideal) (Rect.unit (s := S3x128x128) ![j, 64 * g, 0] S1x64x128.size (by intro a; match a with | 0 => simp [S3x128x128, S1x64x128]; omega | 1 => simp [S3x128x128, S1x64x128]; omega | 2 => simp [S3x128x128, S1x64x128])).toLoadRect X15

/-- The rows `64 ho …` of a product, requantized the quick way. -/
def hFast (g ho : ℕ) (hg : g < 2) (hs : S128x256.Slices ![64 * ho, 0] S64x256) (A : FVec Ideal S128x256 .f32) : IVec S64x256 16 :=
  mFast (extractStridedSlice S64x256 ![64 * ho, 0] A hs) (ldP v14 X14 0 g (by omega) hg) (ldP v14 X14 2 g (by omega) hg) (ldP v14 X14 3 g (by omega) hg) (ldP v14 X14 4 g (by omega) hg)
    (ldR v15 X15 1 g (by omega) hg) (ldR v15 X15 2 g (by omega) hg)

/-- The exact requantization of a half tile, elementwise. -/
def slowW (a m r ozp lo hi : BitVec 32) : BitVec 16 := (IntOp.minsi (IntOp.maxsi (IntOp.addi (slowS (slowH a m) r) ozp) lo) hi).setWidth 16

def hSlow (z lo hi : BitVec 32) (g ho : ℕ) (hg : g < 2) (hs : S128x256.Slices ![64 * ho, 0] S64x256) (A : FVec Ideal S128x256 .f32) : IVec S64x256 16 :=
  fun j => slowW ((addi (fptosi 32 (roundeven (extractStridedSlice S64x256 ![64 * ho, 0] A hs))) (cat2 (ldR v15 X15 0 g (by omega) hg)) : IVec S64x256 32) j)
    ((cat2 (ldR v15 X15 1 g (by omega) hg) : IVec S64x256 32) j) ((cat2 (ldR v15 X15 2 g (by omega) hg) : IVec S64x256 32) j) z lo hi

/-- The quick way's element. -/
def rqF (par : ℕ → ℕ → EReal) (raw : ℕ → ℕ → BitVec 32) (c : ℕ) (A : EReal) : BitVec 8 :=
  (fastW A (par 0 c) (par 2 c) (par 3 c) (par 4 c) (raw 1 c) (raw 2 c)).setWidth 8
/-- The exact way's element. -/
def rqS (raw : ℕ → ℕ → BitVec 32) (z lo hi : BitVec 32) (c : ℕ) (A : EReal) : BitVec 8 :=
  slowY (IntOp.addi (Ideal.fptosi 32 (Ideal.liftRound Ideal.roundHalfEven A)) (raw 0 c)) (raw 1 c) (raw 2 c) z lo hi

/-- The product with a tile of 256 lanes. -/
def tAcc (g : ℕ) (hg : g < 2) (off : Fin 4 → ℕ) (hoff : ∀ a, off a + S1x1x480x256.size a ≤ S2x2x864x640.size a) (on : FVec Ideal S16x256 .bf16) : FVec Ideal S128x256 .f32 :=
  mAcc (ldL v13 X13 g hg) (shapeCast S480x256 (v16.readAt (Elt Ideal) (Rect.unit (s := S2x2x864x640) off S1x1x480x256.size hoff).toLoadRect X16) shapeCasts_S1x1x480x256_S480x256) on
/-- The product with two tiles of 128 lanes. -/
def tAcc2 (g : ℕ) (hg : g < 2) (off : Fin 4 → ℕ) (hoff : ∀ a, off a + S1x1x480x128.size a ≤ S2x2x864x640.size a) (off' : Fin 4 → ℕ) (hoff' : ∀ a, off' a + S1x1x480x128.size a ≤ S2x2x864x640.size a) (on : FVec Ideal S16x256 .bf16) : FVec Ideal S128x256 .f32 :=
  mAcc (ldL v13 X13 g hg) (concatenate S480x256 1 [⟨S480x128, shapeCast S480x128 (v16.readAt (Elt Ideal) (Rect.unit (s := S2x2x864x640) off S1x1x480x128.size hoff).toLoadRect X16) shapeCasts_S1x1x480x128_S480x128⟩,
    ⟨S480x128, shapeCast S480x128 (v16.readAt (Elt Ideal) (Rect.unit (s := S2x2x864x640) off' S1x1x480x128.size hoff').toLoadRect X16) shapeCasts_S1x1x480x128_S480x128⟩] concatenates_S480x128_S480x128_S480x256_d1) on

variable {lh : ℕ → ℕ → ℕ → EReal} {par : ℕ → ℕ → EReal} {raw : ℕ → ℕ → BitVec 32} {xv : ℕ → ℕ → ℕ → BitVec 8} {q : ℕ}

variable (h13 : ∀ y, v13.read (Elt Ideal) X13 y = lh (y 0).val (y 1).val (y 2).val)
  (h14 : ∀ y, (y 0).val ≠ 1 → v14.read (Elt Ideal) X14 y = par (y 0).val (y 1).val)
  (h15 : ∀ y, v15.read (Elt Ideal) X15 y = raw (y 0).val (y 1).val)
  (h16 : ∀ y, (y 0).val = q % 2 → v16.read (Elt Ideal) X16 y = wantX xv q y)

include h13 in
theorem ldL_apply (g hg) (i : Fin 128) (k : Fin 496) : ldL v13 X13 g hg (ix3 0 i k) = lh g i.val k.val := by
  refine (h13 _).trans ?_
  simp only [Rect.emb_apply]
  simp [ix3]
include h14 in
theorem ldP_apply (j g hj hg) (hne : j ≠ 1) (o : Fin 64) (l : Fin 128) : ldP v14 X14 j g hj hg (ix3 0 o l) = par j (64 * g + o.val) := by
  refine (h14 _ ?_).trans ?_
  all_goals simp only [Rect.emb_apply]
  all_goals simp [ix3, hne]
include h15 in
theorem ldR_apply (j g hj hg) (o : Fin 64) (l : Fin 128) : ldR v15 X15 j g hj hg (ix3 0 o l) = raw j (64 * g + o.val) := by
  refine (h15 _).trans ?_
  simp only [Rect.emb_apply]
  simp [ix3]

theorem sliceA_apply (ho : ℕ) (A : FVec Ideal S128x256 .f32) (hho : ho < 2) (hs) (o : Fin 64) (n : Fin 256) :
    extractStridedSlice S64x256 ![64 * ho, 0] A hs (ix2 o n) = A (ix2 ⟨64 * ho + o.val, by omega⟩ n) := by
  pointwise []

theorem wantX_eq (g kk lane : ℕ) (y : S2x2x864x640.Idx) (h0 : (y 0).val = q % 2) (h1 : (y 1).val = g) (h2 : (y 2).val = kk) (h3 : (y 3).val = lane) :
    wantX xv q y = tapE xv q g kk lane := by
  unfold wantX tapE
  rw [if_pos h0, h1, h2, h3]

include h14 h15 in
theorem hFast_half (g ho : ℕ) (hg) (hho : ho < 2) (hs) (A) (pf lf : ℕ → ℕ) (hA : IsAcc lh xv q g pf lf A) :
    IsHalf (rqF par raw) lh xv q ho g pf lf (hFast v14 X14 v15 X15 g ho hg hs A) := by
  intro o n
  unfold hFast rqF
  rw [mFast_apply]
  simp only [ldP_apply v14 X14 h14 _ _ _ _ (by decide : (0:ℕ) ≠ 1), ldP_apply v14 X14 h14 _ _ _ _ (by decide : (2:ℕ) ≠ 1), ldP_apply v14 X14 h14 _ _ _ _ (by decide : (3:ℕ) ≠ 1), ldP_apply v14 X14 h14 _ _ _ _ (by decide : (4:ℕ) ≠ 1), ldR_apply v15 X15 h15]
  rw [← hA ⟨ho, hho⟩ o n, sliceA_apply _ _ hho]

include h15 in
theorem hSlow_half (z lo hi : BitVec 32) (g ho : ℕ) (hg) (hho : ho < 2) (hs) (A) (pf lf : ℕ → ℕ) (hA : IsAcc lh xv q g pf lf A) :
    IsHalf (rqS raw z lo hi) lh xv q ho g pf lf (hSlow v15 X15 z lo hi g ho hg hs A) := by
  intro o n
  unfold rqS slowY
  rw [← hA ⟨ho, hho⟩ o n, ← sliceA_apply ho A hho hs]
  simp only [hSlow, slowW]
  rw [cat2_apply, cat2_apply, ldR_apply v15 X15 h15, ldR_apply v15 X15 h15]
  show (BitVec.setWidth 16 (IntOp.minsi (IntOp.maxsi (IntOp.addi (slowS (slowH (IntOp.addi _ (cat2 (ldR v15 X15 0 g _ hg) (ix2 o n))) _) _) z) lo) hi)).setWidth 8 = _
  rw [cat2_apply, ldR_apply v15 X15 h15]
  rfl

include h13 h16 in
theorem tAcc_acc (g hg) (p lane : ℕ) (hp : p < 2) (hl : lane + 256 ≤ 640) (off hoff) (e : off = ![q % 2, g, 384 * p, lane]) (on : FVec Ideal S16x256 .bf16) (hon : ∀ j, on j = 1)
    (pf lf : ℕ → ℕ) (hpf : ∀ n, n < 256 → pf n = p) (hlf : ∀ n, n < 256 → lf n = lane + n) :
    IsAcc lh xv q g pf lf (tAcc v13 X13 v16 X16 g hg off hoff on) := by
  subst e
  intro ho o n
  unfold tAcc accN
  rw [mAcc_apply]
  refine Finset.sum_congr rfl fun k _ => ?_
  rw [ldL_apply v13 X13 h13, hpf _ n.isLt, hlf _ n.isLt]
  congr 1
  split_ifs with h
  · have e : ∀ (x : Vec Ideal S1x1x480x256 .bf16) (a : Fin 480), shapeCast S480x256 x shapeCasts_S1x1x480x256_S480x256 (ix2 a n) = x (ix4 0 0 a n) := by
      intro x a; pointwise []
    refine (e _ _).trans ?_
    refine (h16 _ ?_).trans (wantX_eq _ _ _ _ ?_ ?_ ?_ ?_)
    · show q % 2 + 1 * 0 = _; omega
    · show q % 2 + 1 * 0 = _; omega
    · show g + 1 * 0 = _; omega
    · show 384 * p + 1 * k.val = _; omega
    · show lane + 1 * n.val = _; omega
  · exact hon _

include h13 h16 in
theorem tAcc2_acc (g hg) (p p' lane : ℕ) (hp : p < 2) (hp' : p' < 2) (hl : lane + 128 ≤ 640) (off hoff) (off' hoff') (e : off = ![q % 2, g, 384 * p, lane]) (e' : off' = ![q % 2, g, 384 * p', lane])
    (on : FVec Ideal S16x256 .bf16) (hon : ∀ j, on j = 1)
    (pf lf : ℕ → ℕ) (hpf : ∀ n, n < 128 → pf n = p) (hlf : ∀ n, n < 128 → lf n = lane + n) (hpf' : ∀ n, n < 128 → pf (128 + n) = p') (hlf' : ∀ n, n < 128 → lf (128 + n) = lane + n) :
    IsAcc lh xv q g pf lf (tAcc2 v13 X13 v16 X16 g hg off hoff off' hoff' on) := by
  subst e e'
  intro ho o n
  unfold tAcc2 accN
  rw [mAcc_apply]
  refine Finset.sum_congr rfl fun k _ => ?_
  rw [ldL_apply v13 X13 h13]
  congr 1
  split_ifs with h
  · have e : ∀ (x x' : Vec Ideal S1x1x480x128 .bf16) (a : Fin 480), concatenate S480x256 1 [⟨S480x128, shapeCast S480x128 x shapeCasts_S1x1x480x128_S480x128⟩, ⟨S480x128, shapeCast S480x128 x' shapeCasts_S1x1x480x128_S480x128⟩] concatenates_S480x128_S480x128_S480x256_d1 (ix2 a n)
        = if h : n.val < 128 then x (ix4 0 0 a ⟨n.val, h⟩) else x' (ix4 0 0 a ⟨n.val - 128, by omega⟩) := by
      intro x x' a; pointwise []
    refine (e _ _ _).trans ?_
    split_ifs with hn
    · rw [hpf _ hn, hlf _ hn]
      refine (h16 _ ?_).trans (wantX_eq _ _ _ _ ?_ ?_ ?_ ?_)
      · show q % 2 + 1 * 0 = _; omega
      · show q % 2 + 1 * 0 = _; omega
      · show g + 1 * 0 = _; omega
      · show 384 * p + 1 * k.val = _; omega
      · show lane + 1 * n.val = _; omega
    · have e1 := hpf' (n.val - 128) (by omega)
      have e2 := hlf' (n.val - 128) (by omega)
      rw [show 128 + (n.val - 128) = n.val by omega] at e1 e2
      rw [e1, e2]
      refine (h16 _ ?_).trans (wantX_eq _ _ _ _ ?_ ?_ ?_ ?_)
      · show q % 2 + 1 * 0 = _; omega
      · show q % 2 + 1 * 0 = _; omega
      · show g + 1 * 0 = _; omega
      · show 384 * p' + 1 * k.val = _; omega
      · show lane + 1 * (n.val - 128) = _; omega
  · exact hon _

end

/-- Stored pieces that are all as wanted and fill `S`. -/
def OPuts (P : List OPiece) (want : S1x32x320x128.Idx → BitVec 8) (S : S1x32x320x128.Idx → Prop) : Prop :=
  (∀ p ∈ P, ∀ y, p.2 y = want (p.1.emb y)) ∧ ∀ y, S y → ∃ p ∈ P, y ∈ p.1.set

theorem OPuts.read {P : List OPiece} {want S} (h : OPuts P want S) {sig : RefSig} {κ : Kind} {sp : Space} (v : View sig κ sp S1x32x320x128 .i8)
    (f : v.ty.Contents (Elt Ideal)) (y : S1x32x320x128.Idx) (hy : S y ∨ v.read (Elt Ideal) f y = want y) :
    v.read (Elt Ideal) (v.writes (Elt Ideal) f P) y = want y := by
  by_cases hm : ∃ p ∈ P, y ∈ p.1.set
  · exact View.read_writes_apply_of_pieces v f want P h.1 y hm
  · rcases hy with hy | hy
    · exact absurd (h.2 y hy) hm
    · rw [View.read_writes_apply_of_forall_not_mem v f y P fun p hp hh => hm ⟨p, hp, hh⟩]; exact hy

theorem oloop_puts {N : ℕ} (tr : Fin N → List OPiece) (pb : ℕ → List OPiece) (h0 : pb 0 = []) (hs : ∀ k : Fin N, pb (k.val + 1) = tr k ++ pb k.val)
    (want : S1x32x320x128.Idx → BitVec 8) (S : Fin N → S1x32x320x128.Idx → Prop) (h : ∀ k, OPuts (tr k) want (S k)) :
    OPuts (pb N) want (fun y => ∃ k, S k y) := by
  have key : ∀ n, n ≤ N → OPuts (pb n) want (fun y => ∃ k : Fin N, k.val < n ∧ S k y) := by
    intro n
    induction n with
    | zero => intro _; rw [h0]; exact ⟨fun p hp => (List.not_mem_nil hp).elim, fun y ⟨k, hk, _⟩ => (Nat.not_lt_zero _ hk).elim⟩
    | succ n ih =>
      intro hn
      have hp := ih (by omega)
      rw [hs ⟨n, hn⟩]
      refine ⟨fun p hm => ?_, ?_⟩
      · rcases List.mem_append.1 hm with hm | hm
        · exact (h ⟨n, hn⟩).1 p hm
        · exact hp.1 p hm
      · rintro y ⟨k, hk, hy⟩
        by_cases e : k.val = n
        · have : k = ⟨n, hn⟩ := Fin.ext e
          subst this
          obtain ⟨p, hm, hp'⟩ := (h _).2 y hy
          exact ⟨p, List.mem_append_left _ hm, hp'⟩
        · obtain ⟨p, hm, hp'⟩ := hp.2 y ⟨k, by omega, hy⟩
          exact ⟨p, List.mem_append_right _ hm, hp'⟩
  obtain ⟨a, b⟩ := key N le_rfl
  exact ⟨a, fun y ⟨k, hy⟩ => b y ⟨k, k.isLt, hy⟩⟩

theorem omem (off : Fin 4 → ℕ) (row w0 : ℕ) (e : off = ![0, row, w0, 0]) (hoff) (y : S1x32x320x128.Idx) (h1 : (y 1).val = row) (h2 : w0 ≤ (y 2).val) (h3 : (y 2).val < w0 + 128) :
    y ∈ (Rect.unit (s := S1x32x320x128) off S1x1x128x128.size hoff).set := by
  subst e
  rw [Rect.mem_set_unit]
  intro a
  match a with
  | ⟨0, _⟩ => have : (y 0).val < 1 := (y 0).isLt; exact ⟨Nat.zero_le _, by show (y 0).val < 0 + 1; omega⟩
  | ⟨1, _⟩ => exact ⟨by show row ≤ (y 1).val; omega, by show (y 1).val < row + 1; omega⟩
  | ⟨2, _⟩ => exact ⟨h2, h3⟩
  | ⟨3, _⟩ => have : (y 3).val < 128 := (y 3).isLt; exact ⟨Nat.zero_le _, by show (y 3).val < 0 + 128; omega⟩

theorem omem64 (off : Fin 4 → ℕ) (row w0 : ℕ) (e : off = ![0, row, w0, 0]) (hoff) (y : S1x32x320x128.Idx) (h1 : (y 1).val = row) (h2 : w0 ≤ (y 2).val) (h3 : (y 2).val < w0 + 64) :
    y ∈ (Rect.unit (s := S1x32x320x128) off S1x1x64x128.size hoff).set := by
  subst e
  rw [Rect.mem_set_unit]
  intro a
  match a with
  | ⟨0, _⟩ => have : (y 0).val < 1 := (y 0).isLt; exact ⟨Nat.zero_le _, by show (y 0).val < 0 + 1; omega⟩
  | ⟨1, _⟩ => exact ⟨by show row ≤ (y 1).val; omega, by show (y 1).val < row + 1; omega⟩
  | ⟨2, _⟩ => exact ⟨h2, h3⟩
  | ⟨3, _⟩ => have : (y 3).val < 128 := (y 3).isLt; exact ⟨Nat.zero_le _, by show (y 3).val < 0 + 128; omega⟩

end Cert.KernelIdeal.Val
end
-- ==== Proof.Conv.lean ====
module

public import proofs.«01_k».proof.Proof.Outs

@[expose] public section

set_option maxRecDepth 16384

noncomputable section

namespace Cert.KernelIdeal.Val

open Cert.KernelIdeal Cert.KernelIdeal.Gen Cert.Requant
open Idealize.ShloMosaic Idealize.ShloMosaic.TcCoe Idealize.ShloMosaic.Tactic

/-- The kernel's parameters: the zero points, the bounds, the weights by tap and channel, the bias, the multipliers
    and the shifts by channel. -/
structure Pars where
  zp : BitVec 32
  ozp : BitVec 32
  lo : BitVec 32
  hi : BitVec 32
  w : ℕ → ℕ → BitVec 32
  b : ℕ → BitVec 32
  m : ℕ → BitVec 32
  s : ℕ → BitVec 32

/-- What the quantized parameters keep to. -/
structure Pars.Good (P : Pars) : Prop where
  w : ∀ t c, t < 9 → c < 128 → -128 ≤ (P.w t c).toInt ∧ (P.w t c).toInt ≤ 127
  m : ∀ c, c < 128 → 0 ≤ (P.m c).toInt
  s : ∀ c, c < 128 → (0#32 - P.s c).toNat < 32
  o : -(2 ^ 29) ≤ P.ozp.toInt ∧ P.ozp.toInt ≤ 2 ^ 29
  l : -(2 ^ 29) ≤ P.lo.toInt ∧ P.lo.toInt ≤ 2 ^ 29
  h : -(2 ^ 29) ≤ P.hi.toInt ∧ P.hi.toInt ≤ 2 ^ 29

/-- The sum of a channel's weights. -/
def Pars.ws (P : Pars) (c : ℕ) : ℤ := ∑ t ∈ Finset.range 9, (P.w t c).toInt

/-- The bias with the input's zero point taken in. -/
def Pars.bias (P : Pars) (c : ℕ) : BitVec 32 := P.b c - P.zp * BitVec.ofInt 32 (P.ws c)

/-- Every bias is small enough for the fast way. -/
def Pars.ok (P : Pars) : Prop := ∀ c, c < 128 → -524288 ≤ (P.bias c).toInt ∧ (P.bias c).toInt ≤ 524288

open Classical in
/-- The bias the contraction takes in. -/
def Pars.fb (P : Pars) (c : ℕ) : BitVec 32 := if P.ok then P.bias c else 0#32

/-- The low byte of a word, signed, and what is left above it. -/
def lowB (x : BitVec 32) : BitVec 32 := IntOp.subi (IntOp.andi (IntOp.addi x 128#32) 255#32) 128#32
def restB (x : BitVec 32) : BitVec 32 := IntOp.shrsi .vector (IntOp.subi x (lowB x)) 8#32

/-- The three pieces the bias is split into. -/
def piece (x : BitVec 32) : ℕ → ℤ
  | 0 => (lowB x).toInt
  | 1 => (lowB (restB x)).toInt * 256
  | 2 => (restB (restB x)).toInt * 65536
  | _ => 0

/-- The contraction's left operand. -/
def Pars.lhz (P : Pars) (g m k : ℕ) : ℤ :=
  if k < 480 then
    if k % 32 = m % 64 / 2 ∧ 2 * (m / 64) ≤ k / 96 ∧ k / 96 < 2 * (m / 64) + 3 then (P.w (3 * (k / 96 - 2 * (m / 64)) + k / 32 % 3) (64 * g + m % 64)).toInt else 0
  else piece (P.fb (64 * g + m % 64)) (k - 480)

def Pars.lh (P : Pars) (g m k : ℕ) : EReal := ((P.lhz g m k : ℝ) : EReal)

def Pars.par (P : Pars) (i c : ℕ) : EReal :=
  if i = 0 then fastC (P.m c) else if i = 2 then fastP P.lo P.ozp (0#32 - P.s c) else if i = 3 then fastP P.hi P.ozp (0#32 - P.s c) else fastZ P.ozp (0#32 - P.s c)

def Pars.raw (P : Pars) (i c : ℕ) : BitVec 32 := if i = 0 then P.bias c else if i = 1 then P.m c else 0#32 - P.s c

/-- The products of an output element. -/
def Pars.conv (P : Pars) (xv : ℕ → ℕ → ℕ → BitVec 8) (r w c : ℕ) : ℤ :=
  ∑ t ∈ Finset.range 9, (xv (2 * r + t / 3) (c / 2) (2 * w + t % 3)).toInt * (P.w t c).toInt

/-- The element the kernel is to give. -/
def Pars.out (P : Pars) (xv : ℕ → ℕ → ℕ → BitVec 8) (y : S1x32x320x128.Idx) : BitVec 8 :=
  refY (BitVec.ofInt 32 (P.conv xv (y 1).val (y 2).val (y 3).val) + P.bias (y 3).val) (P.m (y 3).val) (0#32 - P.s (y 3).val) P.ozp P.lo P.hi

theorem piece_sum (x : BitVec 32) (h : -524288 ≤ x.toInt ∧ x.toInt ≤ 524288) : piece x 0 + piece x 1 + piece x 2 = x.toInt := by
  have key : (lowB x).toInt + (lowB (restB x)).toInt * 256 + (restB (restB x)).toInt * 65536 = x.toInt := by
    have lowE : ∀ z : BitVec 32, -1000000 ≤ z.toInt → z.toInt ≤ 1000000 → (lowB z).toInt = (z.toInt + 128) % 256 - 128 := by
      intro z h1 h2
      unfold lowB
      show (((z + 128#32) &&& 255#32) - 128#32).toInt = _
      have e1 : ((z + 128#32) &&& 255#32).toNat = (z + 128#32).toNat % 256 := by
        rw [BitVec.toNat_and]; exact Nat.and_two_pow_sub_one_eq_mod _ 8
      have e2 : ((((z + 128#32) &&& 255#32) - 128#32).toInt : ℤ) = ((((z + 128#32) &&& 255#32).toNat : ℤ) - 128) := by
        rw [BitVec.toInt_sub]
        have : ((z + 128#32) &&& 255#32).toInt = (((z + 128#32) &&& 255#32).toNat : ℤ) := by
          rw [BitVec.toInt_eq_toNat_cond, if_pos (by rw [e1]; omega)]
        rw [this, show (128#32).toInt = 128 from rfl, Int.bmod_def]
        have : ((z + 128#32) &&& 255#32).toNat < 256 := by rw [e1]; omega
        omega
      rw [e2, e1, BitVec.toNat_add]
      rw [BitVec.toInt_eq_toNat_cond] at h1 h2 ⊢
      have := z.isLt
      split_ifs at h1 h2 ⊢ <;> simp only [BitVec.toNat_ofNat] <;> omega
    have restE : ∀ z : BitVec 32, -1000000 ≤ z.toInt → z.toInt ≤ 1000000 → (restB z).toInt = (z.toInt - ((z.toInt + 128) % 256 - 128)) / 256 := by
      intro z h1 h2
      unfold restB
      have e : (IntOp.shrsi .vector (IntOp.subi z (lowB z)) 8#32) = (z - lowB z).sshiftRight 8 := by
        rfl
      rw [e, BitVec.toInt_sshiftRight, BitVec.toInt_sub, lowE z h1 h2, Int.shiftRight_eq_div_pow, Int.bmod_def]
      have : (2 : ℤ) ^ 8 = 256 := by norm_num
      norm_num
      omega
    have a1 := lowE x (by omega) (by omega)
    have a2 := restE x (by omega) (by omega)
    have a3 := lowE (restB x) (by omega) (by omega)
    have a4 := restE (restB x) (by omega) (by omega)
    omega
  exact key

theorem sum_blocks (f : ℕ → ℤ) (e : ℕ) (he : e < 32) (hf : ∀ k, k % 32 ≠ e → f k = 0) (n : ℕ) :
    ∑ k ∈ Finset.range (32 * n), f k = ∑ j ∈ Finset.range n, f (32 * j + e) := by
  induction n with
  | zero => rfl
  | succ n ih =>
    rw [show 32 * (n + 1) = 32 * n + 32 by ring, Finset.sum_range_add, ih, Finset.sum_range_succ _ n]
    congr 1
    refine Finset.sum_eq_single e (fun b hb hne => hf _ ?_) (fun h => absurd (Finset.mem_range.2 he) h)
    have := Finset.mem_range.1 hb
    omega

variable (P : Pars) (xv : ℕ → ℕ → ℕ → BitVec 8)

theorem accN_int (q p ho g o lane : ℕ) :
    accN P.lh xv q p ho g o lane = (((∑ k ∈ Finset.range 496, P.lhz g (64 * ho + o) k * (if k < 480 then (tapV xv (8 * q + (384 * p + k) / 96) g ((384 * p + k) % 96) lane).toInt else 1) : ℤ) : ℝ) : EReal) := by
  unfold accN
  rw [Finset.sum_range]
  have : ∀ k : Fin 496, P.lh g (64 * ho + o) k.val * (if k.val < 480 then tapE xv q g (384 * p + k.val) lane else 1)
      = (((P.lhz g (64 * ho + o) k.val * (if k.val < 480 then (tapV xv (8 * q + (384 * p + k.val) / 96) g ((384 * p + k.val) % 96) lane).toInt else 1) : ℤ) : ℝ) : EReal) := by
    intro k
    unfold Pars.lh tapE
    split_ifs
    · push_cast; rfl
    · push_cast; simp
  simp only [this]
  induction (Finset.univ : Finset (Fin 496)) using Finset.induction_on with
  | empty => simp
  | insert a s ha ih => rw [Finset.sum_insert ha, Finset.sum_insert ha, ih, Int.cast_add, EReal.coe_add]

theorem conv_sum (q p ho g o lane : ℕ) (hp : p < 2) (hh : ho < 2) (hg : g < 2) (ho' : o < 64) (hl : lane < 640) :
    ∑ k ∈ Finset.range 496, P.lhz g (64 * ho + o) k * (if k < 480 then (tapV xv (8 * q + (384 * p + k) / 96) g ((384 * p + k) % 96) lane).toInt else 1)
      = P.conv xv (4 * q + 2 * p + ho + 16 * (lane / 320)) (lane % 320) (64 * g + o) + (piece (P.fb (64 * g + o)) 0 + piece (P.fb (64 * g + o)) 1 + piece (P.fb (64 * g + o)) 2) := by
  have m1 : (64 * ho + o) / 64 = ho := by omega
  have m2 : (64 * ho + o) % 64 = o := by omega
  rw [show 496 = 480 + 16 by rfl, Finset.sum_range_add]
  congr 1
  · have : ∀ k ∈ Finset.range 480, P.lhz g (64 * ho + o) k * (if k < 480 then (tapV xv (8 * q + (384 * p + k) / 96) g ((384 * p + k) % 96) lane).toInt else 1)
        = (fun k => if k % 32 = o / 2 then (if 2 * ho ≤ k / 96 ∧ k / 96 < 2 * ho + 3 then (P.w (3 * (k / 96 - 2 * ho) + k / 32 % 3) (64 * g + o)).toInt * (tapV xv (8 * q + (384 * p + k) / 96) g ((384 * p + k) % 96) lane).toInt else 0) else 0) k := by
      intro k hk
      have hk := Finset.mem_range.1 hk
      unfold Pars.lhz
      simp only [m1, m2, if_pos hk]
      by_cases a : k % 32 = o / 2
      · by_cases b : 2 * ho ≤ k / 96 ∧ k / 96 < 2 * ho + 3
        · rw [if_pos ⟨a, b.1, b.2⟩, if_pos a, if_pos b]
        · rw [if_neg (fun h => b ⟨h.2.1, h.2.2⟩), if_pos a, if_neg b, zero_mul]
      · rw [if_neg (fun h => a h.1), if_neg a, zero_mul]
    rw [Finset.sum_congr rfl this, show 480 = 32 * 15 by rfl, sum_blocks _ (o / 2) (by omega) (fun k hk => if_neg hk)]
    have e : ∀ j ∈ Finset.range 15, (fun k => if k % 32 = o / 2 then (if 2 * ho ≤ k / 96 ∧ k / 96 < 2 * ho + 3 then (P.w (3 * (k / 96 - 2 * ho) + k / 32 % 3) (64 * g + o)).toInt * (tapV xv (8 * q + (384 * p + k) / 96) g ((384 * p + k) % 96) lane).toInt else 0) else 0) (32 * j + o / 2)
        = if 6 * ho ≤ j ∧ j < 6 * ho + 9 then (fun t => (xv (2 * (4 * q + 2 * p + ho + 16 * (lane / 320)) + t / 3) ((64 * g + o) / 2) (2 * (lane % 320) + t % 3)).toInt * (P.w t (64 * g + o)).toInt) (j - 6 * ho) else 0 := by
      intro j hj
      have hj := Finset.mem_range.1 hj
      show (if _ then _ else _) = _
      rw [if_pos (by omega)]
      have d1 : (32 * j + o / 2) / 96 = j / 3 := by omega
      have d2 : (32 * j + o / 2) / 32 % 3 = j % 3 := by omega
      have d3 : (384 * p + (32 * j + o / 2)) / 96 = 4 * p + j / 3 := by omega
      have d4 : (384 * p + (32 * j + o / 2)) % 96 = 32 * (j % 3) + o / 2 := by omega
      rw [d1, d2, d3, d4]
      by_cases b : 6 * ho ≤ j ∧ j < 6 * ho + 9
      · rw [if_pos b, if_pos (by omega)]
        have w1 : 3 * (j / 3 - 2 * ho) + j % 3 = j - 6 * ho := by omega
        show _ = (xv _ _ _).toInt * _
        rw [w1, mul_comm]
        unfold tapV
        have q1 : (if lane < 320 then 8 * q + (4 * p + j / 3) else 8 * q + (4 * p + j / 3) + 32) = 2 * (4 * q + 2 * p + ho + 16 * (lane / 320)) + (j - 6 * ho) / 3 := by split_ifs <;> omega
        have q2 : 32 * g + (32 * (j % 3) + o / 2) % 32 = (64 * g + o) / 2 := by omega
        have q3 : 2 * (lane % 320) + (32 * (j % 3) + o / 2) / 32 = 2 * (lane % 320) + (j - 6 * ho) % 3 := by omega
        rw [q1, q2, q3]
      · rw [if_neg b, if_neg (by omega)]
    rw [Finset.sum_congr rfl e]
    have hh' : ho = 0 ∨ ho = 1 := by omega
    unfold Pars.conv
    rcases hh' with rfl | rfl
    · simp [Finset.sum_range_succ]
    · simp [Finset.sum_range_succ]
  · have : ∀ k ∈ Finset.range 16, P.lhz g (64 * ho + o) (480 + k) * (if 480 + k < 480 then (tapV xv (8 * q + (384 * p + (480 + k)) / 96) g ((384 * p + (480 + k)) % 96) lane).toInt else 1) = piece (P.fb (64 * g + o)) k := by
      intro k hk
      unfold Pars.lhz
      rw [if_neg (by omega), if_neg (by omega), mul_one, m2, Nat.add_sub_cancel_left]
    rw [Finset.sum_congr rfl this]
    simp [Finset.sum_range_succ, piece]

theorem conv_bound (hP : P.Good) (r w c : ℕ) (hc : c < 128) : -147456 ≤ P.conv xv r w c ∧ P.conv xv r w c ≤ 147456 := by
  have h : ∀ t ∈ Finset.range 9, |(xv (2 * r + t / 3) (c / 2) (2 * w + t % 3)).toInt * (P.w t c).toInt| ≤ 16384 := by
    intro t ht
    have h1 := hP.w t c (Finset.mem_range.1 ht) hc
    have h2 := BitVec.toInt_lt (x := xv (2 * r + t / 3) (c / 2) (2 * w + t % 3))
    have h3 := BitVec.le_toInt (x := xv (2 * r + t / 3) (c / 2) (2 * w + t % 3))
    norm_num at h2 h3
    rw [abs_mul]
    have a1 : |(xv (2 * r + t / 3) (c / 2) (2 * w + t % 3)).toInt| ≤ 128 := abs_le.2 ⟨by omega, by omega⟩
    have a2 : |(P.w t c).toInt| ≤ 128 := abs_le.2 ⟨by omega, by omega⟩
    calc _ ≤ (128 : ℤ) * 128 := mul_le_mul a1 a2 (abs_nonneg _) (by norm_num)
      _ = 16384 := by norm_num
  have := (Finset.abs_sum_le_sum_abs (fun t => (xv (2 * r + t / 3) (c / 2) (2 * w + t % 3)).toInt * (P.w t c).toInt) (Finset.range 9)).trans (Finset.sum_le_sum h)
  simp only [Finset.sum_const, Finset.card_range] at this
  unfold Pars.conv
  have := abs_le.1 this
  constructor <;> [have := this.1; have := this.2] <;> norm_num at this ⊢ <;> linarith

theorem acc_eq (y : S1x32x320x128.Idx) :
    accN P.lh xv ((y 1).val % 16 / 4) ((y 1).val % 4 / 2) ((y 1).val % 2) ((y 3).val / 64) ((y 3).val % 64) ((y 2).val + 320 * ((y 1).val / 16))
      = (((P.conv xv (y 1).val (y 2).val (y 3).val + (piece (P.fb (y 3).val) 0 + piece (P.fb (y 3).val) 1 + piece (P.fb (y 3).val) 2) : ℤ) : ℝ) : EReal) := by
  have y1 : (y 1).val < 32 := (y 1).isLt
  have y2 : (y 2).val < 320 := (y 2).isLt
  have y3 : (y 3).val < 128 := (y 3).isLt
  rw [accN_int, conv_sum P xv _ _ _ _ _ _ (by omega) (by omega) (by omega) (by omega) (by omega)]
  have e1 : 4 * ((y 1).val % 16 / 4) + 2 * ((y 1).val % 4 / 2) + (y 1).val % 2 + 16 * (((y 2).val + 320 * ((y 1).val / 16)) / 320) = (y 1).val := by omega
  have e2 : ((y 2).val + 320 * ((y 1).val / 16)) % 320 = (y 2).val := by omega
  have e3 : 64 * ((y 3).val / 64) + (y 3).val % 64 = (y 3).val := by omega
  rw [e1, e2, e3]

/-- The fast way gives the element. -/
theorem wantO_fast (hP : P.Good) (hok : P.ok) (y : S1x32x320x128.Idx) : wantO (rqF P.par P.raw) P.lh xv y = P.out xv y := by
  have y3 : (y 3).val < 128 := (y 3).isLt
  unfold wantO
  rw [acc_eq]
  have hb := hok _ y3
  have e : P.fb (y 3).val = P.bias (y 3).val := if_pos hok
  have hc := conv_bound P xv hP (y 1).val (y 2).val (y 3).val y3
  rw [e, piece_sum _ hb]
  have ea : (BitVec.ofInt 32 (P.conv xv (y 1).val (y 2).val (y 3).val) + P.bias (y 3).val).toInt = P.conv xv (y 1).val (y 2).val (y 3).val + (P.bias (y 3).val).toInt := by
    rw [BitVec.toInt_add, BitVec.toInt_ofInt, Int.bmod_def, Int.bmod_def]; omega
  exact fast_eq _ _ _ _ _ _ _ (by rw [ea]) (by rw [ea]; omega) (hP.m _ y3) (hP.s _ y3) hP.o hP.l hP.h

/-- The slow way gives the element. -/
theorem wantO_slow (hP : P.Good) (hok : ¬ P.ok) (y : S1x32x320x128.Idx) : wantO (rqS P.raw P.ozp P.lo P.hi) P.lh xv y = P.out xv y := by
  have y3 : (y 3).val < 128 := (y 3).isLt
  unfold wantO
  rw [acc_eq]
  have e : P.fb (y 3).val = 0#32 := if_neg hok
  have hc := conv_bound P xv hP (y 1).val (y 2).val (y 3).val y3
  rw [e, piece_sum _ (by decide)]
  unfold rqS
  rw [show P.raw 2 (y 3).val = 0#32 - P.s (y 3).val from rfl, slowY_eq _ _ _ _ _ _ (hP.s _ y3), Ideal.liftRound_coe, show (0#32).toInt = 0 from rfl, add_zero, round_int, fptosi_int _ (by omega)]
  rfl

end Cert.KernelIdeal.Val
end
-- ==== Proof.Prep.lean ====
module

public import proofs.«01_k».proof.Proof.Conv
public import proofs.«01_k».proof.Proof.Gen.KernelIdeal.Skeleton
public import Idealize.ShloMosaic.Lib.Pointwise
public import Idealize.ShloMosaic.Lib.IdealHost

@[expose] public section

set_option maxRecDepth 16384
set_option maxHeartbeats 4000000

noncomputable section

namespace Cert.KernelIdeal.Val

open Cert.KernelIdeal Cert.KernelIdeal.Gen Cert.Requant
open Idealize.ShloMosaic Idealize.ShloMosaic.TcCoe Idealize.ShloMosaic.Tactic

theorem ofBits_256 : Ideal.ofBits .f32 0x43800000#32 = ((256 : ℝ) : EReal) := by
  rw [ieee_norm _ 135 0 (by decide) (by decide) (by decide) (by decide) (by decide)]
  norm_num [zpow_neg]

theorem ofBits_65536 : Ideal.ofBits .f32 0x47800000#32 = ((65536 : ℝ) : EReal) := by
  rw [ieee_norm _ 143 0 (by decide) (by decide) (by decide) (by decide) (by decide)]
  norm_num [zpow_neg]

def rowI : IVec S64x128 32 := iota .tc S64x128 32 [0] iota_S64x128_d0_w32
def laneI : IVec S64x128 32 := iota .tc S64x128 32 [1] iota_S64x128_d1_w32

theorem rowI_apply (o : Fin 64) (l : Fin 128) : rowI (ix2 o l) = BitVec.ofNat 32 o.val := by unfold rowI; pointwise []
theorem laneI_apply (o : Fin 64) (l : Fin 128) : laneI (ix2 o l) = BitVec.ofNat 32 l.val := by unfold laneI; pointwise []

/-- A weight column set on its channels' lanes. -/
def selW (q : BitVec 32) (off : Fin 2 → ℕ) (hs : S128x128.Slices off S64x128) (W : FVec Ideal S128x128 .f32) (acc : FVec Ideal S64x128 .f32) : FVec Ideal S64x128 .f32 :=
  select (cmpi .eq laneI (addi (shrsi rowI (broadcast S64x128 1#32)) (broadcast S64x128 q))) (extractStridedSlice S64x128 off W hs) acc

/-- A piece of the bias set on its lane. -/
def selP (q : BitVec 32) (off : Fin 2 → ℕ) (hs : S128x128.Slices off S64x128) (W : FVec Ideal S128x128 .f32) (acc : FVec Ideal S64x128 .f32) : FVec Ideal S64x128 .f32 :=
  select (cmpi .eq laneI (broadcast S64x128 q)) (extractStridedSlice S64x128 off W hs) acc

def zer : FVec Ideal S64x128 .f32 := broadcast S64x128 (Ideal.ofBits .f32 0x00000000#32)

def IsA (acc : FVec Ideal S64x128 .f32) (f : ℕ → ℕ → ℤ) : Prop := ∀ (o : Fin 64) (l : Fin 128), acc (ix2 o l) = ((f o.val l.val : ℝ) : EReal)

def IsCol (W : FVec Ideal S128x128 .f32) (w : ℕ → ℤ) : Prop := ∀ (m l : Fin 128), W (ix2 m l) = ((w m.val : ℝ) : EReal)

theorem zer_is : IsA zer (fun _ _ => 0) := fun o l => by
  show Ideal.ofBits .f32 0x00000000#32 = _
  rw [Ideal.ofBits_zero_f32]; simp

theorem slice_apply (g : ℕ) (hg : g < 2) (hs : S128x128.Slices ![64 * g, 0] S64x128) (W : FVec Ideal S128x128 .f32) (w : ℕ → ℤ) (hW : IsCol W w) (o : Fin 64) (l : Fin 128) :
    extractStridedSlice S64x128 ![64 * g, 0] W hs (ix2 o l) = ((w (64 * g + o.val) : ℝ) : EReal) := by
  rw [← hW ⟨64 * g + o.val, by omega⟩ l]
  show W _ = _
  congr 1
  funext a
  match a with
  | ⟨0, _⟩ => exact Fin.ext (by show _ = 64 * g + o.val; simp; try omega)
  | ⟨1, _⟩ => exact Fin.ext (by show _ = l.val; simp; try omega)

theorem selW_is (q : ℕ) (hq : q < 4) (g : ℕ) (hg : g < 2) (hs) {W acc w f} (hW : IsCol W w) (h : IsA acc f) :
    IsA (selW (BitVec.ofNat 32 (32 * q)) ![64 * g, 0] hs W acc) (fun o l => if l = o / 2 + 32 * q then w (64 * g + o) else f o l) := fun o l => by
  show Scalar.select (IntOp.cmpi .eq (laneI (ix2 o l)) (IntOp.addi (IntOp.shrsi .vector (rowI (ix2 o l)) 1#32) (BitVec.ofNat 32 (32 * q)))) (extractStridedSlice S64x128 ![64 * g, 0] W hs (ix2 o l)) (acc (ix2 o l)) = _
  rw [rowI_apply, laneI_apply, slice_apply g hg hs W w hW, h o l]
  have : IntOp.cmpi .eq (BitVec.ofNat 32 l.val) (IntOp.addi (IntOp.shrsi .vector (BitVec.ofNat 32 o.val) 1#32) (BitVec.ofNat 32 (32 * q))) = if l.val = o.val / 2 + 32 * q then 1#1 else 0#1 := by
    have e : IntOp.addi (IntOp.shrsi .vector (BitVec.ofNat 32 o.val) 1#32) (BitVec.ofNat 32 (32 * q)) = BitVec.ofNat 32 (o.val / 2 + 32 * q) := by
      have : IntOp.shrsi .vector (BitVec.ofNat 32 o.val) 1#32 = BitVec.ofNat 32 (o.val / 2) := by revert o; decide +kernel
      rw [this]
      show BitVec.ofNat 32 _ + BitVec.ofNat 32 _ = _
      rw [← BitVec.ofNat_add]
    rw [e]
    show BitVec.ofBool (BitVec.ofNat 32 l.val == BitVec.ofNat 32 (o.val / 2 + 32 * q)) = _
    by_cases hc : l.val = o.val / 2 + 32 * q
    · rw [if_pos hc, hc]; simp
    · rw [if_neg hc]
      have : BitVec.ofNat 32 l.val ≠ BitVec.ofNat 32 (o.val / 2 + 32 * q) := by
        intro he
        have := congrArg BitVec.toNat he
        simp only [BitVec.toNat_ofNat] at this
        omega
      rw [beq_eq_false_iff_ne.2 this]; rfl
  rw [this, sel_if]
  dsimp only
  split_ifs <;> rfl

theorem selP_is (q : ℕ) (hq : q < 128) (g : ℕ) (hg : g < 2) (hs) {W acc w f} (hW : IsCol W w) (h : IsA acc f) :
    IsA (selP (BitVec.ofNat 32 q) ![64 * g, 0] hs W acc) (fun o l => if l = q then w (64 * g + o) else f o l) := fun o l => by
  show Scalar.select (IntOp.cmpi .eq (laneI (ix2 o l)) (BitVec.ofNat 32 q)) (extractStridedSlice S64x128 ![64 * g, 0] W hs (ix2 o l)) (acc (ix2 o l)) = _
  rw [laneI_apply, slice_apply g hg hs W w hW, h o l]
  have : IntOp.cmpi .eq (BitVec.ofNat 32 l.val) (BitVec.ofNat 32 q) = if l.val = q then 1#1 else 0#1 := by
    show BitVec.ofBool (BitVec.ofNat 32 l.val == BitVec.ofNat 32 q) = _
    by_cases hc : l.val = q
    · rw [if_pos hc, hc]; simp
    · rw [if_neg hc]
      have : BitVec.ofNat 32 l.val ≠ BitVec.ofNat 32 q := by
        intro he
        have := congrArg BitVec.toNat he
        simp only [BitVec.toNat_ofNat] at this
        omega
      rw [beq_eq_false_iff_ne.2 this]; rfl
  rw [this, sel_if]
  dsimp only
  split_ifs <;> rfl

/-- What is stored of a block of the left operand. -/
def stA (acc : FVec Ideal S64x128 .f32) : FVec Ideal S1x64x128 .bf16 := shapeCast S1x64x128 (truncf .bf16 acc bitsLt_bf16_f32 : FVec Ideal S64x128 .bf16) shapeCasts_S64x128_S1x64x128

abbrev LPiece := View.Piece (Elt Ideal) S2x128x512 .bf16

def LGood (P : Pars) (p : LPiece) : Prop := ∀ y, p.2 y = P.lh (p.1.emb y 0).val (p.1.emb y 1).val (p.1.emb y 2).val

theorem st_good (P : Pars) {acc f} (h : IsA acc f) (g ho kb : ℕ) (off : Fin 3 → ℕ) (e : off = ![g, 64 * ho, 128 * kb]) (hoff) (v) (hv : v = stA acc)
    (hf : ∀ o l, o < 64 → l < 128 → f o l = P.lhz g (64 * ho + o) (128 * kb + l)) :
    LGood P ⟨Rect.unit (s := S2x128x512) off S1x64x128.size hoff, v⟩ := by
  subst e hv
  intro (y : S1x64x128.Idx)
  have y0 : (y 0).val < 1 := (y 0).isLt
  have y1 : (y 1).val < 64 := (y 1).isLt
  have y2 : (y 2).val < 128 := (y 2).isLt
  show stA acc y = P.lh (g + 1 * (y 0).val) (64 * ho + 1 * (y 1).val) (128 * kb + 1 * (y 2).val)
  have ey : stA acc y = acc (ix2 ⟨(y 1).val, y1⟩ ⟨(y 2).val, y2⟩) := by
    have : y = ix3 ⟨0, by omega⟩ ⟨(y 1).val, y1⟩ ⟨(y 2).val, y2⟩ := by
      funext a
      match a with
      | ⟨0, _⟩ => exact Fin.ext (by show (y 0).val = 0; omega)
      | ⟨1, _⟩ => rfl
      | ⟨2, _⟩ => rfl
    conv_lhs => rw [this]
    unfold stA; pointwise []
  rw [ey, h]
  unfold Pars.lh
  rw [hf _ _ y1 y2, show g + 1 * (y 0).val = g by omega, one_mul, one_mul]

theorem lhz_00 (P : Pars) (g o l : ℕ) (ho : o < 64) (hl : l < 128) : (if l = o / 2 + 32 * 3 then (P.w 3 (64 * g + o)).toInt else (if l = o / 2 + 32 * 2 then (P.w 2 (64 * g + o)).toInt else (if l = o / 2 + 32 * 1 then (P.w 1 (64 * g + o)).toInt else (if l = o / 2 + 32 * 0 then (P.w 0 (64 * g + o)).toInt else (0))))) = P.lhz g (64 * 0 + o) (128 * 0 + l) := by
  unfold Pars.lhz
  have m1 : (64 * 0 + o) % 64 = o := by omega
  have m2 : (64 * 0 + o) / 64 = 0 := by omega
  rw [m1, m2]
  have q : l / 32 = 0 ∨ l / 32 = 1 ∨ l / 32 = 2 ∨ l / 32 = 3 := by omega
  rcases q with q | q | q | q
  · rw [if_pos (show 128 * 0 + l < 480 by omega), show (128 * 0 + l) / 96 = 0 by omega, show (128 * 0 + l) / 32 = 0 by omega]
    have d1 : (128 * 0 + l) % 32 = l % 32 := by omega
    rw [d1]
    split_ifs <;> first | rfl | (exfalso; omega)
  · rw [if_pos (show 128 * 0 + l < 480 by omega), show (128 * 0 + l) / 96 = 0 by omega, show (128 * 0 + l) / 32 = 1 by omega]
    have d1 : (128 * 0 + l) % 32 = l % 32 := by omega
    rw [d1]
    split_ifs <;> first | rfl | (exfalso; omega)
  · rw [if_pos (show 128 * 0 + l < 480 by omega), show (128 * 0 + l) / 96 = 0 by omega, show (128 * 0 + l) / 32 = 2 by omega]
    have d1 : (128 * 0 + l) % 32 = l % 32 := by omega
    rw [d1]
    split_ifs <;> first | rfl | (exfalso; omega)
  · rw [if_pos (show 128 * 0 + l < 480 by omega), show (128 * 0 + l) / 96 = 1 by omega, show (128 * 0 + l) / 32 = 3 by omega]
    have d1 : (128 * 0 + l) % 32 = l % 32 := by omega
    rw [d1]
    split_ifs <;> first | rfl | (exfalso; omega)

theorem lhz_01 (P : Pars) (g o l : ℕ) (ho : o < 64) (hl : l < 128) : (if l = o / 2 + 32 * 3 then (P.w 7 (64 * g + o)).toInt else (if l = o / 2 + 32 * 2 then (P.w 6 (64 * g + o)).toInt else (if l = o / 2 + 32 * 1 then (P.w 5 (64 * g + o)).toInt else (if l = o / 2 + 32 * 0 then (P.w 4 (64 * g + o)).toInt else (0))))) = P.lhz g (64 * 0 + o) (128 * 1 + l) := by
  unfold Pars.lhz
  have m1 : (64 * 0 + o) % 64 = o := by omega
  have m2 : (64 * 0 + o) / 64 = 0 := by omega
  rw [m1, m2]
  have q : l / 32 = 0 ∨ l / 32 = 1 ∨ l / 32 = 2 ∨ l / 32 = 3 := by omega
  rcases q with q | q | q | q
  · rw [if_pos (show 128 * 1 + l < 480 by omega), show (128 * 1 + l) / 96 = 1 by omega, show (128 * 1 + l) / 32 = 4 by omega]
    have d1 : (128 * 1 + l) % 32 = l % 32 := by omega
    rw [d1]
    split_ifs <;> first | rfl | (exfalso; omega)
  · rw [if_pos (show 128 * 1 + l < 480 by omega), show (128 * 1 + l) / 96 = 1 by omega, show (128 * 1 + l) / 32 = 5 by omega]
    have d1 : (128 * 1 + l) % 32 = l % 32 := by omega
    rw [d1]
    split_ifs <;> first | rfl | (exfalso; omega)
  · rw [if_pos (show 128 * 1 + l < 480 by omega), show (128 * 1 + l) / 96 = 2 by omega, show (128 * 1 + l) / 32 = 6 by omega]
    have d1 : (128 * 1 + l) % 32 = l % 32 := by omega
    rw [d1]
    split_ifs <;> first | rfl | (exfalso; omega)
  · rw [if_pos (show 128 * 1 + l < 480 by omega), show (128 * 1 + l) / 96 = 2 by omega, show (128 * 1 + l) / 32 = 7 by omega]
    have d1 : (128 * 1 + l) % 32 = l % 32 := by omega
    rw [d1]
    split_ifs <;> first | rfl | (exfalso; omega)

theorem lhz_02 (P : Pars) (g o l : ℕ) (ho : o < 64) (hl : l < 128) : (if l = o / 2 + 32 * 0 then (P.w 8 (64 * g + o)).toInt else (0)) = P.lhz g (64 * 0 + o) (128 * 2 + l) := by
  unfold Pars.lhz
  have m1 : (64 * 0 + o) % 64 = o := by omega
  have m2 : (64 * 0 + o) / 64 = 0 := by omega
  rw [m1, m2]
  have q : l / 32 = 0 ∨ l / 32 = 1 ∨ l / 32 = 2 ∨ l / 32 = 3 := by omega
  rcases q with q | q | q | q
  · rw [if_pos (show 128 * 2 + l < 480 by omega), show (128 * 2 + l) / 96 = 2 by omega, show (128 * 2 + l) / 32 = 8 by omega]
    have d1 : (128 * 2 + l) % 32 = l % 32 := by omega
    rw [d1]
    split_ifs <;> first | rfl | (exfalso; omega)
  · rw [if_pos (show 128 * 2 + l < 480 by omega), show (128 * 2 + l) / 96 = 3 by omega, show (128 * 2 + l) / 32 = 9 by omega]
    have d1 : (128 * 2 + l) % 32 = l % 32 := by omega
    rw [d1]
    split_ifs <;> first | rfl | (exfalso; omega)
  · rw [if_pos (show 128 * 2 + l < 480 by omega), show (128 * 2 + l) / 96 = 3 by omega, show (128 * 2 + l) / 32 = 10 by omega]
    have d1 : (128 * 2 + l) % 32 = l % 32 := by omega
    rw [d1]
    split_ifs <;> first | rfl | (exfalso; omega)
  · rw [if_pos (show 128 * 2 + l < 480 by omega), show (128 * 2 + l) / 96 = 3 by omega, show (128 * 2 + l) / 32 = 11 by omega]
    have d1 : (128 * 2 + l) % 32 = l % 32 := by omega
    rw [d1]
    split_ifs <;> first | rfl | (exfalso; omega)

theorem lhz_03 (P : Pars) (g o l : ℕ) (ho : o < 64) (hl : l < 128) : (if l = 98 then piece (P.fb (64 * g + o)) 2 else (if l = 97 then piece (P.fb (64 * g + o)) 1 else (if l = 96 then piece (P.fb (64 * g + o)) 0 else (0)))) = P.lhz g (64 * 0 + o) (128 * 3 + l) := by
  unfold Pars.lhz
  have m1 : (64 * 0 + o) % 64 = o := by omega
  have m2 : (64 * 0 + o) / 64 = 0 := by omega
  rw [m1, m2]
  have q : l / 32 = 0 ∨ l / 32 = 1 ∨ l / 32 = 2 ∨ l / 32 = 3 := by omega
  rcases q with q | q | q | q
  · rw [if_pos (show 128 * 3 + l < 480 by omega), show (128 * 3 + l) / 96 = 4 by omega, show (128 * 3 + l) / 32 = 12 by omega]
    have d1 : (128 * 3 + l) % 32 = l % 32 := by omega
    rw [d1]
    split_ifs <;> first | rfl | (exfalso; omega)
  · rw [if_pos (show 128 * 3 + l < 480 by omega), show (128 * 3 + l) / 96 = 4 by omega, show (128 * 3 + l) / 32 = 13 by omega]
    have d1 : (128 * 3 + l) % 32 = l % 32 := by omega
    rw [d1]
    split_ifs <;> first | rfl | (exfalso; omega)
  · rw [if_pos (show 128 * 3 + l < 480 by omega), show (128 * 3 + l) / 96 = 4 by omega, show (128 * 3 + l) / 32 = 14 by omega]
    have d1 : (128 * 3 + l) % 32 = l % 32 := by omega
    rw [d1]
    split_ifs <;> first | rfl | (exfalso; omega)
  · rw [if_neg (show ¬ 128 * 3 + l < 480 by omega)]
    by_cases a : l = 98
    · subst a; simp
    by_cases b : l = 97
    · subst b; simp
    by_cases c : l = 96
    · subst c; simp
    repeat rw [if_neg (by omega)]
    obtain ⟨n, hn⟩ : ∃ n, 128 * 3 + l - 480 = n + 3 := ⟨l - 99, by omega⟩
    rw [hn]
    rfl

theorem lhz_10 (P : Pars) (g o l : ℕ) (ho : o < 64) (hl : l < 128) : (0) = P.lhz g (64 * 1 + o) (128 * 0 + l) := by
  unfold Pars.lhz
  have m1 : (64 * 1 + o) % 64 = o := by omega
  have m2 : (64 * 1 + o) / 64 = 1 := by omega
  rw [m1, m2]
  have q : l / 32 = 0 ∨ l / 32 = 1 ∨ l / 32 = 2 ∨ l / 32 = 3 := by omega
  rcases q with q | q | q | q
  · rw [if_pos (show 128 * 0 + l < 480 by omega), show (128 * 0 + l) / 96 = 0 by omega, show (128 * 0 + l) / 32 = 0 by omega]
    have d1 : (128 * 0 + l) % 32 = l % 32 := by omega
    rw [d1]
    split_ifs <;> first | rfl | (exfalso; omega)
  · rw [if_pos (show 128 * 0 + l < 480 by omega), show (128 * 0 + l) / 96 = 0 by omega, show (128 * 0 + l) / 32 = 1 by omega]
    have d1 : (128 * 0 + l) % 32 = l % 32 := by omega
    rw [d1]
    split_ifs <;> first | rfl | (exfalso; omega)
  · rw [if_pos (show 128 * 0 + l < 480 by omega), show (128 * 0 + l) / 96 = 0 by omega, show (128 * 0 + l) / 32 = 2 by omega]
    have d1 : (128 * 0 + l) % 32 = l % 32 := by omega
    rw [d1]
    split_ifs <;> first | rfl | (exfalso; omega)
  · rw [if_pos (show 128 * 0 + l < 480 by omega), show (128 * 0 + l) / 96 = 1 by omega, show (128 * 0 + l) / 32 = 3 by omega]
    have d1 : (128 * 0 + l) % 32 = l % 32 := by omega
    rw [d1]
    split_ifs <;> first | rfl | (exfalso; omega)

theorem lhz_11 (P : Pars) (g o l : ℕ) (ho : o < 64) (hl : l < 128) : (if l = o / 2 + 32 * 3 then (P.w 1 (64 * g + o)).toInt else (if l = o / 2 + 32 * 2 then (P.w 0 (64 * g + o)).toInt else (0))) = P.lhz g (64 * 1 + o) (128 * 1 + l) := by
  unfold Pars.lhz
  have m1 : (64 * 1 + o) % 64 = o := by omega
  have m2 : (64 * 1 + o) / 64 = 1 := by omega
  rw [m1, m2]
  have q : l / 32 = 0 ∨ l / 32 = 1 ∨ l / 32 = 2 ∨ l / 32 = 3 := by omega
  rcases q with q | q | q | q
  · rw [if_pos (show 128 * 1 + l < 480 by omega), show (128 * 1 + l) / 96 = 1 by omega, show (128 * 1 + l) / 32 = 4 by omega]
    have d1 : (128 * 1 + l) % 32 = l % 32 := by omega
    rw [d1]
    split_ifs <;> first | rfl | (exfalso; omega)
  · rw [if_pos (show 128 * 1 + l < 480 by omega), show (128 * 1 + l) / 96 = 1 by omega, show (128 * 1 + l) / 32 = 5 by omega]
    have d1 : (128 * 1 + l) % 32 = l % 32 := by omega
    rw [d1]
    split_ifs <;> first | rfl | (exfalso; omega)
  · rw [if_pos (show 128 * 1 + l < 480 by omega), show (128 * 1 + l) / 96 = 2 by omega, show (128 * 1 + l) / 32 = 6 by omega]
    have d1 : (128 * 1 + l) % 32 = l % 32 := by omega
    rw [d1]
    split_ifs <;> first | rfl | (exfalso; omega)
  · rw [if_pos (show 128 * 1 + l < 480 by omega), show (128 * 1 + l) / 96 = 2 by omega, show (128 * 1 + l) / 32 = 7 by omega]
    have d1 : (128 * 1 + l) % 32 = l % 32 := by omega
    rw [d1]
    split_ifs <;> first | rfl | (exfalso; omega)

theorem lhz_12 (P : Pars) (g o l : ℕ) (ho : o < 64) (hl : l < 128) : (if l = o / 2 + 32 * 3 then (P.w 5 (64 * g + o)).toInt else (if l = o / 2 + 32 * 2 then (P.w 4 (64 * g + o)).toInt else (if l = o / 2 + 32 * 1 then (P.w 3 (64 * g + o)).toInt else (if l = o / 2 + 32 * 0 then (P.w 2 (64 * g + o)).toInt else (0))))) = P.lhz g (64 * 1 + o) (128 * 2 + l) := by
  unfold Pars.lhz
  have m1 : (64 * 1 + o) % 64 = o := by omega
  have m2 : (64 * 1 + o) / 64 = 1 := by omega
  rw [m1, m2]
  have q : l / 32 = 0 ∨ l / 32 = 1 ∨ l / 32 = 2 ∨ l / 32 = 3 := by omega
  rcases q with q | q | q | q
  · rw [if_pos (show 128 * 2 + l < 480 by omega), show (128 * 2 + l) / 96 = 2 by omega, show (128 * 2 + l) / 32 = 8 by omega]
    have d1 : (128 * 2 + l) % 32 = l % 32 := by omega
    rw [d1]
    split_ifs <;> first | rfl | (exfalso; omega)
  · rw [if_pos (show 128 * 2 + l < 480 by omega), show (128 * 2 + l) / 96 = 3 by omega, show (128 * 2 + l) / 32 = 9 by omega]
    have d1 : (128 * 2 + l) % 32 = l % 32 := by omega
    rw [d1]
    split_ifs <;> first | rfl | (exfalso; omega)
  · rw [if_pos (show 128 * 2 + l < 480 by omega), show (128 * 2 + l) / 96 = 3 by omega, show (128 * 2 + l) / 32 = 10 by omega]
    have d1 : (128 * 2 + l) % 32 = l % 32 := by omega
    rw [d1]
    split_ifs <;> first | rfl | (exfalso; omega)
  · rw [if_pos (show 128 * 2 + l < 480 by omega), show (128 * 2 + l) / 96 = 3 by omega, show (128 * 2 + l) / 32 = 11 by omega]
    have d1 : (128 * 2 + l) % 32 = l % 32 := by omega
    rw [d1]
    split_ifs <;> first | rfl | (exfalso; omega)

theorem lhz_13 (P : Pars) (g o l : ℕ) (ho : o < 64) (hl : l < 128) : (if l = 98 then piece (P.fb (64 * g + o)) 2 else (if l = 97 then piece (P.fb (64 * g + o)) 1 else (if l = 96 then piece (P.fb (64 * g + o)) 0 else (if l = o / 2 + 32 * 2 then (P.w 8 (64 * g + o)).toInt else (if l = o / 2 + 32 * 1 then (P.w 7 (64 * g + o)).toInt else (if l = o / 2 + 32 * 0 then (P.w 6 (64 * g + o)).toInt else (0))))))) = P.lhz g (64 * 1 + o) (128 * 3 + l) := by
  unfold Pars.lhz
  have m1 : (64 * 1 + o) % 64 = o := by omega
  have m2 : (64 * 1 + o) / 64 = 1 := by omega
  rw [m1, m2]
  have q : l / 32 = 0 ∨ l / 32 = 1 ∨ l / 32 = 2 ∨ l / 32 = 3 := by omega
  rcases q with q | q | q | q
  · rw [if_pos (show 128 * 3 + l < 480 by omega), show (128 * 3 + l) / 96 = 4 by omega, show (128 * 3 + l) / 32 = 12 by omega]
    have d1 : (128 * 3 + l) % 32 = l % 32 := by omega
    rw [d1]
    split_ifs <;> first | rfl | (exfalso; omega)
  · rw [if_pos (show 128 * 3 + l < 480 by omega), show (128 * 3 + l) / 96 = 4 by omega, show (128 * 3 + l) / 32 = 13 by omega]
    have d1 : (128 * 3 + l) % 32 = l % 32 := by omega
    rw [d1]
    split_ifs <;> first | rfl | (exfalso; omega)
  · rw [if_pos (show 128 * 3 + l < 480 by omega), show (128 * 3 + l) / 96 = 4 by omega, show (128 * 3 + l) / 32 = 14 by omega]
    have d1 : (128 * 3 + l) % 32 = l % 32 := by omega
    rw [d1]
    split_ifs <;> first | rfl | (exfalso; omega)
  · rw [if_neg (show ¬ 128 * 3 + l < 480 by omega)]
    by_cases a : l = 98
    · subst a; simp
    by_cases b : l = 97
    · subst b; simp
    by_cases c : l = 96
    · subst c; simp
    repeat rw [if_neg (by omega)]
    obtain ⟨n, hn⟩ : ∃ n, 128 * 3 + l - 480 = n + 3 := ⟨l - 99, by omega⟩
    rw [hn]
    rfl

variable (P : Pars)

/-! ### The columns -/

variable (v53 : Vec Ideal S9x128 .i32) (h53 : ∀ (t : Fin 9) (c : Fin 128), v53 (ix2 t c) = P.w t.val c.val)

include h53 in
theorem col0 : IsCol (k0_pay16 (F := Ideal) v53) (fun m => (P.w 0 m).toInt) := fun m l => by
  dsimp only
  rw [← show v53 (ix2 0 m) = P.w 0 m.val from h53 0 m]
  pointwise [k0_pay16, k0_pay15]
  rfl
include h53 in
theorem col1 : IsCol (k0_pay17 (F := Ideal) v53) (fun m => (P.w 1 m).toInt) := fun m l => by
  dsimp only
  rw [← show v53 (ix2 1 m) = P.w 1 m.val from h53 1 m]
  pointwise [k0_pay17, k0_pay15]
  rfl
include h53 in
theorem col2 : IsCol (k0_pay18 (F := Ideal) v53) (fun m => (P.w 2 m).toInt) := fun m l => by
  dsimp only
  rw [← show v53 (ix2 2 m) = P.w 2 m.val from h53 2 m]
  pointwise [k0_pay18, k0_pay15]
  rfl
include h53 in
theorem col3 : IsCol (k0_pay19 (F := Ideal) v53) (fun m => (P.w 3 m).toInt) := fun m l => by
  dsimp only
  rw [← show v53 (ix2 3 m) = P.w 3 m.val from h53 3 m]
  pointwise [k0_pay19, k0_pay15]
  rfl
include h53 in
theorem col4 : IsCol (k0_pay20 (F := Ideal) v53) (fun m => (P.w 4 m).toInt) := fun m l => by
  dsimp only
  rw [← show v53 (ix2 4 m) = P.w 4 m.val from h53 4 m]
  pointwise [k0_pay20, k0_pay15]
  rfl
include h53 in
theorem col5 : IsCol (k0_pay21 (F := Ideal) v53) (fun m => (P.w 5 m).toInt) := fun m l => by
  dsimp only
  rw [← show v53 (ix2 5 m) = P.w 5 m.val from h53 5 m]
  pointwise [k0_pay21, k0_pay15]
  rfl
include h53 in
theorem col6 : IsCol (k0_pay22 (F := Ideal) v53) (fun m => (P.w 6 m).toInt) := fun m l => by
  dsimp only
  rw [← show v53 (ix2 6 m) = P.w 6 m.val from h53 6 m]
  pointwise [k0_pay22, k0_pay15]
  rfl
include h53 in
theorem col7 : IsCol (k0_pay23 (F := Ideal) v53) (fun m => (P.w 7 m).toInt) := fun m l => by
  dsimp only
  rw [← show v53 (ix2 7 m) = P.w 7 m.val from h53 7 m]
  pointwise [k0_pay23, k0_pay15]
  rfl
include h53 in
theorem col8 : IsCol (k0_pay24 (F := Ideal) v53) (fun m => (P.w 8 m).toInt) := fun m l => by
  dsimp only
  rw [← show v53 (ix2 8 m) = P.w 8 m.val from h53 8 m]
  pointwise [k0_pay24, k0_pay15]
  rfl

include h53 in
theorem bias_is (hP : P.Good) (v101 : Vec Ideal S1x128 .i32) (h101 : ∀ c : Fin 128, v101 (ix2 0 c) = P.b c.val) (m l : Fin 128) :
    k0_pay25 (F := Ideal) P.zp v53 v101 (ix2 m l) = P.bias m.val := by
  have e : k0_pay25 (F := Ideal) P.zp v53 v101 (ix2 m l) = IntOp.subi (v101 (ix2 0 m)) (IntOp.muli P.zp (Ideal.fptosi 32
      (k0_pay16 (F := Ideal) v53 (ix2 m l) + k0_pay17 (F := Ideal) v53 (ix2 m l) + k0_pay18 (F := Ideal) v53 (ix2 m l) + k0_pay19 (F := Ideal) v53 (ix2 m l) + k0_pay20 (F := Ideal) v53 (ix2 m l) + k0_pay21 (F := Ideal) v53 (ix2 m l) + k0_pay22 (F := Ideal) v53 (ix2 m l) + k0_pay23 (F := Ideal) v53 (ix2 m l) + k0_pay24 (F := Ideal) v53 (ix2 m l)))) := by
    pointwise [k0_pay25]
    rfl
  rw [e, h101, col0 P v53 h53 m l, col1 P v53 h53 m l, col2 P v53 h53 m l, col3 P v53 h53 m l, col4 P v53 h53 m l, col5 P v53 h53 m l, col6 P v53 h53 m l, col7 P v53 h53 m l, col8 P v53 h53 m l]
  have s : (((P.w 0 m.val).toInt : ℝ) : EReal) + (((P.w 1 m.val).toInt : ℝ) : EReal) + (((P.w 2 m.val).toInt : ℝ) : EReal) + (((P.w 3 m.val).toInt : ℝ) : EReal) + (((P.w 4 m.val).toInt : ℝ) : EReal) + (((P.w 5 m.val).toInt : ℝ) : EReal) + (((P.w 6 m.val).toInt : ℝ) : EReal) + (((P.w 7 m.val).toInt : ℝ) : EReal) + (((P.w 8 m.val).toInt : ℝ) : EReal) = ((P.ws m.val : ℝ) : EReal) := by
    unfold Pars.ws
    simp only [Finset.sum_range_succ, Finset.sum_range_zero, zero_add]
    push_cast
    rfl
  rw [s]
  have b : -(2 ^ 31) ≤ P.ws m.val ∧ P.ws m.val < 2 ^ 31 := by
    unfold Pars.ws
    simp only [Finset.sum_range_succ, Finset.sum_range_zero, zero_add]
    have := hP.w 0 m.val (by omega) m.isLt
    have := hP.w 1 m.val (by omega) m.isLt
    have := hP.w 2 m.val (by omega) m.isLt
    have := hP.w 3 m.val (by omega) m.isLt
    have := hP.w 4 m.val (by omega) m.isLt
    have := hP.w 5 m.val (by omega) m.isLt
    have := hP.w 6 m.val (by omega) m.isLt
    have := hP.w 7 m.val (by omega) m.isLt
    have := hP.w 8 m.val (by omega) m.isLt
    omega
  rw [fptosi_int _ b]
  rfl

/-- The bit that says every bias is small. -/
def okBit (v108 : IVec S128x128 32) : BitVec 1 :=
  Scalar.andi (Scalar.cmpi .sle (extractAt ![0, 0, 0] (k0_pay28 v108) inpos_S1x1x1_p0_0_0) 524288#32) (Scalar.cmpi .sge (extractAt ![0, 0, 0] (k0_pay29 v108) inpos_S1x1x1_p0_0_0) 4294443008#32)

theorem max_fold {α : Type} (s : Finset α) (f : α → BitVec 32) (a : BitVec 32) (B : ℤ) :
    (s.fold IKind.maxsi.op a f).toInt ≤ B ↔ a.toInt ≤ B ∧ ∀ i ∈ s, (f i).toInt ≤ B := by
  classical
  induction s using Finset.induction_on with
  | empty => simp
  | insert x s hx ih =>
    rw [Finset.fold_insert hx, show IKind.maxsi.op (f x) (s.fold IKind.maxsi.op a f) = IntOp.maxsi (f x) (s.fold IKind.maxsi.op a f) from rfl]
    have : ∀ u v : BitVec 32, (IntOp.maxsi u v).toInt ≤ B ↔ u.toInt ≤ B ∧ v.toInt ≤ B := by
      intro u v
      unfold IntOp.maxsi
      simp only [BitVec.slt, BitVec.sle, decide_eq_true_eq]
      split_ifs <;> omega
    rw [this, ih]
    simp only [Finset.mem_insert, forall_eq_or_imp]
    tauto

theorem min_fold {α : Type} (s : Finset α) (f : α → BitVec 32) (a : BitVec 32) (B : ℤ) :
    B ≤ (s.fold IKind.minsi.op a f).toInt ↔ B ≤ a.toInt ∧ ∀ i ∈ s, B ≤ (f i).toInt := by
  classical
  induction s using Finset.induction_on with
  | empty => simp
  | insert x s hx ih =>
    rw [Finset.fold_insert hx, show IKind.minsi.op (f x) (s.fold IKind.minsi.op a f) = IntOp.minsi (f x) (s.fold IKind.minsi.op a f) from rfl]
    have : ∀ u v : BitVec 32, B ≤ (IntOp.minsi u v).toInt ↔ B ≤ u.toInt ∧ B ≤ v.toInt := by
      intro u v
      unfold IntOp.minsi
      simp only [BitVec.slt, BitVec.sle, decide_eq_true_eq]
      split_ifs <;> omega
    rw [this, ih]
    simp only [Finset.mem_insert, forall_eq_or_imp]
    tauto

open Classical in
theorem okBit_eq (v108 : IVec S128x128 32) (h : ∀ m l : Fin 128, v108 (ix2 m l) = P.bias m.val) : okBit v108 = if P.ok then 1#1 else 0#1 := by
  have hall : ∀ (p : BitVec 32 → Prop), (∀ i : S1x128x128.Idx, p (shapeCast S1x128x128 v108 shapeCasts_S128x128_S1x128x128 i)) ↔ ∀ c, c < 128 → p (P.bias c) := by
    intro p
    have e : ∀ (m l : Fin 128), shapeCast S1x128x128 v108 shapeCasts_S128x128_S1x128x128 (ix3 0 m l) = P.bias m.val := fun m l => by
      rw [← h m l]; pointwise []
    constructor
    · intro hp c hc
      have := hp (ix3 0 ⟨c, hc⟩ 0)
      rwa [e] at this
    · intro hp i
      have : i = ix3 (0 : Fin 1) (i 1 : Fin 128) (i 2 : Fin 128) := by
        funext a
        match a with
        | ⟨0, _⟩ => exact Fin.ext (by have : (i 0).val < 1 := (i 0).isLt; show (i 0).val = 0; omega)
        | ⟨1, _⟩ => rfl
        | ⟨2, _⟩ => rfl
      have hx : shapeCast S1x128x128 v108 shapeCasts_S128x128_S1x128x128 i = P.bias (i 1).val := (congrArg _ this).trans (e (i 1) (i 2))
      rw [hx]
      exact hp _ (show (i 1).val < 128 from (i 1).isLt)
  have hd : ∀ (i : S1x128x128.Idx) (j : S1.Idx), (reduces_S1x128x128_S1 : S1x128x128.Reduces [1, 2] S1).drop i = j := by
    intro i j
    funext a
    match a with
    | ⟨0, _⟩ => exact Fin.ext (by have h1 := (((reduces_S1x128x128_S1 : S1x128x128.Reduces [1, 2] S1).drop i) 0).isLt; have h2 := (j 0).isLt; change _ < 1 at h1; change _ < 1 at h2; show (((reduces_S1x128x128_S1 : S1x128x128.Reduces [1, 2] S1).drop i) 0).val = (j 0).val; omega)
  have e1 : extractAt ![0, 0, 0] (k0_pay28 v108) inpos_S1x1x1_p0_0_0 = multiReductionI .maxsi [1, 2] S1 (shapeCast S1x128x128 v108 shapeCasts_S128x128_S1x128x128) 2147483648#32 reduces_S1x128x128_S1 rfl (ix1 0) := by
    pointwise [k0_pay28]
  have e2 : extractAt ![0, 0, 0] (k0_pay29 v108) inpos_S1x1x1_p0_0_0 = multiReductionI .minsi [1, 2] S1 (shapeCast S1x128x128 v108 shapeCasts_S128x128_S1x128x128) 2147483647#32 reduces_S1x128x128_S1 rfl (ix1 0) := by
    pointwise [k0_pay29]
  unfold okBit
  rw [e1.trans ((multiReductionI_eq_fold IKind.maxsi _ _ _ _ _).trans (by rw [Finset.filter_true_of_mem (fun i _ => hd i _)])),
    e2.trans ((multiReductionI_eq_fold IKind.minsi _ _ _ _ _).trans (by rw [Finset.filter_true_of_mem (fun i _ => hd i _)]))]
  have m1 := max_fold (Finset.univ : Finset S1x128x128.Idx) (shapeCast S1x128x128 v108 shapeCasts_S128x128_S1x128x128) 2147483648#32 524288
  have m2 := min_fold (Finset.univ : Finset S1x128x128.Idx) (shapeCast S1x128x128 v108 shapeCasts_S128x128_S1x128x128) 2147483647#32 (-524288)
  rw [show (2147483648#32).toInt = -2147483648 from rfl] at m1
  rw [show (2147483647#32).toInt = 2147483647 from rfl] at m2
  simp only [Finset.mem_univ, true_implies] at m1 m2
  rw [hall (fun x => x.toInt ≤ 524288)] at m1
  rw [hall (fun x => -524288 ≤ x.toInt)] at m2
  generalize (Finset.univ : Finset S1x128x128.Idx).fold IKind.maxsi.op 2147483648#32 (shapeCast S1x128x128 v108 shapeCasts_S128x128_S1x128x128) = X at m1 ⊢
  generalize (Finset.univ : Finset S1x128x128.Idx).fold IKind.minsi.op 2147483647#32 (shapeCast S1x128x128 v108 shapeCasts_S128x128_S1x128x128) = Y at m2 ⊢
  show (BitVec.ofBool (X.sle 524288#32) &&& BitVec.ofBool ((4294443008#32).sle Y)) = _
  have k1 : X.sle 524288#32 = decide (X.toInt ≤ 524288) := rfl
  have k2 : (4294443008#32).sle Y = decide (-524288 ≤ Y.toInt) := rfl
  rw [k1, k2]
  by_cases ho : P.ok
  · rw [if_pos ho, decide_eq_true (m1.2 ⟨by norm_num, fun c hc => (ho c hc).2⟩), decide_eq_true (m2.2 ⟨by norm_num, fun c hc => (ho c hc).1⟩)]; rfl
  · rw [if_neg ho]
    by_cases a : X.toInt ≤ 524288
    · by_cases b : -524288 ≤ Y.toInt
      · exact absurd (fun c hc => ⟨(m2.1 b).2 c hc, (m1.1 a).2 c hc⟩) ho
      · rw [decide_eq_false b]; cases decide (X.toInt ≤ 524288) <;> rfl
    · rw [decide_eq_false a]; cases decide (-524288 ≤ Y.toInt) <;> rfl

variable (v108 : IVec S128x128 32) (h108 : ∀ m l : Fin 128, v108 (ix2 m l) = P.bias m.val) (v131 : BitVec 1)

include h108 in
open Classical in
theorem fb_is (h131 : v131 = if P.ok then 1#1 else 0#1) (m l : Fin 128) : k0_pay41 v108 v131 (ix2 m l) = P.fb m.val := by
  unfold Pars.fb
  rw [← h108 m l]
  subst h131
  unfold k0_pay41
  show (Scalar.select (if P.ok then 1#1 else 0#1) v108 (broadcast S128x128 0#32)) (ix2 m l) = _
  rw [sel_if]
  split_ifs <;> rfl

include h108 in
open Classical in
theorem colP0 (h131 : v131 = if P.ok then 1#1 else 0#1) : IsCol (k0_pay45 (F := Ideal) v108 v131) (fun m => piece (P.fb m) 0) := fun m l => by
  dsimp only
  rw [← fb_is P v108 h108 v131 h131 m l]
  with_unfolding_all exact rfl

include h108 in
open Classical in
theorem colP1 (h131 : v131 = if P.ok then 1#1 else 0#1) : IsCol (k0_pay46 (F := Ideal) v108 v131) (fun m => piece (P.fb m) 1) := fun m l => by
  dsimp only
  rw [← fb_is P v108 h108 v131 h131 m l]
  have : k0_pay46 (F := Ideal) v108 v131 (ix2 m l) = (((lowB (restB (k0_pay41 v108 v131 (ix2 m l)))).toInt : ℝ) : EReal) * Ideal.ofBits .f32 0x43800000#32 := by
    with_unfolding_all exact rfl
  rw [this, ofBits_256]
  unfold piece
  push_cast; rfl

include h108 in
open Classical in
theorem colP2 (h131 : v131 = if P.ok then 1#1 else 0#1) : IsCol (k0_pay47 (F := Ideal) v108 v131) (fun m => piece (P.fb m) 2) := fun m l => by
  dsimp only
  rw [← fb_is P v108 h108 v131 h131 m l]
  have : k0_pay47 (F := Ideal) v108 v131 (ix2 m l) = (((restB (restB (k0_pay41 v108 v131 (ix2 m l)))).toInt : ℝ) : EReal) * Ideal.ofBits .f32 0x47800000#32 := by
    with_unfolding_all exact rfl
  rw [this, ofBits_65536]
  unfold piece
  push_cast; rfl

/-! ### The left operand -/

def lp000 (v53 : Vec Ideal S9x128 .i32) : LPiece := ⟨Rect.unit (s := S2x128x512) ![0, 0, 0] S1x64x128.size inb_S2x128x512_S1x64x128_0_0_0, k0_pay50 (k0_pay17 (F := Ideal) v53) (k0_pay18 (F := Ideal) v53) (k0_pay19 (F := Ideal) v53) rowI laneI (k0_pay48 (k0_pay16 (F := Ideal) v53)) k0_pay49⟩

include h53 in
theorem lp000_good  : LGood P (lp000 v53) := by
  refine st_good P (selW_is 3 (by omega) 0 (by omega) slices_S128x128_o0_0_S64x128 (col3 P v53 h53) (selW_is 2 (by omega) 0 (by omega) slices_S128x128_o0_0_S64x128 (col2 P v53 h53) (selW_is 1 (by omega) 0 (by omega) slices_S128x128_o0_0_S64x128 (col1 P v53 h53) (selW_is 0 (by omega) 0 (by omega) slices_S128x128_o0_0_S64x128 (col0 P v53 h53) zer_is)))) 0 0 0 _ (by rfl) _ _ (by with_unfolding_all exact rfl) ?_
  intro o l ho hl
  exact lhz_00 P 0 o l ho hl

def lp001 (v53 : Vec Ideal S9x128 .i32) : LPiece := ⟨Rect.unit (s := S2x128x512) ![0, 0, 128] S1x64x128.size inb_S2x128x512_S1x64x128_0_0_128, k0_pay53 (k0_pay23 (F := Ideal) v53) rowI laneI (k0_pay51 (k0_pay20 (F := Ideal) v53) (k0_pay21 (F := Ideal) v53) (k0_pay22 (F := Ideal) v53) rowI laneI) k0_pay52⟩

include h53 in
theorem lp001_good  : LGood P (lp001 v53) := by
  refine st_good P (selW_is 3 (by omega) 0 (by omega) slices_S128x128_o0_0_S64x128 (col7 P v53 h53) (selW_is 2 (by omega) 0 (by omega) slices_S128x128_o0_0_S64x128 (col6 P v53 h53) (selW_is 1 (by omega) 0 (by omega) slices_S128x128_o0_0_S64x128 (col5 P v53 h53) (selW_is 0 (by omega) 0 (by omega) slices_S128x128_o0_0_S64x128 (col4 P v53 h53) zer_is)))) 0 0 1 _ (by rfl) _ _ (by with_unfolding_all exact rfl) ?_
  intro o l ho hl
  exact lhz_01 P 0 o l ho hl

def lp002 (v53 : Vec Ideal S9x128 .i32) : LPiece := ⟨Rect.unit (s := S2x128x512) ![0, 0, 256] S1x64x128.size inb_S2x128x512_S1x64x128_0_0_256, k0_pay54 (k0_pay24 (F := Ideal) v53) rowI laneI⟩

include h53 in
theorem lp002_good  : LGood P (lp002 v53) := by
  refine st_good P (selW_is 0 (by omega) 0 (by omega) slices_S128x128_o0_0_S64x128 (col8 P v53 h53) zer_is) 0 0 2 _ (by rfl) _ _ (by with_unfolding_all exact rfl) ?_
  intro o l ho hl
  exact lhz_02 P 0 o l ho hl

def lp003 (v53 : Vec Ideal S9x128 .i32) (v108 : IVec S128x128 32) (v131 : BitVec 1) : LPiece := ⟨Rect.unit (s := S2x128x512) ![0, 0, 384] S1x64x128.size inb_S2x128x512_S1x64x128_0_0_384, k0_pay55 (k0_pay45 (F := Ideal) v108 v131) (k0_pay46 (F := Ideal) v108 v131) (k0_pay47 (F := Ideal) v108 v131) laneI⟩

include h53 h108 in
open Classical in
theorem lp003_good (h131 : v131 = if P.ok then 1#1 else 0#1) : LGood P (lp003 v53 v108 v131) := by
  refine st_good P (selP_is 98 (by omega) 0 (by omega) slices_S128x128_o0_0_S64x128 (colP2 P v108 h108 v131 h131) (selP_is 97 (by omega) 0 (by omega) slices_S128x128_o0_0_S64x128 (colP1 P v108 h108 v131 h131) (selP_is 96 (by omega) 0 (by omega) slices_S128x128_o0_0_S64x128 (colP0 P v108 h108 v131 h131) zer_is))) 0 0 3 _ (by rfl) _ _ (by with_unfolding_all exact rfl) ?_
  intro o l ho hl
  exact lhz_03 P 0 o l ho hl

def lp010 (v53 : Vec Ideal S9x128 .i32) : LPiece := ⟨Rect.unit (s := S2x128x512) ![0, 64, 0] S1x64x128.size inb_S2x128x512_S1x64x128_0_64_0, k0_pay56 (F := Ideal) (Ideal.ofBits .f32 0x00000000#32)⟩

theorem lp010_good  : LGood P (lp010 v53) := by
  refine st_good P zer_is 0 1 0 _ (by rfl) _ _ (by with_unfolding_all exact rfl) ?_
  intro o l ho hl
  exact lhz_10 P 0 o l ho hl

def lp011 (v53 : Vec Ideal S9x128 .i32) : LPiece := ⟨Rect.unit (s := S2x128x512) ![0, 64, 128] S1x64x128.size inb_S2x128x512_S1x64x128_0_64_128, k0_pay57 (k0_pay16 (F := Ideal) v53) (k0_pay17 (F := Ideal) v53) rowI laneI⟩

include h53 in
theorem lp011_good  : LGood P (lp011 v53) := by
  refine st_good P (selW_is 3 (by omega) 0 (by omega) slices_S128x128_o0_0_S64x128 (col1 P v53 h53) (selW_is 2 (by omega) 0 (by omega) slices_S128x128_o0_0_S64x128 (col0 P v53 h53) zer_is)) 0 1 1 _ (by rfl) _ _ (by with_unfolding_all exact rfl) ?_
  intro o l ho hl
  exact lhz_11 P 0 o l ho hl

def lp012 (v53 : Vec Ideal S9x128 .i32) : LPiece := ⟨Rect.unit (s := S2x128x512) ![0, 64, 256] S1x64x128.size inb_S2x128x512_S1x64x128_0_64_256, k0_pay60 (k0_pay20 (F := Ideal) v53) (k0_pay21 (F := Ideal) v53) rowI laneI (k0_pay58 (k0_pay18 (F := Ideal) v53) (k0_pay19 (F := Ideal) v53) rowI laneI) (k0_pay59 rowI)⟩

include h53 in
theorem lp012_good  : LGood P (lp012 v53) := by
  refine st_good P (selW_is 3 (by omega) 0 (by omega) slices_S128x128_o0_0_S64x128 (col5 P v53 h53) (selW_is 2 (by omega) 0 (by omega) slices_S128x128_o0_0_S64x128 (col4 P v53 h53) (selW_is 1 (by omega) 0 (by omega) slices_S128x128_o0_0_S64x128 (col3 P v53 h53) (selW_is 0 (by omega) 0 (by omega) slices_S128x128_o0_0_S64x128 (col2 P v53 h53) zer_is)))) 0 1 2 _ (by rfl) _ _ (by with_unfolding_all exact rfl) ?_
  intro o l ho hl
  exact lhz_12 P 0 o l ho hl

def lp013 (v53 : Vec Ideal S9x128 .i32) (v108 : IVec S128x128 32) (v131 : BitVec 1) : LPiece := ⟨Rect.unit (s := S2x128x512) ![0, 64, 384] S1x64x128.size inb_S2x128x512_S1x64x128_0_64_384, k0_pay63 (k0_pay46 (F := Ideal) v108 v131) (k0_pay47 (F := Ideal) v108 v131) laneI (k0_pay61 (k0_pay22 (F := Ideal) v53) (k0_pay23 (F := Ideal) v53) (k0_pay24 (F := Ideal) v53) (k0_pay45 (F := Ideal) v108 v131) rowI laneI) (k0_pay62 laneI)⟩

include h53 h108 in
open Classical in
theorem lp013_good (h131 : v131 = if P.ok then 1#1 else 0#1) : LGood P (lp013 v53 v108 v131) := by
  refine st_good P (selP_is 98 (by omega) 0 (by omega) slices_S128x128_o0_0_S64x128 (colP2 P v108 h108 v131 h131) (selP_is 97 (by omega) 0 (by omega) slices_S128x128_o0_0_S64x128 (colP1 P v108 h108 v131 h131) (selP_is 96 (by omega) 0 (by omega) slices_S128x128_o0_0_S64x128 (colP0 P v108 h108 v131 h131) (selW_is 2 (by omega) 0 (by omega) slices_S128x128_o0_0_S64x128 (col8 P v53 h53) (selW_is 1 (by omega) 0 (by omega) slices_S128x128_o0_0_S64x128 (col7 P v53 h53) (selW_is 0 (by omega) 0 (by omega) slices_S128x128_o0_0_S64x128 (col6 P v53 h53) zer_is)))))) 0 1 3 _ (by rfl) _ _ (by with_unfolding_all exact rfl) ?_
  intro o l ho hl
  exact lhz_13 P 0 o l ho hl

def lp100 (v53 : Vec Ideal S9x128 .i32) : LPiece := ⟨Rect.unit (s := S2x128x512) ![1, 0, 0] S1x64x128.size inb_S2x128x512_S1x64x128_1_0_0, k0_pay64 (k0_pay16 (F := Ideal) v53) (k0_pay17 (F := Ideal) v53) (k0_pay18 (F := Ideal) v53) (k0_pay19 (F := Ideal) v53) rowI laneI⟩

include h53 in
theorem lp100_good  : LGood P (lp100 v53) := by
  refine st_good P (selW_is 3 (by omega) 1 (by omega) slices_S128x128_o64_0_S64x128 (col3 P v53 h53) (selW_is 2 (by omega) 1 (by omega) slices_S128x128_o64_0_S64x128 (col2 P v53 h53) (selW_is 1 (by omega) 1 (by omega) slices_S128x128_o64_0_S64x128 (col1 P v53 h53) (selW_is 0 (by omega) 1 (by omega) slices_S128x128_o64_0_S64x128 (col0 P v53 h53) zer_is)))) 1 0 0 _ (by rfl) _ _ (by with_unfolding_all exact rfl) ?_
  intro o l ho hl
  exact lhz_00 P 1 o l ho hl

def lp101 (v53 : Vec Ideal S9x128 .i32) : LPiece := ⟨Rect.unit (s := S2x128x512) ![1, 0, 128] S1x64x128.size inb_S2x128x512_S1x64x128_1_0_128, k0_pay65 (k0_pay20 (F := Ideal) v53) (k0_pay21 (F := Ideal) v53) (k0_pay22 (F := Ideal) v53) (k0_pay23 (F := Ideal) v53) rowI laneI⟩

include h53 in
theorem lp101_good  : LGood P (lp101 v53) := by
  refine st_good P (selW_is 3 (by omega) 1 (by omega) slices_S128x128_o64_0_S64x128 (col7 P v53 h53) (selW_is 2 (by omega) 1 (by omega) slices_S128x128_o64_0_S64x128 (col6 P v53 h53) (selW_is 1 (by omega) 1 (by omega) slices_S128x128_o64_0_S64x128 (col5 P v53 h53) (selW_is 0 (by omega) 1 (by omega) slices_S128x128_o64_0_S64x128 (col4 P v53 h53) zer_is)))) 1 0 1 _ (by rfl) _ _ (by with_unfolding_all exact rfl) ?_
  intro o l ho hl
  exact lhz_01 P 1 o l ho hl

def lp102 (v53 : Vec Ideal S9x128 .i32) : LPiece := ⟨Rect.unit (s := S2x128x512) ![1, 0, 256] S1x64x128.size inb_S2x128x512_S1x64x128_1_0_256, k0_pay67 (k0_pay66 (k0_pay24 (F := Ideal) v53) rowI laneI)⟩

include h53 in
theorem lp102_good  : LGood P (lp102 v53) := by
  refine st_good P (selW_is 0 (by omega) 1 (by omega) slices_S128x128_o64_0_S64x128 (col8 P v53 h53) zer_is) 1 0 2 _ (by rfl) _ _ (by with_unfolding_all exact rfl) ?_
  intro o l ho hl
  exact lhz_02 P 1 o l ho hl

def lp103 (v53 : Vec Ideal S9x128 .i32) (v108 : IVec S128x128 32) (v131 : BitVec 1) : LPiece := ⟨Rect.unit (s := S2x128x512) ![1, 0, 384] S1x64x128.size inb_S2x128x512_S1x64x128_1_0_384, k0_pay68 (k0_pay45 (F := Ideal) v108 v131) (k0_pay46 (F := Ideal) v108 v131) (k0_pay47 (F := Ideal) v108 v131) laneI⟩

include h53 h108 in
open Classical in
theorem lp103_good (h131 : v131 = if P.ok then 1#1 else 0#1) : LGood P (lp103 v53 v108 v131) := by
  refine st_good P (selP_is 98 (by omega) 1 (by omega) slices_S128x128_o64_0_S64x128 (colP2 P v108 h108 v131 h131) (selP_is 97 (by omega) 1 (by omega) slices_S128x128_o64_0_S64x128 (colP1 P v108 h108 v131 h131) (selP_is 96 (by omega) 1 (by omega) slices_S128x128_o64_0_S64x128 (colP0 P v108 h108 v131 h131) zer_is))) 1 0 3 _ (by rfl) _ _ (by with_unfolding_all exact rfl) ?_
  intro o l ho hl
  exact lhz_03 P 1 o l ho hl

def lp110 (v53 : Vec Ideal S9x128 .i32) : LPiece := ⟨Rect.unit (s := S2x128x512) ![1, 64, 0] S1x64x128.size inb_S2x128x512_S1x64x128_1_64_0, k0_pay69 (F := Ideal)⟩

theorem lp110_good  : LGood P (lp110 v53) := by
  refine st_good P zer_is 1 1 0 _ (by rfl) _ _ (by with_unfolding_all exact rfl) ?_
  intro o l ho hl
  exact lhz_10 P 1 o l ho hl

def lp111 (v53 : Vec Ideal S9x128 .i32) : LPiece := ⟨Rect.unit (s := S2x128x512) ![1, 64, 128] S1x64x128.size inb_S2x128x512_S1x64x128_1_64_128, k0_pay73 (k0_pay70 (k0_pay16 (F := Ideal) v53) rowI laneI) (k0_pay71 rowI laneI) (k0_pay72 (k0_pay17 (F := Ideal) v53))⟩

include h53 in
theorem lp111_good  : LGood P (lp111 v53) := by
  refine st_good P (selW_is 3 (by omega) 1 (by omega) slices_S128x128_o64_0_S64x128 (col1 P v53 h53) (selW_is 2 (by omega) 1 (by omega) slices_S128x128_o64_0_S64x128 (col0 P v53 h53) zer_is)) 1 1 1 _ (by rfl) _ _ (by with_unfolding_all exact rfl) ?_
  intro o l ho hl
  exact lhz_11 P 1 o l ho hl

def lp112 (v53 : Vec Ideal S9x128 .i32) : LPiece := ⟨Rect.unit (s := S2x128x512) ![1, 64, 256] S1x64x128.size inb_S2x128x512_S1x64x128_1_64_256, k0_pay74 (k0_pay18 (F := Ideal) v53) (k0_pay19 (F := Ideal) v53) (k0_pay20 (F := Ideal) v53) (k0_pay21 (F := Ideal) v53) rowI laneI⟩

include h53 in
theorem lp112_good  : LGood P (lp112 v53) := by
  refine st_good P (selW_is 3 (by omega) 1 (by omega) slices_S128x128_o64_0_S64x128 (col5 P v53 h53) (selW_is 2 (by omega) 1 (by omega) slices_S128x128_o64_0_S64x128 (col4 P v53 h53) (selW_is 1 (by omega) 1 (by omega) slices_S128x128_o64_0_S64x128 (col3 P v53 h53) (selW_is 0 (by omega) 1 (by omega) slices_S128x128_o64_0_S64x128 (col2 P v53 h53) zer_is)))) 1 1 2 _ (by rfl) _ _ (by with_unfolding_all exact rfl) ?_
  intro o l ho hl
  exact lhz_12 P 1 o l ho hl

def lp113 (v53 : Vec Ideal S9x128 .i32) (v108 : IVec S128x128 32) (v131 : BitVec 1) : LPiece := ⟨Rect.unit (s := S2x128x512) ![1, 64, 384] S1x64x128.size inb_S2x128x512_S1x64x128_1_64_384, k0_pay745 (k0_pay22 (F := Ideal) v53) (k0_pay23 (F := Ideal) v53) (k0_pay24 (F := Ideal) v53) (k0_pay45 (F := Ideal) v108 v131) (k0_pay46 (F := Ideal) v108 v131) (k0_pay47 (F := Ideal) v108 v131) rowI laneI (k0_pay75 (F := Ideal)) (k0_pay76 rowI)⟩

include h53 h108 in
open Classical in
theorem lp113_good (h131 : v131 = if P.ok then 1#1 else 0#1) : LGood P (lp113 v53 v108 v131) := by
  refine st_good P (selP_is 98 (by omega) 1 (by omega) slices_S128x128_o64_0_S64x128 (colP2 P v108 h108 v131 h131) (selP_is 97 (by omega) 1 (by omega) slices_S128x128_o64_0_S64x128 (colP1 P v108 h108 v131 h131) (selP_is 96 (by omega) 1 (by omega) slices_S128x128_o64_0_S64x128 (colP0 P v108 h108 v131 h131) (selW_is 2 (by omega) 1 (by omega) slices_S128x128_o64_0_S64x128 (col8 P v53 h53) (selW_is 1 (by omega) 1 (by omega) slices_S128x128_o64_0_S64x128 (col7 P v53 h53) (selW_is 0 (by omega) 1 (by omega) slices_S128x128_o64_0_S64x128 (col6 P v53 h53) zer_is)))))) 1 1 3 _ (by rfl) _ _ (by with_unfolding_all exact rfl) ?_
  intro o l ho hl
  exact lhz_13 P 1 o l ho hl

/-- The stores of the left operand, the last first. -/
def lhsL (v53 : Vec Ideal S9x128 .i32) (v108 : IVec S128x128 32) (v131 : BitVec 1) : List LPiece :=
  [lp113 v53 v108 v131, lp112 v53, lp111 v53, lp110 v53, lp103 v53 v108 v131, lp102 v53, lp101 v53, lp100 v53, lp013 v53 v108 v131, lp012 v53, lp011 v53, lp010 v53, lp003 v53 v108 v131, lp002 v53, lp001 v53, lp000 v53]

include h53 h108 in
open Classical in
theorem lhsL_good (h131 : v131 = if P.ok then 1#1 else 0#1) : ∀ p ∈ lhsL v53 v108 v131, LGood P p := by
  intro p hp
  simp only [lhsL, List.mem_cons, List.not_mem_nil, or_false] at hp
  rcases hp with rfl | rfl | rfl | rfl | rfl | rfl | rfl | rfl | rfl | rfl | rfl | rfl | rfl | rfl | rfl | rfl
  · exact lp113_good P v53 h53 v108 h108 v131 h131
  · exact lp112_good P v53 h53
  · exact lp111_good P v53 h53
  · exact lp110_good P v53
  · exact lp103_good P v53 h53 v108 h108 v131 h131
  · exact lp102_good P v53 h53
  · exact lp101_good P v53 h53
  · exact lp100_good P v53 h53
  · exact lp013_good P v53 h53 v108 h108 v131 h131
  · exact lp012_good P v53 h53
  · exact lp011_good P v53 h53
  · exact lp010_good P v53
  · exact lp003_good P v53 h53 v108 h108 v131 h131
  · exact lp002_good P v53 h53
  · exact lp001_good P v53 h53
  · exact lp000_good P v53 h53

theorem lhsL_cov (y : S2x128x512.Idx) : ∃ p ∈ lhsL v53 v108 v131, y ∈ p.1.set := by
  have y0 : (y 0).val < 2 := (y 0).isLt
  have y1 : (y 1).val < 128 := (y 1).isLt
  have y2 : (y 2).val < 512 := (y 2).isLt
  have mem : ∀ (g ho kb : ℕ) (p : LPiece) (off : Fin 3 → ℕ) (e : off = ![g, 64 * ho, 128 * kb]) (hoff) (v) (hp : p = ⟨Rect.unit (s := S2x128x512) off S1x64x128.size hoff, v⟩), (y 0).val = g → (y 1).val / 64 = ho → (y 2).val / 128 = kb → y ∈ p.1.set := by
    intro g ho kb p off e hoff v hp a b c
    subst hp e
    show y ∈ (Rect.unit (s := S2x128x512) ![g, 64 * ho, 128 * kb] S1x64x128.size hoff).set
    refine Rect.mem_set_unit.2 fun (q : Fin 3) => ?_
    match q with
    | ⟨0, _⟩ => show g ≤ (y 0).val ∧ (y 0).val < g + 1; omega
    | ⟨1, _⟩ => show 64 * ho ≤ (y 1).val ∧ (y 1).val < 64 * ho + 64; omega
    | ⟨2, _⟩ => show 128 * kb ≤ (y 2).val ∧ (y 2).val < 128 * kb + 128; omega
  have c0 : (y 0).val = 0 ∨ (y 0).val = 1 := by omega
  have c1 : (y 1).val / 64 = 0 ∨ (y 1).val / 64 = 1 := by omega
  have c2 : (y 2).val / 128 = 0 ∨ (y 2).val / 128 = 1 ∨ (y 2).val / 128 = 2 ∨ (y 2).val / 128 = 3 := by omega
  rcases c0 with c0 | c0 <;> rcases c1 with c1 | c1 <;> rcases c2 with c2 | c2 | c2 | c2
  · exact ⟨lp000 v53, by simp only [lhsL, List.mem_cons, true_or, or_true], mem 0 0 0 _ _ (by rfl) _ _ rfl c0 c1 c2⟩
  · exact ⟨lp001 v53, by simp only [lhsL, List.mem_cons, true_or, or_true], mem 0 0 1 _ _ (by rfl) _ _ rfl c0 c1 c2⟩
  · exact ⟨lp002 v53, by simp only [lhsL, List.mem_cons, true_or, or_true], mem 0 0 2 _ _ (by rfl) _ _ rfl c0 c1 c2⟩
  · exact ⟨lp003 v53 v108 v131, by simp only [lhsL, List.mem_cons, true_or, or_true], mem 0 0 3 _ _ (by rfl) _ _ rfl c0 c1 c2⟩
  · exact ⟨lp010 v53, by simp only [lhsL, List.mem_cons, true_or, or_true], mem 0 1 0 _ _ (by rfl) _ _ rfl c0 c1 c2⟩
  · exact ⟨lp011 v53, by simp only [lhsL, List.mem_cons, true_or, or_true], mem 0 1 1 _ _ (by rfl) _ _ rfl c0 c1 c2⟩
  · exact ⟨lp012 v53, by simp only [lhsL, List.mem_cons, true_or, or_true], mem 0 1 2 _ _ (by rfl) _ _ rfl c0 c1 c2⟩
  · exact ⟨lp013 v53 v108 v131, by simp only [lhsL, List.mem_cons, true_or, or_true], mem 0 1 3 _ _ (by rfl) _ _ rfl c0 c1 c2⟩
  · exact ⟨lp100 v53, by simp only [lhsL, List.mem_cons, true_or, or_true], mem 1 0 0 _ _ (by rfl) _ _ rfl c0 c1 c2⟩
  · exact ⟨lp101 v53, by simp only [lhsL, List.mem_cons, true_or, or_true], mem 1 0 1 _ _ (by rfl) _ _ rfl c0 c1 c2⟩
  · exact ⟨lp102 v53, by simp only [lhsL, List.mem_cons, true_or, or_true], mem 1 0 2 _ _ (by rfl) _ _ rfl c0 c1 c2⟩
  · exact ⟨lp103 v53 v108 v131, by simp only [lhsL, List.mem_cons, true_or, or_true], mem 1 0 3 _ _ (by rfl) _ _ rfl c0 c1 c2⟩
  · exact ⟨lp110 v53, by simp only [lhsL, List.mem_cons, true_or, or_true], mem 1 1 0 _ _ (by rfl) _ _ rfl c0 c1 c2⟩
  · exact ⟨lp111 v53, by simp only [lhsL, List.mem_cons, true_or, or_true], mem 1 1 1 _ _ (by rfl) _ _ rfl c0 c1 c2⟩
  · exact ⟨lp112 v53, by simp only [lhsL, List.mem_cons, true_or, or_true], mem 1 1 2 _ _ (by rfl) _ _ rfl c0 c1 c2⟩
  · exact ⟨lp113 v53 v108 v131, by simp only [lhsL, List.mem_cons, true_or, or_true], mem 1 1 3 _ _ (by rfl) _ _ rfl c0 c1 c2⟩

include h53 h108 in
open Classical in
theorem lhs_read (h131 : v131 = if P.ok then 1#1 else 0#1) {κ : Kind} {sp : Space} (v : View sig κ sp S2x128x512 .bf16) (f : v.ty.Contents (Elt Ideal)) (y : S2x128x512.Idx) :
    v.read (Elt Ideal) (v.writes (Elt Ideal) f (lhsL v53 v108 v131)) y = P.lh (y 0).val (y 1).val (y 2).val :=
  View.read_writes_apply_of_pieces v f (fun y => P.lh (y 0).val (y 1).val (y 2).val) _ (fun p hp z => lhsL_good P v53 h53 v108 h108 v131 h131 p hp z) y (lhsL_cov v53 v108 v131 y)

end Cert.KernelIdeal.Val
end
-- ==== Proof.Prep2.lean ====
module

public import proofs.«01_k».proof.Proof.Prep

@[expose] public section

set_option maxRecDepth 16384
set_option maxHeartbeats 100000

noncomputable section

namespace Cert.KernelIdeal.Val

open Cert.KernelIdeal Cert.KernelIdeal.Gen Cert.Requant
open Idealize.ShloMosaic Idealize.ShloMosaic.TcCoe Idealize.ShloMosaic.Tactic

/-- The stores of the short form's constants, the last first. -/
def parL (v1 v2 v3 : BitVec 32) (v109 v114 : Vec Ideal S1x128 .i32) : List (View.Piece (Elt Ideal) S5x128x128 .f32) :=
  [⟨Rect.unit (s := S5x128x128) ![4, 0, 0] S1x128x128.size inb_S5x128x128_S1x128x128_4_0_0, k0_pay40 (k0_pay39 (F := Ideal) v1 (k0_pay33 (F := Ideal) v114))⟩,
   ⟨Rect.unit (s := S5x128x128) ![3, 0, 0] S1x128x128.size inb_S5x128x128_S1x128x128_3_0_0, k0_pay38 (F := Ideal) v1 v3 (k0_pay33 (F := Ideal) v114)⟩,
   ⟨Rect.unit (s := S5x128x128) ![2, 0, 0] S1x128x128.size inb_S5x128x128_S1x128x128_2_0_0, k0_pay37 (F := Ideal) v1 v2 (k0_pay33 (F := Ideal) v114)⟩,
   ⟨Rect.unit (s := S5x128x128) ![1, 0, 0] S1x128x128.size inb_S5x128x128_S1x128x128_1_0_0, k0_pay36 (F := Ideal) (k0_pay26 (F := Ideal) v109)⟩,
   ⟨Rect.unit (s := S5x128x128) ![0, 0, 0] S1x128x128.size inb_S5x128x128_S1x128x128_0_0_0, k0_pay35 (F := Ideal) (k0_pay26 (F := Ideal) v109)⟩]

/-- The stores of the integer parameters, the last first. -/
def rawL (v108 : IVec S128x128 32) (v109 v114 : Vec Ideal S1x128 .i32) : List (View.Piece (Elt Ideal) S3x128x128 .i32) :=
  [⟨Rect.unit (s := S3x128x128) ![2, 0, 0] S1x128x128.size inb_S3x128x128_S1x128x128_2_0_0, k0_pay32 (F := Ideal) v114⟩,
   ⟨Rect.unit (s := S3x128x128) ![1, 0, 0] S1x128x128.size inb_S3x128x128_S1x128x128_1_0_0, k0_pay31 (F := Ideal) v109⟩,
   ⟨Rect.unit (s := S3x128x128) ![0, 0, 0] S1x128x128.size inb_S3x128x128_S1x128x128_0_0_0, k0_pay30 v108⟩]

variable (P : Pars) (v109 v114 : Vec Ideal S1x128 .i32) (v108 : IVec S128x128 32)

theorem idx3 (y : S1x128x128.Idx) : y = ix3 (0 : Fin 1) (y 1 : Fin 128) (y 2 : Fin 128) := by
  funext b
  match b with
  | ⟨0, _⟩ => exact Fin.ext (by have h1 : (y 0).val < 1 := (y 0).isLt; show (y 0).val = 0; omega)
  | ⟨1, _⟩ => rfl
  | ⟨2, _⟩ => rfl

/-- The stored shapes carry the channel on the second axis. -/
theorem p30 (m l : Fin 128) : k0_pay30 v108 (ix3 0 m l) = v108 (ix2 m l) := by
  unfold k0_pay30; pointwise []
theorem p26 (m l : Fin 128) : k0_pay26 (F := Ideal) v109 (ix2 m l) = v109 (ix2 0 m) := by
  unfold k0_pay26; pointwise []
theorem p27 (m l : Fin 128) : k0_pay27 (F := Ideal) v114 (ix2 m l) = 0#32 - v114 (ix2 0 m) := by
  have : k0_pay27 (F := Ideal) v114 (ix2 m l) = 0#32 - k0_pay26 (F := Ideal) v114 (ix2 m l) := by with_unfolding_all exact rfl
  rw [this, p26]
theorem p31 (m l : Fin 128) : k0_pay31 (F := Ideal) v109 (ix3 0 m l) = v109 (ix2 0 m) := by
  rw [← p26 v109 m l]
  unfold k0_pay31; pointwise []
theorem p32 (m l : Fin 128) : k0_pay32 (F := Ideal) v114 (ix3 0 m l) = 0#32 - v114 (ix2 0 m) := by
  rw [← p27 v114 m l]
  unfold k0_pay32; pointwise []
theorem cast3 {α : Type} (g : S128x128.Idx → α) (m l : Fin 128) : shapeCast S1x128x128 g shapeCasts_S128x128_S1x128x128 (ix3 0 m l) = g (ix2 m l) := by
  pointwise []
theorem p33 (m l : Fin 128) : k0_pay33 (F := Ideal) v114 (ix2 m l) = IntOp.addi 159#32 (0#32 - v114 (ix2 0 m)) := by
  rw [← p27 v114 m l]
  rfl
theorem p34 (m l : Fin 128) : k0_pay34 (F := Ideal) (k0_pay33 (F := Ideal) v114) (ix2 m l) = unitOf (0#32 - v114 (ix2 0 m)) := by
  unfold unitOf
  rw [← p33 v114 m l]
  rfl
theorem p35 (m l : Fin 128) : k0_pay35 (F := Ideal) (k0_pay26 (F := Ideal) v109) (ix3 0 m l) = fastC (v109 (ix2 0 m)) := by
  rw [← p26 v109 m l]
  unfold k0_pay35
  refine (cast3 _ m l).trans ?_
  unfold fastC
  rfl
theorem p37 (v1 v2 : BitVec 32) (m l : Fin 128) : k0_pay37 (F := Ideal) v1 v2 (k0_pay33 (F := Ideal) v114) (ix3 0 m l) = fastP v2 v1 (0#32 - v114 (ix2 0 m)) := by
  unfold k0_pay37
  refine (cast3 _ m l).trans ?_
  unfold fastP
  rw [← p34 v114 m l]
  rfl
theorem p38 (v1 v2 : BitVec 32) (m l : Fin 128) : k0_pay38 (F := Ideal) v1 v2 (k0_pay33 (F := Ideal) v114) (ix3 0 m l) = fastP v2 v1 (0#32 - v114 (ix2 0 m)) := by
  unfold k0_pay38
  refine (cast3 _ m l).trans ?_
  unfold fastP
  rw [← p34 v114 m l]
  rfl
theorem p40 (v1 : BitVec 32) (m l : Fin 128) : k0_pay40 (k0_pay39 (F := Ideal) v1 (k0_pay33 (F := Ideal) v114)) (ix3 0 m l) = fastZ v1 (0#32 - v114 (ix2 0 m)) := by
  unfold k0_pay40
  refine (cast3 _ m l).trans ?_
  unfold fastZ
  rw [← p34 v114 m l]
  rfl

variable (h109 : ∀ c : Fin 128, v109 (ix2 0 c) = P.m c.val) (h114 : ∀ c : Fin 128, v114 (ix2 0 c) = P.s c.val)

include h109 h114 in
theorem raw_read (h108 : ∀ m l : Fin 128, v108 (ix2 m l) = P.bias m.val) {κ : Kind} {sp : Space} (v : View sig κ sp S3x128x128 .i32) (f : v.ty.Contents (Elt Ideal)) (y : S3x128x128.Idx) :
    v.read (Elt Ideal) (v.writes (Elt Ideal) f (rawL v108 v109 v114)) y = P.raw (y 0).val (y 1).val := by
  refine View.read_writes_apply_of_pieces v f (fun y => P.raw (y 0).val (y 1).val) _ ?_ y ?_
  · intro p hp
    simp only [rawL, List.mem_cons, List.not_mem_nil, or_false] at hp
    rcases hp with rfl | rfl | rfl <;> intro (z : S1x128x128.Idx) <;> have z0 : (z 0).val < 1 := (z 0).isLt
    · show k0_pay32 (F := Ideal) v114 z = P.raw (2 + 1 * (z 0).val) (0 + 1 * (z 1).val)
      rw [show (2 + 1 * (z 0).val) = 2 by omega, show 0 + 1 * (z 1).val = (z 1).val by omega]
      exact (congrArg _ (idx3 z)).trans ((p32 v114 (z 1) (z 2)).trans (congrArg (fun q => 0#32 - q) (h114 (z 1))))
    · show k0_pay31 (F := Ideal) v109 z = P.raw (1 + 1 * (z 0).val) (0 + 1 * (z 1).val)
      rw [show (1 + 1 * (z 0).val) = 1 by omega, show 0 + 1 * (z 1).val = (z 1).val by omega]
      exact (congrArg _ (idx3 z)).trans ((p31 v109 (z 1) (z 2)).trans (congrArg id (h109 (z 1))))
    · show k0_pay30 v108 z = P.raw (0 + 1 * (z 0).val) (0 + 1 * (z 1).val)
      rw [show (0 + 1 * (z 0).val) = 0 by omega, show 0 + 1 * (z 1).val = (z 1).val by omega]
      refine (congrArg _ (idx3 z)).trans ?_
      exact (p30 v108 (z 1) (z 2)).trans (h108 (z 1) (z 2))
  · have y0 : (y 0).val < 3 := (y 0).isLt
    have y1 : (y 1).val < 128 := (y 1).isLt
    have y2 : (y 2).val < 128 := (y 2).isLt
    have mem : ∀ (g : ℕ) (hoff : ∀ a : Fin 3, (![g, 0, 0] : Fin 3 → ℕ) a + S1x128x128.size a ≤ S3x128x128.size a), (y 0).val = g → y ∈ (Rect.unit (s := S3x128x128) ![g, 0, 0] S1x128x128.size hoff).set := by
      intro g hoff e
      refine Rect.mem_set_unit.2 fun (a : Fin 3) => ?_
      match a with
      | ⟨0, _⟩ => show g ≤ (y 0).val ∧ (y 0).val < g + 1; omega
      | ⟨1, _⟩ => show 0 ≤ (y 1).val ∧ (y 1).val < 0 + 128; omega
      | ⟨2, _⟩ => show 0 ≤ (y 2).val ∧ (y 2).val < 0 + 128; omega
    have c : (y 0).val = 2 ∨ (y 0).val = 1 ∨ (y 0).val = 0 := by omega
    rcases c with c | c | c
    · exact ⟨_, List.mem_cons_self, mem 2 inb_S3x128x128_S1x128x128_2_0_0 c⟩
    · exact ⟨_, List.mem_cons_of_mem _ List.mem_cons_self, mem 1 inb_S3x128x128_S1x128x128_1_0_0 c⟩
    · exact ⟨_, List.mem_cons_of_mem _ (List.mem_cons_of_mem _ List.mem_cons_self), mem 0 inb_S3x128x128_S1x128x128_0_0_0 c⟩

include h109 h114 in
theorem par_read {κ : Kind} {sp : Space} (v : View sig κ sp S5x128x128 .f32) (f : v.ty.Contents (Elt Ideal)) (y : S5x128x128.Idx) (hy : (y 0).val ≠ 1) :
    v.read (Elt Ideal) (v.writes (Elt Ideal) f (parL P.ozp P.lo P.hi v109 v114)) y = P.par (y 0).val (y 1).val := by
  have y0 : (y 0).val < 5 := (y 0).isLt
  have y1 : (y 1).val < 128 := (y 1).isLt
  have y2 : (y 2).val < 128 := (y 2).isLt
  let G : S5x128x128.Idx → EReal := fun y => if (y 0).val = 1 then k0_pay36 (F := Ideal) (k0_pay26 (F := Ideal) v109) (ix3 (0 : Fin 1) (y 1 : Fin 128) (y 2 : Fin 128)) else P.par (y 0).val (y 1).val
  have key := View.read_writes_apply_of_pieces v f G (parL P.ozp P.lo P.hi v109 v114) ?_ y ?_
  · rw [key]; exact if_neg hy
  · intro p hp
    simp only [parL, List.mem_cons, List.not_mem_nil, or_false] at hp
    rcases hp with rfl | rfl | rfl | rfl | rfl <;> intro (z : S1x128x128.Idx) <;> have z0 : (z 0).val < 1 := (z 0).isLt
    · show k0_pay40 (k0_pay39 (F := Ideal) P.ozp (k0_pay33 (F := Ideal) v114)) z = if 4 + 1 * (z 0).val = 1 then _ else P.par (4 + 1 * (z 0).val) (0 + 1 * (z 1).val)
      rw [if_neg (by omega), show (4 + 1 * (z 0).val) = 4 by omega, show 0 + 1 * (z 1).val = (z 1).val by omega]
      exact (congrArg _ (idx3 z)).trans ((p40 v114 P.ozp (z 1) (z 2)).trans (congrArg (fun q => fastZ P.ozp (0#32 - q)) (h114 (z 1))))
    · show k0_pay38 (F := Ideal) P.ozp P.hi (k0_pay33 (F := Ideal) v114) z = if 3 + 1 * (z 0).val = 1 then _ else P.par (3 + 1 * (z 0).val) (0 + 1 * (z 1).val)
      rw [if_neg (by omega), show (3 + 1 * (z 0).val) = 3 by omega, show 0 + 1 * (z 1).val = (z 1).val by omega]
      exact (congrArg _ (idx3 z)).trans ((p38 v114 P.ozp P.hi (z 1) (z 2)).trans (congrArg (fun q => fastP P.hi P.ozp (0#32 - q)) (h114 (z 1))))
    · show k0_pay37 (F := Ideal) P.ozp P.lo (k0_pay33 (F := Ideal) v114) z = if 2 + 1 * (z 0).val = 1 then _ else P.par (2 + 1 * (z 0).val) (0 + 1 * (z 1).val)
      rw [if_neg (by omega), show (2 + 1 * (z 0).val) = 2 by omega, show 0 + 1 * (z 1).val = (z 1).val by omega]
      exact (congrArg _ (idx3 z)).trans ((p37 v114 P.ozp P.lo (z 1) (z 2)).trans (congrArg (fun q => fastP P.lo P.ozp (0#32 - q)) (h114 (z 1))))
    · skip
      have ee : ∀ w : S5x128x128.Idx, (w 0).val = 1 → G w = k0_pay36 (F := Ideal) (k0_pay26 (F := Ideal) v109) (ix3 (0 : Fin 1) (w 1 : Fin 128) (w 2 : Fin 128)) := fun w hw => if_pos hw
      refine Eq.trans ?_ (ee _ (by show 1 + 1 * (z 0).val = 1; omega)).symm
      refine (congrArg (k0_pay36 (F := Ideal) (k0_pay26 (F := Ideal) v109)) (idx3 z)).trans ?_
      congr 2
      · exact Fin.ext (by show (z 1).val = 0 + 1 * (z 1).val; omega)
      · exact Fin.ext (by show (z 2).val = 0 + 1 * (z 2).val; omega)
    · show k0_pay35 (F := Ideal) (k0_pay26 (F := Ideal) v109) z = if 0 + 1 * (z 0).val = 1 then _ else P.par (0 + 1 * (z 0).val) (0 + 1 * (z 1).val)
      rw [if_neg (by omega), show (0 + 1 * (z 0).val) = 0 by omega, show 0 + 1 * (z 1).val = (z 1).val by omega]
      exact (congrArg _ (idx3 z)).trans ((p35 v109 (z 1) (z 2)).trans (congrArg fastC (h109 (z 1))))
  · have mem : ∀ (g : ℕ) (hoff : ∀ a : Fin 3, (![g, 0, 0] : Fin 3 → ℕ) a + S1x128x128.size a ≤ S5x128x128.size a), (y 0).val = g → y ∈ (Rect.unit (s := S5x128x128) ![g, 0, 0] S1x128x128.size hoff).set := by
      intro g hoff e
      refine Rect.mem_set_unit.2 fun (a : Fin 3) => ?_
      match a with
      | ⟨0, _⟩ => show g ≤ (y 0).val ∧ (y 0).val < g + 1; omega
      | ⟨1, _⟩ => show 0 ≤ (y 1).val ∧ (y 1).val < 0 + 128; omega
      | ⟨2, _⟩ => show 0 ≤ (y 2).val ∧ (y 2).val < 0 + 128; omega
    have c : (y 0).val = 4 ∨ (y 0).val = 3 ∨ (y 0).val = 2 ∨ (y 0).val = 0 := by omega
    rcases c with c | c | c | c
    · exact ⟨_, List.mem_cons_self, mem 4 inb_S5x128x128_S1x128x128_4_0_0 c⟩
    · exact ⟨_, List.mem_cons_of_mem _ List.mem_cons_self, mem 3 inb_S5x128x128_S1x128x128_3_0_0 c⟩
    · exact ⟨_, List.mem_cons_of_mem _ (List.mem_cons_of_mem _ List.mem_cons_self), mem 2 inb_S5x128x128_S1x128x128_2_0_0 c⟩
    · exact ⟨_, List.mem_cons_of_mem _ (List.mem_cons_of_mem _ (List.mem_cons_of_mem _ (List.mem_cons_of_mem _ List.mem_cons_self))), mem 0 inb_S5x128x128_S1x128x128_0_0_0 c⟩

/-- The scratch after the preparing step. -/
structure PrepOk (P : Pars) (d13 : Vec Ideal S2x128x512 .bf16) (d14 : Vec Ideal S5x128x128 .f32) (d15 : Vec Ideal S3x128x128 .i32) (d17 : Vec Ideal S1 .i32) : Prop where
  lh : ∀ y, d13 y = P.lh (y 0).val (y 1).val (y 2).val
  par : ∀ y : S5x128x128.Idx, (y 0).val ≠ 1 → d14 y = P.par (y 0).val (y 1).val
  raw : ∀ y : S3x128x128.Idx, d15 y = P.raw (y 0).val (y 1).val
  ok : ∀ y, d17 y = open Classical in if P.ok then 1#32 else 0#32

theorem ok_read (b : BitVec 32) {κ : Kind} {sp : Space} (v : View sig κ sp S1 .i32) (f : v.ty.Contents (Elt Ideal)) (y : S1.Idx) (h) :
    v.read (Elt Ideal) (v.writes (Elt Ideal) f [⟨Rect.unit (s := S1) ![0] S1.size h, fun _ => b⟩]) y = b := by
  refine View.read_writes_apply_of_pieces v f (fun _ => b) _ ?_ y ?_
  · intro p hp
    simp only [List.mem_cons, List.not_mem_nil, or_false] at hp
    subst hp; intro z; rfl
  · refine ⟨_, List.mem_cons_self, ?_⟩
    show y ∈ (Rect.unit (s := S1) ![0] S1.size h).set
    refine Rect.mem_set_unit.2 fun (a : Fin 1) => ?_
    match a with
    | ⟨0, _⟩ => have := (y 0).isLt; change _ < 1 at this; show 0 ≤ (y 0).val ∧ (y 0).val < 0 + 1; omega

theorem ok_ext (b : BitVec 1) (p : Prop) [Decidable p] (h : b = if p then 1#1 else 0#1) : Scalar.extui b = (if p then 1#32 else 0#32 : BitVec 32) := by
  subst h; split_ifs <;> rfl

end Cert.KernelIdeal.Val
end
-- ==== Proof.Heads.lean ====
module

public import proofs.«01_k».proof.Proof.Taps
public import proofs.«01_k».proof.Proof.Gen.KernelIdeal.Skeleton
public import Idealize.ShloMosaic.Lib.Pointwise

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

theorem lane_apply (s : Fin 8) (l : Fin 128) : iota .tc S8x128 32 [1] iota_S8x128_d1_w32 (ix2 s l) = BitVec.ofNat 32 l.val := by
  pointwise []

/-- The lane vectors of the body. -/
theorem lanes_body : Lanes k0_pay747 (k0_pay1 k0_pay748 k0_pay749 k0_pay750) (k0_pay2 (iota .tc S8x128 32 [1] iota_S8x128_d1_w32)) (k0_pay3 (iota .tc S8x128 32 [1] iota_S8x128_d1_w32)) where
  ev s l := by
    have : k0_pay747 (ix2 s l) = Scalar.select (IntOp.cmpi .slt (iota .tc S8x128 32 [1] iota_S8x128_d1_w32 (ix2 s l)) 64#32) (IntOp.muli 2#32 (iota .tc S8x128 32 [1] iota_S8x128_d1_w32 (ix2 s l))) (IntOp.addi (IntOp.muli 2#32 (IntOp.subi (iota .tc S8x128 32 [1] iota_S8x128_d1_w32 (ix2 s l)) 64#32)) 1#32) := by
      with_unfolding_all exact rfl
    rw [this, lane_apply]; clear this; revert l; decide +kernel
  od s l := by
    have : k0_pay1 k0_pay748 k0_pay749 k0_pay750 (ix2 s l) = Scalar.select (IntOp.cmpi .slt (iota .tc S8x128 32 [1] iota_S8x128_d1_w32 (ix2 s l)) 64#32) (IntOp.addi (IntOp.muli 2#32 (iota .tc S8x128 32 [1] iota_S8x128_d1_w32 (ix2 s l))) 1#32) (IntOp.muli 2#32 (IntOp.subi (iota .tc S8x128 32 [1] iota_S8x128_d1_w32 (ix2 s l)) 64#32)) := by
      with_unfolding_all exact rfl
    rw [this, lane_apply]; clear this; revert l; decide +kernel
  lo s l := by
    have : k0_pay2 (iota .tc S8x128 32 [1] iota_S8x128_d1_w32) (ix2 s l) = IntOp.cmpi .slt (iota .tc S8x128 32 [1] iota_S8x128_d1_w32 (ix2 s l)) 64#32 := by
      with_unfolding_all exact rfl
    rw [this, lane_apply]; clear this; revert l; decide +kernel
  la s l := by
    have : k0_pay3 (iota .tc S8x128 32 [1] iota_S8x128_d1_w32) (ix2 s l) = IntOp.cmpi .eq (iota .tc S8x128 32 [1] iota_S8x128_d1_w32 (ix2 s l)) 127#32 := by
      with_unfolding_all exact rfl
    rw [this, lane_apply]; clear this; revert l; decide +kernel

/-- The word of four zero points. -/
theorem word_bits (v : BitVec 32) (q : ℕ) (hq : q < 32) :
    ((((v &&& 255#32) ||| ((v &&& 255#32) <<< 8)) ||| ((v &&& 255#32) <<< 16)) ||| ((v &&& 255#32) <<< 24)).getLsbD q = (v.setWidth 8).getLsbD (q % 8) := by
  have h : q % 8 < 8 := by omega
  have m : ∀ n : ℕ, n < 32 → (255#32).getLsbD n = decide (n < 8) := by decide
  simp only [BitVec.getLsbD_or, BitVec.getLsbD_shiftLeft, BitVec.getLsbD_and, BitVec.getLsbD_setWidth, h, decide_true, Bool.true_and]
  rw [m q hq, m (q - 8) (by omega), m (q - 16) (by omega), m (q - 24) (by omega)]
  have c : q / 8 = 0 ∨ q / 8 = 1 ∨ q / 8 = 2 ∨ q / 8 = 3 := by omega
  rcases c with c | c | c | c
  · have e : q % 8 = q := by omega
    have : q < 8 := by omega
    have : q < 16 := by omega
    have : q < 24 := by omega
    simp [*]
  · have e : q % 8 = q - 8 := by omega
    have : ¬ q < 8 := by omega
    have : q < 16 := by omega
    have : q < 24 := by omega
    have : q - 8 < 8 := by omega
    simp [*]
  · have e : q % 8 = q - 16 := by omega
    have : ¬ q < 8 := by omega
    have : ¬ q < 16 := by omega
    have : q < 24 := by omega
    have : ¬ q - 8 < 8 := by omega
    have : q - 16 < 8 := by omega
    simp [*]
  · have e : q % 8 = q - 24 := by omega
    have : ¬ q < 8 := by omega
    have : ¬ q < 16 := by omega
    have : ¬ q < 24 := by omega
    have : ¬ q - 8 < 8 := by omega
    have : ¬ q - 16 < 8 := by omega
    have : q - 24 < 8 := by omega
    simp [*]

theorem zp_word (v : BitVec 32) : HasBytes (k0_pay746 (F := Ideal) v) fun _ _ => v.setWidth 8 := by
  intro s l q hq
  exact word_bits v q hq

end Cert.KernelIdeal.Val
end
-- ==== Proof.Taps1.lean ====
module

public import proofs.«01_k».proof.Proof.Taps
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI

theorem off11_eq_0 : ∀ (k : Fin k0_t1_loop.trips), k0_off11 k 0#32 = ![0, k.val, 96 * 0 + 0, 0] := by decide +kernel

theorem off11_eq_1 : ∀ (k : Fin k0_t1_loop.trips), k0_off11 k 32#32 = ![0, k.val, 96 * 0 + 32, 0] := by decide +kernel

theorem off11_eq_2 : ∀ (k : Fin k0_t1_loop.trips), k0_off11 k 64#32 = ![0, k.val, 96 * 0 + 64, 0] := by decide +kernel

theorem off12_eq_0 : ∀ (k : Fin k0_t1_loop.trips), k0_off12 k 0#32 = ![0, k.val, 96 * 0 + 0, 128] := by decide +kernel

theorem off12_eq_1 : ∀ (k : Fin k0_t1_loop.trips), k0_off12 k 32#32 = ![0, k.val, 96 * 0 + 32, 128] := by decide +kernel

theorem off12_eq_2 : ∀ (k : Fin k0_t1_loop.trips), k0_off12 k 64#32 = ![0, k.val, 96 * 0 + 64, 128] := by decide +kernel

theorem off13_eq_0 : ∀ (k : Fin k0_t1_loop.trips), k0_off13 k 0#32 = ![0, k.val, 96 * 0 + 0, 256] := by decide +kernel

theorem off13_eq_1 : ∀ (k : Fin k0_t1_loop.trips), k0_off13 k 32#32 = ![0, k.val, 96 * 0 + 32, 256] := by decide +kernel

theorem off13_eq_2 : ∀ (k : Fin k0_t1_loop.trips), k0_off13 k 64#32 = ![0, k.val, 96 * 0 + 64, 256] := by decide +kernel

theorem off14_eq_0 : ∀ (k : Fin k0_t1_loop.trips), k0_off14 k 0#32 = ![0, k.val, 96 * 0 + 0, 384] := by decide +kernel

theorem off14_eq_1 : ∀ (k : Fin k0_t1_loop.trips), k0_off14 k 32#32 = ![0, k.val, 96 * 0 + 32, 384] := by decide +kernel

theorem off14_eq_2 : ∀ (k : Fin k0_t1_loop.trips), k0_off14 k 64#32 = ![0, k.val, 96 * 0 + 64, 384] := by decide +kernel

theorem off15_eq_0 : ∀ (k : Fin k0_t1_loop.trips), k0_off15 k 0#32 = ![0, k.val, 96 * 0 + 0, 512] := by decide +kernel

theorem off15_eq_1 : ∀ (k : Fin k0_t1_loop.trips), k0_off15 k 32#32 = ![0, k.val, 96 * 0 + 32, 512] := by decide +kernel

theorem off15_eq_2 : ∀ (k : Fin k0_t1_loop.trips), k0_off15 k 64#32 = ![0, k.val, 96 * 0 + 64, 512] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (X_arg6 : BufTy.Contents (Elt Ideal) arg6.view.ty)

/-- The ten tiles a trip of `k0_t1` reads. -/
def tiles_t1 (k : Fin k0_t1_loop.trips) : Fin 10 → IVec S8x128 32 :=
  tilesOf (tileW (arg6.view.readAt (Elt Ideal) (Rect.unit (s := S1x64x64x640) (k0_off1 k) S1x1x32x128.size (k0_off1_inb k)).toLoadRect X_arg6))
    (tileW (arg6.view.readAt (Elt Ideal) (Rect.unit (s := S1x64x64x640) (k0_off2 k) S1x1x32x128.size (k0_off2_inb k)).toLoadRect X_arg6))
    (tileW (arg6.view.readAt (Elt Ideal) (Rect.unit (s := S1x64x64x640) (k0_off3 k) S1x1x32x128.size (k0_off3_inb k)).toLoadRect X_arg6))
    (tileW (arg6.view.readAt (Elt Ideal) (Rect.unit (s := S1x64x64x640) (k0_off4 k) S1x1x32x128.size (k0_off4_inb k)).toLoadRect X_arg6))
    (tileW (arg6.view.readAt (Elt Ideal) (Rect.unit (s := S1x64x64x640) (k0_off5 k) S1x1x32x128.size (k0_off5_inb k)).toLoadRect X_arg6))
    (tileW (arg6.view.readAt (Elt Ideal) (Rect.unit (s := S1x64x64x640) (k0_off6 k) S1x1x32x128.size (k0_off6_inb k)).toLoadRect X_arg6))
    (tileW (arg6.view.readAt (Elt Ideal) (Rect.unit (s := S1x64x64x640) (k0_off7 k) S1x1x32x128.size (k0_off7_inb k)).toLoadRect X_arg6))
    (tileW (arg6.view.readAt (Elt Ideal) (Rect.unit (s := S1x64x64x640) (k0_off8 k) S1x1x32x128.size (k0_off8_inb k)).toLoadRect X_arg6))
    (tileW (arg6.view.readAt (Elt Ideal) (Rect.unit (s := S1x64x64x640) (k0_off9 k) S1x1x32x128.size (k0_off9_inb k)).toLoadRect X_arg6))
    (tileW (arg6.view.readAt (Elt Ideal) (Rect.unit (s := S1x64x64x640) (k0_off10 k) S1x1x32x128.size (k0_off10_inb k)).toLoadRect X_arg6))

set_option maxHeartbeats 40000000 in
theorem isTrip_t1 (k : Fin k0_t1_loop.trips) :
    List.Forall₂ (IsTap (mW v28 (k0_pay1 v30 v34 v36) (k0_pay2 v17) (k0_pay3 v17) v16 (tiles_t1 arg6 X_arg6 k)) (k.val))
      (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k) [(0, 0, 2, 4), (0, 0, 2, 3), (0, 0, 2, 2), (0, 0, 2, 1), (0, 0, 2, 0), (0, 0, 1, 4), (0, 0, 1, 3), (0, 0, 1, 2), (0, 0, 1, 1), (0, 0, 1, 0), (0, 0, 0, 4), (0, 0, 0, 3), (0, 0, 0, 2), (0, 0, 0, 1), (0, 0, 0, 0)] := by
  unfold tripL_k0_t1 trip_k0_t1 tiles_t1
  simp only []
  refine .cons (isTap_2_4 _ _ _ _ _ _ _ _ _ _ _ _ _ _ _ _ _ _ _ _ _ (off15_eq_2 k) ?_) ?_
  · with_unfolding_all exact rfl
  refine .cons (isTap_2_3 _ _ _ _ _ _ _ _ _ _ _ _ _ _ _ _ _ _ _ _ _ (off14_eq_2 k) ?_) ?_
  · with_unfolding_all exact rfl
  refine .cons (isTap_2_2 _ _ _ _ _ _ _ _ _ _ _ _ _ _ _ _ _ _ _ _ _ (off13_eq_2 k) ?_) ?_
  · with_unfolding_all exact rfl
  refine .cons (isTap_2_1 _ _ _ _ _ _ _ _ _ _ _ _ _ _ _ _ _ _ _ _ _ (off12_eq_2 k) ?_) ?_
  · with_unfolding_all exact rfl
  refine .cons (isTap_2_0 _ _ _ _ _ _ _ _ _ _ _ _ _ _ _ _ _ _ _ _ _ (off11_eq_2 k) ?_) ?_
  · with_unfolding_all exact rfl
  refine .cons (isTap_1_4 _ _ _ _ _ _ _ _ _ _ _ _ _ _ _ _ _ _ _ _ _ (off15_eq_1 k) ?_) ?_
  · with_unfolding_all exact rfl
  refine .cons (isTap_1_3 _ _ _ _ _ _ _ _ _ _ _ _ _ _ _ _ _ _ _ _ _ (off14_eq_1 k) ?_) ?_
  · with_unfolding_all exact rfl
  refine .cons (isTap_1_2 _ _ _ _ _ _ _ _ _ _ _ _ _ _ _ _ _ _ _ _ _ (off13_eq_1 k) ?_) ?_
  · with_unfolding_all exact rfl
  refine .cons (isTap_1_1 _ _ _ _ _ _ _ _ _ _ _ _ _ _ _ _ _ _ _ _ _ (off12_eq_1 k) ?_) ?_
  · with_unfolding_all exact rfl
  refine .cons (isTap_1_0 _ _ _ _ _ _ _ _ _ _ _ _ _ _ _ _ _ _ _ _ _ (off11_eq_1 k) ?_) ?_
  · with_unfolding_all exact rfl
  refine .cons (isTap_0_4 _ _ _ _ _ _ _ _ _ _ _ _ _ _ _ _ _ _ _ _ _ (off15_eq_0 k) ?_) ?_
  · with_unfolding_all exact rfl
  refine .cons (isTap_0_3 _ _ _ _ _ _ _ _ _ _ _ _ _ _ _ _ _ _ _ _ _ (off14_eq_0 k) ?_) ?_
  · with_unfolding_all exact rfl
  refine .cons (isTap_0_2 _ _ _ _ _ _ _ _ _ _ _ _ _ _ _ _ _ _ _ _ _ (off13_eq_0 k) ?_) ?_
  · with_unfolding_all exact rfl
  refine .cons (isTap_0_1 _ _ _ _ _ _ _ _ _ _ _ _ _ _ _ _ _ _ _ _ _ (off12_eq_0 k) ?_) ?_
  · with_unfolding_all exact rfl
  refine .cons (isTap_0_0 _ _ _ _ _ _ _ _ _ _ _ _ _ _ _ _ _ _ _ _ _ (off11_eq_0 k) ?_) ?_
  · with_unfolding_all exact rfl
  exact .nil
theorem off1_eq : ∀ (k : Fin k0_t1_loop.trips), k0_off1 k = ![0, 0, 32 * (k.val), 0] := by decide +kernel
theorem off2_eq : ∀ (k : Fin k0_t1_loop.trips), k0_off2 k = ![0, 0, 32 * (k.val), 128] := by decide +kernel
theorem off3_eq : ∀ (k : Fin k0_t1_loop.trips), k0_off3 k = ![0, 0, 32 * (k.val), 256] := by decide +kernel
theorem off4_eq : ∀ (k : Fin k0_t1_loop.trips), k0_off4 k = ![0, 0, 32 * (k.val), 384] := by decide +kernel
theorem off5_eq : ∀ (k : Fin k0_t1_loop.trips), k0_off5 k = ![0, 0, 32 * (k.val), 512] := by decide +kernel
theorem off6_eq : ∀ (k : Fin k0_t1_loop.trips), k0_off6 k = ![0, 32, 32 * (k.val), 0] := by decide +kernel
theorem off7_eq : ∀ (k : Fin k0_t1_loop.trips), k0_off7 k = ![0, 32, 32 * (k.val), 128] := by decide +kernel
theorem off8_eq : ∀ (k : Fin k0_t1_loop.trips), k0_off8 k = ![0, 32, 32 * (k.val), 256] := by decide +kernel
theorem off9_eq : ∀ (k : Fin k0_t1_loop.trips), k0_off9 k = ![0, 32, 32 * (k.val), 384] := by decide +kernel
theorem off10_eq : ∀ (k : Fin k0_t1_loop.trips), k0_off10 k = ![0, 32, 32 * (k.val), 512] := by decide +kernel

theorem isTiles_t1 (k : Fin k0_t1_loop.trips) (X7 : S1x1x64x640.Idx → BitVec 8) (last : Bool) (z : BitVec 8) (hz : HasBytes v16 fun _ _ => z)  :
    IsTiles (xvOf (fun y => arg6.view.read (Elt Ideal) X_arg6 y) X7 last z) (0) (k.val) (tiles_t1 arg6 X_arg6 k) := by
  have hk : k.val < 2 := k.isLt
  unfold tiles_t1
  intro p
  match p with
  | 0 =>
    refine tile_read _ _ _ _ _ _ _ (off1_eq k) (by omega) (by omega) (by omega) _ fun ch l => ?_
    exact (xvOf_row (fun y => arg6.view.read (Elt Ideal) X_arg6 y) X7 last z _ _ _ (by omega) (by omega) (by omega)).symm
  | 1 =>
    refine tile_read _ _ _ _ _ _ _ (off2_eq k) (by omega) (by omega) (by omega) _ fun ch l => ?_
    exact (xvOf_row (fun y => arg6.view.read (Elt Ideal) X_arg6 y) X7 last z _ _ _ (by omega) (by omega) (by omega)).symm
  | 2 =>
    refine tile_read _ _ _ _ _ _ _ (off3_eq k) (by omega) (by omega) (by omega) _ fun ch l => ?_
    exact (xvOf_row (fun y => arg6.view.read (Elt Ideal) X_arg6 y) X7 last z _ _ _ (by omega) (by omega) (by omega)).symm
  | 3 =>
    refine tile_read _ _ _ _ _ _ _ (off4_eq k) (by omega) (by omega) (by omega) _ fun ch l => ?_
    exact (xvOf_row (fun y => arg6.view.read (Elt Ideal) X_arg6 y) X7 last z _ _ _ (by omega) (by omega) (by omega)).symm
  | 4 =>
    refine tile_read _ _ _ _ _ _ _ (off5_eq k) (by omega) (by omega) (by omega) _ fun ch l => ?_
    exact (xvOf_row (fun y => arg6.view.read (Elt Ideal) X_arg6 y) X7 last z _ _ _ (by omega) (by omega) (by omega)).symm
  | 5 =>
    refine tile_read _ _ _ _ _ _ _ (off6_eq k) (by omega) (by omega) (by omega) _ fun ch l => ?_
    exact (xvOf_row (fun y => arg6.view.read (Elt Ideal) X_arg6 y) X7 last z _ _ _ (by omega) (by omega) (by omega)).symm
  | 6 =>
    refine tile_read _ _ _ _ _ _ _ (off7_eq k) (by omega) (by omega) (by omega) _ fun ch l => ?_
    exact (xvOf_row (fun y => arg6.view.read (Elt Ideal) X_arg6 y) X7 last z _ _ _ (by omega) (by omega) (by omega)).symm
  | 7 =>
    refine tile_read _ _ _ _ _ _ _ (off8_eq k) (by omega) (by omega) (by omega) _ fun ch l => ?_
    exact (xvOf_row (fun y => arg6.view.read (Elt Ideal) X_arg6 y) X7 last z _ _ _ (by omega) (by omega) (by omega)).symm
  | 8 =>
    refine tile_read _ _ _ _ _ _ _ (off9_eq k) (by omega) (by omega) (by omega) _ fun ch l => ?_
    exact (xvOf_row (fun y => arg6.view.read (Elt Ideal) X_arg6 y) X7 last z _ _ _ (by omega) (by omega) (by omega)).symm
  | 9 =>
    refine tile_read _ _ _ _ _ _ _ (off10_eq k) (by omega) (by omega) (by omega) _ fun ch l => ?_
    exact (xvOf_row (fun y => arg6.view.read (Elt Ideal) X_arg6 y) X7 last z _ _ _ (by omega) (by omega) (by omega)).symm

theorem puts_t1 (X7 : S1x1x64x640.Idx → BitVec 8) (last : Bool) (z : BitVec 8) (hz : HasBytes v16 fun _ _ => z)
    (HL : Lanes v28 (k0_pay1 v30 v34 v36) (k0_pay2 v17) (k0_pay3 v17)) :
    Puts (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 2) (wantX (xvOf (fun y => arg6.view.read (Elt Ideal) X_arg6 y) X7 last z) (0)) (fun y => (y 0).val = 0 ∧ (y 2).val < 96) := by
  have h := loop_puts (N := 2) (fun k => tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k) (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6) rfl (fun k => pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k)
    (wantX (xvOf (fun y => arg6.view.read (Elt Ideal) X_arg6 y) X7 last z) (0)) (fun k y => (y 0).val = 0 ∧ (y 2).val < 96 ∧ (y 1).val = k.val) ?_
  · refine ⟨h.1, fun y hy => h.2 y ?_⟩
    have y1 : (y 1).val < 2 := (y 1).isLt
    have y2 : (y 2).val < 864 := (y 2).isLt
    exact ⟨⟨(y 1).val, y1⟩, hy.1, hy.2, rfl⟩
  · intro k
    refine trip_puts HL hz (fun r c => xvOf_last _ _ _ _ r c) (isTiles_t1 arg6 v16 X_arg6 k X7 last z hz) _ _ (isTrip_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k) ?_ _ ?_
    · simp only [List.forall_mem_cons, List.not_mem_nil, false_imp_iff, implies_true, and_true]
      skip
      skip
      simp
    · intro y hy
      have y3 : (y 3).val < 640 := (y 3).isLt
      have y2 : (y 2).val < 864 := (y 2).isLt
      skip
      refine ⟨hy.2.2, ?_⟩
      have hb : ∀ (t : Fin 3) (j : Fin 5), (0, 0, t, j) ∈ ([(0, 0, 2, 4), (0, 0, 2, 3), (0, 0, 2, 2), (0, 0, 2, 1), (0, 0, 2, 0), (0, 0, 1, 4), (0, 0, 1, 3), (0, 0, 1, 2), (0, 0, 1, 1), (0, 0, 1, 0), (0, 0, 0, 4), (0, 0, 0, 3), (0, 0, 0, 2), (0, 0, 0, 1), (0, 0, 0, 0)] : List (ℕ × ℕ × Fin 3 × Fin 5)) := by
        intro t j
        fin_cases t <;> fin_cases j <;> simp
      rw [hy.1, show (y 2).val / 96 = 0 by omega]; exact hb _ _

end Cert.KernelIdeal.Val
end
-- ==== Proof.Taps6.lean ====
module

public import proofs.«01_k».proof.Proof.Taps
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI

theorem off80_eq_0 : ∀ (k : Fin k0_t6_loop.trips), k0_off80 k 0#32 = ![0, k.val, 96 * 0 + 0, 0] := by decide +kernel

theorem off80_eq_1 : ∀ (k : Fin k0_t6_loop.trips), k0_off80 k 32#32 = ![0, k.val, 96 * 0 + 32, 0] := by decide +kernel

theorem off80_eq_2 : ∀ (k : Fin k0_t6_loop.trips), k0_off80 k 64#32 = ![0, k.val, 96 * 0 + 64, 0] := by decide +kernel

theorem off81_eq_0 : ∀ (k : Fin k0_t6_loop.trips), k0_off81 k 0#32 = ![0, k.val, 96 * 0 + 0, 128] := by decide +kernel

theorem off81_eq_1 : ∀ (k : Fin k0_t6_loop.trips), k0_off81 k 32#32 = ![0, k.val, 96 * 0 + 32, 128] := by decide +kernel

theorem off81_eq_2 : ∀ (k : Fin k0_t6_loop.trips), k0_off81 k 64#32 = ![0, k.val, 96 * 0 + 64, 128] := by decide +kernel

theorem off82_eq_0 : ∀ (k : Fin k0_t6_loop.trips), k0_off82 k 0#32 = ![0, k.val, 96 * 0 + 0, 256] := by decide +kernel

theorem off82_eq_1 : ∀ (k : Fin k0_t6_loop.trips), k0_off82 k 32#32 = ![0, k.val, 96 * 0 + 32, 256] := by decide +kernel

theorem off82_eq_2 : ∀ (k : Fin k0_t6_loop.trips), k0_off82 k 64#32 = ![0, k.val, 96 * 0 + 64, 256] := by decide +kernel

theorem off83_eq_0 : ∀ (k : Fin k0_t6_loop.trips), k0_off83 k 0#32 = ![0, k.val, 96 * 0 + 0, 384] := by decide +kernel

theorem off83_eq_1 : ∀ (k : Fin k0_t6_loop.trips), k0_off83 k 32#32 = ![0, k.val, 96 * 0 + 32, 384] := by decide +kernel

theorem off83_eq_2 : ∀ (k : Fin k0_t6_loop.trips), k0_off83 k 64#32 = ![0, k.val, 96 * 0 + 64, 384] := by decide +kernel

theorem off84_eq_0 : ∀ (k : Fin k0_t6_loop.trips), k0_off84 k 0#32 = ![0, k.val, 96 * 0 + 0, 512] := by decide +kernel

theorem off84_eq_1 : ∀ (k : Fin k0_t6_loop.trips), k0_off84 k 32#32 = ![0, k.val, 96 * 0 + 32, 512] := by decide +kernel

theorem off84_eq_2 : ∀ (k : Fin k0_t6_loop.trips), k0_off84 k 64#32 = ![0, k.val, 96 * 0 + 64, 512] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (X_arg6 : BufTy.Contents (Elt Ideal) arg6.view.ty)

/-- The ten tiles a trip of `k0_t6` reads. -/
def tiles_t6 (k : Fin k0_t6_loop.trips) : Fin 10 → IVec S8x128 32 :=
  tilesOf (tileW (arg6.view.readAt (Elt Ideal) (Rect.unit (s := S1x64x64x640) (k0_off70 k) S1x1x32x128.size (k0_off70_inb k)).toLoadRect X_arg6))
    (tileW (arg6.view.readAt (Elt Ideal) (Rect.unit (s := S1x64x64x640) (k0_off71 k) S1x1x32x128.size (k0_off71_inb k)).toLoadRect X_arg6))
    (tileW (arg6.view.readAt (Elt Ideal) (Rect.unit (s := S1x64x64x640) (k0_off72 k) S1x1x32x128.size (k0_off72_inb k)).toLoadRect X_arg6))
    (tileW (arg6.view.readAt (Elt Ideal) (Rect.unit (s := S1x64x64x640) (k0_off73 k) S1x1x32x128.size (k0_off73_inb k)).toLoadRect X_arg6))
    (tileW (arg6.view.readAt (Elt Ideal) (Rect.unit (s := S1x64x64x640) (k0_off74 k) S1x1x32x128.size (k0_off74_inb k)).toLoadRect X_arg6))
    (tileW (arg6.view.readAt (Elt Ideal) (Rect.unit (s := S1x64x64x640) (k0_off75 k) S1x1x32x128.size (k0_off75_inb k)).toLoadRect X_arg6))
    (tileW (arg6.view.readAt (Elt Ideal) (Rect.unit (s := S1x64x64x640) (k0_off76 k) S1x1x32x128.size (k0_off76_inb k)).toLoadRect X_arg6))
    (tileW (arg6.view.readAt (Elt Ideal) (Rect.unit (s := S1x64x64x640) (k0_off77 k) S1x1x32x128.size (k0_off77_inb k)).toLoadRect X_arg6))
    (tileW (arg6.view.readAt (Elt Ideal) (Rect.unit (s := S1x64x64x640) (k0_off78 k) S1x1x32x128.size (k0_off78_inb k)).toLoadRect X_arg6))
    (tileW (arg6.view.readAt (Elt Ideal) (Rect.unit (s := S1x64x64x640) (k0_off79 k) S1x1x32x128.size (k0_off79_inb k)).toLoadRect X_arg6))

set_option maxHeartbeats 40000000 in
theorem isTrip_t6 (k : Fin k0_t6_loop.trips) :
    List.Forall₂ (IsTap (mW v28 (k0_pay1 v30 v34 v36) (k0_pay2 v17) (k0_pay3 v17) v16 (tiles_t6 arg6 X_arg6 k)) (k.val))
      (tripL_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k) [(0, 0, 2, 4), (0, 0, 2, 3), (0, 0, 2, 2), (0, 0, 2, 1), (0, 0, 2, 0), (0, 0, 1, 4), (0, 0, 1, 3), (0, 0, 1, 2), (0, 0, 1, 1), (0, 0, 1, 0), (0, 0, 0, 4), (0, 0, 0, 3), (0, 0, 0, 2), (0, 0, 0, 1), (0, 0, 0, 0)] := by
  unfold tripL_k0_t6 trip_k0_t6 tiles_t6
  simp only []
  refine .cons (isTap_2_4 _ _ _ _ _ _ _ _ _ _ _ _ _ _ _ _ _ _ _ _ _ (off84_eq_2 k) ?_) ?_
  · with_unfolding_all exact rfl
  refine .cons (isTap_2_3 _ _ _ _ _ _ _ _ _ _ _ _ _ _ _ _ _ _ _ _ _ (off83_eq_2 k) ?_) ?_
  · with_unfolding_all exact rfl
  refine .cons (isTap_2_2 _ _ _ _ _ _ _ _ _ _ _ _ _ _ _ _ _ _ _ _ _ (off82_eq_2 k) ?_) ?_
  · with_unfolding_all exact rfl
  refine .cons (isTap_2_1 _ _ _ _ _ _ _ _ _ _ _ _ _ _ _ _ _ _ _ _ _ (off81_eq_2 k) ?_) ?_
  · with_unfolding_all exact rfl
  refine .cons (isTap_2_0 _ _ _ _ _ _ _ _ _ _ _ _ _ _ _ _ _ _ _ _ _ (off80_eq_2 k) ?_) ?_
  · with_unfolding_all exact rfl
  refine .cons (isTap_1_4 _ _ _ _ _ _ _ _ _ _ _ _ _ _ _ _ _ _ _ _ _ (off84_eq_1 k) ?_) ?_
  · with_unfolding_all exact rfl
  refine .cons (isTap_1_3 _ _ _ _ _ _ _ _ _ _ _ _ _ _ _ _ _ _ _ _ _ (off83_eq_1 k) ?_) ?_
  · with_unfolding_all exact rfl
  refine .cons (isTap_1_2 _ _ _ _ _ _ _ _ _ _ _ _ _ _ _ _ _ _ _ _ _ (off82_eq_1 k) ?_) ?_
  · with_unfolding_all exact rfl
  refine .cons (isTap_1_1 _ _ _ _ _ _ _ _ _ _ _ _ _ _ _ _ _ _ _ _ _ (off81_eq_1 k) ?_) ?_
  · with_unfolding_all exact rfl
  refine .cons (isTap_1_0 _ _ _ _ _ _ _ _ _ _ _ _ _ _ _ _ _ _ _ _ _ (off80_eq_1 k) ?_) ?_
  · with_unfolding_all exact rfl
  refine .cons (isTap_0_4 _ _ _ _ _ _ _ _ _ _ _ _ _ _ _ _ _ _ _ _ _ (off84_eq_0 k) ?_) ?_
  · with_unfolding_all exact rfl
  refine .cons (isTap_0_3 _ _ _ _ _ _ _ _ _ _ _ _ _ _ _ _ _ _ _ _ _ (off83_eq_0 k) ?_) ?_
  · with_unfolding_all exact rfl
  refine .cons (isTap_0_2 _ _ _ _ _ _ _ _ _ _ _ _ _ _ _ _ _ _ _ _ _ (off82_eq_0 k) ?_) ?_
  · with_unfolding_all exact rfl
  refine .cons (isTap_0_1 _ _ _ _ _ _ _ _ _ _ _ _ _ _ _ _ _ _ _ _ _ (off81_eq_0 k) ?_) ?_
  · with_unfolding_all exact rfl
  refine .cons (isTap_0_0 _ _ _ _ _ _ _ _ _ _ _ _ _ _ _ _ _ _ _ _ _ (off80_eq_0 k) ?_) ?_
  · with_unfolding_all exact rfl
  exact .nil
theorem off70_eq : ∀ (k : Fin k0_t6_loop.trips), k0_off70 k = ![0, 0, 32 * (k.val), 0] := by decide +kernel
theorem off71_eq : ∀ (k : Fin k0_t6_loop.trips), k0_off71 k = ![0, 0, 32 * (k.val), 128] := by decide +kernel
theorem off72_eq : ∀ (k : Fin k0_t6_loop.trips), k0_off72 k = ![0, 0, 32 * (k.val), 256] := by decide +kernel
theorem off73_eq : ∀ (k : Fin k0_t6_loop.trips), k0_off73 k = ![0, 0, 32 * (k.val), 384] := by decide +kernel
theorem off74_eq : ∀ (k : Fin k0_t6_loop.trips), k0_off74 k = ![0, 0, 32 * (k.val), 512] := by decide +kernel
theorem off75_eq : ∀ (k : Fin k0_t6_loop.trips), k0_off75 k = ![0, 32, 32 * (k.val), 0] := by decide +kernel
theorem off76_eq : ∀ (k : Fin k0_t6_loop.trips), k0_off76 k = ![0, 32, 32 * (k.val), 128] := by decide +kernel
theorem off77_eq : ∀ (k : Fin k0_t6_loop.trips), k0_off77 k = ![0, 32, 32 * (k.val), 256] := by decide +kernel
theorem off78_eq : ∀ (k : Fin k0_t6_loop.trips), k0_off78 k = ![0, 32, 32 * (k.val), 384] := by decide +kernel
theorem off79_eq : ∀ (k : Fin k0_t6_loop.trips), k0_off79 k = ![0, 32, 32 * (k.val), 512] := by decide +kernel

theorem isTiles_t6 (k : Fin k0_t6_loop.trips) (X7 : S1x1x64x640.Idx → BitVec 8) (last : Bool) (z : BitVec 8) (hz : HasBytes v16 fun _ _ => z)  :
    IsTiles (xvOf (fun y => arg6.view.read (Elt Ideal) X_arg6 y) X7 last z) (0) (k.val) (tiles_t6 arg6 X_arg6 k) := by
  have hk : k.val < 2 := k.isLt
  unfold tiles_t6
  intro p
  match p with
  | 0 =>
    refine tile_read _ _ _ _ _ _ _ (off70_eq k) (by omega) (by omega) (by omega) _ fun ch l => ?_
    exact (xvOf_row (fun y => arg6.view.read (Elt Ideal) X_arg6 y) X7 last z _ _ _ (by omega) (by omega) (by omega)).symm
  | 1 =>
    refine tile_read _ _ _ _ _ _ _ (off71_eq k) (by omega) (by omega) (by omega) _ fun ch l => ?_
    exact (xvOf_row (fun y => arg6.view.read (Elt Ideal) X_arg6 y) X7 last z _ _ _ (by omega) (by omega) (by omega)).symm
  | 2 =>
    refine tile_read _ _ _ _ _ _ _ (off72_eq k) (by omega) (by omega) (by omega) _ fun ch l => ?_
    exact (xvOf_row (fun y => arg6.view.read (Elt Ideal) X_arg6 y) X7 last z _ _ _ (by omega) (by omega) (by omega)).symm
  | 3 =>
    refine tile_read _ _ _ _ _ _ _ (off73_eq k) (by omega) (by omega) (by omega) _ fun ch l => ?_
    exact (xvOf_row (fun y => arg6.view.read (Elt Ideal) X_arg6 y) X7 last z _ _ _ (by omega) (by omega) (by omega)).symm
  | 4 =>
    refine tile_read _ _ _ _ _ _ _ (off74_eq k) (by omega) (by omega) (by omega) _ fun ch l => ?_
    exact (xvOf_row (fun y => arg6.view.read (Elt Ideal) X_arg6 y) X7 last z _ _ _ (by omega) (by omega) (by omega)).symm
  | 5 =>
    refine tile_read _ _ _ _ _ _ _ (off75_eq k) (by omega) (by omega) (by omega) _ fun ch l => ?_
    exact (xvOf_row (fun y => arg6.view.read (Elt Ideal) X_arg6 y) X7 last z _ _ _ (by omega) (by omega) (by omega)).symm
  | 6 =>
    refine tile_read _ _ _ _ _ _ _ (off76_eq k) (by omega) (by omega) (by omega) _ fun ch l => ?_
    exact (xvOf_row (fun y => arg6.view.read (Elt Ideal) X_arg6 y) X7 last z _ _ _ (by omega) (by omega) (by omega)).symm
  | 7 =>
    refine tile_read _ _ _ _ _ _ _ (off77_eq k) (by omega) (by omega) (by omega) _ fun ch l => ?_
    exact (xvOf_row (fun y => arg6.view.read (Elt Ideal) X_arg6 y) X7 last z _ _ _ (by omega) (by omega) (by omega)).symm
  | 8 =>
    refine tile_read _ _ _ _ _ _ _ (off78_eq k) (by omega) (by omega) (by omega) _ fun ch l => ?_
    exact (xvOf_row (fun y => arg6.view.read (Elt Ideal) X_arg6 y) X7 last z _ _ _ (by omega) (by omega) (by omega)).symm
  | 9 =>
    refine tile_read _ _ _ _ _ _ _ (off79_eq k) (by omega) (by omega) (by omega) _ fun ch l => ?_
    exact (xvOf_row (fun y => arg6.view.read (Elt Ideal) X_arg6 y) X7 last z _ _ _ (by omega) (by omega) (by omega)).symm

theorem puts_t6 (X7 : S1x1x64x640.Idx → BitVec 8) (last : Bool) (z : BitVec 8) (hz : HasBytes v16 fun _ _ => z)
    (HL : Lanes v28 (k0_pay1 v30 v34 v36) (k0_pay2 v17) (k0_pay3 v17)) :
    Puts (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 2) (wantX (xvOf (fun y => arg6.view.read (Elt Ideal) X_arg6 y) X7 last z) (0)) (fun y => (y 0).val = 0 ∧ (y 2).val < 96) := by
  have h := loop_puts (N := 2) (fun k => tripL_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k) (pb_k0_t6 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6) rfl (fun k => pb_k0_t6_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k)
    (wantX (xvOf (fun y => arg6.view.read (Elt Ideal) X_arg6 y) X7 last z) (0)) (fun k y => (y 0).val = 0 ∧ (y 2).val < 96 ∧ (y 1).val = k.val) ?_
  · refine ⟨h.1, fun y hy => h.2 y ?_⟩
    have y1 : (y 1).val < 2 := (y 1).isLt
    have y2 : (y 2).val < 864 := (y 2).isLt
    exact ⟨⟨(y 1).val, y1⟩, hy.1, hy.2, rfl⟩
  · intro k
    refine trip_puts HL hz (fun r c => xvOf_last _ _ _ _ r c) (isTiles_t6 arg6 v16 X_arg6 k X7 last z hz) _ _ (isTrip_t6 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 X_arg6 k) ?_ _ ?_
    · simp only [List.forall_mem_cons, List.not_mem_nil, false_imp_iff, implies_true, and_true]
      skip
      skip
      simp
    · intro y hy
      have y3 : (y 3).val < 640 := (y 3).isLt
      have y2 : (y 2).val < 864 := (y 2).isLt
      skip
      refine ⟨hy.2.2, ?_⟩
      have hb : ∀ (t : Fin 3) (j : Fin 5), (0, 0, t, j) ∈ ([(0, 0, 2, 4), (0, 0, 2, 3), (0, 0, 2, 2), (0, 0, 2, 1), (0, 0, 2, 0), (0, 0, 1, 4), (0, 0, 1, 3), (0, 0, 1, 2), (0, 0, 1, 1), (0, 0, 1, 0), (0, 0, 0, 4), (0, 0, 0, 3), (0, 0, 0, 2), (0, 0, 0, 1), (0, 0, 0, 0)] : List (ℕ × ℕ × Fin 3 × Fin 5)) := by
        intro t j
        fin_cases t <;> fin_cases j <;> simp
      rw [hy.1, show (y 2).val / 96 = 0 by omega]; exact hb _ _

end Cert.KernelIdeal.Val
end
-- ==== Proof.LoopsVal.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

/-- The resource algebra of the frame kit. -/
local notation "𝕄" => MT nD τ sig Unit (Elt F) ℕ (UR sig nD τ) ℕ

abbrev 𝒱₀ : Variants := Variants.none

/-- What a trip of `k0_t2` holds. -/
abbrev Trip_k0_t2 (c : Dev nD) (arg6 : Memref sig .tc .vmem S1x64x64x640 .i8) (arg7 : Memref sig .tc .vmem S1x1x64x640 .i8) (arg12 : Memref sig .tc .vmem S1x32x320x128 .i8) (arg13 : Memref sig .tc .vmem S2x128x512 .bf16) (arg14 : Memref sig .tc .vmem S5x128x128 .f32) (arg15 : Memref sig .tc .vmem S3x128x128 .i32) (arg16 : Memref sig .tc .vmem S2x2x864x640 .bf16) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (f_arg12 : BufTy.Contents (Elt F) arg12.view.ty) (f_arg16 : BufTy.Contents (Elt F) arg16.view.ty) : sProp 𝕄 :=
  iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg12.view.loc (c : Thread nD τ) ↦[arg12.view.set]{fullShare} f_arg12) ∗ (arg16.view.loc (c : Thread nD τ) ↦[arg16.view.set]{fullShare} f_arg16))

/-- One trip of `k0_t2`: the pieces it writes into the scratch and the result's block. -/
@[irreducible] def trip_k0_t2 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (f_arg16 : BufTy.Contents (Elt F) arg16.view.ty) (k : Fin k0_t2_loop.trips) :
    { L : List (View.Piece (Elt F) S2x2x864x640 .bf16) × List (View.Piece (Elt F) S1x32x320x128 .i8) // ∀ (f_arg12 : BufTy.Contents (Elt F) arg12.view.ty),
      Trip_k0_t2 (F := F) c arg6 arg7 arg12 arg13 arg14 arg15 arg16 X_arg6 X_arg7 X_arg13 X_arg14 X_arg15 f_arg12 f_arg16
      ⊢ wp frame (wpE (defs₀ (F := F)) 𝒱₀ (c : Thread nD τ) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 k PUnit.unit)
          (fun _ => Trip_k0_t2 (F := F) c arg6 arg7 arg12 arg13 arg14 arg15 arg16 X_arg6 X_arg7 X_arg13 X_arg14 X_arg15 (arg12.view.writes (Elt F) f_arg12 L.2) (arg16.view.writes (Elt F) f_arg16 L.1)) } := by
  refine ⟨(?_, ?_), fun f_arg12 => ?run⟩
  case run =>
    unfold k0_t2_body
    iintro ⟨HR_arg6, HR_arg7, HR_arg13, HR_arg14, HR_arg15, HW_arg12, HW_arg16⟩
    sl_exec
    sl_step
    sl_close

variable (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17

/-- The pieces of the trips before the given one, last first. -/
def pb16_k0_t2 (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (G_arg16 : BufTy.Contents (Elt F) arg16.view.ty) : ℕ → List (View.Piece (Elt F) S2x2x864x640 .bf16)
  | 0 => []
  | k + 1 => if h : k < k0_t2_loop.trips then (trip_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 (arg16.view.writes (Elt F) G_arg16 (pb16_k0_t2 v16 v17 v28 v30 v34 v36 v44 X_arg6 X_arg7 X_arg13 X_arg14 X_arg15 G_arg16 k)) ⟨k, h⟩).1.1 ++ pb16_k0_t2 v16 v17 v28 v30 v34 v36 v44 X_arg6 X_arg7 X_arg13 X_arg14 X_arg15 G_arg16 k else pb16_k0_t2 v16 v17 v28 v30 v34 v36 v44 X_arg6 X_arg7 X_arg13 X_arg14 X_arg15 G_arg16 k

/-- The pieces of the trips before the given one, last first. -/
def pb12_k0_t2 (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (G_arg16 : BufTy.Contents (Elt F) arg16.view.ty) : ℕ → List (View.Piece (Elt F) S1x32x320x128 .i8)
  | 0 => []
  | k + 1 => if h : k < k0_t2_loop.trips then (trip_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 (arg16.view.writes (Elt F) G_arg16 (pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k)) ⟨k, h⟩).1.2 ++ pb12_k0_t2 v16 v17 v28 v30 v34 v36 v44 X_arg6 X_arg7 X_arg13 X_arg14 X_arg15 G_arg16 k else pb12_k0_t2 v16 v17 v28 v30 v34 v36 v44 X_arg6 X_arg7 X_arg13 X_arg14 X_arg15 G_arg16 k

theorem pb16_k0_t2_succ (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (G_arg16 : BufTy.Contents (Elt F) arg16.view.ty) (k : Fin k0_t2_loop.trips) :
    pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 (k.val + 1) = (trip_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 (arg16.view.writes (Elt F) G_arg16 (pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k.val)) k).1.1 ++ pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k.val := by
  rw [pb16_k0_t2.eq_2]; exact dif_pos k.isLt

theorem pb12_k0_t2_succ (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (G_arg16 : BufTy.Contents (Elt F) arg16.view.ty) (k : Fin k0_t2_loop.trips) :
    pb12_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 (k.val + 1) = (trip_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 (arg16.view.writes (Elt F) G_arg16 (pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k.val)) k).1.2 ++ pb12_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k.val := by
  rw [pb12_k0_t2.eq_2]; exact dif_pos k.isLt

set_option warn.classDefReducibility false in
/-- The loop by the pieces of its trips. -/
@[sl_loop] def loopInv_k0_t2 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg14 : BufTy.Contents (Elt F) arg14.view.ty) (X_arg15 : BufTy.Contents (Elt F) arg15.view.ty) (G_arg12 : BufTy.Contents (Elt F) arg12.view.ty) (G_arg16 : BufTy.Contents (Elt F) arg16.view.ty) :
    LoopInvTy_k0_t2 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 where
  inv k _ := iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f, (arg16.view.loc (c : Thread nD τ) ↦[arg16.view.set]{fullShare} f) ∗ ⌜f = arg16.view.writes (Elt F) G_arg16 (pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k)⌝) ∗ (∃ f, (arg12.view.loc (c : Thread nD τ) ↦[arg12.view.set]{fullShare} f) ∗ ⌜f = arg12.view.writes (Elt F) G_arg12 (pb12_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k)⌝))
  step k acc := by
    iintro ⟨HR_arg6, HR_arg7, HR_arg13, HR_arg14, HR_arg15, ⟨%f_arg16, HW_arg16, %h_arg16⟩, ⟨%f_arg12, HW_arg12, %h_arg12⟩⟩
    subst h_arg16
    iapply (wp_wand_r Idealize.ShloMosaic.frame (wpE (defs₀ (F := F)) 𝒱₀ (c : Thread nD τ) none) Set.univ)
    isplitl [HR_arg6 HR_arg7 HR_arg13 HR_arg14 HR_arg15 HW_arg12 HW_arg16]
    · iapply ((trip_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 (arg16.view.writes (Elt F) G_arg16 (pb16_k0_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 k.val)) k).2 f_arg12)
      isplitl [HR_arg6]; · iexact HR_arg6
      isplitl [HR_arg7]; · iexact HR_arg7
      isplitl [HR_arg13]; · iexact HR_arg13
      isplitl [HR_arg14]; · iexact HR_arg14
      isplitl [HR_arg15]; · iexact HR_arg15
      isplitl [HW_arg12]; · iexact HW_arg12
      iexact HW_arg16
    · iintro %_ ⟨HR_arg6, HR_arg7, HR_arg13, HR_arg14, HR_arg15, HW_arg12, HW_arg16⟩
      isplitl [HR_arg6]; · iexact HR_arg6
      isplitl [HR_arg7]; · iexact HR_arg7
      isplitl [HR_arg13]; · iexact HR_arg13
      isplitl [HR_arg14]; · iexact HR_arg14
      isplitl [HR_arg15]; · iexact HR_arg15
      rw [pb16_k0_t2_succ, pb12_k0_t2_succ]
      isplitl [HW_arg16]
      · iexists _; isplitl [HW_arg16]; · iexact HW_arg16
        ipureintro; rw [← View.writes_append]
      iexists _; isplitl [HW_arg12]; · iexact HW_arg12
      ipureintro; rw [h_arg12, ← View.writes_append]

/-- What a trip of `k0_t7` holds. -/
abbrev Trip_k0_t7 (c : Dev nD) (arg6 : Memref sig .tc .vmem S1x64x64x640 .i8) (arg7 : Memref sig .tc .vmem S1x1x64x640 .i8) (arg12 : Memref sig .tc .vmem S1x32x320x128 .i8) (arg13 : Memref sig .tc .vmem S2x128x512 .bf16) (arg14 : Memref sig .tc .vmem S5x128x128 .f32) (arg15 : Memref sig .tc .vmem S3x128x128 .i32) (arg16 : Memref sig .tc .vmem S2x2x864x640 .bf16) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (f_arg12 : BufTy.Contents (Elt F) arg12.view.ty) (f_arg16 : BufTy.Contents (Elt F) arg16.view.ty) : sProp 𝕄 :=
  iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg15.view.loc (c : Thread nD τ) ↦[arg15.view.set]{fullShare} X_arg15) ∗ (arg12.view.loc (c : Thread nD τ) ↦[arg12.view.set]{fullShare} f_arg12) ∗ (arg16.view.loc (c : Thread nD τ) ↦[arg16.view.set]{fullShare} f_arg16))

/-- One trip of `k0_t7`: the pieces it writes into the scratch and the result's block. -/
@[irreducible] def trip_k0_t7 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (f_arg16 : BufTy.Contents (Elt F) arg16.view.ty) (k : Fin k0_t7_loop.trips) :
    { L : List (View.Piece (Elt F) S2x2x864x640 .bf16) × List (View.Piece (Elt F) S1x32x320x128 .i8) // ∀ (f_arg12 : BufTy.Contents (Elt F) arg12.view.ty),
      Trip_k0_t7 (F := F) c arg6 arg7 arg12 arg13 arg14 arg15 arg16 X_arg6 X_arg7 X_arg13 X_arg15 f_arg12 f_arg16
      ⊢ wp frame (wpE (defs₀ (F := F)) 𝒱₀ (c : Thread nD τ) none) Set.univ (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 k PUnit.unit)
          (fun _ => Trip_k0_t7 (F := F) c arg6 arg7 arg12 arg13 arg14 arg15 arg16 X_arg6 X_arg7 X_arg13 X_arg15 (arg12.view.writes (Elt F) f_arg12 L.2) (arg16.view.writes (Elt F) f_arg16 L.1)) } := by
  refine ⟨(?_, ?_), fun f_arg12 => ?run⟩
  case run =>
    unfold k0_t7_body
    iintro ⟨HR_arg6, HR_arg7, HR_arg13, HR_arg15, HW_arg12, HW_arg16⟩
    sl_exec
    sl_step
    sl_close

/-- The pieces of the trips before the given one, last first. -/
def pb16_k0_t7 (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (G_arg16 : BufTy.Contents (Elt F) arg16.view.ty) : ℕ → List (View.Piece (Elt F) S2x2x864x640 .bf16)
  | 0 => []
  | k + 1 => if h : k < k0_t7_loop.trips then (trip_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 (arg16.view.writes (Elt F) G_arg16 (pb16_k0_t7 v1 v2 v3 v16 v17 v28 v30 v34 v36 v44 X_arg6 X_arg7 X_arg13 X_arg15 G_arg16 k)) ⟨k, h⟩).1.1 ++ pb16_k0_t7 v1 v2 v3 v16 v17 v28 v30 v34 v36 v44 X_arg6 X_arg7 X_arg13 X_arg15 G_arg16 k else pb16_k0_t7 v1 v2 v3 v16 v17 v28 v30 v34 v36 v44 X_arg6 X_arg7 X_arg13 X_arg15 G_arg16 k

/-- The pieces of the trips before the given one, last first. -/
def pb12_k0_t7 (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (G_arg16 : BufTy.Contents (Elt F) arg16.view.ty) : ℕ → List (View.Piece (Elt F) S1x32x320x128 .i8)
  | 0 => []
  | k + 1 => if h : k < k0_t7_loop.trips then (trip_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 (arg16.view.writes (Elt F) G_arg16 (pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k)) ⟨k, h⟩).1.2 ++ pb12_k0_t7 v1 v2 v3 v16 v17 v28 v30 v34 v36 v44 X_arg6 X_arg7 X_arg13 X_arg15 G_arg16 k else pb12_k0_t7 v1 v2 v3 v16 v17 v28 v30 v34 v36 v44 X_arg6 X_arg7 X_arg13 X_arg15 G_arg16 k

theorem pb16_k0_t7_succ (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (G_arg16 : BufTy.Contents (Elt F) arg16.view.ty) (k : Fin k0_t7_loop.trips) :
    pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 (k.val + 1) = (trip_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 (arg16.view.writes (Elt F) G_arg16 (pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k.val)) k).1.1 ++ pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k.val := by
  rw [pb16_k0_t7.eq_2]; exact dif_pos k.isLt

theorem pb12_k0_t7_succ (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (G_arg16 : BufTy.Contents (Elt F) arg16.view.ty) (k : Fin k0_t7_loop.trips) :
    pb12_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 (k.val + 1) = (trip_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 (arg16.view.writes (Elt F) G_arg16 (pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k.val)) k).1.2 ++ pb12_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k.val := by
  rw [pb12_k0_t7.eq_2]; exact dif_pos k.isLt

set_option warn.classDefReducibility false in
/-- The loop by the pieces of its trips. -/
@[sl_loop] def loopInv_k0_t7 (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt F .i32) (v2 : Elt F .i32) (v3 : Elt F .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt F) arg6.view.ty) (X_arg7 : BufTy.Contents (Elt F) arg7.view.ty) (X_arg13 : BufTy.Contents (Elt F) arg13.view.ty) (X_arg15 : BufTy.Contents (Elt F) arg15.view.ty) (G_arg12 : BufTy.Contents (Elt F) arg12.view.ty) (G_arg16 : BufTy.Contents (Elt F) arg16.view.ty) :
    LoopInvTy_k0_t7 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 where
  inv k _ := iprop((arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg15.view.loc (c : Thread nD τ) ↦[arg15.view.set]{fullShare} X_arg15) ∗ (∃ f, (arg16.view.loc (c : Thread nD τ) ↦[arg16.view.set]{fullShare} f) ∗ ⌜f = arg16.view.writes (Elt F) G_arg16 (pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k)⌝) ∗ (∃ f, (arg12.view.loc (c : Thread nD τ) ↦[arg12.view.set]{fullShare} f) ∗ ⌜f = arg12.view.writes (Elt F) G_arg12 (pb12_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k)⌝))
  step k acc := by
    iintro ⟨HR_arg6, HR_arg7, HR_arg13, HR_arg15, ⟨%f_arg16, HW_arg16, %h_arg16⟩, ⟨%f_arg12, HW_arg12, %h_arg12⟩⟩
    subst h_arg16
    iapply (wp_wand_r Idealize.ShloMosaic.frame (wpE (defs₀ (F := F)) 𝒱₀ (c : Thread nD τ) none) Set.univ)
    isplitl [HR_arg6 HR_arg7 HR_arg13 HR_arg15 HW_arg12 HW_arg16]
    · iapply ((trip_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 (arg16.view.writes (Elt F) G_arg16 (pb16_k0_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 k.val)) k).2 f_arg12)
      isplitl [HR_arg6]; · iexact HR_arg6
      isplitl [HR_arg7]; · iexact HR_arg7
      isplitl [HR_arg13]; · iexact HR_arg13
      isplitl [HR_arg15]; · iexact HR_arg15
      isplitl [HW_arg12]; · iexact HW_arg12
      iexact HW_arg16
    · iintro %_ ⟨HR_arg6, HR_arg7, HR_arg13, HR_arg15, HW_arg12, HW_arg16⟩
      isplitl [HR_arg6]; · iexact HR_arg6
      isplitl [HR_arg7]; · iexact HR_arg7
      isplitl [HR_arg13]; · iexact HR_arg13
      isplitl [HR_arg15]; · iexact HR_arg15
      rw [pb16_k0_t7_succ, pb12_k0_t7_succ]
      isplitl [HW_arg16]
      · iexists _; isplitl [HW_arg16]; · iexact HW_arg16
        ipureintro; rw [← View.writes_append]
      iexists _; isplitl [HW_arg12]; · iexact HW_arg12
      ipureintro; rw [h_arg12, ← View.writes_append]

end Cert.KernelIdeal.Val

end
-- ==== Proof.Outs5.lean ====
module

public import proofs.«01_k».proof.Proof.Outs
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
theorem off56_eq : ∀ (k0_t2 : Fin k0_t2_loop.trips) (k : Fin k0_t5_loop.trips), k0_off56 k0_t2 k = ![k0_t2.val % 2, 0, 384 * k.val, 0] := by decide +kernel
theorem off60_eq : ∀ (k0_t2 : Fin k0_t2_loop.trips) (k : Fin k0_t5_loop.trips), k0_off60 k0_t2 k = ![k0_t2.val % 2, 0, 384 * k.val, 256] := by decide +kernel
theorem off57_eq : ∀ (k0_t2 : Fin k0_t2_loop.trips) (k : Fin k0_t5_loop.trips), k0_off57 k0_t2 k = ![k0_t2.val % 2, 1, 384 * k.val, 0] := by decide +kernel
theorem off61_eq : ∀ (k0_t2 : Fin k0_t2_loop.trips) (k : Fin k0_t5_loop.trips), k0_off61 k0_t2 k = ![k0_t2.val % 2, 1, 384 * k.val, 256] := by decide +kernel
theorem off58_eq_0 : ∀ (k0_t2 : Fin k0_t2_loop.trips) (k : Fin k0_t5_loop.trips), k0_off58 k0_t2 k 0#32 = ![0, 4 * k0_t2.val + 2 * k.val + 0, 0, 0] := by decide +kernel
theorem off59_eq_0 : ∀ (k0_t2 : Fin k0_t2_loop.trips) (k : Fin k0_t5_loop.trips), k0_off59 k0_t2 k 0#32 = ![0, 4 * k0_t2.val + 2 * k.val + 0, 128, 0] := by decide +kernel
theorem off62_eq_0 : ∀ (k0_t2 : Fin k0_t2_loop.trips) (k : Fin k0_t5_loop.trips), k0_off62 k0_t2 k 0#32 = ![0, 4 * k0_t2.val + 2 * k.val + 0, 256, 0] := by decide +kernel
theorem off63_eq_0 : ∀ (k0_t2 : Fin k0_t2_loop.trips) (k : Fin k0_t5_loop.trips), k0_off63 k0_t2 k 0#32 = ![0, 4 * k0_t2.val + 2 * k.val + 0 + 16, 0, 0] := by decide +kernel
theorem off64_eq_0 : ∀ (k0_t2 : Fin k0_t2_loop.trips) (k : Fin k0_t5_loop.trips), k0_off64 k0_t2 k 0#32 = ![0, 4 * k0_t2.val + 2 * k.val + 0 + 16, 64, 0] := by decide +kernel
theorem off58_eq_1 : ∀ (k0_t2 : Fin k0_t2_loop.trips) (k : Fin k0_t5_loop.trips), k0_off58 k0_t2 k 1#32 = ![0, 4 * k0_t2.val + 2 * k.val + 1, 0, 0] := by decide +kernel
theorem off59_eq_1 : ∀ (k0_t2 : Fin k0_t2_loop.trips) (k : Fin k0_t5_loop.trips), k0_off59 k0_t2 k 1#32 = ![0, 4 * k0_t2.val + 2 * k.val + 1, 128, 0] := by decide +kernel
theorem off62_eq_1 : ∀ (k0_t2 : Fin k0_t2_loop.trips) (k : Fin k0_t5_loop.trips), k0_off62 k0_t2 k 1#32 = ![0, 4 * k0_t2.val + 2 * k.val + 1, 256, 0] := by decide +kernel
theorem off63_eq_1 : ∀ (k0_t2 : Fin k0_t2_loop.trips) (k : Fin k0_t5_loop.trips), k0_off63 k0_t2 k 1#32 = ![0, 4 * k0_t2.val + 2 * k.val + 1 + 16, 0, 0] := by decide +kernel
theorem off64_eq_1 : ∀ (k0_t2 : Fin k0_t2_loop.trips) (k : Fin k0_t5_loop.trips), k0_off64 k0_t2 k 1#32 = ![0, 4 * k0_t2.val + 2 * k.val + 1 + 16, 64, 0] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v28 : IVec S8x128 32) (v39 : IVec S8x128 32) (v41 : IVec S8x128 1) (v43 : IVec S8x128 1) (v44 : BitVec 1) (v45 : FVec Ideal S16x256 .bf16) (c0_i32_21 : BitVec 32) (c1_i32_22 : BitVec 32) (k0_t2 : Fin k0_t2_loop.trips) (arg18 : BitVec 32) (v55 : BitVec 32) (X_arg13 : BufTy.Contents (Elt Ideal) arg13.view.ty) (X_arg14 : BufTy.Contents (Elt Ideal) arg14.view.ty) (X_arg15 : BufTy.Contents (Elt Ideal) arg15.view.ty) (X_arg16 : BufTy.Contents (Elt Ideal) arg16.view.ty)

set_option maxHeartbeats 40000000 in
theorem good_t5 (k : Fin k0_t5_loop.trips) (par : ℕ → ℕ → EReal) (lh : ℕ → ℕ → ℕ → EReal) (raw : ℕ → ℕ → BitVec 32) (xv : ℕ → ℕ → ℕ → BitVec 8)
    (h13 : ∀ y, arg13.view.read (Elt Ideal) X_arg13 y = lh (y 0).val (y 1).val (y 2).val)
    (h14 : ∀ y, (y 0).val ≠ 1 → arg14.view.read (Elt Ideal) X_arg14 y = par (y 0).val (y 1).val)
    (h15 : ∀ y, arg15.view.read (Elt Ideal) X_arg15 y = raw (y 0).val (y 1).val)
    (h16 : ∀ y, (y 0).val = k0_t2.val % 2 → arg16.view.read (Elt Ideal) X_arg16 y = wantX xv k0_t2.val y)
    (hon : ∀ j, v45 j = 1) :
    ∀ p ∈ tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k, OGood (rqF par raw) lh xv p := by
  have hq : k0_t2.val < 4 := k0_t2.isLt
  have hk : k.val < 2 := k.isLt
  have a0 : IsAcc lh xv k0_t2.val 0 (fun _ => k.val) (fun n => 0 + n) (tAcc arg13.view X_arg13 arg16.view X_arg16 0 (by decide) (k0_off56 k0_t2 k) (k0_off56_inb k0_t2 k) v45) :=
    tAcc_acc arg13.view X_arg13 arg16.view X_arg16 h13 h16 0 (by decide) k.val 0 hk (by decide) _ _ (off56_eq k0_t2 k) v45 hon _ _ (fun _ _ => rfl) (fun _ _ => rfl)
  have a00 := hFast_half arg14.view X_arg14 arg15.view X_arg15 h14 h15 0 0 (by decide) (by decide) slices_S128x256_o0_0_S64x256 _ _ _ a0
  have a01 := hFast_half arg14.view X_arg14 arg15.view X_arg15 h14 h15 0 1 (by decide) (by decide) slices_S128x256_o64_0_S64x256 _ _ _ a0
  have a1 : IsAcc lh xv k0_t2.val 1 (fun _ => k.val) (fun n => 0 + n) (tAcc arg13.view X_arg13 arg16.view X_arg16 1 (by decide) (k0_off57 k0_t2 k) (k0_off57_inb k0_t2 k) v45) :=
    tAcc_acc arg13.view X_arg13 arg16.view X_arg16 h13 h16 1 (by decide) k.val 0 hk (by decide) _ _ (off57_eq k0_t2 k) v45 hon _ _ (fun _ _ => rfl) (fun _ _ => rfl)
  have a10 := hFast_half arg14.view X_arg14 arg15.view X_arg15 h14 h15 1 0 (by decide) (by decide) slices_S128x256_o0_0_S64x256 _ _ _ a1
  have a11 := hFast_half arg14.view X_arg14 arg15.view X_arg15 h14 h15 1 1 (by decide) (by decide) slices_S128x256_o64_0_S64x256 _ _ _ a1
  have b0 : IsAcc lh xv k0_t2.val 0 (fun _ => k.val) (fun n => 256 + n) (tAcc arg13.view X_arg13 arg16.view X_arg16 0 (by decide) (k0_off60 k0_t2 k) (k0_off60_inb k0_t2 k) v45) :=
    tAcc_acc arg13.view X_arg13 arg16.view X_arg16 h13 h16 0 (by decide) k.val 256 hk (by decide) _ _ (off60_eq k0_t2 k) v45 hon _ _ (fun _ _ => rfl) (fun _ _ => rfl)
  have b00 := hFast_half arg14.view X_arg14 arg15.view X_arg15 h14 h15 0 0 (by decide) (by decide) slices_S128x256_o0_0_S64x256 _ _ _ b0
  have b01 := hFast_half arg14.view X_arg14 arg15.view X_arg15 h14 h15 0 1 (by decide) (by decide) slices_S128x256_o64_0_S64x256 _ _ _ b0
  have b1 : IsAcc lh xv k0_t2.val 1 (fun _ => k.val) (fun n => 256 + n) (tAcc arg13.view X_arg13 arg16.view X_arg16 1 (by decide) (k0_off61 k0_t2 k) (k0_off61_inb k0_t2 k) v45) :=
    tAcc_acc arg13.view X_arg13 arg16.view X_arg16 h13 h16 1 (by decide) k.val 256 hk (by decide) _ _ (off61_eq k0_t2 k) v45 hon _ _ (fun _ _ => rfl) (fun _ _ => rfl)
  have b10 := hFast_half arg14.view X_arg14 arg15.view X_arg15 h14 h15 1 0 (by decide) (by decide) slices_S128x256_o0_0_S64x256 _ _ _ b1
  have b11 := hFast_half arg14.view X_arg14 arg15.view X_arg15 h14 h15 1 1 (by decide) (by decide) slices_S128x256_o64_0_S64x256 _ _ _ b1
  unfold tripL_k0_t5 trip_k0_t5
  simp only []
  refine List.forall_mem_cons.2 ⟨out_128 b01 b11 128 (4 * k0_t2.val + 2 * k.val + 1 + 16) 64 slices_S64x256_o0_128_S64x128 (by decide) _ _ (off64_eq_1 k0_t2 k) _ ?_ (by omega) (by omega) (fun n hn => by omega) (fun n hn => by omega), ?_⟩
  · with_unfolding_all exact rfl
  refine List.forall_mem_cons.2 ⟨out_64 b01 b11 0 64 (4 * k0_t2.val + 2 * k.val + 1 + 16) 0 slices_S64x256_o0_0_S64x128 slices_S128x128_o64_0_S64x128 (by decide) (by decide) _ _ (off63_eq_1 k0_t2 k) _ ?_ (by omega) (by omega) (fun n hn => by omega) (fun n hn => by omega), ?_⟩
  · with_unfolding_all exact rfl
  refine List.forall_mem_cons.2 ⟨out_64 b01 b11 0 0 (4 * k0_t2.val + 2 * k.val + 1) 256 slices_S64x256_o0_0_S64x128 slices_S128x128_o0_0_S64x128 (by decide) (by decide) _ _ (off62_eq_1 k0_t2 k) _ ?_ (by omega) (by omega) (fun n hn => by omega) (fun n hn => by omega), ?_⟩
  · with_unfolding_all exact rfl
  refine List.forall_mem_cons.2 ⟨out_128 b00 b10 128 (4 * k0_t2.val + 2 * k.val + 0 + 16) 64 slices_S64x256_o0_128_S64x128 (by decide) _ _ (off64_eq_0 k0_t2 k) _ ?_ (by omega) (by omega) (fun n hn => by omega) (fun n hn => by omega), ?_⟩
  · with_unfolding_all exact rfl
  refine List.forall_mem_cons.2 ⟨out_64 b00 b10 0 64 (4 * k0_t2.val + 2 * k.val + 0 + 16) 0 slices_S64x256_o0_0_S64x128 slices_S128x128_o64_0_S64x128 (by decide) (by decide) _ _ (off63_eq_0 k0_t2 k) _ ?_ (by omega) (by omega) (fun n hn => by omega) (fun n hn => by omega), ?_⟩
  · with_unfolding_all exact rfl
  refine List.forall_mem_cons.2 ⟨out_64 b00 b10 0 0 (4 * k0_t2.val + 2 * k.val + 0) 256 slices_S64x256_o0_0_S64x128 slices_S128x128_o0_0_S64x128 (by decide) (by decide) _ _ (off62_eq_0 k0_t2 k) _ ?_ (by omega) (by omega) (fun n hn => by omega) (fun n hn => by omega), ?_⟩
  · with_unfolding_all exact rfl
  refine List.forall_mem_cons.2 ⟨out_128 a01 a11 128 (4 * k0_t2.val + 2 * k.val + 1) 128 slices_S64x256_o0_128_S64x128 (by decide) _ _ (off59_eq_1 k0_t2 k) _ ?_ (by omega) (by omega) (fun n hn => by omega) (fun n hn => by omega), ?_⟩
  · with_unfolding_all exact rfl
  refine List.forall_mem_cons.2 ⟨out_128 a01 a11 0 (4 * k0_t2.val + 2 * k.val + 1) 0 slices_S64x256_o0_0_S64x128 (by decide) _ _ (off58_eq_1 k0_t2 k) _ ?_ (by omega) (by omega) (fun n hn => by omega) (fun n hn => by omega), ?_⟩
  · with_unfolding_all exact rfl
  refine List.forall_mem_cons.2 ⟨out_128 a00 a10 128 (4 * k0_t2.val + 2 * k.val + 0) 128 slices_S64x256_o0_128_S64x128 (by decide) _ _ (off59_eq_0 k0_t2 k) _ ?_ (by omega) (by omega) (fun n hn => by omega) (fun n hn => by omega), ?_⟩
  · with_unfolding_all exact rfl
  refine List.forall_mem_cons.2 ⟨out_128 a00 a10 0 (4 * k0_t2.val + 2 * k.val + 0) 0 slices_S64x256_o0_0_S64x128 (by decide) _ _ (off58_eq_0 k0_t2 k) _ ?_ (by omega) (by omega) (fun n hn => by omega) (fun n hn => by omega), ?_⟩
  · with_unfolding_all exact rfl
  exact fun p hp => (List.not_mem_nil hp).elim

set_option maxHeartbeats 40000000 in
theorem fill_t5 (k : Fin k0_t5_loop.trips) (y : S1x32x320x128.Idx) (h1 : (y 1).val % 16 / 2 = 2 * k0_t2.val + k.val) (h2 : (y 2).val + 320 * ((y 1).val / 16) < 512) :
    ∃ p ∈ tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k, y ∈ p.1.set := by
  have hq : k0_t2.val < 4 := k0_t2.isLt
  have hk : k.val < 2 := k.isLt
  have y1 : (y 1).val < 32 := (y 1).isLt
  have y2 : (y 2).val < 320 := (y 2).isLt
  unfold tripL_k0_t5 trip_k0_t5
  simp only [List.mem_cons, exists_eq_or_imp]
  have hc : ((y 1).val = 4 * k0_t2.val + 2 * k.val + 1 + 16 ∧ 64 ≤ (y 2).val ∧ (y 2).val < 64 + 128) ∨ ((y 1).val = 4 * k0_t2.val + 2 * k.val + 1 + 16 ∧ 0 ≤ (y 2).val ∧ (y 2).val < 0 + 64) ∨ ((y 1).val = 4 * k0_t2.val + 2 * k.val + 1 ∧ 256 ≤ (y 2).val ∧ (y 2).val < 256 + 64) ∨ ((y 1).val = 4 * k0_t2.val + 2 * k.val + 0 + 16 ∧ 64 ≤ (y 2).val ∧ (y 2).val < 64 + 128) ∨ ((y 1).val = 4 * k0_t2.val + 2 * k.val + 0 + 16 ∧ 0 ≤ (y 2).val ∧ (y 2).val < 0 + 64) ∨ ((y 1).val = 4 * k0_t2.val + 2 * k.val + 0 ∧ 256 ≤ (y 2).val ∧ (y 2).val < 256 + 64) ∨ ((y 1).val = 4 * k0_t2.val + 2 * k.val + 1 ∧ 128 ≤ (y 2).val ∧ (y 2).val < 128 + 128) ∨ ((y 1).val = 4 * k0_t2.val + 2 * k.val + 1 ∧ 0 ≤ (y 2).val ∧ (y 2).val < 0 + 128) ∨ ((y 1).val = 4 * k0_t2.val + 2 * k.val + 0 ∧ 128 ≤ (y 2).val ∧ (y 2).val < 128 + 128) ∨ ((y 1).val = 4 * k0_t2.val + 2 * k.val + 0 ∧ 0 ≤ (y 2).val ∧ (y 2).val < 0 + 128) := by omega
  rcases hc with ⟨c1, c2, c3⟩ | ⟨c1, c2, c3⟩ | ⟨c1, c2, c3⟩ | ⟨c1, c2, c3⟩ | ⟨c1, c2, c3⟩ | ⟨c1, c2, c3⟩ | ⟨c1, c2, c3⟩ | ⟨c1, c2, c3⟩ | ⟨c1, c2, c3⟩ | ⟨c1, c2, c3⟩
  · exact Or.inl (omem _ (4 * k0_t2.val + 2 * k.val + 1 + 16) 64 (off64_eq_1 k0_t2 k) _ y c1 c2 c3)
  · exact Or.inr (Or.inl (omem64 _ (4 * k0_t2.val + 2 * k.val + 1 + 16) 0 (off63_eq_1 k0_t2 k) _ y c1 c2 c3))
  · exact Or.inr (Or.inr (Or.inl (omem64 _ (4 * k0_t2.val + 2 * k.val + 1) 256 (off62_eq_1 k0_t2 k) _ y c1 c2 c3)))
  · exact Or.inr (Or.inr (Or.inr (Or.inl (omem _ (4 * k0_t2.val + 2 * k.val + 0 + 16) 64 (off64_eq_0 k0_t2 k) _ y c1 c2 c3))))
  · exact Or.inr (Or.inr (Or.inr (Or.inr (Or.inl (omem64 _ (4 * k0_t2.val + 2 * k.val + 0 + 16) 0 (off63_eq_0 k0_t2 k) _ y c1 c2 c3)))))
  · exact Or.inr (Or.inr (Or.inr (Or.inr (Or.inr (Or.inl (omem64 _ (4 * k0_t2.val + 2 * k.val + 0) 256 (off62_eq_0 k0_t2 k) _ y c1 c2 c3))))))
  · exact Or.inr (Or.inr (Or.inr (Or.inr (Or.inr (Or.inr (Or.inl (omem _ (4 * k0_t2.val + 2 * k.val + 1) 128 (off59_eq_1 k0_t2 k) _ y c1 c2 c3)))))))
  · exact Or.inr (Or.inr (Or.inr (Or.inr (Or.inr (Or.inr (Or.inr (Or.inl (omem _ (4 * k0_t2.val + 2 * k.val + 1) 0 (off58_eq_1 k0_t2 k) _ y c1 c2 c3))))))))
  · exact Or.inr (Or.inr (Or.inr (Or.inr (Or.inr (Or.inr (Or.inr (Or.inr (Or.inl (omem _ (4 * k0_t2.val + 2 * k.val + 0) 128 (off59_eq_0 k0_t2 k) _ y c1 c2 c3)))))))))
  · exact Or.inr (Or.inr (Or.inr (Or.inr (Or.inr (Or.inr (Or.inr (Or.inr (Or.inr (Or.inl (omem _ (4 * k0_t2.val + 2 * k.val + 0) 0 (off58_eq_0 k0_t2 k) _ y c1 c2 c3))))))))))

theorem puts_t5 (par : ℕ → ℕ → EReal) (lh : ℕ → ℕ → ℕ → EReal) (raw : ℕ → ℕ → BitVec 32) (xv : ℕ → ℕ → ℕ → BitVec 8)
    (h13 : ∀ y, arg13.view.read (Elt Ideal) X_arg13 y = lh (y 0).val (y 1).val (y 2).val)
    (h14 : ∀ y, (y 0).val ≠ 1 → arg14.view.read (Elt Ideal) X_arg14 y = par (y 0).val (y 1).val)
    (h15 : ∀ y, arg15.view.read (Elt Ideal) X_arg15 y = raw (y 0).val (y 1).val)
    (h16 : ∀ y, (y 0).val = k0_t2.val % 2 → arg16.view.read (Elt Ideal) X_arg16 y = wantX xv k0_t2.val y)
    (hon : ∀ j, v45 j = 1) :
    OPuts (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k0_t5_loop.trips) (wantO (rqF par raw) lh xv) (fun y => (y 1).val % 16 / 4 = k0_t2.val ∧ (y 2).val + 320 * ((y 1).val / 16) < 512) := by
  have := oloop_puts (N := k0_t5_loop.trips) (fun k => tripL_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k) (pb_k0_t5 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16) rfl
    (fun k => pb_k0_t5_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k) (wantO (rqF par raw) lh xv)
    (fun k y => (y 1).val % 16 / 2 = 2 * k0_t2.val + k.val ∧ (y 2).val + 320 * ((y 1).val / 16) < 512)
    (fun k => ⟨good_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k par lh raw xv h13 h14 h15 h16 hon, fun y hy => fill_t5 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 X_arg13 X_arg14 X_arg15 X_arg16 k y hy.1 hy.2⟩)
  refine ⟨this.1, fun y hy => this.2 y ⟨⟨(y 1).val % 4 / 2, by show _ < 2; omega⟩, ?_, hy.2⟩⟩
  have := hy.1
  show (y 1).val % 16 / 2 = 2 * k0_t2.val + (y 1).val % 4 / 2
  omega

end Cert.KernelIdeal.Val
end
-- ==== Proof.Taps3.lean ====
module

public import proofs.«01_k».proof.Proof.Taps
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI

theorem off26_eq_0 : ∀ (k0_t2 : Fin k0_t2_loop.trips) (k : Fin k0_t3_loop.trips), k0_off26 k0_t2 k 0#32 = ![k0_t2.val % 2, k.val % 2, 96 * (k.val / 2 + 1) + 0, 0] := by decide +kernel

theorem off26_eq_1 : ∀ (k0_t2 : Fin k0_t2_loop.trips) (k : Fin k0_t3_loop.trips), k0_off26 k0_t2 k 32#32 = ![k0_t2.val % 2, k.val % 2, 96 * (k.val / 2 + 1) + 32, 0] := by decide +kernel

theorem off26_eq_2 : ∀ (k0_t2 : Fin k0_t2_loop.trips) (k : Fin k0_t3_loop.trips), k0_off26 k0_t2 k 64#32 = ![k0_t2.val % 2, k.val % 2, 96 * (k.val / 2 + 1) + 64, 0] := by decide +kernel

theorem off27_eq_0 : ∀ (k0_t2 : Fin k0_t2_loop.trips) (k : Fin k0_t3_loop.trips), k0_off27 k0_t2 k 0#32 = ![k0_t2.val % 2, k.val % 2, 96 * (k.val / 2 + 1) + 0, 128] := by decide +kernel

theorem off27_eq_1 : ∀ (k0_t2 : Fin k0_t2_loop.trips) (k : Fin k0_t3_loop.trips), k0_off27 k0_t2 k 32#32 = ![k0_t2.val % 2, k.val % 2, 96 * (k.val / 2 + 1) + 32, 128] := by decide +kernel

theorem off27_eq_2 : ∀ (k0_t2 : Fin k0_t2_loop.trips) (k : Fin k0_t3_loop.trips), k0_off27 k0_t2 k 64#32 = ![k0_t2.val % 2, k.val % 2, 96 * (k.val / 2 + 1) + 64, 128] := by decide +kernel

theorem off28_eq_0 : ∀ (k0_t2 : Fin k0_t2_loop.trips) (k : Fin k0_t3_loop.trips), k0_off28 k0_t2 k 0#32 = ![k0_t2.val % 2, k.val % 2, 96 * (k.val / 2 + 1) + 0, 256] := by decide +kernel

theorem off28_eq_1 : ∀ (k0_t2 : Fin k0_t2_loop.trips) (k : Fin k0_t3_loop.trips), k0_off28 k0_t2 k 32#32 = ![k0_t2.val % 2, k.val % 2, 96 * (k.val / 2 + 1) + 32, 256] := by decide +kernel

theorem off28_eq_2 : ∀ (k0_t2 : Fin k0_t2_loop.trips) (k : Fin k0_t3_loop.trips), k0_off28 k0_t2 k 64#32 = ![k0_t2.val % 2, k.val % 2, 96 * (k.val / 2 + 1) + 64, 256] := by decide +kernel

theorem off29_eq_0 : ∀ (k0_t2 : Fin k0_t2_loop.trips) (k : Fin k0_t3_loop.trips), k0_off29 k0_t2 k 0#32 = ![k0_t2.val % 2, k.val % 2, 96 * (k.val / 2 + 1) + 0, 384] := by decide +kernel

theorem off29_eq_1 : ∀ (k0_t2 : Fin k0_t2_loop.trips) (k : Fin k0_t3_loop.trips), k0_off29 k0_t2 k 32#32 = ![k0_t2.val % 2, k.val % 2, 96 * (k.val / 2 + 1) + 32, 384] := by decide +kernel

theorem off29_eq_2 : ∀ (k0_t2 : Fin k0_t2_loop.trips) (k : Fin k0_t3_loop.trips), k0_off29 k0_t2 k 64#32 = ![k0_t2.val % 2, k.val % 2, 96 * (k.val / 2 + 1) + 64, 384] := by decide +kernel

theorem off30_eq_0 : ∀ (k0_t2 : Fin k0_t2_loop.trips) (k : Fin k0_t3_loop.trips), k0_off30 k0_t2 k 0#32 = ![k0_t2.val % 2, k.val % 2, 96 * (k.val / 2 + 1) + 0, 512] := by decide +kernel

theorem off30_eq_1 : ∀ (k0_t2 : Fin k0_t2_loop.trips) (k : Fin k0_t3_loop.trips), k0_off30 k0_t2 k 32#32 = ![k0_t2.val % 2, k.val % 2, 96 * (k.val / 2 + 1) + 32, 512] := by decide +kernel

theorem off30_eq_2 : ∀ (k0_t2 : Fin k0_t2_loop.trips) (k : Fin k0_t3_loop.trips), k0_off30 k0_t2 k 64#32 = ![k0_t2.val % 2, k.val % 2, 96 * (k.val / 2 + 1) + 64, 512] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v28 : IVec S8x128 32) (v39 : IVec S8x128 32) (v41 : IVec S8x128 1) (v43 : IVec S8x128 1) (v44 : BitVec 1) (v45 : FVec Ideal S16x256 .bf16) (c0_i32_21 : BitVec 32) (c1_i32_22 : BitVec 32) (k0_t2 : Fin k0_t2_loop.trips) (v55 : BitVec 32) (v56 : BitVec 32) (X_arg6 : BufTy.Contents (Elt Ideal) arg6.view.ty)

/-- The ten tiles a trip of `k0_t3` reads. -/
def tiles_t3 (k : Fin k0_t3_loop.trips) : Fin 10 → IVec S8x128 32 :=
  tilesOf (tileW (arg6.view.readAt (Elt Ideal) (Rect.unit (s := S1x64x64x640) (k0_off16 k0_t2 k) S1x1x32x128.size (k0_off16_inb k0_t2 k)).toLoadRect X_arg6))
    (tileW (arg6.view.readAt (Elt Ideal) (Rect.unit (s := S1x64x64x640) (k0_off17 k0_t2 k) S1x1x32x128.size (k0_off17_inb k0_t2 k)).toLoadRect X_arg6))
    (tileW (arg6.view.readAt (Elt Ideal) (Rect.unit (s := S1x64x64x640) (k0_off18 k0_t2 k) S1x1x32x128.size (k0_off18_inb k0_t2 k)).toLoadRect X_arg6))
    (tileW (arg6.view.readAt (Elt Ideal) (Rect.unit (s := S1x64x64x640) (k0_off19 k0_t2 k) S1x1x32x128.size (k0_off19_inb k0_t2 k)).toLoadRect X_arg6))
    (tileW (arg6.view.readAt (Elt Ideal) (Rect.unit (s := S1x64x64x640) (k0_off20 k0_t2 k) S1x1x32x128.size (k0_off20_inb k0_t2 k)).toLoadRect X_arg6))
    (tileW (arg6.view.readAt (Elt Ideal) (Rect.unit (s := S1x64x64x640) (k0_off21 k0_t2 k) S1x1x32x128.size (k0_off21_inb k0_t2 k)).toLoadRect X_arg6))
    (tileW (arg6.view.readAt (Elt Ideal) (Rect.unit (s := S1x64x64x640) (k0_off22 k0_t2 k) S1x1x32x128.size (k0_off22_inb k0_t2 k)).toLoadRect X_arg6))
    (tileW (arg6.view.readAt (Elt Ideal) (Rect.unit (s := S1x64x64x640) (k0_off23 k0_t2 k) S1x1x32x128.size (k0_off23_inb k0_t2 k)).toLoadRect X_arg6))
    (tileW (arg6.view.readAt (Elt Ideal) (Rect.unit (s := S1x64x64x640) (k0_off24 k0_t2 k) S1x1x32x128.size (k0_off24_inb k0_t2 k)).toLoadRect X_arg6))
    (tileW (arg6.view.readAt (Elt Ideal) (Rect.unit (s := S1x64x64x640) (k0_off25 k0_t2 k) S1x1x32x128.size (k0_off25_inb k0_t2 k)).toLoadRect X_arg6))

set_option maxHeartbeats 40000000 in
theorem isTrip_t3 (k : Fin k0_t3_loop.trips) :
    List.Forall₂ (IsTap (mW v28 v39 v41 v43 v16 (tiles_t3 arg6 k0_t2 X_arg6 k)) (k.val % 2))
      (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 v55 v56 X_arg6 k) [(k0_t2.val % 2, (k.val / 2 + 1), 2, 4), (k0_t2.val % 2, (k.val / 2 + 1), 2, 3), (k0_t2.val % 2, (k.val / 2 + 1), 2, 2), (k0_t2.val % 2, (k.val / 2 + 1), 2, 1), (k0_t2.val % 2, (k.val / 2 + 1), 2, 0), (k0_t2.val % 2, (k.val / 2 + 1), 1, 4), (k0_t2.val % 2, (k.val / 2 + 1), 1, 3), (k0_t2.val % 2, (k.val / 2 + 1), 1, 2), (k0_t2.val % 2, (k.val / 2 + 1), 1, 1), (k0_t2.val % 2, (k.val / 2 + 1), 1, 0), (k0_t2.val % 2, (k.val / 2 + 1), 0, 4), (k0_t2.val % 2, (k.val / 2 + 1), 0, 3), (k0_t2.val % 2, (k.val / 2 + 1), 0, 2), (k0_t2.val % 2, (k.val / 2 + 1), 0, 1), (k0_t2.val % 2, (k.val / 2 + 1), 0, 0)] := by
  unfold tripL_k0_t3 trip_k0_t3 tiles_t3
  simp only []
  refine .cons (isTap_2_4 _ _ _ _ _ _ _ _ _ _ _ _ _ _ _ _ _ _ _ _ _ (off30_eq_2 k0_t2 k) ?_) ?_
  · with_unfolding_all exact rfl
  refine .cons (isTap_2_3 _ _ _ _ _ _ _ _ _ _ _ _ _ _ _ _ _ _ _ _ _ (off29_eq_2 k0_t2 k) ?_) ?_
  · with_unfolding_all exact rfl
  refine .cons (isTap_2_2 _ _ _ _ _ _ _ _ _ _ _ _ _ _ _ _ _ _ _ _ _ (off28_eq_2 k0_t2 k) ?_) ?_
  · with_unfolding_all exact rfl
  refine .cons (isTap_2_1 _ _ _ _ _ _ _ _ _ _ _ _ _ _ _ _ _ _ _ _ _ (off27_eq_2 k0_t2 k) ?_) ?_
  · with_unfolding_all exact rfl
  refine .cons (isTap_2_0 _ _ _ _ _ _ _ _ _ _ _ _ _ _ _ _ _ _ _ _ _ (off26_eq_2 k0_t2 k) ?_) ?_
  · with_unfolding_all exact rfl
  refine .cons (isTap_1_4 _ _ _ _ _ _ _ _ _ _ _ _ _ _ _ _ _ _ _ _ _ (off30_eq_1 k0_t2 k) ?_) ?_
  · with_unfolding_all exact rfl
  refine .cons (isTap_1_3 _ _ _ _ _ _ _ _ _ _ _ _ _ _ _ _ _ _ _ _ _ (off29_eq_1 k0_t2 k) ?_) ?_
  · with_unfolding_all exact rfl
  refine .cons (isTap_1_2 _ _ _ _ _ _ _ _ _ _ _ _ _ _ _ _ _ _ _ _ _ (off28_eq_1 k0_t2 k) ?_) ?_
  · with_unfolding_all exact rfl
  refine .cons (isTap_1_1 _ _ _ _ _ _ _ _ _ _ _ _ _ _ _ _ _ _ _ _ _ (off27_eq_1 k0_t2 k) ?_) ?_
  · with_unfolding_all exact rfl
  refine .cons (isTap_1_0 _ _ _ _ _ _ _ _ _ _ _ _ _ _ _ _ _ _ _ _ _ (off26_eq_1 k0_t2 k) ?_) ?_
  · with_unfolding_all exact rfl
  refine .cons (isTap_0_4 _ _ _ _ _ _ _ _ _ _ _ _ _ _ _ _ _ _ _ _ _ (off30_eq_0 k0_t2 k) ?_) ?_
  · with_unfolding_all exact rfl
  refine .cons (isTap_0_3 _ _ _ _ _ _ _ _ _ _ _ _ _ _ _ _ _ _ _ _ _ (off29_eq_0 k0_t2 k) ?_) ?_
  · with_unfolding_all exact rfl
  refine .cons (isTap_0_2 _ _ _ _ _ _ _ _ _ _ _ _ _ _ _ _ _ _ _ _ _ (off28_eq_0 k0_t2 k) ?_) ?_
  · with_unfolding_all exact rfl
  refine .cons (isTap_0_1 _ _ _ _ _ _ _ _ _ _ _ _ _ _ _ _ _ _ _ _ _ (off27_eq_0 k0_t2 k) ?_) ?_
  · with_unfolding_all exact rfl
  refine .cons (isTap_0_0 _ _ _ _ _ _ _ _ _ _ _ _ _ _ _ _ _ _ _ _ _ (off26_eq_0 k0_t2 k) ?_) ?_
  · with_unfolding_all exact rfl
  exact .nil
theorem off16_eq : ∀ (k0_t2 : Fin k0_t2_loop.trips) (k : Fin k0_t3_loop.trips), k0_off16 k0_t2 k = ![0, 8 * k0_t2.val + (k.val / 2 + 1), 32 * (k.val % 2), 0] := by decide +kernel
theorem off17_eq : ∀ (k0_t2 : Fin k0_t2_loop.trips) (k : Fin k0_t3_loop.trips), k0_off17 k0_t2 k = ![0, 8 * k0_t2.val + (k.val / 2 + 1), 32 * (k.val % 2), 128] := by decide +kernel
theorem off18_eq : ∀ (k0_t2 : Fin k0_t2_loop.trips) (k : Fin k0_t3_loop.trips), k0_off18 k0_t2 k = ![0, 8 * k0_t2.val + (k.val / 2 + 1), 32 * (k.val % 2), 256] := by decide +kernel
theorem off19_eq : ∀ (k0_t2 : Fin k0_t2_loop.trips) (k : Fin k0_t3_loop.trips), k0_off19 k0_t2 k = ![0, 8 * k0_t2.val + (k.val / 2 + 1), 32 * (k.val % 2), 384] := by decide +kernel
theorem off20_eq : ∀ (k0_t2 : Fin k0_t2_loop.trips) (k : Fin k0_t3_loop.trips), k0_off20 k0_t2 k = ![0, 8 * k0_t2.val + (k.val / 2 + 1), 32 * (k.val % 2), 512] := by decide +kernel
theorem off21_eq : ∀ (k0_t2 : Fin k0_t2_loop.trips) (k : Fin k0_t3_loop.trips), k0_off21 k0_t2 k = ![0, 8 * k0_t2.val + (k.val / 2 + 1) + 32, 32 * (k.val % 2), 0] := by decide +kernel
theorem off22_eq : ∀ (k0_t2 : Fin k0_t2_loop.trips) (k : Fin k0_t3_loop.trips), k0_off22 k0_t2 k = ![0, 8 * k0_t2.val + (k.val / 2 + 1) + 32, 32 * (k.val % 2), 128] := by decide +kernel
theorem off23_eq : ∀ (k0_t2 : Fin k0_t2_loop.trips) (k : Fin k0_t3_loop.trips), k0_off23 k0_t2 k = ![0, 8 * k0_t2.val + (k.val / 2 + 1) + 32, 32 * (k.val % 2), 256] := by decide +kernel
theorem off24_eq : ∀ (k0_t2 : Fin k0_t2_loop.trips) (k : Fin k0_t3_loop.trips), k0_off24 k0_t2 k = ![0, 8 * k0_t2.val + (k.val / 2 + 1) + 32, 32 * (k.val % 2), 384] := by decide +kernel
theorem off25_eq : ∀ (k0_t2 : Fin k0_t2_loop.trips) (k : Fin k0_t3_loop.trips), k0_off25 k0_t2 k = ![0, 8 * k0_t2.val + (k.val / 2 + 1) + 32, 32 * (k.val % 2), 512] := by decide +kernel

theorem isTiles_t3 (k : Fin k0_t3_loop.trips) (X7 : S1x1x64x640.Idx → BitVec 8) (last : Bool) (z : BitVec 8) (hz : HasBytes v16 fun _ _ => z)  :
    IsTiles (xvOf (fun y => arg6.view.read (Elt Ideal) X_arg6 y) X7 last z) (8 * k0_t2.val + (k.val / 2 + 1)) (k.val % 2) (tiles_t3 arg6 k0_t2 X_arg6 k) := by
  have hk : k.val < 14 := k.isLt
  have hq : k0_t2.val < 4 := k0_t2.isLt
  unfold tiles_t3
  intro p
  match p with
  | 0 =>
    refine tile_read _ _ _ _ _ _ _ (off16_eq k0_t2 k) (by omega) (by omega) (by omega) _ fun ch l => ?_
    exact (xvOf_row (fun y => arg6.view.read (Elt Ideal) X_arg6 y) X7 last z _ _ _ (by omega) (by omega) (by omega)).symm
  | 1 =>
    refine tile_read _ _ _ _ _ _ _ (off17_eq k0_t2 k) (by omega) (by omega) (by omega) _ fun ch l => ?_
    exact (xvOf_row (fun y => arg6.view.read (Elt Ideal) X_arg6 y) X7 last z _ _ _ (by omega) (by omega) (by omega)).symm
  | 2 =>
    refine tile_read _ _ _ _ _ _ _ (off18_eq k0_t2 k) (by omega) (by omega) (by omega) _ fun ch l => ?_
    exact (xvOf_row (fun y => arg6.view.read (Elt Ideal) X_arg6 y) X7 last z _ _ _ (by omega) (by omega) (by omega)).symm
  | 3 =>
    refine tile_read _ _ _ _ _ _ _ (off19_eq k0_t2 k) (by omega) (by omega) (by omega) _ fun ch l => ?_
    exact (xvOf_row (fun y => arg6.view.read (Elt Ideal) X_arg6 y) X7 last z _ _ _ (by omega) (by omega) (by omega)).symm
  | 4 =>
    refine tile_read _ _ _ _ _ _ _ (off20_eq k0_t2 k) (by omega) (by omega) (by omega) _ fun ch l => ?_
    exact (xvOf_row (fun y => arg6.view.read (Elt Ideal) X_arg6 y) X7 last z _ _ _ (by omega) (by omega) (by omega)).symm
  | 5 =>
    refine tile_read _ _ _ _ _ _ _ (off21_eq k0_t2 k) (by omega) (by omega) (by omega) _ fun ch l => ?_
    exact (xvOf_row (fun y => arg6.view.read (Elt Ideal) X_arg6 y) X7 last z _ _ _ (by omega) (by omega) (by omega)).symm
  | 6 =>
    refine tile_read _ _ _ _ _ _ _ (off22_eq k0_t2 k) (by omega) (by omega) (by omega) _ fun ch l => ?_
    exact (xvOf_row (fun y => arg6.view.read (Elt Ideal) X_arg6 y) X7 last z _ _ _ (by omega) (by omega) (by omega)).symm
  | 7 =>
    refine tile_read _ _ _ _ _ _ _ (off23_eq k0_t2 k) (by omega) (by omega) (by omega) _ fun ch l => ?_
    exact (xvOf_row (fun y => arg6.view.read (Elt Ideal) X_arg6 y) X7 last z _ _ _ (by omega) (by omega) (by omega)).symm
  | 8 =>
    refine tile_read _ _ _ _ _ _ _ (off24_eq k0_t2 k) (by omega) (by omega) (by omega) _ fun ch l => ?_
    exact (xvOf_row (fun y => arg6.view.read (Elt Ideal) X_arg6 y) X7 last z _ _ _ (by omega) (by omega) (by omega)).symm
  | 9 =>
    refine tile_read _ _ _ _ _ _ _ (off25_eq k0_t2 k) (by omega) (by omega) (by omega) _ fun ch l => ?_
    exact (xvOf_row (fun y => arg6.view.read (Elt Ideal) X_arg6 y) X7 last z _ _ _ (by omega) (by omega) (by omega)).symm

theorem puts_t3 (X7 : S1x1x64x640.Idx → BitVec 8) (last : Bool) (z : BitVec 8) (hz : HasBytes v16 fun _ _ => z)
    (HL : Lanes v28 v39 v41 v43) :
    Puts (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 v55 v56 X_arg6 14) (wantX (xvOf (fun y => arg6.view.read (Elt Ideal) X_arg6 y) X7 last z) (k0_t2.val)) (fun y => (y 0).val = k0_t2.val % 2 ∧ 96 ≤ (y 2).val ∧ (y 2).val < 768) := by
  have h := loop_puts (N := 14) (fun k => tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 v55 v56 X_arg6 k) (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 v55 v56 X_arg6) rfl (fun k => pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 v55 v56 X_arg6 k)
    (wantX (xvOf (fun y => arg6.view.read (Elt Ideal) X_arg6 y) X7 last z) (k0_t2.val)) (fun k y => (y 0).val = k0_t2.val % 2 ∧ (y 2).val / 96 = k.val / 2 + 1 ∧ (y 1).val = k.val % 2) ?_
  · refine ⟨h.1, fun y hy => h.2 y ?_⟩
    have y1 : (y 1).val < 2 := (y 1).isLt
    have y2 : (y 2).val < 864 := (y 2).isLt
    refine ⟨⟨2 * ((y 2).val / 96 - 1) + (y 1).val, by omega⟩, hy.1, ?_, ?_⟩
    · show (y 2).val / 96 = (2 * ((y 2).val / 96 - 1) + (y 1).val) / 2 + 1; omega
    · show (y 1).val = (2 * ((y 2).val / 96 - 1) + (y 1).val) % 2; omega
  · intro k
    refine trip_puts HL hz (fun r c => xvOf_last _ _ _ _ r c) (isTiles_t3 arg6 v16 k0_t2 X_arg6 k X7 last z hz) _ _ (isTrip_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 v55 v56 X_arg6 k) ?_ _ ?_
    · simp only [List.forall_mem_cons, List.not_mem_nil, false_imp_iff, implies_true, and_true]
      have hq : k0_t2.val < 4 := k0_t2.isLt
      skip
      simp
    · intro y hy
      have y3 : (y 3).val < 640 := (y 3).isLt
      have y2 : (y 2).val < 864 := (y 2).isLt
      have hq : k0_t2.val < 4 := k0_t2.isLt
      refine ⟨hy.2.2, ?_⟩
      have hb : ∀ (t : Fin 3) (j : Fin 5), (k0_t2.val % 2, (k.val / 2 + 1), t, j) ∈ ([(k0_t2.val % 2, (k.val / 2 + 1), 2, 4), (k0_t2.val % 2, (k.val / 2 + 1), 2, 3), (k0_t2.val % 2, (k.val / 2 + 1), 2, 2), (k0_t2.val % 2, (k.val / 2 + 1), 2, 1), (k0_t2.val % 2, (k.val / 2 + 1), 2, 0), (k0_t2.val % 2, (k.val / 2 + 1), 1, 4), (k0_t2.val % 2, (k.val / 2 + 1), 1, 3), (k0_t2.val % 2, (k.val / 2 + 1), 1, 2), (k0_t2.val % 2, (k.val / 2 + 1), 1, 1), (k0_t2.val % 2, (k.val / 2 + 1), 1, 0), (k0_t2.val % 2, (k.val / 2 + 1), 0, 4), (k0_t2.val % 2, (k.val / 2 + 1), 0, 3), (k0_t2.val % 2, (k.val / 2 + 1), 0, 2), (k0_t2.val % 2, (k.val / 2 + 1), 0, 1), (k0_t2.val % 2, (k.val / 2 + 1), 0, 0)] : List (ℕ × ℕ × Fin 3 × Fin 5)) := by
        intro t j
        fin_cases t <;> fin_cases j <;> simp
      rw [hy.1, hy.2.1]; exact hb _ _

end Cert.KernelIdeal.Val
end
-- ==== Proof.Taps4.lean ====
module

public import proofs.«01_k».proof.Proof.Taps
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI

theorem off46_eq_0 : ∀ (k0_t2 : Fin k0_t2_loop.trips) (k : Fin k0_t4_loop.trips), k0_off46 k0_t2 k 0#32 = ![k0_t2.val % 2, k.val, 96 * 8 + 0, 0] := by decide +kernel

theorem off46_eq_1 : ∀ (k0_t2 : Fin k0_t2_loop.trips) (k : Fin k0_t4_loop.trips), k0_off46 k0_t2 k 32#32 = ![k0_t2.val % 2, k.val, 96 * 8 + 32, 0] := by decide +kernel

theorem off46_eq_2 : ∀ (k0_t2 : Fin k0_t2_loop.trips) (k : Fin k0_t4_loop.trips), k0_off46 k0_t2 k 64#32 = ![k0_t2.val % 2, k.val, 96 * 8 + 64, 0] := by decide +kernel

theorem off47_eq_0 : ∀ (k0_t2 : Fin k0_t2_loop.trips) (k : Fin k0_t4_loop.trips), k0_off47 k0_t2 k 0#32 = ![1 - k0_t2.val % 2, k.val, 96 * 0 + 0, 0] := by decide +kernel

theorem off47_eq_1 : ∀ (k0_t2 : Fin k0_t2_loop.trips) (k : Fin k0_t4_loop.trips), k0_off47 k0_t2 k 32#32 = ![1 - k0_t2.val % 2, k.val, 96 * 0 + 32, 0] := by decide +kernel

theorem off47_eq_2 : ∀ (k0_t2 : Fin k0_t2_loop.trips) (k : Fin k0_t4_loop.trips), k0_off47 k0_t2 k 64#32 = ![1 - k0_t2.val % 2, k.val, 96 * 0 + 64, 0] := by decide +kernel

theorem off48_eq_0 : ∀ (k0_t2 : Fin k0_t2_loop.trips) (k : Fin k0_t4_loop.trips), k0_off48 k0_t2 k 0#32 = ![k0_t2.val % 2, k.val, 96 * 8 + 0, 128] := by decide +kernel

theorem off48_eq_1 : ∀ (k0_t2 : Fin k0_t2_loop.trips) (k : Fin k0_t4_loop.trips), k0_off48 k0_t2 k 32#32 = ![k0_t2.val % 2, k.val, 96 * 8 + 32, 128] := by decide +kernel

theorem off48_eq_2 : ∀ (k0_t2 : Fin k0_t2_loop.trips) (k : Fin k0_t4_loop.trips), k0_off48 k0_t2 k 64#32 = ![k0_t2.val % 2, k.val, 96 * 8 + 64, 128] := by decide +kernel

theorem off49_eq_0 : ∀ (k0_t2 : Fin k0_t2_loop.trips) (k : Fin k0_t4_loop.trips), k0_off49 k0_t2 k 0#32 = ![1 - k0_t2.val % 2, k.val, 96 * 0 + 0, 128] := by decide +kernel

theorem off49_eq_1 : ∀ (k0_t2 : Fin k0_t2_loop.trips) (k : Fin k0_t4_loop.trips), k0_off49 k0_t2 k 32#32 = ![1 - k0_t2.val % 2, k.val, 96 * 0 + 32, 128] := by decide +kernel

theorem off49_eq_2 : ∀ (k0_t2 : Fin k0_t2_loop.trips) (k : Fin k0_t4_loop.trips), k0_off49 k0_t2 k 64#32 = ![1 - k0_t2.val % 2, k.val, 96 * 0 + 64, 128] := by decide +kernel

theorem off50_eq_0 : ∀ (k0_t2 : Fin k0_t2_loop.trips) (k : Fin k0_t4_loop.trips), k0_off50 k0_t2 k 0#32 = ![k0_t2.val % 2, k.val, 96 * 8 + 0, 256] := by decide +kernel

theorem off50_eq_1 : ∀ (k0_t2 : Fin k0_t2_loop.trips) (k : Fin k0_t4_loop.trips), k0_off50 k0_t2 k 32#32 = ![k0_t2.val % 2, k.val, 96 * 8 + 32, 256] := by decide +kernel

theorem off50_eq_2 : ∀ (k0_t2 : Fin k0_t2_loop.trips) (k : Fin k0_t4_loop.trips), k0_off50 k0_t2 k 64#32 = ![k0_t2.val % 2, k.val, 96 * 8 + 64, 256] := by decide +kernel

theorem off51_eq_0 : ∀ (k0_t2 : Fin k0_t2_loop.trips) (k : Fin k0_t4_loop.trips), k0_off51 k0_t2 k 0#32 = ![1 - k0_t2.val % 2, k.val, 96 * 0 + 0, 256] := by decide +kernel

theorem off51_eq_1 : ∀ (k0_t2 : Fin k0_t2_loop.trips) (k : Fin k0_t4_loop.trips), k0_off51 k0_t2 k 32#32 = ![1 - k0_t2.val % 2, k.val, 96 * 0 + 32, 256] := by decide +kernel

theorem off51_eq_2 : ∀ (k0_t2 : Fin k0_t2_loop.trips) (k : Fin k0_t4_loop.trips), k0_off51 k0_t2 k 64#32 = ![1 - k0_t2.val % 2, k.val, 96 * 0 + 64, 256] := by decide +kernel

theorem off52_eq_0 : ∀ (k0_t2 : Fin k0_t2_loop.trips) (k : Fin k0_t4_loop.trips), k0_off52 k0_t2 k 0#32 = ![k0_t2.val % 2, k.val, 96 * 8 + 0, 384] := by decide +kernel

theorem off52_eq_1 : ∀ (k0_t2 : Fin k0_t2_loop.trips) (k : Fin k0_t4_loop.trips), k0_off52 k0_t2 k 32#32 = ![k0_t2.val % 2, k.val, 96 * 8 + 32, 384] := by decide +kernel

theorem off52_eq_2 : ∀ (k0_t2 : Fin k0_t2_loop.trips) (k : Fin k0_t4_loop.trips), k0_off52 k0_t2 k 64#32 = ![k0_t2.val % 2, k.val, 96 * 8 + 64, 384] := by decide +kernel

theorem off53_eq_0 : ∀ (k0_t2 : Fin k0_t2_loop.trips) (k : Fin k0_t4_loop.trips), k0_off53 k0_t2 k 0#32 = ![1 - k0_t2.val % 2, k.val, 96 * 0 + 0, 384] := by decide +kernel

theorem off53_eq_1 : ∀ (k0_t2 : Fin k0_t2_loop.trips) (k : Fin k0_t4_loop.trips), k0_off53 k0_t2 k 32#32 = ![1 - k0_t2.val % 2, k.val, 96 * 0 + 32, 384] := by decide +kernel

theorem off53_eq_2 : ∀ (k0_t2 : Fin k0_t2_loop.trips) (k : Fin k0_t4_loop.trips), k0_off53 k0_t2 k 64#32 = ![1 - k0_t2.val % 2, k.val, 96 * 0 + 64, 384] := by decide +kernel

theorem off54_eq_0 : ∀ (k0_t2 : Fin k0_t2_loop.trips) (k : Fin k0_t4_loop.trips), k0_off54 k0_t2 k 0#32 = ![k0_t2.val % 2, k.val, 96 * 8 + 0, 512] := by decide +kernel

theorem off54_eq_1 : ∀ (k0_t2 : Fin k0_t2_loop.trips) (k : Fin k0_t4_loop.trips), k0_off54 k0_t2 k 32#32 = ![k0_t2.val % 2, k.val, 96 * 8 + 32, 512] := by decide +kernel

theorem off54_eq_2 : ∀ (k0_t2 : Fin k0_t2_loop.trips) (k : Fin k0_t4_loop.trips), k0_off54 k0_t2 k 64#32 = ![k0_t2.val % 2, k.val, 96 * 8 + 64, 512] := by decide +kernel

theorem off55_eq_0 : ∀ (k0_t2 : Fin k0_t2_loop.trips) (k : Fin k0_t4_loop.trips), k0_off55 k0_t2 k 0#32 = ![1 - k0_t2.val % 2, k.val, 96 * 0 + 0, 512] := by decide +kernel

theorem off55_eq_1 : ∀ (k0_t2 : Fin k0_t2_loop.trips) (k : Fin k0_t4_loop.trips), k0_off55 k0_t2 k 32#32 = ![1 - k0_t2.val % 2, k.val, 96 * 0 + 32, 512] := by decide +kernel

theorem off55_eq_2 : ∀ (k0_t2 : Fin k0_t2_loop.trips) (k : Fin k0_t4_loop.trips), k0_off55 k0_t2 k 64#32 = ![1 - k0_t2.val % 2, k.val, 96 * 0 + 64, 512] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v28 : IVec S8x128 32) (v39 : IVec S8x128 32) (v41 : IVec S8x128 1) (v43 : IVec S8x128 1) (v44 : BitVec 1) (v45 : FVec Ideal S16x256 .bf16) (c0_i32_21 : BitVec 32) (c1_i32_22 : BitVec 32) (k0_t2 : Fin k0_t2_loop.trips) (arg18 : BitVec 32) (v55 : BitVec 32) (v58 : BitVec 32) (v60 : BitVec 32) (X_arg6 : BufTy.Contents (Elt Ideal) arg6.view.ty) (X_arg7 : BufTy.Contents (Elt Ideal) arg7.view.ty)

/-- The ten tiles a trip of `k0_t4` reads. -/
def tiles_t4 (k : Fin k0_t4_loop.trips) : Fin 10 → IVec S8x128 32 :=
  tilesOf (tileW (arg6.view.readAt (Elt Ideal) (Rect.unit (s := S1x64x64x640) (k0_off31 k0_t2 k) S1x1x32x128.size (k0_off31_inb k0_t2 k)).toLoadRect X_arg6))
    (tileW (arg6.view.readAt (Elt Ideal) (Rect.unit (s := S1x64x64x640) (k0_off32 k0_t2 k) S1x1x32x128.size (k0_off32_inb k0_t2 k)).toLoadRect X_arg6))
    (tileW (arg6.view.readAt (Elt Ideal) (Rect.unit (s := S1x64x64x640) (k0_off33 k0_t2 k) S1x1x32x128.size (k0_off33_inb k0_t2 k)).toLoadRect X_arg6))
    (tileW (arg6.view.readAt (Elt Ideal) (Rect.unit (s := S1x64x64x640) (k0_off34 k0_t2 k) S1x1x32x128.size (k0_off34_inb k0_t2 k)).toLoadRect X_arg6))
    (tileW (arg6.view.readAt (Elt Ideal) (Rect.unit (s := S1x64x64x640) (k0_off35 k0_t2 k) S1x1x32x128.size (k0_off35_inb k0_t2 k)).toLoadRect X_arg6))
    (Scalar.select (Scalar.cmpi .eq arg18 3#32) (Scalar.select v44 v16 (tileW (arg7.view.readAt (Elt Ideal) (Rect.unit (s := S1x1x64x640) (k0_off37 k) S1x1x32x128.size (k0_off37_inb k)).toLoadRect X_arg7))) (tileW (arg6.view.readAt (Elt Ideal) (Rect.unit (s := S1x64x64x640) (k0_off36 k0_t2 k) S1x1x32x128.size (k0_off36_inb k0_t2 k)).toLoadRect X_arg6)))
    (Scalar.select (Scalar.cmpi .eq arg18 3#32) (Scalar.select v44 v16 (tileW (arg7.view.readAt (Elt Ideal) (Rect.unit (s := S1x1x64x640) (k0_off39 k) S1x1x32x128.size (k0_off39_inb k)).toLoadRect X_arg7))) (tileW (arg6.view.readAt (Elt Ideal) (Rect.unit (s := S1x64x64x640) (k0_off38 k0_t2 k) S1x1x32x128.size (k0_off38_inb k0_t2 k)).toLoadRect X_arg6)))
    (Scalar.select (Scalar.cmpi .eq arg18 3#32) (Scalar.select v44 v16 (tileW (arg7.view.readAt (Elt Ideal) (Rect.unit (s := S1x1x64x640) (k0_off41 k) S1x1x32x128.size (k0_off41_inb k)).toLoadRect X_arg7))) (tileW (arg6.view.readAt (Elt Ideal) (Rect.unit (s := S1x64x64x640) (k0_off40 k0_t2 k) S1x1x32x128.size (k0_off40_inb k0_t2 k)).toLoadRect X_arg6)))
    (Scalar.select (Scalar.cmpi .eq arg18 3#32) (Scalar.select v44 v16 (tileW (arg7.view.readAt (Elt Ideal) (Rect.unit (s := S1x1x64x640) (k0_off43 k) S1x1x32x128.size (k0_off43_inb k)).toLoadRect X_arg7))) (tileW (arg6.view.readAt (Elt Ideal) (Rect.unit (s := S1x64x64x640) (k0_off42 k0_t2 k) S1x1x32x128.size (k0_off42_inb k0_t2 k)).toLoadRect X_arg6)))
    (Scalar.select (Scalar.cmpi .eq arg18 3#32) (Scalar.select v44 v16 (tileW (arg7.view.readAt (Elt Ideal) (Rect.unit (s := S1x1x64x640) (k0_off45 k) S1x1x32x128.size (k0_off45_inb k)).toLoadRect X_arg7))) (tileW (arg6.view.readAt (Elt Ideal) (Rect.unit (s := S1x64x64x640) (k0_off44 k0_t2 k) S1x1x32x128.size (k0_off44_inb k0_t2 k)).toLoadRect X_arg6)))

set_option maxHeartbeats 40000000 in
theorem isTrip_t4 (k : Fin k0_t4_loop.trips) :
    List.Forall₂ (IsTap (mW v28 v39 v41 v43 v16 (tiles_t4 arg6 arg7 v16 v44 k0_t2 arg18 X_arg6 X_arg7 k)) (k.val))
      (tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 v58 v60 X_arg6 X_arg7 k) [(1 - k0_t2.val % 2, 0, 2, 4), (k0_t2.val % 2, 8, 2, 4), (1 - k0_t2.val % 2, 0, 2, 3), (k0_t2.val % 2, 8, 2, 3), (1 - k0_t2.val % 2, 0, 2, 2), (k0_t2.val % 2, 8, 2, 2), (1 - k0_t2.val % 2, 0, 2, 1), (k0_t2.val % 2, 8, 2, 1), (1 - k0_t2.val % 2, 0, 2, 0), (k0_t2.val % 2, 8, 2, 0), (1 - k0_t2.val % 2, 0, 1, 4), (k0_t2.val % 2, 8, 1, 4), (1 - k0_t2.val % 2, 0, 1, 3), (k0_t2.val % 2, 8, 1, 3), (1 - k0_t2.val % 2, 0, 1, 2), (k0_t2.val % 2, 8, 1, 2), (1 - k0_t2.val % 2, 0, 1, 1), (k0_t2.val % 2, 8, 1, 1), (1 - k0_t2.val % 2, 0, 1, 0), (k0_t2.val % 2, 8, 1, 0), (1 - k0_t2.val % 2, 0, 0, 4), (k0_t2.val % 2, 8, 0, 4), (1 - k0_t2.val % 2, 0, 0, 3), (k0_t2.val % 2, 8, 0, 3), (1 - k0_t2.val % 2, 0, 0, 2), (k0_t2.val % 2, 8, 0, 2), (1 - k0_t2.val % 2, 0, 0, 1), (k0_t2.val % 2, 8, 0, 1), (1 - k0_t2.val % 2, 0, 0, 0), (k0_t2.val % 2, 8, 0, 0)] := by
  unfold tripL_k0_t4 trip_k0_t4 tiles_t4
  simp only []
  refine .cons (isTap_2_4 _ _ _ _ _ _ _ _ _ _ _ _ _ _ _ _ _ _ _ _ _ (off55_eq_2 k0_t2 k) ?_) ?_
  · with_unfolding_all exact rfl
  refine .cons (isTap_2_4 _ _ _ _ _ _ _ _ _ _ _ _ _ _ _ _ _ _ _ _ _ (off54_eq_2 k0_t2 k) ?_) ?_
  · with_unfolding_all exact rfl
  refine .cons (isTap_2_3 _ _ _ _ _ _ _ _ _ _ _ _ _ _ _ _ _ _ _ _ _ (off53_eq_2 k0_t2 k) ?_) ?_
  · with_unfolding_all exact rfl
  refine .cons (isTap_2_3 _ _ _ _ _ _ _ _ _ _ _ _ _ _ _ _ _ _ _ _ _ (off52_eq_2 k0_t2 k) ?_) ?_
  · with_unfolding_all exact rfl
  refine .cons (isTap_2_2 _ _ _ _ _ _ _ _ _ _ _ _ _ _ _ _ _ _ _ _ _ (off51_eq_2 k0_t2 k) ?_) ?_
  · with_unfolding_all exact rfl
  refine .cons (isTap_2_2 _ _ _ _ _ _ _ _ _ _ _ _ _ _ _ _ _ _ _ _ _ (off50_eq_2 k0_t2 k) ?_) ?_
  · with_unfolding_all exact rfl
  refine .cons (isTap_2_1 _ _ _ _ _ _ _ _ _ _ _ _ _ _ _ _ _ _ _ _ _ (off49_eq_2 k0_t2 k) ?_) ?_
  · with_unfolding_all exact rfl
  refine .cons (isTap_2_1 _ _ _ _ _ _ _ _ _ _ _ _ _ _ _ _ _ _ _ _ _ (off48_eq_2 k0_t2 k) ?_) ?_
  · with_unfolding_all exact rfl
  refine .cons (isTap_2_0 _ _ _ _ _ _ _ _ _ _ _ _ _ _ _ _ _ _ _ _ _ (off47_eq_2 k0_t2 k) ?_) ?_
  · with_unfolding_all exact rfl
  refine .cons (isTap_2_0 _ _ _ _ _ _ _ _ _ _ _ _ _ _ _ _ _ _ _ _ _ (off46_eq_2 k0_t2 k) ?_) ?_
  · with_unfolding_all exact rfl
  refine .cons (isTap_1_4 _ _ _ _ _ _ _ _ _ _ _ _ _ _ _ _ _ _ _ _ _ (off55_eq_1 k0_t2 k) ?_) ?_
  · with_unfolding_all exact rfl
  refine .cons (isTap_1_4 _ _ _ _ _ _ _ _ _ _ _ _ _ _ _ _ _ _ _ _ _ (off54_eq_1 k0_t2 k) ?_) ?_
  · with_unfolding_all exact rfl
  refine .cons (isTap_1_3 _ _ _ _ _ _ _ _ _ _ _ _ _ _ _ _ _ _ _ _ _ (off53_eq_1 k0_t2 k) ?_) ?_
  · with_unfolding_all exact rfl
  refine .cons (isTap_1_3 _ _ _ _ _ _ _ _ _ _ _ _ _ _ _ _ _ _ _ _ _ (off52_eq_1 k0_t2 k) ?_) ?_
  · with_unfolding_all exact rfl
  refine .cons (isTap_1_2 _ _ _ _ _ _ _ _ _ _ _ _ _ _ _ _ _ _ _ _ _ (off51_eq_1 k0_t2 k) ?_) ?_
  · with_unfolding_all exact rfl
  refine .cons (isTap_1_2 _ _ _ _ _ _ _ _ _ _ _ _ _ _ _ _ _ _ _ _ _ (off50_eq_1 k0_t2 k) ?_) ?_
  · with_unfolding_all exact rfl
  refine .cons (isTap_1_1 _ _ _ _ _ _ _ _ _ _ _ _ _ _ _ _ _ _ _ _ _ (off49_eq_1 k0_t2 k) ?_) ?_
  · with_unfolding_all exact rfl
  refine .cons (isTap_1_1 _ _ _ _ _ _ _ _ _ _ _ _ _ _ _ _ _ _ _ _ _ (off48_eq_1 k0_t2 k) ?_) ?_
  · with_unfolding_all exact rfl
  refine .cons (isTap_1_0 _ _ _ _ _ _ _ _ _ _ _ _ _ _ _ _ _ _ _ _ _ (off47_eq_1 k0_t2 k) ?_) ?_
  · with_unfolding_all exact rfl
  refine .cons (isTap_1_0 _ _ _ _ _ _ _ _ _ _ _ _ _ _ _ _ _ _ _ _ _ (off46_eq_1 k0_t2 k) ?_) ?_
  · with_unfolding_all exact rfl
  refine .cons (isTap_0_4 _ _ _ _ _ _ _ _ _ _ _ _ _ _ _ _ _ _ _ _ _ (off55_eq_0 k0_t2 k) ?_) ?_
  · with_unfolding_all exact rfl
  refine .cons (isTap_0_4 _ _ _ _ _ _ _ _ _ _ _ _ _ _ _ _ _ _ _ _ _ (off54_eq_0 k0_t2 k) ?_) ?_
  · with_unfolding_all exact rfl
  refine .cons (isTap_0_3 _ _ _ _ _ _ _ _ _ _ _ _ _ _ _ _ _ _ _ _ _ (off53_eq_0 k0_t2 k) ?_) ?_
  · with_unfolding_all exact rfl
  refine .cons (isTap_0_3 _ _ _ _ _ _ _ _ _ _ _ _ _ _ _ _ _ _ _ _ _ (off52_eq_0 k0_t2 k) ?_) ?_
  · with_unfolding_all exact rfl
  refine .cons (isTap_0_2 _ _ _ _ _ _ _ _ _ _ _ _ _ _ _ _ _ _ _ _ _ (off51_eq_0 k0_t2 k) ?_) ?_
  · with_unfolding_all exact rfl
  refine .cons (isTap_0_2 _ _ _ _ _ _ _ _ _ _ _ _ _ _ _ _ _ _ _ _ _ (off50_eq_0 k0_t2 k) ?_) ?_
  · with_unfolding_all exact rfl
  refine .cons (isTap_0_1 _ _ _ _ _ _ _ _ _ _ _ _ _ _ _ _ _ _ _ _ _ (off49_eq_0 k0_t2 k) ?_) ?_
  · with_unfolding_all exact rfl
  refine .cons (isTap_0_1 _ _ _ _ _ _ _ _ _ _ _ _ _ _ _ _ _ _ _ _ _ (off48_eq_0 k0_t2 k) ?_) ?_
  · with_unfolding_all exact rfl
  refine .cons (isTap_0_0 _ _ _ _ _ _ _ _ _ _ _ _ _ _ _ _ _ _ _ _ _ (off47_eq_0 k0_t2 k) ?_) ?_
  · with_unfolding_all exact rfl
  refine .cons (isTap_0_0 _ _ _ _ _ _ _ _ _ _ _ _ _ _ _ _ _ _ _ _ _ (off46_eq_0 k0_t2 k) ?_) ?_
  · with_unfolding_all exact rfl
  exact .nil
theorem off31_eq : ∀ (k0_t2 : Fin k0_t2_loop.trips) (k : Fin k0_t4_loop.trips), k0_off31 k0_t2 k = ![0, 8 * k0_t2.val + 8, 32 * (k.val), 0] := by decide +kernel
theorem off32_eq : ∀ (k0_t2 : Fin k0_t2_loop.trips) (k : Fin k0_t4_loop.trips), k0_off32 k0_t2 k = ![0, 8 * k0_t2.val + 8, 32 * (k.val), 128] := by decide +kernel
theorem off33_eq : ∀ (k0_t2 : Fin k0_t2_loop.trips) (k : Fin k0_t4_loop.trips), k0_off33 k0_t2 k = ![0, 8 * k0_t2.val + 8, 32 * (k.val), 256] := by decide +kernel
theorem off34_eq : ∀ (k0_t2 : Fin k0_t2_loop.trips) (k : Fin k0_t4_loop.trips), k0_off34 k0_t2 k = ![0, 8 * k0_t2.val + 8, 32 * (k.val), 384] := by decide +kernel
theorem off35_eq : ∀ (k0_t2 : Fin k0_t2_loop.trips) (k : Fin k0_t4_loop.trips), k0_off35 k0_t2 k = ![0, 8 * k0_t2.val + 8, 32 * (k.val), 512] := by decide +kernel
theorem off36_eq : ∀ (k0_t2 : Fin k0_t2_loop.trips) (k : Fin k0_t4_loop.trips), k0_off36 k0_t2 k = ![0, min (8 * k0_t2.val + 8 + 32) 63, 32 * (k.val), 0] := by decide +kernel
theorem off37_eq : ∀ (k : Fin k0_t4_loop.trips), k0_off37 k = ![0, 0, 32 * (k.val), 0] := by decide +kernel
theorem off38_eq : ∀ (k0_t2 : Fin k0_t2_loop.trips) (k : Fin k0_t4_loop.trips), k0_off38 k0_t2 k = ![0, min (8 * k0_t2.val + 8 + 32) 63, 32 * (k.val), 128] := by decide +kernel
theorem off39_eq : ∀ (k : Fin k0_t4_loop.trips), k0_off39 k = ![0, 0, 32 * (k.val), 128] := by decide +kernel
theorem off40_eq : ∀ (k0_t2 : Fin k0_t2_loop.trips) (k : Fin k0_t4_loop.trips), k0_off40 k0_t2 k = ![0, min (8 * k0_t2.val + 8 + 32) 63, 32 * (k.val), 256] := by decide +kernel
theorem off41_eq : ∀ (k : Fin k0_t4_loop.trips), k0_off41 k = ![0, 0, 32 * (k.val), 256] := by decide +kernel
theorem off42_eq : ∀ (k0_t2 : Fin k0_t2_loop.trips) (k : Fin k0_t4_loop.trips), k0_off42 k0_t2 k = ![0, min (8 * k0_t2.val + 8 + 32) 63, 32 * (k.val), 384] := by decide +kernel
theorem off43_eq : ∀ (k : Fin k0_t4_loop.trips), k0_off43 k = ![0, 0, 32 * (k.val), 384] := by decide +kernel
theorem off44_eq : ∀ (k0_t2 : Fin k0_t2_loop.trips) (k : Fin k0_t4_loop.trips), k0_off44 k0_t2 k = ![0, min (8 * k0_t2.val + 8 + 32) 63, 32 * (k.val), 512] := by decide +kernel
theorem off45_eq : ∀ (k : Fin k0_t4_loop.trips), k0_off45 k = ![0, 0, 32 * (k.val), 512] := by decide +kernel

theorem isTiles_t4 (k : Fin k0_t4_loop.trips) (last : Bool) (z : BitVec 8) (hz : HasBytes v16 fun _ _ => z) (hv44 : v44 = if last then 1#1 else 0#1) (harg : arg18 = Scf.iv 0#32 1#32 k0_t2) :
    IsTiles (xvOf (fun y => arg6.view.read (Elt Ideal) X_arg6 y) (fun y => arg7.view.read (Elt Ideal) X_arg7 y) last z) (8 * k0_t2.val + 8) (k.val) (tiles_t4 arg6 arg7 v16 v44 k0_t2 arg18 X_arg6 X_arg7 k) := by
  have hk : k.val < 2 := k.isLt
  have hq : k0_t2.val < 4 := k0_t2.isLt
  unfold tiles_t4
  intro p
  have hsel : Scalar.cmpi .eq arg18 3#32 = if k0_t2.val = 3 then 1#1 else 0#1 := by
    rw [harg]; exact (by decide +kernel : ∀ j : Fin k0_t2_loop.trips, Scalar.cmpi .eq (Scf.iv 0#32 1#32 j) 3#32 = if j.val = 3 then 1#1 else 0#1) k0_t2
  match p with
  | 0 =>
    refine tile_read _ _ _ _ _ _ _ (off31_eq k0_t2 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 1 =>
    refine tile_read _ _ _ _ _ _ _ (off32_eq k0_t2 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 2 =>
    refine tile_read _ _ _ _ _ _ _ (off33_eq k0_t2 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 3 =>
    refine tile_read _ _ _ _ _ _ _ (off34_eq k0_t2 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 4 =>
    refine tile_read _ _ _ _ _ _ _ (off35_eq k0_t2 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 5 =>
    show HasBytes (Scalar.select (Scalar.cmpi .eq arg18 3#32) _ _) _
    rw [hsel, sel_if]
    by_cases h3 : k0_t2.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t2.val + 8 + 32) (32 * (k.val) + ch.val) (0 + l.val)
          = if last then z else (arg7.view.read (Elt Ideal) X_arg7 (ix4 0 0 ⟨32 * (k.val) + ch.val, by omega⟩ ⟨0 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off37_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off36_eq k0_t2 k) (by omega) (by omega) (by omega) _ fun ch l => ?_
      refine Eq.trans ?_ (xvOf_row (fun y => arg6.view.read (Elt Ideal) X_arg6 y) (fun y => arg7.view.read (Elt Ideal) X_arg7 y) last z (8 * k0_t2.val + 8 + 32) _ _ (by omega) (by omega) (by omega)).symm
      congr 2
      exact Fin.ext (by show min (8 * k0_t2.val + 8 + 32) 63 = 8 * k0_t2.val + 8 + 32; omega)
  | 6 =>
    show HasBytes (Scalar.select (Scalar.cmpi .eq arg18 3#32) _ _) _
    rw [hsel, sel_if]
    by_cases h3 : k0_t2.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t2.val + 8 + 32) (32 * (k.val) + ch.val) (128 + l.val)
          = if last then z else (arg7.view.read (Elt Ideal) X_arg7 (ix4 0 0 ⟨32 * (k.val) + ch.val, by omega⟩ ⟨128 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off39_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off38_eq k0_t2 k) (by omega) (by omega) (by omega) _ fun ch l => ?_
      refine Eq.trans ?_ (xvOf_row (fun y => arg6.view.read (Elt Ideal) X_arg6 y) (fun y => arg7.view.read (Elt Ideal) X_arg7 y) last z (8 * k0_t2.val + 8 + 32) _ _ (by omega) (by omega) (by omega)).symm
      congr 2
      exact Fin.ext (by show min (8 * k0_t2.val + 8 + 32) 63 = 8 * k0_t2.val + 8 + 32; omega)
  | 7 =>
    show HasBytes (Scalar.select (Scalar.cmpi .eq arg18 3#32) _ _) _
    rw [hsel, sel_if]
    by_cases h3 : k0_t2.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t2.val + 8 + 32) (32 * (k.val) + ch.val) (256 + l.val)
          = if last then z else (arg7.view.read (Elt Ideal) X_arg7 (ix4 0 0 ⟨32 * (k.val) + ch.val, by omega⟩ ⟨256 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off41_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off40_eq k0_t2 k) (by omega) (by omega) (by omega) _ fun ch l => ?_
      refine Eq.trans ?_ (xvOf_row (fun y => arg6.view.read (Elt Ideal) X_arg6 y) (fun y => arg7.view.read (Elt Ideal) X_arg7 y) last z (8 * k0_t2.val + 8 + 32) _ _ (by omega) (by omega) (by omega)).symm
      congr 2
      exact Fin.ext (by show min (8 * k0_t2.val + 8 + 32) 63 = 8 * k0_t2.val + 8 + 32; omega)
  | 8 =>
    show HasBytes (Scalar.select (Scalar.cmpi .eq arg18 3#32) _ _) _
    rw [hsel, sel_if]
    by_cases h3 : k0_t2.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t2.val + 8 + 32) (32 * (k.val) + ch.val) (384 + l.val)
          = if last then z else (arg7.view.read (Elt Ideal) X_arg7 (ix4 0 0 ⟨32 * (k.val) + ch.val, by omega⟩ ⟨384 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off43_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off42_eq k0_t2 k) (by omega) (by omega) (by omega) _ fun ch l => ?_
      refine Eq.trans ?_ (xvOf_row (fun y => arg6.view.read (Elt Ideal) X_arg6 y) (fun y => arg7.view.read (Elt Ideal) X_arg7 y) last z (8 * k0_t2.val + 8 + 32) _ _ (by omega) (by omega) (by omega)).symm
      congr 2
      exact Fin.ext (by show min (8 * k0_t2.val + 8 + 32) 63 = 8 * k0_t2.val + 8 + 32; omega)
  | 9 =>
    show HasBytes (Scalar.select (Scalar.cmpi .eq arg18 3#32) _ _) _
    rw [hsel, sel_if]
    by_cases h3 : k0_t2.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t2.val + 8 + 32) (32 * (k.val) + ch.val) (512 + l.val)
          = if last then z else (arg7.view.read (Elt Ideal) X_arg7 (ix4 0 0 ⟨32 * (k.val) + ch.val, by omega⟩ ⟨512 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off45_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off44_eq k0_t2 k) (by omega) (by omega) (by omega) _ fun ch l => ?_
      refine Eq.trans ?_ (xvOf_row (fun y => arg6.view.read (Elt Ideal) X_arg6 y) (fun y => arg7.view.read (Elt Ideal) X_arg7 y) last z (8 * k0_t2.val + 8 + 32) _ _ (by omega) (by omega) (by omega)).symm
      congr 2
      exact Fin.ext (by show min (8 * k0_t2.val + 8 + 32) 63 = 8 * k0_t2.val + 8 + 32; omega)

theorem puts_t4 (last : Bool) (z : BitVec 8) (hz : HasBytes v16 fun _ _ => z) (hv44 : v44 = if last then 1#1 else 0#1) (harg : arg18 = Scf.iv 0#32 1#32 k0_t2)
    (HL : Lanes v28 v39 v41 v43) :
    Puts (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 v58 v60 X_arg6 X_arg7 2) (wantX (xvOf (fun y => arg6.view.read (Elt Ideal) X_arg6 y) (fun y => arg7.view.read (Elt Ideal) X_arg7 y) last z) (k0_t2.val)) (fun y => ((y 0).val = k0_t2.val % 2 ∧ 768 ≤ (y 2).val) ∨ ((y 0).val = 1 - k0_t2.val % 2 ∧ (y 2).val < 96)) := by
  have h := loop_puts (N := 2) (fun k => tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 v58 v60 X_arg6 X_arg7 k) (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 v58 v60 X_arg6 X_arg7) rfl (fun k => pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 v58 v60 X_arg6 X_arg7 k)
    (wantX (xvOf (fun y => arg6.view.read (Elt Ideal) X_arg6 y) (fun y => arg7.view.read (Elt Ideal) X_arg7 y) last z) (k0_t2.val)) (fun k y => (((y 0).val = k0_t2.val % 2 ∧ 768 ≤ (y 2).val) ∨ ((y 0).val = 1 - k0_t2.val % 2 ∧ (y 2).val < 96)) ∧ (y 1).val = k.val) ?_
  · refine ⟨h.1, fun y hy => h.2 y ?_⟩
    have y1 : (y 1).val < 2 := (y 1).isLt
    have y2 : (y 2).val < 864 := (y 2).isLt
    exact ⟨⟨(y 1).val, y1⟩, hy, rfl⟩
  · intro k
    refine trip_puts HL hz (fun r c => xvOf_last _ _ _ _ r c) (isTiles_t4 arg6 arg7 v16 v44 k0_t2 arg18 X_arg6 X_arg7 k last z hz hv44 harg) _ _ (isTrip_t4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 v39 v41 v43 v44 v45 c0_i32_21 c1_i32_22 k0_t2 arg18 v55 v58 v60 X_arg6 X_arg7 k) ?_ _ ?_
    · simp only [List.forall_mem_cons, List.not_mem_nil, false_imp_iff, implies_true, and_true]
      have hq : k0_t2.val < 4 := k0_t2.isLt
      have h0 : ¬ (1 - k0_t2.val % 2 = k0_t2.val % 2) := by omega
      simp [h0]
    · intro y hy
      have y3 : (y 3).val < 640 := (y 3).isLt
      have y2 : (y 2).val < 864 := (y 2).isLt
      have hq : k0_t2.val < 4 := k0_t2.isLt
      refine ⟨hy.2, ?_⟩
      have hb : ∀ (t : Fin 3) (j : Fin 5), ((k0_t2.val % 2, 8, t, j) ∈ ([(1 - k0_t2.val % 2, 0, 2, 4), (k0_t2.val % 2, 8, 2, 4), (1 - k0_t2.val % 2, 0, 2, 3), (k0_t2.val % 2, 8, 2, 3), (1 - k0_t2.val % 2, 0, 2, 2), (k0_t2.val % 2, 8, 2, 2), (1 - k0_t2.val % 2, 0, 2, 1), (k0_t2.val % 2, 8, 2, 1), (1 - k0_t2.val % 2, 0, 2, 0), (k0_t2.val % 2, 8, 2, 0), (1 - k0_t2.val % 2, 0, 1, 4), (k0_t2.val % 2, 8, 1, 4), (1 - k0_t2.val % 2, 0, 1, 3), (k0_t2.val % 2, 8, 1, 3), (1 - k0_t2.val % 2, 0, 1, 2), (k0_t2.val % 2, 8, 1, 2), (1 - k0_t2.val % 2, 0, 1, 1), (k0_t2.val % 2, 8, 1, 1), (1 - k0_t2.val % 2, 0, 1, 0), (k0_t2.val % 2, 8, 1, 0), (1 - k0_t2.val % 2, 0, 0, 4), (k0_t2.val % 2, 8, 0, 4), (1 - k0_t2.val % 2, 0, 0, 3), (k0_t2.val % 2, 8, 0, 3), (1 - k0_t2.val % 2, 0, 0, 2), (k0_t2.val % 2, 8, 0, 2), (1 - k0_t2.val % 2, 0, 0, 1), (k0_t2.val % 2, 8, 0, 1), (1 - k0_t2.val % 2, 0, 0, 0), (k0_t2.val % 2, 8, 0, 0)] : List (ℕ × ℕ × Fin 3 × Fin 5))) ∧ ((1 - k0_t2.val % 2, 0, t, j) ∈ ([(1 - k0_t2.val % 2, 0, 2, 4), (k0_t2.val % 2, 8, 2, 4), (1 - k0_t2.val % 2, 0, 2, 3), (k0_t2.val % 2, 8, 2, 3), (1 - k0_t2.val % 2, 0, 2, 2), (k0_t2.val % 2, 8, 2, 2), (1 - k0_t2.val % 2, 0, 2, 1), (k0_t2.val % 2, 8, 2, 1), (1 - k0_t2.val % 2, 0, 2, 0), (k0_t2.val % 2, 8, 2, 0), (1 - k0_t2.val % 2, 0, 1, 4), (k0_t2.val % 2, 8, 1, 4), (1 - k0_t2.val % 2, 0, 1, 3), (k0_t2.val % 2, 8, 1, 3), (1 - k0_t2.val % 2, 0, 1, 2), (k0_t2.val % 2, 8, 1, 2), (1 - k0_t2.val % 2, 0, 1, 1), (k0_t2.val % 2, 8, 1, 1), (1 - k0_t2.val % 2, 0, 1, 0), (k0_t2.val % 2, 8, 1, 0), (1 - k0_t2.val % 2, 0, 0, 4), (k0_t2.val % 2, 8, 0, 4), (1 - k0_t2.val % 2, 0, 0, 3), (k0_t2.val % 2, 8, 0, 3), (1 - k0_t2.val % 2, 0, 0, 2), (k0_t2.val % 2, 8, 0, 2), (1 - k0_t2.val % 2, 0, 0, 1), (k0_t2.val % 2, 8, 0, 1), (1 - k0_t2.val % 2, 0, 0, 0), (k0_t2.val % 2, 8, 0, 0)] : List (ℕ × ℕ × Fin 3 × Fin 5))) := by
        intro t j
        fin_cases t <;> fin_cases j <;> simp
      rcases hy.1 with hy | hy
      · rw [hy.1, show (y 2).val / 96 = 8 by omega]; exact (hb _ _).1
      · rw [hy.1, show (y 2).val / 96 = 0 by omega]; exact (hb _ _).2

end Cert.KernelIdeal.Val
end
-- ==== Proof.Blocks.lean ====
module

public import proofs.«01_k».proof.Proof.Outs
public import Idealize.ShloMosaic.Lib.IdealHost
public import proofs.«01_k».proof.Proof.Gen.KernelIdeal.Skeleton

@[expose] public section

noncomputable section

namespace Cert.KernelIdeal.Val

open Cert.KernelIdeal Cert.KernelIdeal.Gen
open Idealize.ShloMosaic Idealize.ShloMosaic.TcCoe Idealize.ShloMosaic.Tactic

theorem Puts.append {P Q : List XPiece} {want S T U} (hP : Puts P want S) (hQ : Puts Q want T) (hU : ∀ y, U y → S y ∨ T y) : Puts (P ++ Q) want U := by
  refine ⟨fun p hp => (List.mem_append.1 hp).elim (hP.1 p) (hQ.1 p), fun y hy => ?_⟩
  rcases hU y hy with h | h
  · obtain ⟨p, hp, hm⟩ := hP.2 y h; exact ⟨p, List.mem_append.2 (Or.inl hp), hm⟩
  · obtain ⟨p, hp, hm⟩ := hQ.2 y h; exact ⟨p, List.mem_append.2 (Or.inr hp), hm⟩

theorem OPuts.append {P Q : List OPiece} {want S T U} (hP : OPuts P want S) (hQ : OPuts Q want T) (hU : ∀ y, U y → S y ∨ T y) : OPuts (P ++ Q) want U := by
  refine ⟨fun p hp => (List.mem_append.1 hp).elim (hP.1 p) (hQ.1 p), fun y hy => ?_⟩
  rcases hU y hy with h | h
  · obtain ⟨p, hp, hm⟩ := hP.2 y h; exact ⟨p, List.mem_append.2 (Or.inl hp), hm⟩
  · obtain ⟨p, hp, hm⟩ := hQ.2 y h; exact ⟨p, List.mem_append.2 (Or.inr hp), hm⟩

theorem OPuts.mono {P : List OPiece} {want S T} (hP : OPuts P want S) (h : ∀ y, T y → S y) : OPuts P want T :=
  ⟨hP.1, fun y hy => hP.2 y (h y hy)⟩

/-- One more piece, which fills a row from lane 192 on. -/
theorem OPuts.cons {p : OPiece} {P : List OPiece} {rq lh xv} {U : S1x32x320x128.Idx → Prop} {row : ℕ} (hp : OGood rq lh xv p)
    (hm : ∀ y, (y 1).val = row → 192 ≤ (y 2).val → y ∈ p.1.set)
    (hP : OPuts P (wantO rq lh xv) (fun y => U y ∧ ¬((y 1).val = row ∧ 192 ≤ (y 2).val))) : OPuts (p :: P) (wantO rq lh xv) U := by
  refine ⟨fun q hq => ?_, fun y hy => ?_⟩
  · rcases List.mem_cons.1 hq with rfl | hq
    · exact hp
    · exact hP.1 q hq
  · by_cases h : (y 1).val = row ∧ 192 ≤ (y 2).val
    · exact ⟨p, List.mem_cons_self, hm y h.1 h.2⟩
    · obtain ⟨q, hq, hm⟩ := hP.2 y ⟨hy, h⟩; exact ⟨q, List.mem_cons_of_mem _ hq, hm⟩

theorem wantX_next (xv) (n : ℕ) (y : S2x2x864x640.Idx) (hy : (y 0).val = (n + 1) % 2) (h : (y 2).val < 96) : wantX xv n y = wantX xv (n + 1) y := by
  unfold wantX
  rw [if_neg (by omega), if_pos hy]
  have : 8 * (n + 1) + (y 2).val / 96 = 8 * n + 8 := by omega
  rw [this]

theorem ones_pay4 (j) : (k0_pay4 (F := Ideal)) j = 1 := by
  with_unfolding_all exact Ideal.ofBits_one_bf16

end Cert.KernelIdeal.Val
end
-- ==== Proof.Block2.lean ====
module

public import proofs.«01_k».proof.Proof.LoopsVal
public import proofs.«01_k».proof.Proof.Outs5
public import proofs.«01_k».proof.Proof.Taps3
public import proofs.«01_k».proof.Proof.Taps4
public import proofs.«01_k».proof.Proof.Blocks
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
theorem off69_eq_0_0 : ∀ k : Fin k0_t2_loop.trips, k0_off69 k 0#32 0#32 = ![0, 4 * k.val + 0 + 0 + 16, 192, 0] := by decide +kernel
theorem off69_eq_2_0 : ∀ k : Fin k0_t2_loop.trips, k0_off69 k 2#32 0#32 = ![0, 4 * k.val + 2 + 0 + 16, 192, 0] := by decide +kernel
theorem off69_eq_0_1 : ∀ k : Fin k0_t2_loop.trips, k0_off69 k 0#32 1#32 = ![0, 4 * k.val + 0 + 1 + 16, 192, 0] := by decide +kernel
theorem off69_eq_2_1 : ∀ k : Fin k0_t2_loop.trips, k0_off69 k 2#32 1#32 = ![0, 4 * k.val + 2 + 1 + 16, 192, 0] := by decide +kernel
theorem off65_eq : ∀ k : Fin k0_t2_loop.trips, k0_off65 k = ![k.val % 2, 0, 384 * 0, 512] := by decide +kernel
theorem off66_eq : ∀ k : Fin k0_t2_loop.trips, k0_off66 k = ![k.val % 2, 0, 384 * 1, 512] := by decide +kernel
theorem off67_eq : ∀ k : Fin k0_t2_loop.trips, k0_off67 k = ![k.val % 2, 1, 384 * 0, 512] := by decide +kernel
theorem off68_eq : ∀ k : Fin k0_t2_loop.trips, k0_off68 k = ![k.val % 2, 1, 384 * 1, 512] := by decide +kernel

variable (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v16 : IVec S8x128 32) (v17 : IVec S8x128 32) (v28 : IVec S8x128 32) (v30 : IVec S8x128 1) (v34 : IVec S8x128 32) (v36 : IVec S8x128 32) (v44 : BitVec 1) (X_arg6 : BufTy.Contents (Elt Ideal) arg6.view.ty) (X_arg7 : BufTy.Contents (Elt Ideal) arg7.view.ty) (X_arg13 : BufTy.Contents (Elt Ideal) arg13.view.ty) (X_arg14 : BufTy.Contents (Elt Ideal) arg14.view.ty) (X_arg15 : BufTy.Contents (Elt Ideal) arg15.view.ty) (last : Bool) (z : BitVec 8) (hz : HasBytes v16 fun _ _ => z) (hv44 : v44 = if last then 1#1 else 0#1) (HL : Lanes v28 (k0_pay1 v30 v34 v36) (k0_pay2 v17) (k0_pay3 v17))
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 last z hz hv44 HL

/-- What a trip of `k0_t2` stages. -/
theorem stage_t2 (f_arg16 : BufTy.Contents (Elt Ideal) arg16.view.ty) (k : Fin k0_t2_loop.trips) :
    Puts (trip_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 f_arg16 k).1.1 (wantX (xvOf (fun y => arg6.view.read (Elt Ideal) X_arg6 y) (fun y => arg7.view.read (Elt Ideal) X_arg7 y) last z) k.val) (fun y => ((y 0).val = k.val % 2 ∧ 96 ≤ (y 2).val) ∨ ((y 0).val = 1 - k.val % 2 ∧ (y 2).val < 96)) := by
  unfold trip_k0_t2
  refine Puts.append (S := fun y => ((y 0).val = k.val % 2 ∧ 768 ≤ (y 2).val) ∨ ((y 0).val = 1 - k.val % 2 ∧ (y 2).val < 96)) (T := fun y => (y 0).val = k.val % 2 ∧ 96 ≤ (y 2).val ∧ (y 2).val < 768) ?_ ?_ (fun y hy => by omega)
  · with_unfolding_all exact puts_t4 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 (k0_pay1 v30 v34 v36) (k0_pay2 v17) (k0_pay3 v17) v44 (k0_pay4 (F := Ideal)) 0#32 1#32 k (Scf.iv 0#32 1#32 k) _ _ _ X_arg6 X_arg7 last z hz hv44 rfl HL
  · with_unfolding_all exact puts_t3 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 (k0_pay1 v30 v34 v36) (k0_pay2 v17) (k0_pay3 v17) v44 (k0_pay4 (F := Ideal)) 0#32 1#32 k _ _ X_arg6 (fun y => arg7.view.read (Elt Ideal) X_arg7 y) last z hz HL

set_option maxHeartbeats 40000000 in
/-- What a trip of `k0_t2` stores. -/
theorem store_t2 (par : ℕ → ℕ → EReal) (lh : ℕ → ℕ → ℕ → EReal) (raw : ℕ → ℕ → BitVec 32)
    (h13 : ∀ y, arg13.view.read (Elt Ideal) X_arg13 y = lh (y 0).val (y 1).val (y 2).val)
    (h14 : ∀ y, (y 0).val ≠ 1 → arg14.view.read (Elt Ideal) X_arg14 y = par (y 0).val (y 1).val)
    (h15 : ∀ y, arg15.view.read (Elt Ideal) X_arg15 y = raw (y 0).val (y 1).val)
    (f_arg16 : BufTy.Contents (Elt Ideal) arg16.view.ty) (k : Fin k0_t2_loop.trips)
    (h16 : ∀ y, (y 0).val = k.val % 2 → (y 2).val < 96 → arg16.view.read (Elt Ideal) f_arg16 y = wantX (xvOf (fun y => arg6.view.read (Elt Ideal) X_arg6 y) (fun y => arg7.view.read (Elt Ideal) X_arg7 y) last z) k.val y) :
    OPuts (trip_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 f_arg16 k).1.2 (wantO (rqF par raw) lh (xvOf (fun y => arg6.view.read (Elt Ideal) X_arg6 y) (fun y => arg7.view.read (Elt Ideal) X_arg7 y) last z)) (fun y => (y 1).val % 16 / 4 = k.val) := by
  have hk : k.val < 4 := k.isLt
  have hX : ∀ y, (y 0).val = k.val % 2 → arg16.view.read (Elt Ideal) (arg16.view.writes (Elt Ideal) f_arg16 (trip_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 f_arg16 k).1.1) y = wantX (xvOf (fun y => arg6.view.read (Elt Ideal) X_arg6 y) (fun y => arg7.view.read (Elt Ideal) X_arg7 y) last z) k.val y := fun y hy => by
    refine Puts.read (stage_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 last z hz hv44 HL f_arg16 k) arg16.view f_arg16 y ?_
    by_cases h : (y 2).val < 96
    · exact Or.inr (h16 y hy h)
    · exact Or.inl (Or.inl ⟨hy, by omega⟩)
  revert hX
  unfold trip_k0_t2
  simp only []
  intro hX
  have a0 := tAcc2_acc arg13.view X_arg13 arg16.view _ h13 hX 0 (by decide) 0 1 512 (by decide) (by decide) (by decide) (k0_off65 k) (k0_off65_inb k) (k0_off66 k) (k0_off66_inb k) (off65_eq k) (off66_eq k) (k0_pay4 (F := Ideal)) ones_pay4 (fun n => n / 128) (fun n => 512 + n % 128) (fun n hn => by omega) (fun n hn => by omega) (fun n hn => by omega) (fun n hn => by omega)
  have a00 := hFast_half arg14.view X_arg14 arg15.view X_arg15 h14 h15 0 0 (by decide) (by decide) slices_S128x256_o0_0_S64x256 _ _ _ a0
  have a01 := hFast_half arg14.view X_arg14 arg15.view X_arg15 h14 h15 0 1 (by decide) (by decide) slices_S128x256_o64_0_S64x256 _ _ _ a0
  have a1 := tAcc2_acc arg13.view X_arg13 arg16.view _ h13 hX 1 (by decide) 0 1 512 (by decide) (by decide) (by decide) (k0_off67 k) (k0_off67_inb k) (k0_off68 k) (k0_off68_inb k) (off67_eq k) (off68_eq k) (k0_pay4 (F := Ideal)) ones_pay4 (fun n => n / 128) (fun n => 512 + n % 128) (fun n hn => by omega) (fun n hn => by omega) (fun n hn => by omega) (fun n hn => by omega)
  have a10 := hFast_half arg14.view X_arg14 arg15.view X_arg15 h14 h15 1 0 (by decide) (by decide) slices_S128x256_o0_0_S64x256 _ _ _ a1
  have a11 := hFast_half arg14.view X_arg14 arg15.view X_arg15 h14 h15 1 1 (by decide) (by decide) slices_S128x256_o64_0_S64x256 _ _ _ a1
  refine OPuts.cons (out_128 a01 a11 128 (4 * k.val + 2 + 1 + 16) 192 slices_S64x256_o0_128_S64x128 (by decide) _ (k0_off69_inb k 1 1) (off69_eq_2_1 k) _ ?_ (by omega) (by omega) (fun n hn => by omega) (fun n hn => by omega)) (fun y h1 h2 => omem _ (4 * k.val + 2 + 1 + 16) 192 (off69_eq_2_1 k) (k0_off69_inb k 1 1) y h1 h2 (by have : (y 2).val < 320 := (y 2).isLt; omega)) ?_
  · with_unfolding_all exact rfl
  refine OPuts.cons (out_128 a01 a11 0 (4 * k.val + 0 + 1 + 16) 192 slices_S64x256_o0_0_S64x128 (by decide) _ (k0_off69_inb k 0 1) (off69_eq_0_1 k) _ ?_ (by omega) (by omega) (fun n hn => by omega) (fun n hn => by omega)) (fun y h1 h2 => omem _ (4 * k.val + 0 + 1 + 16) 192 (off69_eq_0_1 k) (k0_off69_inb k 0 1) y h1 h2 (by have : (y 2).val < 320 := (y 2).isLt; omega)) ?_
  · with_unfolding_all exact rfl
  refine OPuts.cons (out_128 a00 a10 128 (4 * k.val + 2 + 0 + 16) 192 slices_S64x256_o0_128_S64x128 (by decide) _ (k0_off69_inb k 1 0) (off69_eq_2_0 k) _ ?_ (by omega) (by omega) (fun n hn => by omega) (fun n hn => by omega)) (fun y h1 h2 => omem _ (4 * k.val + 2 + 0 + 16) 192 (off69_eq_2_0 k) (k0_off69_inb k 1 0) y h1 h2 (by have : (y 2).val < 320 := (y 2).isLt; omega)) ?_
  · with_unfolding_all exact rfl
  refine OPuts.cons (out_128 a00 a10 0 (4 * k.val + 0 + 0 + 16) 192 slices_S64x256_o0_0_S64x128 (by decide) _ (k0_off69_inb k 0 0) (off69_eq_0_0 k) _ ?_ (by omega) (by omega) (fun n hn => by omega) (fun n hn => by omega)) (fun y h1 h2 => omem _ (4 * k.val + 0 + 0 + 16) 192 (off69_eq_0_0 k) (k0_off69_inb k 0 0) y h1 h2 (by have : (y 2).val < 320 := (y 2).isLt; omega)) ?_
  · with_unfolding_all exact rfl
  refine OPuts.mono (S := fun y => (y 1).val % 16 / 4 = k.val ∧ (y 2).val + 320 * ((y 1).val / 16) < 512) ?_ ?_
  · with_unfolding_all exact puts_t5 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v28 (k0_pay1 v30 v34 v36) (k0_pay2 v17) (k0_pay3 v17) v44 (k0_pay4 (F := Ideal)) 0#32 1#32 k _ _ X_arg13 X_arg14 X_arg15 _ par lh raw _ h13 h14 h15 hX ones_pay4
  · intro y hy
    have y1 : (y 1).val < 32 := (y 1).isLt
    have y2 : (y 2).val < 320 := (y 2).isLt
    omega

/-- After all trips the result's block holds what it should. -/
theorem block_t2 (par : ℕ → ℕ → EReal) (lh : ℕ → ℕ → ℕ → EReal) (raw : ℕ → ℕ → BitVec 32)
    (h13 : ∀ y, arg13.view.read (Elt Ideal) X_arg13 y = lh (y 0).val (y 1).val (y 2).val)
    (h14 : ∀ y, (y 0).val ≠ 1 → arg14.view.read (Elt Ideal) X_arg14 y = par (y 0).val (y 1).val)
    (h15 : ∀ y, arg15.view.read (Elt Ideal) X_arg15 y = raw (y 0).val (y 1).val)
    (G_arg12 : BufTy.Contents (Elt Ideal) arg12.view.ty) (G_arg16 : BufTy.Contents (Elt Ideal) arg16.view.ty)
    (h0 : ∀ y, (y 0).val = 0 → (y 2).val < 96 → arg16.view.read (Elt Ideal) G_arg16 y = wantX (xvOf (fun y => arg6.view.read (Elt Ideal) X_arg6 y) (fun y => arg7.view.read (Elt Ideal) X_arg7 y) last z) 0 y) (y : S1x32x320x128.Idx) :
    arg12.view.read (Elt Ideal) (arg12.view.writes (Elt Ideal) G_arg12 (pb12_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 4)) y = wantO (rqF par raw) lh (xvOf (fun y => arg6.view.read (Elt Ideal) X_arg6 y) (fun y => arg7.view.read (Elt Ideal) X_arg7 y) last z) y := by
  have key : ∀ n ≤ 4, (∀ y, (y 0).val = n % 2 → (y 2).val < 96 → arg16.view.read (Elt Ideal) (arg16.view.writes (Elt Ideal) G_arg16 (pb16_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 n)) y = wantX (xvOf (fun y => arg6.view.read (Elt Ideal) X_arg6 y) (fun y => arg7.view.read (Elt Ideal) X_arg7 y) last z) n y) ∧
      OPuts (pb12_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 n) (wantO (rqF par raw) lh (xvOf (fun y => arg6.view.read (Elt Ideal) X_arg6 y) (fun y => arg7.view.read (Elt Ideal) X_arg7 y) last z)) (fun y => (y 1).val % 16 / 4 < n) := by
    intro n
    induction n with
    | zero => exact fun _ => ⟨h0, ⟨fun p hp => (List.not_mem_nil hp).elim, fun y hy => absurd hy (Nat.not_lt_zero _)⟩⟩
    | succ n ih =>
      intro hn
      obtain ⟨i1, i2⟩ := ih (by omega)
      have e1 := pb16_k0_t2_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 ⟨n, hn⟩
      have e2 := pb12_k0_t2_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 G_arg16 ⟨n, hn⟩
      simp only [] at e1 e2
      rw [e1, e2]
      refine ⟨fun y hy h => ?_, ?_⟩
      · rw [View.writes_append, ← wantX_next _ n y hy h]
        exact Puts.read (stage_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 last z hz hv44 HL _ ⟨n, hn⟩) arg16.view _ y (Or.inl (Or.inr ⟨by simp only []; omega, h⟩))
      · exact OPuts.append (store_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v28 v30 v34 v36 v44 X_arg6 X_arg7 X_arg13 X_arg14 X_arg15 last z hz hv44 HL par lh raw h13 h14 h15 _ ⟨n, hn⟩ i1) i2 (fun y hy => by simp only []; omega)
  exact OPuts.read (key 4 le_rfl).2 arg12.view _ y (Or.inl (by have : (y 1).val < 32 := (y 1).isLt; omega))

end Cert.KernelIdeal.Val
end
-- ==== Proof.Outs10.lean ====
module

public import proofs.«01_k».proof.Proof.Outs
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
theorem off125_eq : ∀ (k0_t7 : Fin k0_t7_loop.trips) (k : Fin k0_t10_loop.trips), k0_off125 k0_t7 k = ![k0_t7.val % 2, 0, 384 * k.val, 0] := by decide +kernel
theorem off129_eq : ∀ (k0_t7 : Fin k0_t7_loop.trips) (k : Fin k0_t10_loop.trips), k0_off129 k0_t7 k = ![k0_t7.val % 2, 0, 384 * k.val, 256] := by decide +kernel
theorem off126_eq : ∀ (k0_t7 : Fin k0_t7_loop.trips) (k : Fin k0_t10_loop.trips), k0_off126 k0_t7 k = ![k0_t7.val % 2, 1, 384 * k.val, 0] := by decide +kernel
theorem off130_eq : ∀ (k0_t7 : Fin k0_t7_loop.trips) (k : Fin k0_t10_loop.trips), k0_off130 k0_t7 k = ![k0_t7.val % 2, 1, 384 * k.val, 256] := by decide +kernel
theorem off127_eq_0 : ∀ (k0_t7 : Fin k0_t7_loop.trips) (k : Fin k0_t10_loop.trips), k0_off127 k0_t7 k 0#32 = ![0, 4 * k0_t7.val + 2 * k.val + 0, 0, 0] := by decide +kernel
theorem off128_eq_0 : ∀ (k0_t7 : Fin k0_t7_loop.trips) (k : Fin k0_t10_loop.trips), k0_off128 k0_t7 k 0#32 = ![0, 4 * k0_t7.val + 2 * k.val + 0, 128, 0] := by decide +kernel
theorem off131_eq_0 : ∀ (k0_t7 : Fin k0_t7_loop.trips) (k : Fin k0_t10_loop.trips), k0_off131 k0_t7 k 0#32 = ![0, 4 * k0_t7.val + 2 * k.val + 0, 256, 0] := by decide +kernel
theorem off132_eq_0 : ∀ (k0_t7 : Fin k0_t7_loop.trips) (k : Fin k0_t10_loop.trips), k0_off132 k0_t7 k 0#32 = ![0, 4 * k0_t7.val + 2 * k.val + 0 + 16, 0, 0] := by decide +kernel
theorem off133_eq_0 : ∀ (k0_t7 : Fin k0_t7_loop.trips) (k : Fin k0_t10_loop.trips), k0_off133 k0_t7 k 0#32 = ![0, 4 * k0_t7.val + 2 * k.val + 0 + 16, 64, 0] := by decide +kernel
theorem off127_eq_1 : ∀ (k0_t7 : Fin k0_t7_loop.trips) (k : Fin k0_t10_loop.trips), k0_off127 k0_t7 k 1#32 = ![0, 4 * k0_t7.val + 2 * k.val + 1, 0, 0] := by decide +kernel
theorem off128_eq_1 : ∀ (k0_t7 : Fin k0_t7_loop.trips) (k : Fin k0_t10_loop.trips), k0_off128 k0_t7 k 1#32 = ![0, 4 * k0_t7.val + 2 * k.val + 1, 128, 0] := by decide +kernel
theorem off131_eq_1 : ∀ (k0_t7 : Fin k0_t7_loop.trips) (k : Fin k0_t10_loop.trips), k0_off131 k0_t7 k 1#32 = ![0, 4 * k0_t7.val + 2 * k.val + 1, 256, 0] := by decide +kernel
theorem off132_eq_1 : ∀ (k0_t7 : Fin k0_t7_loop.trips) (k : Fin k0_t10_loop.trips), k0_off132 k0_t7 k 1#32 = ![0, 4 * k0_t7.val + 2 * k.val + 1 + 16, 0, 0] := by decide +kernel
theorem off133_eq_1 : ∀ (k0_t7 : Fin k0_t7_loop.trips) (k : Fin k0_t10_loop.trips), k0_off133 k0_t7 k 1#32 = ![0, 4 * k0_t7.val + 2 * k.val + 1 + 16, 64, 0] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt Ideal .i32) (v2 : Elt Ideal .i32) (v3 : Elt Ideal .i32) (v16 : IVec S8x128 32) (v28 : IVec S8x128 32) (v39 : IVec S8x128 32) (v41 : IVec S8x128 1) (v43 : IVec S8x128 1) (v44 : BitVec 1) (v45 : FVec Ideal S16x256 .bf16) (c0_i32_21 : BitVec 32) (c1_i32_22 : BitVec 32) (k0_t7 : Fin k0_t7_loop.trips) (arg18 : BitVec 32) (v55 : BitVec 32) (X_arg13 : BufTy.Contents (Elt Ideal) arg13.view.ty) (X_arg15 : BufTy.Contents (Elt Ideal) arg15.view.ty) (X_arg16 : BufTy.Contents (Elt Ideal) arg16.view.ty)

set_option maxHeartbeats 40000000 in
theorem good_t10 (k : Fin k0_t10_loop.trips) (lh : ℕ → ℕ → ℕ → EReal) (raw : ℕ → ℕ → BitVec 32) (xv : ℕ → ℕ → ℕ → BitVec 8)
    (h13 : ∀ y, arg13.view.read (Elt Ideal) X_arg13 y = lh (y 0).val (y 1).val (y 2).val)
    (h15 : ∀ y, arg15.view.read (Elt Ideal) X_arg15 y = raw (y 0).val (y 1).val)
    (h16 : ∀ y, (y 0).val = k0_t7.val % 2 → arg16.view.read (Elt Ideal) X_arg16 y = wantX xv k0_t7.val y)
    (hon : ∀ j, v45 j = 1) :
    ∀ p ∈ tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k, OGood (rqS raw v1 v2 v3) lh xv p := by
  have hq : k0_t7.val < 4 := k0_t7.isLt
  have hk : k.val < 2 := k.isLt
  have a0 : IsAcc lh xv k0_t7.val 0 (fun _ => k.val) (fun n => 0 + n) (tAcc arg13.view X_arg13 arg16.view X_arg16 0 (by decide) (k0_off125 k0_t7 k) (k0_off125_inb k0_t7 k) v45) :=
    tAcc_acc arg13.view X_arg13 arg16.view X_arg16 h13 h16 0 (by decide) k.val 0 hk (by decide) _ _ (off125_eq k0_t7 k) v45 hon _ _ (fun _ _ => rfl) (fun _ _ => rfl)
  have a00 := hSlow_half arg15.view X_arg15 h15 v1 v2 v3 0 0 (by decide) (by decide) slices_S128x256_o0_0_S64x256 _ _ _ a0
  have a01 := hSlow_half arg15.view X_arg15 h15 v1 v2 v3 0 1 (by decide) (by decide) slices_S128x256_o64_0_S64x256 _ _ _ a0
  have a1 : IsAcc lh xv k0_t7.val 1 (fun _ => k.val) (fun n => 0 + n) (tAcc arg13.view X_arg13 arg16.view X_arg16 1 (by decide) (k0_off126 k0_t7 k) (k0_off126_inb k0_t7 k) v45) :=
    tAcc_acc arg13.view X_arg13 arg16.view X_arg16 h13 h16 1 (by decide) k.val 0 hk (by decide) _ _ (off126_eq k0_t7 k) v45 hon _ _ (fun _ _ => rfl) (fun _ _ => rfl)
  have a10 := hSlow_half arg15.view X_arg15 h15 v1 v2 v3 1 0 (by decide) (by decide) slices_S128x256_o0_0_S64x256 _ _ _ a1
  have a11 := hSlow_half arg15.view X_arg15 h15 v1 v2 v3 1 1 (by decide) (by decide) slices_S128x256_o64_0_S64x256 _ _ _ a1
  have b0 : IsAcc lh xv k0_t7.val 0 (fun _ => k.val) (fun n => 256 + n) (tAcc arg13.view X_arg13 arg16.view X_arg16 0 (by decide) (k0_off129 k0_t7 k) (k0_off129_inb k0_t7 k) v45) :=
    tAcc_acc arg13.view X_arg13 arg16.view X_arg16 h13 h16 0 (by decide) k.val 256 hk (by decide) _ _ (off129_eq k0_t7 k) v45 hon _ _ (fun _ _ => rfl) (fun _ _ => rfl)
  have b00 := hSlow_half arg15.view X_arg15 h15 v1 v2 v3 0 0 (by decide) (by decide) slices_S128x256_o0_0_S64x256 _ _ _ b0
  have b01 := hSlow_half arg15.view X_arg15 h15 v1 v2 v3 0 1 (by decide) (by decide) slices_S128x256_o64_0_S64x256 _ _ _ b0
  have b1 : IsAcc lh xv k0_t7.val 1 (fun _ => k.val) (fun n => 256 + n) (tAcc arg13.view X_arg13 arg16.view X_arg16 1 (by decide) (k0_off130 k0_t7 k) (k0_off130_inb k0_t7 k) v45) :=
    tAcc_acc arg13.view X_arg13 arg16.view X_arg16 h13 h16 1 (by decide) k.val 256 hk (by decide) _ _ (off130_eq k0_t7 k) v45 hon _ _ (fun _ _ => rfl) (fun _ _ => rfl)
  have b10 := hSlow_half arg15.view X_arg15 h15 v1 v2 v3 1 0 (by decide) (by decide) slices_S128x256_o0_0_S64x256 _ _ _ b1
  have b11 := hSlow_half arg15.view X_arg15 h15 v1 v2 v3 1 1 (by decide) (by decide) slices_S128x256_o64_0_S64x256 _ _ _ b1
  unfold tripL_k0_t10 trip_k0_t10
  simp only []
  refine List.forall_mem_cons.2 ⟨out_128 b01 b11 128 (4 * k0_t7.val + 2 * k.val + 1 + 16) 64 slices_S64x256_o0_128_S64x128 (by decide) _ _ (off133_eq_1 k0_t7 k) _ ?_ (by omega) (by omega) (fun n hn => by omega) (fun n hn => by omega), ?_⟩
  · with_unfolding_all exact rfl
  refine List.forall_mem_cons.2 ⟨out_64 b01 b11 0 64 (4 * k0_t7.val + 2 * k.val + 1 + 16) 0 slices_S64x256_o0_0_S64x128 slices_S128x128_o64_0_S64x128 (by decide) (by decide) _ _ (off132_eq_1 k0_t7 k) _ ?_ (by omega) (by omega) (fun n hn => by omega) (fun n hn => by omega), ?_⟩
  · with_unfolding_all exact rfl
  refine List.forall_mem_cons.2 ⟨out_64 b01 b11 0 0 (4 * k0_t7.val + 2 * k.val + 1) 256 slices_S64x256_o0_0_S64x128 slices_S128x128_o0_0_S64x128 (by decide) (by decide) _ _ (off131_eq_1 k0_t7 k) _ ?_ (by omega) (by omega) (fun n hn => by omega) (fun n hn => by omega), ?_⟩
  · with_unfolding_all exact rfl
  refine List.forall_mem_cons.2 ⟨out_128 b00 b10 128 (4 * k0_t7.val + 2 * k.val + 0 + 16) 64 slices_S64x256_o0_128_S64x128 (by decide) _ _ (off133_eq_0 k0_t7 k) _ ?_ (by omega) (by omega) (fun n hn => by omega) (fun n hn => by omega), ?_⟩
  · with_unfolding_all exact rfl
  refine List.forall_mem_cons.2 ⟨out_64 b00 b10 0 64 (4 * k0_t7.val + 2 * k.val + 0 + 16) 0 slices_S64x256_o0_0_S64x128 slices_S128x128_o64_0_S64x128 (by decide) (by decide) _ _ (off132_eq_0 k0_t7 k) _ ?_ (by omega) (by omega) (fun n hn => by omega) (fun n hn => by omega), ?_⟩
  · with_unfolding_all exact rfl
  refine List.forall_mem_cons.2 ⟨out_64 b00 b10 0 0 (4 * k0_t7.val + 2 * k.val + 0) 256 slices_S64x256_o0_0_S64x128 slices_S128x128_o0_0_S64x128 (by decide) (by decide) _ _ (off131_eq_0 k0_t7 k) _ ?_ (by omega) (by omega) (fun n hn => by omega) (fun n hn => by omega), ?_⟩
  · with_unfolding_all exact rfl
  refine List.forall_mem_cons.2 ⟨out_128 a01 a11 128 (4 * k0_t7.val + 2 * k.val + 1) 128 slices_S64x256_o0_128_S64x128 (by decide) _ _ (off128_eq_1 k0_t7 k) _ ?_ (by omega) (by omega) (fun n hn => by omega) (fun n hn => by omega), ?_⟩
  · with_unfolding_all exact rfl
  refine List.forall_mem_cons.2 ⟨out_128 a01 a11 0 (4 * k0_t7.val + 2 * k.val + 1) 0 slices_S64x256_o0_0_S64x128 (by decide) _ _ (off127_eq_1 k0_t7 k) _ ?_ (by omega) (by omega) (fun n hn => by omega) (fun n hn => by omega), ?_⟩
  · with_unfolding_all exact rfl
  refine List.forall_mem_cons.2 ⟨out_128 a00 a10 128 (4 * k0_t7.val + 2 * k.val + 0) 128 slices_S64x256_o0_128_S64x128 (by decide) _ _ (off128_eq_0 k0_t7 k) _ ?_ (by omega) (by omega) (fun n hn => by omega) (fun n hn => by omega), ?_⟩
  · with_unfolding_all exact rfl
  refine List.forall_mem_cons.2 ⟨out_128 a00 a10 0 (4 * k0_t7.val + 2 * k.val + 0) 0 slices_S64x256_o0_0_S64x128 (by decide) _ _ (off127_eq_0 k0_t7 k) _ ?_ (by omega) (by omega) (fun n hn => by omega) (fun n hn => by omega), ?_⟩
  · with_unfolding_all exact rfl
  exact fun p hp => (List.not_mem_nil hp).elim

set_option maxHeartbeats 40000000 in
theorem fill_t10 (k : Fin k0_t10_loop.trips) (y : S1x32x320x128.Idx) (h1 : (y 1).val % 16 / 2 = 2 * k0_t7.val + k.val) (h2 : (y 2).val + 320 * ((y 1).val / 16) < 512) :
    ∃ p ∈ tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k, y ∈ p.1.set := by
  have hq : k0_t7.val < 4 := k0_t7.isLt
  have hk : k.val < 2 := k.isLt
  have y1 : (y 1).val < 32 := (y 1).isLt
  have y2 : (y 2).val < 320 := (y 2).isLt
  unfold tripL_k0_t10 trip_k0_t10
  simp only [List.mem_cons, exists_eq_or_imp]
  have hc : ((y 1).val = 4 * k0_t7.val + 2 * k.val + 1 + 16 ∧ 64 ≤ (y 2).val ∧ (y 2).val < 64 + 128) ∨ ((y 1).val = 4 * k0_t7.val + 2 * k.val + 1 + 16 ∧ 0 ≤ (y 2).val ∧ (y 2).val < 0 + 64) ∨ ((y 1).val = 4 * k0_t7.val + 2 * k.val + 1 ∧ 256 ≤ (y 2).val ∧ (y 2).val < 256 + 64) ∨ ((y 1).val = 4 * k0_t7.val + 2 * k.val + 0 + 16 ∧ 64 ≤ (y 2).val ∧ (y 2).val < 64 + 128) ∨ ((y 1).val = 4 * k0_t7.val + 2 * k.val + 0 + 16 ∧ 0 ≤ (y 2).val ∧ (y 2).val < 0 + 64) ∨ ((y 1).val = 4 * k0_t7.val + 2 * k.val + 0 ∧ 256 ≤ (y 2).val ∧ (y 2).val < 256 + 64) ∨ ((y 1).val = 4 * k0_t7.val + 2 * k.val + 1 ∧ 128 ≤ (y 2).val ∧ (y 2).val < 128 + 128) ∨ ((y 1).val = 4 * k0_t7.val + 2 * k.val + 1 ∧ 0 ≤ (y 2).val ∧ (y 2).val < 0 + 128) ∨ ((y 1).val = 4 * k0_t7.val + 2 * k.val + 0 ∧ 128 ≤ (y 2).val ∧ (y 2).val < 128 + 128) ∨ ((y 1).val = 4 * k0_t7.val + 2 * k.val + 0 ∧ 0 ≤ (y 2).val ∧ (y 2).val < 0 + 128) := by omega
  rcases hc with ⟨c1, c2, c3⟩ | ⟨c1, c2, c3⟩ | ⟨c1, c2, c3⟩ | ⟨c1, c2, c3⟩ | ⟨c1, c2, c3⟩ | ⟨c1, c2, c3⟩ | ⟨c1, c2, c3⟩ | ⟨c1, c2, c3⟩ | ⟨c1, c2, c3⟩ | ⟨c1, c2, c3⟩
  · exact Or.inl (omem _ (4 * k0_t7.val + 2 * k.val + 1 + 16) 64 (off133_eq_1 k0_t7 k) _ y c1 c2 c3)
  · exact Or.inr (Or.inl (omem64 _ (4 * k0_t7.val + 2 * k.val + 1 + 16) 0 (off132_eq_1 k0_t7 k) _ y c1 c2 c3))
  · exact Or.inr (Or.inr (Or.inl (omem64 _ (4 * k0_t7.val + 2 * k.val + 1) 256 (off131_eq_1 k0_t7 k) _ y c1 c2 c3)))
  · exact Or.inr (Or.inr (Or.inr (Or.inl (omem _ (4 * k0_t7.val + 2 * k.val + 0 + 16) 64 (off133_eq_0 k0_t7 k) _ y c1 c2 c3))))
  · exact Or.inr (Or.inr (Or.inr (Or.inr (Or.inl (omem64 _ (4 * k0_t7.val + 2 * k.val + 0 + 16) 0 (off132_eq_0 k0_t7 k) _ y c1 c2 c3)))))
  · exact Or.inr (Or.inr (Or.inr (Or.inr (Or.inr (Or.inl (omem64 _ (4 * k0_t7.val + 2 * k.val + 0) 256 (off131_eq_0 k0_t7 k) _ y c1 c2 c3))))))
  · exact Or.inr (Or.inr (Or.inr (Or.inr (Or.inr (Or.inr (Or.inl (omem _ (4 * k0_t7.val + 2 * k.val + 1) 128 (off128_eq_1 k0_t7 k) _ y c1 c2 c3)))))))
  · exact Or.inr (Or.inr (Or.inr (Or.inr (Or.inr (Or.inr (Or.inr (Or.inl (omem _ (4 * k0_t7.val + 2 * k.val + 1) 0 (off127_eq_1 k0_t7 k) _ y c1 c2 c3))))))))
  · exact Or.inr (Or.inr (Or.inr (Or.inr (Or.inr (Or.inr (Or.inr (Or.inr (Or.inl (omem _ (4 * k0_t7.val + 2 * k.val + 0) 128 (off128_eq_0 k0_t7 k) _ y c1 c2 c3)))))))))
  · exact Or.inr (Or.inr (Or.inr (Or.inr (Or.inr (Or.inr (Or.inr (Or.inr (Or.inr (Or.inl (omem _ (4 * k0_t7.val + 2 * k.val + 0) 0 (off127_eq_0 k0_t7 k) _ y c1 c2 c3))))))))))

theorem puts_t10 (lh : ℕ → ℕ → ℕ → EReal) (raw : ℕ → ℕ → BitVec 32) (xv : ℕ → ℕ → ℕ → BitVec 8)
    (h13 : ∀ y, arg13.view.read (Elt Ideal) X_arg13 y = lh (y 0).val (y 1).val (y 2).val)
    (h15 : ∀ y, arg15.view.read (Elt Ideal) X_arg15 y = raw (y 0).val (y 1).val)
    (h16 : ∀ y, (y 0).val = k0_t7.val % 2 → arg16.view.read (Elt Ideal) X_arg16 y = wantX xv k0_t7.val y)
    (hon : ∀ j, v45 j = 1) :
    OPuts (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k0_t10_loop.trips) (wantO (rqS raw v1 v2 v3) lh xv) (fun y => (y 1).val % 16 / 4 = k0_t7.val ∧ (y 2).val + 320 * ((y 1).val / 16) < 512) := by
  have := oloop_puts (N := k0_t10_loop.trips) (fun k => tripL_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k) (pb_k0_t10 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16) rfl
    (fun k => pb_k0_t10_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k) (wantO (rqS raw v1 v2 v3) lh xv)
    (fun k y => (y 1).val % 16 / 2 = 2 * k0_t7.val + k.val ∧ (y 2).val + 320 * ((y 1).val / 16) < 512)
    (fun k => ⟨good_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k lh raw xv h13 h15 h16 hon, fun y hy => fill_t10 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 X_arg13 X_arg15 X_arg16 k y hy.1 hy.2⟩)
  refine ⟨this.1, fun y hy => this.2 y ⟨⟨(y 1).val % 4 / 2, by show _ < 2; omega⟩, ?_, hy.2⟩⟩
  have := hy.1
  show (y 1).val % 16 / 2 = 2 * k0_t7.val + (y 1).val % 4 / 2
  omega

end Cert.KernelIdeal.Val
end
-- ==== Proof.Taps8.lean ====
module

public import proofs.«01_k».proof.Proof.Taps
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI

theorem off95_eq_0 : ∀ (k0_t7 : Fin k0_t7_loop.trips) (k : Fin k0_t8_loop.trips), k0_off95 k0_t7 k 0#32 = ![k0_t7.val % 2, k.val % 2, 96 * (k.val / 2 + 1) + 0, 0] := by decide +kernel

theorem off95_eq_1 : ∀ (k0_t7 : Fin k0_t7_loop.trips) (k : Fin k0_t8_loop.trips), k0_off95 k0_t7 k 32#32 = ![k0_t7.val % 2, k.val % 2, 96 * (k.val / 2 + 1) + 32, 0] := by decide +kernel

theorem off95_eq_2 : ∀ (k0_t7 : Fin k0_t7_loop.trips) (k : Fin k0_t8_loop.trips), k0_off95 k0_t7 k 64#32 = ![k0_t7.val % 2, k.val % 2, 96 * (k.val / 2 + 1) + 64, 0] := by decide +kernel

theorem off96_eq_0 : ∀ (k0_t7 : Fin k0_t7_loop.trips) (k : Fin k0_t8_loop.trips), k0_off96 k0_t7 k 0#32 = ![k0_t7.val % 2, k.val % 2, 96 * (k.val / 2 + 1) + 0, 128] := by decide +kernel

theorem off96_eq_1 : ∀ (k0_t7 : Fin k0_t7_loop.trips) (k : Fin k0_t8_loop.trips), k0_off96 k0_t7 k 32#32 = ![k0_t7.val % 2, k.val % 2, 96 * (k.val / 2 + 1) + 32, 128] := by decide +kernel

theorem off96_eq_2 : ∀ (k0_t7 : Fin k0_t7_loop.trips) (k : Fin k0_t8_loop.trips), k0_off96 k0_t7 k 64#32 = ![k0_t7.val % 2, k.val % 2, 96 * (k.val / 2 + 1) + 64, 128] := by decide +kernel

theorem off97_eq_0 : ∀ (k0_t7 : Fin k0_t7_loop.trips) (k : Fin k0_t8_loop.trips), k0_off97 k0_t7 k 0#32 = ![k0_t7.val % 2, k.val % 2, 96 * (k.val / 2 + 1) + 0, 256] := by decide +kernel

theorem off97_eq_1 : ∀ (k0_t7 : Fin k0_t7_loop.trips) (k : Fin k0_t8_loop.trips), k0_off97 k0_t7 k 32#32 = ![k0_t7.val % 2, k.val % 2, 96 * (k.val / 2 + 1) + 32, 256] := by decide +kernel

theorem off97_eq_2 : ∀ (k0_t7 : Fin k0_t7_loop.trips) (k : Fin k0_t8_loop.trips), k0_off97 k0_t7 k 64#32 = ![k0_t7.val % 2, k.val % 2, 96 * (k.val / 2 + 1) + 64, 256] := by decide +kernel

theorem off98_eq_0 : ∀ (k0_t7 : Fin k0_t7_loop.trips) (k : Fin k0_t8_loop.trips), k0_off98 k0_t7 k 0#32 = ![k0_t7.val % 2, k.val % 2, 96 * (k.val / 2 + 1) + 0, 384] := by decide +kernel

theorem off98_eq_1 : ∀ (k0_t7 : Fin k0_t7_loop.trips) (k : Fin k0_t8_loop.trips), k0_off98 k0_t7 k 32#32 = ![k0_t7.val % 2, k.val % 2, 96 * (k.val / 2 + 1) + 32, 384] := by decide +kernel

theorem off98_eq_2 : ∀ (k0_t7 : Fin k0_t7_loop.trips) (k : Fin k0_t8_loop.trips), k0_off98 k0_t7 k 64#32 = ![k0_t7.val % 2, k.val % 2, 96 * (k.val / 2 + 1) + 64, 384] := by decide +kernel

theorem off99_eq_0 : ∀ (k0_t7 : Fin k0_t7_loop.trips) (k : Fin k0_t8_loop.trips), k0_off99 k0_t7 k 0#32 = ![k0_t7.val % 2, k.val % 2, 96 * (k.val / 2 + 1) + 0, 512] := by decide +kernel

theorem off99_eq_1 : ∀ (k0_t7 : Fin k0_t7_loop.trips) (k : Fin k0_t8_loop.trips), k0_off99 k0_t7 k 32#32 = ![k0_t7.val % 2, k.val % 2, 96 * (k.val / 2 + 1) + 32, 512] := by decide +kernel

theorem off99_eq_2 : ∀ (k0_t7 : Fin k0_t7_loop.trips) (k : Fin k0_t8_loop.trips), k0_off99 k0_t7 k 64#32 = ![k0_t7.val % 2, k.val % 2, 96 * (k.val / 2 + 1) + 64, 512] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt Ideal .i32) (v2 : Elt Ideal .i32) (v3 : Elt Ideal .i32) (v16 : IVec S8x128 32) (v28 : IVec S8x128 32) (v39 : IVec S8x128 32) (v41 : IVec S8x128 1) (v43 : IVec S8x128 1) (v44 : BitVec 1) (v45 : FVec Ideal S16x256 .bf16) (c0_i32_21 : BitVec 32) (c1_i32_22 : BitVec 32) (k0_t7 : Fin k0_t7_loop.trips) (v55 : BitVec 32) (v56 : BitVec 32) (X_arg6 : BufTy.Contents (Elt Ideal) arg6.view.ty)

/-- The ten tiles a trip of `k0_t8` reads. -/
def tiles_t8 (k : Fin k0_t8_loop.trips) : Fin 10 → IVec S8x128 32 :=
  tilesOf (tileW (arg6.view.readAt (Elt Ideal) (Rect.unit (s := S1x64x64x640) (k0_off85 k0_t7 k) S1x1x32x128.size (k0_off85_inb k0_t7 k)).toLoadRect X_arg6))
    (tileW (arg6.view.readAt (Elt Ideal) (Rect.unit (s := S1x64x64x640) (k0_off86 k0_t7 k) S1x1x32x128.size (k0_off86_inb k0_t7 k)).toLoadRect X_arg6))
    (tileW (arg6.view.readAt (Elt Ideal) (Rect.unit (s := S1x64x64x640) (k0_off87 k0_t7 k) S1x1x32x128.size (k0_off87_inb k0_t7 k)).toLoadRect X_arg6))
    (tileW (arg6.view.readAt (Elt Ideal) (Rect.unit (s := S1x64x64x640) (k0_off88 k0_t7 k) S1x1x32x128.size (k0_off88_inb k0_t7 k)).toLoadRect X_arg6))
    (tileW (arg6.view.readAt (Elt Ideal) (Rect.unit (s := S1x64x64x640) (k0_off89 k0_t7 k) S1x1x32x128.size (k0_off89_inb k0_t7 k)).toLoadRect X_arg6))
    (tileW (arg6.view.readAt (Elt Ideal) (Rect.unit (s := S1x64x64x640) (k0_off90 k0_t7 k) S1x1x32x128.size (k0_off90_inb k0_t7 k)).toLoadRect X_arg6))
    (tileW (arg6.view.readAt (Elt Ideal) (Rect.unit (s := S1x64x64x640) (k0_off91 k0_t7 k) S1x1x32x128.size (k0_off91_inb k0_t7 k)).toLoadRect X_arg6))
    (tileW (arg6.view.readAt (Elt Ideal) (Rect.unit (s := S1x64x64x640) (k0_off92 k0_t7 k) S1x1x32x128.size (k0_off92_inb k0_t7 k)).toLoadRect X_arg6))
    (tileW (arg6.view.readAt (Elt Ideal) (Rect.unit (s := S1x64x64x640) (k0_off93 k0_t7 k) S1x1x32x128.size (k0_off93_inb k0_t7 k)).toLoadRect X_arg6))
    (tileW (arg6.view.readAt (Elt Ideal) (Rect.unit (s := S1x64x64x640) (k0_off94 k0_t7 k) S1x1x32x128.size (k0_off94_inb k0_t7 k)).toLoadRect X_arg6))

set_option maxHeartbeats 40000000 in
theorem isTrip_t8 (k : Fin k0_t8_loop.trips) :
    List.Forall₂ (IsTap (mW v28 v39 v41 v43 v16 (tiles_t8 arg6 k0_t7 X_arg6 k)) (k.val % 2))
      (tripL_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 v55 v56 X_arg6 k) [(k0_t7.val % 2, (k.val / 2 + 1), 2, 4), (k0_t7.val % 2, (k.val / 2 + 1), 2, 3), (k0_t7.val % 2, (k.val / 2 + 1), 2, 2), (k0_t7.val % 2, (k.val / 2 + 1), 2, 1), (k0_t7.val % 2, (k.val / 2 + 1), 2, 0), (k0_t7.val % 2, (k.val / 2 + 1), 1, 4), (k0_t7.val % 2, (k.val / 2 + 1), 1, 3), (k0_t7.val % 2, (k.val / 2 + 1), 1, 2), (k0_t7.val % 2, (k.val / 2 + 1), 1, 1), (k0_t7.val % 2, (k.val / 2 + 1), 1, 0), (k0_t7.val % 2, (k.val / 2 + 1), 0, 4), (k0_t7.val % 2, (k.val / 2 + 1), 0, 3), (k0_t7.val % 2, (k.val / 2 + 1), 0, 2), (k0_t7.val % 2, (k.val / 2 + 1), 0, 1), (k0_t7.val % 2, (k.val / 2 + 1), 0, 0)] := by
  unfold tripL_k0_t8 trip_k0_t8 tiles_t8
  simp only []
  refine .cons (isTap_2_4 _ _ _ _ _ _ _ _ _ _ _ _ _ _ _ _ _ _ _ _ _ (off99_eq_2 k0_t7 k) ?_) ?_
  · with_unfolding_all exact rfl
  refine .cons (isTap_2_3 _ _ _ _ _ _ _ _ _ _ _ _ _ _ _ _ _ _ _ _ _ (off98_eq_2 k0_t7 k) ?_) ?_
  · with_unfolding_all exact rfl
  refine .cons (isTap_2_2 _ _ _ _ _ _ _ _ _ _ _ _ _ _ _ _ _ _ _ _ _ (off97_eq_2 k0_t7 k) ?_) ?_
  · with_unfolding_all exact rfl
  refine .cons (isTap_2_1 _ _ _ _ _ _ _ _ _ _ _ _ _ _ _ _ _ _ _ _ _ (off96_eq_2 k0_t7 k) ?_) ?_
  · with_unfolding_all exact rfl
  refine .cons (isTap_2_0 _ _ _ _ _ _ _ _ _ _ _ _ _ _ _ _ _ _ _ _ _ (off95_eq_2 k0_t7 k) ?_) ?_
  · with_unfolding_all exact rfl
  refine .cons (isTap_1_4 _ _ _ _ _ _ _ _ _ _ _ _ _ _ _ _ _ _ _ _ _ (off99_eq_1 k0_t7 k) ?_) ?_
  · with_unfolding_all exact rfl
  refine .cons (isTap_1_3 _ _ _ _ _ _ _ _ _ _ _ _ _ _ _ _ _ _ _ _ _ (off98_eq_1 k0_t7 k) ?_) ?_
  · with_unfolding_all exact rfl
  refine .cons (isTap_1_2 _ _ _ _ _ _ _ _ _ _ _ _ _ _ _ _ _ _ _ _ _ (off97_eq_1 k0_t7 k) ?_) ?_
  · with_unfolding_all exact rfl
  refine .cons (isTap_1_1 _ _ _ _ _ _ _ _ _ _ _ _ _ _ _ _ _ _ _ _ _ (off96_eq_1 k0_t7 k) ?_) ?_
  · with_unfolding_all exact rfl
  refine .cons (isTap_1_0 _ _ _ _ _ _ _ _ _ _ _ _ _ _ _ _ _ _ _ _ _ (off95_eq_1 k0_t7 k) ?_) ?_
  · with_unfolding_all exact rfl
  refine .cons (isTap_0_4 _ _ _ _ _ _ _ _ _ _ _ _ _ _ _ _ _ _ _ _ _ (off99_eq_0 k0_t7 k) ?_) ?_
  · with_unfolding_all exact rfl
  refine .cons (isTap_0_3 _ _ _ _ _ _ _ _ _ _ _ _ _ _ _ _ _ _ _ _ _ (off98_eq_0 k0_t7 k) ?_) ?_
  · with_unfolding_all exact rfl
  refine .cons (isTap_0_2 _ _ _ _ _ _ _ _ _ _ _ _ _ _ _ _ _ _ _ _ _ (off97_eq_0 k0_t7 k) ?_) ?_
  · with_unfolding_all exact rfl
  refine .cons (isTap_0_1 _ _ _ _ _ _ _ _ _ _ _ _ _ _ _ _ _ _ _ _ _ (off96_eq_0 k0_t7 k) ?_) ?_
  · with_unfolding_all exact rfl
  refine .cons (isTap_0_0 _ _ _ _ _ _ _ _ _ _ _ _ _ _ _ _ _ _ _ _ _ (off95_eq_0 k0_t7 k) ?_) ?_
  · with_unfolding_all exact rfl
  exact .nil
theorem off85_eq : ∀ (k0_t7 : Fin k0_t7_loop.trips) (k : Fin k0_t8_loop.trips), k0_off85 k0_t7 k = ![0, 8 * k0_t7.val + (k.val / 2 + 1), 32 * (k.val % 2), 0] := by decide +kernel
theorem off86_eq : ∀ (k0_t7 : Fin k0_t7_loop.trips) (k : Fin k0_t8_loop.trips), k0_off86 k0_t7 k = ![0, 8 * k0_t7.val + (k.val / 2 + 1), 32 * (k.val % 2), 128] := by decide +kernel
theorem off87_eq : ∀ (k0_t7 : Fin k0_t7_loop.trips) (k : Fin k0_t8_loop.trips), k0_off87 k0_t7 k = ![0, 8 * k0_t7.val + (k.val / 2 + 1), 32 * (k.val % 2), 256] := by decide +kernel
theorem off88_eq : ∀ (k0_t7 : Fin k0_t7_loop.trips) (k : Fin k0_t8_loop.trips), k0_off88 k0_t7 k = ![0, 8 * k0_t7.val + (k.val / 2 + 1), 32 * (k.val % 2), 384] := by decide +kernel
theorem off89_eq : ∀ (k0_t7 : Fin k0_t7_loop.trips) (k : Fin k0_t8_loop.trips), k0_off89 k0_t7 k = ![0, 8 * k0_t7.val + (k.val / 2 + 1), 32 * (k.val % 2), 512] := by decide +kernel
theorem off90_eq : ∀ (k0_t7 : Fin k0_t7_loop.trips) (k : Fin k0_t8_loop.trips), k0_off90 k0_t7 k = ![0, 8 * k0_t7.val + (k.val / 2 + 1) + 32, 32 * (k.val % 2), 0] := by decide +kernel
theorem off91_eq : ∀ (k0_t7 : Fin k0_t7_loop.trips) (k : Fin k0_t8_loop.trips), k0_off91 k0_t7 k = ![0, 8 * k0_t7.val + (k.val / 2 + 1) + 32, 32 * (k.val % 2), 128] := by decide +kernel
theorem off92_eq : ∀ (k0_t7 : Fin k0_t7_loop.trips) (k : Fin k0_t8_loop.trips), k0_off92 k0_t7 k = ![0, 8 * k0_t7.val + (k.val / 2 + 1) + 32, 32 * (k.val % 2), 256] := by decide +kernel
theorem off93_eq : ∀ (k0_t7 : Fin k0_t7_loop.trips) (k : Fin k0_t8_loop.trips), k0_off93 k0_t7 k = ![0, 8 * k0_t7.val + (k.val / 2 + 1) + 32, 32 * (k.val % 2), 384] := by decide +kernel
theorem off94_eq : ∀ (k0_t7 : Fin k0_t7_loop.trips) (k : Fin k0_t8_loop.trips), k0_off94 k0_t7 k = ![0, 8 * k0_t7.val + (k.val / 2 + 1) + 32, 32 * (k.val % 2), 512] := by decide +kernel

theorem isTiles_t8 (k : Fin k0_t8_loop.trips) (X7 : S1x1x64x640.Idx → BitVec 8) (last : Bool) (z : BitVec 8) (hz : HasBytes v16 fun _ _ => z)  :
    IsTiles (xvOf (fun y => arg6.view.read (Elt Ideal) X_arg6 y) X7 last z) (8 * k0_t7.val + (k.val / 2 + 1)) (k.val % 2) (tiles_t8 arg6 k0_t7 X_arg6 k) := by
  have hk : k.val < 14 := k.isLt
  have hq : k0_t7.val < 4 := k0_t7.isLt
  unfold tiles_t8
  intro p
  match p with
  | 0 =>
    refine tile_read _ _ _ _ _ _ _ (off85_eq k0_t7 k) (by omega) (by omega) (by omega) _ fun ch l => ?_
    exact (xvOf_row (fun y => arg6.view.read (Elt Ideal) X_arg6 y) X7 last z _ _ _ (by omega) (by omega) (by omega)).symm
  | 1 =>
    refine tile_read _ _ _ _ _ _ _ (off86_eq k0_t7 k) (by omega) (by omega) (by omega) _ fun ch l => ?_
    exact (xvOf_row (fun y => arg6.view.read (Elt Ideal) X_arg6 y) X7 last z _ _ _ (by omega) (by omega) (by omega)).symm
  | 2 =>
    refine tile_read _ _ _ _ _ _ _ (off87_eq k0_t7 k) (by omega) (by omega) (by omega) _ fun ch l => ?_
    exact (xvOf_row (fun y => arg6.view.read (Elt Ideal) X_arg6 y) X7 last z _ _ _ (by omega) (by omega) (by omega)).symm
  | 3 =>
    refine tile_read _ _ _ _ _ _ _ (off88_eq k0_t7 k) (by omega) (by omega) (by omega) _ fun ch l => ?_
    exact (xvOf_row (fun y => arg6.view.read (Elt Ideal) X_arg6 y) X7 last z _ _ _ (by omega) (by omega) (by omega)).symm
  | 4 =>
    refine tile_read _ _ _ _ _ _ _ (off89_eq k0_t7 k) (by omega) (by omega) (by omega) _ fun ch l => ?_
    exact (xvOf_row (fun y => arg6.view.read (Elt Ideal) X_arg6 y) X7 last z _ _ _ (by omega) (by omega) (by omega)).symm
  | 5 =>
    refine tile_read _ _ _ _ _ _ _ (off90_eq k0_t7 k) (by omega) (by omega) (by omega) _ fun ch l => ?_
    exact (xvOf_row (fun y => arg6.view.read (Elt Ideal) X_arg6 y) X7 last z _ _ _ (by omega) (by omega) (by omega)).symm
  | 6 =>
    refine tile_read _ _ _ _ _ _ _ (off91_eq k0_t7 k) (by omega) (by omega) (by omega) _ fun ch l => ?_
    exact (xvOf_row (fun y => arg6.view.read (Elt Ideal) X_arg6 y) X7 last z _ _ _ (by omega) (by omega) (by omega)).symm
  | 7 =>
    refine tile_read _ _ _ _ _ _ _ (off92_eq k0_t7 k) (by omega) (by omega) (by omega) _ fun ch l => ?_
    exact (xvOf_row (fun y => arg6.view.read (Elt Ideal) X_arg6 y) X7 last z _ _ _ (by omega) (by omega) (by omega)).symm
  | 8 =>
    refine tile_read _ _ _ _ _ _ _ (off93_eq k0_t7 k) (by omega) (by omega) (by omega) _ fun ch l => ?_
    exact (xvOf_row (fun y => arg6.view.read (Elt Ideal) X_arg6 y) X7 last z _ _ _ (by omega) (by omega) (by omega)).symm
  | 9 =>
    refine tile_read _ _ _ _ _ _ _ (off94_eq k0_t7 k) (by omega) (by omega) (by omega) _ fun ch l => ?_
    exact (xvOf_row (fun y => arg6.view.read (Elt Ideal) X_arg6 y) X7 last z _ _ _ (by omega) (by omega) (by omega)).symm

theorem puts_t8 (X7 : S1x1x64x640.Idx → BitVec 8) (last : Bool) (z : BitVec 8) (hz : HasBytes v16 fun _ _ => z)
    (HL : Lanes v28 v39 v41 v43) :
    Puts (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 v55 v56 X_arg6 14) (wantX (xvOf (fun y => arg6.view.read (Elt Ideal) X_arg6 y) X7 last z) (k0_t7.val)) (fun y => (y 0).val = k0_t7.val % 2 ∧ 96 ≤ (y 2).val ∧ (y 2).val < 768) := by
  have h := loop_puts (N := 14) (fun k => tripL_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 v55 v56 X_arg6 k) (pb_k0_t8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 v55 v56 X_arg6) rfl (fun k => pb_k0_t8_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 v55 v56 X_arg6 k)
    (wantX (xvOf (fun y => arg6.view.read (Elt Ideal) X_arg6 y) X7 last z) (k0_t7.val)) (fun k y => (y 0).val = k0_t7.val % 2 ∧ (y 2).val / 96 = k.val / 2 + 1 ∧ (y 1).val = k.val % 2) ?_
  · refine ⟨h.1, fun y hy => h.2 y ?_⟩
    have y1 : (y 1).val < 2 := (y 1).isLt
    have y2 : (y 2).val < 864 := (y 2).isLt
    refine ⟨⟨2 * ((y 2).val / 96 - 1) + (y 1).val, by omega⟩, hy.1, ?_, ?_⟩
    · show (y 2).val / 96 = (2 * ((y 2).val / 96 - 1) + (y 1).val) / 2 + 1; omega
    · show (y 1).val = (2 * ((y 2).val / 96 - 1) + (y 1).val) % 2; omega
  · intro k
    refine trip_puts HL hz (fun r c => xvOf_last _ _ _ _ r c) (isTiles_t8 arg6 v16 k0_t7 X_arg6 k X7 last z hz) _ _ (isTrip_t8 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 v55 v56 X_arg6 k) ?_ _ ?_
    · simp only [List.forall_mem_cons, List.not_mem_nil, false_imp_iff, implies_true, and_true]
      have hq : k0_t7.val < 4 := k0_t7.isLt
      skip
      simp
    · intro y hy
      have y3 : (y 3).val < 640 := (y 3).isLt
      have y2 : (y 2).val < 864 := (y 2).isLt
      have hq : k0_t7.val < 4 := k0_t7.isLt
      refine ⟨hy.2.2, ?_⟩
      have hb : ∀ (t : Fin 3) (j : Fin 5), (k0_t7.val % 2, (k.val / 2 + 1), t, j) ∈ ([(k0_t7.val % 2, (k.val / 2 + 1), 2, 4), (k0_t7.val % 2, (k.val / 2 + 1), 2, 3), (k0_t7.val % 2, (k.val / 2 + 1), 2, 2), (k0_t7.val % 2, (k.val / 2 + 1), 2, 1), (k0_t7.val % 2, (k.val / 2 + 1), 2, 0), (k0_t7.val % 2, (k.val / 2 + 1), 1, 4), (k0_t7.val % 2, (k.val / 2 + 1), 1, 3), (k0_t7.val % 2, (k.val / 2 + 1), 1, 2), (k0_t7.val % 2, (k.val / 2 + 1), 1, 1), (k0_t7.val % 2, (k.val / 2 + 1), 1, 0), (k0_t7.val % 2, (k.val / 2 + 1), 0, 4), (k0_t7.val % 2, (k.val / 2 + 1), 0, 3), (k0_t7.val % 2, (k.val / 2 + 1), 0, 2), (k0_t7.val % 2, (k.val / 2 + 1), 0, 1), (k0_t7.val % 2, (k.val / 2 + 1), 0, 0)] : List (ℕ × ℕ × Fin 3 × Fin 5)) := by
        intro t j
        fin_cases t <;> fin_cases j <;> simp
      rw [hy.1, hy.2.1]; exact hb _ _

end Cert.KernelIdeal.Val
end
-- ==== Proof.Taps9.lean ====
module

public import proofs.«01_k».proof.Proof.Taps
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI

theorem off115_eq_0 : ∀ (k0_t7 : Fin k0_t7_loop.trips) (k : Fin k0_t9_loop.trips), k0_off115 k0_t7 k 0#32 = ![k0_t7.val % 2, k.val, 96 * 8 + 0, 0] := by decide +kernel

theorem off115_eq_1 : ∀ (k0_t7 : Fin k0_t7_loop.trips) (k : Fin k0_t9_loop.trips), k0_off115 k0_t7 k 32#32 = ![k0_t7.val % 2, k.val, 96 * 8 + 32, 0] := by decide +kernel

theorem off115_eq_2 : ∀ (k0_t7 : Fin k0_t7_loop.trips) (k : Fin k0_t9_loop.trips), k0_off115 k0_t7 k 64#32 = ![k0_t7.val % 2, k.val, 96 * 8 + 64, 0] := by decide +kernel

theorem off116_eq_0 : ∀ (k0_t7 : Fin k0_t7_loop.trips) (k : Fin k0_t9_loop.trips), k0_off116 k0_t7 k 0#32 = ![1 - k0_t7.val % 2, k.val, 96 * 0 + 0, 0] := by decide +kernel

theorem off116_eq_1 : ∀ (k0_t7 : Fin k0_t7_loop.trips) (k : Fin k0_t9_loop.trips), k0_off116 k0_t7 k 32#32 = ![1 - k0_t7.val % 2, k.val, 96 * 0 + 32, 0] := by decide +kernel

theorem off116_eq_2 : ∀ (k0_t7 : Fin k0_t7_loop.trips) (k : Fin k0_t9_loop.trips), k0_off116 k0_t7 k 64#32 = ![1 - k0_t7.val % 2, k.val, 96 * 0 + 64, 0] := by decide +kernel

theorem off117_eq_0 : ∀ (k0_t7 : Fin k0_t7_loop.trips) (k : Fin k0_t9_loop.trips), k0_off117 k0_t7 k 0#32 = ![k0_t7.val % 2, k.val, 96 * 8 + 0, 128] := by decide +kernel

theorem off117_eq_1 : ∀ (k0_t7 : Fin k0_t7_loop.trips) (k : Fin k0_t9_loop.trips), k0_off117 k0_t7 k 32#32 = ![k0_t7.val % 2, k.val, 96 * 8 + 32, 128] := by decide +kernel

theorem off117_eq_2 : ∀ (k0_t7 : Fin k0_t7_loop.trips) (k : Fin k0_t9_loop.trips), k0_off117 k0_t7 k 64#32 = ![k0_t7.val % 2, k.val, 96 * 8 + 64, 128] := by decide +kernel

theorem off118_eq_0 : ∀ (k0_t7 : Fin k0_t7_loop.trips) (k : Fin k0_t9_loop.trips), k0_off118 k0_t7 k 0#32 = ![1 - k0_t7.val % 2, k.val, 96 * 0 + 0, 128] := by decide +kernel

theorem off118_eq_1 : ∀ (k0_t7 : Fin k0_t7_loop.trips) (k : Fin k0_t9_loop.trips), k0_off118 k0_t7 k 32#32 = ![1 - k0_t7.val % 2, k.val, 96 * 0 + 32, 128] := by decide +kernel

theorem off118_eq_2 : ∀ (k0_t7 : Fin k0_t7_loop.trips) (k : Fin k0_t9_loop.trips), k0_off118 k0_t7 k 64#32 = ![1 - k0_t7.val % 2, k.val, 96 * 0 + 64, 128] := by decide +kernel

theorem off119_eq_0 : ∀ (k0_t7 : Fin k0_t7_loop.trips) (k : Fin k0_t9_loop.trips), k0_off119 k0_t7 k 0#32 = ![k0_t7.val % 2, k.val, 96 * 8 + 0, 256] := by decide +kernel

theorem off119_eq_1 : ∀ (k0_t7 : Fin k0_t7_loop.trips) (k : Fin k0_t9_loop.trips), k0_off119 k0_t7 k 32#32 = ![k0_t7.val % 2, k.val, 96 * 8 + 32, 256] := by decide +kernel

theorem off119_eq_2 : ∀ (k0_t7 : Fin k0_t7_loop.trips) (k : Fin k0_t9_loop.trips), k0_off119 k0_t7 k 64#32 = ![k0_t7.val % 2, k.val, 96 * 8 + 64, 256] := by decide +kernel

theorem off120_eq_0 : ∀ (k0_t7 : Fin k0_t7_loop.trips) (k : Fin k0_t9_loop.trips), k0_off120 k0_t7 k 0#32 = ![1 - k0_t7.val % 2, k.val, 96 * 0 + 0, 256] := by decide +kernel

theorem off120_eq_1 : ∀ (k0_t7 : Fin k0_t7_loop.trips) (k : Fin k0_t9_loop.trips), k0_off120 k0_t7 k 32#32 = ![1 - k0_t7.val % 2, k.val, 96 * 0 + 32, 256] := by decide +kernel

theorem off120_eq_2 : ∀ (k0_t7 : Fin k0_t7_loop.trips) (k : Fin k0_t9_loop.trips), k0_off120 k0_t7 k 64#32 = ![1 - k0_t7.val % 2, k.val, 96 * 0 + 64, 256] := by decide +kernel

theorem off121_eq_0 : ∀ (k0_t7 : Fin k0_t7_loop.trips) (k : Fin k0_t9_loop.trips), k0_off121 k0_t7 k 0#32 = ![k0_t7.val % 2, k.val, 96 * 8 + 0, 384] := by decide +kernel

theorem off121_eq_1 : ∀ (k0_t7 : Fin k0_t7_loop.trips) (k : Fin k0_t9_loop.trips), k0_off121 k0_t7 k 32#32 = ![k0_t7.val % 2, k.val, 96 * 8 + 32, 384] := by decide +kernel

theorem off121_eq_2 : ∀ (k0_t7 : Fin k0_t7_loop.trips) (k : Fin k0_t9_loop.trips), k0_off121 k0_t7 k 64#32 = ![k0_t7.val % 2, k.val, 96 * 8 + 64, 384] := by decide +kernel

theorem off122_eq_0 : ∀ (k0_t7 : Fin k0_t7_loop.trips) (k : Fin k0_t9_loop.trips), k0_off122 k0_t7 k 0#32 = ![1 - k0_t7.val % 2, k.val, 96 * 0 + 0, 384] := by decide +kernel

theorem off122_eq_1 : ∀ (k0_t7 : Fin k0_t7_loop.trips) (k : Fin k0_t9_loop.trips), k0_off122 k0_t7 k 32#32 = ![1 - k0_t7.val % 2, k.val, 96 * 0 + 32, 384] := by decide +kernel

theorem off122_eq_2 : ∀ (k0_t7 : Fin k0_t7_loop.trips) (k : Fin k0_t9_loop.trips), k0_off122 k0_t7 k 64#32 = ![1 - k0_t7.val % 2, k.val, 96 * 0 + 64, 384] := by decide +kernel

theorem off123_eq_0 : ∀ (k0_t7 : Fin k0_t7_loop.trips) (k : Fin k0_t9_loop.trips), k0_off123 k0_t7 k 0#32 = ![k0_t7.val % 2, k.val, 96 * 8 + 0, 512] := by decide +kernel

theorem off123_eq_1 : ∀ (k0_t7 : Fin k0_t7_loop.trips) (k : Fin k0_t9_loop.trips), k0_off123 k0_t7 k 32#32 = ![k0_t7.val % 2, k.val, 96 * 8 + 32, 512] := by decide +kernel

theorem off123_eq_2 : ∀ (k0_t7 : Fin k0_t7_loop.trips) (k : Fin k0_t9_loop.trips), k0_off123 k0_t7 k 64#32 = ![k0_t7.val % 2, k.val, 96 * 8 + 64, 512] := by decide +kernel

theorem off124_eq_0 : ∀ (k0_t7 : Fin k0_t7_loop.trips) (k : Fin k0_t9_loop.trips), k0_off124 k0_t7 k 0#32 = ![1 - k0_t7.val % 2, k.val, 96 * 0 + 0, 512] := by decide +kernel

theorem off124_eq_1 : ∀ (k0_t7 : Fin k0_t7_loop.trips) (k : Fin k0_t9_loop.trips), k0_off124 k0_t7 k 32#32 = ![1 - k0_t7.val % 2, k.val, 96 * 0 + 32, 512] := by decide +kernel

theorem off124_eq_2 : ∀ (k0_t7 : Fin k0_t7_loop.trips) (k : Fin k0_t9_loop.trips), k0_off124 k0_t7 k 64#32 = ![1 - k0_t7.val % 2, k.val, 96 * 0 + 64, 512] := by decide +kernel

variable (𝒱 : Variants) (c : Dev nD) (bd : Option 𝒱.V) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt Ideal .i32) (v2 : Elt Ideal .i32) (v3 : Elt Ideal .i32) (v16 : IVec S8x128 32) (v28 : IVec S8x128 32) (v39 : IVec S8x128 32) (v41 : IVec S8x128 1) (v43 : IVec S8x128 1) (v44 : BitVec 1) (v45 : FVec Ideal S16x256 .bf16) (c0_i32_21 : BitVec 32) (c1_i32_22 : BitVec 32) (k0_t7 : Fin k0_t7_loop.trips) (arg18 : BitVec 32) (v55 : BitVec 32) (v58 : BitVec 32) (v60 : BitVec 32) (X_arg6 : BufTy.Contents (Elt Ideal) arg6.view.ty) (X_arg7 : BufTy.Contents (Elt Ideal) arg7.view.ty)

/-- The ten tiles a trip of `k0_t9` reads. -/
def tiles_t9 (k : Fin k0_t9_loop.trips) : Fin 10 → IVec S8x128 32 :=
  tilesOf (tileW (arg6.view.readAt (Elt Ideal) (Rect.unit (s := S1x64x64x640) (k0_off100 k0_t7 k) S1x1x32x128.size (k0_off100_inb k0_t7 k)).toLoadRect X_arg6))
    (tileW (arg6.view.readAt (Elt Ideal) (Rect.unit (s := S1x64x64x640) (k0_off101 k0_t7 k) S1x1x32x128.size (k0_off101_inb k0_t7 k)).toLoadRect X_arg6))
    (tileW (arg6.view.readAt (Elt Ideal) (Rect.unit (s := S1x64x64x640) (k0_off102 k0_t7 k) S1x1x32x128.size (k0_off102_inb k0_t7 k)).toLoadRect X_arg6))
    (tileW (arg6.view.readAt (Elt Ideal) (Rect.unit (s := S1x64x64x640) (k0_off103 k0_t7 k) S1x1x32x128.size (k0_off103_inb k0_t7 k)).toLoadRect X_arg6))
    (tileW (arg6.view.readAt (Elt Ideal) (Rect.unit (s := S1x64x64x640) (k0_off104 k0_t7 k) S1x1x32x128.size (k0_off104_inb k0_t7 k)).toLoadRect X_arg6))
    (Scalar.select (Scalar.cmpi .eq arg18 3#32) (Scalar.select v44 v16 (tileW (arg7.view.readAt (Elt Ideal) (Rect.unit (s := S1x1x64x640) (k0_off106 k) S1x1x32x128.size (k0_off106_inb k)).toLoadRect X_arg7))) (tileW (arg6.view.readAt (Elt Ideal) (Rect.unit (s := S1x64x64x640) (k0_off105 k0_t7 k) S1x1x32x128.size (k0_off105_inb k0_t7 k)).toLoadRect X_arg6)))
    (Scalar.select (Scalar.cmpi .eq arg18 3#32) (Scalar.select v44 v16 (tileW (arg7.view.readAt (Elt Ideal) (Rect.unit (s := S1x1x64x640) (k0_off108 k) S1x1x32x128.size (k0_off108_inb k)).toLoadRect X_arg7))) (tileW (arg6.view.readAt (Elt Ideal) (Rect.unit (s := S1x64x64x640) (k0_off107 k0_t7 k) S1x1x32x128.size (k0_off107_inb k0_t7 k)).toLoadRect X_arg6)))
    (Scalar.select (Scalar.cmpi .eq arg18 3#32) (Scalar.select v44 v16 (tileW (arg7.view.readAt (Elt Ideal) (Rect.unit (s := S1x1x64x640) (k0_off110 k) S1x1x32x128.size (k0_off110_inb k)).toLoadRect X_arg7))) (tileW (arg6.view.readAt (Elt Ideal) (Rect.unit (s := S1x64x64x640) (k0_off109 k0_t7 k) S1x1x32x128.size (k0_off109_inb k0_t7 k)).toLoadRect X_arg6)))
    (Scalar.select (Scalar.cmpi .eq arg18 3#32) (Scalar.select v44 v16 (tileW (arg7.view.readAt (Elt Ideal) (Rect.unit (s := S1x1x64x640) (k0_off112 k) S1x1x32x128.size (k0_off112_inb k)).toLoadRect X_arg7))) (tileW (arg6.view.readAt (Elt Ideal) (Rect.unit (s := S1x64x64x640) (k0_off111 k0_t7 k) S1x1x32x128.size (k0_off111_inb k0_t7 k)).toLoadRect X_arg6)))
    (Scalar.select (Scalar.cmpi .eq arg18 3#32) (Scalar.select v44 v16 (tileW (arg7.view.readAt (Elt Ideal) (Rect.unit (s := S1x1x64x640) (k0_off114 k) S1x1x32x128.size (k0_off114_inb k)).toLoadRect X_arg7))) (tileW (arg6.view.readAt (Elt Ideal) (Rect.unit (s := S1x64x64x640) (k0_off113 k0_t7 k) S1x1x32x128.size (k0_off113_inb k0_t7 k)).toLoadRect X_arg6)))

set_option maxHeartbeats 40000000 in
theorem isTrip_t9 (k : Fin k0_t9_loop.trips) :
    List.Forall₂ (IsTap (mW v28 v39 v41 v43 v16 (tiles_t9 arg6 arg7 v16 v44 k0_t7 arg18 X_arg6 X_arg7 k)) (k.val))
      (tripL_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 v58 v60 X_arg6 X_arg7 k) [(1 - k0_t7.val % 2, 0, 2, 4), (k0_t7.val % 2, 8, 2, 4), (1 - k0_t7.val % 2, 0, 2, 3), (k0_t7.val % 2, 8, 2, 3), (1 - k0_t7.val % 2, 0, 2, 2), (k0_t7.val % 2, 8, 2, 2), (1 - k0_t7.val % 2, 0, 2, 1), (k0_t7.val % 2, 8, 2, 1), (1 - k0_t7.val % 2, 0, 2, 0), (k0_t7.val % 2, 8, 2, 0), (1 - k0_t7.val % 2, 0, 1, 4), (k0_t7.val % 2, 8, 1, 4), (1 - k0_t7.val % 2, 0, 1, 3), (k0_t7.val % 2, 8, 1, 3), (1 - k0_t7.val % 2, 0, 1, 2), (k0_t7.val % 2, 8, 1, 2), (1 - k0_t7.val % 2, 0, 1, 1), (k0_t7.val % 2, 8, 1, 1), (1 - k0_t7.val % 2, 0, 1, 0), (k0_t7.val % 2, 8, 1, 0), (1 - k0_t7.val % 2, 0, 0, 4), (k0_t7.val % 2, 8, 0, 4), (1 - k0_t7.val % 2, 0, 0, 3), (k0_t7.val % 2, 8, 0, 3), (1 - k0_t7.val % 2, 0, 0, 2), (k0_t7.val % 2, 8, 0, 2), (1 - k0_t7.val % 2, 0, 0, 1), (k0_t7.val % 2, 8, 0, 1), (1 - k0_t7.val % 2, 0, 0, 0), (k0_t7.val % 2, 8, 0, 0)] := by
  unfold tripL_k0_t9 trip_k0_t9 tiles_t9
  simp only []
  refine .cons (isTap_2_4 _ _ _ _ _ _ _ _ _ _ _ _ _ _ _ _ _ _ _ _ _ (off124_eq_2 k0_t7 k) ?_) ?_
  · with_unfolding_all exact rfl
  refine .cons (isTap_2_4 _ _ _ _ _ _ _ _ _ _ _ _ _ _ _ _ _ _ _ _ _ (off123_eq_2 k0_t7 k) ?_) ?_
  · with_unfolding_all exact rfl
  refine .cons (isTap_2_3 _ _ _ _ _ _ _ _ _ _ _ _ _ _ _ _ _ _ _ _ _ (off122_eq_2 k0_t7 k) ?_) ?_
  · with_unfolding_all exact rfl
  refine .cons (isTap_2_3 _ _ _ _ _ _ _ _ _ _ _ _ _ _ _ _ _ _ _ _ _ (off121_eq_2 k0_t7 k) ?_) ?_
  · with_unfolding_all exact rfl
  refine .cons (isTap_2_2 _ _ _ _ _ _ _ _ _ _ _ _ _ _ _ _ _ _ _ _ _ (off120_eq_2 k0_t7 k) ?_) ?_
  · with_unfolding_all exact rfl
  refine .cons (isTap_2_2 _ _ _ _ _ _ _ _ _ _ _ _ _ _ _ _ _ _ _ _ _ (off119_eq_2 k0_t7 k) ?_) ?_
  · with_unfolding_all exact rfl
  refine .cons (isTap_2_1 _ _ _ _ _ _ _ _ _ _ _ _ _ _ _ _ _ _ _ _ _ (off118_eq_2 k0_t7 k) ?_) ?_
  · with_unfolding_all exact rfl
  refine .cons (isTap_2_1 _ _ _ _ _ _ _ _ _ _ _ _ _ _ _ _ _ _ _ _ _ (off117_eq_2 k0_t7 k) ?_) ?_
  · with_unfolding_all exact rfl
  refine .cons (isTap_2_0 _ _ _ _ _ _ _ _ _ _ _ _ _ _ _ _ _ _ _ _ _ (off116_eq_2 k0_t7 k) ?_) ?_
  · with_unfolding_all exact rfl
  refine .cons (isTap_2_0 _ _ _ _ _ _ _ _ _ _ _ _ _ _ _ _ _ _ _ _ _ (off115_eq_2 k0_t7 k) ?_) ?_
  · with_unfolding_all exact rfl
  refine .cons (isTap_1_4 _ _ _ _ _ _ _ _ _ _ _ _ _ _ _ _ _ _ _ _ _ (off124_eq_1 k0_t7 k) ?_) ?_
  · with_unfolding_all exact rfl
  refine .cons (isTap_1_4 _ _ _ _ _ _ _ _ _ _ _ _ _ _ _ _ _ _ _ _ _ (off123_eq_1 k0_t7 k) ?_) ?_
  · with_unfolding_all exact rfl
  refine .cons (isTap_1_3 _ _ _ _ _ _ _ _ _ _ _ _ _ _ _ _ _ _ _ _ _ (off122_eq_1 k0_t7 k) ?_) ?_
  · with_unfolding_all exact rfl
  refine .cons (isTap_1_3 _ _ _ _ _ _ _ _ _ _ _ _ _ _ _ _ _ _ _ _ _ (off121_eq_1 k0_t7 k) ?_) ?_
  · with_unfolding_all exact rfl
  refine .cons (isTap_1_2 _ _ _ _ _ _ _ _ _ _ _ _ _ _ _ _ _ _ _ _ _ (off120_eq_1 k0_t7 k) ?_) ?_
  · with_unfolding_all exact rfl
  refine .cons (isTap_1_2 _ _ _ _ _ _ _ _ _ _ _ _ _ _ _ _ _ _ _ _ _ (off119_eq_1 k0_t7 k) ?_) ?_
  · with_unfolding_all exact rfl
  refine .cons (isTap_1_1 _ _ _ _ _ _ _ _ _ _ _ _ _ _ _ _ _ _ _ _ _ (off118_eq_1 k0_t7 k) ?_) ?_
  · with_unfolding_all exact rfl
  refine .cons (isTap_1_1 _ _ _ _ _ _ _ _ _ _ _ _ _ _ _ _ _ _ _ _ _ (off117_eq_1 k0_t7 k) ?_) ?_
  · with_unfolding_all exact rfl
  refine .cons (isTap_1_0 _ _ _ _ _ _ _ _ _ _ _ _ _ _ _ _ _ _ _ _ _ (off116_eq_1 k0_t7 k) ?_) ?_
  · with_unfolding_all exact rfl
  refine .cons (isTap_1_0 _ _ _ _ _ _ _ _ _ _ _ _ _ _ _ _ _ _ _ _ _ (off115_eq_1 k0_t7 k) ?_) ?_
  · with_unfolding_all exact rfl
  refine .cons (isTap_0_4 _ _ _ _ _ _ _ _ _ _ _ _ _ _ _ _ _ _ _ _ _ (off124_eq_0 k0_t7 k) ?_) ?_
  · with_unfolding_all exact rfl
  refine .cons (isTap_0_4 _ _ _ _ _ _ _ _ _ _ _ _ _ _ _ _ _ _ _ _ _ (off123_eq_0 k0_t7 k) ?_) ?_
  · with_unfolding_all exact rfl
  refine .cons (isTap_0_3 _ _ _ _ _ _ _ _ _ _ _ _ _ _ _ _ _ _ _ _ _ (off122_eq_0 k0_t7 k) ?_) ?_
  · with_unfolding_all exact rfl
  refine .cons (isTap_0_3 _ _ _ _ _ _ _ _ _ _ _ _ _ _ _ _ _ _ _ _ _ (off121_eq_0 k0_t7 k) ?_) ?_
  · with_unfolding_all exact rfl
  refine .cons (isTap_0_2 _ _ _ _ _ _ _ _ _ _ _ _ _ _ _ _ _ _ _ _ _ (off120_eq_0 k0_t7 k) ?_) ?_
  · with_unfolding_all exact rfl
  refine .cons (isTap_0_2 _ _ _ _ _ _ _ _ _ _ _ _ _ _ _ _ _ _ _ _ _ (off119_eq_0 k0_t7 k) ?_) ?_
  · with_unfolding_all exact rfl
  refine .cons (isTap_0_1 _ _ _ _ _ _ _ _ _ _ _ _ _ _ _ _ _ _ _ _ _ (off118_eq_0 k0_t7 k) ?_) ?_
  · with_unfolding_all exact rfl
  refine .cons (isTap_0_1 _ _ _ _ _ _ _ _ _ _ _ _ _ _ _ _ _ _ _ _ _ (off117_eq_0 k0_t7 k) ?_) ?_
  · with_unfolding_all exact rfl
  refine .cons (isTap_0_0 _ _ _ _ _ _ _ _ _ _ _ _ _ _ _ _ _ _ _ _ _ (off116_eq_0 k0_t7 k) ?_) ?_
  · with_unfolding_all exact rfl
  refine .cons (isTap_0_0 _ _ _ _ _ _ _ _ _ _ _ _ _ _ _ _ _ _ _ _ _ (off115_eq_0 k0_t7 k) ?_) ?_
  · with_unfolding_all exact rfl
  exact .nil
theorem off100_eq : ∀ (k0_t7 : Fin k0_t7_loop.trips) (k : Fin k0_t9_loop.trips), k0_off100 k0_t7 k = ![0, 8 * k0_t7.val + 8, 32 * (k.val), 0] := by decide +kernel
theorem off101_eq : ∀ (k0_t7 : Fin k0_t7_loop.trips) (k : Fin k0_t9_loop.trips), k0_off101 k0_t7 k = ![0, 8 * k0_t7.val + 8, 32 * (k.val), 128] := by decide +kernel
theorem off102_eq : ∀ (k0_t7 : Fin k0_t7_loop.trips) (k : Fin k0_t9_loop.trips), k0_off102 k0_t7 k = ![0, 8 * k0_t7.val + 8, 32 * (k.val), 256] := by decide +kernel
theorem off103_eq : ∀ (k0_t7 : Fin k0_t7_loop.trips) (k : Fin k0_t9_loop.trips), k0_off103 k0_t7 k = ![0, 8 * k0_t7.val + 8, 32 * (k.val), 384] := by decide +kernel
theorem off104_eq : ∀ (k0_t7 : Fin k0_t7_loop.trips) (k : Fin k0_t9_loop.trips), k0_off104 k0_t7 k = ![0, 8 * k0_t7.val + 8, 32 * (k.val), 512] := by decide +kernel
theorem off105_eq : ∀ (k0_t7 : Fin k0_t7_loop.trips) (k : Fin k0_t9_loop.trips), k0_off105 k0_t7 k = ![0, min (8 * k0_t7.val + 8 + 32) 63, 32 * (k.val), 0] := by decide +kernel
theorem off106_eq : ∀ (k : Fin k0_t9_loop.trips), k0_off106 k = ![0, 0, 32 * (k.val), 0] := by decide +kernel
theorem off107_eq : ∀ (k0_t7 : Fin k0_t7_loop.trips) (k : Fin k0_t9_loop.trips), k0_off107 k0_t7 k = ![0, min (8 * k0_t7.val + 8 + 32) 63, 32 * (k.val), 128] := by decide +kernel
theorem off108_eq : ∀ (k : Fin k0_t9_loop.trips), k0_off108 k = ![0, 0, 32 * (k.val), 128] := by decide +kernel
theorem off109_eq : ∀ (k0_t7 : Fin k0_t7_loop.trips) (k : Fin k0_t9_loop.trips), k0_off109 k0_t7 k = ![0, min (8 * k0_t7.val + 8 + 32) 63, 32 * (k.val), 256] := by decide +kernel
theorem off110_eq : ∀ (k : Fin k0_t9_loop.trips), k0_off110 k = ![0, 0, 32 * (k.val), 256] := by decide +kernel
theorem off111_eq : ∀ (k0_t7 : Fin k0_t7_loop.trips) (k : Fin k0_t9_loop.trips), k0_off111 k0_t7 k = ![0, min (8 * k0_t7.val + 8 + 32) 63, 32 * (k.val), 384] := by decide +kernel
theorem off112_eq : ∀ (k : Fin k0_t9_loop.trips), k0_off112 k = ![0, 0, 32 * (k.val), 384] := by decide +kernel
theorem off113_eq : ∀ (k0_t7 : Fin k0_t7_loop.trips) (k : Fin k0_t9_loop.trips), k0_off113 k0_t7 k = ![0, min (8 * k0_t7.val + 8 + 32) 63, 32 * (k.val), 512] := by decide +kernel
theorem off114_eq : ∀ (k : Fin k0_t9_loop.trips), k0_off114 k = ![0, 0, 32 * (k.val), 512] := by decide +kernel

theorem isTiles_t9 (k : Fin k0_t9_loop.trips) (last : Bool) (z : BitVec 8) (hz : HasBytes v16 fun _ _ => z) (hv44 : v44 = if last then 1#1 else 0#1) (harg : arg18 = Scf.iv 0#32 1#32 k0_t7) :
    IsTiles (xvOf (fun y => arg6.view.read (Elt Ideal) X_arg6 y) (fun y => arg7.view.read (Elt Ideal) X_arg7 y) last z) (8 * k0_t7.val + 8) (k.val) (tiles_t9 arg6 arg7 v16 v44 k0_t7 arg18 X_arg6 X_arg7 k) := by
  have hk : k.val < 2 := k.isLt
  have hq : k0_t7.val < 4 := k0_t7.isLt
  unfold tiles_t9
  intro p
  have hsel : Scalar.cmpi .eq arg18 3#32 = if k0_t7.val = 3 then 1#1 else 0#1 := by
    rw [harg]; exact (by decide +kernel : ∀ j : Fin k0_t7_loop.trips, Scalar.cmpi .eq (Scf.iv 0#32 1#32 j) 3#32 = if j.val = 3 then 1#1 else 0#1) k0_t7
  match p with
  | 0 =>
    refine tile_read _ _ _ _ _ _ _ (off100_eq k0_t7 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 1 =>
    refine tile_read _ _ _ _ _ _ _ (off101_eq k0_t7 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 2 =>
    refine tile_read _ _ _ _ _ _ _ (off102_eq k0_t7 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 3 =>
    refine tile_read _ _ _ _ _ _ _ (off103_eq k0_t7 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 4 =>
    refine tile_read _ _ _ _ _ _ _ (off104_eq k0_t7 k) (by omega) (by omega) (by omega) _ fun ch l => ?_
    exact (xvOf_row (fun y => arg6.view.read (Elt Ideal) X_arg6 y) (fun y => arg7.view.read (Elt Ideal) X_arg7 y) last z _ _ _ (by omega) (by omega) (by omega)).symm
  | 5 =>
    show HasBytes (Scalar.select (Scalar.cmpi .eq arg18 3#32) _ _) _
    rw [hsel, sel_if]
    by_cases h3 : k0_t7.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t7.val + 8 + 32) (32 * (k.val) + ch.val) (0 + l.val)
          = if last then z else (arg7.view.read (Elt Ideal) X_arg7 (ix4 0 0 ⟨32 * (k.val) + ch.val, by omega⟩ ⟨0 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off106_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off105_eq k0_t7 k) (by omega) (by omega) (by omega) _ fun ch l => ?_
      refine Eq.trans ?_ (xvOf_row (fun y => arg6.view.read (Elt Ideal) X_arg6 y) (fun y => arg7.view.read (Elt Ideal) X_arg7 y) last z (8 * k0_t7.val + 8 + 32) _ _ (by omega) (by omega) (by omega)).symm
      congr 2
      exact Fin.ext (by show min (8 * k0_t7.val + 8 + 32) 63 = 8 * k0_t7.val + 8 + 32; omega)
  | 6 =>
    show HasBytes (Scalar.select (Scalar.cmpi .eq arg18 3#32) _ _) _
    rw [hsel, sel_if]
    by_cases h3 : k0_t7.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t7.val + 8 + 32) (32 * (k.val) + ch.val) (128 + l.val)
          = if last then z else (arg7.view.read (Elt Ideal) X_arg7 (ix4 0 0 ⟨32 * (k.val) + ch.val, by omega⟩ ⟨128 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off108_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off107_eq k0_t7 k) (by omega) (by omega) (by omega) _ fun ch l => ?_
      refine Eq.trans ?_ (xvOf_row (fun y => arg6.view.read (Elt Ideal) X_arg6 y) (fun y => arg7.view.read (Elt Ideal) X_arg7 y) last z (8 * k0_t7.val + 8 + 32) _ _ (by omega) (by omega) (by omega)).symm
      congr 2
      exact Fin.ext (by show min (8 * k0_t7.val + 8 + 32) 63 = 8 * k0_t7.val + 8 + 32; omega)
  | 7 =>
    show HasBytes (Scalar.select (Scalar.cmpi .eq arg18 3#32) _ _) _
    rw [hsel, sel_if]
    by_cases h3 : k0_t7.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t7.val + 8 + 32) (32 * (k.val) + ch.val) (256 + l.val)
          = if last then z else (arg7.view.read (Elt Ideal) X_arg7 (ix4 0 0 ⟨32 * (k.val) + ch.val, by omega⟩ ⟨256 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off110_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off109_eq k0_t7 k) (by omega) (by omega) (by omega) _ fun ch l => ?_
      refine Eq.trans ?_ (xvOf_row (fun y => arg6.view.read (Elt Ideal) X_arg6 y) (fun y => arg7.view.read (Elt Ideal) X_arg7 y) last z (8 * k0_t7.val + 8 + 32) _ _ (by omega) (by omega) (by omega)).symm
      congr 2
      exact Fin.ext (by show min (8 * k0_t7.val + 8 + 32) 63 = 8 * k0_t7.val + 8 + 32; omega)
  | 8 =>
    show HasBytes (Scalar.select (Scalar.cmpi .eq arg18 3#32) _ _) _
    rw [hsel, sel_if]
    by_cases h3 : k0_t7.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t7.val + 8 + 32) (32 * (k.val) + ch.val) (384 + l.val)
          = if last then z else (arg7.view.read (Elt Ideal) X_arg7 (ix4 0 0 ⟨32 * (k.val) + ch.val, by omega⟩ ⟨384 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off112_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off111_eq k0_t7 k) (by omega) (by omega) (by omega) _ fun ch l => ?_
      refine Eq.trans ?_ (xvOf_row (fun y => arg6.view.read (Elt Ideal) X_arg6 y) (fun y => arg7.view.read (Elt Ideal) X_arg7 y) last z (8 * k0_t7.val + 8 + 32) _ _ (by omega) (by omega) (by omega)).symm
      congr 2
      exact Fin.ext (by show min (8 * k0_t7.val + 8 + 32) 63 = 8 * k0_t7.val + 8 + 32; omega)
  | 9 =>
    show HasBytes (Scalar.select (Scalar.cmpi .eq arg18 3#32) _ _) _
    rw [hsel, sel_if]
    by_cases h3 : k0_t7.val = 3
    · rw [if_pos h3, hv44, sel_if]
      have hx : ∀ (ch : Fin 32) (l : Fin 128), xvOf (fun y => arg6.view.read (Elt Ideal) X_arg6 y) (fun y => arg7.view.read (Elt Ideal) X_arg7 y) last z (8 * k0_t7.val + 8 + 32) (32 * (k.val) + ch.val) (512 + l.val)
          = if last then z else (arg7.view.read (Elt Ideal) X_arg7 (ix4 0 0 ⟨32 * (k.val) + ch.val, by omega⟩ ⟨512 + l.val, by omega⟩) : BitVec 8) :=
        fun ch l => xvOf_halo (fun y => arg6.view.read (Elt Ideal) X_arg6 y) (fun y => arg7.view.read (Elt Ideal) X_arg7 y) last z _ _ _ (by omega) (by omega) (by omega)
      cases last
      · refine halo_read _ _ _ _ _ _ (off114_eq k) (by omega) (by omega) _ fun ch l => ?_
        exact (hx ch l).symm
      · intro s l qq hqq
        rw [show (if true = true then v16 else _) = v16 from rfl, hz s l qq hqq]
        exact congrArg (fun b : BitVec 8 => b.getLsbD (qq % 8)) (hx ⟨4 * s.val + qq / 8, by omega⟩ l).symm
    · rw [if_neg h3]
      refine tile_read _ _ _ _ _ _ _ (off113_eq k0_t7 k) (by omega) (by omega) (by omega) _ fun ch l => ?_
      refine Eq.trans ?_ (xvOf_row (fun y => arg6.view.read (Elt Ideal) X_arg6 y) (fun y => arg7.view.read (Elt Ideal) X_arg7 y) last z (8 * k0_t7.val + 8 + 32) _ _ (by omega) (by omega) (by omega)).symm
      congr 2
      exact Fin.ext (by show min (8 * k0_t7.val + 8 + 32) 63 = 8 * k0_t7.val + 8 + 32; omega)

theorem puts_t9 (last : Bool) (z : BitVec 8) (hz : HasBytes v16 fun _ _ => z) (hv44 : v44 = if last then 1#1 else 0#1) (harg : arg18 = Scf.iv 0#32 1#32 k0_t7)
    (HL : Lanes v28 v39 v41 v43) :
    Puts (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 v58 v60 X_arg6 X_arg7 2) (wantX (xvOf (fun y => arg6.view.read (Elt Ideal) X_arg6 y) (fun y => arg7.view.read (Elt Ideal) X_arg7 y) last z) (k0_t7.val)) (fun y => ((y 0).val = k0_t7.val % 2 ∧ 768 ≤ (y 2).val) ∨ ((y 0).val = 1 - k0_t7.val % 2 ∧ (y 2).val < 96)) := by
  have h := loop_puts (N := 2) (fun k => tripL_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 v58 v60 X_arg6 X_arg7 k) (pb_k0_t9 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 v58 v60 X_arg6 X_arg7) rfl (fun k => pb_k0_t9_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 v58 v60 X_arg6 X_arg7 k)
    (wantX (xvOf (fun y => arg6.view.read (Elt Ideal) X_arg6 y) (fun y => arg7.view.read (Elt Ideal) X_arg7 y) last z) (k0_t7.val)) (fun k y => (((y 0).val = k0_t7.val % 2 ∧ 768 ≤ (y 2).val) ∨ ((y 0).val = 1 - k0_t7.val % 2 ∧ (y 2).val < 96)) ∧ (y 1).val = k.val) ?_
  · refine ⟨h.1, fun y hy => h.2 y ?_⟩
    have y1 : (y 1).val < 2 := (y 1).isLt
    have y2 : (y 2).val < 864 := (y 2).isLt
    exact ⟨⟨(y 1).val, y1⟩, hy, rfl⟩
  · intro k
    refine trip_puts HL hz (fun r c => xvOf_last _ _ _ _ r c) (isTiles_t9 arg6 arg7 v16 v44 k0_t7 arg18 X_arg6 X_arg7 k last z hz hv44 harg) _ _ (isTrip_t9 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 v39 v41 v43 v44 v45 c0_i32_21 c1_i32_22 k0_t7 arg18 v55 v58 v60 X_arg6 X_arg7 k) ?_ _ ?_
    · simp only [List.forall_mem_cons, List.not_mem_nil, false_imp_iff, implies_true, and_true]
      have hq : k0_t7.val < 4 := k0_t7.isLt
      have h0 : ¬ (1 - k0_t7.val % 2 = k0_t7.val % 2) := by omega
      simp [h0]
    · intro y hy
      have y3 : (y 3).val < 640 := (y 3).isLt
      have y2 : (y 2).val < 864 := (y 2).isLt
      have hq : k0_t7.val < 4 := k0_t7.isLt
      refine ⟨hy.2, ?_⟩
      have hb : ∀ (t : Fin 3) (j : Fin 5), ((k0_t7.val % 2, 8, t, j) ∈ ([(1 - k0_t7.val % 2, 0, 2, 4), (k0_t7.val % 2, 8, 2, 4), (1 - k0_t7.val % 2, 0, 2, 3), (k0_t7.val % 2, 8, 2, 3), (1 - k0_t7.val % 2, 0, 2, 2), (k0_t7.val % 2, 8, 2, 2), (1 - k0_t7.val % 2, 0, 2, 1), (k0_t7.val % 2, 8, 2, 1), (1 - k0_t7.val % 2, 0, 2, 0), (k0_t7.val % 2, 8, 2, 0), (1 - k0_t7.val % 2, 0, 1, 4), (k0_t7.val % 2, 8, 1, 4), (1 - k0_t7.val % 2, 0, 1, 3), (k0_t7.val % 2, 8, 1, 3), (1 - k0_t7.val % 2, 0, 1, 2), (k0_t7.val % 2, 8, 1, 2), (1 - k0_t7.val % 2, 0, 1, 1), (k0_t7.val % 2, 8, 1, 1), (1 - k0_t7.val % 2, 0, 1, 0), (k0_t7.val % 2, 8, 1, 0), (1 - k0_t7.val % 2, 0, 0, 4), (k0_t7.val % 2, 8, 0, 4), (1 - k0_t7.val % 2, 0, 0, 3), (k0_t7.val % 2, 8, 0, 3), (1 - k0_t7.val % 2, 0, 0, 2), (k0_t7.val % 2, 8, 0, 2), (1 - k0_t7.val % 2, 0, 0, 1), (k0_t7.val % 2, 8, 0, 1), (1 - k0_t7.val % 2, 0, 0, 0), (k0_t7.val % 2, 8, 0, 0)] : List (ℕ × ℕ × Fin 3 × Fin 5))) ∧ ((1 - k0_t7.val % 2, 0, t, j) ∈ ([(1 - k0_t7.val % 2, 0, 2, 4), (k0_t7.val % 2, 8, 2, 4), (1 - k0_t7.val % 2, 0, 2, 3), (k0_t7.val % 2, 8, 2, 3), (1 - k0_t7.val % 2, 0, 2, 2), (k0_t7.val % 2, 8, 2, 2), (1 - k0_t7.val % 2, 0, 2, 1), (k0_t7.val % 2, 8, 2, 1), (1 - k0_t7.val % 2, 0, 2, 0), (k0_t7.val % 2, 8, 2, 0), (1 - k0_t7.val % 2, 0, 1, 4), (k0_t7.val % 2, 8, 1, 4), (1 - k0_t7.val % 2, 0, 1, 3), (k0_t7.val % 2, 8, 1, 3), (1 - k0_t7.val % 2, 0, 1, 2), (k0_t7.val % 2, 8, 1, 2), (1 - k0_t7.val % 2, 0, 1, 1), (k0_t7.val % 2, 8, 1, 1), (1 - k0_t7.val % 2, 0, 1, 0), (k0_t7.val % 2, 8, 1, 0), (1 - k0_t7.val % 2, 0, 0, 4), (k0_t7.val % 2, 8, 0, 4), (1 - k0_t7.val % 2, 0, 0, 3), (k0_t7.val % 2, 8, 0, 3), (1 - k0_t7.val % 2, 0, 0, 2), (k0_t7.val % 2, 8, 0, 2), (1 - k0_t7.val % 2, 0, 0, 1), (k0_t7.val % 2, 8, 0, 1), (1 - k0_t7.val % 2, 0, 0, 0), (k0_t7.val % 2, 8, 0, 0)] : List (ℕ × ℕ × Fin 3 × Fin 5))) := by
        intro t j
        fin_cases t <;> fin_cases j <;> simp
      rcases hy.1 with hy | hy
      · rw [hy.1, show (y 2).val / 96 = 8 by omega]; exact (hb _ _).1
      · rw [hy.1, show (y 2).val / 96 = 0 by omega]; exact (hb _ _).2

end Cert.KernelIdeal.Val
end
-- ==== Proof.Block7.lean ====
module

public import proofs.«01_k».proof.Proof.LoopsVal
public import proofs.«01_k».proof.Proof.Outs10
public import proofs.«01_k».proof.Proof.Taps8
public import proofs.«01_k».proof.Proof.Taps9
public import proofs.«01_k».proof.Proof.Blocks
public import proofs.«01_k».proof.Proof.Gen.KernelIdeal.Loops

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
theorem off138_eq_0_0 : ∀ k : Fin k0_t7_loop.trips, k0_off138 k 0#32 0#32 = ![0, 4 * k.val + 0 + 0 + 16, 192, 0] := by decide +kernel
theorem off138_eq_2_0 : ∀ k : Fin k0_t7_loop.trips, k0_off138 k 2#32 0#32 = ![0, 4 * k.val + 2 + 0 + 16, 192, 0] := by decide +kernel
theorem off138_eq_0_1 : ∀ k : Fin k0_t7_loop.trips, k0_off138 k 0#32 1#32 = ![0, 4 * k.val + 0 + 1 + 16, 192, 0] := by decide +kernel
theorem off138_eq_2_1 : ∀ k : Fin k0_t7_loop.trips, k0_off138 k 2#32 1#32 = ![0, 4 * k.val + 2 + 1 + 16, 192, 0] := by decide +kernel
theorem off134_eq : ∀ k : Fin k0_t7_loop.trips, k0_off134 k = ![k.val % 2, 0, 384 * 0, 512] := by decide +kernel
theorem off135_eq : ∀ k : Fin k0_t7_loop.trips, k0_off135 k = ![k.val % 2, 0, 384 * 1, 512] := by decide +kernel
theorem off136_eq : ∀ k : Fin k0_t7_loop.trips, k0_off136 k = ![k.val % 2, 1, 384 * 0, 512] := by decide +kernel
theorem off137_eq : ∀ k : Fin k0_t7_loop.trips, k0_off137 k = ![k.val % 2, 1, 384 * 1, 512] := by decide +kernel

variable (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (v1 : Elt Ideal .i32) (v2 : Elt Ideal .i32) (v3 : Elt Ideal .i32) (v16 : IVec S8x128 32) (v17 : IVec S8x128 32) (v28 : IVec S8x128 32) (v30 : IVec S8x128 1) (v34 : IVec S8x128 32) (v36 : IVec S8x128 32) (v44 : BitVec 1) (X_arg6 : BufTy.Contents (Elt Ideal) arg6.view.ty) (X_arg7 : BufTy.Contents (Elt Ideal) arg7.view.ty) (X_arg13 : BufTy.Contents (Elt Ideal) arg13.view.ty) (X_arg15 : BufTy.Contents (Elt Ideal) arg15.view.ty) (last : Bool) (z : BitVec 8) (hz : HasBytes v16 fun _ _ => z) (hv44 : v44 = if last then 1#1 else 0#1) (HL : Lanes v28 (k0_pay1 v30 v34 v36) (k0_pay2 v17) (k0_pay3 v17))
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 last z hz hv44 HL

/-- What a trip of `k0_t7` stages. -/
theorem stage_t7 (f_arg16 : BufTy.Contents (Elt Ideal) arg16.view.ty) (k : Fin k0_t7_loop.trips) :
    Puts (trip_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 f_arg16 k).1.1 (wantX (xvOf (fun y => arg6.view.read (Elt Ideal) X_arg6 y) (fun y => arg7.view.read (Elt Ideal) X_arg7 y) last z) k.val) (fun y => ((y 0).val = k.val % 2 ∧ 96 ≤ (y 2).val) ∨ ((y 0).val = 1 - k.val % 2 ∧ (y 2).val < 96)) := by
  unfold trip_k0_t7
  refine Puts.append (S := fun y => ((y 0).val = k.val % 2 ∧ 768 ≤ (y 2).val) ∨ ((y 0).val = 1 - k.val % 2 ∧ (y 2).val < 96)) (T := fun y => (y 0).val = k.val % 2 ∧ 96 ≤ (y 2).val ∧ (y 2).val < 768) ?_ ?_ (fun y hy => by omega)
  · with_unfolding_all exact puts_t9 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 (k0_pay1 v30 v34 v36) (k0_pay2 v17) (k0_pay3 v17) v44 (k0_pay4 (F := Ideal)) 0#32 1#32 k (Scf.iv 0#32 1#32 k) _ _ _ X_arg6 X_arg7 last z hz hv44 rfl HL
  · with_unfolding_all exact puts_t8 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 (k0_pay1 v30 v34 v36) (k0_pay2 v17) (k0_pay3 v17) v44 (k0_pay4 (F := Ideal)) 0#32 1#32 k _ _ X_arg6 (fun y => arg7.view.read (Elt Ideal) X_arg7 y) last z hz HL

set_option maxHeartbeats 40000000 in
/-- What a trip of `k0_t7` stores. -/
theorem store_t7 (lh : ℕ → ℕ → ℕ → EReal) (raw : ℕ → ℕ → BitVec 32)
    (h13 : ∀ y, arg13.view.read (Elt Ideal) X_arg13 y = lh (y 0).val (y 1).val (y 2).val)
    (h15 : ∀ y, arg15.view.read (Elt Ideal) X_arg15 y = raw (y 0).val (y 1).val)
    (f_arg16 : BufTy.Contents (Elt Ideal) arg16.view.ty) (k : Fin k0_t7_loop.trips)
    (h16 : ∀ y, (y 0).val = k.val % 2 → (y 2).val < 96 → arg16.view.read (Elt Ideal) f_arg16 y = wantX (xvOf (fun y => arg6.view.read (Elt Ideal) X_arg6 y) (fun y => arg7.view.read (Elt Ideal) X_arg7 y) last z) k.val y) :
    OPuts (trip_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 f_arg16 k).1.2 (wantO (rqS raw v1 v2 v3) lh (xvOf (fun y => arg6.view.read (Elt Ideal) X_arg6 y) (fun y => arg7.view.read (Elt Ideal) X_arg7 y) last z)) (fun y => (y 1).val % 16 / 4 = k.val) := by
  have hk : k.val < 4 := k.isLt
  have hX : ∀ y, (y 0).val = k.val % 2 → arg16.view.read (Elt Ideal) (arg16.view.writes (Elt Ideal) f_arg16 (trip_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 f_arg16 k).1.1) y = wantX (xvOf (fun y => arg6.view.read (Elt Ideal) X_arg6 y) (fun y => arg7.view.read (Elt Ideal) X_arg7 y) last z) k.val y := fun y hy => by
    refine Puts.read (stage_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 last z hz hv44 HL f_arg16 k) arg16.view f_arg16 y ?_
    by_cases h : (y 2).val < 96
    · exact Or.inr (h16 y hy h)
    · exact Or.inl (Or.inl ⟨hy, by omega⟩)
  revert hX
  unfold trip_k0_t7
  simp only []
  intro hX
  have a0 := tAcc2_acc arg13.view X_arg13 arg16.view _ h13 hX 0 (by decide) 0 1 512 (by decide) (by decide) (by decide) (k0_off134 k) (k0_off134_inb k) (k0_off135 k) (k0_off135_inb k) (off134_eq k) (off135_eq k) (k0_pay4 (F := Ideal)) ones_pay4 (fun n => n / 128) (fun n => 512 + n % 128) (fun n hn => by omega) (fun n hn => by omega) (fun n hn => by omega) (fun n hn => by omega)
  have a00 := hSlow_half arg15.view X_arg15 h15 v1 v2 v3 0 0 (by decide) (by decide) slices_S128x256_o0_0_S64x256 _ _ _ a0
  have a01 := hSlow_half arg15.view X_arg15 h15 v1 v2 v3 0 1 (by decide) (by decide) slices_S128x256_o64_0_S64x256 _ _ _ a0
  have a1 := tAcc2_acc arg13.view X_arg13 arg16.view _ h13 hX 1 (by decide) 0 1 512 (by decide) (by decide) (by decide) (k0_off136 k) (k0_off136_inb k) (k0_off137 k) (k0_off137_inb k) (off136_eq k) (off137_eq k) (k0_pay4 (F := Ideal)) ones_pay4 (fun n => n / 128) (fun n => 512 + n % 128) (fun n hn => by omega) (fun n hn => by omega) (fun n hn => by omega) (fun n hn => by omega)
  have a10 := hSlow_half arg15.view X_arg15 h15 v1 v2 v3 1 0 (by decide) (by decide) slices_S128x256_o0_0_S64x256 _ _ _ a1
  have a11 := hSlow_half arg15.view X_arg15 h15 v1 v2 v3 1 1 (by decide) (by decide) slices_S128x256_o64_0_S64x256 _ _ _ a1
  refine OPuts.cons (out_128 a01 a11 128 (4 * k.val + 2 + 1 + 16) 192 slices_S64x256_o0_128_S64x128 (by decide) _ (k0_off138_inb k 1 1) (off138_eq_2_1 k) _ ?_ (by omega) (by omega) (fun n hn => by omega) (fun n hn => by omega)) (fun y h1 h2 => omem _ (4 * k.val + 2 + 1 + 16) 192 (off138_eq_2_1 k) (k0_off138_inb k 1 1) y h1 h2 (by have : (y 2).val < 320 := (y 2).isLt; omega)) ?_
  · with_unfolding_all exact rfl
  refine OPuts.cons (out_128 a01 a11 0 (4 * k.val + 0 + 1 + 16) 192 slices_S64x256_o0_0_S64x128 (by decide) _ (k0_off138_inb k 0 1) (off138_eq_0_1 k) _ ?_ (by omega) (by omega) (fun n hn => by omega) (fun n hn => by omega)) (fun y h1 h2 => omem _ (4 * k.val + 0 + 1 + 16) 192 (off138_eq_0_1 k) (k0_off138_inb k 0 1) y h1 h2 (by have : (y 2).val < 320 := (y 2).isLt; omega)) ?_
  · with_unfolding_all exact rfl
  refine OPuts.cons (out_128 a00 a10 128 (4 * k.val + 2 + 0 + 16) 192 slices_S64x256_o0_128_S64x128 (by decide) _ (k0_off138_inb k 1 0) (off138_eq_2_0 k) _ ?_ (by omega) (by omega) (fun n hn => by omega) (fun n hn => by omega)) (fun y h1 h2 => omem _ (4 * k.val + 2 + 0 + 16) 192 (off138_eq_2_0 k) (k0_off138_inb k 1 0) y h1 h2 (by have : (y 2).val < 320 := (y 2).isLt; omega)) ?_
  · with_unfolding_all exact rfl
  refine OPuts.cons (out_128 a00 a10 0 (4 * k.val + 0 + 0 + 16) 192 slices_S64x256_o0_0_S64x128 (by decide) _ (k0_off138_inb k 0 0) (off138_eq_0_0 k) _ ?_ (by omega) (by omega) (fun n hn => by omega) (fun n hn => by omega)) (fun y h1 h2 => omem _ (4 * k.val + 0 + 0 + 16) 192 (off138_eq_0_0 k) (k0_off138_inb k 0 0) y h1 h2 (by have : (y 2).val < 320 := (y 2).isLt; omega)) ?_
  · with_unfolding_all exact rfl
  refine OPuts.mono (S := fun y => (y 1).val % 16 / 4 = k.val ∧ (y 2).val + 320 * ((y 1).val / 16) < 512) ?_ ?_
  · with_unfolding_all exact puts_t10 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v28 (k0_pay1 v30 v34 v36) (k0_pay2 v17) (k0_pay3 v17) v44 (k0_pay4 (F := Ideal)) 0#32 1#32 k _ _ X_arg13 X_arg15 _ lh raw _ h13 h15 hX ones_pay4
  · intro y hy
    have y1 : (y 1).val < 32 := (y 1).isLt
    have y2 : (y 2).val < 320 := (y 2).isLt
    omega

/-- After all trips the result's block holds what it should. -/
theorem block_t7 (lh : ℕ → ℕ → ℕ → EReal) (raw : ℕ → ℕ → BitVec 32)
    (h13 : ∀ y, arg13.view.read (Elt Ideal) X_arg13 y = lh (y 0).val (y 1).val (y 2).val)
    (h15 : ∀ y, arg15.view.read (Elt Ideal) X_arg15 y = raw (y 0).val (y 1).val)
    (G_arg12 : BufTy.Contents (Elt Ideal) arg12.view.ty) (G_arg16 : BufTy.Contents (Elt Ideal) arg16.view.ty)
    (h0 : ∀ y, (y 0).val = 0 → (y 2).val < 96 → arg16.view.read (Elt Ideal) G_arg16 y = wantX (xvOf (fun y => arg6.view.read (Elt Ideal) X_arg6 y) (fun y => arg7.view.read (Elt Ideal) X_arg7 y) last z) 0 y) (y : S1x32x320x128.Idx) :
    arg12.view.read (Elt Ideal) (arg12.view.writes (Elt Ideal) G_arg12 (pb12_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 4)) y = wantO (rqS raw v1 v2 v3) lh (xvOf (fun y => arg6.view.read (Elt Ideal) X_arg6 y) (fun y => arg7.view.read (Elt Ideal) X_arg7 y) last z) y := by
  have key : ∀ n ≤ 4, (∀ y, (y 0).val = n % 2 → (y 2).val < 96 → arg16.view.read (Elt Ideal) (arg16.view.writes (Elt Ideal) G_arg16 (pb16_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 n)) y = wantX (xvOf (fun y => arg6.view.read (Elt Ideal) X_arg6 y) (fun y => arg7.view.read (Elt Ideal) X_arg7 y) last z) n y) ∧
      OPuts (pb12_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 n) (wantO (rqS raw v1 v2 v3) lh (xvOf (fun y => arg6.view.read (Elt Ideal) X_arg6 y) (fun y => arg7.view.read (Elt Ideal) X_arg7 y) last z)) (fun y => (y 1).val % 16 / 4 < n) := by
    intro n
    induction n with
    | zero => exact fun _ => ⟨h0, ⟨fun p hp => (List.not_mem_nil hp).elim, fun y hy => absurd hy (Nat.not_lt_zero _)⟩⟩
    | succ n ih =>
      intro hn
      obtain ⟨i1, i2⟩ := ih (by omega)
      have e1 := pb16_k0_t7_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 ⟨n, hn⟩
      have e2 := pb12_k0_t7_succ (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 G_arg16 ⟨n, hn⟩
      simp only [] at e1 e2
      rw [e1, e2]
      refine ⟨fun y hy h => ?_, ?_⟩
      · rw [View.writes_append, ← wantX_next _ n y hy h]
        exact Puts.read (stage_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 last z hz hv44 HL _ ⟨n, hn⟩) arg16.view _ y (Or.inl (Or.inr ⟨by simp only []; omega, h⟩))
      · exact OPuts.append (store_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v1 v2 v3 v16 v17 v28 v30 v34 v36 v44 X_arg6 X_arg7 X_arg13 X_arg15 last z hz hv44 HL lh raw h13 h15 _ ⟨n, hn⟩ i1) i2 (fun y hy => by simp only []; omega)
  exact OPuts.read (key 4 le_rfl).2 arg12.view _ y (Or.inl (by have : (y 1).val < 32 := (y 1).isLt; omega))

end Cert.KernelIdeal.Val
end
-- ==== Proof.RunPre.lean ====
module

public import proofs.«01_k».proof.Proof.Gen.KernelIdeal.Frame
public import proofs.«01_k».proof.Proof.Prep2
public import proofs.«01_k».proof.Proof.Heads
public import proofs.«01_k».proof.Proof.Taps1
public import proofs.«01_k».proof.Proof.Taps6
public import proofs.«01_k».proof.Proof.Block2
public import proofs.«01_k».proof.Proof.Block7
public import Idealize.ShloMosaic.Lib.Tactic

@[expose] public section

set_option maxRecDepth 8192

noncomputable section

namespace Cert.KernelIdeal.Val

open Cert.KernelIdeal Cert.KernelIdeal.Gen Cert.Requant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

/-- The resource algebra of the frame kit. -/
local notation "𝕄" => MT nD τ sig Unit (Elt Ideal) ℕ (UR sig nD τ) ℕ

/-- The scratch, prepared. -/
def scr (P : Pars) (c : Dev nD) (arg13 : Memref sig .tc .vmem S2x128x512 .bf16) (arg14 : Memref sig .tc .vmem S5x128x128 .f32) (arg15 : Memref sig .tc .vmem S3x128x128 .i32) (arg16 : Memref sig .tc .vmem S2x2x864x640 .bf16) (arg17 : Memref sig .tc .smem S1 .i32) : sProp 𝕄 :=
  iprop(∃ d13 d14 d15 d17, ⌜PrepOk P d13 d14 d15 d17⌝ ∗ owns (c : Thread nD τ) arg13 fullShare d13 ∗ owns (c : Thread nD τ) arg14 fullShare d14 ∗ owns (c : Thread nD τ) arg15 fullShare d15 ∗ (∃ d, owns (c : Thread nD τ) arg16 fullShare d) ∗ owns (c : Thread nD τ) arg17 fullShare d17)

section Fin

variable (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole) (x_arg6 : Vec Ideal S1x64x64x640 .i8) (x_arg7 : Vec Ideal S1x1x64x640 .i8) (P : Pars) (hP : P.Good)
include c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg6 x_arg7 P hP

/-- The block of one step on the quick path. -/
theorem fin_fast (hok : P.ok) (zp : BitVec 32) (hzp : zp = P.zp) (last : Bool) (v44 : BitVec 1) (hv44 : v44 = if last then 1#1 else 0#1)
    (X13 : BufTy.Contents (Elt Ideal) arg13.view.ty) (X14 : BufTy.Contents (Elt Ideal) arg14.view.ty) (X15 : BufTy.Contents (Elt Ideal) arg15.view.ty) (d17 : Vec Ideal S1 .i32)
    (hp : PrepOk P (arg13.view.read (Elt Ideal) X13) (arg14.view.read (Elt Ideal) X14) (arg15.view.read (Elt Ideal) X15) d17)
    (f_arg12 : BufTy.Contents (Elt Ideal) arg12.view.ty) (f_arg16 : BufTy.Contents (Elt Ideal) arg16.view.ty) :
    arg12.view.read (Elt Ideal) (arg12.view.writes (Elt Ideal) f_arg12 (pb12_k0_t2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) zp) (iota .tc S8x128 32 [1] iota_S8x128_d1_w32) k0_pay747 k0_pay748 k0_pay749 k0_pay750 v44 (harg6.unread x_arg6) (harg7.unread x_arg7) X13 X14 X15 (arg16.view.writes (Elt Ideal) f_arg16 (pb_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) zp) (iota .tc S8x128 32 [1] iota_S8x128_d1_w32) k0_pay747 k0_pay748 k0_pay749 k0_pay750 (harg6.unread x_arg6) (Scf.trips k0_t1_loop.lb k0_t1_loop.ub k0_t1_loop.st))) (Scf.trips k0_t2_loop.lb k0_t2_loop.ub k0_t2_loop.st))) = fun y => P.out (xvOf x_arg6 x_arg7 last (P.zp.setWidth 8)) y := by
  subst hzp
  have e6 : (fun y => arg6.view.read (Elt Ideal) (harg6.unread x_arg6) y) = x_arg6 := harg6.read_unread _
  have e7 : (fun y => arg7.view.read (Elt Ideal) (harg7.unread x_arg7) y) = x_arg7 := harg7.read_unread _
  have n1 : Scf.trips k0_t1_loop.lb k0_t1_loop.ub k0_t1_loop.st = 2 := by decide +kernel
  have n2 : Scf.trips k0_t2_loop.lb k0_t2_loop.ub k0_t2_loop.st = 4 := by decide +kernel
  rw [n1, n2]
  funext y
  have hz := zp_word P.zp
  have hpt := puts_t1 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) P.zp) (iota .tc S8x128 32 [1] iota_S8x128_d1_w32) k0_pay747 k0_pay748 k0_pay749 k0_pay750 (harg6.unread x_arg6) (fun y => arg7.view.read (Elt Ideal) (harg7.unread x_arg7) y) last (P.zp.setWidth 8) hz lanes_body
  have hb := block_t2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) P.zp) (iota .tc S8x128 32 [1] iota_S8x128_d1_w32) k0_pay747 k0_pay748 k0_pay749 k0_pay750 v44 (harg6.unread x_arg6) (harg7.unread x_arg7) X13 X14 X15 last (P.zp.setWidth 8) hz hv44 lanes_body P.par P.lh P.raw (hp.lh) (hp.par) (hp.raw) f_arg12 (arg16.view.writes (Elt Ideal) f_arg16 (pb_k0_t1 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) P.zp) (iota .tc S8x128 32 [1] iota_S8x128_d1_w32) k0_pay747 k0_pay748 k0_pay749 k0_pay750 (harg6.unread x_arg6) 2))
    (fun y y0 y2 => Puts.read hpt arg16.view f_arg16 y (Or.inl ⟨y0, y2⟩)) y
  rw [e6, e7] at hb
  exact hb.trans (wantO_fast P _ hP hok y)

/-- The block of one step on the exact path. -/
theorem fin_slow (hok : ¬ P.ok) (zp : BitVec 32) (hzp : zp = P.zp) (w1 w2 w3 : BitVec 32) (hw1 : w1 = P.ozp) (hw2 : w2 = P.lo) (hw3 : w3 = P.hi) (last : Bool) (v44 : BitVec 1) (hv44 : v44 = if last then 1#1 else 0#1)
    (X13 : BufTy.Contents (Elt Ideal) arg13.view.ty) (X14 : BufTy.Contents (Elt Ideal) arg14.view.ty) (X15 : BufTy.Contents (Elt Ideal) arg15.view.ty) (d17 : Vec Ideal S1 .i32)
    (hp : PrepOk P (arg13.view.read (Elt Ideal) X13) (arg14.view.read (Elt Ideal) X14) (arg15.view.read (Elt Ideal) X15) d17)
    (f_arg12 : BufTy.Contents (Elt Ideal) arg12.view.ty) (f_arg16 : BufTy.Contents (Elt Ideal) arg16.view.ty) :
    arg12.view.read (Elt Ideal) (arg12.view.writes (Elt Ideal) f_arg12 (pb12_k0_t7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 w1 w2 w3 (k0_pay746 (F := Ideal) zp) (iota .tc S8x128 32 [1] iota_S8x128_d1_w32) k0_pay747 k0_pay748 k0_pay749 k0_pay750 v44 (harg6.unread x_arg6) (harg7.unread x_arg7) X13 X15 (arg16.view.writes (Elt Ideal) f_arg16 (pb_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) zp) (iota .tc S8x128 32 [1] iota_S8x128_d1_w32) k0_pay747 k0_pay748 k0_pay749 k0_pay750 (harg6.unread x_arg6) (Scf.trips k0_t6_loop.lb k0_t6_loop.ub k0_t6_loop.st))) (Scf.trips k0_t7_loop.lb k0_t7_loop.ub k0_t7_loop.st))) = fun y => P.out (xvOf x_arg6 x_arg7 last (P.zp.setWidth 8)) y := by
  subst hzp
  subst hw1 hw2 hw3
  have e6 : (fun y => arg6.view.read (Elt Ideal) (harg6.unread x_arg6) y) = x_arg6 := harg6.read_unread _
  have e7 : (fun y => arg7.view.read (Elt Ideal) (harg7.unread x_arg7) y) = x_arg7 := harg7.read_unread _
  have n1 : Scf.trips k0_t6_loop.lb k0_t6_loop.ub k0_t6_loop.st = 2 := by decide +kernel
  have n2 : Scf.trips k0_t7_loop.lb k0_t7_loop.ub k0_t7_loop.st = 4 := by decide +kernel
  rw [n1, n2]
  funext y
  have hz := zp_word P.zp
  have hpt := puts_t6 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) P.zp) (iota .tc S8x128 32 [1] iota_S8x128_d1_w32) k0_pay747 k0_pay748 k0_pay749 k0_pay750 (harg6.unread x_arg6) (fun y => arg7.view.read (Elt Ideal) (harg7.unread x_arg7) y) last (P.zp.setWidth 8) hz lanes_body
  have hb := block_t7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 P.ozp P.lo P.hi (k0_pay746 (F := Ideal) P.zp) (iota .tc S8x128 32 [1] iota_S8x128_d1_w32) k0_pay747 k0_pay748 k0_pay749 k0_pay750 v44 (harg6.unread x_arg6) (harg7.unread x_arg7) X13 X15 last (P.zp.setWidth 8) hz hv44 lanes_body P.lh P.raw (hp.lh) (hp.raw) f_arg12 (arg16.view.writes (Elt Ideal) f_arg16 (pb_k0_t6 (F := Ideal) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := Ideal) P.zp) (iota .tc S8x128 32 [1] iota_S8x128_d1_w32) k0_pay747 k0_pay748 k0_pay749 k0_pay750 (harg6.unread x_arg6) 2))
    (fun y y0 y2 => Puts.read hpt arg16.view f_arg16 y (Or.inl ⟨y0, y2⟩)) y
  rw [e6, e7] at hb
  exact hb.trans (wantO_slow P _ hP hok y)

end Fin

open Classical in
/-- The scratch after the first step's preparation. -/
theorem prep_first (P : Pars) (hP : P.Good) (v53 : Vec Ideal S9x128 .i32) (h53 : ∀ (t : Fin 9) (ch : Fin 128), v53 (ix2 t ch) = P.w t.val ch.val)
    (v101 v109 v114 : Vec Ideal S1x128 .i32) (h101 : ∀ c : Fin 128, v101 (ix2 0 c) = P.b c.val) (h109 : ∀ c : Fin 128, v109 (ix2 0 c) = P.m c.val) (h114 : ∀ c : Fin 128, v114 (ix2 0 c) = P.s c.val)
    (zp : BitVec 32) (hzp : zp = P.zp) (w1 w2 w3 : BitVec 32) (hw1 : w1 = P.ozp) (hw2 : w2 = P.lo) (hw3 : w3 = P.hi)
    {κ3 κ4 κ5 κ7 : Kind} {s3 s4 s5 s7 : Space} (v3 : View sig κ3 s3 S2x128x512 .bf16) (v4 : View sig κ4 s4 S5x128x128 .f32) (v5 : View sig κ5 s5 S3x128x128 .i32) (v7 : View sig κ7 s7 S1 .i32)
    (f3 : v3.ty.Contents (Elt Ideal)) (f4 : v4.ty.Contents (Elt Ideal)) (f5 : v5.ty.Contents (Elt Ideal)) (f7 : v7.ty.Contents (Elt Ideal)) (h) :
    PrepOk P (v3.read (Elt Ideal) (v3.writes (Elt Ideal) f3 (lhsL v53 (k0_pay25 (F := Ideal) zp v53 v101) (okBit (k0_pay25 (F := Ideal) zp v53 v101)))))
      (v4.read (Elt Ideal) (v4.writes (Elt Ideal) f4 (parL w1 w2 w3 v109 v114)))
      (v5.read (Elt Ideal) (v5.writes (Elt Ideal) f5 (rawL (k0_pay25 (F := Ideal) zp v53 v101) v109 v114)))
      (v7.read (Elt Ideal) (v7.writes (Elt Ideal) f7 [⟨Rect.unit (s := S1) ![0] S1.size h, fun _ => Scalar.extui (okBit (k0_pay25 (F := Ideal) zp v53 v101))⟩])) := by
  subst hzp hw1 hw2 hw3
  have hb := bias_is P v53 h53 hP v101 h101
  have hk := okBit_eq P _ hb
  exact ⟨fun y => lhs_read P v53 h53 _ hb _ hk v3 f3 y, fun y hy => par_read P v109 v114 h109 h114 v4 f4 y hy,
    fun y => raw_read P v109 v114 _ h109 h114 hb v5 f5 y, fun y => (ok_read _ v7 f7 y h).trans (ok_ext _ _ hk)⟩

open Classical in
/-- The first step's branch bit says whether the quick path is allowed. -/
theorem okBit_first (P : Pars) (hP : P.Good) (v53 : Vec Ideal S9x128 .i32) (h53 : ∀ (t : Fin 9) (ch : Fin 128), v53 (ix2 t ch) = P.w t.val ch.val)
    (v101 : Vec Ideal S1x128 .i32) (h101 : ∀ c : Fin 128, v101 (ix2 0 c) = P.b c.val)
    (zp : BitVec 32) (hzp : zp = P.zp) :
    okBit (k0_pay25 (F := Ideal) zp v53 v101) = if P.ok then 1#1 else 0#1 :=
  hzp ▸ okBit_eq P _ (bias_is P v53 h53 hP v101 h101)

end Cert.KernelIdeal.Val
end
-- ==== Proof.RunFirstFast.lean ====
module

public import proofs.«01_k».proof.Proof.Gen.KernelIdeal.Frame
public import proofs.«01_k».proof.Proof.LoopsVal
public import Idealize.ShloMosaic.Lib.Tactic

@[expose] public section

set_option maxRecDepth 1000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄" => MT nD τ sig Unit (Elt F) ℕ (UR sig nD τ) ℕ

theorem hide {ℓ : Loc nD τ sig} (S) (q) (A : Buf (Elt F) ℓ) : (iprop(ℓ ↦[S]{q} A) : sProp 𝕄) ⊢ iprop(∃ X, ⌜X = A⌝ ∗ ℓ ↦[S]{q} X) := by
  iintro H
  iexists A
  isplitr; · ipureintro; rfl
  iexact H

set_option maxHeartbeats 8000000 in
/-- One step of the kernel, the first, on the quick path: what it leaves in the block and the scratch. -/
def runAf (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec F S1 .i32) (x_arg3 : Vec F S1 .i32) (x_arg4 : Vec F S1 .i32) (x_arg5 : Vec F S1 .i32) (x_arg6 : Vec F S1x64x64x640 .i8) (x_arg7 : Vec F S1x1x64x640 .i8) (x_arg8 : Vec F S9x128 .i32) (x_arg9 : Vec F S1x128 .i32) (x_arg10 : Vec F S1x128 .i32) (x_arg11 : Vec F S1x128 .i32)
    (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty)
    (h1 : Scalar.cmpi .ne (Scalar.extui (Scalar.andi (Scalar.cmpi .eq (BitVec.ofNat 32 (i 0).val) 0#32) (Scalar.cmpi .eq (BitVec.ofNat 32 (i 1).val) 0#32))) 0#32 = 1#1)
    (hok : Scalar.andi (Scalar.cmpi .sle (extractAt ![0, 0, 0] (k0_pay28 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 524288#32) (Scalar.cmpi .sge (extractAt ![0, 0, 0] (k0_pay29 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 4294443008#32) = 1#1) :
    { L : BufTy.Contents (Elt F) arg13.view.ty × BufTy.Contents (Elt F) arg14.view.ty × BufTy.Contents (Elt F) arg15.view.ty × BufTy.Contents (Elt F) arg17.view.ty // ∀ (K : PUnit → sProp 𝕄),
    iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)
        ∗ (iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg17.view.loc (c : Thread nD τ) ↦[arg17.view.set]{fullShare} L.2.2.2) ∗ (∃ X13 X14 X15, ⌜X13 = L.1⌝ ∗ ⌜X14 = L.2.1⌝ ∗ ⌜X15 = L.2.2.1⌝ ∗ (arg12.view.loc (c : Thread nD τ) ↦[arg12.view.set]{fullShare} arg12.view.writes (Elt F) f_arg12 (pb12_k0_t2 (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := F) (View.readAt (Elt F) arg2.view (Rect.unit (s := S1) ![0] S1.size inb_S1_S1_0).toLoadRect (harg2.unread x_arg2) (Shape.Idx.first (by decide +kernel)))) (iota .tc S8x128 32 [1] iota_S8x128_d1_w32) k0_pay747 k0_pay748 k0_pay749 k0_pay750 (Scalar.cmpi .eq (BitVec.ofNat 32 (i 1).val) 7#32) (harg6.unread x_arg6) (harg7.unread x_arg7) X13 X14 X15 (arg16.view.writes (Elt F) f_arg16 (pb_k0_t1 (F := F) 𝒱₀ c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay746 (F := F) (View.readAt (Elt F) arg2.view (Rect.unit (s := S1) ![0] S1.size inb_S1_S1_0).toLoadRect (harg2.unread x_arg2) (Shape.Idx.first (by decide +kernel)))) (iota .tc S8x128 32 [1] iota_S8x128_d1_w32) k0_pay747 k0_pay748 k0_pay749 k0_pay750 (harg6.unread x_arg6) (Scf.trips k0_t1_loop.lb k0_t1_loop.ub k0_t1_loop.st))) (Scf.trips k0_t2_loop.lb k0_t2_loop.ub k0_t2_loop.st))) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)) ∗ (∃ f, (arg16.view.loc (c : Thread nD τ) ↦[arg16.view.set]{fullShare} f))) -∗ K ⟨⟩))
      ⊢ wp frame (wpE (defs₀ (F := F)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_, ?_), fun K => ?run⟩
  case run =>
    iintro ⟨H_arg2, H_arg3, H_arg4, H_arg5, H_arg6, H_arg7, H_arg8, H_arg9, H_arg10, H_arg11, H_arg12, H_arg13, H_arg14, H_arg15, H_arg16, H_arg17, Hk⟩
    sl_unfold [cc0_depthwise_requant]
    sl_exec (disch := sl_exact h1)
    ihave HX := (hide (F := F) _ _ _) $$ [H_arg13]
    · iexact H_arg13
    icases HX with ⟨%X13, HE13, H_arg13⟩
    ihave HX := (hide (F := F) _ _ _) $$ [H_arg14]
    · iexact H_arg14
    icases HX with ⟨%X14, HE14, H_arg14⟩
    ihave HX := (hide (F := F) _ _ _) $$ [H_arg15]
    · iexact H_arg15
    icases HX with ⟨%X15, HE15, H_arg15⟩
    have hv49 : Scalar.cmpi .ne (Scalar.extui (Scalar.cmpi .eq (Scalar.extui (Scalar.andi (Scalar.cmpi .sle (extractAt ![0, 0, 0] (k0_pay28 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 524288#32) (Scalar.cmpi .sge (extractAt ![0, 0, 0] (k0_pay29 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 4294443008#32))) 1#32)) 0#32 = 1#1 := by
      rw [hok]; decide
    sl_exec (disch := sl_exact hv49)
    have hv52 : ¬ Scalar.cmpi .ne (Scalar.extui (Scalar.xori (Scalar.cmpi .eq (Scalar.extui (Scalar.andi (Scalar.cmpi .sle (extractAt ![0, 0, 0] (k0_pay28 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 524288#32) (Scalar.cmpi .sge (extractAt ![0, 0, 0] (k0_pay29 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 4294443008#32))) 1#32) 1#1)) 0#32 = 1#1 := by
      rw [hok]; decide
    sl_exec (disch := sl_exact hv52)
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg17]; · iexact H_arg17
    isplitl [HE13 HE14 HE15 H_arg12 H_arg13 H_arg14 H_arg15]
    · iexists X13, X14, X15
      isplitl [HE13]; · iexact HE13
      isplitl [HE14]; · iexact HE14
      isplitl [HE15]; · iexact HE15
      isplitl [H_arg12]; · iexact H_arg12
      isplitl [H_arg13]; · iexact H_arg13
      isplitl [H_arg14]; · iexact H_arg14
      iexact H_arg15
    iexists _; iexact H_arg16

end Cert.KernelIdeal.Val
end
-- ==== Proof.RunFirstSlow.lean ====
module

public import proofs.«01_k».proof.Proof.Gen.KernelIdeal.Frame
public import proofs.«01_k».proof.Proof.LoopsVal
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄" => MT nD τ sig Unit (Elt F) ℕ (UR sig nD τ) ℕ

set_option maxHeartbeats 8000000 in
/-- One step of the kernel, the first, on the exact path: what it leaves in the block and the scratch. -/
def runAs (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec F S1 .i32) (x_arg3 : Vec F S1 .i32) (x_arg4 : Vec F S1 .i32) (x_arg5 : Vec F S1 .i32) (x_arg6 : Vec F S1x64x64x640 .i8) (x_arg7 : Vec F S1x1x64x640 .i8) (x_arg8 : Vec F S9x128 .i32) (x_arg9 : Vec F S1x128 .i32) (x_arg10 : Vec F S1x128 .i32) (x_arg11 : Vec F S1x128 .i32)
    (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty)
    (h1 : Scalar.cmpi .ne (Scalar.extui (Scalar.andi (Scalar.cmpi .eq (BitVec.ofNat 32 (i 0).val) 0#32) (Scalar.cmpi .eq (BitVec.ofNat 32 (i 1).val) 0#32))) 0#32 = 1#1)
    (hok : Scalar.andi (Scalar.cmpi .sle (extractAt ![0, 0, 0] (k0_pay28 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 524288#32) (Scalar.cmpi .sge (extractAt ![0, 0, 0] (k0_pay29 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 4294443008#32) = 0#1) :
    { L : BufTy.Contents (Elt F) arg12.view.ty × BufTy.Contents (Elt F) arg13.view.ty × BufTy.Contents (Elt F) arg14.view.ty × BufTy.Contents (Elt F) arg15.view.ty × BufTy.Contents (Elt F) arg17.view.ty // ∀ (K : PUnit → sProp 𝕄),
    iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)
        ∗ (iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} L.1) ∗ (arg13.view.loc (c : Thread nD τ) ↦[arg13.view.set]{fullShare} L.2.1) ∗ (arg14.view.loc (c : Thread nD τ) ↦[arg14.view.set]{fullShare} L.2.2.1) ∗ (arg15.view.loc (c : Thread nD τ) ↦[arg15.view.set]{fullShare} L.2.2.2.1) ∗ (∃ f, (arg16.view.loc (c : Thread nD τ) ↦[arg16.view.set]{fullShare} f)) ∗ (arg17.view.loc (c : Thread nD τ) ↦[arg17.view.set]{fullShare} L.2.2.2.2)) -∗ K ⟨⟩))
      ⊢ wp frame (wpE (defs₀ (F := F)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_, ?_, ?_), fun K => ?run⟩
  case run =>
    iintro ⟨H_arg2, H_arg3, H_arg4, H_arg5, H_arg6, H_arg7, H_arg8, H_arg9, H_arg10, H_arg11, H_arg12, H_arg13, H_arg14, H_arg15, H_arg16, H_arg17, Hk⟩
    sl_unfold [cc0_depthwise_requant]
    sl_exec (disch := sl_exact h1)
    have hv49 : ¬ Scalar.cmpi .ne (Scalar.extui (Scalar.cmpi .eq (Scalar.extui (Scalar.andi (Scalar.cmpi .sle (extractAt ![0, 0, 0] (k0_pay28 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 524288#32) (Scalar.cmpi .sge (extractAt ![0, 0, 0] (k0_pay29 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 4294443008#32))) 1#32)) 0#32 = 1#1 := by
      rw [hok]; decide
    sl_exec (disch := sl_exact hv49)
    have hv52 : Scalar.cmpi .ne (Scalar.extui (Scalar.xori (Scalar.cmpi .eq (Scalar.extui (Scalar.andi (Scalar.cmpi .sle (extractAt ![0, 0, 0] (k0_pay28 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 524288#32) (Scalar.cmpi .sge (extractAt ![0, 0, 0] (k0_pay29 (k0_pay25 (F := F) (View.readAt (Elt F) arg2.view (Rect.unit (s := S1) ![0] S1.size inb_S1_S1_0).toLoadRect (harg2.unread x_arg2) (Shape.Idx.first (by decide +kernel))) (View.readAt (Elt F) arg8.view (Rect.unit (s := S9x128) ![0, 0] S9x128.size inb_S9x128_S9x128_0_0).toLoadRect (harg8.unread x_arg8)) (View.readAt (Elt F) arg9.view (Rect.unit (s := S1x128) ![0, 0] S1x128.size inb_S1x128_S1x128_0_0).toLoadRect (harg9.unread x_arg9)))) inpos_S1x1x1_p0_0_0) 4294443008#32))) 1#32) 1#1)) 0#32 = 1#1 := by
      rw [hok]; decide
    sl_exec (disch := sl_exact hv52)
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iexists _; iexact H_arg16
    iexact H_arg17

end Cert.KernelIdeal.Val
end
-- ==== Proof.RunLaterFast.lean ====
module

public import proofs.«01_k».proof.Proof.Gen.KernelIdeal.Frame
public import proofs.«01_k».proof.Proof.LoopsVal
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄" => MT nD τ sig Unit (Elt F) ℕ (UR sig nD τ) ℕ

set_option maxHeartbeats 8000000 in
/-- One step of the kernel, a later one, on the quick path: what it leaves in the block and the scratch. -/
def runBf (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec F S1 .i32) (x_arg3 : Vec F S1 .i32) (x_arg4 : Vec F S1 .i32) (x_arg5 : Vec F S1 .i32) (x_arg6 : Vec F S1x64x64x640 .i8) (x_arg7 : Vec F S1x1x64x640 .i8) (x_arg8 : Vec F S9x128 .i32) (x_arg9 : Vec F S1x128 .i32) (x_arg10 : Vec F S1x128 .i32) (x_arg11 : Vec F S1x128 .i32)
    (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty)
    (h1 : ¬ Scalar.cmpi .ne (Scalar.extui (Scalar.andi (Scalar.cmpi .eq (BitVec.ofNat 32 (i 0).val) 0#32) (Scalar.cmpi .eq (BitVec.ofNat 32 (i 1).val) 0#32))) 0#32 = 1#1)
    (hok : (View.readAt (Elt F) arg17.view (Rect.unit (s := S1) ![0] S1.size inb_S1_S1_0).toLoadRect (f_arg17) (Shape.Idx.first (by decide +kernel))) = 1#32) :
    { L : BufTy.Contents (Elt F) arg12.view.ty × BufTy.Contents (Elt F) arg13.view.ty × BufTy.Contents (Elt F) arg14.view.ty × BufTy.Contents (Elt F) arg15.view.ty × BufTy.Contents (Elt F) arg17.view.ty // ∀ (K : PUnit → sProp 𝕄),
    iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)
        ∗ (iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} L.1) ∗ (arg13.view.loc (c : Thread nD τ) ↦[arg13.view.set]{fullShare} L.2.1) ∗ (arg14.view.loc (c : Thread nD τ) ↦[arg14.view.set]{fullShare} L.2.2.1) ∗ (arg15.view.loc (c : Thread nD τ) ↦[arg15.view.set]{fullShare} L.2.2.2.1) ∗ (∃ f, (arg16.view.loc (c : Thread nD τ) ↦[arg16.view.set]{fullShare} f)) ∗ (arg17.view.loc (c : Thread nD τ) ↦[arg17.view.set]{fullShare} L.2.2.2.2)) -∗ K ⟨⟩))
      ⊢ wp frame (wpE (defs₀ (F := F)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_, ?_, ?_), fun K => ?run⟩
  case run =>
    iintro ⟨H_arg2, H_arg3, H_arg4, H_arg5, H_arg6, H_arg7, H_arg8, H_arg9, H_arg10, H_arg11, H_arg12, H_arg13, H_arg14, H_arg15, H_arg16, H_arg17, Hk⟩
    sl_unfold [cc0_depthwise_requant]
    sl_exec (disch := sl_exact h1)
    have hv49 : Scalar.cmpi .ne (Scalar.extui (Scalar.cmpi .eq (View.readAt (Elt F) arg17.view (Rect.unit (s := S1) ![0] S1.size inb_S1_S1_0).toLoadRect (f_arg17) (Shape.Idx.first (by decide +kernel))) 1#32)) 0#32 = 1#1 := by
      rw [hok]; decide
    sl_exec (disch := sl_exact hv49)
    have hv52 : ¬ Scalar.cmpi .ne (Scalar.extui (Scalar.xori (Scalar.cmpi .eq (View.readAt (Elt F) arg17.view (Rect.unit (s := S1) ![0] S1.size inb_S1_S1_0).toLoadRect (f_arg17) (Shape.Idx.first (by decide +kernel))) 1#32) 1#1)) 0#32 = 1#1 := by
      rw [hok]; decide
    sl_exec (disch := sl_exact hv52)
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iexists _; iexact H_arg16
    iexact H_arg17

end Cert.KernelIdeal.Val
end
-- ==== Proof.RunLaterSlow.lean ====
module

public import proofs.«01_k».proof.Proof.Gen.KernelIdeal.Frame
public import proofs.«01_k».proof.Proof.LoopsVal
public import Idealize.ShloMosaic.Lib.Tactic

@[expose] public section

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra of the frame kit. -/
local notation "𝕄" => MT nD τ sig Unit (Elt F) ℕ (UR sig nD τ) ℕ

set_option maxHeartbeats 8000000 in
/-- One step of the kernel, a later one, on the exact path: what it leaves in the block and the scratch. -/
def runBs (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec F S1 .i32) (x_arg3 : Vec F S1 .i32) (x_arg4 : Vec F S1 .i32) (x_arg5 : Vec F S1 .i32) (x_arg6 : Vec F S1x64x64x640 .i8) (x_arg7 : Vec F S1x1x64x640 .i8) (x_arg8 : Vec F S9x128 .i32) (x_arg9 : Vec F S1x128 .i32) (x_arg10 : Vec F S1x128 .i32) (x_arg11 : Vec F S1x128 .i32)
    (f_arg12 : BufTy.Contents (Elt F) arg12.view.ty) (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty)
    (h1 : ¬ Scalar.cmpi .ne (Scalar.extui (Scalar.andi (Scalar.cmpi .eq (BitVec.ofNat 32 (i 0).val) 0#32) (Scalar.cmpi .eq (BitVec.ofNat 32 (i 1).val) 0#32))) 0#32 = 1#1)
    (hok : (View.readAt (Elt F) arg17.view (Rect.unit (s := S1) ![0] S1.size inb_S1_S1_0).toLoadRect (f_arg17) (Shape.Idx.first (by decide +kernel))) = 0#32) :
    { L : BufTy.Contents (Elt F) arg12.view.ty × BufTy.Contents (Elt F) arg13.view.ty × BufTy.Contents (Elt F) arg14.view.ty × BufTy.Contents (Elt F) arg15.view.ty × BufTy.Contents (Elt F) arg17.view.ty // ∀ (K : PUnit → sProp 𝕄),
    iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17)
        ∗ (iprop((arg2.view.loc (c : Thread nD τ) ↦[arg2.view.set]{fullShare} harg2.unread x_arg2) ∗ (arg3.view.loc (c : Thread nD τ) ↦[arg3.view.set]{fullShare} harg3.unread x_arg3) ∗ (arg4.view.loc (c : Thread nD τ) ↦[arg4.view.set]{fullShare} harg4.unread x_arg4) ∗ (arg5.view.loc (c : Thread nD τ) ↦[arg5.view.set]{fullShare} harg5.unread x_arg5) ∗ (arg6.view.loc (c : Thread nD τ) ↦[arg6.view.set]{fullShare} harg6.unread x_arg6) ∗ (arg7.view.loc (c : Thread nD τ) ↦[arg7.view.set]{fullShare} harg7.unread x_arg7) ∗ (arg8.view.loc (c : Thread nD τ) ↦[arg8.view.set]{fullShare} harg8.unread x_arg8) ∗ (arg9.view.loc (c : Thread nD τ) ↦[arg9.view.set]{fullShare} harg9.unread x_arg9) ∗ (arg10.view.loc (c : Thread nD τ) ↦[arg10.view.set]{fullShare} harg10.unread x_arg10) ∗ (arg11.view.loc (c : Thread nD τ) ↦[arg11.view.set]{fullShare} harg11.unread x_arg11) ∗ (arg12.view.loc (c : Thread nD τ) ↦[arg12.view.set]{fullShare} L.1) ∗ (arg13.view.loc (c : Thread nD τ) ↦[arg13.view.set]{fullShare} L.2.1) ∗ (arg14.view.loc (c : Thread nD τ) ↦[arg14.view.set]{fullShare} L.2.2.1) ∗ (arg15.view.loc (c : Thread nD τ) ↦[arg15.view.set]{fullShare} L.2.2.2.1) ∗ (∃ f, (arg16.view.loc (c : Thread nD τ) ↦[arg16.view.set]{fullShare} f)) ∗ (arg17.view.loc (c : Thread nD τ) ↦[arg17.view.set]{fullShare} L.2.2.2.2)) -∗ K ⟨⟩))
      ⊢ wp frame (wpE (defs₀ (F := F)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_, ?_, ?_, ?_), fun K => ?run⟩
  case run =>
    iintro ⟨H_arg2, H_arg3, H_arg4, H_arg5, H_arg6, H_arg7, H_arg8, H_arg9, H_arg10, H_arg11, H_arg12, H_arg13, H_arg14, H_arg15, H_arg16, H_arg17, Hk⟩
    sl_unfold [cc0_depthwise_requant]
    sl_exec (disch := sl_exact h1)
    have hv49 : ¬ Scalar.cmpi .ne (Scalar.extui (Scalar.cmpi .eq (View.readAt (Elt F) arg17.view (Rect.unit (s := S1) ![0] S1.size inb_S1_S1_0).toLoadRect (f_arg17) (Shape.Idx.first (by decide +kernel))) 1#32)) 0#32 = 1#1 := by
      rw [hok]; decide
    sl_exec (disch := sl_exact hv49)
    have hv52 : Scalar.cmpi .ne (Scalar.extui (Scalar.xori (Scalar.cmpi .eq (View.readAt (Elt F) arg17.view (Rect.unit (s := S1) ![0] S1.size inb_S1_S1_0).toLoadRect (f_arg17) (Shape.Idx.first (by decide +kernel))) 1#32) 1#1)) 0#32 = 1#1 := by
      rw [hok]; decide
    sl_exec (disch := sl_exact hv52)
    sl_step
    iapply Hk
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iexists _; iexact H_arg16
    iexact H_arg17

end Cert.KernelIdeal.Val
end
-- ==== Proof.RunVal.lean ====
module

public import proofs.«01_k».proof.Proof.Gen.KernelIdeal.Frame
public import proofs.«01_k».proof.Proof.RunPre
public import proofs.«01_k».proof.Proof.RunFirstFast
public import proofs.«01_k».proof.Proof.RunFirstSlow
public import proofs.«01_k».proof.Proof.RunLaterFast
public import proofs.«01_k».proof.Proof.RunLaterSlow
public import proofs.«01_k».proof.Proof.Prep2
public import proofs.«01_k».proof.Proof.Heads
public import proofs.«01_k».proof.Proof.Taps1
public import proofs.«01_k».proof.Proof.Taps6
public import proofs.«01_k».proof.Proof.Block2
public import proofs.«01_k».proof.Proof.Block7
public import Idealize.ShloMosaic.Lib.Tactic
public import Idealize.ShloMosaic.Lib.VecWindow

@[expose] public section

set_option maxRecDepth 16384

noncomputable section

namespace Cert.KernelIdeal.Val

open Cert.KernelIdeal Cert.KernelIdeal.Gen Cert.Requant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

/-- The resource algebra of the frame kit. -/
local notation "𝕄" => MT nD τ sig Unit (Elt Ideal) ℕ (UR sig nD τ) ℕ

set_option maxHeartbeats 8000000 in
/-- The body's triple with the values: the block it gives, and the scratch prepared. -/
theorem kernelRun_val (c : Dev nD) (i : grid0.Coords) (arg2 : Memref sig .tc .smem S1 .i32) (harg2 : arg2.IsWhole) (arg3 : Memref sig .tc .smem S1 .i32) (harg3 : arg3.IsWhole) (arg4 : Memref sig .tc .smem S1 .i32) (harg4 : arg4.IsWhole) (arg5 : Memref sig .tc .smem S1 .i32) (harg5 : arg5.IsWhole) (arg6 : Memref sig .tc .vmem S1x64x64x640 .i8) (harg6 : arg6.IsWhole) (arg7 : Memref sig .tc .vmem S1x1x64x640 .i8) (harg7 : arg7.IsWhole) (arg8 : Memref sig .tc .vmem S9x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S1x32x320x128 .i8) (harg12 : arg12.IsWhole) (arg13 : Memref sig .tc .vmem S2x128x512 .bf16) (harg13 : arg13.IsWhole) (arg14 : Memref sig .tc .vmem S5x128x128 .f32) (harg14 : arg14.IsWhole) (arg15 : Memref sig .tc .vmem S3x128x128 .i32) (harg15 : arg15.IsWhole) (arg16 : Memref sig .tc .vmem S2x2x864x640 .bf16) (harg16 : arg16.IsWhole) (arg17 : Memref sig .tc .smem S1 .i32) (harg17 : arg17.IsWhole)
    (x_arg2 : Vec Ideal S1 .i32) (x_arg3 : Vec Ideal S1 .i32) (x_arg4 : Vec Ideal S1 .i32) (x_arg5 : Vec Ideal S1 .i32) (x_arg6 : Vec Ideal S1x64x64x640 .i8) (x_arg7 : Vec Ideal S1x1x64x640 .i8) (x_arg8 : Vec Ideal S9x128 .i32) (x_arg9 : Vec Ideal S1x128 .i32) (x_arg10 : Vec Ideal S1x128 .i32) (x_arg11 : Vec Ideal S1x128 .i32) (P : Pars) (hP : P.Good) (z : BitVec 8) (hz : z = P.zp.setWidth 8) (last : Bool) (hl : last = true ↔ (i 1).val = 7)
    (h2 : ∀ y, x_arg2 y = P.zp) (h3 : ∀ y, x_arg3 y = P.ozp) (h4 : ∀ y, x_arg4 y = P.lo) (h5 : ∀ y, x_arg5 y = P.hi)
    (h8 : ∀ (t : Fin 9) (ch : Fin 128), x_arg8 (ix2 t ch) = P.w t.val ch.val) (h9 : ∀ ch : Fin 128, x_arg9 (ix2 0 ch) = P.b ch.val) (h10 : ∀ ch : Fin 128, x_arg10 (ix2 0 ch) = P.m ch.val) (h11 : ∀ ch : Fin 128, x_arg11 (ix2 0 ch) = P.s ch.val)
    (d_arg13 : Vec Ideal S2x128x512 .bf16) (d_arg14 : Vec Ideal S5x128x128 .f32) (d_arg15 : Vec Ideal S3x128x128 .i32) (d_arg17 : Vec Ideal S1 .i32)
    (hd : ¬ ((i 0).val = 0 ∧ (i 1).val = 0) → PrepOk P d_arg13 d_arg14 d_arg15 d_arg17)
    (K : PUnit → sProp 𝕄) :
    iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ owns (c : Thread nD τ) arg13 fullShare d_arg13 ∗ owns (c : Thread nD τ) arg14 fullShare d_arg14 ∗ owns (c : Thread nD τ) arg15 fullShare d_arg15 ∗ (∃ d, owns (c : Thread nD τ) arg16 fullShare d) ∗ owns (c : Thread nD τ) arg17 fullShare d_arg17
        ∗ (iprop(owns (c : Thread nD τ) arg2 fullShare x_arg2 ∗ owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ owns (c : Thread nD τ) arg12 fullShare (fun y => P.out (xvOf x_arg6 x_arg7 last z) y) ∗ scr P c arg13 arg14 arg15 arg16 arg17) -∗ K ⟨⟩))
      ⊢ wp frame (wpE (defs₀ (F := Ideal)) 𝒱₀ c none) Set.univ (cc0_depthwise_requant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f_arg2, %hf_arg2, H_arg2⟩, ⟨%f_arg3, %hf_arg3, H_arg3⟩, ⟨%f_arg4, %hf_arg4, H_arg4⟩, ⟨%f_arg5, %hf_arg5, H_arg5⟩, ⟨%f_arg6, %hf_arg6, H_arg6⟩, ⟨%f_arg7, %hf_arg7, H_arg7⟩, ⟨%f_arg8, %hf_arg8, H_arg8⟩, ⟨%f_arg9, %hf_arg9, H_arg9⟩, ⟨%f_arg10, %hf_arg10, H_arg10⟩, ⟨%f_arg11, %hf_arg11, H_arg11⟩, ⟨%d_arg12, %f_arg12, -, H_arg12⟩, ⟨%f_arg13, %hf_arg13, H_arg13⟩, ⟨%f_arg14, %hf_arg14, H_arg14⟩, ⟨%f_arg15, %hf_arg15, H_arg15⟩, ⟨%d_arg16, %f_arg16, -, H_arg16⟩, ⟨%f_arg17, %hf_arg17, H_arg17⟩, Hk⟩
  obtain rfl := harg2.eq_unread hf_arg2
  obtain rfl := harg3.eq_unread hf_arg3
  obtain rfl := harg4.eq_unread hf_arg4
  obtain rfl := harg5.eq_unread hf_arg5
  obtain rfl := harg6.eq_unread hf_arg6
  obtain rfl := harg7.eq_unread hf_arg7
  obtain rfl := harg8.eq_unread hf_arg8
  obtain rfl := harg9.eq_unread hf_arg9
  obtain rfl := harg10.eq_unread hf_arg10
  obtain rfl := harg11.eq_unread hf_arg11
  subst hz
  have e2 : (View.readAt (Elt Ideal) arg2.view (Rect.unit (s := S1) ![0] S1.size inb_S1_S1_0).toLoadRect (harg2.unread x_arg2) (Shape.Idx.first (by decide +kernel))) = P.zp := (congrFun (harg2.read_unread x_arg2) _).trans (h2 _)
  have e3 : (View.readAt (Elt Ideal) arg3.view (Rect.unit (s := S1) ![0] S1.size inb_S1_S1_0).toLoadRect (harg3.unread x_arg3) (Shape.Idx.first (by decide +kernel))) = P.ozp := (congrFun (harg3.read_unread x_arg3) _).trans (h3 _)
  have e4 : (View.readAt (Elt Ideal) arg4.view (Rect.unit (s := S1) ![0] S1.size inb_S1_S1_0).toLoadRect (harg4.unread x_arg4) (Shape.Idx.first (by decide +kernel))) = P.lo := (congrFun (harg4.read_unread x_arg4) _).trans (h4 _)
  have e5 : (View.readAt (Elt Ideal) arg5.view (Rect.unit (s := S1) ![0] S1.size inb_S1_S1_0).toLoadRect (harg5.unread x_arg5) (Shape.Idx.first (by decide +kernel))) = P.hi := (congrFun (harg5.read_unread x_arg5) _).trans (h5 _)
  have e8 : ∀ (t : Fin 9) (ch : Fin 128), (View.readAt (Elt Ideal) arg8.view (Rect.unit (s := S9x128) ![0, 0] S9x128.size inb_S9x128_S9x128_0_0).toLoadRect (harg8.unread x_arg8)) (ix2 t ch) = P.w t.val ch.val := fun t ch => (congrFun ((View.readAt_full _ _ _).trans (harg8.read_unread x_arg8)) (ix2 t ch)).trans (h8 t ch)
  have e9 : ∀ c : Fin 128, (View.readAt (Elt Ideal) arg9.view (Rect.unit (s := S1x128) ![0, 0] S1x128.size inb_S1x128_S1x128_0_0).toLoadRect (harg9.unread x_arg9)) (ix2 0 c) = P.b c.val := fun ch => (congrFun ((View.readAt_full _ _ _).trans (harg9.read_unread x_arg9)) (ix2 0 ch)).trans (h9 ch)
  have e10 : ∀ c : Fin 128, (View.readAt (Elt Ideal) arg10.view (Rect.unit (s := S1x128) ![0, 0] S1x128.size inb_S1x128_S1x128_0_0).toLoadRect (harg10.unread x_arg10)) (ix2 0 c) = P.m c.val := fun ch => (congrFun ((View.readAt_full _ _ _).trans (harg10.read_unread x_arg10)) (ix2 0 ch)).trans (h10 ch)
  have e11 : ∀ c : Fin 128, (View.readAt (Elt Ideal) arg11.view (Rect.unit (s := S1x128) ![0, 0] S1x128.size inb_S1x128_S1x128_0_0).toLoadRect (harg11.unread x_arg11)) (ix2 0 c) = P.s c.val := fun ch => (congrFun ((View.readAt_full _ _ _).trans (harg11.read_unread x_arg11)) (ix2 0 ch)).trans (h11 ch)
  have g1 : (i 1).val < 8 := (i 1).isLt
  have hv44 : Scalar.cmpi .eq (BitVec.ofNat 32 (i 1).val) 7#32 = if last then 1#1 else 0#1 := by
    have key : ∀ n : ℕ, n < 8 → Scalar.cmpi .eq (BitVec.ofNat 32 n) 7#32 = if n = 7 then 1#1 else 0#1 := by decide
    rw [key _ g1]
    by_cases hh : (i 1).val = 7
    · rw [if_pos hh, if_pos (hl.2 hh)]
    · rw [if_neg hh, if_neg (fun q => hh (hl.1 q))]
  by_cases h1 : Scalar.cmpi .ne (Scalar.extui (Scalar.andi (Scalar.cmpi .eq (BitVec.ofNat 32 (i 0).val) 0#32) (Scalar.cmpi .eq (BitVec.ofNat 32 (i 1).val) 0#32))) 0#32 = 1#1
  · by_cases hok : P.ok
    · have hb := okBit_first P hP (View.readAt (Elt Ideal) arg8.view (Rect.unit (s := S9x128) ![0, 0] S9x128.size inb_S9x128_S9x128_0_0).toLoadRect (harg8.unread x_arg8)) e8 (View.readAt (Elt Ideal) arg9.view (Rect.unit (s := S1x128) ![0, 0] S1x128.size inb_S1x128_S1x128_0_0).toLoadRect (harg9.unread x_arg9)) e9 (View.readAt (Elt Ideal) arg2.view (Rect.unit (s := S1) ![0] S1.size inb_S1_S1_0).toLoadRect (harg2.unread x_arg2) (Shape.Idx.first (by decide +kernel))) e2
      rw [if_pos hok] at hb
      unfold okBit at hb
      obtain ⟨L, hL⟩ : ∃ L, L = runAf (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb := ⟨_, rfl⟩
      have hp : PrepOk P (arg13.view.read (Elt Ideal) L.1.1) (arg14.view.read (Elt Ideal) L.1.2.1) (arg15.view.read (Elt Ideal) L.1.2.2.1) (arg17.view.read (Elt Ideal) L.1.2.2.2) := by
        subst hL
        exact prep_first P hP (View.readAt (Elt Ideal) arg8.view (Rect.unit (s := S9x128) ![0, 0] S9x128.size inb_S9x128_S9x128_0_0).toLoadRect (harg8.unread x_arg8)) e8 (View.readAt (Elt Ideal) arg9.view (Rect.unit (s := S1x128) ![0, 0] S1x128.size inb_S1x128_S1x128_0_0).toLoadRect (harg9.unread x_arg9)) (View.readAt (Elt Ideal) arg10.view (Rect.unit (s := S1x128) ![0, 0] S1x128.size inb_S1x128_S1x128_0_0).toLoadRect (harg10.unread x_arg10)) (View.readAt (Elt Ideal) arg11.view (Rect.unit (s := S1x128) ![0, 0] S1x128.size inb_S1x128_S1x128_0_0).toLoadRect (harg11.unread x_arg11)) e9 e10 e11 (View.readAt (Elt Ideal) arg2.view (Rect.unit (s := S1) ![0] S1.size inb_S1_S1_0).toLoadRect (harg2.unread x_arg2) (Shape.Idx.first (by decide +kernel))) e2 (View.readAt (Elt Ideal) arg3.view (Rect.unit (s := S1) ![0] S1.size inb_S1_S1_0).toLoadRect (harg3.unread x_arg3) (Shape.Idx.first (by decide +kernel))) (View.readAt (Elt Ideal) arg4.view (Rect.unit (s := S1) ![0] S1.size inb_S1_S1_0).toLoadRect (harg4.unread x_arg4) (Shape.Idx.first (by decide +kernel))) (View.readAt (Elt Ideal) arg5.view (Rect.unit (s := S1) ![0] S1.size inb_S1_S1_0).toLoadRect (harg5.unread x_arg5) (Shape.Idx.first (by decide +kernel))) e3 e4 e5 arg13.view arg14.view arg15.view arg17.view f_arg13 f_arg14 f_arg15 arg17.view.junk _
      iapply (L.2 K)
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      isplitl [H_arg12]; · iexact H_arg12
      isplitl [H_arg13]; · iexact H_arg13
      isplitl [H_arg14]; · iexact H_arg14
      isplitl [H_arg15]; · iexact H_arg15
      isplitl [H_arg16]; · iexact H_arg16
      isplitl [H_arg17]; · iexact H_arg17
      iintro ⟨H_arg2, H_arg3, H_arg4, H_arg5, H_arg6, H_arg7, H_arg8, H_arg9, H_arg10, H_arg11, H_arg17, ⟨%X13, %X14, %X15, %hX13, %hX14, %hX15, H_arg12, H_arg13, H_arg14, H_arg15⟩, ⟨%g_arg16, H_arg16⟩⟩
      rw [← hX13, ← hX14, ← hX15] at hp
      have e12 := fin_fast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg6 x_arg7 P hP hok (View.readAt (Elt Ideal) arg2.view (Rect.unit (s := S1) ![0] S1.size inb_S1_S1_0).toLoadRect (harg2.unread x_arg2) (Shape.Idx.first (by decide +kernel))) e2 last _ hv44 X13 X14 X15 _ hp f_arg12 f_arg16
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _; isplitr; swap; · iexact H_arg12
        ipureintro; exact e12
      unfold scr owns
      iexists _, _, _, _; isplitr; · ipureintro; exact hp
      isplitl [H_arg13]
      · iexists _; isplitr; swap; · iexact H_arg13
        ipureintro; rfl
      isplitl [H_arg14]
      · iexists _; isplitr; swap; · iexact H_arg14
        ipureintro; rfl
      isplitl [H_arg15]
      · iexists _; isplitr; swap; · iexact H_arg15
        ipureintro; rfl
      isplitl [H_arg16]
      · iexists _, _; isplitr; swap; · iexact H_arg16
        ipureintro; rfl
      iexists _; isplitr; swap; · iexact H_arg17
      ipureintro; rfl
    · have hb := okBit_first P hP (View.readAt (Elt Ideal) arg8.view (Rect.unit (s := S9x128) ![0, 0] S9x128.size inb_S9x128_S9x128_0_0).toLoadRect (harg8.unread x_arg8)) e8 (View.readAt (Elt Ideal) arg9.view (Rect.unit (s := S1x128) ![0, 0] S1x128.size inb_S1x128_S1x128_0_0).toLoadRect (harg9.unread x_arg9)) e9 (View.readAt (Elt Ideal) arg2.view (Rect.unit (s := S1) ![0] S1.size inb_S1_S1_0).toLoadRect (harg2.unread x_arg2) (Shape.Idx.first (by decide +kernel))) e2
      rw [if_neg hok] at hb
      unfold okBit at hb
      obtain ⟨L, hL⟩ : ∃ L, L = runAs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb := ⟨_, rfl⟩
      have hp : PrepOk P (arg13.view.read (Elt Ideal) L.1.2.1) (arg14.view.read (Elt Ideal) L.1.2.2.1) (arg15.view.read (Elt Ideal) L.1.2.2.2.1) (arg17.view.read (Elt Ideal) L.1.2.2.2.2) := by
        subst hL
        exact prep_first P hP (View.readAt (Elt Ideal) arg8.view (Rect.unit (s := S9x128) ![0, 0] S9x128.size inb_S9x128_S9x128_0_0).toLoadRect (harg8.unread x_arg8)) e8 (View.readAt (Elt Ideal) arg9.view (Rect.unit (s := S1x128) ![0, 0] S1x128.size inb_S1x128_S1x128_0_0).toLoadRect (harg9.unread x_arg9)) (View.readAt (Elt Ideal) arg10.view (Rect.unit (s := S1x128) ![0, 0] S1x128.size inb_S1x128_S1x128_0_0).toLoadRect (harg10.unread x_arg10)) (View.readAt (Elt Ideal) arg11.view (Rect.unit (s := S1x128) ![0, 0] S1x128.size inb_S1x128_S1x128_0_0).toLoadRect (harg11.unread x_arg11)) e9 e10 e11 (View.readAt (Elt Ideal) arg2.view (Rect.unit (s := S1) ![0] S1.size inb_S1_S1_0).toLoadRect (harg2.unread x_arg2) (Shape.Idx.first (by decide +kernel))) e2 (View.readAt (Elt Ideal) arg3.view (Rect.unit (s := S1) ![0] S1.size inb_S1_S1_0).toLoadRect (harg3.unread x_arg3) (Shape.Idx.first (by decide +kernel))) (View.readAt (Elt Ideal) arg4.view (Rect.unit (s := S1) ![0] S1.size inb_S1_S1_0).toLoadRect (harg4.unread x_arg4) (Shape.Idx.first (by decide +kernel))) (View.readAt (Elt Ideal) arg5.view (Rect.unit (s := S1) ![0] S1.size inb_S1_S1_0).toLoadRect (harg5.unread x_arg5) (Shape.Idx.first (by decide +kernel))) e3 e4 e5 arg13.view arg14.view arg15.view arg17.view arg13.view.junk arg14.view.junk arg15.view.junk arg17.view.junk _
      have e12 : arg12.view.read (Elt Ideal) L.1.1 = fun y => P.out (xvOf x_arg6 x_arg7 last (P.zp.setWidth 8)) y := by
        subst hL
        exact fin_slow c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg6 x_arg7 P hP hok (View.readAt (Elt Ideal) arg2.view (Rect.unit (s := S1) ![0] S1.size inb_S1_S1_0).toLoadRect (harg2.unread x_arg2) (Shape.Idx.first (by decide +kernel))) e2 (View.readAt (Elt Ideal) arg3.view (Rect.unit (s := S1) ![0] S1.size inb_S1_S1_0).toLoadRect (harg3.unread x_arg3) (Shape.Idx.first (by decide +kernel))) (View.readAt (Elt Ideal) arg4.view (Rect.unit (s := S1) ![0] S1.size inb_S1_S1_0).toLoadRect (harg4.unread x_arg4) (Shape.Idx.first (by decide +kernel))) (View.readAt (Elt Ideal) arg5.view (Rect.unit (s := S1) ![0] S1.size inb_S1_S1_0).toLoadRect (harg5.unread x_arg5) (Shape.Idx.first (by decide +kernel))) e3 e4 e5 last _ hv44 (runAs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.1 (runAs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.2.1 (runAs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.2.2.1 _ hp f_arg12 f_arg16
      iapply (L.2 K)
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      isplitl [H_arg12]; · iexact H_arg12
      isplitl [H_arg13]; · iexact H_arg13
      isplitl [H_arg14]; · iexact H_arg14
      isplitl [H_arg15]; · iexact H_arg15
      isplitl [H_arg16]; · iexact H_arg16
      isplitl [H_arg17]; · iexact H_arg17
      iintro ⟨H_arg2, H_arg3, H_arg4, H_arg5, H_arg6, H_arg7, H_arg8, H_arg9, H_arg10, H_arg11, H_arg12, H_arg13, H_arg14, H_arg15, ⟨%g_arg16, H_arg16⟩, H_arg17⟩
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _; isplitr; swap; · iexact H_arg12
        ipureintro; exact e12
      unfold scr owns
      iexists _, _, _, _; isplitr; · ipureintro; exact hp
      isplitl [H_arg13]
      · iexists _; isplitr; swap; · iexact H_arg13
        ipureintro; rfl
      isplitl [H_arg14]
      · iexists _; isplitr; swap; · iexact H_arg14
        ipureintro; rfl
      isplitl [H_arg15]
      · iexists _; isplitr; swap; · iexact H_arg15
        ipureintro; rfl
      isplitl [H_arg16]
      · iexists _, _; isplitr; swap; · iexact H_arg16
        ipureintro; rfl
      iexists _; isplitr; swap; · iexact H_arg17
      ipureintro; rfl
  · by_cases hok : P.ok
    · have hq := hd fun q => h1 (by rw [q.1, q.2]; decide)
      subst hf_arg13 hf_arg14 hf_arg15 hf_arg17
      have hb : (View.readAt (Elt Ideal) arg17.view (Rect.unit (s := S1) ![0] S1.size inb_S1_S1_0).toLoadRect (f_arg17) (Shape.Idx.first (by decide +kernel))) = 1#32 := (hq.ok _).trans (if_pos hok)
      obtain ⟨L, hL⟩ : ∃ L, L = runBf (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb := ⟨_, rfl⟩
      have hp : PrepOk P (arg13.view.read (Elt Ideal) L.1.2.1) (arg14.view.read (Elt Ideal) L.1.2.2.1) (arg15.view.read (Elt Ideal) L.1.2.2.2.1) (arg17.view.read (Elt Ideal) L.1.2.2.2.2) := by subst hL; exact hq
      have e12 : arg12.view.read (Elt Ideal) L.1.1 = fun y => P.out (xvOf x_arg6 x_arg7 last (P.zp.setWidth 8)) y := by
        subst hL
        exact fin_fast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg6 x_arg7 P hP hok (View.readAt (Elt Ideal) arg2.view (Rect.unit (s := S1) ![0] S1.size inb_S1_S1_0).toLoadRect (harg2.unread x_arg2) (Shape.Idx.first (by decide +kernel))) e2 last _ hv44 (runBf (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.1 (runBf (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.2.1 (runBf (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.2.2.1 _ hp f_arg12 f_arg16
      iapply (L.2 K)
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      isplitl [H_arg12]; · iexact H_arg12
      isplitl [H_arg13]; · iexact H_arg13
      isplitl [H_arg14]; · iexact H_arg14
      isplitl [H_arg15]; · iexact H_arg15
      isplitl [H_arg16]; · iexact H_arg16
      isplitl [H_arg17]; · iexact H_arg17
      iintro ⟨H_arg2, H_arg3, H_arg4, H_arg5, H_arg6, H_arg7, H_arg8, H_arg9, H_arg10, H_arg11, H_arg12, H_arg13, H_arg14, H_arg15, ⟨%g_arg16, H_arg16⟩, H_arg17⟩
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _; isplitr; swap; · iexact H_arg12
        ipureintro; exact e12
      unfold scr owns
      iexists _, _, _, _; isplitr; · ipureintro; exact hp
      isplitl [H_arg13]
      · iexists _; isplitr; swap; · iexact H_arg13
        ipureintro; rfl
      isplitl [H_arg14]
      · iexists _; isplitr; swap; · iexact H_arg14
        ipureintro; rfl
      isplitl [H_arg15]
      · iexists _; isplitr; swap; · iexact H_arg15
        ipureintro; rfl
      isplitl [H_arg16]
      · iexists _, _; isplitr; swap; · iexact H_arg16
        ipureintro; rfl
      iexists _; isplitr; swap; · iexact H_arg17
      ipureintro; rfl
    · have hq := hd fun q => h1 (by rw [q.1, q.2]; decide)
      subst hf_arg13 hf_arg14 hf_arg15 hf_arg17
      have hb : (View.readAt (Elt Ideal) arg17.view (Rect.unit (s := S1) ![0] S1.size inb_S1_S1_0).toLoadRect (f_arg17) (Shape.Idx.first (by decide +kernel))) = 0#32 := (hq.ok _).trans (if_neg hok)
      obtain ⟨L, hL⟩ : ∃ L, L = runBs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb := ⟨_, rfl⟩
      have hp : PrepOk P (arg13.view.read (Elt Ideal) L.1.2.1) (arg14.view.read (Elt Ideal) L.1.2.2.1) (arg15.view.read (Elt Ideal) L.1.2.2.2.1) (arg17.view.read (Elt Ideal) L.1.2.2.2.2) := by subst hL; exact hq
      have e12 : arg12.view.read (Elt Ideal) L.1.1 = fun y => P.out (xvOf x_arg6 x_arg7 last (P.zp.setWidth 8)) y := by
        subst hL
        exact fin_slow c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg6 x_arg7 P hP hok (View.readAt (Elt Ideal) arg2.view (Rect.unit (s := S1) ![0] S1.size inb_S1_S1_0).toLoadRect (harg2.unread x_arg2) (Shape.Idx.first (by decide +kernel))) e2 (View.readAt (Elt Ideal) arg3.view (Rect.unit (s := S1) ![0] S1.size inb_S1_S1_0).toLoadRect (harg3.unread x_arg3) (Shape.Idx.first (by decide +kernel))) (View.readAt (Elt Ideal) arg4.view (Rect.unit (s := S1) ![0] S1.size inb_S1_S1_0).toLoadRect (harg4.unread x_arg4) (Shape.Idx.first (by decide +kernel))) (View.readAt (Elt Ideal) arg5.view (Rect.unit (s := S1) ![0] S1.size inb_S1_S1_0).toLoadRect (harg5.unread x_arg5) (Shape.Idx.first (by decide +kernel))) e3 e4 e5 last _ hv44 (runBs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.1 (runBs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.2.1 (runBs (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x_arg2 x_arg3 x_arg4 x_arg5 x_arg6 x_arg7 x_arg8 x_arg9 x_arg10 x_arg11 f_arg12 f_arg13 f_arg14 f_arg15 f_arg16 f_arg17 h1 hb).1.2.2.2.1 _ hp f_arg12 f_arg16
      iapply (L.2 K)
      isplitl [H_arg2]; · iexact H_arg2
      isplitl [H_arg3]; · iexact H_arg3
      isplitl [H_arg4]; · iexact H_arg4
      isplitl [H_arg5]; · iexact H_arg5
      isplitl [H_arg6]; · iexact H_arg6
      isplitl [H_arg7]; · iexact H_arg7
      isplitl [H_arg8]; · iexact H_arg8
      isplitl [H_arg9]; · iexact H_arg9
      isplitl [H_arg10]; · iexact H_arg10
      isplitl [H_arg11]; · iexact H_arg11
      isplitl [H_arg12]; · iexact H_arg12
      isplitl [H_arg13]; · iexact H_arg13
      isplitl [H_arg14]; · iexact H_arg14
      isplitl [H_arg15]; · iexact H_arg15
      isplitl [H_arg16]; · iexact H_arg16
      isplitl [H_arg17]; · iexact H_arg17
      iintro ⟨H_arg2, H_arg3, H_arg4, H_arg5, H_arg6, H_arg7, H_arg8, H_arg9, H_arg10, H_arg11, H_arg12, H_arg13, H_arg14, H_arg15, ⟨%g_arg16, H_arg16⟩, H_arg17⟩
      iapply Hk
      isplitl [H_arg2]
      · iexists _; isplitr; swap; · iexact H_arg2
        ipureintro; exact harg2.read_unread _
      isplitl [H_arg3]
      · iexists _; isplitr; swap; · iexact H_arg3
        ipureintro; exact harg3.read_unread _
      isplitl [H_arg4]
      · iexists _; isplitr; swap; · iexact H_arg4
        ipureintro; exact harg4.read_unread _
      isplitl [H_arg5]
      · iexists _; isplitr; swap; · iexact H_arg5
        ipureintro; exact harg5.read_unread _
      isplitl [H_arg6]
      · iexists _; isplitr; swap; · iexact H_arg6
        ipureintro; exact harg6.read_unread _
      isplitl [H_arg7]
      · iexists _; isplitr; swap; · iexact H_arg7
        ipureintro; exact harg7.read_unread _
      isplitl [H_arg8]
      · iexists _; isplitr; swap; · iexact H_arg8
        ipureintro; exact harg8.read_unread _
      isplitl [H_arg9]
      · iexists _; isplitr; swap; · iexact H_arg9
        ipureintro; exact harg9.read_unread _
      isplitl [H_arg10]
      · iexists _; isplitr; swap; · iexact H_arg10
        ipureintro; exact harg10.read_unread _
      isplitl [H_arg11]
      · iexists _; isplitr; swap; · iexact H_arg11
        ipureintro; exact harg11.read_unread _
      isplitl [H_arg12]
      · iexists _; isplitr; swap; · iexact H_arg12
        ipureintro; exact e12
      unfold scr owns
      iexists _, _, _, _; isplitr; · ipureintro; exact hp
      isplitl [H_arg13]
      · iexists _; isplitr; swap; · iexact H_arg13
        ipureintro; rfl
      isplitl [H_arg14]
      · iexists _; isplitr; swap; · iexact H_arg14
        ipureintro; rfl
      isplitl [H_arg15]
      · iexists _; isplitr; swap; · iexact H_arg15
        ipureintro; rfl
      isplitl [H_arg16]
      · iexists _, _; isplitr; swap; · iexact H_arg16
        ipureintro; rfl
      iexists _; isplitr; swap; · iexact H_arg17
      ipureintro; rfl

end Cert.KernelIdeal.Val
end
-- ==== Proof.FrameVal.lean ====
module

public import proofs.«01_k».proof.Proof.Gen.KernelIdeal.Frame
public import proofs.«01_k».proof.Proof.Gen.KernelIdeal.Launch
public import proofs.«01_k».proof.Proof.Gen.KernelIdeal.Points
public import proofs.«01_k».proof.Proof.RunVal
public import Idealize.ShloMosaic.Lib.Pipeline.ValueKit.Geometry
public import Idealize.ShloMosaic.Lib.Tactic

@[expose] public section

set_option maxRecDepth 16384

noncomputable section

namespace Cert.KernelIdeal.Val

open Cert.KernelIdeal Cert.KernelIdeal.Gen Cert.Requant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

/-- The resource algebra of the frame kit. -/
local notation "𝕄" => MT nD τ sig Unit (Elt Ideal) ℕ (UR sig nD τ) ℕ

variable (m : (ℓ : Loc nD τ sig) → Buf (Elt Ideal) ℓ) (ρ : Dev nD → PrngReg)

/-- The kernel's parameters, as the region finds them. -/
def kP (c : Dev nD) : Pars where
  zp := (V m c main_v1 : S1.Idx → BitVec 32) (ix1 0)
  ozp := (V m c main_v2 : S1.Idx → BitVec 32) (ix1 0)
  lo := (V m c main_v3 : S1.Idx → BitVec 32) (ix1 0)
  hi := (V m c main_v4 : S1.Idx → BitVec 32) (ix1 0)
  w t ch := (V m c main_v6 : S9x128.Idx → BitVec 32) (ix2 ⟨t % 9, by omega⟩ ⟨ch % 128, by omega⟩)
  b ch := (V m c main_v7 : S1x128.Idx → BitVec 32) (ix2 0 ⟨ch % 128, by omega⟩)
  m ch := (V m c main_v8 : S1x128.Idx → BitVec 32) (ix2 0 ⟨ch % 128, by omega⟩)
  s ch := (V m c main_v9 : S1x128.Idx → BitVec 32) (ix2 0 ⟨ch % 128, by omega⟩)

/-- The input as the kernel finds it, padded by the zero point. -/
def xg (c : Dev nD) (n : Fin 4) (r ch col : ℕ) : BitVec 8 :=
  if h : r < 512 ∧ col < 640 then (V m c main_v0 : S4x512x64x640.Idx → BitVec 8) (ix4 n ⟨r, h.1⟩ ⟨ch % 64, by omega⟩ ⟨col, h.2⟩) else (kP m c).zp.setWidth 8

/-- The point is the last of its image. -/
def lastP (t : Fin cfg0.N) : Bool := decide ((grid0.coords t 1).val = 7)

/-- The block the body gives at a point. -/
def outBlk (c : Dev nD) (t : Fin cfg0.N) (y : S1x32x320x128.Idx) : BitVec 8 :=
  (kP m c).out (xvOf (iblk m c 4 t) (iblk m c 5 t) (lastP t) ((kP m c).zp.setWidth 8)) y

/-- The scratch once prepared, with the generator's register. -/
def prepared (c : Dev nD) : sProp 𝕄 :=
  iprop(scr (kP m c) c (Memref.whole cc0_scratch0) (Memref.whole cc0_scratch1) (Memref.whole cc0_scratch2) (Memref.whole cc0_scratch3) (Memref.whole cc0_scratch4) ∗ (∃ r, prngReg c r))

/-- The proof data: each input's buffer at its block after the body, the result's at the block the body gives, the scratch prepared from the first point on. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outBlk m c t
  Φ t := if t.val = 0 then Pipeline.ΦA spec0 c else prepared m c
  q w := Pipeline.shareOf spec0 w
  owed _ := 0

theorem phi_zero (c : Dev nD) (s : Fin (cfg0.N + 1)) (h : s.val = 0) : (dats m 0 c).Φ s = Pipeline.ΦA spec0 c := by
  show (if s.val = 0 then Pipeline.ΦA spec0 c else prepared m c) = _
  exact if_pos h
theorem phi_pos (c : Dev nD) (s : Fin (cfg0.N + 1)) (h : ¬ s.val = 0) : (dats m 0 c).Φ s = prepared m c := by
  show (if s.val = 0 then Pipeline.ΦA spec0 c else prepared m c) = _
  exact if_neg h
theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outBlk m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

theorem e4 : ∀ t : Fin cfg0.N, win0_4.index t = ![(grid0.coords t 0).val, (grid0.coords t 1).val, 0, 0] := (by decide +kernel : ∀ t : Fin grid0.N, _)
theorem e5 : ∀ t : Fin cfg0.N, win0_5.index t = ![(grid0.coords t 0).val, min (64 * ((grid0.coords t 1).val + 1)) 511, 0, 0] := (by decide +kernel : ∀ t : Fin grid0.N, _)
theorem e10 : ∀ t : Fin cfg0.N, win0_10.index t = ![(grid0.coords t 0).val, (grid0.coords t 1).val, 0, 0] := (by decide +kernel : ∀ t : Fin grid0.N, _)
theorem first_iff : ∀ t : Fin cfg0.N, ((grid0.coords t 0).val = 0 ∧ (grid0.coords t 1).val = 0) ↔ t.val = 0 := (by decide +kernel : ∀ t : Fin grid0.N, _)

theorem e0 : ∀ t : Fin cfg0.N, win0_0.index t = ![0] := (by decide +kernel : ∀ t : Fin grid0.N, _)
theorem e1 : ∀ t : Fin cfg0.N, win0_1.index t = ![0] := (by decide +kernel : ∀ t : Fin grid0.N, _)
theorem e2 : ∀ t : Fin cfg0.N, win0_2.index t = ![0] := (by decide +kernel : ∀ t : Fin grid0.N, _)
theorem e3 : ∀ t : Fin cfg0.N, win0_3.index t = ![0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)

theorem blk0 (c : Dev nD) (t : Fin cfg0.N) (y : S1.Idx) : (iblk m c 0 t : S1.Idx → BitVec 32) y = (kP m c).zp := by
  have s1 : ∀ a b : S1.Idx, a = b := fun a b => funext fun q => by
    match q with | ⟨0, _⟩ => exact Fin.ext (by have h1 := (a 0).isLt; have h2 := (b 0).isLt; change (a 0).val < 1 at h1; change (b 0).val < 1 at h2; show (a 0).val = (b 0).val; omega)
  exact congrArg (V m c main_v1 : S1.Idx → BitVec 32) (s1 _ _)

theorem blk1 (c : Dev nD) (t : Fin cfg0.N) (y : S1.Idx) : (iblk m c 1 t : S1.Idx → BitVec 32) y = (kP m c).ozp := by
  have s1 : ∀ a b : S1.Idx, a = b := fun a b => funext fun q => by
    match q with | ⟨0, _⟩ => exact Fin.ext (by have h1 := (a 0).isLt; have h2 := (b 0).isLt; change (a 0).val < 1 at h1; change (b 0).val < 1 at h2; show (a 0).val = (b 0).val; omega)
  exact congrArg (V m c main_v2 : S1.Idx → BitVec 32) (s1 _ _)

theorem blk2 (c : Dev nD) (t : Fin cfg0.N) (y : S1.Idx) : (iblk m c 2 t : S1.Idx → BitVec 32) y = (kP m c).lo := by
  have s1 : ∀ a b : S1.Idx, a = b := fun a b => funext fun q => by
    match q with | ⟨0, _⟩ => exact Fin.ext (by have h1 := (a 0).isLt; have h2 := (b 0).isLt; change (a 0).val < 1 at h1; change (b 0).val < 1 at h2; show (a 0).val = (b 0).val; omega)
  exact congrArg (V m c main_v3 : S1.Idx → BitVec 32) (s1 _ _)

theorem blk3 (c : Dev nD) (t : Fin cfg0.N) (y : S1.Idx) : (iblk m c 3 t : S1.Idx → BitVec 32) y = (kP m c).hi := by
  have s1 : ∀ a b : S1.Idx, a = b := fun a b => funext fun q => by
    match q with | ⟨0, _⟩ => exact Fin.ext (by have h1 := (a 0).isLt; have h2 := (b 0).isLt; change (a 0).val < 1 at h1; change (b 0).val < 1 at h2; show (a 0).val = (b 0).val; omega)
  exact congrArg (V m c main_v4 : S1.Idx → BitVec 32) (s1 _ _)

theorem blk6 (c : Dev nD) (t : Fin cfg0.N) (k : Fin 9) (ch : Fin 128) : (iblk m c 6 t : S9x128.Idx → BitVec 32) (ix2 k ch) = (kP m c).w k.val ch.val := by
  refine congrArg (V m c main_v6 : S9x128.Idx → BitVec 32) (?_ : (win0_6.blk t).view.emb (ix2 k ch : S9x128.Idx) = (ix2 ⟨k.val % 9, by omega⟩ ⟨ch.val % 128, by omega⟩ : S9x128.Idx))
  funext a
  have := k.isLt
  have := ch.isLt
  match a with
  | ⟨0, _⟩ => exact Fin.ext (by have : ((win0_6.blk t).view.emb (ix2 k ch : S9x128.Idx) 0 : ℕ) = win0_6.index t 0 * 9 + k.val := by blk_simp <;> rfl
                                rw [e6] at this; exact this.trans (by show 0 * 9 + k.val = k.val % 9; omega))
  | ⟨1, _⟩ => exact Fin.ext (by have : ((win0_6.blk t).view.emb (ix2 k ch : S9x128.Idx) 1 : ℕ) = win0_6.index t 1 * 128 + ch.val := by blk_simp <;> rfl
                                rw [e6] at this; exact this.trans (by show 0 * 128 + ch.val = ch.val % 128; omega))

theorem blk7 (c : Dev nD) (t : Fin cfg0.N) (ch : Fin 128) : (iblk m c 7 t : S1x128.Idx → BitVec 32) (ix2 0 ch) = (kP m c).b ch.val := by
  refine congrArg (V m c main_v7 : S1x128.Idx → BitVec 32) (?_ : (win0_7.blk t).view.emb (ix2 0 ch : S1x128.Idx) = (ix2 0 ⟨ch.val % 128, by omega⟩ : S1x128.Idx))
  funext a
  have := ch.isLt
  match a with
  | ⟨0, _⟩ => exact Fin.ext (by have : ((win0_7.blk t).view.emb (ix2 0 ch : S1x128.Idx) 0 : ℕ) = win0_7.index t 0 * 1 + 0 := by blk_simp <;> rfl
                                rw [e7] at this; exact this.trans (by show 0 * 1 + 0 = 0; omega))
  | ⟨1, _⟩ => exact Fin.ext (by have : ((win0_7.blk t).view.emb (ix2 0 ch : S1x128.Idx) 1 : ℕ) = win0_7.index t 1 * 128 + ch.val := by blk_simp <;> rfl
                                rw [e7] at this; exact this.trans (by show 0 * 128 + ch.val = ch.val % 128; omega))

theorem blk8 (c : Dev nD) (t : Fin cfg0.N) (ch : Fin 128) : (iblk m c 8 t : S1x128.Idx → BitVec 32) (ix2 0 ch) = (kP m c).m ch.val := by
  refine congrArg (V m c main_v8 : S1x128.Idx → BitVec 32) (?_ : (win0_8.blk t).view.emb (ix2 0 ch : S1x128.Idx) = (ix2 0 ⟨ch.val % 128, by omega⟩ : S1x128.Idx))
  funext a
  have := ch.isLt
  match a with
  | ⟨0, _⟩ => exact Fin.ext (by have : ((win0_8.blk t).view.emb (ix2 0 ch : S1x128.Idx) 0 : ℕ) = win0_8.index t 0 * 1 + 0 := by blk_simp <;> rfl
                                rw [e8] at this; exact this.trans (by show 0 * 1 + 0 = 0; omega))
  | ⟨1, _⟩ => exact Fin.ext (by have : ((win0_8.blk t).view.emb (ix2 0 ch : S1x128.Idx) 1 : ℕ) = win0_8.index t 1 * 128 + ch.val := by blk_simp <;> rfl
                                rw [e8] at this; exact this.trans (by show 0 * 128 + ch.val = ch.val % 128; omega))

theorem blk9 (c : Dev nD) (t : Fin cfg0.N) (ch : Fin 128) : (iblk m c 9 t : S1x128.Idx → BitVec 32) (ix2 0 ch) = (kP m c).s ch.val := by
  refine congrArg (V m c main_v9 : S1x128.Idx → BitVec 32) (?_ : (win0_9.blk t).view.emb (ix2 0 ch : S1x128.Idx) = (ix2 0 ⟨ch.val % 128, by omega⟩ : S1x128.Idx))
  funext a
  have := ch.isLt
  match a with
  | ⟨0, _⟩ => exact Fin.ext (by have : ((win0_9.blk t).view.emb (ix2 0 ch : S1x128.Idx) 0 : ℕ) = win0_9.index t 0 * 1 + 0 := by blk_simp <;> rfl
                                rw [e9] at this; exact this.trans (by show 0 * 1 + 0 = 0; omega))
  | ⟨1, _⟩ => exact Fin.ext (by have : ((win0_9.blk t).view.emb (ix2 0 ch : S1x128.Idx) 1 : ℕ) = win0_9.index t 1 * 128 + ch.val := by blk_simp <;> rfl
                                rw [e9] at this; exact this.trans (by show 0 * 128 + ch.val = ch.val % 128; omega))

theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA
  rw [scopedRest0_eq]; simp only [owns_whole]; try rfl

/-- What the body finds of the scratch: prepared, unless the point is the first. -/
def found (P : Pars) (c : Dev nD) (t : Fin cfg0.N) : sProp 𝕄 :=
  iprop(∃ d13 d14 d15 d17, ⌜¬ ((grid0.coords t 0).val = 0 ∧ (grid0.coords t 1).val = 0) → PrepOk P d13 d14 d15 d17⌝ ∗ owns (c : Thread nD τ) (Memref.whole cc0_scratch0) fullShare d13 ∗ owns (c : Thread nD τ) (Memref.whole cc0_scratch1) fullShare d14 ∗ owns (c : Thread nD τ) (Memref.whole cc0_scratch2) fullShare d15 ∗ (∃ d, owns (c : Thread nD τ) (Memref.whole cc0_scratch3) fullShare d) ∗ owns (c : Thread nD τ) (Memref.whole cc0_scratch4) fullShare d17 ∗ (∃ r, prngReg c r))

theorem phi_found (c : Dev nD) (t : Fin cfg0.N) : (dats m 0 c).Φ t.castSucc ⊢ found (kP m c) c t := by
  by_cases h : t.val = 0
  · rw [phi_zero m c t.castSucc h, PhiA_eq]
    unfold found
    iintro ⟨⟨⟨%d0, H0⟩, ⟨%d1, H1⟩, ⟨%d2, H2⟩, H3, ⟨%d4, H4⟩⟩, Hg⟩
    iexists d0, d1, d2, d4
    isplitr; · ipureintro; exact fun hn => absurd ((first_iff t).2 h) hn
    isplitl [H0]; · iexact H0
    isplitl [H1]; · iexact H1
    isplitl [H2]; · iexact H2
    isplitl [H3]; · iexact H3
    isplitl [H4]; · iexact H4
    iexact Hg
  · rw [phi_pos m c t.castSucc h]
    unfold found prepared scr
    iintro ⟨⟨%d0, %d1, %d2, %d4, %hp, H0, H1, H2, H3, H4⟩, Hg⟩
    iexists d0, d1, d2, d4
    isplitr; · ipureintro; exact fun _ => hp
    isplitl [H0]; · iexact H0
    isplitl [H1]; · iexact H1
    isplitl [H2]; · iexact H2
    isplitl [H3]; · iexact H3
    isplitl [H4]; · iexact H4
    iexact Hg

theorem phi_out (c : Dev nD) : (dats m 0 c).Φ (Fin.last cfg0.N) ⊢ Pipeline.ΦA spec0 c := by
  rw [phi_pos m c (Fin.last cfg0.N) (show ¬ (Fin.last cfg0.N).val = 0 by show ¬ grid0.N = 0; rw [N_0]; omega), PhiA_eq]
  unfold prepared scr
  iintro ⟨⟨%d0, %d1, %d2, %d4, %hp, H0, H1, H2, H3, H4⟩, Hg⟩
  isplitl [H0 H1 H2 H3 H4]
  · isplitl [H0]; · iexists _; iexact H0
    isplitl [H1]; · iexists _; iexact H1
    isplitl [H2]; · iexists _; iexact H2
    isplitl [H3]; · iexact H3
    iexists _; iexact H4
  iexact Hg

/-- The library's body obligation. -/
theorem body_obligation (hg : ∀ c, (kP m c).Good) (c : Dev nD) : BodyObligation (dats m 0 c) (defs₀ (F := Ideal)) 𝒱₀ () Set.univ := fun t => by
  rw [bigSep_W0, bigSep_W0]
  sl_whnfR [defs₀, Defs.onTc]
  simp only [before0_0, before0_1, before0_2, before0_3, before0_4, before0_5, before0_6, before0_7, before0_8, before0_9]
  rw [phi_pos m c t.succ (show ¬ t.succ.val = 0 from Nat.succ_ne_zero t.val),
    show (dats m 0 c).owesAt () t.succ = (dats m 0 c).owesAt () t.castSucc from rfl, after0_0, after0_1, after0_2, after0_3, after0_4, after0_5, after0_6, after0_7, after0_8, after0_9, after0_10]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HF := (phi_found m c t) $$ [HP]
  · iexact HP
  unfold found
  icases HF with ⟨%e13, %e14, %e15, %e17, %hp, HS0, HS1, HS2, HS3, HS4, Hg⟩
  iapply (kernelRun_val c _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (kP m c) (hg c) ((kP m c).zp.setWidth 8) rfl (lastP t) (decide_eq_true_iff) (blk0 m c t) (blk1 m c t) (blk2 m c t) (blk3 m c t) (blk6 m c t) (blk7 m c t) (blk8 m c t) (blk9 m c t) e13 e14 e15 e17 hp _)

  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, HS⟩
  isplitl [HS Hg]
  · unfold prepared
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- Every weakly fair execution terminates with every window's array at what the data say. -/
theorem run_main (hg : ∀ c, (kP m c).Good) : θ_run defs (onTc (τ := τ) (main (F := Ideal))) (s₀ m ρ) (Pipeline.FramePost cfgs (dats m) 0 (V m)) :=
  Pipeline.θ_run_frame_track_shared cfgs (dats m) (0 : Fin 1) launch₀0 defs₀ 𝒱₀ m ρ main
    (hbody := fun c => (body_obligation m hg c).loose) (hq := fun _ _ _ => rfl)
    (howed := fun _ _ => rfl) (V := V m) (hmain := hmain m 𝒱₀) (hA := fun _ _ => rfl) (hin := fun c => by rw [phi_zero m c 0 rfl]) (hout := phi_out m)

/-- The result, element by element. -/
def kOut (c : Dev nD) (i : S4x256x320x128.Idx) : BitVec 8 :=
  refY (BitVec.ofInt 32 (∑ t ∈ Finset.range 9, (xg m c (i 0) (2 * (i 1).val + t / 3) ((i 3).val / 2) (2 * (i 2).val + t % 3)).toInt * ((kP m c).w t (i 3).val).toInt) + (kP m c).bias (i 3).val)
    ((kP m c).m (i 3).val) (0#32 - (kP m c).s (i 3).val) (kP m c).ozp (kP m c).lo (kP m c).hi

theorem xv_eq (c : Dev nD) (t : Fin cfg0.N) (r ch col : ℕ) (hr : r ≤ 64) (hch : ch < 64) (hc : col ≤ 640) :
    xvOf (iblk m c 4 t) (iblk m c 5 t) (lastP t) ((kP m c).zp.setWidth 8) r ch col = xg m c (grid0.coords t 0) (64 * (grid0.coords t 1).val + r) ch col := by
  have g1 : (grid0.coords t 1).val < 8 := (grid0.coords t 1).isLt
  unfold xvOf xg lastP
  by_cases h1 : col = 640
  · rw [if_pos h1, dif_neg (by omega)]
  rw [if_neg h1]
  by_cases h2 : r < 64
  · rw [if_pos h2, dif_pos (by omega)]
    refine congrArg (V m c main_v0 : S4x512x64x640.Idx → BitVec 8) ?_
    funext a
    match a with
    | ⟨0, _⟩ => exact Fin.ext (by
        have : ((win0_4.blk t).view.emb (ix4 0 ⟨r % 64, by omega⟩ ⟨ch % 64, by omega⟩ ⟨col % 640, by omega⟩ : S1x64x64x640.Idx) 0 : ℕ) = win0_4.index t 0 * 1 + 0 := by blk_simp <;> rfl
        rw [e4] at this; exact this.trans (by show (grid0.coords t 0).val * 1 + 0 = (grid0.coords t 0).val; omega))
    | ⟨1, _⟩ => exact Fin.ext (by
        have : ((win0_4.blk t).view.emb (ix4 0 ⟨r % 64, by omega⟩ ⟨ch % 64, by omega⟩ ⟨col % 640, by omega⟩ : S1x64x64x640.Idx) 1 : ℕ) = win0_4.index t 1 * 64 + r % 64 := by blk_simp <;> rfl
        rw [e4] at this; exact this.trans (by show (grid0.coords t 1).val * 64 + r % 64 = 64 * (grid0.coords t 1).val + r; omega))
    | ⟨2, _⟩ => exact Fin.ext (by
        have : ((win0_4.blk t).view.emb (ix4 0 ⟨r % 64, by omega⟩ ⟨ch % 64, by omega⟩ ⟨col % 640, by omega⟩ : S1x64x64x640.Idx) 2 : ℕ) = win0_4.index t 2 * 64 + ch % 64 := by blk_simp <;> rfl
        rw [e4] at this; exact this.trans (by show 0 * 64 + ch % 64 = ch % 64; omega))
    | ⟨3, _⟩ => exact Fin.ext (by
        have : ((win0_4.blk t).view.emb (ix4 0 ⟨r % 64, by omega⟩ ⟨ch % 64, by omega⟩ ⟨col % 640, by omega⟩ : S1x64x64x640.Idx) 3 : ℕ) = win0_4.index t 3 * 640 + col % 640 := by blk_simp <;> rfl
        rw [e4] at this; exact this.trans (by show 0 * 640 + col % 640 = col; omega))
  · rw [if_neg h2]
    by_cases h3 : (grid0.coords t 1).val = 7
    · rw [if_pos (by simpa using h3), dif_neg (by omega)]
    · rw [if_neg (by simpa using h3), dif_pos (by omega)]
      refine congrArg (V m c main_v0 : S4x512x64x640.Idx → BitVec 8) ?_
      funext a
      match a with
      | ⟨0, _⟩ => exact Fin.ext (by
          have : ((win0_5.blk t).view.emb (ix4 0 0 ⟨ch % 64, by omega⟩ ⟨col % 640, by omega⟩ : S1x1x64x640.Idx) 0 : ℕ) = win0_5.index t 0 * 1 + 0 := by blk_simp <;> rfl
          rw [e5] at this; exact this.trans (by show (grid0.coords t 0).val * 1 + 0 = (grid0.coords t 0).val; omega))
      | ⟨1, _⟩ => exact Fin.ext (by
          have : ((win0_5.blk t).view.emb (ix4 0 0 ⟨ch % 64, by omega⟩ ⟨col % 640, by omega⟩ : S1x1x64x640.Idx) 1 : ℕ) = win0_5.index t 1 * 1 + 0 := by blk_simp <;> rfl
          rw [e5] at this; exact this.trans (by show min (64 * ((grid0.coords t 1).val + 1)) 511 * 1 + 0 = 64 * (grid0.coords t 1).val + r; omega))
      | ⟨2, _⟩ => exact Fin.ext (by
          have : ((win0_5.blk t).view.emb (ix4 0 0 ⟨ch % 64, by omega⟩ ⟨col % 640, by omega⟩ : S1x1x64x640.Idx) 2 : ℕ) = win0_5.index t 2 * 64 + ch % 64 := by blk_simp <;> rfl
          rw [e5] at this; exact this.trans (by show 0 * 64 + ch % 64 = ch % 64; omega))
      | ⟨3, _⟩ => exact Fin.ext (by
          have : ((win0_5.blk t).view.emb (ix4 0 0 ⟨ch % 64, by omega⟩ ⟨col % 640, by omega⟩ : S1x1x64x640.Idx) 3 : ℕ) = win0_5.index t 3 * 640 + col % 640 := by blk_simp <;> rfl
          rw [e5] at this; exact this.trans (by show 0 * 640 + col % 640 = col; omega))

theorem out_eq (c : Dev nD) : (dats m 0 c).arrAt 10 cfg0.N = kOut m c := by
  refine (dats m 0 c).arrAt_eq_of_covers 10 _ (by decide +kernel) fun t hf y => ?_
  have y1 : (y 1).val < 32 := (y 1).isLt
  have y2 : (y 2).val < 320 := (y 2).isLt
  have y3 : (y 3).val < 128 := (y 3).isLt
  have y0 : (y 0).val < 1 := (y 0).isLt
  have g0 : (grid0.coords t 0).val < 4 := (grid0.coords t 0).isLt
  have g1 : (grid0.coords t 1).val < 8 := (grid0.coords t 1).isLt
  have E : (win0_10.blk t).view.emb (y : S1x32x320x128.Idx) = (ix4 (grid0.coords t 0 : Fin 4) ⟨(grid0.coords t 1).val * 32 + (y 1).val, by omega⟩ ⟨(y 2).val, y2⟩ ⟨(y 3).val, y3⟩ : S4x256x320x128.Idx) := by
    funext a
    match a with
    | ⟨0, _⟩ => exact Fin.ext (by
        have : ((win0_10.blk t).view.emb (y : S1x32x320x128.Idx) 0 : ℕ) = win0_10.index t 0 * 1 + (y 0).val := by blk_simp <;> rfl
        rw [e10] at this; exact this.trans (by show (grid0.coords t 0).val * 1 + (y 0).val = (grid0.coords t 0).val; omega))
    | ⟨1, _⟩ => exact Fin.ext (by
        have : ((win0_10.blk t).view.emb (y : S1x32x320x128.Idx) 1 : ℕ) = win0_10.index t 1 * 32 + (y 1).val := by blk_simp <;> rfl
        rw [e10] at this; exact this)
    | ⟨2, _⟩ => exact Fin.ext (by
        have : ((win0_10.blk t).view.emb (y : S1x32x320x128.Idx) 2 : ℕ) = win0_10.index t 2 * 320 + (y 2).val := by blk_simp <;> rfl
        rw [e10] at this; exact this.trans (by show 0 * 320 + (y 2).val = (y 2).val; omega))
    | ⟨3, _⟩ => exact Fin.ext (by
        have : ((win0_10.blk t).view.emb (y : S1x32x320x128.Idx) 3 : ℕ) = win0_10.index t 3 * 128 + (y 3).val := by blk_simp <;> rfl
        rw [e10] at this; exact this.trans (by show 0 * 128 + (y 3).val = (y 3).val; omega))
  refine Eq.trans ?_ (congrArg (kOut m c) E.symm)
  rw [after0_10]
  show (kP m c).out (xvOf (iblk m c 4 t) (iblk m c 5 t) (lastP t) ((kP m c).zp.setWidth 8)) (y : S1x32x320x128.Idx) = kOut m c (ix4 (grid0.coords t 0 : Fin 4) ⟨(grid0.coords t 1).val * 32 + (y 1).val, by omega⟩ ⟨(y 2).val, y2⟩ ⟨(y 3).val, y3⟩)
  have S : (kP m c).conv (xvOf (iblk m c 4 t) (iblk m c 5 t) (lastP t) ((kP m c).zp.setWidth 8)) (y 1).val (y 2).val (y 3).val = ∑ k ∈ Finset.range 9, (xg m c (grid0.coords t 0) (2 * ((grid0.coords t 1).val * 32 + (y 1).val) + k / 3) ((y 3).val / 2) (2 * (y 2).val + k % 3)).toInt * ((kP m c).w k (y 3).val).toInt := by
    unfold Pars.conv
    refine Finset.sum_congr rfl fun k hk => ?_
    have hk := Finset.mem_range.1 hk
    rw [xv_eq m c t _ _ _ (by omega) (by omega) (by omega)]
    rw [show 64 * (grid0.coords t 1).val + (2 * (y 1).val + k / 3) = 2 * ((grid0.coords t 1).val * 32 + (y 1).val) + k / 3 by omega]
  unfold Pars.out kOut
  refine congrArg (fun z => refY (BitVec.ofInt 32 z + (kP m c).bias (y 3).val) ((kP m c).m (y 3).val) (0#32 - (kP m c).s (y 3).val) (kP m c).ozp (kP m c).lo (kP m c).hi) S

end Cert.KernelIdeal.Val

end
-- ==== Proof.RefReq.lean ====
module

public import proofs.«01_k».proof.Proof.Gen.ReferenceIdeal.Read
public import proofs.«01_k».proof.Proof.Requant
public import Idealize.ShloMosaic.Lib.Pointwise

@[expose] public section

set_option maxRecDepth 16384
set_option maxHeartbeats 1000000

noncomputable section

namespace Cert.ReferenceIdeal.Val

open Cert.ReferenceIdeal Cert.ReferenceIdeal.Gen Cert.ReferenceIdeal.Read Cert.Requant
open Idealize.ShloMosaic Idealize.ShloMosaic.TcCoe Idealize.ShloMosaic.Tactic

theorem ch_118 (i : S4x256x320x128.Idx) : idx_main_v118 (idx_main_v119 i) = (ix1 (i 3) : S128.Idx) := by
  funext q; match q with | ⟨0, _⟩ => rfl
theorem ch_121 (i : S4x256x320x128.Idx) : idx_main_v121 (idx_main_v122 i) = (ix1 (i 3) : S128.Idx) := by
  funext q; match q with | ⟨0, _⟩ => rfl
theorem ch_124 (i : S4x256x320x128.Idx) : idx_main_v124 (idx_main_v125 i) = (ix1 (i 3) : S128.Idx) := by
  funext q; match q with | ⟨0, _⟩ => rfl
theorem ch_135 (i : S4x256x320x128.Idx) : idx_main_v135 (idx_main_v136 i) = (ix1 (i 3) : S128.Idx) := by
  funext q; match q with | ⟨0, _⟩ => rfl
theorem ch_163 (i : S4x256x320x128.Idx) : idx_main_v163 (idx_main_v164 i) = (ix1 (i 3) : S128.Idx) := by
  funext q; match q with | ⟨0, _⟩ => rfl
theorem ch_171 (i : S4x256x320x128.Idx) : idx_main_v171 (idx_main_v172 i) = (ix1 (i 3) : S128.Idx) := by
  funext q; match q with | ⟨0, _⟩ => rfl
theorem ch_174 (i : S4x256x320x128.Idx) : idx_main_v174 (idx_main_v175 i) = (ix1 (i 3) : S128.Idx) := by
  funext q; match q with | ⟨0, _⟩ => rfl

/-- The reference's result at an index, from its accumulator there. -/
theorem ref_elem (x0 : (⟨S4x512x640x64, .i8⟩ : BufTy).Contents (Elt Ideal)) (x1 : (⟨S_, .i32⟩ : BufTy).Contents (Elt Ideal)) (x2 : (⟨S3x3x128, .i8⟩ : BufTy).Contents (Elt Ideal)) (x3 x4 x5 : (⟨S128, .i32⟩ : BufTy).Contents (Elt Ideal)) (x6 x7 x8 : (⟨S_, .i32⟩ : BufTy).Contents (Elt Ideal)) (i : S4x256x320x128.Idx) :
    val_main_v183 (F := Ideal) x0 x1 x2 x3 x4 x5 x6 x7 x8 i = refY (val_main_v102 (F := Ideal) x0 x1 x2 x3 i) (x4 (ix1 (i 3))) (-(x5 (ix1 (i 3)))) (x6 ix0) (x7 ix0) (x8 ix0) := by
  have s0 : ∀ j : S_.Idx, j = ix0 := fun j => funext fun q => q.elim0
  simp only [val_main_c_0_apply, val_main_v103_apply, val_main_v104_apply, val_main_v105_apply, val_main_c_1_apply, val_main_v106_apply, val_main_v107_apply, val_main_v108_apply, val_main_v109_apply, val_main_c_2_apply, val_main_v110_apply, val_main_v111_apply, val_main_c_3_apply, val_main_v112_apply, val_main_v113_apply, val_main_c_4_apply, val_main_v114_apply, val_main_v115_apply, val_main_c_5_apply, val_main_v116_apply, val_main_v117_apply, val_main_v118_apply, val_main_v119_apply, val_main_v120_apply, val_main_v121_apply, val_main_v122_apply, val_main_v123_apply, val_main_v124_apply, val_main_v125_apply, val_main_v126_apply, val_main_v127_apply, val_main_v128_apply, val_main_v129_apply, val_main_c_6_apply, val_main_v130_apply, val_main_v131_apply, val_main_v132_apply, val_main_v133_apply, val_main_v134_apply, val_main_v135_apply, val_main_v136_apply, val_main_v137_apply, val_main_c_7_apply, val_main_v138_apply, val_main_v139_apply, val_main_v140_apply, val_main_c_8_apply, val_main_v141_apply, val_main_v142_apply, val_main_v143_apply, val_main_v144_apply, val_main_c_9_apply, val_main_c_10_apply, val_main_call2_v0_apply, val_main_call2_v1_apply, val_main_v145_apply, val_main_v146_apply, val_main_v147_apply, val_main_v148_apply, val_main_v149_apply, val_main_c_11_apply, val_main_v150_apply, val_main_v151_apply, val_main_c_12_apply, val_main_v152_apply, val_main_v153_apply, val_main_v154_apply, val_main_v155_apply, val_main_v156_apply, val_main_v157_apply, val_main_v158_apply, val_main_c_13_apply, val_main_v159_apply, val_main_v160_apply, val_main_c_14_apply, val_main_v161_apply, val_main_v162_apply, val_main_v163_apply, val_main_v164_apply, val_main_v165_apply, val_main_c_15_apply, val_main_v166_apply, val_main_v167_apply, val_main_c_16_apply, val_main_v168_apply, val_main_v169_apply, val_main_v170_apply, val_main_v171_apply, val_main_v172_apply, val_main_v173_apply, val_main_v174_apply, val_main_v175_apply, val_main_v176_apply, val_main_v177_apply, val_main_v178_apply, val_main_v179_apply, val_main_v180_apply, val_main_v181_apply, val_main_call4_v0_apply, val_main_call4_v1_apply, val_main_call4_v2_apply, val_main_v182_apply, val_main_v183_apply, ch_118, ch_121, ch_124, ch_135, ch_163, ch_171, ch_174]
  rw [s0 (idx_main_v180 i), s0 (idx_main_call4_v0 i), s0 (idx_main_call4_v2 i)]
  generalize val_main_v102 (F := Ideal) x0 x1 x2 x3 i = a

  rfl

end Cert.ReferenceIdeal.Val
end
-- ==== Proof.RefAcc.lean ====
module

public import proofs.«01_k».proof.Proof.Gen.ReferenceIdeal.Read
public import proofs.«01_k».proof.Proof.Fast
public import Idealize.ShloMosaic.Lib.Pointwise
public import Idealize.ShloMosaic.Lib.KernelVsHost

@[expose] public section

set_option maxRecDepth 16384
set_option maxHeartbeats 400000

noncomputable section

namespace Cert.ReferenceIdeal.Val

open Cert.ReferenceIdeal Cert.ReferenceIdeal.Gen Cert.ReferenceIdeal.Read Cert.Requant
open Idealize.ShloMosaic Idealize.ShloMosaic.TcCoe Idealize.ShloMosaic.Tactic

variable (x0 : (⟨S4x512x640x64, .i8⟩ : BufTy).Contents (Elt Ideal)) (x1 : (⟨S_, .i32⟩ : BufTy).Contents (Elt Ideal)) (x2 : (⟨S3x3x128, .i8⟩ : BufTy).Contents (Elt Ideal)) (x3 : (⟨S128, .i32⟩ : BufTy).Contents (Elt Ideal))

/-- The padded input less its zero point. -/
def xz (x0 : (⟨S4x512x640x64, .i8⟩ : BufTy).Contents (Elt Ideal)) (x1 : (⟨S_, .i32⟩ : BufTy).Contents (Elt Ideal)) (n : Fin 4) (r c : ℕ) (ch : Fin 64) : ℤ :=
  if h : r < 512 ∧ c < 640 then (x0 (ix4 n ⟨r, h.1⟩ ⟨c, h.2⟩ ch) : BitVec 8).toInt - (x1 ix0 : BitVec 32).toInt else 0

theorem ext8 (b : BitVec 8) : (b.signExtend 32).toInt = b.toInt := BitVec.toInt_signExtend_of_le (by omega)

theorem v4_at (j : S4x512x640x64.Idx) : val_main_v4 (F := Ideal) x0 x1 j = (((x0 j : BitVec 8).toInt - (x1 ix0 : BitVec 32).toInt : ℤ) : ℝ) := by
  have s0 : ∀ j : S_.Idx, j = ix0 := fun j => funext fun q => q.elim0
  rw [val_main_v4_apply, val_main_v3_apply]
  have e1 : val_main_v1 (F := Ideal) x0 j = ((((x0 j : BitVec 8).signExtend 32).toInt : ℝ) : EReal) := rfl
  have e2 : ∀ k, val_main_v2 (F := Ideal) x1 k = (((x1 k : BitVec 32).toInt : ℝ) : EReal) := fun k => rfl
  rw [e1, e2, ext8, s0 (idx_main_v3 j)]
  show (_ : EReal) - _ = _
  push_cast
  rfl

theorem v7_at (n : Fin 4) (r : Fin 513) (c : Fin 641) (ch : Fin 64) : val_main_v7 (F := Ideal) x0 x1 (ix4 n r c ch) = ((xz x0 x1 n r.val c.val ch : ℝ) : EReal) := by
  unfold xz val_main_v7
  have z0 : ∀ j, val_main_call0_v0 (F := Ideal) j = ((0 : ℤ) : ℝ) := fun j => by
    show (((0#32 : BitVec 32).toInt : ℝ) : EReal) = _
    rfl
  by_cases h : r.val < 512 ∧ c.val < 640
  · rw [dif_pos h, pad_apply_of_inside _ _ _ _ _ _ _ _ (ix4 n ⟨r.val, h.1⟩ ⟨c.val, h.2⟩ ch : S4x512x640x64.Idx), v4_at]
    intro (a : Fin 4)
    match a with
    | ⟨0, _⟩ => show n.val = 0 + n.val * 1; omega
    | ⟨1, _⟩ => show r.val = 0 + r.val * 1; omega
    | ⟨2, _⟩ => show c.val = 0 + c.val * 1; omega
    | ⟨3, _⟩ => show ch.val = 0 + ch.val * 1; omega
  · rw [dif_neg h]
    by_cases hr : r.val < 512
    · rw [pad_apply_of_not_inside _ _ _ _ _ _ _ _ (⟨2, by decide⟩ : Fin 4), z0]
      show ¬ (0 ≤ c.val ∧ (c.val - 0) % 1 = 0 ∧ (c.val - 0) / 1 < 640)
      omega
    · rw [pad_apply_of_not_inside _ _ _ _ _ _ _ _ (⟨1, by decide⟩ : Fin 4), z0]
      show ¬ (0 ≤ r.val ∧ (r.val - 0) % 1 = 0 ∧ (r.val - 0) / 1 < 512)
      omega

variable (n : Fin 4) (r : Fin 256) (w : Fin 320) (c : Fin 128)

/-- Which channel of the input a channel of the output reads. -/
theorem src : idx_main_v10 (idx_main_v11 (idx_main_v12 (ix4 n r w c))) = (ix4 n r w (⟨c.val / 2, by omega⟩ : Fin 64) : S4x256x320x64.Idx) := by
  have := n.isLt; have := r.isLt; have := w.isLt; have := c.isLt
  funext a
  match a with
  | ⟨0, _⟩ => exact Fin.ext (by show (((n.val * 256 + r.val) * 320 + w.val) * 128 + c.val) / 10485760 = n.val; omega)
  | ⟨1, _⟩ => exact Fin.ext (by show (((n.val * 256 + r.val) * 320 + w.val) * 128 + c.val) / 40960 % 256 = r.val; omega)
  | ⟨2, _⟩ => exact Fin.ext (by show (((n.val * 256 + r.val) * 320 + w.val) * 128 + c.val) / 128 % 320 = w.val; omega)
  | ⟨3, _⟩ => exact Fin.ext (by show (((n.val * 256 + r.val) * 320 + w.val) * 128 + c.val) / 2 % 64 = c.val / 2; omega)

theorem x_0 : val_main_v12 (F := Ideal) x0 x1 (ix4 n r w c) = ((xz x0 x1 n (2 * r.val + 0) (2 * w.val + 0) ⟨c.val / 2, by omega⟩ : ℝ) : EReal) := by
  rw [val_main_v12_apply, val_main_v11_apply, val_main_v10_apply]
  have e : idx_main_v10 (idx_main_v11 (idx_main_v12 (ix4 n r w c))) = (ix4 n r w (⟨c.val / 2, by omega⟩ : Fin 64) : S4x256x320x64.Idx) := src n r w c
  rw [e]
  refine Eq.trans ?_ (v7_at x0 x1 n ⟨2 * r.val + 0, by omega⟩ ⟨2 * w.val + 0, by omega⟩ ⟨c.val / 2, by omega⟩)
  unfold val_main_v9
  rw [Host.slice_apply]
  congr 1
  funext a
  match a with
  | ⟨0, _⟩ => exact Fin.ext (by show 0 + 1 * n.val = n.val; omega)
  | ⟨1, _⟩ => exact Fin.ext (by show 0 + 2 * r.val = 2 * r.val + 0; omega)
  | ⟨2, _⟩ => exact Fin.ext (by show 0 + 2 * w.val = 2 * w.val + 0; omega)
  | ⟨3, _⟩ => exact Fin.ext (by show 0 + 1 * (c.val / 2) = c.val / 2; omega)

theorem w_0 : val_main_v16 (F := Ideal) x2 (ix4 n r w c) = (((x2 (ix3 0 0 c) : BitVec 8).toInt : ℝ) : EReal) := by
  rw [val_main_v16_apply, val_main_v15_apply, val_main_v14_apply, val_main_v13_apply]
  have e : idx_main_v13 (idx_main_v14 (idx_main_v15 (idx_main_v16 (ix4 n r w c)))) = (ix3 0 0 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 0 0 c) : BitVec 8).signExtend 32).toInt : ℝ) : EReal) = _
  rw [ext8]

theorem x_1 : val_main_v22 (F := Ideal) x0 x1 (ix4 n r w c) = ((xz x0 x1 n (2 * r.val + 0) (2 * w.val + 1) ⟨c.val / 2, by omega⟩ : ℝ) : EReal) := by
  rw [val_main_v22_apply, val_main_v21_apply, val_main_v20_apply]
  have e : idx_main_v20 (idx_main_v21 (idx_main_v22 (ix4 n r w c))) = (ix4 n r w (⟨c.val / 2, by omega⟩ : Fin 64) : S4x256x320x64.Idx) := src n r w c
  rw [e]
  refine Eq.trans ?_ (v7_at x0 x1 n ⟨2 * r.val + 0, by omega⟩ ⟨2 * w.val + 1, by omega⟩ ⟨c.val / 2, by omega⟩)
  unfold val_main_v19
  rw [Host.slice_apply]
  congr 1
  funext a
  match a with
  | ⟨0, _⟩ => exact Fin.ext (by show 0 + 1 * n.val = n.val; omega)
  | ⟨1, _⟩ => exact Fin.ext (by show 0 + 2 * r.val = 2 * r.val + 0; omega)
  | ⟨2, _⟩ => exact Fin.ext (by show 1 + 2 * w.val = 2 * w.val + 1; omega)
  | ⟨3, _⟩ => exact Fin.ext (by show 0 + 1 * (c.val / 2) = c.val / 2; omega)

theorem w_1 : val_main_v26 (F := Ideal) x2 (ix4 n r w c) = (((x2 (ix3 0 1 c) : BitVec 8).toInt : ℝ) : EReal) := by
  rw [val_main_v26_apply, val_main_v25_apply, val_main_v24_apply, val_main_v23_apply]
  have e : idx_main_v23 (idx_main_v24 (idx_main_v25 (idx_main_v26 (ix4 n r w c)))) = (ix3 0 1 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 0 1 c) : BitVec 8).signExtend 32).toInt : ℝ) : EReal) = _
  rw [ext8]

theorem x_2 : val_main_v32 (F := Ideal) x0 x1 (ix4 n r w c) = ((xz x0 x1 n (2 * r.val + 0) (2 * w.val + 2) ⟨c.val / 2, by omega⟩ : ℝ) : EReal) := by
  rw [val_main_v32_apply, val_main_v31_apply, val_main_v30_apply]
  have e : idx_main_v30 (idx_main_v31 (idx_main_v32 (ix4 n r w c))) = (ix4 n r w (⟨c.val / 2, by omega⟩ : Fin 64) : S4x256x320x64.Idx) := src n r w c
  rw [e]
  refine Eq.trans ?_ (v7_at x0 x1 n ⟨2 * r.val + 0, by omega⟩ ⟨2 * w.val + 2, by omega⟩ ⟨c.val / 2, by omega⟩)
  unfold val_main_v29
  rw [Host.slice_apply]
  congr 1
  funext a
  match a with
  | ⟨0, _⟩ => exact Fin.ext (by show 0 + 1 * n.val = n.val; omega)
  | ⟨1, _⟩ => exact Fin.ext (by show 0 + 2 * r.val = 2 * r.val + 0; omega)
  | ⟨2, _⟩ => exact Fin.ext (by show 2 + 2 * w.val = 2 * w.val + 2; omega)
  | ⟨3, _⟩ => exact Fin.ext (by show 0 + 1 * (c.val / 2) = c.val / 2; omega)

theorem w_2 : val_main_v36 (F := Ideal) x2 (ix4 n r w c) = (((x2 (ix3 0 2 c) : BitVec 8).toInt : ℝ) : EReal) := by
  rw [val_main_v36_apply, val_main_v35_apply, val_main_v34_apply, val_main_v33_apply]
  have e : idx_main_v33 (idx_main_v34 (idx_main_v35 (idx_main_v36 (ix4 n r w c)))) = (ix3 0 2 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 0 2 c) : BitVec 8).signExtend 32).toInt : ℝ) : EReal) = _
  rw [ext8]

theorem x_3 : val_main_v42 (F := Ideal) x0 x1 (ix4 n r w c) = ((xz x0 x1 n (2 * r.val + 1) (2 * w.val + 0) ⟨c.val / 2, by omega⟩ : ℝ) : EReal) := by
  rw [val_main_v42_apply, val_main_v41_apply, val_main_v40_apply]
  have e : idx_main_v40 (idx_main_v41 (idx_main_v42 (ix4 n r w c))) = (ix4 n r w (⟨c.val / 2, by omega⟩ : Fin 64) : S4x256x320x64.Idx) := src n r w c
  rw [e]
  refine Eq.trans ?_ (v7_at x0 x1 n ⟨2 * r.val + 1, by omega⟩ ⟨2 * w.val + 0, by omega⟩ ⟨c.val / 2, by omega⟩)
  unfold val_main_v39
  rw [Host.slice_apply]
  congr 1
  funext a
  match a with
  | ⟨0, _⟩ => exact Fin.ext (by show 0 + 1 * n.val = n.val; omega)
  | ⟨1, _⟩ => exact Fin.ext (by show 1 + 2 * r.val = 2 * r.val + 1; omega)
  | ⟨2, _⟩ => exact Fin.ext (by show 0 + 2 * w.val = 2 * w.val + 0; omega)
  | ⟨3, _⟩ => exact Fin.ext (by show 0 + 1 * (c.val / 2) = c.val / 2; omega)

theorem w_3 : val_main_v46 (F := Ideal) x2 (ix4 n r w c) = (((x2 (ix3 1 0 c) : BitVec 8).toInt : ℝ) : EReal) := by
  rw [val_main_v46_apply, val_main_v45_apply, val_main_v44_apply, val_main_v43_apply]
  have e : idx_main_v43 (idx_main_v44 (idx_main_v45 (idx_main_v46 (ix4 n r w c)))) = (ix3 1 0 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 1 0 c) : BitVec 8).signExtend 32).toInt : ℝ) : EReal) = _
  rw [ext8]

theorem x_4 : val_main_v52 (F := Ideal) x0 x1 (ix4 n r w c) = ((xz x0 x1 n (2 * r.val + 1) (2 * w.val + 1) ⟨c.val / 2, by omega⟩ : ℝ) : EReal) := by
  rw [val_main_v52_apply, val_main_v51_apply, val_main_v50_apply]
  have e : idx_main_v50 (idx_main_v51 (idx_main_v52 (ix4 n r w c))) = (ix4 n r w (⟨c.val / 2, by omega⟩ : Fin 64) : S4x256x320x64.Idx) := src n r w c
  rw [e]
  refine Eq.trans ?_ (v7_at x0 x1 n ⟨2 * r.val + 1, by omega⟩ ⟨2 * w.val + 1, by omega⟩ ⟨c.val / 2, by omega⟩)
  unfold val_main_v49
  rw [Host.slice_apply]
  congr 1
  funext a
  match a with
  | ⟨0, _⟩ => exact Fin.ext (by show 0 + 1 * n.val = n.val; omega)
  | ⟨1, _⟩ => exact Fin.ext (by show 1 + 2 * r.val = 2 * r.val + 1; omega)
  | ⟨2, _⟩ => exact Fin.ext (by show 1 + 2 * w.val = 2 * w.val + 1; omega)
  | ⟨3, _⟩ => exact Fin.ext (by show 0 + 1 * (c.val / 2) = c.val / 2; omega)

theorem w_4 : val_main_v56 (F := Ideal) x2 (ix4 n r w c) = (((x2 (ix3 1 1 c) : BitVec 8).toInt : ℝ) : EReal) := by
  rw [val_main_v56_apply, val_main_v55_apply, val_main_v54_apply, val_main_v53_apply]
  have e : idx_main_v53 (idx_main_v54 (idx_main_v55 (idx_main_v56 (ix4 n r w c)))) = (ix3 1 1 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 1 1 c) : BitVec 8).signExtend 32).toInt : ℝ) : EReal) = _
  rw [ext8]

theorem x_5 : val_main_v62 (F := Ideal) x0 x1 (ix4 n r w c) = ((xz x0 x1 n (2 * r.val + 1) (2 * w.val + 2) ⟨c.val / 2, by omega⟩ : ℝ) : EReal) := by
  rw [val_main_v62_apply, val_main_v61_apply, val_main_v60_apply]
  have e : idx_main_v60 (idx_main_v61 (idx_main_v62 (ix4 n r w c))) = (ix4 n r w (⟨c.val / 2, by omega⟩ : Fin 64) : S4x256x320x64.Idx) := src n r w c
  rw [e]
  refine Eq.trans ?_ (v7_at x0 x1 n ⟨2 * r.val + 1, by omega⟩ ⟨2 * w.val + 2, by omega⟩ ⟨c.val / 2, by omega⟩)
  unfold val_main_v59
  rw [Host.slice_apply]
  congr 1
  funext a
  match a with
  | ⟨0, _⟩ => exact Fin.ext (by show 0 + 1 * n.val = n.val; omega)
  | ⟨1, _⟩ => exact Fin.ext (by show 1 + 2 * r.val = 2 * r.val + 1; omega)
  | ⟨2, _⟩ => exact Fin.ext (by show 2 + 2 * w.val = 2 * w.val + 2; omega)
  | ⟨3, _⟩ => exact Fin.ext (by show 0 + 1 * (c.val / 2) = c.val / 2; omega)

theorem w_5 : val_main_v66 (F := Ideal) x2 (ix4 n r w c) = (((x2 (ix3 1 2 c) : BitVec 8).toInt : ℝ) : EReal) := by
  rw [val_main_v66_apply, val_main_v65_apply, val_main_v64_apply, val_main_v63_apply]
  have e : idx_main_v63 (idx_main_v64 (idx_main_v65 (idx_main_v66 (ix4 n r w c)))) = (ix3 1 2 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 1 2 c) : BitVec 8).signExtend 32).toInt : ℝ) : EReal) = _
  rw [ext8]

theorem x_6 : val_main_v72 (F := Ideal) x0 x1 (ix4 n r w c) = ((xz x0 x1 n (2 * r.val + 2) (2 * w.val + 0) ⟨c.val / 2, by omega⟩ : ℝ) : EReal) := by
  rw [val_main_v72_apply, val_main_v71_apply, val_main_v70_apply]
  have e : idx_main_v70 (idx_main_v71 (idx_main_v72 (ix4 n r w c))) = (ix4 n r w (⟨c.val / 2, by omega⟩ : Fin 64) : S4x256x320x64.Idx) := src n r w c
  rw [e]
  refine Eq.trans ?_ (v7_at x0 x1 n ⟨2 * r.val + 2, by omega⟩ ⟨2 * w.val + 0, by omega⟩ ⟨c.val / 2, by omega⟩)
  unfold val_main_v69
  rw [Host.slice_apply]
  congr 1
  funext a
  match a with
  | ⟨0, _⟩ => exact Fin.ext (by show 0 + 1 * n.val = n.val; omega)
  | ⟨1, _⟩ => exact Fin.ext (by show 2 + 2 * r.val = 2 * r.val + 2; omega)
  | ⟨2, _⟩ => exact Fin.ext (by show 0 + 2 * w.val = 2 * w.val + 0; omega)
  | ⟨3, _⟩ => exact Fin.ext (by show 0 + 1 * (c.val / 2) = c.val / 2; omega)

theorem w_6 : val_main_v76 (F := Ideal) x2 (ix4 n r w c) = (((x2 (ix3 2 0 c) : BitVec 8).toInt : ℝ) : EReal) := by
  rw [val_main_v76_apply, val_main_v75_apply, val_main_v74_apply, val_main_v73_apply]
  have e : idx_main_v73 (idx_main_v74 (idx_main_v75 (idx_main_v76 (ix4 n r w c)))) = (ix3 2 0 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 2 0 c) : BitVec 8).signExtend 32).toInt : ℝ) : EReal) = _
  rw [ext8]

theorem x_7 : val_main_v82 (F := Ideal) x0 x1 (ix4 n r w c) = ((xz x0 x1 n (2 * r.val + 2) (2 * w.val + 1) ⟨c.val / 2, by omega⟩ : ℝ) : EReal) := by
  rw [val_main_v82_apply, val_main_v81_apply, val_main_v80_apply]
  have e : idx_main_v80 (idx_main_v81 (idx_main_v82 (ix4 n r w c))) = (ix4 n r w (⟨c.val / 2, by omega⟩ : Fin 64) : S4x256x320x64.Idx) := src n r w c
  rw [e]
  refine Eq.trans ?_ (v7_at x0 x1 n ⟨2 * r.val + 2, by omega⟩ ⟨2 * w.val + 1, by omega⟩ ⟨c.val / 2, by omega⟩)
  unfold val_main_v79
  rw [Host.slice_apply]
  congr 1
  funext a
  match a with
  | ⟨0, _⟩ => exact Fin.ext (by show 0 + 1 * n.val = n.val; omega)
  | ⟨1, _⟩ => exact Fin.ext (by show 2 + 2 * r.val = 2 * r.val + 2; omega)
  | ⟨2, _⟩ => exact Fin.ext (by show 1 + 2 * w.val = 2 * w.val + 1; omega)
  | ⟨3, _⟩ => exact Fin.ext (by show 0 + 1 * (c.val / 2) = c.val / 2; omega)

theorem w_7 : val_main_v86 (F := Ideal) x2 (ix4 n r w c) = (((x2 (ix3 2 1 c) : BitVec 8).toInt : ℝ) : EReal) := by
  rw [val_main_v86_apply, val_main_v85_apply, val_main_v84_apply, val_main_v83_apply]
  have e : idx_main_v83 (idx_main_v84 (idx_main_v85 (idx_main_v86 (ix4 n r w c)))) = (ix3 2 1 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 2 1 c) : BitVec 8).signExtend 32).toInt : ℝ) : EReal) = _
  rw [ext8]

theorem x_8 : val_main_v92 (F := Ideal) x0 x1 (ix4 n r w c) = ((xz x0 x1 n (2 * r.val + 2) (2 * w.val + 2) ⟨c.val / 2, by omega⟩ : ℝ) : EReal) := by
  rw [val_main_v92_apply, val_main_v91_apply, val_main_v90_apply]
  have e : idx_main_v90 (idx_main_v91 (idx_main_v92 (ix4 n r w c))) = (ix4 n r w (⟨c.val / 2, by omega⟩ : Fin 64) : S4x256x320x64.Idx) := src n r w c
  rw [e]
  refine Eq.trans ?_ (v7_at x0 x1 n ⟨2 * r.val + 2, by omega⟩ ⟨2 * w.val + 2, by omega⟩ ⟨c.val / 2, by omega⟩)
  unfold val_main_v89
  rw [Host.slice_apply]
  congr 1
  funext a
  match a with
  | ⟨0, _⟩ => exact Fin.ext (by show 0 + 1 * n.val = n.val; omega)
  | ⟨1, _⟩ => exact Fin.ext (by show 2 + 2 * r.val = 2 * r.val + 2; omega)
  | ⟨2, _⟩ => exact Fin.ext (by show 2 + 2 * w.val = 2 * w.val + 2; omega)
  | ⟨3, _⟩ => exact Fin.ext (by show 0 + 1 * (c.val / 2) = c.val / 2; omega)

theorem w_8 : val_main_v96 (F := Ideal) x2 (ix4 n r w c) = (((x2 (ix3 2 2 c) : BitVec 8).toInt : ℝ) : EReal) := by
  rw [val_main_v96_apply, val_main_v95_apply, val_main_v94_apply, val_main_v93_apply]
  have e : idx_main_v93 (idx_main_v94 (idx_main_v95 (idx_main_v96 (ix4 n r w c)))) = (ix3 2 2 c : S3x3x128.Idx) := by
    funext a
    match a with
    | ⟨0, _⟩ => rfl
    | ⟨1, _⟩ => rfl
    | ⟨2, _⟩ => exact Fin.ext (by have := c.isLt; show c.val % 128 = c.val; omega)
  rw [e, val_main_v6_apply, val_main_v5_apply]
  show ((((x2 (ix3 2 2 c) : BitVec 8).signExtend 32).toInt : ℝ) : EReal) = _
  rw [ext8]

/-- The reference's sum. -/
def rsum (x0 : (⟨S4x512x640x64, .i8⟩ : BufTy).Contents (Elt Ideal)) (x1 : (⟨S_, .i32⟩ : BufTy).Contents (Elt Ideal)) (x2 : (⟨S3x3x128, .i8⟩ : BufTy).Contents (Elt Ideal)) (n : Fin 4) (r : Fin 256) (w : Fin 320) (c : Fin 128) : ℤ := xz x0 x1 n (2 * r.val + 0) (2 * w.val + 0) ⟨c.val / 2, by omega⟩ * (x2 (ix3 0 0 c) : BitVec 8).toInt + xz x0 x1 n (2 * r.val + 0) (2 * w.val + 1) ⟨c.val / 2, by omega⟩ * (x2 (ix3 0 1 c) : BitVec 8).toInt + xz x0 x1 n (2 * r.val + 0) (2 * w.val + 2) ⟨c.val / 2, by omega⟩ * (x2 (ix3 0 2 c) : BitVec 8).toInt + xz x0 x1 n (2 * r.val + 1) (2 * w.val + 0) ⟨c.val / 2, by omega⟩ * (x2 (ix3 1 0 c) : BitVec 8).toInt + xz x0 x1 n (2 * r.val + 1) (2 * w.val + 1) ⟨c.val / 2, by omega⟩ * (x2 (ix3 1 1 c) : BitVec 8).toInt + xz x0 x1 n (2 * r.val + 1) (2 * w.val + 2) ⟨c.val / 2, by omega⟩ * (x2 (ix3 1 2 c) : BitVec 8).toInt + xz x0 x1 n (2 * r.val + 2) (2 * w.val + 0) ⟨c.val / 2, by omega⟩ * (x2 (ix3 2 0 c) : BitVec 8).toInt + xz x0 x1 n (2 * r.val + 2) (2 * w.val + 1) ⟨c.val / 2, by omega⟩ * (x2 (ix3 2 1 c) : BitVec 8).toInt + xz x0 x1 n (2 * r.val + 2) (2 * w.val + 2) ⟨c.val / 2, by omega⟩ * (x2 (ix3 2 2 c) : BitVec 8).toInt

theorem v98_at : val_main_v98 (F := Ideal) x0 x1 x2 (ix4 n r w c) = ((rsum x0 x1 x2 n r w c : ℝ) : EReal) := by
  have a0 : val_main_v8 (F := Ideal) (ix4 n r w c) = ((0 : ℝ) : EReal) := by
    rw [val_main_v8_apply, val_main_cst_apply]
    exact Ideal.ofBits_zero_f32
  rw [val_main_v98_apply, val_main_v97_apply, val_main_v88_apply, val_main_v87_apply, val_main_v78_apply, val_main_v77_apply, val_main_v68_apply, val_main_v67_apply, val_main_v58_apply, val_main_v57_apply, val_main_v48_apply, val_main_v47_apply, val_main_v38_apply, val_main_v37_apply, val_main_v28_apply, val_main_v27_apply, val_main_v18_apply, val_main_v17_apply, a0, x_0, w_0, x_1, w_1, x_2, w_2, x_3, w_3, x_4, w_4, x_5, w_5, x_6, w_6, x_7, w_7, x_8, w_8]
  simp only [show ∀ a b : EReal, FloatOps.addf (F := Ideal) (φ := .f32) a b = a + b from fun _ _ => rfl, show ∀ a b : EReal, FloatOps.mulf (F := Ideal) (φ := .f32) a b = a * b from fun _ _ => rfl]
  unfold rsum
  push_cast
  simp only [EReal.coe_zero, zero_add]

theorem xz_bound (h : -128 ≤ (x1 ix0 : BitVec 32).toInt ∧ (x1 ix0 : BitVec 32).toInt ≤ 127) (n : Fin 4) (a b : ℕ) (ch : Fin 64) : -256 ≤ xz x0 x1 n a b ch ∧ xz x0 x1 n a b ch ≤ 256 := by
  unfold xz
  split_ifs with hh
  · have h1 := BitVec.le_toInt (x0 (ix4 n ⟨a, hh.1⟩ ⟨b, hh.2⟩ ch) : BitVec 8)
    have h2 := BitVec.toInt_lt (x := (x0 (ix4 n ⟨a, hh.1⟩ ⟨b, hh.2⟩ ch) : BitVec 8))
    norm_num at h1 h2
    omega
  · omega

theorem v102_at (h : -128 ≤ (x1 ix0 : BitVec 32).toInt ∧ (x1 ix0 : BitVec 32).toInt ≤ 127) :
    val_main_v102 (F := Ideal) x0 x1 x2 x3 (ix4 n r w c) = BitVec.ofInt 32 (rsum x0 x1 x2 n r w c) + x3 (ix1 c) := by
  rw [val_main_v102_apply, val_main_v99_apply, v98_at, val_main_v101_apply, val_main_v100_apply]
  have e : idx_main_v100 (idx_main_v101 (ix4 n r w c)) = (ix1 c : S128.Idx) := by
    funext q; match q with | ⟨0, _⟩ => rfl
  rw [e]
  show Ideal.fptosi 32 _ + _ = _
  rw [fptosi_int]
  have key : ∀ (a : ℤ) (b : BitVec 8), -256 ≤ a ∧ a ≤ 256 → -32768 ≤ a * b.toInt ∧ a * b.toInt ≤ 32768 := by
    intro a b ⟨p, q⟩
    have h1 := BitVec.le_toInt b
    have h2 := BitVec.toInt_lt (x := b)
    norm_num at h1 h2
    constructor <;> nlinarith
  unfold rsum
  have k0 := key _ (x2 (ix3 0 0 c) : BitVec 8) (xz_bound x0 x1 h n (2 * r.val + 0) (2 * w.val + 0) ⟨c.val / 2, by omega⟩)
  have k1 := key _ (x2 (ix3 0 1 c) : BitVec 8) (xz_bound x0 x1 h n (2 * r.val + 0) (2 * w.val + 1) ⟨c.val / 2, by omega⟩)
  have k2 := key _ (x2 (ix3 0 2 c) : BitVec 8) (xz_bound x0 x1 h n (2 * r.val + 0) (2 * w.val + 2) ⟨c.val / 2, by omega⟩)
  have k3 := key _ (x2 (ix3 1 0 c) : BitVec 8) (xz_bound x0 x1 h n (2 * r.val + 1) (2 * w.val + 0) ⟨c.val / 2, by omega⟩)
  have k4 := key _ (x2 (ix3 1 1 c) : BitVec 8) (xz_bound x0 x1 h n (2 * r.val + 1) (2 * w.val + 1) ⟨c.val / 2, by omega⟩)
  have k5 := key _ (x2 (ix3 1 2 c) : BitVec 8) (xz_bound x0 x1 h n (2 * r.val + 1) (2 * w.val + 2) ⟨c.val / 2, by omega⟩)
  have k6 := key _ (x2 (ix3 2 0 c) : BitVec 8) (xz_bound x0 x1 h n (2 * r.val + 2) (2 * w.val + 0) ⟨c.val / 2, by omega⟩)
  have k7 := key _ (x2 (ix3 2 1 c) : BitVec 8) (xz_bound x0 x1 h n (2 * r.val + 2) (2 * w.val + 1) ⟨c.val / 2, by omega⟩)
  have k8 := key _ (x2 (ix3 2 2 c) : BitVec 8) (xz_bound x0 x1 h n (2 * r.val + 2) (2 * w.val + 2) ⟨c.val / 2, by omega⟩)
  omega

end Cert.ReferenceIdeal.Val
end
-- ==== Proof.Bridge.lean ====
module

public import proofs.«01_k».proof.Proof.FrameVal
public import proofs.«01_k».proof.Proof.RefReq
public import proofs.«01_k».proof.Proof.RefAcc
public import proofs.«01_k».proof.Pre_quantized
public import proofs.«01_k».proof.Defs

@[expose] public section

set_option maxRecDepth 16384
set_option maxHeartbeats 800000

noncomputable section

namespace Cert.KernelIdeal.Val

open Cert.KernelIdeal Cert.KernelIdeal.Gen
open Idealize.ShloMosaic Idealize.ShloMosaic.TcCoe Idealize.ShloMosaic.Tactic Cert.Requant

variable (m : (ℓ : Loc nD τ sig) → Buf (Elt Ideal) ℓ) (c : Dev nD)

/-- An argument array on a device. -/
abbrev A (b : Ref sig .tc) : Buf (Elt Ideal) ((c.tc : Thread nD τ).loc b) := m ((c.tc : Thread nD τ).loc b)

theorem v0_eq : V m c main_v0 = transpose S4x512x64x640 [0, 1, 3, 2] (A m c main_arg0 : S4x512x640x64.Idx → BitVec 8) transposes_S4x512x640x64_S4x512x64x640_0_1_3_2 := by
  unfold V; after_results_simp <;> rfl
theorem v1_eq : V m c main_v1 = shapeCast S1 (A m c main_arg1 : S_.Idx → BitVec 32) shapeCasts_S_S1 := by
  unfold V; after_results_simp <;> rfl
theorem v2_eq : V m c main_v2 = shapeCast S1 (A m c main_arg6 : S_.Idx → BitVec 32) shapeCasts_S_S1 := by
  unfold V; after_results_simp <;> rfl
theorem v3_eq : V m c main_v3 = shapeCast S1 (A m c main_arg7 : S_.Idx → BitVec 32) shapeCasts_S_S1 := by
  unfold V; after_results_simp <;> rfl
theorem v4_eq : V m c main_v4 = shapeCast S1 (A m c main_arg8 : S_.Idx → BitVec 32) shapeCasts_S_S1 := by
  unfold V; after_results_simp <;> rfl
theorem v6_eq : V m c main_v6 = extsi 32 (shapeCast S9x128 (A m c main_arg2 : S3x3x128.Idx → BitVec 8) shapeCasts_S3x3x128_S9x128) natLt_8_32 := by
  unfold V; after_results_simp <;> rfl
theorem v7_eq : V m c main_v7 = shapeCast S1x128 (A m c main_arg3 : S128.Idx → BitVec 32) shapeCasts_S128_S1x128 := by
  unfold V; after_results_simp <;> rfl
theorem v8_eq : V m c main_v8 = shapeCast S1x128 (A m c main_arg4 : S128.Idx → BitVec 32) shapeCasts_S128_S1x128 := by
  unfold V; after_results_simp <;> rfl
theorem v9_eq : V m c main_v9 = shapeCast S1x128 (A m c main_arg5 : S128.Idx → BitVec 32) shapeCasts_S128_S1x128 := by
  unfold V; after_results_simp <;> rfl

/-- A reshape of a word to a one-word vector reads the word. -/
theorem cast1 (x : S_.Idx → BitVec 32) : shapeCast S1 x shapeCasts_S_S1 (ix1 0) = x ix0 :=
  congrArg x (funext fun q => q.elim0)
/-- A reshape of a vector to a row reads the vector. -/
theorem castRow (x : S128.Idx → BitVec 32) (k : Fin 128) : shapeCast S1x128 x shapeCasts_S128_S1x128 (ix2 0 k) = x (ix1 k) := by
  refine (shapeCast_addUnit_apply (n := 1) ![128] x shapeCasts_S128_S1x128 (ix2 0 k)).trans (congrArg x ?_)
  funext q; match q with | ⟨0, _⟩ => rfl
/-- The reshape of the weights to a row per tap. -/
theorem castTap (x : S3x3x128.Idx → BitVec 8) (a b : Fin 3) (k : Fin 128) :
    shapeCast S9x128 x shapeCasts_S3x3x128_S9x128 (ix2 ⟨3 * a.val + b.val, by omega⟩ k) = x (ix3 a b k) := by
  refine congrArg x (Shape.reshapeEquiv_eq_of_rowMajor _ ?_)
  rw [Shape.rowMajor_val_three, Shape.rowMajor_val_two]
  show ((a.val * 3 + b.val) * 128 + k.val : ℕ) = (3 * a.val + b.val) * 128 + k.val
  omega

theorem zp_eq : (kP m c).zp = (A m c main_arg1 : S_.Idx → BitVec 32) ix0 := (congrFun (v1_eq m c) (ix1 0)).trans (cast1 _)
theorem ozp_eq : (kP m c).ozp = (A m c main_arg6 : S_.Idx → BitVec 32) ix0 := (congrFun (v2_eq m c) (ix1 0)).trans (cast1 _)
theorem lo_eq : (kP m c).lo = (A m c main_arg7 : S_.Idx → BitVec 32) ix0 := (congrFun (v3_eq m c) (ix1 0)).trans (cast1 _)
theorem hi_eq : (kP m c).hi = (A m c main_arg8 : S_.Idx → BitVec 32) ix0 := (congrFun (v4_eq m c) (ix1 0)).trans (cast1 _)
theorem b_eq (k : Fin 128) : (kP m c).b k.val = (A m c main_arg3 : S128.Idx → BitVec 32) (ix1 k) := by
  refine (congrFun (v7_eq m c) (ix2 0 ⟨k.val % 128, by omega⟩)).trans ((castRow _ _).trans ?_)
  exact congrArg (fun z : Fin 128 => (A m c main_arg3 : S128.Idx → BitVec 32) (ix1 z)) (Fin.ext (Nat.mod_eq_of_lt k.isLt))
theorem m_eq (k : Fin 128) : (kP m c).m k.val = (A m c main_arg4 : S128.Idx → BitVec 32) (ix1 k) := by
  refine (congrFun (v8_eq m c) (ix2 0 ⟨k.val % 128, by omega⟩)).trans ((castRow _ _).trans ?_)
  exact congrArg (fun z : Fin 128 => (A m c main_arg4 : S128.Idx → BitVec 32) (ix1 z)) (Fin.ext (Nat.mod_eq_of_lt k.isLt))
theorem s_eq (k : Fin 128) : (kP m c).s k.val = (A m c main_arg5 : S128.Idx → BitVec 32) (ix1 k) := by
  refine (congrFun (v9_eq m c) (ix2 0 ⟨k.val % 128, by omega⟩)).trans ((castRow _ _).trans ?_)
  exact congrArg (fun z : Fin 128 => (A m c main_arg5 : S128.Idx → BitVec 32) (ix1 z)) (Fin.ext (Nat.mod_eq_of_lt k.isLt))
theorem w_eq (a b : Fin 3) (k : Fin 128) : ((kP m c).w (3 * a.val + b.val) k.val).toInt = ((A m c main_arg2 : S3x3x128.Idx → BitVec 8) (ix3 a b k)).toInt := by
  have e : (kP m c).w (3 * a.val + b.val) k.val = ((A m c main_arg2 : S3x3x128.Idx → BitVec 8) (ix3 a b k)).signExtend 32 := by
    refine (congrFun (v6_eq m c) (ix2 ⟨(3 * a.val + b.val) % 9, by omega⟩ ⟨k.val % 128, by omega⟩)).trans ?_
    show (shapeCast S9x128 (A m c main_arg2 : S3x3x128.Idx → BitVec 8) shapeCasts_S3x3x128_S9x128 (ix2 ⟨(3 * a.val + b.val) % 9, by omega⟩ ⟨k.val % 128, by omega⟩)).signExtend 32 = _
    refine congrArg (BitVec.signExtend 32) (Eq.trans ?_ (castTap _ a b k))
    have e1 : (⟨(3 * a.val + b.val) % 9, by omega⟩ : Fin 9) = ⟨3 * a.val + b.val, by omega⟩ := Fin.ext (Nat.mod_eq_of_lt (by omega))
    have e2 : (⟨k.val % 128, by omega⟩ : Fin 128) = k := Fin.ext (Nat.mod_eq_of_lt k.isLt)
    rw [e1, e2]
  rw [e]
  exact BitVec.toInt_signExtend_of_le (by omega)

/-- What the precondition says of a device's arrays. -/
structure Quant : Prop where
  zp : -128 ≤ ((A m c main_arg1 : S_.Idx → BitVec 32) ix0).toInt ∧ ((A m c main_arg1 : S_.Idx → BitVec 32) ix0).toInt ≤ 127
  mul : ∀ k : Fin 128, 0 ≤ ((A m c main_arg4 : S128.Idx → BitVec 32) (ix1 k)).toInt
  sh : ∀ k : Fin 128, -31 ≤ ((A m c main_arg5 : S128.Idx → BitVec 32) (ix1 k)).toInt ∧ ((A m c main_arg5 : S128.Idx → BitVec 32) (ix1 k)).toInt ≤ 0
  oz : -536870912 ≤ ((A m c main_arg6 : S_.Idx → BitVec 32) ix0).toInt ∧ ((A m c main_arg6 : S_.Idx → BitVec 32) ix0).toInt ≤ 536870912
  lo : -536870912 ≤ ((A m c main_arg7 : S_.Idx → BitVec 32) ix0).toInt ∧ ((A m c main_arg7 : S_.Idx → BitVec 32) ix0).toInt ≤ 536870912
  hi : -536870912 ≤ ((A m c main_arg8 : S_.Idx → BitVec 32) ix0).toInt ∧ ((A m c main_arg8 : S_.Idx → BitVec 32) ix0).toInt ≤ 536870912

/-- A comparison that came out one holds. -/
theorem sge_one {x y : BitVec 32} (h : IntOp.cmpi .sge x y = 1#1) : y.toInt ≤ x.toInt := by
  simp only [IntOp.cmpi] at h
  by_contra hc
  simp [BitVec.sle, hc] at h
theorem sle_one {x y : BitVec 32} (h : IntOp.cmpi .sle x y = 1#1) : x.toInt ≤ y.toInt := by
  simp only [IntOp.cmpi] at h
  by_contra hc
  simp [BitVec.sle, hc] at h
theorem and_one {a b : BitVec 1} (h : IntOp.andi a b = 1#1) : a = 1#1 ∧ b = 1#1 := by
  revert h; revert a b; decide

theorem quant_of [hPre_quantized : Cert.Pre_quantized.Facts] (h : Cert.Pre_KernelIdeal_quantized m) : Quant m c := by
  obtain ⟨h1, h2, h3, h4, h5, h6⟩ := h c
  have rng : ∀ {x lo hi : BitVec 32}, IntOp.andi (IntOp.cmpi .sge x lo) (IntOp.cmpi .sle x hi) = 1#1 → lo.toInt ≤ x.toInt ∧ x.toInt ≤ hi.toInt :=
    fun h => ⟨sge_one (and_one h).1, sle_one (and_one h).2⟩
  exact {
    zp := rng (lo := 4294967168#32) (hi := 127#32) (congrFun h1 ix0)
    mul := fun k => sge_one (y := 0#32) (congrFun h2 (ix1 k))
    sh := fun k => rng (lo := 4294967265#32) (hi := 0#32) (congrFun h3 (ix1 k))
    oz := rng (lo := 3758096384#32) (hi := 536870912#32) (congrFun h4 ix0)
    lo := rng (lo := 3758096384#32) (hi := 536870912#32) (congrFun h5 ix0)
    hi := rng (lo := 3758096384#32) (hi := 536870912#32) (congrFun h6 ix0) }

theorem good_of (q : Quant m c) : (kP m c).Good where
  w t k ht hk := by
    have e := w_eq m c ⟨t / 3, by omega⟩ ⟨t % 3, by omega⟩ ⟨k, hk⟩
    have e3 : 3 * (t / 3) + t % 3 = t := by omega
    simp only [e3] at e
    rw [e]
    have h1 := BitVec.le_toInt ((A m c main_arg2 : S3x3x128.Idx → BitVec 8) (ix3 ⟨t / 3, by omega⟩ ⟨t % 3, by omega⟩ ⟨k, hk⟩))
    have h2 := BitVec.toInt_lt (x := (A m c main_arg2 : S3x3x128.Idx → BitVec 8) (ix3 ⟨t / 3, by omega⟩ ⟨t % 3, by omega⟩ ⟨k, hk⟩))
    norm_num at h1 h2
    omega
  m k hk := by rw [m_eq m c ⟨k, hk⟩]; exact q.mul ⟨k, hk⟩
  s k hk := by
    rw [s_eq m c ⟨k, hk⟩]
    have := q.sh ⟨k, hk⟩
    generalize (A m c main_arg5 : S128.Idx → BitVec 32) (ix1 ⟨k, hk⟩) = x at this
    rw [BitVec.toInt_eq_toNat_cond] at this
    rw [BitVec.toNat_sub]
    have hx := x.isLt
    norm_num
    split at this <;> omega
  o := by rw [ozp_eq]; have := q.oz; norm_num; omega
  l := by rw [lo_eq]; have := q.lo; norm_num; omega
  h := by rw [hi_eq]; have := q.hi; norm_num; omega

open Cert.ReferenceIdeal.Val in
/-- A tap's element is the reference's, with the zero point put back. -/
theorem xg_eq (q : Quant m c) (n : Fin 4) (r ch col : ℕ) (hch : ch < 64) :
    (xg m c n r ch col).toInt = xz (A m c main_arg0) (A m c main_arg1) n r col ⟨ch, hch⟩ + ((A m c main_arg1 : S_.Idx → BitVec 32) ix0).toInt := by
  unfold xg xz
  by_cases h : r < 512 ∧ col < 640
  · rw [dif_pos h, dif_pos h]
    have e : (V m c main_v0 : S4x512x64x640.Idx → BitVec 8) (ix4 n ⟨r, h.1⟩ ⟨ch % 64, by omega⟩ ⟨col, h.2⟩) = (A m c main_arg0 : S4x512x640x64.Idx → BitVec 8) (ix4 n ⟨r, h.1⟩ ⟨col, h.2⟩ ⟨ch, hch⟩) := by
      refine (congrFun (v0_eq m c) _).trans ?_
      refine transpose_apply _ _ _ _ (ix4 n ⟨r, h.1⟩ ⟨col, h.2⟩ ⟨ch, hch⟩) fun b => ?_
      match b with
      | ⟨0, _⟩ => rfl
      | ⟨1, _⟩ => rfl
      | ⟨2, _⟩ => exact (Nat.mod_eq_of_lt hch).symm
      | ⟨3, _⟩ => rfl
    rw [e]
    show _ = (_ - _) + _
    omega
  · rw [dif_neg h, dif_neg h, zp_eq]
    have := q.zp
    generalize (A m c main_arg1 : S_.Idx → BitVec 32) ix0 = x at this
    rw [BitVec.toInt_setWidth, zero_add]
    rw [Int.bmod_def]
    rw [BitVec.toInt_eq_toNat_cond] at this ⊢
    have hx := x.isLt
    norm_num
    split at this <;> split <;> omega

open Cert.ReferenceIdeal.Val in
/-- The kernel's sum is the reference's and the zero point times the weights'. -/
theorem sum_eq (q : Quant m c) (n : Fin 4) (r : Fin 256) (w : Fin 320) (k : Fin 128) :
    (∑ t ∈ Finset.range 9, (xg m c n (2 * r.val + t / 3) (k.val / 2) (2 * w.val + t % 3)).toInt * ((kP m c).w t k.val).toInt)
      = rsum (A m c main_arg0) (A m c main_arg1) (A m c main_arg2) n r w k + ((A m c main_arg1 : S_.Idx → BitVec 32) ix0).toInt * (kP m c).ws k.val := by
  unfold Pars.ws rsum
  simp only [xg_eq m c q n _ (k.val / 2) _ (by omega)]
  simp only [Finset.sum_range_succ, Finset.sum_range_zero]
  have ew : ∀ (a b : Fin 3) (t : ℕ), t = 3 * a.val + b.val → ((kP m c).w t k.val).toInt = ((A m c main_arg2 : S3x3x128.Idx → BitVec 8) (ix3 a b k)).toInt := by
    intro a b t ht; subst ht; exact w_eq m c a b k
  rw [ew 0 0 0 rfl, ew 0 1 1 rfl, ew 0 2 2 rfl, ew 1 0 3 rfl, ew 1 1 4 rfl, ew 1 2 5 rfl, ew 2 0 6 rfl, ew 2 1 7 rfl, ew 2 2 8 rfl]
  norm_num
  ring

/-- Folding the zero point into the bias and out of the sum. -/
theorem fold_zp (a s : ℤ) (z b : BitVec 32) : BitVec.ofInt 32 (a + z.toInt * s) + (b - z * BitVec.ofInt 32 s) = BitVec.ofInt 32 a + b := by
  rw [BitVec.ofInt_add, BitVec.ofInt_mul, BitVec.ofInt_toInt]
  generalize z * BitVec.ofInt 32 s = u
  generalize BitVec.ofInt 32 a = v
  rw [BitVec.sub_eq_add_neg, BitVec.add_assoc, BitVec.add_comm b, ← BitVec.add_assoc u, BitVec.add_right_neg, BitVec.zero_add]

open Cert.ReferenceIdeal.Val Cert.ReferenceIdeal.Read in
/-- The kernel's result is the reference's. -/
theorem kOut_eq (q : Quant m c) :
    kOut m c = val_main_v183 (F := Ideal) (A m c main_arg0) (A m c main_arg1) (A m c main_arg2) (A m c main_arg3) (A m c main_arg4) (A m c main_arg5) (A m c main_arg6) (A m c main_arg7) (A m c main_arg8) := by
  funext i
  rw [ref_elem]
  have hi : i = ix4 (i 0) (i 1) (i 2) (i 3) := by funext a; match a with | ⟨0, _⟩ => rfl | ⟨1, _⟩ => rfl | ⟨2, _⟩ => rfl | ⟨3, _⟩ => rfl
  have e := v102_at (A m c main_arg0) (A m c main_arg1) (A m c main_arg2) (A m c main_arg3) (i 0) (i 1) (i 2) (i 3) q.zp
  have e' : val_main_v102 (F := Ideal) (A m c main_arg0) (A m c main_arg1) (A m c main_arg2) (A m c main_arg3) i = _ := (congrArg _ hi).trans e
  rw [e']
  unfold kOut Pars.bias
  rw [sum_eq m c q (i 0) (i 1) (i 2) (i 3), zp_eq, fold_zp, b_eq m c (i 3), m_eq m c (i 3), s_eq m c (i 3), ozp_eq, lo_eq, hi_eq, BitVec.zero_sub]

/-- The kernel's run: its result, and its arguments left as they were. -/
theorem run_value (ρ : Dev nD → PrngReg) (q : ∀ c, Quant m c) :
    θ_run defs (onTc (τ := τ) (main (F := Ideal))) ⟨m, fun _ => 0, ρ⟩ (fun r => ∀ c : Dev nD,
      r.2.mem ((c.tc : Thread nD τ).loc main_v10) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 10).trans (out_eq m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ fun c => good_of m c (q c))

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FrameKernel
public import proofs.«01_k».proof.Proof.FrameKernelIdeal
public import proofs.«01_k».proof.Proof.Bridge

@[expose] public section

noncomputable section

namespace Cert.Proof

open Idealize.ShloMosaic Idealize.ShloMosaic.TcCoe

/-- The one shape relation the precondition states. -/
theorem pre_facts : Cert.Pre_quantized.Facts := { bcast_S_S128 := by decide }

/-- The reference leaves its arguments and its counters as they were. -/
theorem frame_ref : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

set_option maxHeartbeats 1000000 in
/-- The kernel over the reals and the reference give the same bytes. -/
theorem value : Cert.algebraic_KernelIdeal_ReferenceIdeal_pre_quantized (hKernelIdeal := Cert.KernelIdeal.Gen.facts)
    (hReferenceIdeal := Cert.ReferenceIdeal.Gen.facts) (hPre_quantized := pre_facts) := by
  intro m g m' g' hpre hag
  have q := fun c => Cert.KernelIdeal.Val.quant_of (hPre_quantized := pre_facts) m c hpre
  refine ⟨fun c => Cert.KernelIdeal.Val.kOut m c, Cert.KernelIdeal.Val.run_value m g q, ?_⟩
  refine (θ_run Cert.ReferenceIdeal.defs _ _).mono (fun r h c => ⟨(h c).1.trans ?_, (h c).2⟩) (Cert.ReferenceIdeal.Value.run m' g')
  refine (Cert.ReferenceIdeal.Read.val_main_v183_eq (StableHlo.launchContents m' c)).trans (Eq.trans ?_ (Cert.KernelIdeal.Val.kOut_eq m c (q c)).symm)
  obtain ⟨h0, h1, h2, h3, h4, h5, h6, h7, h8⟩ := hag c
  show Cert.ReferenceIdeal.Read.val_main_v183 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
  rw [h0, h1, h2, h3, h4, h5, h6, h7, h8]

theorem claim : Cert.Claim := ⟨Cert.Kernel.Gen.facts, Cert.KernelIdeal.Gen.facts, Cert.ReferenceIdeal.Gen.facts, pre_facts,
  fun m ρ _ => Cert.Kernel.Body.frame m ρ, fun m ρ _ => Cert.KernelIdeal.Body.frame m ρ, fun m ρ _ => Cert.KernelIdeal.Body.frame m ρ,
  frame_ref, fun m ρ _ => frame_ref m ρ trivial, trivial, value⟩

end Cert.Proof

end
